-- ==== Defs.lean ====
def Pre_KernelGate (m : (ℓ : Loc Cert.KernelGate.nD Cert.KernelGate.τ Cert.KernelGate.sig) → Buf (Elt Bits) ℓ) : Prop :=
  True

def Pre_KernelGateIdeal (m : (ℓ : Loc Cert.KernelGateIdeal.nD Cert.KernelGateIdeal.τ Cert.KernelGateIdeal.sig) → Buf (Elt Ideal) ℓ) : Prop :=
  True

def Pre_KernelGateIdeal_finite [hPre_finite : Cert.Pre_finite.Facts] (m : (ℓ : Loc Cert.KernelGateIdeal.nD Cert.KernelGateIdeal.τ Cert.KernelGateIdeal.sig) → Buf (Elt Ideal) ℓ) : Prop :=
  ∀ c : Dev Cert.KernelGateIdeal.nD,
    (Cert.Pre_finite.fn (F := Ideal) (m ((c.tc : Thread Cert.KernelGateIdeal.nD Cert.KernelGateIdeal.τ).loc Cert.KernelGateIdeal.main_arg0)) (m ((c.tc : Thread Cert.KernelGateIdeal.nD Cert.KernelGateIdeal.τ).loc Cert.KernelGateIdeal.main_arg1))) = (fun _ => 1#1)

def Pre_ReferenceGateIdeal (m : (ℓ : Loc Cert.ReferenceGateIdeal.nD Cert.ReferenceGateIdeal.τ Cert.ReferenceGateIdeal.sig) → Buf (Elt Ideal) ℓ) : Prop :=
  True

def Pre_ReferenceGateIdeal_finite [hPre_finite : Cert.Pre_finite.Facts] (m : (ℓ : Loc Cert.ReferenceGateIdeal.nD Cert.ReferenceGateIdeal.τ Cert.ReferenceGateIdeal.sig) → Buf (Elt Ideal) ℓ) : Prop :=
  ∀ c : Dev Cert.ReferenceGateIdeal.nD,
    (Cert.Pre_finite.fn (F := Ideal) (m ((c.tc : Thread Cert.ReferenceGateIdeal.nD Cert.ReferenceGateIdeal.τ).loc Cert.ReferenceGateIdeal.main_arg0)) (m ((c.tc : Thread Cert.ReferenceGateIdeal.nD Cert.ReferenceGateIdeal.τ).loc Cert.ReferenceGateIdeal.main_arg1))) = (fun _ => 1#1)

def Pre_KernelDact (m : (ℓ : Loc Cert.KernelDact.nD Cert.KernelDact.τ Cert.KernelDact.sig) → Buf (Elt Bits) ℓ) : Prop :=
  True

def Pre_KernelDactIdeal (m : (ℓ : Loc Cert.KernelDactIdeal.nD Cert.KernelDactIdeal.τ Cert.KernelDactIdeal.sig) → Buf (Elt Ideal) ℓ) : Prop :=
  True

def Pre_ReferenceDactIdeal (m : (ℓ : Loc Cert.ReferenceDactIdeal.nD Cert.ReferenceDactIdeal.τ Cert.ReferenceDactIdeal.sig) → Buf (Elt Ideal) ℓ) : Prop :=
  True

def Pre_KernelDwdown (m : (ℓ : Loc Cert.KernelDwdown.nD Cert.KernelDwdown.τ Cert.KernelDwdown.sig) → Buf (Elt Bits) ℓ) : Prop :=
  True

def Pre_KernelDwdownIdeal (m : (ℓ : Loc Cert.KernelDwdownIdeal.nD Cert.KernelDwdownIdeal.τ Cert.KernelDwdownIdeal.sig) → Buf (Elt Ideal) ℓ) : Prop :=
  True

def Pre_ReferenceDwdownIdeal (m : (ℓ : Loc Cert.ReferenceDwdownIdeal.nD Cert.ReferenceDwdownIdeal.τ Cert.ReferenceDwdownIdeal.sig) → Buf (Elt Ideal) ℓ) : Prop :=
  True

def Pre_KernelDh (m : (ℓ : Loc Cert.KernelDh.nD Cert.KernelDh.τ Cert.KernelDh.sig) → Buf (Elt Bits) ℓ) : Prop :=
  True

def Pre_KernelDhIdeal (m : (ℓ : Loc Cert.KernelDhIdeal.nD Cert.KernelDhIdeal.τ Cert.KernelDhIdeal.sig) → Buf (Elt Ideal) ℓ) : Prop :=
  True

def Pre_ReferenceDhIdeal (m : (ℓ : Loc Cert.ReferenceDhIdeal.nD Cert.ReferenceDhIdeal.τ Cert.ReferenceDhIdeal.sig) → Buf (Elt Ideal) ℓ) : Prop :=
  True

def Pre_KernelDwgu (m : (ℓ : Loc Cert.KernelDwgu.nD Cert.KernelDwgu.τ Cert.KernelDwgu.sig) → Buf (Elt Bits) ℓ) : Prop :=
  True

def Pre_KernelDwguIdeal (m : (ℓ : Loc Cert.KernelDwguIdeal.nD Cert.KernelDwguIdeal.τ Cert.KernelDwguIdeal.sig) → Buf (Elt Ideal) ℓ) : Prop :=
  True

def Pre_ReferenceDwguIdeal (m : (ℓ : Loc Cert.ReferenceDwguIdeal.nD Cert.ReferenceDwguIdeal.τ Cert.ReferenceDwguIdeal.sig) → Buf (Elt Ideal) ℓ) : Prop :=
  True

def Pre_KernelGu (m : (ℓ : Loc Cert.KernelGu.nD Cert.KernelGu.τ Cert.KernelGu.sig) → Buf (Elt Bits) ℓ) : Prop :=
  True

def Pre_KernelGuIdeal (m : (ℓ : Loc Cert.KernelGuIdeal.nD Cert.KernelGuIdeal.τ Cert.KernelGuIdeal.sig) → Buf (Elt Ideal) ℓ) : Prop :=
  True

def Pre_ReferenceGuIdeal (m : (ℓ : Loc Cert.ReferenceGuIdeal.nD Cert.ReferenceGuIdeal.τ Cert.ReferenceGuIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelDwout (m : (ℓ : Loc Cert.KernelDwout.nD Cert.KernelDwout.τ Cert.KernelDwout.sig) → Buf (Elt Bits) ℓ) : Prop :=
  True

def Pre_KernelDwoutIdeal (m : (ℓ : Loc Cert.KernelDwoutIdeal.nD Cert.KernelDwoutIdeal.τ Cert.KernelDwoutIdeal.sig) → Buf (Elt Ideal) ℓ) : Prop :=
  True

def Pre_ReferenceDwoutIdeal (m : (ℓ : Loc Cert.ReferenceDwoutIdeal.nD Cert.ReferenceDwoutIdeal.τ Cert.ReferenceDwoutIdeal.sig) → Buf (Elt Ideal) ℓ) : Prop :=
  True

def Pre_KernelDyn (m : (ℓ : Loc Cert.KernelDyn.nD Cert.KernelDyn.τ Cert.KernelDyn.sig) → Buf (Elt Bits) ℓ) : Prop :=
  True

def Pre_KernelDynIdeal (m : (ℓ : Loc Cert.KernelDynIdeal.nD Cert.KernelDynIdeal.τ Cert.KernelDynIdeal.sig) → Buf (Elt Ideal) ℓ) : Prop :=
  True

def Pre_ReferenceDynIdeal (m : (ℓ : Loc Cert.ReferenceDynIdeal.nD Cert.ReferenceDynIdeal.τ Cert.ReferenceDynIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelDwin (m : (ℓ : Loc Cert.KernelDwin.nD Cert.KernelDwin.τ Cert.KernelDwin.sig) → Buf (Elt Bits) ℓ) : Prop :=
  True

def Pre_KernelDwinIdeal (m : (ℓ : Loc Cert.KernelDwinIdeal.nD Cert.KernelDwinIdeal.τ Cert.KernelDwinIdeal.sig) → Buf (Elt Ideal) ℓ) : Prop :=
  True

def Pre_ReferenceDwinIdeal (m : (ℓ : Loc Cert.ReferenceDwinIdeal.nD Cert.ReferenceDwinIdeal.τ Cert.ReferenceDwinIdeal.sig) → Buf (Elt Ideal) ℓ) : Prop :=
  True

def Pre_KernelDhin (m : (ℓ : Loc Cert.KernelDhin.nD Cert.KernelDhin.τ Cert.KernelDhin.sig) → Buf (Elt Bits) ℓ) : Prop :=
  True

def Pre_KernelDhinIdeal (m : (ℓ : Loc Cert.KernelDhinIdeal.nD Cert.KernelDhinIdeal.τ Cert.KernelDhinIdeal.sig) → Buf (Elt Ideal) ℓ) : Prop :=
  True

def Pre_ReferenceDhinIdeal (m : (ℓ : Loc Cert.ReferenceDhinIdeal.nD Cert.ReferenceDhinIdeal.τ Cert.ReferenceDhinIdeal.sig) → Buf (Elt Ideal) ℓ) : Prop :=
  True

def Pre_KernelLin (m : (ℓ : Loc Cert.KernelLin.nD Cert.KernelLin.τ Cert.KernelLin.sig) → Buf (Elt Bits) ℓ) : Prop :=
  True

def Pre_KernelLinIdeal (m : (ℓ : Loc Cert.KernelLinIdeal.nD Cert.KernelLinIdeal.τ Cert.KernelLinIdeal.sig) → Buf (Elt Ideal) ℓ) : Prop :=
  True

def Pre_ReferenceLinIdeal (m : (ℓ : Loc Cert.ReferenceLinIdeal.nD Cert.ReferenceLinIdeal.τ Cert.ReferenceLinIdeal.sig) → Buf (Elt Ideal) ℓ) : Prop :=
  True

def Pre_KernelDlwin (m : (ℓ : Loc Cert.KernelDlwin.nD Cert.KernelDlwin.τ Cert.KernelDlwin.sig) → Buf (Elt Bits) ℓ) : Prop :=
  True

def Pre_KernelDlwinIdeal (m : (ℓ : Loc Cert.KernelDlwinIdeal.nD Cert.KernelDlwinIdeal.τ Cert.KernelDlwinIdeal.sig) → Buf (Elt Ideal) ℓ) : Prop :=
  True

def Pre_ReferenceDlwinIdeal (m : (ℓ : Loc Cert.ReferenceDlwinIdeal.nD Cert.ReferenceDlwinIdeal.τ Cert.ReferenceDlwinIdeal.sig) → Buf (Elt Ideal) ℓ) : Prop :=
  True

def Pre_KernelDlh (m : (ℓ : Loc Cert.KernelDlh.nD Cert.KernelDlh.τ Cert.KernelDlh.sig) → Buf (Elt Bits) ℓ) : Prop :=
  True

def Pre_KernelDlhIdeal (m : (ℓ : Loc Cert.KernelDlhIdeal.nD Cert.KernelDlhIdeal.τ Cert.KernelDlhIdeal.sig) → Buf (Elt Ideal) ℓ) : Prop :=
  True

def Pre_ReferenceDlhIdeal (m : (ℓ : Loc Cert.ReferenceDlhIdeal.nD Cert.ReferenceDlhIdeal.τ Cert.ReferenceDlhIdeal.sig) → Buf (Elt Ideal) ℓ) : Prop :=
  True

def Pre_KernelLout (m : (ℓ : Loc Cert.KernelLout.nD Cert.KernelLout.τ Cert.KernelLout.sig) → Buf (Elt Bits) ℓ) : Prop :=
  True

def Pre_KernelLoutIdeal (m : (ℓ : Loc Cert.KernelLoutIdeal.nD Cert.KernelLoutIdeal.τ Cert.KernelLoutIdeal.sig) → Buf (Elt Ideal) ℓ) : Prop :=
  True

def Pre_ReferenceLoutIdeal (m : (ℓ : Loc Cert.ReferenceLoutIdeal.nD Cert.ReferenceLoutIdeal.τ Cert.ReferenceLoutIdeal.sig) → Buf (Elt Ideal) ℓ) : Prop :=
  True

def Pre_KernelDlwout (m : (ℓ : Loc Cert.KernelDlwout.nD Cert.KernelDlwout.τ Cert.KernelDlwout.sig) → Buf (Elt Bits) ℓ) : Prop :=
  True

def Pre_KernelDlwoutIdeal (m : (ℓ : Loc Cert.KernelDlwoutIdeal.nD Cert.KernelDlwoutIdeal.τ Cert.KernelDlwoutIdeal.sig) → Buf (Elt Ideal) ℓ) : Prop :=
  True

def Pre_ReferenceDlwoutIdeal (m : (ℓ : Loc Cert.ReferenceDlwoutIdeal.nD Cert.ReferenceDlwoutIdeal.τ Cert.ReferenceDlwoutIdeal.sig) → Buf (Elt Ideal) ℓ) : Prop :=
  True

def Pre_KernelDmix (m : (ℓ : Loc Cert.KernelDmix.nD Cert.KernelDmix.τ Cert.KernelDmix.sig) → Buf (Elt Bits) ℓ) : Prop :=
  True

def Pre_KernelDmixIdeal (m : (ℓ : Loc Cert.KernelDmixIdeal.nD Cert.KernelDmixIdeal.τ Cert.KernelDmixIdeal.sig) → Buf (Elt Ideal) ℓ) : Prop :=
  True

def Pre_ReferenceDmixIdeal (m : (ℓ : Loc Cert.ReferenceDmixIdeal.nD Cert.ReferenceDmixIdeal.τ Cert.ReferenceDmixIdeal.sig) → Buf (Elt Ideal) ℓ) : Prop :=
  True

def Pre_KernelDln (m : (ℓ : Loc Cert.KernelDln.nD Cert.KernelDln.τ Cert.KernelDln.sig) → Buf (Elt Bits) ℓ) : Prop :=
  True

def Pre_KernelDlnIdeal (m : (ℓ : Loc Cert.KernelDlnIdeal.nD Cert.KernelDlnIdeal.τ Cert.KernelDlnIdeal.sig) → Buf (Elt Ideal) ℓ) : Prop :=
  True

def Pre_KernelDlnIdeal_finite_grad [hPre_finite_grad : Cert.Pre_finite_grad.Facts] (m : (ℓ : Loc Cert.KernelDlnIdeal.nD Cert.KernelDlnIdeal.τ Cert.KernelDlnIdeal.sig) → Buf (Elt Ideal) ℓ) : Prop :=
  ∀ c : Dev Cert.KernelDlnIdeal.nD,
    (Cert.Pre_finite_grad.fn (F := Ideal) (m ((c.tc : Thread Cert.KernelDlnIdeal.nD Cert.KernelDlnIdeal.τ).loc Cert.KernelDlnIdeal.main_arg0)) (m ((c.tc : Thread Cert.KernelDlnIdeal.nD Cert.KernelDlnIdeal.τ).loc Cert.KernelDlnIdeal.main_arg1)) (m ((c.tc : Thread Cert.KernelDlnIdeal.nD Cert.KernelDlnIdeal.τ).loc Cert.KernelDlnIdeal.main_arg2)) (m ((c.tc : Thread Cert.KernelDlnIdeal.nD Cert.KernelDlnIdeal.τ).loc Cert.KernelDlnIdeal.main_arg3)) (m ((c.tc : Thread Cert.KernelDlnIdeal.nD Cert.KernelDlnIdeal.τ).loc Cert.KernelDlnIdeal.main_arg4)) (m ((c.tc : Thread Cert.KernelDlnIdeal.nD Cert.KernelDlnIdeal.τ).loc Cert.KernelDlnIdeal.main_arg5))) = (fun _ => 1#1)

def Pre_ReferenceDlnIdeal (m : (ℓ : Loc Cert.ReferenceDlnIdeal.nD Cert.ReferenceDlnIdeal.τ Cert.ReferenceDlnIdeal.sig) → Buf (Elt Ideal) ℓ) : Prop :=
  True

def Pre_ReferenceDlnIdeal_finite_grad [hPre_finite_grad : Cert.Pre_finite_grad.Facts] (m : (ℓ : Loc Cert.ReferenceDlnIdeal.nD Cert.ReferenceDlnIdeal.τ Cert.ReferenceDlnIdeal.sig) → Buf (Elt Ideal) ℓ) : Prop :=
  ∀ c : Dev Cert.ReferenceDlnIdeal.nD,
    (Cert.Pre_finite_grad.fn (F := Ideal) (m ((c.tc : Thread Cert.ReferenceDlnIdeal.nD Cert.ReferenceDlnIdeal.τ).loc Cert.ReferenceDlnIdeal.main_arg0)) (m ((c.tc : Thread Cert.ReferenceDlnIdeal.nD Cert.ReferenceDlnIdeal.τ).loc Cert.ReferenceDlnIdeal.main_arg1)) (m ((c.tc : Thread Cert.ReferenceDlnIdeal.nD Cert.ReferenceDlnIdeal.τ).loc Cert.ReferenceDlnIdeal.main_arg2)) (m ((c.tc : Thread Cert.ReferenceDlnIdeal.nD Cert.ReferenceDlnIdeal.τ).loc Cert.ReferenceDlnIdeal.main_arg3)) (m ((c.tc : Thread Cert.ReferenceDlnIdeal.nD Cert.ReferenceDlnIdeal.τ).loc Cert.ReferenceDlnIdeal.main_arg4)) (m ((c.tc : Thread Cert.ReferenceDlnIdeal.nD Cert.ReferenceDlnIdeal.τ).loc Cert.ReferenceDlnIdeal.main_arg5))) = (fun _ => 1#1)

def Pre_KernelLn (m : (ℓ : Loc Cert.KernelLn.nD Cert.KernelLn.τ Cert.KernelLn.sig) → Buf (Elt Bits) ℓ) : Prop :=
  True

def Pre_KernelLnIdeal (m : (ℓ : Loc Cert.KernelLnIdeal.nD Cert.KernelLnIdeal.τ Cert.KernelLnIdeal.sig) → Buf (Elt Ideal) ℓ) : Prop :=
  True

def Pre_ReferenceLnIdeal (m : (ℓ : Loc Cert.ReferenceLnIdeal.nD Cert.ReferenceLnIdeal.τ Cert.ReferenceLnIdeal.sig) → Buf (Elt Ideal) ℓ) : Prop :=
  True

def Pre_KernelAct (m : (ℓ : Loc Cert.KernelAct.nD Cert.KernelAct.τ Cert.KernelAct.sig) → Buf (Elt Bits) ℓ) : Prop :=
  True

def Pre_KernelActIdeal (m : (ℓ : Loc Cert.KernelActIdeal.nD Cert.KernelActIdeal.τ Cert.KernelActIdeal.sig) → Buf (Elt Ideal) ℓ) : Prop :=
  True

def Pre_ReferenceActIdeal (m : (ℓ : Loc Cert.ReferenceActIdeal.nD Cert.ReferenceActIdeal.τ Cert.ReferenceActIdeal.sig) → Buf (Elt Ideal) ℓ) : Prop :=
  True

def Pre_KernelOptgu (m : (ℓ : Loc Cert.KernelOptgu.nD Cert.KernelOptgu.τ Cert.KernelOptgu.sig) → Buf (Elt Bits) ℓ) : Prop :=
  True

def Pre_KernelOptguIdeal (m : (ℓ : Loc Cert.KernelOptguIdeal.nD Cert.KernelOptguIdeal.τ Cert.KernelOptguIdeal.sig) → Buf (Elt Ideal) ℓ) : Prop :=
  True

def Pre_ReferenceOptguIdeal (m : (ℓ : Loc Cert.ReferenceOptguIdeal.nD Cert.ReferenceOptguIdeal.τ Cert.ReferenceOptguIdeal.sig) → Buf (Elt Ideal) ℓ) : Prop :=
  True

def Pre_KernelOptdown (m : (ℓ : Loc Cert.KernelOptdown.nD Cert.KernelOptdown.τ Cert.KernelOptdown.sig) → Buf (Elt Bits) ℓ) : Prop :=
  True

def Pre_KernelOptdownIdeal (m : (ℓ : Loc Cert.KernelOptdownIdeal.nD Cert.KernelOptdownIdeal.τ Cert.KernelOptdownIdeal.sig) → Buf (Elt Ideal) ℓ) : Prop :=
  True

def Pre_ReferenceOptdownIdeal (m : (ℓ : Loc Cert.ReferenceOptdownIdeal.nD Cert.ReferenceOptdownIdeal.τ Cert.ReferenceOptdownIdeal.sig) → Buf (Elt Ideal) ℓ) : Prop :=
  True

def Pre_KernelOptin (m : (ℓ : Loc Cert.KernelOptin.nD Cert.KernelOptin.τ Cert.KernelOptin.sig) → Buf (Elt Bits) ℓ) : Prop :=
  True

def Pre_KernelOptinIdeal (m : (ℓ : Loc Cert.KernelOptinIdeal.nD Cert.KernelOptinIdeal.τ Cert.KernelOptinIdeal.sig) → Buf (Elt Ideal) ℓ) : Prop :=
  True

def Pre_ReferenceOptinIdeal (m : (ℓ : Loc Cert.ReferenceOptinIdeal.nD Cert.ReferenceOptinIdeal.τ Cert.ReferenceOptinIdeal.sig) → Buf (Elt Ideal) ℓ) : Prop :=
  True

def Pre_KernelOptout (m : (ℓ : Loc Cert.KernelOptout.nD Cert.KernelOptout.τ Cert.KernelOptout.sig) → Buf (Elt Bits) ℓ) : Prop :=
  True

def Pre_KernelOptoutIdeal (m : (ℓ : Loc Cert.KernelOptoutIdeal.nD Cert.KernelOptoutIdeal.τ Cert.KernelOptoutIdeal.sig) → Buf (Elt Ideal) ℓ) : Prop :=
  True

def Pre_ReferenceOptoutIdeal (m : (ℓ : Loc Cert.ReferenceOptoutIdeal.nD Cert.ReferenceOptoutIdeal.τ Cert.ReferenceOptoutIdeal.sig) → Buf (Elt Ideal) ℓ) : Prop :=
  True

def Pre_KernelOptlin (m : (ℓ : Loc Cert.KernelOptlin.nD Cert.KernelOptlin.τ Cert.KernelOptlin.sig) → Buf (Elt Bits) ℓ) : Prop :=
  True

def Pre_KernelOptlinIdeal (m : (ℓ : Loc Cert.KernelOptlinIdeal.nD Cert.KernelOptlinIdeal.τ Cert.KernelOptlinIdeal.sig) → Buf (Elt Ideal) ℓ) : Prop :=
  True

def Pre_ReferenceOptlinIdeal (m : (ℓ : Loc Cert.ReferenceOptlinIdeal.nD Cert.ReferenceOptlinIdeal.τ Cert.ReferenceOptlinIdeal.sig) → Buf (Elt Ideal) ℓ) : Prop :=
  True

def Pre_KernelOptlout (m : (ℓ : Loc Cert.KernelOptlout.nD Cert.KernelOptlout.τ Cert.KernelOptlout.sig) → Buf (Elt Bits) ℓ) : Prop :=
  True

def Pre_KernelOptloutIdeal (m : (ℓ : Loc Cert.KernelOptloutIdeal.nD Cert.KernelOptloutIdeal.τ Cert.KernelOptloutIdeal.sig) → Buf (Elt Ideal) ℓ) : Prop :=
  True

def Pre_ReferenceOptloutIdeal (m : (ℓ : Loc Cert.ReferenceOptloutIdeal.nD Cert.ReferenceOptloutIdeal.τ Cert.ReferenceOptloutIdeal.sig) → Buf (Elt Ideal) ℓ) : Prop :=
  True

def Pre_KernelOptglu (m : (ℓ : Loc Cert.KernelOptglu.nD Cert.KernelOptglu.τ Cert.KernelOptglu.sig) → Buf (Elt Bits) ℓ) : Prop :=
  True

def Pre_KernelOptgluIdeal (m : (ℓ : Loc Cert.KernelOptgluIdeal.nD Cert.KernelOptgluIdeal.τ Cert.KernelOptgluIdeal.sig) → Buf (Elt Ideal) ℓ) : Prop :=
  True

def Pre_ReferenceOptgluIdeal (m : (ℓ : Loc Cert.ReferenceOptgluIdeal.nD Cert.ReferenceOptgluIdeal.τ Cert.ReferenceOptgluIdeal.sig) → Buf (Elt Ideal) ℓ) : Prop :=
  True

def Pre_KernelOptuq (m : (ℓ : Loc Cert.KernelOptuq.nD Cert.KernelOptuq.τ Cert.KernelOptuq.sig) → Buf (Elt Bits) ℓ) : Prop :=
  True

def Pre_KernelOptuqIdeal (m : (ℓ : Loc Cert.KernelOptuqIdeal.nD Cert.KernelOptuqIdeal.τ Cert.KernelOptuqIdeal.sig) → Buf (Elt Ideal) ℓ) : Prop :=
  True

def Pre_ReferenceOptuqIdeal (m : (ℓ : Loc Cert.ReferenceOptuqIdeal.nD Cert.ReferenceOptuqIdeal.τ Cert.ReferenceOptuqIdeal.sig) → Buf (Elt Ideal) ℓ) : Prop :=
  True

def Pre_KernelOptukv (m : (ℓ : Loc Cert.KernelOptukv.nD Cert.KernelOptukv.τ Cert.KernelOptukv.sig) → Buf (Elt Bits) ℓ) : Prop :=
  True

def Pre_KernelOptukvIdeal (m : (ℓ : Loc Cert.KernelOptukvIdeal.nD Cert.KernelOptukvIdeal.τ Cert.KernelOptukvIdeal.sig) → Buf (Elt Ideal) ℓ) : Prop :=
  True

def Pre_ReferenceOptukvIdeal (m : (ℓ : Loc Cert.ReferenceOptukvIdeal.nD Cert.ReferenceOptukvIdeal.τ Cert.ReferenceOptukvIdeal.sig) → Buf (Elt Ideal) ℓ) : Prop :=
  True

def Pre_KernelOptmeta (m : (ℓ : Loc Cert.KernelOptmeta.nD Cert.KernelOptmeta.τ Cert.KernelOptmeta.sig) → Buf (Elt Bits) ℓ) : Prop :=
  True

def Pre_KernelOptmetaIdeal (m : (ℓ : Loc Cert.KernelOptmetaIdeal.nD Cert.KernelOptmetaIdeal.τ Cert.KernelOptmetaIdeal.sig) → Buf (Elt Ideal) ℓ) : Prop :=
  True

def Pre_ReferenceOptmetaIdeal (m : (ℓ : Loc Cert.ReferenceOptmetaIdeal.nD Cert.ReferenceOptmetaIdeal.τ Cert.ReferenceOptmetaIdeal.sig) → Buf (Elt Ideal) ℓ) : Prop :=
  True

def Pre_KernelOptconv (m : (ℓ : Loc Cert.KernelOptconv.nD Cert.KernelOptconv.τ Cert.KernelOptconv.sig) → Buf (Elt Bits) ℓ) : Prop :=
  True

def Pre_KernelOptconvIdeal (m : (ℓ : Loc Cert.KernelOptconvIdeal.nD Cert.KernelOptconvIdeal.τ Cert.KernelOptconvIdeal.sig) → Buf (Elt Ideal) ℓ) : Prop :=
  True

def Pre_ReferenceOptconvIdeal (m : (ℓ : Loc Cert.ReferenceOptconvIdeal.nD Cert.ReferenceOptconvIdeal.τ Cert.ReferenceOptconvIdeal.sig) → Buf (Elt Ideal) ℓ) : Prop :=
  True

def Pre_KernelOptflat (m : (ℓ : Loc Cert.KernelOptflat.nD Cert.KernelOptflat.τ Cert.KernelOptflat.sig) → Buf (Elt Bits) ℓ) : Prop :=
  True

def Pre_KernelOptflatIdeal (m : (ℓ : Loc Cert.KernelOptflatIdeal.nD Cert.KernelOptflatIdeal.τ Cert.KernelOptflatIdeal.sig) → Buf (Elt Ideal) ℓ) : Prop :=
  True

def Pre_ReferenceOptflatIdeal (m : (ℓ : Loc Cert.ReferenceOptflatIdeal.nD Cert.ReferenceOptflatIdeal.τ Cert.ReferenceOptflatIdeal.sig) → Buf (Elt Ideal) ℓ) : Prop :=
  True

def Pre_KernelDx (m : (ℓ : Loc Cert.KernelDx.nD Cert.KernelDx.τ Cert.KernelDx.sig) → Buf (Elt Bits) ℓ) : Prop :=
  True

def Pre_KernelDxIdeal (m : (ℓ : Loc Cert.KernelDxIdeal.nD Cert.KernelDxIdeal.τ Cert.KernelDxIdeal.sig) → Buf (Elt Ideal) ℓ) : Prop :=
  True

def Pre_ReferenceDxIdeal (m : (ℓ : Loc Cert.ReferenceDxIdeal.nD Cert.ReferenceDxIdeal.τ Cert.ReferenceDxIdeal.sig) → Buf (Elt Ideal) ℓ) : Prop :=
  True

def quiescent_KernelGate [hKernelGate : Cert.KernelGate.Facts] : Prop :=
  ∀ (m : (ℓ : Loc Cert.KernelGate.nD Cert.KernelGate.τ Cert.KernelGate.sig) → Buf (Elt Bits) ℓ) (g : Dev Cert.KernelGate.nD → PrngReg), Pre_KernelGate m →
    θ_run (Cert.KernelGate.defs (F := Bits)) (onTc (τ := Cert.KernelGate.τ) (Cert.KernelGate.main (F := Bits))) ⟨m, fun _ => 0, g⟩ (fun r => (∀ c : Dev Cert.KernelGate.nD,
      r.2.mem ((c.tc : Thread Cert.KernelGate.nD Cert.KernelGate.τ).loc Cert.KernelGate.main_arg0) = m ((c.tc : Thread Cert.KernelGate.nD Cert.KernelGate.τ).loc Cert.KernelGate.main_arg0)
      ∧ r.2.mem ((c.tc : Thread Cert.KernelGate.nD Cert.KernelGate.τ).loc Cert.KernelGate.main_arg1) = m ((c.tc : Thread Cert.KernelGate.nD Cert.KernelGate.τ).loc Cert.KernelGate.main_arg1))
      ∧ r.2.sem = fun _ => 0)

def quiescent_KernelGateIdeal [hKernelGateIdeal : Cert.KernelGateIdeal.Facts] : Prop :=
  ∀ (m : (ℓ : Loc Cert.KernelGateIdeal.nD Cert.KernelGateIdeal.τ Cert.KernelGateIdeal.sig) → Buf (Elt Ideal) ℓ) (g : Dev Cert.KernelGateIdeal.nD → PrngReg), Pre_KernelGateIdeal m →
    θ_run (Cert.KernelGateIdeal.defs (F := Ideal)) (onTc (τ := Cert.KernelGateIdeal.τ) (Cert.KernelGateIdeal.main (F := Ideal))) ⟨m, fun _ => 0, g⟩ (fun r => (∀ c : Dev Cert.KernelGateIdeal.nD,
      r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
      ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1))
      ∧ r.2.sem = fun _ => 0)

def quiescent_KernelGateIdeal_pre_finite [hKernelGateIdeal : Cert.KernelGateIdeal.Facts] [hPre_finite : Cert.Pre_finite.Facts] : Prop :=
  ∀ (m : (ℓ : Loc Cert.KernelGateIdeal.nD Cert.KernelGateIdeal.τ Cert.KernelGateIdeal.sig) → Buf (Elt Ideal) ℓ) (g : Dev Cert.KernelGateIdeal.nD → PrngReg), Pre_KernelGateIdeal_finite m →
    θ_run (Cert.KernelGateIdeal.defs (F := Ideal)) (onTc (τ := Cert.KernelGateIdeal.τ) (Cert.KernelGateIdeal.main (F := Ideal))) ⟨m, fun _ => 0, g⟩ (fun r => (∀ c : Dev Cert.KernelGateIdeal.nD,
      r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
      ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1))
      ∧ r.2.sem = fun _ => 0)

def quiescent_ReferenceGateIdeal [hReferenceGateIdeal : Cert.ReferenceGateIdeal.Facts] : Prop :=
  ∀ (m : (ℓ : Loc Cert.ReferenceGateIdeal.nD Cert.ReferenceGateIdeal.τ Cert.ReferenceGateIdeal.sig) → Buf (Elt Ideal) ℓ) (g : Dev Cert.ReferenceGateIdeal.nD → PrngReg), Pre_ReferenceGateIdeal m →
    θ_run (Cert.ReferenceGateIdeal.defs (F := Ideal)) (onTc (τ := Cert.ReferenceGateIdeal.τ) (Cert.ReferenceGateIdeal.main (F := Ideal))) ⟨m, fun _ => 0, g⟩ (fun r => (∀ c : Dev Cert.ReferenceGateIdeal.nD,
      r.2.mem ((c.tc : Thread Cert.ReferenceGateIdeal.nD Cert.ReferenceGateIdeal.τ).loc Cert.ReferenceGateIdeal.main_arg0) = m ((c.tc : Thread Cert.ReferenceGateIdeal.nD Cert.ReferenceGateIdeal.τ).loc Cert.ReferenceGateIdeal.main_arg0)
      ∧ r.2.mem ((c.tc : Thread Cert.ReferenceGateIdeal.nD Cert.ReferenceGateIdeal.τ).loc Cert.ReferenceGateIdeal.main_arg1) = m ((c.tc : Thread Cert.ReferenceGateIdeal.nD Cert.ReferenceGateIdeal.τ).loc Cert.ReferenceGateIdeal.main_arg1))
      ∧ r.2.sem = fun _ => 0)

def quiescent_ReferenceGateIdeal_pre_finite [hReferenceGateIdeal : Cert.ReferenceGateIdeal.Facts] [hPre_finite : Cert.Pre_finite.Facts] : Prop :=
  ∀ (m : (ℓ : Loc Cert.ReferenceGateIdeal.nD Cert.ReferenceGateIdeal.τ Cert.ReferenceGateIdeal.sig) → Buf (Elt Ideal) ℓ) (g : Dev Cert.ReferenceGateIdeal.nD → PrngReg), Pre_ReferenceGateIdeal_finite m →
    θ_run (Cert.ReferenceGateIdeal.defs (F := Ideal)) (onTc (τ := Cert.ReferenceGateIdeal.τ) (Cert.ReferenceGateIdeal.main (F := Ideal))) ⟨m, fun _ => 0, g⟩ (fun r => (∀ c : Dev Cert.ReferenceGateIdeal.nD,
      r.2.mem ((c.tc : Thread Cert.ReferenceGateIdeal.nD Cert.ReferenceGateIdeal.τ).loc Cert.ReferenceGateIdeal.main_arg0) = m ((c.tc : Thread Cert.ReferenceGateIdeal.nD Cert.ReferenceGateIdeal.τ).loc Cert.ReferenceGateIdeal.main_arg0)
      ∧ r.2.mem ((c.tc : Thread Cert.ReferenceGateIdeal.nD Cert.ReferenceGateIdeal.τ).loc Cert.ReferenceGateIdeal.main_arg1) = m ((c.tc : Thread Cert.ReferenceGateIdeal.nD Cert.ReferenceGateIdeal.τ).loc Cert.ReferenceGateIdeal.main_arg1))
      ∧ r.2.sem = fun _ => 0)

def quiescent_KernelDact [hKernelDact : Cert.KernelDact.Facts] : Prop :=
  ∀ (m : (ℓ : Loc Cert.KernelDact.nD Cert.KernelDact.τ Cert.KernelDact.sig) → Buf (Elt Bits) ℓ) (g : Dev Cert.KernelDact.nD → PrngReg), Pre_KernelDact m →
    θ_run (Cert.KernelDact.defs (F := Bits)) (onTc (τ := Cert.KernelDact.τ) (Cert.KernelDact.main (F := Bits))) ⟨m, fun _ => 0, g⟩ (fun r => (∀ c : Dev Cert.KernelDact.nD,
      r.2.mem ((c.tc : Thread Cert.KernelDact.nD Cert.KernelDact.τ).loc Cert.KernelDact.main_arg0) = m ((c.tc : Thread Cert.KernelDact.nD Cert.KernelDact.τ).loc Cert.KernelDact.main_arg0)
      ∧ r.2.mem ((c.tc : Thread Cert.KernelDact.nD Cert.KernelDact.τ).loc Cert.KernelDact.main_arg1) = m ((c.tc : Thread Cert.KernelDact.nD Cert.KernelDact.τ).loc Cert.KernelDact.main_arg1))
      ∧ r.2.sem = fun _ => 0)

def quiescent_KernelDactIdeal [hKernelDactIdeal : Cert.KernelDactIdeal.Facts] : Prop :=
  ∀ (m : (ℓ : Loc Cert.KernelDactIdeal.nD Cert.KernelDactIdeal.τ Cert.KernelDactIdeal.sig) → Buf (Elt Ideal) ℓ) (g : Dev Cert.KernelDactIdeal.nD → PrngReg), Pre_KernelDactIdeal m →
    θ_run (Cert.KernelDactIdeal.defs (F := Ideal)) (onTc (τ := Cert.KernelDactIdeal.τ) (Cert.KernelDactIdeal.main (F := Ideal))) ⟨m, fun _ => 0, g⟩ (fun r => (∀ c : Dev Cert.KernelDactIdeal.nD,
      r.2.mem ((c.tc : Thread Cert.KernelDactIdeal.nD Cert.KernelDactIdeal.τ).loc Cert.KernelDactIdeal.main_arg0) = m ((c.tc : Thread Cert.KernelDactIdeal.nD Cert.KernelDactIdeal.τ).loc Cert.KernelDactIdeal.main_arg0)
      ∧ r.2.mem ((c.tc : Thread Cert.KernelDactIdeal.nD Cert.KernelDactIdeal.τ).loc Cert.KernelDactIdeal.main_arg1) = m ((c.tc : Thread Cert.KernelDactIdeal.nD Cert.KernelDactIdeal.τ).loc Cert.KernelDactIdeal.main_arg1))
      ∧ r.2.sem = fun _ => 0)

def quiescent_ReferenceDactIdeal [hReferenceDactIdeal : Cert.ReferenceDactIdeal.Facts] : Prop :=
  ∀ (m : (ℓ : Loc Cert.ReferenceDactIdeal.nD Cert.ReferenceDactIdeal.τ Cert.ReferenceDactIdeal.sig) → Buf (Elt Ideal) ℓ) (g : Dev Cert.ReferenceDactIdeal.nD → PrngReg), Pre_ReferenceDactIdeal m →
    θ_run (Cert.ReferenceDactIdeal.defs (F := Ideal)) (onTc (τ := Cert.ReferenceDactIdeal.τ) (Cert.ReferenceDactIdeal.main (F := Ideal))) ⟨m, fun _ => 0, g⟩ (fun r => (∀ c : Dev Cert.ReferenceDactIdeal.nD,
      r.2.mem ((c.tc : Thread Cert.ReferenceDactIdeal.nD Cert.ReferenceDactIdeal.τ).loc Cert.ReferenceDactIdeal.main_arg0) = m ((c.tc : Thread Cert.ReferenceDactIdeal.nD Cert.ReferenceDactIdeal.τ).loc Cert.ReferenceDactIdeal.main_arg0)
      ∧ r.2.mem ((c.tc : Thread Cert.ReferenceDactIdeal.nD Cert.ReferenceDactIdeal.τ).loc Cert.ReferenceDactIdeal.main_arg1) = m ((c.tc : Thread Cert.ReferenceDactIdeal.nD Cert.ReferenceDactIdeal.τ).loc Cert.ReferenceDactIdeal.main_arg1))
      ∧ r.2.sem = fun _ => 0)

def quiescent_KernelDwdown [hKernelDwdown : Cert.KernelDwdown.Facts] : Prop :=
  ∀ (m : (ℓ : Loc Cert.KernelDwdown.nD Cert.KernelDwdown.τ Cert.KernelDwdown.sig) → Buf (Elt Bits) ℓ) (g : Dev Cert.KernelDwdown.nD → PrngReg), Pre_KernelDwdown m →
    θ_run (Cert.KernelDwdown.defs (F := Bits)) (onTc (τ := Cert.KernelDwdown.τ) (Cert.KernelDwdown.main (F := Bits))) ⟨m, fun _ => 0, g⟩ (fun r => (∀ c : Dev Cert.KernelDwdown.nD,
      r.2.mem ((c.tc : Thread Cert.KernelDwdown.nD Cert.KernelDwdown.τ).loc Cert.KernelDwdown.main_arg0) = m ((c.tc : Thread Cert.KernelDwdown.nD Cert.KernelDwdown.τ).loc Cert.KernelDwdown.main_arg0)
      ∧ r.2.mem ((c.tc : Thread Cert.KernelDwdown.nD Cert.KernelDwdown.τ).loc Cert.KernelDwdown.main_arg1) = m ((c.tc : Thread Cert.KernelDwdown.nD Cert.KernelDwdown.τ).loc Cert.KernelDwdown.main_arg1))
      ∧ r.2.sem = fun _ => 0)

def quiescent_KernelDwdownIdeal [hKernelDwdownIdeal : Cert.KernelDwdownIdeal.Facts] : Prop :=
  ∀ (m : (ℓ : Loc Cert.KernelDwdownIdeal.nD Cert.KernelDwdownIdeal.τ Cert.KernelDwdownIdeal.sig) → Buf (Elt Ideal) ℓ) (g : Dev Cert.KernelDwdownIdeal.nD → PrngReg), Pre_KernelDwdownIdeal m →
    θ_run (Cert.KernelDwdownIdeal.defs (F := Ideal)) (onTc (τ := Cert.KernelDwdownIdeal.τ) (Cert.KernelDwdownIdeal.main (F := Ideal))) ⟨m, fun _ => 0, g⟩ (fun r => (∀ c : Dev Cert.KernelDwdownIdeal.nD,
      r.2.mem ((c.tc : Thread Cert.KernelDwdownIdeal.nD Cert.KernelDwdownIdeal.τ).loc Cert.KernelDwdownIdeal.main_arg0) = m ((c.tc : Thread Cert.KernelDwdownIdeal.nD Cert.KernelDwdownIdeal.τ).loc Cert.KernelDwdownIdeal.main_arg0)
      ∧ r.2.mem ((c.tc : Thread Cert.KernelDwdownIdeal.nD Cert.KernelDwdownIdeal.τ).loc Cert.KernelDwdownIdeal.main_arg1) = m ((c.tc : Thread Cert.KernelDwdownIdeal.nD Cert.KernelDwdownIdeal.τ).loc Cert.KernelDwdownIdeal.main_arg1))
      ∧ r.2.sem = fun _ => 0)

def quiescent_ReferenceDwdownIdeal [hReferenceDwdownIdeal : Cert.ReferenceDwdownIdeal.Facts] : Prop :=
  ∀ (m : (ℓ : Loc Cert.ReferenceDwdownIdeal.nD Cert.ReferenceDwdownIdeal.τ Cert.ReferenceDwdownIdeal.sig) → Buf (Elt Ideal) ℓ) (g : Dev Cert.ReferenceDwdownIdeal.nD → PrngReg), Pre_ReferenceDwdownIdeal m →
    θ_run (Cert.ReferenceDwdownIdeal.defs (F := Ideal)) (onTc (τ := Cert.ReferenceDwdownIdeal.τ) (Cert.ReferenceDwdownIdeal.main (F := Ideal))) ⟨m, fun _ => 0, g⟩ (fun r => (∀ c : Dev Cert.ReferenceDwdownIdeal.nD,
      r.2.mem ((c.tc : Thread Cert.ReferenceDwdownIdeal.nD Cert.ReferenceDwdownIdeal.τ).loc Cert.ReferenceDwdownIdeal.main_arg0) = m ((c.tc : Thread Cert.ReferenceDwdownIdeal.nD Cert.ReferenceDwdownIdeal.τ).loc Cert.ReferenceDwdownIdeal.main_arg0)
      ∧ r.2.mem ((c.tc : Thread Cert.ReferenceDwdownIdeal.nD Cert.ReferenceDwdownIdeal.τ).loc Cert.ReferenceDwdownIdeal.main_arg1) = m ((c.tc : Thread Cert.ReferenceDwdownIdeal.nD Cert.ReferenceDwdownIdeal.τ).loc Cert.ReferenceDwdownIdeal.main_arg1))
      ∧ r.2.sem = fun _ => 0)

def quiescent_KernelDh [hKernelDh : Cert.KernelDh.Facts] : Prop :=
  ∀ (m : (ℓ : Loc Cert.KernelDh.nD Cert.KernelDh.τ Cert.KernelDh.sig) → Buf (Elt Bits) ℓ) (g : Dev Cert.KernelDh.nD → PrngReg), Pre_KernelDh m →
    θ_run (Cert.KernelDh.defs (F := Bits)) (onTc (τ := Cert.KernelDh.τ) (Cert.KernelDh.main (F := Bits))) ⟨m, fun _ => 0, g⟩ (fun r => (∀ c : Dev Cert.KernelDh.nD,
      r.2.mem ((c.tc : Thread Cert.KernelDh.nD Cert.KernelDh.τ).loc Cert.KernelDh.main_arg0) = m ((c.tc : Thread Cert.KernelDh.nD Cert.KernelDh.τ).loc Cert.KernelDh.main_arg0)
      ∧ r.2.mem ((c.tc : Thread Cert.KernelDh.nD Cert.KernelDh.τ).loc Cert.KernelDh.main_arg1) = m ((c.tc : Thread Cert.KernelDh.nD Cert.KernelDh.τ).loc Cert.KernelDh.main_arg1)
      ∧ r.2.mem ((c.tc : Thread Cert.KernelDh.nD Cert.KernelDh.τ).loc Cert.KernelDh.main_arg2) = m ((c.tc : Thread Cert.KernelDh.nD Cert.KernelDh.τ).loc Cert.KernelDh.main_arg2))
      ∧ r.2.sem = fun _ => 0)

def quiescent_KernelDhIdeal [hKernelDhIdeal : Cert.KernelDhIdeal.Facts] : Prop :=
  ∀ (m : (ℓ : Loc Cert.KernelDhIdeal.nD Cert.KernelDhIdeal.τ Cert.KernelDhIdeal.sig) → Buf (Elt Ideal) ℓ) (g : Dev Cert.KernelDhIdeal.nD → PrngReg), Pre_KernelDhIdeal m →
    θ_run (Cert.KernelDhIdeal.defs (F := Ideal)) (onTc (τ := Cert.KernelDhIdeal.τ) (Cert.KernelDhIdeal.main (F := Ideal))) ⟨m, fun _ => 0, g⟩ (fun r => (∀ c : Dev Cert.KernelDhIdeal.nD,
      r.2.mem ((c.tc : Thread Cert.KernelDhIdeal.nD Cert.KernelDhIdeal.τ).loc Cert.KernelDhIdeal.main_arg0) = m ((c.tc : Thread Cert.KernelDhIdeal.nD Cert.KernelDhIdeal.τ).loc Cert.KernelDhIdeal.main_arg0)
      ∧ r.2.mem ((c.tc : Thread Cert.KernelDhIdeal.nD Cert.KernelDhIdeal.τ).loc Cert.KernelDhIdeal.main_arg1) = m ((c.tc : Thread Cert.KernelDhIdeal.nD Cert.KernelDhIdeal.τ).loc Cert.KernelDhIdeal.main_arg1)
      ∧ r.2.mem ((c.tc : Thread Cert.KernelDhIdeal.nD Cert.KernelDhIdeal.τ).loc Cert.KernelDhIdeal.main_arg2) = m ((c.tc : Thread Cert.KernelDhIdeal.nD Cert.KernelDhIdeal.τ).loc Cert.KernelDhIdeal.main_arg2))
      ∧ r.2.sem = fun _ => 0)

def quiescent_ReferenceDhIdeal [hReferenceDhIdeal : Cert.ReferenceDhIdeal.Facts] : Prop :=
  ∀ (m : (ℓ : Loc Cert.ReferenceDhIdeal.nD Cert.ReferenceDhIdeal.τ Cert.ReferenceDhIdeal.sig) → Buf (Elt Ideal) ℓ) (g : Dev Cert.ReferenceDhIdeal.nD → PrngReg), Pre_ReferenceDhIdeal m →
    θ_run (Cert.ReferenceDhIdeal.defs (F := Ideal)) (onTc (τ := Cert.ReferenceDhIdeal.τ) (Cert.ReferenceDhIdeal.main (F := Ideal))) ⟨m, fun _ => 0, g⟩ (fun r => (∀ c : Dev Cert.ReferenceDhIdeal.nD,
      r.2.mem ((c.tc : Thread Cert.ReferenceDhIdeal.nD Cert.ReferenceDhIdeal.τ).loc Cert.ReferenceDhIdeal.main_arg0) = m ((c.tc : Thread Cert.ReferenceDhIdeal.nD Cert.ReferenceDhIdeal.τ).loc Cert.ReferenceDhIdeal.main_arg0)
      ∧ r.2.mem ((c.tc : Thread Cert.ReferenceDhIdeal.nD Cert.ReferenceDhIdeal.τ).loc Cert.ReferenceDhIdeal.main_arg1) = m ((c.tc : Thread Cert.ReferenceDhIdeal.nD Cert.ReferenceDhIdeal.τ).loc Cert.ReferenceDhIdeal.main_arg1)
      ∧ r.2.mem ((c.tc : Thread Cert.ReferenceDhIdeal.nD Cert.ReferenceDhIdeal.τ).loc Cert.ReferenceDhIdeal.main_arg2) = m ((c.tc : Thread Cert.ReferenceDhIdeal.nD Cert.ReferenceDhIdeal.τ).loc Cert.ReferenceDhIdeal.main_arg2))
      ∧ r.2.sem = fun _ => 0)

def quiescent_KernelDwgu [hKernelDwgu : Cert.KernelDwgu.Facts] : Prop :=
  ∀ (m : (ℓ : Loc Cert.KernelDwgu.nD Cert.KernelDwgu.τ Cert.KernelDwgu.sig) → Buf (Elt Bits) ℓ) (g : Dev Cert.KernelDwgu.nD → PrngReg), Pre_KernelDwgu m →
    θ_run (Cert.KernelDwgu.defs (F := Bits)) (onTc (τ := Cert.KernelDwgu.τ) (Cert.KernelDwgu.main (F := Bits))) ⟨m, fun _ => 0, g⟩ (fun r => (∀ c : Dev Cert.KernelDwgu.nD,
      r.2.mem ((c.tc : Thread Cert.KernelDwgu.nD Cert.KernelDwgu.τ).loc Cert.KernelDwgu.main_arg0) = m ((c.tc : Thread Cert.KernelDwgu.nD Cert.KernelDwgu.τ).loc Cert.KernelDwgu.main_arg0)
      ∧ r.2.mem ((c.tc : Thread Cert.KernelDwgu.nD Cert.KernelDwgu.τ).loc Cert.KernelDwgu.main_arg1) = m ((c.tc : Thread Cert.KernelDwgu.nD Cert.KernelDwgu.τ).loc Cert.KernelDwgu.main_arg1))
      ∧ r.2.sem = fun _ => 0)

def quiescent_KernelDwguIdeal [hKernelDwguIdeal : Cert.KernelDwguIdeal.Facts] : Prop :=
  ∀ (m : (ℓ : Loc Cert.KernelDwguIdeal.nD Cert.KernelDwguIdeal.τ Cert.KernelDwguIdeal.sig) → Buf (Elt Ideal) ℓ) (g : Dev Cert.KernelDwguIdeal.nD → PrngReg), Pre_KernelDwguIdeal m →
    θ_run (Cert.KernelDwguIdeal.defs (F := Ideal)) (onTc (τ := Cert.KernelDwguIdeal.τ) (Cert.KernelDwguIdeal.main (F := Ideal))) ⟨m, fun _ => 0, g⟩ (fun r => (∀ c : Dev Cert.KernelDwguIdeal.nD,
      r.2.mem ((c.tc : Thread Cert.KernelDwguIdeal.nD Cert.KernelDwguIdeal.τ).loc Cert.KernelDwguIdeal.main_arg0) = m ((c.tc : Thread Cert.KernelDwguIdeal.nD Cert.KernelDwguIdeal.τ).loc Cert.KernelDwguIdeal.main_arg0)
      ∧ r.2.mem ((c.tc : Thread Cert.KernelDwguIdeal.nD Cert.KernelDwguIdeal.τ).loc Cert.KernelDwguIdeal.main_arg1) = m ((c.tc : Thread Cert.KernelDwguIdeal.nD Cert.KernelDwguIdeal.τ).loc Cert.KernelDwguIdeal.main_arg1))
      ∧ r.2.sem = fun _ => 0)

def quiescent_ReferenceDwguIdeal [hReferenceDwguIdeal : Cert.ReferenceDwguIdeal.Facts] : Prop :=
  ∀ (m : (ℓ : Loc Cert.ReferenceDwguIdeal.nD Cert.ReferenceDwguIdeal.τ Cert.ReferenceDwguIdeal.sig) → Buf (Elt Ideal) ℓ) (g : Dev Cert.ReferenceDwguIdeal.nD → PrngReg), Pre_ReferenceDwguIdeal m →
    θ_run (Cert.ReferenceDwguIdeal.defs (F := Ideal)) (onTc (τ := Cert.ReferenceDwguIdeal.τ) (Cert.ReferenceDwguIdeal.main (F := Ideal))) ⟨m, fun _ => 0, g⟩ (fun r => (∀ c : Dev Cert.ReferenceDwguIdeal.nD,
      r.2.mem ((c.tc : Thread Cert.ReferenceDwguIdeal.nD Cert.ReferenceDwguIdeal.τ).loc Cert.ReferenceDwguIdeal.main_arg0) = m ((c.tc : Thread Cert.ReferenceDwguIdeal.nD Cert.ReferenceDwguIdeal.τ).loc Cert.ReferenceDwguIdeal.main_arg0)
      ∧ r.2.mem ((c.tc : Thread Cert.ReferenceDwguIdeal.nD Cert.ReferenceDwguIdeal.τ).loc Cert.ReferenceDwguIdeal.main_arg1) = m ((c.tc : Thread Cert.ReferenceDwguIdeal.nD Cert.ReferenceDwguIdeal.τ).loc Cert.ReferenceDwguIdeal.main_arg1))
      ∧ r.2.sem = fun _ => 0)

def quiescent_KernelGu [hKernelGu : Cert.KernelGu.Facts] : Prop :=
  ∀ (m : (ℓ : Loc Cert.KernelGu.nD Cert.KernelGu.τ Cert.KernelGu.sig) → Buf (Elt Bits) ℓ) (g : Dev Cert.KernelGu.nD → PrngReg), Pre_KernelGu m →
    θ_run (Cert.KernelGu.defs (F := Bits)) (onTc (τ := Cert.KernelGu.τ) (Cert.KernelGu.main (F := Bits))) ⟨m, fun _ => 0, g⟩ (fun r => (∀ c : Dev Cert.KernelGu.nD,
      r.2.mem ((c.tc : Thread Cert.KernelGu.nD Cert.KernelGu.τ).loc Cert.KernelGu.main_arg0) = m ((c.tc : Thread Cert.KernelGu.nD Cert.KernelGu.τ).loc Cert.KernelGu.main_arg0)
      ∧ r.2.mem ((c.tc : Thread Cert.KernelGu.nD Cert.KernelGu.τ).loc Cert.KernelGu.main_arg1) = m ((c.tc : Thread Cert.KernelGu.nD Cert.KernelGu.τ).loc Cert.KernelGu.main_arg1)
      ∧ r.2.mem ((c.tc : Thread Cert.KernelGu.nD Cert.KernelGu.τ).loc Cert.KernelGu.main_arg2) = m ((c.tc : Thread Cert.KernelGu.nD Cert.KernelGu.τ).loc Cert.KernelGu.main_arg2))
      ∧ r.2.sem = fun _ => 0)

def quiescent_KernelGuIdeal [hKernelGuIdeal : Cert.KernelGuIdeal.Facts] : Prop :=
  ∀ (m : (ℓ : Loc Cert.KernelGuIdeal.nD Cert.KernelGuIdeal.τ Cert.KernelGuIdeal.sig) → Buf (Elt Ideal) ℓ) (g : Dev Cert.KernelGuIdeal.nD → PrngReg), Pre_KernelGuIdeal m →
    θ_run (Cert.KernelGuIdeal.defs (F := Ideal)) (onTc (τ := Cert.KernelGuIdeal.τ) (Cert.KernelGuIdeal.main (F := Ideal))) ⟨m, fun _ => 0, g⟩ (fun r => (∀ c : Dev Cert.KernelGuIdeal.nD,
      r.2.mem ((c.tc : Thread Cert.KernelGuIdeal.nD Cert.KernelGuIdeal.τ).loc Cert.KernelGuIdeal.main_arg0) = m ((c.tc : Thread Cert.KernelGuIdeal.nD Cert.KernelGuIdeal.τ).loc Cert.KernelGuIdeal.main_arg0)
      ∧ r.2.mem ((c.tc : Thread Cert.KernelGuIdeal.nD Cert.KernelGuIdeal.τ).loc Cert.KernelGuIdeal.main_arg1) = m ((c.tc : Thread Cert.KernelGuIdeal.nD Cert.KernelGuIdeal.τ).loc Cert.KernelGuIdeal.main_arg1)
      ∧ r.2.mem ((c.tc : Thread Cert.KernelGuIdeal.nD Cert.KernelGuIdeal.τ).loc Cert.KernelGuIdeal.main_arg2) = m ((c.tc : Thread Cert.KernelGuIdeal.nD Cert.KernelGuIdeal.τ).loc Cert.KernelGuIdeal.main_arg2))
      ∧ r.2.sem = fun _ => 0)

def quiescent_ReferenceGuIdeal [hReferenceGuIdeal : Cert.ReferenceGuIdeal.Facts] : Prop :=
  ∀ (m : (ℓ : Loc Cert.ReferenceGuIdeal.nD Cert.ReferenceGuIdeal.τ Cert.ReferenceGuIdeal.sig) → Buf (Elt Ideal) ℓ) (g : Dev Cert.ReferenceGuIdeal.nD → PrngReg), Pre_ReferenceGuIdeal m →
    θ_run (Cert.ReferenceGuIdeal.defs (F := Ideal)) (onTc (τ := Cert.ReferenceGuIdeal.τ) (Cert.ReferenceGuIdeal.main (F := Ideal))) ⟨m, fun _ => 0, g⟩ (fun r => (∀ c : Dev Cert.ReferenceGuIdeal.nD,
      r.2.mem ((c.tc : Thread Cert.ReferenceGuIdeal.nD Cert.ReferenceGuIdeal.τ).loc Cert.ReferenceGuIdeal.main_arg0) = m ((c.tc : Thread Cert.ReferenceGuIdeal.nD Cert.ReferenceGuIdeal.τ).loc Cert.ReferenceGuIdeal.main_arg0)
      ∧ r.2.mem ((c.tc : Thread Cert.ReferenceGuIdeal.nD Cert.ReferenceGuIdeal.τ).loc Cert.ReferenceGuIdeal.main_arg1) = m ((c.tc : Thread Cert.ReferenceGuIdeal.nD Cert.ReferenceGuIdeal.τ).loc Cert.ReferenceGuIdeal.main_arg1)
      ∧ r.2.mem ((c.tc : Thread Cert.ReferenceGuIdeal.nD Cert.ReferenceGuIdeal.τ).loc Cert.ReferenceGuIdeal.main_arg2) = m ((c.tc : Thread Cert.ReferenceGuIdeal.nD Cert.ReferenceGuIdeal.τ).loc Cert.ReferenceGuIdeal.main_arg2))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1))
      ∧ r.2.sem = fun _ => 0)

def quiescent_KernelDwout [hKernelDwout : Cert.KernelDwout.Facts] : Prop :=
  ∀ (m : (ℓ : Loc Cert.KernelDwout.nD Cert.KernelDwout.τ Cert.KernelDwout.sig) → Buf (Elt Bits) ℓ) (g : Dev Cert.KernelDwout.nD → PrngReg), Pre_KernelDwout m →
    θ_run (Cert.KernelDwout.defs (F := Bits)) (onTc (τ := Cert.KernelDwout.τ) (Cert.KernelDwout.main (F := Bits))) ⟨m, fun _ => 0, g⟩ (fun r => (∀ c : Dev Cert.KernelDwout.nD,
      r.2.mem ((c.tc : Thread Cert.KernelDwout.nD Cert.KernelDwout.τ).loc Cert.KernelDwout.main_arg0) = m ((c.tc : Thread Cert.KernelDwout.nD Cert.KernelDwout.τ).loc Cert.KernelDwout.main_arg0)
      ∧ r.2.mem ((c.tc : Thread Cert.KernelDwout.nD Cert.KernelDwout.τ).loc Cert.KernelDwout.main_arg1) = m ((c.tc : Thread Cert.KernelDwout.nD Cert.KernelDwout.τ).loc Cert.KernelDwout.main_arg1))
      ∧ r.2.sem = fun _ => 0)

def quiescent_KernelDwoutIdeal [hKernelDwoutIdeal : Cert.KernelDwoutIdeal.Facts] : Prop :=
  ∀ (m : (ℓ : Loc Cert.KernelDwoutIdeal.nD Cert.KernelDwoutIdeal.τ Cert.KernelDwoutIdeal.sig) → Buf (Elt Ideal) ℓ) (g : Dev Cert.KernelDwoutIdeal.nD → PrngReg), Pre_KernelDwoutIdeal m →
    θ_run (Cert.KernelDwoutIdeal.defs (F := Ideal)) (onTc (τ := Cert.KernelDwoutIdeal.τ) (Cert.KernelDwoutIdeal.main (F := Ideal))) ⟨m, fun _ => 0, g⟩ (fun r => (∀ c : Dev Cert.KernelDwoutIdeal.nD,
      r.2.mem ((c.tc : Thread Cert.KernelDwoutIdeal.nD Cert.KernelDwoutIdeal.τ).loc Cert.KernelDwoutIdeal.main_arg0) = m ((c.tc : Thread Cert.KernelDwoutIdeal.nD Cert.KernelDwoutIdeal.τ).loc Cert.KernelDwoutIdeal.main_arg0)
      ∧ r.2.mem ((c.tc : Thread Cert.KernelDwoutIdeal.nD Cert.KernelDwoutIdeal.τ).loc Cert.KernelDwoutIdeal.main_arg1) = m ((c.tc : Thread Cert.KernelDwoutIdeal.nD Cert.KernelDwoutIdeal.τ).loc Cert.KernelDwoutIdeal.main_arg1))
      ∧ r.2.sem = fun _ => 0)

def quiescent_ReferenceDwoutIdeal [hReferenceDwoutIdeal : Cert.ReferenceDwoutIdeal.Facts] : Prop :=
  ∀ (m : (ℓ : Loc Cert.ReferenceDwoutIdeal.nD Cert.ReferenceDwoutIdeal.τ Cert.ReferenceDwoutIdeal.sig) → Buf (Elt Ideal) ℓ) (g : Dev Cert.ReferenceDwoutIdeal.nD → PrngReg), Pre_ReferenceDwoutIdeal m →
    θ_run (Cert.ReferenceDwoutIdeal.defs (F := Ideal)) (onTc (τ := Cert.ReferenceDwoutIdeal.τ) (Cert.ReferenceDwoutIdeal.main (F := Ideal))) ⟨m, fun _ => 0, g⟩ (fun r => (∀ c : Dev Cert.ReferenceDwoutIdeal.nD,
      r.2.mem ((c.tc : Thread Cert.ReferenceDwoutIdeal.nD Cert.ReferenceDwoutIdeal.τ).loc Cert.ReferenceDwoutIdeal.main_arg0) = m ((c.tc : Thread Cert.ReferenceDwoutIdeal.nD Cert.ReferenceDwoutIdeal.τ).loc Cert.ReferenceDwoutIdeal.main_arg0)
      ∧ r.2.mem ((c.tc : Thread Cert.ReferenceDwoutIdeal.nD Cert.ReferenceDwoutIdeal.τ).loc Cert.ReferenceDwoutIdeal.main_arg1) = m ((c.tc : Thread Cert.ReferenceDwoutIdeal.nD Cert.ReferenceDwoutIdeal.τ).loc Cert.ReferenceDwoutIdeal.main_arg1))
      ∧ r.2.sem = fun _ => 0)

def quiescent_KernelDyn [hKernelDyn : Cert.KernelDyn.Facts] : Prop :=
  ∀ (m : (ℓ : Loc Cert.KernelDyn.nD Cert.KernelDyn.τ Cert.KernelDyn.sig) → Buf (Elt Bits) ℓ) (g : Dev Cert.KernelDyn.nD → PrngReg), Pre_KernelDyn m →
    θ_run (Cert.KernelDyn.defs (F := Bits)) (onTc (τ := Cert.KernelDyn.τ) (Cert.KernelDyn.main (F := Bits))) ⟨m, fun _ => 0, g⟩ (fun r => (∀ c : Dev Cert.KernelDyn.nD,
      r.2.mem ((c.tc : Thread Cert.KernelDyn.nD Cert.KernelDyn.τ).loc Cert.KernelDyn.main_arg0) = m ((c.tc : Thread Cert.KernelDyn.nD Cert.KernelDyn.τ).loc Cert.KernelDyn.main_arg0)
      ∧ r.2.mem ((c.tc : Thread Cert.KernelDyn.nD Cert.KernelDyn.τ).loc Cert.KernelDyn.main_arg1) = m ((c.tc : Thread Cert.KernelDyn.nD Cert.KernelDyn.τ).loc Cert.KernelDyn.main_arg1))
      ∧ r.2.sem = fun _ => 0)

def quiescent_KernelDynIdeal [hKernelDynIdeal : Cert.KernelDynIdeal.Facts] : Prop :=
  ∀ (m : (ℓ : Loc Cert.KernelDynIdeal.nD Cert.KernelDynIdeal.τ Cert.KernelDynIdeal.sig) → Buf (Elt Ideal) ℓ) (g : Dev Cert.KernelDynIdeal.nD → PrngReg), Pre_KernelDynIdeal m →
    θ_run (Cert.KernelDynIdeal.defs (F := Ideal)) (onTc (τ := Cert.KernelDynIdeal.τ) (Cert.KernelDynIdeal.main (F := Ideal))) ⟨m, fun _ => 0, g⟩ (fun r => (∀ c : Dev Cert.KernelDynIdeal.nD,
      r.2.mem ((c.tc : Thread Cert.KernelDynIdeal.nD Cert.KernelDynIdeal.τ).loc Cert.KernelDynIdeal.main_arg0) = m ((c.tc : Thread Cert.KernelDynIdeal.nD Cert.KernelDynIdeal.τ).loc Cert.KernelDynIdeal.main_arg0)
      ∧ r.2.mem ((c.tc : Thread Cert.KernelDynIdeal.nD Cert.KernelDynIdeal.τ).loc Cert.KernelDynIdeal.main_arg1) = m ((c.tc : Thread Cert.KernelDynIdeal.nD Cert.KernelDynIdeal.τ).loc Cert.KernelDynIdeal.main_arg1))
      ∧ r.2.sem = fun _ => 0)

def quiescent_ReferenceDynIdeal [hReferenceDynIdeal : Cert.ReferenceDynIdeal.Facts] : Prop :=
  ∀ (m : (ℓ : Loc Cert.ReferenceDynIdeal.nD Cert.ReferenceDynIdeal.τ Cert.ReferenceDynIdeal.sig) → Buf (Elt Ideal) ℓ) (g : Dev Cert.ReferenceDynIdeal.nD → PrngReg), Pre_ReferenceDynIdeal m →
    θ_run (Cert.ReferenceDynIdeal.defs (F := Ideal)) (onTc (τ := Cert.ReferenceDynIdeal.τ) (Cert.ReferenceDynIdeal.main (F := Ideal))) ⟨m, fun _ => 0, g⟩ (fun r => (∀ c : Dev Cert.ReferenceDynIdeal.nD,
      r.2.mem ((c.tc : Thread Cert.ReferenceDynIdeal.nD Cert.ReferenceDynIdeal.τ).loc Cert.ReferenceDynIdeal.main_arg0) = m ((c.tc : Thread Cert.ReferenceDynIdeal.nD Cert.ReferenceDynIdeal.τ).loc Cert.ReferenceDynIdeal.main_arg0)
      ∧ r.2.mem ((c.tc : Thread Cert.ReferenceDynIdeal.nD Cert.ReferenceDynIdeal.τ).loc Cert.ReferenceDynIdeal.main_arg1) = m ((c.tc : Thread Cert.ReferenceDynIdeal.nD Cert.ReferenceDynIdeal.τ).loc Cert.ReferenceDynIdeal.main_arg1))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1))
      ∧ r.2.sem = fun _ => 0)

def quiescent_KernelDwin [hKernelDwin : Cert.KernelDwin.Facts] : Prop :=
  ∀ (m : (ℓ : Loc Cert.KernelDwin.nD Cert.KernelDwin.τ Cert.KernelDwin.sig) → Buf (Elt Bits) ℓ) (g : Dev Cert.KernelDwin.nD → PrngReg), Pre_KernelDwin m →
    θ_run (Cert.KernelDwin.defs (F := Bits)) (onTc (τ := Cert.KernelDwin.τ) (Cert.KernelDwin.main (F := Bits))) ⟨m, fun _ => 0, g⟩ (fun r => (∀ c : Dev Cert.KernelDwin.nD,
      r.2.mem ((c.tc : Thread Cert.KernelDwin.nD Cert.KernelDwin.τ).loc Cert.KernelDwin.main_arg0) = m ((c.tc : Thread Cert.KernelDwin.nD Cert.KernelDwin.τ).loc Cert.KernelDwin.main_arg0)
      ∧ r.2.mem ((c.tc : Thread Cert.KernelDwin.nD Cert.KernelDwin.τ).loc Cert.KernelDwin.main_arg1) = m ((c.tc : Thread Cert.KernelDwin.nD Cert.KernelDwin.τ).loc Cert.KernelDwin.main_arg1))
      ∧ r.2.sem = fun _ => 0)

def quiescent_KernelDwinIdeal [hKernelDwinIdeal : Cert.KernelDwinIdeal.Facts] : Prop :=
  ∀ (m : (ℓ : Loc Cert.KernelDwinIdeal.nD Cert.KernelDwinIdeal.τ Cert.KernelDwinIdeal.sig) → Buf (Elt Ideal) ℓ) (g : Dev Cert.KernelDwinIdeal.nD → PrngReg), Pre_KernelDwinIdeal m →
    θ_run (Cert.KernelDwinIdeal.defs (F := Ideal)) (onTc (τ := Cert.KernelDwinIdeal.τ) (Cert.KernelDwinIdeal.main (F := Ideal))) ⟨m, fun _ => 0, g⟩ (fun r => (∀ c : Dev Cert.KernelDwinIdeal.nD,
      r.2.mem ((c.tc : Thread Cert.KernelDwinIdeal.nD Cert.KernelDwinIdeal.τ).loc Cert.KernelDwinIdeal.main_arg0) = m ((c.tc : Thread Cert.KernelDwinIdeal.nD Cert.KernelDwinIdeal.τ).loc Cert.KernelDwinIdeal.main_arg0)
      ∧ r.2.mem ((c.tc : Thread Cert.KernelDwinIdeal.nD Cert.KernelDwinIdeal.τ).loc Cert.KernelDwinIdeal.main_arg1) = m ((c.tc : Thread Cert.KernelDwinIdeal.nD Cert.KernelDwinIdeal.τ).loc Cert.KernelDwinIdeal.main_arg1))
      ∧ r.2.sem = fun _ => 0)

def quiescent_ReferenceDwinIdeal [hReferenceDwinIdeal : Cert.ReferenceDwinIdeal.Facts] : Prop :=
  ∀ (m : (ℓ : Loc Cert.ReferenceDwinIdeal.nD Cert.ReferenceDwinIdeal.τ Cert.ReferenceDwinIdeal.sig) → Buf (Elt Ideal) ℓ) (g : Dev Cert.ReferenceDwinIdeal.nD → PrngReg), Pre_ReferenceDwinIdeal m →
    θ_run (Cert.ReferenceDwinIdeal.defs (F := Ideal)) (onTc (τ := Cert.ReferenceDwinIdeal.τ) (Cert.ReferenceDwinIdeal.main (F := Ideal))) ⟨m, fun _ => 0, g⟩ (fun r => (∀ c : Dev Cert.ReferenceDwinIdeal.nD,
      r.2.mem ((c.tc : Thread Cert.ReferenceDwinIdeal.nD Cert.ReferenceDwinIdeal.τ).loc Cert.ReferenceDwinIdeal.main_arg0) = m ((c.tc : Thread Cert.ReferenceDwinIdeal.nD Cert.ReferenceDwinIdeal.τ).loc Cert.ReferenceDwinIdeal.main_arg0)
      ∧ r.2.mem ((c.tc : Thread Cert.ReferenceDwinIdeal.nD Cert.ReferenceDwinIdeal.τ).loc Cert.ReferenceDwinIdeal.main_arg1) = m ((c.tc : Thread Cert.ReferenceDwinIdeal.nD Cert.ReferenceDwinIdeal.τ).loc Cert.ReferenceDwinIdeal.main_arg1))
      ∧ r.2.sem = fun _ => 0)

def quiescent_KernelDhin [hKernelDhin : Cert.KernelDhin.Facts] : Prop :=
  ∀ (m : (ℓ : Loc Cert.KernelDhin.nD Cert.KernelDhin.τ Cert.KernelDhin.sig) → Buf (Elt Bits) ℓ) (g : Dev Cert.KernelDhin.nD → PrngReg), Pre_KernelDhin m →
    θ_run (Cert.KernelDhin.defs (F := Bits)) (onTc (τ := Cert.KernelDhin.τ) (Cert.KernelDhin.main (F := Bits))) ⟨m, fun _ => 0, g⟩ (fun r => (∀ c : Dev Cert.KernelDhin.nD,
      r.2.mem ((c.tc : Thread Cert.KernelDhin.nD Cert.KernelDhin.τ).loc Cert.KernelDhin.main_arg0) = m ((c.tc : Thread Cert.KernelDhin.nD Cert.KernelDhin.τ).loc Cert.KernelDhin.main_arg0)
      ∧ r.2.mem ((c.tc : Thread Cert.KernelDhin.nD Cert.KernelDhin.τ).loc Cert.KernelDhin.main_arg1) = m ((c.tc : Thread Cert.KernelDhin.nD Cert.KernelDhin.τ).loc Cert.KernelDhin.main_arg1))
      ∧ r.2.sem = fun _ => 0)

def quiescent_KernelDhinIdeal [hKernelDhinIdeal : Cert.KernelDhinIdeal.Facts] : Prop :=
  ∀ (m : (ℓ : Loc Cert.KernelDhinIdeal.nD Cert.KernelDhinIdeal.τ Cert.KernelDhinIdeal.sig) → Buf (Elt Ideal) ℓ) (g : Dev Cert.KernelDhinIdeal.nD → PrngReg), Pre_KernelDhinIdeal m →
    θ_run (Cert.KernelDhinIdeal.defs (F := Ideal)) (onTc (τ := Cert.KernelDhinIdeal.τ) (Cert.KernelDhinIdeal.main (F := Ideal))) ⟨m, fun _ => 0, g⟩ (fun r => (∀ c : Dev Cert.KernelDhinIdeal.nD,
      r.2.mem ((c.tc : Thread Cert.KernelDhinIdeal.nD Cert.KernelDhinIdeal.τ).loc Cert.KernelDhinIdeal.main_arg0) = m ((c.tc : Thread Cert.KernelDhinIdeal.nD Cert.KernelDhinIdeal.τ).loc Cert.KernelDhinIdeal.main_arg0)
      ∧ r.2.mem ((c.tc : Thread Cert.KernelDhinIdeal.nD Cert.KernelDhinIdeal.τ).loc Cert.KernelDhinIdeal.main_arg1) = m ((c.tc : Thread Cert.KernelDhinIdeal.nD Cert.KernelDhinIdeal.τ).loc Cert.KernelDhinIdeal.main_arg1))
      ∧ r.2.sem = fun _ => 0)

def quiescent_ReferenceDhinIdeal [hReferenceDhinIdeal : Cert.ReferenceDhinIdeal.Facts] : Prop :=
  ∀ (m : (ℓ : Loc Cert.ReferenceDhinIdeal.nD Cert.ReferenceDhinIdeal.τ Cert.ReferenceDhinIdeal.sig) → Buf (Elt Ideal) ℓ) (g : Dev Cert.ReferenceDhinIdeal.nD → PrngReg), Pre_ReferenceDhinIdeal m →
    θ_run (Cert.ReferenceDhinIdeal.defs (F := Ideal)) (onTc (τ := Cert.ReferenceDhinIdeal.τ) (Cert.ReferenceDhinIdeal.main (F := Ideal))) ⟨m, fun _ => 0, g⟩ (fun r => (∀ c : Dev Cert.ReferenceDhinIdeal.nD,
      r.2.mem ((c.tc : Thread Cert.ReferenceDhinIdeal.nD Cert.ReferenceDhinIdeal.τ).loc Cert.ReferenceDhinIdeal.main_arg0) = m ((c.tc : Thread Cert.ReferenceDhinIdeal.nD Cert.ReferenceDhinIdeal.τ).loc Cert.ReferenceDhinIdeal.main_arg0)
      ∧ r.2.mem ((c.tc : Thread Cert.ReferenceDhinIdeal.nD Cert.ReferenceDhinIdeal.τ).loc Cert.ReferenceDhinIdeal.main_arg1) = m ((c.tc : Thread Cert.ReferenceDhinIdeal.nD Cert.ReferenceDhinIdeal.τ).loc Cert.ReferenceDhinIdeal.main_arg1))
      ∧ r.2.sem = fun _ => 0)

def quiescent_KernelLin [hKernelLin : Cert.KernelLin.Facts] : Prop :=
  ∀ (m : (ℓ : Loc Cert.KernelLin.nD Cert.KernelLin.τ Cert.KernelLin.sig) → Buf (Elt Bits) ℓ) (g : Dev Cert.KernelLin.nD → PrngReg), Pre_KernelLin m →
    θ_run (Cert.KernelLin.defs (F := Bits)) (onTc (τ := Cert.KernelLin.τ) (Cert.KernelLin.main (F := Bits))) ⟨m, fun _ => 0, g⟩ (fun r => (∀ c : Dev Cert.KernelLin.nD,
      r.2.mem ((c.tc : Thread Cert.KernelLin.nD Cert.KernelLin.τ).loc Cert.KernelLin.main_arg0) = m ((c.tc : Thread Cert.KernelLin.nD Cert.KernelLin.τ).loc Cert.KernelLin.main_arg0)
      ∧ r.2.mem ((c.tc : Thread Cert.KernelLin.nD Cert.KernelLin.τ).loc Cert.KernelLin.main_arg1) = m ((c.tc : Thread Cert.KernelLin.nD Cert.KernelLin.τ).loc Cert.KernelLin.main_arg1))
      ∧ r.2.sem = fun _ => 0)

def quiescent_KernelLinIdeal [hKernelLinIdeal : Cert.KernelLinIdeal.Facts] : Prop :=
  ∀ (m : (ℓ : Loc Cert.KernelLinIdeal.nD Cert.KernelLinIdeal.τ Cert.KernelLinIdeal.sig) → Buf (Elt Ideal) ℓ) (g : Dev Cert.KernelLinIdeal.nD → PrngReg), Pre_KernelLinIdeal m →
    θ_run (Cert.KernelLinIdeal.defs (F := Ideal)) (onTc (τ := Cert.KernelLinIdeal.τ) (Cert.KernelLinIdeal.main (F := Ideal))) ⟨m, fun _ => 0, g⟩ (fun r => (∀ c : Dev Cert.KernelLinIdeal.nD,
      r.2.mem ((c.tc : Thread Cert.KernelLinIdeal.nD Cert.KernelLinIdeal.τ).loc Cert.KernelLinIdeal.main_arg0) = m ((c.tc : Thread Cert.KernelLinIdeal.nD Cert.KernelLinIdeal.τ).loc Cert.KernelLinIdeal.main_arg0)
      ∧ r.2.mem ((c.tc : Thread Cert.KernelLinIdeal.nD Cert.KernelLinIdeal.τ).loc Cert.KernelLinIdeal.main_arg1) = m ((c.tc : Thread Cert.KernelLinIdeal.nD Cert.KernelLinIdeal.τ).loc Cert.KernelLinIdeal.main_arg1))
      ∧ r.2.sem = fun _ => 0)

def quiescent_ReferenceLinIdeal [hReferenceLinIdeal : Cert.ReferenceLinIdeal.Facts] : Prop :=
  ∀ (m : (ℓ : Loc Cert.ReferenceLinIdeal.nD Cert.ReferenceLinIdeal.τ Cert.ReferenceLinIdeal.sig) → Buf (Elt Ideal) ℓ) (g : Dev Cert.ReferenceLinIdeal.nD → PrngReg), Pre_ReferenceLinIdeal m →
    θ_run (Cert.ReferenceLinIdeal.defs (F := Ideal)) (onTc (τ := Cert.ReferenceLinIdeal.τ) (Cert.ReferenceLinIdeal.main (F := Ideal))) ⟨m, fun _ => 0, g⟩ (fun r => (∀ c : Dev Cert.ReferenceLinIdeal.nD,
      r.2.mem ((c.tc : Thread Cert.ReferenceLinIdeal.nD Cert.ReferenceLinIdeal.τ).loc Cert.ReferenceLinIdeal.main_arg0) = m ((c.tc : Thread Cert.ReferenceLinIdeal.nD Cert.ReferenceLinIdeal.τ).loc Cert.ReferenceLinIdeal.main_arg0)
      ∧ r.2.mem ((c.tc : Thread Cert.ReferenceLinIdeal.nD Cert.ReferenceLinIdeal.τ).loc Cert.ReferenceLinIdeal.main_arg1) = m ((c.tc : Thread Cert.ReferenceLinIdeal.nD Cert.ReferenceLinIdeal.τ).loc Cert.ReferenceLinIdeal.main_arg1))
      ∧ r.2.sem = fun _ => 0)

def quiescent_KernelDlwin [hKernelDlwin : Cert.KernelDlwin.Facts] : Prop :=
  ∀ (m : (ℓ : Loc Cert.KernelDlwin.nD Cert.KernelDlwin.τ Cert.KernelDlwin.sig) → Buf (Elt Bits) ℓ) (g : Dev Cert.KernelDlwin.nD → PrngReg), Pre_KernelDlwin m →
    θ_run (Cert.KernelDlwin.defs (F := Bits)) (onTc (τ := Cert.KernelDlwin.τ) (Cert.KernelDlwin.main (F := Bits))) ⟨m, fun _ => 0, g⟩ (fun r => (∀ c : Dev Cert.KernelDlwin.nD,
      r.2.mem ((c.tc : Thread Cert.KernelDlwin.nD Cert.KernelDlwin.τ).loc Cert.KernelDlwin.main_arg0) = m ((c.tc : Thread Cert.KernelDlwin.nD Cert.KernelDlwin.τ).loc Cert.KernelDlwin.main_arg0)
      ∧ r.2.mem ((c.tc : Thread Cert.KernelDlwin.nD Cert.KernelDlwin.τ).loc Cert.KernelDlwin.main_arg1) = m ((c.tc : Thread Cert.KernelDlwin.nD Cert.KernelDlwin.τ).loc Cert.KernelDlwin.main_arg1))
      ∧ r.2.sem = fun _ => 0)

def quiescent_KernelDlwinIdeal [hKernelDlwinIdeal : Cert.KernelDlwinIdeal.Facts] : Prop :=
  ∀ (m : (ℓ : Loc Cert.KernelDlwinIdeal.nD Cert.KernelDlwinIdeal.τ Cert.KernelDlwinIdeal.sig) → Buf (Elt Ideal) ℓ) (g : Dev Cert.KernelDlwinIdeal.nD → PrngReg), Pre_KernelDlwinIdeal m →
    θ_run (Cert.KernelDlwinIdeal.defs (F := Ideal)) (onTc (τ := Cert.KernelDlwinIdeal.τ) (Cert.KernelDlwinIdeal.main (F := Ideal))) ⟨m, fun _ => 0, g⟩ (fun r => (∀ c : Dev Cert.KernelDlwinIdeal.nD,
      r.2.mem ((c.tc : Thread Cert.KernelDlwinIdeal.nD Cert.KernelDlwinIdeal.τ).loc Cert.KernelDlwinIdeal.main_arg0) = m ((c.tc : Thread Cert.KernelDlwinIdeal.nD Cert.KernelDlwinIdeal.τ).loc Cert.KernelDlwinIdeal.main_arg0)
      ∧ r.2.mem ((c.tc : Thread Cert.KernelDlwinIdeal.nD Cert.KernelDlwinIdeal.τ).loc Cert.KernelDlwinIdeal.main_arg1) = m ((c.tc : Thread Cert.KernelDlwinIdeal.nD Cert.KernelDlwinIdeal.τ).loc Cert.KernelDlwinIdeal.main_arg1))
      ∧ r.2.sem = fun _ => 0)

def quiescent_ReferenceDlwinIdeal [hReferenceDlwinIdeal : Cert.ReferenceDlwinIdeal.Facts] : Prop :=
  ∀ (m : (ℓ : Loc Cert.ReferenceDlwinIdeal.nD Cert.ReferenceDlwinIdeal.τ Cert.ReferenceDlwinIdeal.sig) → Buf (Elt Ideal) ℓ) (g : Dev Cert.ReferenceDlwinIdeal.nD → PrngReg), Pre_ReferenceDlwinIdeal m →
    θ_run (Cert.ReferenceDlwinIdeal.defs (F := Ideal)) (onTc (τ := Cert.ReferenceDlwinIdeal.τ) (Cert.ReferenceDlwinIdeal.main (F := Ideal))) ⟨m, fun _ => 0, g⟩ (fun r => (∀ c : Dev Cert.ReferenceDlwinIdeal.nD,
      r.2.mem ((c.tc : Thread Cert.ReferenceDlwinIdeal.nD Cert.ReferenceDlwinIdeal.τ).loc Cert.ReferenceDlwinIdeal.main_arg0) = m ((c.tc : Thread Cert.ReferenceDlwinIdeal.nD Cert.ReferenceDlwinIdeal.τ).loc Cert.ReferenceDlwinIdeal.main_arg0)
      ∧ r.2.mem ((c.tc : Thread Cert.ReferenceDlwinIdeal.nD Cert.ReferenceDlwinIdeal.τ).loc Cert.ReferenceDlwinIdeal.main_arg1) = m ((c.tc : Thread Cert.ReferenceDlwinIdeal.nD Cert.ReferenceDlwinIdeal.τ).loc Cert.ReferenceDlwinIdeal.main_arg1))
      ∧ r.2.sem = fun _ => 0)

def quiescent_KernelDlh [hKernelDlh : Cert.KernelDlh.Facts] : Prop :=
  ∀ (m : (ℓ : Loc Cert.KernelDlh.nD Cert.KernelDlh.τ Cert.KernelDlh.sig) → Buf (Elt Bits) ℓ) (g : Dev Cert.KernelDlh.nD → PrngReg), Pre_KernelDlh m →
    θ_run (Cert.KernelDlh.defs (F := Bits)) (onTc (τ := Cert.KernelDlh.τ) (Cert.KernelDlh.main (F := Bits))) ⟨m, fun _ => 0, g⟩ (fun r => (∀ c : Dev Cert.KernelDlh.nD,
      r.2.mem ((c.tc : Thread Cert.KernelDlh.nD Cert.KernelDlh.τ).loc Cert.KernelDlh.main_arg0) = m ((c.tc : Thread Cert.KernelDlh.nD Cert.KernelDlh.τ).loc Cert.KernelDlh.main_arg0)
      ∧ r.2.mem ((c.tc : Thread Cert.KernelDlh.nD Cert.KernelDlh.τ).loc Cert.KernelDlh.main_arg1) = m ((c.tc : Thread Cert.KernelDlh.nD Cert.KernelDlh.τ).loc Cert.KernelDlh.main_arg1))
      ∧ r.2.sem = fun _ => 0)

def quiescent_KernelDlhIdeal [hKernelDlhIdeal : Cert.KernelDlhIdeal.Facts] : Prop :=
  ∀ (m : (ℓ : Loc Cert.KernelDlhIdeal.nD Cert.KernelDlhIdeal.τ Cert.KernelDlhIdeal.sig) → Buf (Elt Ideal) ℓ) (g : Dev Cert.KernelDlhIdeal.nD → PrngReg), Pre_KernelDlhIdeal m →
    θ_run (Cert.KernelDlhIdeal.defs (F := Ideal)) (onTc (τ := Cert.KernelDlhIdeal.τ) (Cert.KernelDlhIdeal.main (F := Ideal))) ⟨m, fun _ => 0, g⟩ (fun r => (∀ c : Dev Cert.KernelDlhIdeal.nD,
      r.2.mem ((c.tc : Thread Cert.KernelDlhIdeal.nD Cert.KernelDlhIdeal.τ).loc Cert.KernelDlhIdeal.main_arg0) = m ((c.tc : Thread Cert.KernelDlhIdeal.nD Cert.KernelDlhIdeal.τ).loc Cert.KernelDlhIdeal.main_arg0)
      ∧ r.2.mem ((c.tc : Thread Cert.KernelDlhIdeal.nD Cert.KernelDlhIdeal.τ).loc Cert.KernelDlhIdeal.main_arg1) = m ((c.tc : Thread Cert.KernelDlhIdeal.nD Cert.KernelDlhIdeal.τ).loc Cert.KernelDlhIdeal.main_arg1))
      ∧ r.2.sem = fun _ => 0)

def quiescent_ReferenceDlhIdeal [hReferenceDlhIdeal : Cert.ReferenceDlhIdeal.Facts] : Prop :=
  ∀ (m : (ℓ : Loc Cert.ReferenceDlhIdeal.nD Cert.ReferenceDlhIdeal.τ Cert.ReferenceDlhIdeal.sig) → Buf (Elt Ideal) ℓ) (g : Dev Cert.ReferenceDlhIdeal.nD → PrngReg), Pre_ReferenceDlhIdeal m →
    θ_run (Cert.ReferenceDlhIdeal.defs (F := Ideal)) (onTc (τ := Cert.ReferenceDlhIdeal.τ) (Cert.ReferenceDlhIdeal.main (F := Ideal))) ⟨m, fun _ => 0, g⟩ (fun r => (∀ c : Dev Cert.ReferenceDlhIdeal.nD,
      r.2.mem ((c.tc : Thread Cert.ReferenceDlhIdeal.nD Cert.ReferenceDlhIdeal.τ).loc Cert.ReferenceDlhIdeal.main_arg0) = m ((c.tc : Thread Cert.ReferenceDlhIdeal.nD Cert.ReferenceDlhIdeal.τ).loc Cert.ReferenceDlhIdeal.main_arg0)
      ∧ r.2.mem ((c.tc : Thread Cert.ReferenceDlhIdeal.nD Cert.ReferenceDlhIdeal.τ).loc Cert.ReferenceDlhIdeal.main_arg1) = m ((c.tc : Thread Cert.ReferenceDlhIdeal.nD Cert.ReferenceDlhIdeal.τ).loc Cert.ReferenceDlhIdeal.main_arg1))
      ∧ r.2.sem = fun _ => 0)

def quiescent_KernelLout [hKernelLout : Cert.KernelLout.Facts] : Prop :=
  ∀ (m : (ℓ : Loc Cert.KernelLout.nD Cert.KernelLout.τ Cert.KernelLout.sig) → Buf (Elt Bits) ℓ) (g : Dev Cert.KernelLout.nD → PrngReg), Pre_KernelLout m →
    θ_run (Cert.KernelLout.defs (F := Bits)) (onTc (τ := Cert.KernelLout.τ) (Cert.KernelLout.main (F := Bits))) ⟨m, fun _ => 0, g⟩ (fun r => (∀ c : Dev Cert.KernelLout.nD,
      r.2.mem ((c.tc : Thread Cert.KernelLout.nD Cert.KernelLout.τ).loc Cert.KernelLout.main_arg0) = m ((c.tc : Thread Cert.KernelLout.nD Cert.KernelLout.τ).loc Cert.KernelLout.main_arg0)
      ∧ r.2.mem ((c.tc : Thread Cert.KernelLout.nD Cert.KernelLout.τ).loc Cert.KernelLout.main_arg1) = m ((c.tc : Thread Cert.KernelLout.nD Cert.KernelLout.τ).loc Cert.KernelLout.main_arg1))
      ∧ r.2.sem = fun _ => 0)

def quiescent_KernelLoutIdeal [hKernelLoutIdeal : Cert.KernelLoutIdeal.Facts] : Prop :=
  ∀ (m : (ℓ : Loc Cert.KernelLoutIdeal.nD Cert.KernelLoutIdeal.τ Cert.KernelLoutIdeal.sig) → Buf (Elt Ideal) ℓ) (g : Dev Cert.KernelLoutIdeal.nD → PrngReg), Pre_KernelLoutIdeal m →
    θ_run (Cert.KernelLoutIdeal.defs (F := Ideal)) (onTc (τ := Cert.KernelLoutIdeal.τ) (Cert.KernelLoutIdeal.main (F := Ideal))) ⟨m, fun _ => 0, g⟩ (fun r => (∀ c : Dev Cert.KernelLoutIdeal.nD,
      r.2.mem ((c.tc : Thread Cert.KernelLoutIdeal.nD Cert.KernelLoutIdeal.τ).loc Cert.KernelLoutIdeal.main_arg0) = m ((c.tc : Thread Cert.KernelLoutIdeal.nD Cert.KernelLoutIdeal.τ).loc Cert.KernelLoutIdeal.main_arg0)
      ∧ r.2.mem ((c.tc : Thread Cert.KernelLoutIdeal.nD Cert.KernelLoutIdeal.τ).loc Cert.KernelLoutIdeal.main_arg1) = m ((c.tc : Thread Cert.KernelLoutIdeal.nD Cert.KernelLoutIdeal.τ).loc Cert.KernelLoutIdeal.main_arg1))
      ∧ r.2.sem = fun _ => 0)

def quiescent_ReferenceLoutIdeal [hReferenceLoutIdeal : Cert.ReferenceLoutIdeal.Facts] : Prop :=
  ∀ (m : (ℓ : Loc Cert.ReferenceLoutIdeal.nD Cert.ReferenceLoutIdeal.τ Cert.ReferenceLoutIdeal.sig) → Buf (Elt Ideal) ℓ) (g : Dev Cert.ReferenceLoutIdeal.nD → PrngReg), Pre_ReferenceLoutIdeal m →
    θ_run (Cert.ReferenceLoutIdeal.defs (F := Ideal)) (onTc (τ := Cert.ReferenceLoutIdeal.τ) (Cert.ReferenceLoutIdeal.main (F := Ideal))) ⟨m, fun _ => 0, g⟩ (fun r => (∀ c : Dev Cert.ReferenceLoutIdeal.nD,
      r.2.mem ((c.tc : Thread Cert.ReferenceLoutIdeal.nD Cert.ReferenceLoutIdeal.τ).loc Cert.ReferenceLoutIdeal.main_arg0) = m ((c.tc : Thread Cert.ReferenceLoutIdeal.nD Cert.ReferenceLoutIdeal.τ).loc Cert.ReferenceLoutIdeal.main_arg0)
      ∧ r.2.mem ((c.tc : Thread Cert.ReferenceLoutIdeal.nD Cert.ReferenceLoutIdeal.τ).loc Cert.ReferenceLoutIdeal.main_arg1) = m ((c.tc : Thread Cert.ReferenceLoutIdeal.nD Cert.ReferenceLoutIdeal.τ).loc Cert.ReferenceLoutIdeal.main_arg1))
      ∧ r.2.sem = fun _ => 0)

def quiescent_KernelDlwout [hKernelDlwout : Cert.KernelDlwout.Facts] : Prop :=
  ∀ (m : (ℓ : Loc Cert.KernelDlwout.nD Cert.KernelDlwout.τ Cert.KernelDlwout.sig) → Buf (Elt Bits) ℓ) (g : Dev Cert.KernelDlwout.nD → PrngReg), Pre_KernelDlwout m →
    θ_run (Cert.KernelDlwout.defs (F := Bits)) (onTc (τ := Cert.KernelDlwout.τ) (Cert.KernelDlwout.main (F := Bits))) ⟨m, fun _ => 0, g⟩ (fun r => (∀ c : Dev Cert.KernelDlwout.nD,
      r.2.mem ((c.tc : Thread Cert.KernelDlwout.nD Cert.KernelDlwout.τ).loc Cert.KernelDlwout.main_arg0) = m ((c.tc : Thread Cert.KernelDlwout.nD Cert.KernelDlwout.τ).loc Cert.KernelDlwout.main_arg0)
      ∧ r.2.mem ((c.tc : Thread Cert.KernelDlwout.nD Cert.KernelDlwout.τ).loc Cert.KernelDlwout.main_arg1) = m ((c.tc : Thread Cert.KernelDlwout.nD Cert.KernelDlwout.τ).loc Cert.KernelDlwout.main_arg1))
      ∧ r.2.sem = fun _ => 0)

def quiescent_KernelDlwoutIdeal [hKernelDlwoutIdeal : Cert.KernelDlwoutIdeal.Facts] : Prop :=
  ∀ (m : (ℓ : Loc Cert.KernelDlwoutIdeal.nD Cert.KernelDlwoutIdeal.τ Cert.KernelDlwoutIdeal.sig) → Buf (Elt Ideal) ℓ) (g : Dev Cert.KernelDlwoutIdeal.nD → PrngReg), Pre_KernelDlwoutIdeal m →
    θ_run (Cert.KernelDlwoutIdeal.defs (F := Ideal)) (onTc (τ := Cert.KernelDlwoutIdeal.τ) (Cert.KernelDlwoutIdeal.main (F := Ideal))) ⟨m, fun _ => 0, g⟩ (fun r => (∀ c : Dev Cert.KernelDlwoutIdeal.nD,
      r.2.mem ((c.tc : Thread Cert.KernelDlwoutIdeal.nD Cert.KernelDlwoutIdeal.τ).loc Cert.KernelDlwoutIdeal.main_arg0) = m ((c.tc : Thread Cert.KernelDlwoutIdeal.nD Cert.KernelDlwoutIdeal.τ).loc Cert.KernelDlwoutIdeal.main_arg0)
      ∧ r.2.mem ((c.tc : Thread Cert.KernelDlwoutIdeal.nD Cert.KernelDlwoutIdeal.τ).loc Cert.KernelDlwoutIdeal.main_arg1) = m ((c.tc : Thread Cert.KernelDlwoutIdeal.nD Cert.KernelDlwoutIdeal.τ).loc Cert.KernelDlwoutIdeal.main_arg1))
      ∧ r.2.sem = fun _ => 0)

def quiescent_ReferenceDlwoutIdeal [hReferenceDlwoutIdeal : Cert.ReferenceDlwoutIdeal.Facts] : Prop :=
  ∀ (m : (ℓ : Loc Cert.ReferenceDlwoutIdeal.nD Cert.ReferenceDlwoutIdeal.τ Cert.ReferenceDlwoutIdeal.sig) → Buf (Elt Ideal) ℓ) (g : Dev Cert.ReferenceDlwoutIdeal.nD → PrngReg), Pre_ReferenceDlwoutIdeal m →
    θ_run (Cert.ReferenceDlwoutIdeal.defs (F := Ideal)) (onTc (τ := Cert.ReferenceDlwoutIdeal.τ) (Cert.ReferenceDlwoutIdeal.main (F := Ideal))) ⟨m, fun _ => 0, g⟩ (fun r => (∀ c : Dev Cert.ReferenceDlwoutIdeal.nD,
      r.2.mem ((c.tc : Thread Cert.ReferenceDlwoutIdeal.nD Cert.ReferenceDlwoutIdeal.τ).loc Cert.ReferenceDlwoutIdeal.main_arg0) = m ((c.tc : Thread Cert.ReferenceDlwoutIdeal.nD Cert.ReferenceDlwoutIdeal.τ).loc Cert.ReferenceDlwoutIdeal.main_arg0)
      ∧ r.2.mem ((c.tc : Thread Cert.ReferenceDlwoutIdeal.nD Cert.ReferenceDlwoutIdeal.τ).loc Cert.ReferenceDlwoutIdeal.main_arg1) = m ((c.tc : Thread Cert.ReferenceDlwoutIdeal.nD Cert.ReferenceDlwoutIdeal.τ).loc Cert.ReferenceDlwoutIdeal.main_arg1))
      ∧ r.2.sem = fun _ => 0)

def quiescent_KernelDmix [hKernelDmix : Cert.KernelDmix.Facts] : Prop :=
  ∀ (m : (ℓ : Loc Cert.KernelDmix.nD Cert.KernelDmix.τ Cert.KernelDmix.sig) → Buf (Elt Bits) ℓ) (g : Dev Cert.KernelDmix.nD → PrngReg), Pre_KernelDmix m →
    θ_run (Cert.KernelDmix.defs (F := Bits)) (onTc (τ := Cert.KernelDmix.τ) (Cert.KernelDmix.main (F := Bits))) ⟨m, fun _ => 0, g⟩ (fun r => (∀ c : Dev Cert.KernelDmix.nD,
      r.2.mem ((c.tc : Thread Cert.KernelDmix.nD Cert.KernelDmix.τ).loc Cert.KernelDmix.main_arg0) = m ((c.tc : Thread Cert.KernelDmix.nD Cert.KernelDmix.τ).loc Cert.KernelDmix.main_arg0)
      ∧ r.2.mem ((c.tc : Thread Cert.KernelDmix.nD Cert.KernelDmix.τ).loc Cert.KernelDmix.main_arg1) = m ((c.tc : Thread Cert.KernelDmix.nD Cert.KernelDmix.τ).loc Cert.KernelDmix.main_arg1))
      ∧ r.2.sem = fun _ => 0)

def quiescent_KernelDmixIdeal [hKernelDmixIdeal : Cert.KernelDmixIdeal.Facts] : Prop :=
  ∀ (m : (ℓ : Loc Cert.KernelDmixIdeal.nD Cert.KernelDmixIdeal.τ Cert.KernelDmixIdeal.sig) → Buf (Elt Ideal) ℓ) (g : Dev Cert.KernelDmixIdeal.nD → PrngReg), Pre_KernelDmixIdeal m →
    θ_run (Cert.KernelDmixIdeal.defs (F := Ideal)) (onTc (τ := Cert.KernelDmixIdeal.τ) (Cert.KernelDmixIdeal.main (F := Ideal))) ⟨m, fun _ => 0, g⟩ (fun r => (∀ c : Dev Cert.KernelDmixIdeal.nD,
      r.2.mem ((c.tc : Thread Cert.KernelDmixIdeal.nD Cert.KernelDmixIdeal.τ).loc Cert.KernelDmixIdeal.main_arg0) = m ((c.tc : Thread Cert.KernelDmixIdeal.nD Cert.KernelDmixIdeal.τ).loc Cert.KernelDmixIdeal.main_arg0)
      ∧ r.2.mem ((c.tc : Thread Cert.KernelDmixIdeal.nD Cert.KernelDmixIdeal.τ).loc Cert.KernelDmixIdeal.main_arg1) = m ((c.tc : Thread Cert.KernelDmixIdeal.nD Cert.KernelDmixIdeal.τ).loc Cert.KernelDmixIdeal.main_arg1))
      ∧ r.2.sem = fun _ => 0)

def quiescent_ReferenceDmixIdeal [hReferenceDmixIdeal : Cert.ReferenceDmixIdeal.Facts] : Prop :=
  ∀ (m : (ℓ : Loc Cert.ReferenceDmixIdeal.nD Cert.ReferenceDmixIdeal.τ Cert.ReferenceDmixIdeal.sig) → Buf (Elt Ideal) ℓ) (g : Dev Cert.ReferenceDmixIdeal.nD → PrngReg), Pre_ReferenceDmixIdeal m →
    θ_run (Cert.ReferenceDmixIdeal.defs (F := Ideal)) (onTc (τ := Cert.ReferenceDmixIdeal.τ) (Cert.ReferenceDmixIdeal.main (F := Ideal))) ⟨m, fun _ => 0, g⟩ (fun r => (∀ c : Dev Cert.ReferenceDmixIdeal.nD,
      r.2.mem ((c.tc : Thread Cert.ReferenceDmixIdeal.nD Cert.ReferenceDmixIdeal.τ).loc Cert.ReferenceDmixIdeal.main_arg0) = m ((c.tc : Thread Cert.ReferenceDmixIdeal.nD Cert.ReferenceDmixIdeal.τ).loc Cert.ReferenceDmixIdeal.main_arg0)
      ∧ r.2.mem ((c.tc : Thread Cert.ReferenceDmixIdeal.nD Cert.ReferenceDmixIdeal.τ).loc Cert.ReferenceDmixIdeal.main_arg1) = m ((c.tc : Thread Cert.ReferenceDmixIdeal.nD Cert.ReferenceDmixIdeal.τ).loc Cert.ReferenceDmixIdeal.main_arg1))
      ∧ r.2.sem = fun _ => 0)

def quiescent_KernelDln [hKernelDln : Cert.KernelDln.Facts] : Prop :=
  ∀ (m : (ℓ : Loc Cert.KernelDln.nD Cert.KernelDln.τ Cert.KernelDln.sig) → Buf (Elt Bits) ℓ) (g : Dev Cert.KernelDln.nD → PrngReg), Pre_KernelDln m →
    θ_run (Cert.KernelDln.defs (F := Bits)) (onTc (τ := Cert.KernelDln.τ) (Cert.KernelDln.main (F := Bits))) ⟨m, fun _ => 0, g⟩ (fun r => (∀ c : Dev Cert.KernelDln.nD,
      r.2.mem ((c.tc : Thread Cert.KernelDln.nD Cert.KernelDln.τ).loc Cert.KernelDln.main_arg0) = m ((c.tc : Thread Cert.KernelDln.nD Cert.KernelDln.τ).loc Cert.KernelDln.main_arg0)
      ∧ r.2.mem ((c.tc : Thread Cert.KernelDln.nD Cert.KernelDln.τ).loc Cert.KernelDln.main_arg1) = m ((c.tc : Thread Cert.KernelDln.nD Cert.KernelDln.τ).loc Cert.KernelDln.main_arg1)
      ∧ r.2.mem ((c.tc : Thread Cert.KernelDln.nD Cert.KernelDln.τ).loc Cert.KernelDln.main_arg2) = m ((c.tc : Thread Cert.KernelDln.nD Cert.KernelDln.τ).loc Cert.KernelDln.main_arg2)
      ∧ r.2.mem ((c.tc : Thread Cert.KernelDln.nD Cert.KernelDln.τ).loc Cert.KernelDln.main_arg3) = m ((c.tc : Thread Cert.KernelDln.nD Cert.KernelDln.τ).loc Cert.KernelDln.main_arg3)
      ∧ r.2.mem ((c.tc : Thread Cert.KernelDln.nD Cert.KernelDln.τ).loc Cert.KernelDln.main_arg4) = m ((c.tc : Thread Cert.KernelDln.nD Cert.KernelDln.τ).loc Cert.KernelDln.main_arg4)
      ∧ r.2.mem ((c.tc : Thread Cert.KernelDln.nD Cert.KernelDln.τ).loc Cert.KernelDln.main_arg5) = m ((c.tc : Thread Cert.KernelDln.nD Cert.KernelDln.τ).loc Cert.KernelDln.main_arg5))
      ∧ r.2.sem = fun _ => 0)

def quiescent_KernelDlnIdeal [hKernelDlnIdeal : Cert.KernelDlnIdeal.Facts] : Prop :=
  ∀ (m : (ℓ : Loc Cert.KernelDlnIdeal.nD Cert.KernelDlnIdeal.τ Cert.KernelDlnIdeal.sig) → Buf (Elt Ideal) ℓ) (g : Dev Cert.KernelDlnIdeal.nD → PrngReg), Pre_KernelDlnIdeal m →
    θ_run (Cert.KernelDlnIdeal.defs (F := Ideal)) (onTc (τ := Cert.KernelDlnIdeal.τ) (Cert.KernelDlnIdeal.main (F := Ideal))) ⟨m, fun _ => 0, g⟩ (fun r => (∀ c : Dev Cert.KernelDlnIdeal.nD,
      r.2.mem ((c.tc : Thread Cert.KernelDlnIdeal.nD Cert.KernelDlnIdeal.τ).loc Cert.KernelDlnIdeal.main_arg0) = m ((c.tc : Thread Cert.KernelDlnIdeal.nD Cert.KernelDlnIdeal.τ).loc Cert.KernelDlnIdeal.main_arg0)
      ∧ r.2.mem ((c.tc : Thread Cert.KernelDlnIdeal.nD Cert.KernelDlnIdeal.τ).loc Cert.KernelDlnIdeal.main_arg1) = m ((c.tc : Thread Cert.KernelDlnIdeal.nD Cert.KernelDlnIdeal.τ).loc Cert.KernelDlnIdeal.main_arg1)
      ∧ r.2.mem ((c.tc : Thread Cert.KernelDlnIdeal.nD Cert.KernelDlnIdeal.τ).loc Cert.KernelDlnIdeal.main_arg2) = m ((c.tc : Thread Cert.KernelDlnIdeal.nD Cert.KernelDlnIdeal.τ).loc Cert.KernelDlnIdeal.main_arg2)
      ∧ r.2.mem ((c.tc : Thread Cert.KernelDlnIdeal.nD Cert.KernelDlnIdeal.τ).loc Cert.KernelDlnIdeal.main_arg3) = m ((c.tc : Thread Cert.KernelDlnIdeal.nD Cert.KernelDlnIdeal.τ).loc Cert.KernelDlnIdeal.main_arg3)
      ∧ r.2.mem ((c.tc : Thread Cert.KernelDlnIdeal.nD Cert.KernelDlnIdeal.τ).loc Cert.KernelDlnIdeal.main_arg4) = m ((c.tc : Thread Cert.KernelDlnIdeal.nD Cert.KernelDlnIdeal.τ).loc Cert.KernelDlnIdeal.main_arg4)
      ∧ r.2.mem ((c.tc : Thread Cert.KernelDlnIdeal.nD Cert.KernelDlnIdeal.τ).loc Cert.KernelDlnIdeal.main_arg5) = m ((c.tc : Thread Cert.KernelDlnIdeal.nD Cert.KernelDlnIdeal.τ).loc Cert.KernelDlnIdeal.main_arg5))
      ∧ r.2.sem = fun _ => 0)

def quiescent_KernelDlnIdeal_pre_finite_grad [hKernelDlnIdeal : Cert.KernelDlnIdeal.Facts] [hPre_finite_grad : Cert.Pre_finite_grad.Facts] : Prop :=
  ∀ (m : (ℓ : Loc Cert.KernelDlnIdeal.nD Cert.KernelDlnIdeal.τ Cert.KernelDlnIdeal.sig) → Buf (Elt Ideal) ℓ) (g : Dev Cert.KernelDlnIdeal.nD → PrngReg), Pre_KernelDlnIdeal_finite_grad m →
    θ_run (Cert.KernelDlnIdeal.defs (F := Ideal)) (onTc (τ := Cert.KernelDlnIdeal.τ) (Cert.KernelDlnIdeal.main (F := Ideal))) ⟨m, fun _ => 0, g⟩ (fun r => (∀ c : Dev Cert.KernelDlnIdeal.nD,
      r.2.mem ((c.tc : Thread Cert.KernelDlnIdeal.nD Cert.KernelDlnIdeal.τ).loc Cert.KernelDlnIdeal.main_arg0) = m ((c.tc : Thread Cert.KernelDlnIdeal.nD Cert.KernelDlnIdeal.τ).loc Cert.KernelDlnIdeal.main_arg0)
      ∧ r.2.mem ((c.tc : Thread Cert.KernelDlnIdeal.nD Cert.KernelDlnIdeal.τ).loc Cert.KernelDlnIdeal.main_arg1) = m ((c.tc : Thread Cert.KernelDlnIdeal.nD Cert.KernelDlnIdeal.τ).loc Cert.KernelDlnIdeal.main_arg1)
      ∧ r.2.mem ((c.tc : Thread Cert.KernelDlnIdeal.nD Cert.KernelDlnIdeal.τ).loc Cert.KernelDlnIdeal.main_arg2) = m ((c.tc : Thread Cert.KernelDlnIdeal.nD Cert.KernelDlnIdeal.τ).loc Cert.KernelDlnIdeal.main_arg2)
      ∧ r.2.mem ((c.tc : Thread Cert.KernelDlnIdeal.nD Cert.KernelDlnIdeal.τ).loc Cert.KernelDlnIdeal.main_arg3) = m ((c.tc : Thread Cert.KernelDlnIdeal.nD Cert.KernelDlnIdeal.τ).loc Cert.KernelDlnIdeal.main_arg3)
      ∧ r.2.mem ((c.tc : Thread Cert.KernelDlnIdeal.nD Cert.KernelDlnIdeal.τ).loc Cert.KernelDlnIdeal.main_arg4) = m ((c.tc : Thread Cert.KernelDlnIdeal.nD Cert.KernelDlnIdeal.τ).loc Cert.KernelDlnIdeal.main_arg4)
      ∧ r.2.mem ((c.tc : Thread Cert.KernelDlnIdeal.nD Cert.KernelDlnIdeal.τ).loc Cert.KernelDlnIdeal.main_arg5) = m ((c.tc : Thread Cert.KernelDlnIdeal.nD Cert.KernelDlnIdeal.τ).loc Cert.KernelDlnIdeal.main_arg5))
      ∧ r.2.sem = fun _ => 0)

def quiescent_ReferenceDlnIdeal [hReferenceDlnIdeal : Cert.ReferenceDlnIdeal.Facts] : Prop :=
  ∀ (m : (ℓ : Loc Cert.ReferenceDlnIdeal.nD Cert.ReferenceDlnIdeal.τ Cert.ReferenceDlnIdeal.sig) → Buf (Elt Ideal) ℓ) (g : Dev Cert.ReferenceDlnIdeal.nD → PrngReg), Pre_ReferenceDlnIdeal m →
    θ_run (Cert.ReferenceDlnIdeal.defs (F := Ideal)) (onTc (τ := Cert.ReferenceDlnIdeal.τ) (Cert.ReferenceDlnIdeal.main (F := Ideal))) ⟨m, fun _ => 0, g⟩ (fun r => (∀ c : Dev Cert.ReferenceDlnIdeal.nD,
      r.2.mem ((c.tc : Thread Cert.ReferenceDlnIdeal.nD Cert.ReferenceDlnIdeal.τ).loc Cert.ReferenceDlnIdeal.main_arg0) = m ((c.tc : Thread Cert.ReferenceDlnIdeal.nD Cert.ReferenceDlnIdeal.τ).loc Cert.ReferenceDlnIdeal.main_arg0)
      ∧ r.2.mem ((c.tc : Thread Cert.ReferenceDlnIdeal.nD Cert.ReferenceDlnIdeal.τ).loc Cert.ReferenceDlnIdeal.main_arg1) = m ((c.tc : Thread Cert.ReferenceDlnIdeal.nD Cert.ReferenceDlnIdeal.τ).loc Cert.ReferenceDlnIdeal.main_arg1)
      ∧ r.2.mem ((c.tc : Thread Cert.ReferenceDlnIdeal.nD Cert.ReferenceDlnIdeal.τ).loc Cert.ReferenceDlnIdeal.main_arg2) = m ((c.tc : Thread Cert.ReferenceDlnIdeal.nD Cert.ReferenceDlnIdeal.τ).loc Cert.ReferenceDlnIdeal.main_arg2)
      ∧ r.2.mem ((c.tc : Thread Cert.ReferenceDlnIdeal.nD Cert.ReferenceDlnIdeal.τ).loc Cert.ReferenceDlnIdeal.main_arg3) = m ((c.tc : Thread Cert.ReferenceDlnIdeal.nD Cert.ReferenceDlnIdeal.τ).loc Cert.ReferenceDlnIdeal.main_arg3)
      ∧ r.2.mem ((c.tc : Thread Cert.ReferenceDlnIdeal.nD Cert.ReferenceDlnIdeal.τ).loc Cert.ReferenceDlnIdeal.main_arg4) = m ((c.tc : Thread Cert.ReferenceDlnIdeal.nD Cert.ReferenceDlnIdeal.τ).loc Cert.ReferenceDlnIdeal.main_arg4)
      ∧ r.2.mem ((c.tc : Thread Cert.ReferenceDlnIdeal.nD Cert.ReferenceDlnIdeal.τ).loc Cert.ReferenceDlnIdeal.main_arg5) = m ((c.tc : Thread Cert.ReferenceDlnIdeal.nD Cert.ReferenceDlnIdeal.τ).loc Cert.ReferenceDlnIdeal.main_arg5))
      ∧ r.2.sem = fun _ => 0)

def quiescent_ReferenceDlnIdeal_pre_finite_grad [hReferenceDlnIdeal : Cert.ReferenceDlnIdeal.Facts] [hPre_finite_grad : Cert.Pre_finite_grad.Facts] : Prop :=
  ∀ (m : (ℓ : Loc Cert.ReferenceDlnIdeal.nD Cert.ReferenceDlnIdeal.τ Cert.ReferenceDlnIdeal.sig) → Buf (Elt Ideal) ℓ) (g : Dev Cert.ReferenceDlnIdeal.nD → PrngReg), Pre_ReferenceDlnIdeal_finite_grad m →
    θ_run (Cert.ReferenceDlnIdeal.defs (F := Ideal)) (onTc (τ := Cert.ReferenceDlnIdeal.τ) (Cert.ReferenceDlnIdeal.main (F := Ideal))) ⟨m, fun _ => 0, g⟩ (fun r => (∀ c : Dev Cert.ReferenceDlnIdeal.nD,
      r.2.mem ((c.tc : Thread Cert.ReferenceDlnIdeal.nD Cert.ReferenceDlnIdeal.τ).loc Cert.ReferenceDlnIdeal.main_arg0) = m ((c.tc : Thread Cert.ReferenceDlnIdeal.nD Cert.ReferenceDlnIdeal.τ).loc Cert.ReferenceDlnIdeal.main_arg0)
      ∧ r.2.mem ((c.tc : Thread Cert.ReferenceDlnIdeal.nD Cert.ReferenceDlnIdeal.τ).loc Cert.ReferenceDlnIdeal.main_arg1) = m ((c.tc : Thread Cert.ReferenceDlnIdeal.nD Cert.ReferenceDlnIdeal.τ).loc Cert.ReferenceDlnIdeal.main_arg1)
      ∧ r.2.mem ((c.tc : Thread Cert.ReferenceDlnIdeal.nD Cert.ReferenceDlnIdeal.τ).loc Cert.ReferenceDlnIdeal.main_arg2) = m ((c.tc : Thread Cert.ReferenceDlnIdeal.nD Cert.ReferenceDlnIdeal.τ).loc Cert.ReferenceDlnIdeal.main_arg2)
      ∧ r.2.mem ((c.tc : Thread Cert.ReferenceDlnIdeal.nD Cert.ReferenceDlnIdeal.τ).loc Cert.ReferenceDlnIdeal.main_arg3) = m ((c.tc : Thread Cert.ReferenceDlnIdeal.nD Cert.ReferenceDlnIdeal.τ).loc Cert.ReferenceDlnIdeal.main_arg3)
      ∧ r.2.mem ((c.tc : Thread Cert.ReferenceDlnIdeal.nD Cert.ReferenceDlnIdeal.τ).loc Cert.ReferenceDlnIdeal.main_arg4) = m ((c.tc : Thread Cert.ReferenceDlnIdeal.nD Cert.ReferenceDlnIdeal.τ).loc Cert.ReferenceDlnIdeal.main_arg4)
      ∧ r.2.mem ((c.tc : Thread Cert.ReferenceDlnIdeal.nD Cert.ReferenceDlnIdeal.τ).loc Cert.ReferenceDlnIdeal.main_arg5) = m ((c.tc : Thread Cert.ReferenceDlnIdeal.nD Cert.ReferenceDlnIdeal.τ).loc Cert.ReferenceDlnIdeal.main_arg5))
      ∧ r.2.sem = fun _ => 0)

def quiescent_KernelLn [hKernelLn : Cert.KernelLn.Facts] : Prop :=
  ∀ (m : (ℓ : Loc Cert.KernelLn.nD Cert.KernelLn.τ Cert.KernelLn.sig) → Buf (Elt Bits) ℓ) (g : Dev Cert.KernelLn.nD → PrngReg), Pre_KernelLn m →
    θ_run (Cert.KernelLn.defs (F := Bits)) (onTc (τ := Cert.KernelLn.τ) (Cert.KernelLn.main (F := Bits))) ⟨m, fun _ => 0, g⟩ (fun r => (∀ c : Dev Cert.KernelLn.nD,
      r.2.mem ((c.tc : Thread Cert.KernelLn.nD Cert.KernelLn.τ).loc Cert.KernelLn.main_arg0) = m ((c.tc : Thread Cert.KernelLn.nD Cert.KernelLn.τ).loc Cert.KernelLn.main_arg0)
      ∧ r.2.mem ((c.tc : Thread Cert.KernelLn.nD Cert.KernelLn.τ).loc Cert.KernelLn.main_arg1) = m ((c.tc : Thread Cert.KernelLn.nD Cert.KernelLn.τ).loc Cert.KernelLn.main_arg1)
      ∧ r.2.mem ((c.tc : Thread Cert.KernelLn.nD Cert.KernelLn.τ).loc Cert.KernelLn.main_arg2) = m ((c.tc : Thread Cert.KernelLn.nD Cert.KernelLn.τ).loc Cert.KernelLn.main_arg2)
      ∧ r.2.mem ((c.tc : Thread Cert.KernelLn.nD Cert.KernelLn.τ).loc Cert.KernelLn.main_arg3) = m ((c.tc : Thread Cert.KernelLn.nD Cert.KernelLn.τ).loc Cert.KernelLn.main_arg3))
      ∧ r.2.sem = fun _ => 0)

def quiescent_KernelLnIdeal [hKernelLnIdeal : Cert.KernelLnIdeal.Facts] : Prop :=
  ∀ (m : (ℓ : Loc Cert.KernelLnIdeal.nD Cert.KernelLnIdeal.τ Cert.KernelLnIdeal.sig) → Buf (Elt Ideal) ℓ) (g : Dev Cert.KernelLnIdeal.nD → PrngReg), Pre_KernelLnIdeal m →
    θ_run (Cert.KernelLnIdeal.defs (F := Ideal)) (onTc (τ := Cert.KernelLnIdeal.τ) (Cert.KernelLnIdeal.main (F := Ideal))) ⟨m, fun _ => 0, g⟩ (fun r => (∀ c : Dev Cert.KernelLnIdeal.nD,
      r.2.mem ((c.tc : Thread Cert.KernelLnIdeal.nD Cert.KernelLnIdeal.τ).loc Cert.KernelLnIdeal.main_arg0) = m ((c.tc : Thread Cert.KernelLnIdeal.nD Cert.KernelLnIdeal.τ).loc Cert.KernelLnIdeal.main_arg0)
      ∧ r.2.mem ((c.tc : Thread Cert.KernelLnIdeal.nD Cert.KernelLnIdeal.τ).loc Cert.KernelLnIdeal.main_arg1) = m ((c.tc : Thread Cert.KernelLnIdeal.nD Cert.KernelLnIdeal.τ).loc Cert.KernelLnIdeal.main_arg1)
      ∧ r.2.mem ((c.tc : Thread Cert.KernelLnIdeal.nD Cert.KernelLnIdeal.τ).loc Cert.KernelLnIdeal.main_arg2) = m ((c.tc : Thread Cert.KernelLnIdeal.nD Cert.KernelLnIdeal.τ).loc Cert.KernelLnIdeal.main_arg2)
      ∧ r.2.mem ((c.tc : Thread Cert.KernelLnIdeal.nD Cert.KernelLnIdeal.τ).loc Cert.KernelLnIdeal.main_arg3) = m ((c.tc : Thread Cert.KernelLnIdeal.nD Cert.KernelLnIdeal.τ).loc Cert.KernelLnIdeal.main_arg3))
      ∧ r.2.sem = fun _ => 0)

def quiescent_ReferenceLnIdeal [hReferenceLnIdeal : Cert.ReferenceLnIdeal.Facts] : Prop :=
  ∀ (m : (ℓ : Loc Cert.ReferenceLnIdeal.nD Cert.ReferenceLnIdeal.τ Cert.ReferenceLnIdeal.sig) → Buf (Elt Ideal) ℓ) (g : Dev Cert.ReferenceLnIdeal.nD → PrngReg), Pre_ReferenceLnIdeal m →
    θ_run (Cert.ReferenceLnIdeal.defs (F := Ideal)) (onTc (τ := Cert.ReferenceLnIdeal.τ) (Cert.ReferenceLnIdeal.main (F := Ideal))) ⟨m, fun _ => 0, g⟩ (fun r => (∀ c : Dev Cert.ReferenceLnIdeal.nD,
      r.2.mem ((c.tc : Thread Cert.ReferenceLnIdeal.nD Cert.ReferenceLnIdeal.τ).loc Cert.ReferenceLnIdeal.main_arg0) = m ((c.tc : Thread Cert.ReferenceLnIdeal.nD Cert.ReferenceLnIdeal.τ).loc Cert.ReferenceLnIdeal.main_arg0)
      ∧ r.2.mem ((c.tc : Thread Cert.ReferenceLnIdeal.nD Cert.ReferenceLnIdeal.τ).loc Cert.ReferenceLnIdeal.main_arg1) = m ((c.tc : Thread Cert.ReferenceLnIdeal.nD Cert.ReferenceLnIdeal.τ).loc Cert.ReferenceLnIdeal.main_arg1)
      ∧ r.2.mem ((c.tc : Thread Cert.ReferenceLnIdeal.nD Cert.ReferenceLnIdeal.τ).loc Cert.ReferenceLnIdeal.main_arg2) = m ((c.tc : Thread Cert.ReferenceLnIdeal.nD Cert.ReferenceLnIdeal.τ).loc Cert.ReferenceLnIdeal.main_arg2)
      ∧ r.2.mem ((c.tc : Thread Cert.ReferenceLnIdeal.nD Cert.ReferenceLnIdeal.τ).loc Cert.ReferenceLnIdeal.main_arg3) = m ((c.tc : Thread Cert.ReferenceLnIdeal.nD Cert.ReferenceLnIdeal.τ).loc Cert.ReferenceLnIdeal.main_arg3))
      ∧ r.2.sem = fun _ => 0)

def quiescent_KernelAct [hKernelAct : Cert.KernelAct.Facts] : Prop :=
  ∀ (m : (ℓ : Loc Cert.KernelAct.nD Cert.KernelAct.τ Cert.KernelAct.sig) → Buf (Elt Bits) ℓ) (g : Dev Cert.KernelAct.nD → PrngReg), Pre_KernelAct m →
    θ_run (Cert.KernelAct.defs (F := Bits)) (onTc (τ := Cert.KernelAct.τ) (Cert.KernelAct.main (F := Bits))) ⟨m, fun _ => 0, g⟩ (fun r => (∀ c : Dev Cert.KernelAct.nD,
      r.2.mem ((c.tc : Thread Cert.KernelAct.nD Cert.KernelAct.τ).loc Cert.KernelAct.main_arg0) = m ((c.tc : Thread Cert.KernelAct.nD Cert.KernelAct.τ).loc Cert.KernelAct.main_arg0))
      ∧ r.2.sem = fun _ => 0)

def quiescent_KernelActIdeal [hKernelActIdeal : Cert.KernelActIdeal.Facts] : Prop :=
  ∀ (m : (ℓ : Loc Cert.KernelActIdeal.nD Cert.KernelActIdeal.τ Cert.KernelActIdeal.sig) → Buf (Elt Ideal) ℓ) (g : Dev Cert.KernelActIdeal.nD → PrngReg), Pre_KernelActIdeal m →
    θ_run (Cert.KernelActIdeal.defs (F := Ideal)) (onTc (τ := Cert.KernelActIdeal.τ) (Cert.KernelActIdeal.main (F := Ideal))) ⟨m, fun _ => 0, g⟩ (fun r => (∀ c : Dev Cert.KernelActIdeal.nD,
      r.2.mem ((c.tc : Thread Cert.KernelActIdeal.nD Cert.KernelActIdeal.τ).loc Cert.KernelActIdeal.main_arg0) = m ((c.tc : Thread Cert.KernelActIdeal.nD Cert.KernelActIdeal.τ).loc Cert.KernelActIdeal.main_arg0))
      ∧ r.2.sem = fun _ => 0)

def quiescent_ReferenceActIdeal [hReferenceActIdeal : Cert.ReferenceActIdeal.Facts] : Prop :=
  ∀ (m : (ℓ : Loc Cert.ReferenceActIdeal.nD Cert.ReferenceActIdeal.τ Cert.ReferenceActIdeal.sig) → Buf (Elt Ideal) ℓ) (g : Dev Cert.ReferenceActIdeal.nD → PrngReg), Pre_ReferenceActIdeal m →
    θ_run (Cert.ReferenceActIdeal.defs (F := Ideal)) (onTc (τ := Cert.ReferenceActIdeal.τ) (Cert.ReferenceActIdeal.main (F := Ideal))) ⟨m, fun _ => 0, g⟩ (fun r => (∀ c : Dev Cert.ReferenceActIdeal.nD,
      r.2.mem ((c.tc : Thread Cert.ReferenceActIdeal.nD Cert.ReferenceActIdeal.τ).loc Cert.ReferenceActIdeal.main_arg0) = m ((c.tc : Thread Cert.ReferenceActIdeal.nD Cert.ReferenceActIdeal.τ).loc Cert.ReferenceActIdeal.main_arg0))
      ∧ r.2.sem = fun _ => 0)

def quiescent_KernelOptgu [hKernelOptgu : Cert.KernelOptgu.Facts] : Prop :=
  ∀ (m : (ℓ : Loc Cert.KernelOptgu.nD Cert.KernelOptgu.τ Cert.KernelOptgu.sig) → Buf (Elt Bits) ℓ) (g : Dev Cert.KernelOptgu.nD → PrngReg), Pre_KernelOptgu m →
    θ_run (Cert.KernelOptgu.defs (F := Bits)) (onTc (τ := Cert.KernelOptgu.τ) (Cert.KernelOptgu.main (F := Bits))) ⟨m, fun _ => 0, g⟩ (fun r => (∀ c : Dev Cert.KernelOptgu.nD,
      r.2.mem ((c.tc : Thread Cert.KernelOptgu.nD Cert.KernelOptgu.τ).loc Cert.KernelOptgu.main_arg0) = m ((c.tc : Thread Cert.KernelOptgu.nD Cert.KernelOptgu.τ).loc Cert.KernelOptgu.main_arg0)
      ∧ r.2.mem ((c.tc : Thread Cert.KernelOptgu.nD Cert.KernelOptgu.τ).loc Cert.KernelOptgu.main_arg1) = m ((c.tc : Thread Cert.KernelOptgu.nD Cert.KernelOptgu.τ).loc Cert.KernelOptgu.main_arg1)
      ∧ r.2.mem ((c.tc : Thread Cert.KernelOptgu.nD Cert.KernelOptgu.τ).loc Cert.KernelOptgu.main_arg2) = m ((c.tc : Thread Cert.KernelOptgu.nD Cert.KernelOptgu.τ).loc Cert.KernelOptgu.main_arg2)
      ∧ r.2.mem ((c.tc : Thread Cert.KernelOptgu.nD Cert.KernelOptgu.τ).loc Cert.KernelOptgu.main_arg3) = m ((c.tc : Thread Cert.KernelOptgu.nD Cert.KernelOptgu.τ).loc Cert.KernelOptgu.main_arg3)
      ∧ r.2.mem ((c.tc : Thread Cert.KernelOptgu.nD Cert.KernelOptgu.τ).loc Cert.KernelOptgu.main_arg4) = m ((c.tc : Thread Cert.KernelOptgu.nD Cert.KernelOptgu.τ).loc Cert.KernelOptgu.main_arg4))
      ∧ r.2.sem = fun _ => 0)

def quiescent_KernelOptguIdeal [hKernelOptguIdeal : Cert.KernelOptguIdeal.Facts] : Prop :=
  ∀ (m : (ℓ : Loc Cert.KernelOptguIdeal.nD Cert.KernelOptguIdeal.τ Cert.KernelOptguIdeal.sig) → Buf (Elt Ideal) ℓ) (g : Dev Cert.KernelOptguIdeal.nD → PrngReg), Pre_KernelOptguIdeal m →
    θ_run (Cert.KernelOptguIdeal.defs (F := Ideal)) (onTc (τ := Cert.KernelOptguIdeal.τ) (Cert.KernelOptguIdeal.main (F := Ideal))) ⟨m, fun _ => 0, g⟩ (fun r => (∀ c : Dev Cert.KernelOptguIdeal.nD,
      r.2.mem ((c.tc : Thread Cert.KernelOptguIdeal.nD Cert.KernelOptguIdeal.τ).loc Cert.KernelOptguIdeal.main_arg0) = m ((c.tc : Thread Cert.KernelOptguIdeal.nD Cert.KernelOptguIdeal.τ).loc Cert.KernelOptguIdeal.main_arg0)
      ∧ r.2.mem ((c.tc : Thread Cert.KernelOptguIdeal.nD Cert.KernelOptguIdeal.τ).loc Cert.KernelOptguIdeal.main_arg1) = m ((c.tc : Thread Cert.KernelOptguIdeal.nD Cert.KernelOptguIdeal.τ).loc Cert.KernelOptguIdeal.main_arg1)
      ∧ r.2.mem ((c.tc : Thread Cert.KernelOptguIdeal.nD Cert.KernelOptguIdeal.τ).loc Cert.KernelOptguIdeal.main_arg2) = m ((c.tc : Thread Cert.KernelOptguIdeal.nD Cert.KernelOptguIdeal.τ).loc Cert.KernelOptguIdeal.main_arg2)
      ∧ r.2.mem ((c.tc : Thread Cert.KernelOptguIdeal.nD Cert.KernelOptguIdeal.τ).loc Cert.KernelOptguIdeal.main_arg3) = m ((c.tc : Thread Cert.KernelOptguIdeal.nD Cert.KernelOptguIdeal.τ).loc Cert.KernelOptguIdeal.main_arg3)
      ∧ r.2.mem ((c.tc : Thread Cert.KernelOptguIdeal.nD Cert.KernelOptguIdeal.τ).loc Cert.KernelOptguIdeal.main_arg4) = m ((c.tc : Thread Cert.KernelOptguIdeal.nD Cert.KernelOptguIdeal.τ).loc Cert.KernelOptguIdeal.main_arg4))
      ∧ r.2.sem = fun _ => 0)

def quiescent_ReferenceOptguIdeal [hReferenceOptguIdeal : Cert.ReferenceOptguIdeal.Facts] : Prop :=
  ∀ (m : (ℓ : Loc Cert.ReferenceOptguIdeal.nD Cert.ReferenceOptguIdeal.τ Cert.ReferenceOptguIdeal.sig) → Buf (Elt Ideal) ℓ) (g : Dev Cert.ReferenceOptguIdeal.nD → PrngReg), Pre_ReferenceOptguIdeal m →
    θ_run (Cert.ReferenceOptguIdeal.defs (F := Ideal)) (onTc (τ := Cert.ReferenceOptguIdeal.τ) (Cert.ReferenceOptguIdeal.main (F := Ideal))) ⟨m, fun _ => 0, g⟩ (fun r => (∀ c : Dev Cert.ReferenceOptguIdeal.nD,
      r.2.mem ((c.tc : Thread Cert.ReferenceOptguIdeal.nD Cert.ReferenceOptguIdeal.τ).loc Cert.ReferenceOptguIdeal.main_arg0) = m ((c.tc : Thread Cert.ReferenceOptguIdeal.nD Cert.ReferenceOptguIdeal.τ).loc Cert.ReferenceOptguIdeal.main_arg0)
      ∧ r.2.mem ((c.tc : Thread Cert.ReferenceOptguIdeal.nD Cert.ReferenceOptguIdeal.τ).loc Cert.ReferenceOptguIdeal.main_arg1) = m ((c.tc : Thread Cert.ReferenceOptguIdeal.nD Cert.ReferenceOptguIdeal.τ).loc Cert.ReferenceOptguIdeal.main_arg1)
      ∧ r.2.mem ((c.tc : Thread Cert.ReferenceOptguIdeal.nD Cert.ReferenceOptguIdeal.τ).loc Cert.ReferenceOptguIdeal.main_arg2) = m ((c.tc : Thread Cert.ReferenceOptguIdeal.nD Cert.ReferenceOptguIdeal.τ).loc Cert.ReferenceOptguIdeal.main_arg2)
      ∧ r.2.mem ((c.tc : Thread Cert.ReferenceOptguIdeal.nD Cert.ReferenceOptguIdeal.τ).loc Cert.ReferenceOptguIdeal.main_arg3) = m ((c.tc : Thread Cert.ReferenceOptguIdeal.nD Cert.ReferenceOptguIdeal.τ).loc Cert.ReferenceOptguIdeal.main_arg3)
      ∧ r.2.mem ((c.tc : Thread Cert.ReferenceOptguIdeal.nD Cert.ReferenceOptguIdeal.τ).loc Cert.ReferenceOptguIdeal.main_arg4) = m ((c.tc : Thread Cert.ReferenceOptguIdeal.nD Cert.ReferenceOptguIdeal.τ).loc Cert.ReferenceOptguIdeal.main_arg4))
      ∧ r.2.sem = fun _ => 0)

def quiescent_KernelOptdown [hKernelOptdown : Cert.KernelOptdown.Facts] : Prop :=
  ∀ (m : (ℓ : Loc Cert.KernelOptdown.nD Cert.KernelOptdown.τ Cert.KernelOptdown.sig) → Buf (Elt Bits) ℓ) (g : Dev Cert.KernelOptdown.nD → PrngReg), Pre_KernelOptdown m →
    θ_run (Cert.KernelOptdown.defs (F := Bits)) (onTc (τ := Cert.KernelOptdown.τ) (Cert.KernelOptdown.main (F := Bits))) ⟨m, fun _ => 0, g⟩ (fun r => (∀ c : Dev Cert.KernelOptdown.nD,
      r.2.mem ((c.tc : Thread Cert.KernelOptdown.nD Cert.KernelOptdown.τ).loc Cert.KernelOptdown.main_arg0) = m ((c.tc : Thread Cert.KernelOptdown.nD Cert.KernelOptdown.τ).loc Cert.KernelOptdown.main_arg0)
      ∧ r.2.mem ((c.tc : Thread Cert.KernelOptdown.nD Cert.KernelOptdown.τ).loc Cert.KernelOptdown.main_arg1) = m ((c.tc : Thread Cert.KernelOptdown.nD Cert.KernelOptdown.τ).loc Cert.KernelOptdown.main_arg1)
      ∧ r.2.mem ((c.tc : Thread Cert.KernelOptdown.nD Cert.KernelOptdown.τ).loc Cert.KernelOptdown.main_arg2) = m ((c.tc : Thread Cert.KernelOptdown.nD Cert.KernelOptdown.τ).loc Cert.KernelOptdown.main_arg2)
      ∧ r.2.mem ((c.tc : Thread Cert.KernelOptdown.nD Cert.KernelOptdown.τ).loc Cert.KernelOptdown.main_arg3) = m ((c.tc : Thread Cert.KernelOptdown.nD Cert.KernelOptdown.τ).loc Cert.KernelOptdown.main_arg3)
      ∧ r.2.mem ((c.tc : Thread Cert.KernelOptdown.nD Cert.KernelOptdown.τ).loc Cert.KernelOptdown.main_arg4) = m ((c.tc : Thread Cert.KernelOptdown.nD Cert.KernelOptdown.τ).loc Cert.KernelOptdown.main_arg4))
      ∧ r.2.sem = fun _ => 0)

def quiescent_KernelOptdownIdeal [hKernelOptdownIdeal : Cert.KernelOptdownIdeal.Facts] : Prop :=
  ∀ (m : (ℓ : Loc Cert.KernelOptdownIdeal.nD Cert.KernelOptdownIdeal.τ Cert.KernelOptdownIdeal.sig) → Buf (Elt Ideal) ℓ) (g : Dev Cert.KernelOptdownIdeal.nD → PrngReg), Pre_KernelOptdownIdeal m →
    θ_run (Cert.KernelOptdownIdeal.defs (F := Ideal)) (onTc (τ := Cert.KernelOptdownIdeal.τ) (Cert.KernelOptdownIdeal.main (F := Ideal))) ⟨m, fun _ => 0, g⟩ (fun r => (∀ c : Dev Cert.KernelOptdownIdeal.nD,
      r.2.mem ((c.tc : Thread Cert.KernelOptdownIdeal.nD Cert.KernelOptdownIdeal.τ).loc Cert.KernelOptdownIdeal.main_arg0) = m ((c.tc : Thread Cert.KernelOptdownIdeal.nD Cert.KernelOptdownIdeal.τ).loc Cert.KernelOptdownIdeal.main_arg0)
      ∧ r.2.mem ((c.tc : Thread Cert.KernelOptdownIdeal.nD Cert.KernelOptdownIdeal.τ).loc Cert.KernelOptdownIdeal.main_arg1) = m ((c.tc : Thread Cert.KernelOptdownIdeal.nD Cert.KernelOptdownIdeal.τ).loc Cert.KernelOptdownIdeal.main_arg1)
      ∧ r.2.mem ((c.tc : Thread Cert.KernelOptdownIdeal.nD Cert.KernelOptdownIdeal.τ).loc Cert.KernelOptdownIdeal.main_arg2) = m ((c.tc : Thread Cert.KernelOptdownIdeal.nD Cert.KernelOptdownIdeal.τ).loc Cert.KernelOptdownIdeal.main_arg2)
      ∧ r.2.mem ((c.tc : Thread Cert.KernelOptdownIdeal.nD Cert.KernelOptdownIdeal.τ).loc Cert.KernelOptdownIdeal.main_arg3) = m ((c.tc : Thread Cert.KernelOptdownIdeal.nD Cert.KernelOptdownIdeal.τ).loc Cert.KernelOptdownIdeal.main_arg3)
      ∧ r.2.mem ((c.tc : Thread Cert.KernelOptdownIdeal.nD Cert.KernelOptdownIdeal.τ).loc Cert.KernelOptdownIdeal.main_arg4) = m ((c.tc : Thread Cert.KernelOptdownIdeal.nD Cert.KernelOptdownIdeal.τ).loc Cert.KernelOptdownIdeal.main_arg4))
      ∧ r.2.sem = fun _ => 0)

def quiescent_ReferenceOptdownIdeal [hReferenceOptdownIdeal : Cert.ReferenceOptdownIdeal.Facts] : Prop :=
  ∀ (m : (ℓ : Loc Cert.ReferenceOptdownIdeal.nD Cert.ReferenceOptdownIdeal.τ Cert.ReferenceOptdownIdeal.sig) → Buf (Elt Ideal) ℓ) (g : Dev Cert.ReferenceOptdownIdeal.nD → PrngReg), Pre_ReferenceOptdownIdeal m →
    θ_run (Cert.ReferenceOptdownIdeal.defs (F := Ideal)) (onTc (τ := Cert.ReferenceOptdownIdeal.τ) (Cert.ReferenceOptdownIdeal.main (F := Ideal))) ⟨m, fun _ => 0, g⟩ (fun r => (∀ c : Dev Cert.ReferenceOptdownIdeal.nD,
      r.2.mem ((c.tc : Thread Cert.ReferenceOptdownIdeal.nD Cert.ReferenceOptdownIdeal.τ).loc Cert.ReferenceOptdownIdeal.main_arg0) = m ((c.tc : Thread Cert.ReferenceOptdownIdeal.nD Cert.ReferenceOptdownIdeal.τ).loc Cert.ReferenceOptdownIdeal.main_arg0)
      ∧ r.2.mem ((c.tc : Thread Cert.ReferenceOptdownIdeal.nD Cert.ReferenceOptdownIdeal.τ).loc Cert.ReferenceOptdownIdeal.main_arg1) = m ((c.tc : Thread Cert.ReferenceOptdownIdeal.nD Cert.ReferenceOptdownIdeal.τ).loc Cert.ReferenceOptdownIdeal.main_arg1)
      ∧ r.2.mem ((c.tc : Thread Cert.ReferenceOptdownIdeal.nD Cert.ReferenceOptdownIdeal.τ).loc Cert.ReferenceOptdownIdeal.main_arg2) = m ((c.tc : Thread Cert.ReferenceOptdownIdeal.nD Cert.ReferenceOptdownIdeal.τ).loc Cert.ReferenceOptdownIdeal.main_arg2)
      ∧ r.2.mem ((c.tc : Thread Cert.ReferenceOptdownIdeal.nD Cert.ReferenceOptdownIdeal.τ).loc Cert.ReferenceOptdownIdeal.main_arg3) = m ((c.tc : Thread Cert.ReferenceOptdownIdeal.nD Cert.ReferenceOptdownIdeal.τ).loc Cert.ReferenceOptdownIdeal.main_arg3)
      ∧ r.2.mem ((c.tc : Thread Cert.ReferenceOptdownIdeal.nD Cert.ReferenceOptdownIdeal.τ).loc Cert.ReferenceOptdownIdeal.main_arg4) = m ((c.tc : Thread Cert.ReferenceOptdownIdeal.nD Cert.ReferenceOptdownIdeal.τ).loc Cert.ReferenceOptdownIdeal.main_arg4))
      ∧ r.2.sem = fun _ => 0)

def quiescent_KernelOptin [hKernelOptin : Cert.KernelOptin.Facts] : Prop :=
  ∀ (m : (ℓ : Loc Cert.KernelOptin.nD Cert.KernelOptin.τ Cert.KernelOptin.sig) → Buf (Elt Bits) ℓ) (g : Dev Cert.KernelOptin.nD → PrngReg), Pre_KernelOptin m →
    θ_run (Cert.KernelOptin.defs (F := Bits)) (onTc (τ := Cert.KernelOptin.τ) (Cert.KernelOptin.main (F := Bits))) ⟨m, fun _ => 0, g⟩ (fun r => (∀ c : Dev Cert.KernelOptin.nD,
      r.2.mem ((c.tc : Thread Cert.KernelOptin.nD Cert.KernelOptin.τ).loc Cert.KernelOptin.main_arg0) = m ((c.tc : Thread Cert.KernelOptin.nD Cert.KernelOptin.τ).loc Cert.KernelOptin.main_arg0)
      ∧ r.2.mem ((c.tc : Thread Cert.KernelOptin.nD Cert.KernelOptin.τ).loc Cert.KernelOptin.main_arg1) = m ((c.tc : Thread Cert.KernelOptin.nD Cert.KernelOptin.τ).loc Cert.KernelOptin.main_arg1)
      ∧ r.2.mem ((c.tc : Thread Cert.KernelOptin.nD Cert.KernelOptin.τ).loc Cert.KernelOptin.main_arg2) = m ((c.tc : Thread Cert.KernelOptin.nD Cert.KernelOptin.τ).loc Cert.KernelOptin.main_arg2)
      ∧ r.2.mem ((c.tc : Thread Cert.KernelOptin.nD Cert.KernelOptin.τ).loc Cert.KernelOptin.main_arg3) = m ((c.tc : Thread Cert.KernelOptin.nD Cert.KernelOptin.τ).loc Cert.KernelOptin.main_arg3)
      ∧ r.2.mem ((c.tc : Thread Cert.KernelOptin.nD Cert.KernelOptin.τ).loc Cert.KernelOptin.main_arg4) = m ((c.tc : Thread Cert.KernelOptin.nD Cert.KernelOptin.τ).loc Cert.KernelOptin.main_arg4))
      ∧ r.2.sem = fun _ => 0)

def quiescent_KernelOptinIdeal [hKernelOptinIdeal : Cert.KernelOptinIdeal.Facts] : Prop :=
  ∀ (m : (ℓ : Loc Cert.KernelOptinIdeal.nD Cert.KernelOptinIdeal.τ Cert.KernelOptinIdeal.sig) → Buf (Elt Ideal) ℓ) (g : Dev Cert.KernelOptinIdeal.nD → PrngReg), Pre_KernelOptinIdeal m →
    θ_run (Cert.KernelOptinIdeal.defs (F := Ideal)) (onTc (τ := Cert.KernelOptinIdeal.τ) (Cert.KernelOptinIdeal.main (F := Ideal))) ⟨m, fun _ => 0, g⟩ (fun r => (∀ c : Dev Cert.KernelOptinIdeal.nD,
      r.2.mem ((c.tc : Thread Cert.KernelOptinIdeal.nD Cert.KernelOptinIdeal.τ).loc Cert.KernelOptinIdeal.main_arg0) = m ((c.tc : Thread Cert.KernelOptinIdeal.nD Cert.KernelOptinIdeal.τ).loc Cert.KernelOptinIdeal.main_arg0)
      ∧ r.2.mem ((c.tc : Thread Cert.KernelOptinIdeal.nD Cert.KernelOptinIdeal.τ).loc Cert.KernelOptinIdeal.main_arg1) = m ((c.tc : Thread Cert.KernelOptinIdeal.nD Cert.KernelOptinIdeal.τ).loc Cert.KernelOptinIdeal.main_arg1)
      ∧ r.2.mem ((c.tc : Thread Cert.KernelOptinIdeal.nD Cert.KernelOptinIdeal.τ).loc Cert.KernelOptinIdeal.main_arg2) = m ((c.tc : Thread Cert.KernelOptinIdeal.nD Cert.KernelOptinIdeal.τ).loc Cert.KernelOptinIdeal.main_arg2)
      ∧ r.2.mem ((c.tc : Thread Cert.KernelOptinIdeal.nD Cert.KernelOptinIdeal.τ).loc Cert.KernelOptinIdeal.main_arg3) = m ((c.tc : Thread Cert.KernelOptinIdeal.nD Cert.KernelOptinIdeal.τ).loc Cert.KernelOptinIdeal.main_arg3)
      ∧ r.2.mem ((c.tc : Thread Cert.KernelOptinIdeal.nD Cert.KernelOptinIdeal.τ).loc Cert.KernelOptinIdeal.main_arg4) = m ((c.tc : Thread Cert.KernelOptinIdeal.nD Cert.KernelOptinIdeal.τ).loc Cert.KernelOptinIdeal.main_arg4))
      ∧ r.2.sem = fun _ => 0)

def quiescent_ReferenceOptinIdeal [hReferenceOptinIdeal : Cert.ReferenceOptinIdeal.Facts] : Prop :=
  ∀ (m : (ℓ : Loc Cert.ReferenceOptinIdeal.nD Cert.ReferenceOptinIdeal.τ Cert.ReferenceOptinIdeal.sig) → Buf (Elt Ideal) ℓ) (g : Dev Cert.ReferenceOptinIdeal.nD → PrngReg), Pre_ReferenceOptinIdeal m →
    θ_run (Cert.ReferenceOptinIdeal.defs (F := Ideal)) (onTc (τ := Cert.ReferenceOptinIdeal.τ) (Cert.ReferenceOptinIdeal.main (F := Ideal))) ⟨m, fun _ => 0, g⟩ (fun r => (∀ c : Dev Cert.ReferenceOptinIdeal.nD,
      r.2.mem ((c.tc : Thread Cert.ReferenceOptinIdeal.nD Cert.ReferenceOptinIdeal.τ).loc Cert.ReferenceOptinIdeal.main_arg0) = m ((c.tc : Thread Cert.ReferenceOptinIdeal.nD Cert.ReferenceOptinIdeal.τ).loc Cert.ReferenceOptinIdeal.main_arg0)
      ∧ r.2.mem ((c.tc : Thread Cert.ReferenceOptinIdeal.nD Cert.ReferenceOptinIdeal.τ).loc Cert.ReferenceOptinIdeal.main_arg1) = m ((c.tc : Thread Cert.ReferenceOptinIdeal.nD Cert.ReferenceOptinIdeal.τ).loc Cert.ReferenceOptinIdeal.main_arg1)
      ∧ r.2.mem ((c.tc : Thread Cert.ReferenceOptinIdeal.nD Cert.ReferenceOptinIdeal.τ).loc Cert.ReferenceOptinIdeal.main_arg2) = m ((c.tc : Thread Cert.ReferenceOptinIdeal.nD Cert.ReferenceOptinIdeal.τ).loc Cert.ReferenceOptinIdeal.main_arg2)
      ∧ r.2.mem ((c.tc : Thread Cert.ReferenceOptinIdeal.nD Cert.ReferenceOptinIdeal.τ).loc Cert.ReferenceOptinIdeal.main_arg3) = m ((c.tc : Thread Cert.ReferenceOptinIdeal.nD Cert.ReferenceOptinIdeal.τ).loc Cert.ReferenceOptinIdeal.main_arg3)
      ∧ r.2.mem ((c.tc : Thread Cert.ReferenceOptinIdeal.nD Cert.ReferenceOptinIdeal.τ).loc Cert.ReferenceOptinIdeal.main_arg4) = m ((c.tc : Thread Cert.ReferenceOptinIdeal.nD Cert.ReferenceOptinIdeal.τ).loc Cert.ReferenceOptinIdeal.main_arg4))
      ∧ r.2.sem = fun _ => 0)

def quiescent_KernelOptout [hKernelOptout : Cert.KernelOptout.Facts] : Prop :=
  ∀ (m : (ℓ : Loc Cert.KernelOptout.nD Cert.KernelOptout.τ Cert.KernelOptout.sig) → Buf (Elt Bits) ℓ) (g : Dev Cert.KernelOptout.nD → PrngReg), Pre_KernelOptout m →
    θ_run (Cert.KernelOptout.defs (F := Bits)) (onTc (τ := Cert.KernelOptout.τ) (Cert.KernelOptout.main (F := Bits))) ⟨m, fun _ => 0, g⟩ (fun r => (∀ c : Dev Cert.KernelOptout.nD,
      r.2.mem ((c.tc : Thread Cert.KernelOptout.nD Cert.KernelOptout.τ).loc Cert.KernelOptout.main_arg0) = m ((c.tc : Thread Cert.KernelOptout.nD Cert.KernelOptout.τ).loc Cert.KernelOptout.main_arg0)
      ∧ r.2.mem ((c.tc : Thread Cert.KernelOptout.nD Cert.KernelOptout.τ).loc Cert.KernelOptout.main_arg1) = m ((c.tc : Thread Cert.KernelOptout.nD Cert.KernelOptout.τ).loc Cert.KernelOptout.main_arg1)
      ∧ r.2.mem ((c.tc : Thread Cert.KernelOptout.nD Cert.KernelOptout.τ).loc Cert.KernelOptout.main_arg2) = m ((c.tc : Thread Cert.KernelOptout.nD Cert.KernelOptout.τ).loc Cert.KernelOptout.main_arg2)
      ∧ r.2.mem ((c.tc : Thread Cert.KernelOptout.nD Cert.KernelOptout.τ).loc Cert.KernelOptout.main_arg3) = m ((c.tc : Thread Cert.KernelOptout.nD Cert.KernelOptout.τ).loc Cert.KernelOptout.main_arg3)
      ∧ r.2.mem ((c.tc : Thread Cert.KernelOptout.nD Cert.KernelOptout.τ).loc Cert.KernelOptout.main_arg4) = m ((c.tc : Thread Cert.KernelOptout.nD Cert.KernelOptout.τ).loc Cert.KernelOptout.main_arg4))
      ∧ r.2.sem = fun _ => 0)

def quiescent_KernelOptoutIdeal [hKernelOptoutIdeal : Cert.KernelOptoutIdeal.Facts] : Prop :=
  ∀ (m : (ℓ : Loc Cert.KernelOptoutIdeal.nD Cert.KernelOptoutIdeal.τ Cert.KernelOptoutIdeal.sig) → Buf (Elt Ideal) ℓ) (g : Dev Cert.KernelOptoutIdeal.nD → PrngReg), Pre_KernelOptoutIdeal m →
    θ_run (Cert.KernelOptoutIdeal.defs (F := Ideal)) (onTc (τ := Cert.KernelOptoutIdeal.τ) (Cert.KernelOptoutIdeal.main (F := Ideal))) ⟨m, fun _ => 0, g⟩ (fun r => (∀ c : Dev Cert.KernelOptoutIdeal.nD,
      r.2.mem ((c.tc : Thread Cert.KernelOptoutIdeal.nD Cert.KernelOptoutIdeal.τ).loc Cert.KernelOptoutIdeal.main_arg0) = m ((c.tc : Thread Cert.KernelOptoutIdeal.nD Cert.KernelOptoutIdeal.τ).loc Cert.KernelOptoutIdeal.main_arg0)
      ∧ r.2.mem ((c.tc : Thread Cert.KernelOptoutIdeal.nD Cert.KernelOptoutIdeal.τ).loc Cert.KernelOptoutIdeal.main_arg1) = m ((c.tc : Thread Cert.KernelOptoutIdeal.nD Cert.KernelOptoutIdeal.τ).loc Cert.KernelOptoutIdeal.main_arg1)
      ∧ r.2.mem ((c.tc : Thread Cert.KernelOptoutIdeal.nD Cert.KernelOptoutIdeal.τ).loc Cert.KernelOptoutIdeal.main_arg2) = m ((c.tc : Thread Cert.KernelOptoutIdeal.nD Cert.KernelOptoutIdeal.τ).loc Cert.KernelOptoutIdeal.main_arg2)
      ∧ r.2.mem ((c.tc : Thread Cert.KernelOptoutIdeal.nD Cert.KernelOptoutIdeal.τ).loc Cert.KernelOptoutIdeal.main_arg3) = m ((c.tc : Thread Cert.KernelOptoutIdeal.nD Cert.KernelOptoutIdeal.τ).loc Cert.KernelOptoutIdeal.main_arg3)
      ∧ r.2.mem ((c.tc : Thread Cert.KernelOptoutIdeal.nD Cert.KernelOptoutIdeal.τ).loc Cert.KernelOptoutIdeal.main_arg4) = m ((c.tc : Thread Cert.KernelOptoutIdeal.nD Cert.KernelOptoutIdeal.τ).loc Cert.KernelOptoutIdeal.main_arg4))
      ∧ r.2.sem = fun _ => 0)

def quiescent_ReferenceOptoutIdeal [hReferenceOptoutIdeal : Cert.ReferenceOptoutIdeal.Facts] : Prop :=
  ∀ (m : (ℓ : Loc Cert.ReferenceOptoutIdeal.nD Cert.ReferenceOptoutIdeal.τ Cert.ReferenceOptoutIdeal.sig) → Buf (Elt Ideal) ℓ) (g : Dev Cert.ReferenceOptoutIdeal.nD → PrngReg), Pre_ReferenceOptoutIdeal m →
    θ_run (Cert.ReferenceOptoutIdeal.defs (F := Ideal)) (onTc (τ := Cert.ReferenceOptoutIdeal.τ) (Cert.ReferenceOptoutIdeal.main (F := Ideal))) ⟨m, fun _ => 0, g⟩ (fun r => (∀ c : Dev Cert.ReferenceOptoutIdeal.nD,
      r.2.mem ((c.tc : Thread Cert.ReferenceOptoutIdeal.nD Cert.ReferenceOptoutIdeal.τ).loc Cert.ReferenceOptoutIdeal.main_arg0) = m ((c.tc : Thread Cert.ReferenceOptoutIdeal.nD Cert.ReferenceOptoutIdeal.τ).loc Cert.ReferenceOptoutIdeal.main_arg0)
      ∧ r.2.mem ((c.tc : Thread Cert.ReferenceOptoutIdeal.nD Cert.ReferenceOptoutIdeal.τ).loc Cert.ReferenceOptoutIdeal.main_arg1) = m ((c.tc : Thread Cert.ReferenceOptoutIdeal.nD Cert.ReferenceOptoutIdeal.τ).loc Cert.ReferenceOptoutIdeal.main_arg1)
      ∧ r.2.mem ((c.tc : Thread Cert.ReferenceOptoutIdeal.nD Cert.ReferenceOptoutIdeal.τ).loc Cert.ReferenceOptoutIdeal.main_arg2) = m ((c.tc : Thread Cert.ReferenceOptoutIdeal.nD Cert.ReferenceOptoutIdeal.τ).loc Cert.ReferenceOptoutIdeal.main_arg2)
      ∧ r.2.mem ((c.tc : Thread Cert.ReferenceOptoutIdeal.nD Cert.ReferenceOptoutIdeal.τ).loc Cert.ReferenceOptoutIdeal.main_arg3) = m ((c.tc : Thread Cert.ReferenceOptoutIdeal.nD Cert.ReferenceOptoutIdeal.τ).loc Cert.ReferenceOptoutIdeal.main_arg3)
      ∧ r.2.mem ((c.tc : Thread Cert.ReferenceOptoutIdeal.nD Cert.ReferenceOptoutIdeal.τ).loc Cert.ReferenceOptoutIdeal.main_arg4) = m ((c.tc : Thread Cert.ReferenceOptoutIdeal.nD Cert.ReferenceOptoutIdeal.τ).loc Cert.ReferenceOptoutIdeal.main_arg4))
      ∧ r.2.sem = fun _ => 0)

def quiescent_KernelOptlin [hKernelOptlin : Cert.KernelOptlin.Facts] : Prop :=
  ∀ (m : (ℓ : Loc Cert.KernelOptlin.nD Cert.KernelOptlin.τ Cert.KernelOptlin.sig) → Buf (Elt Bits) ℓ) (g : Dev Cert.KernelOptlin.nD → PrngReg), Pre_KernelOptlin m →
    θ_run (Cert.KernelOptlin.defs (F := Bits)) (onTc (τ := Cert.KernelOptlin.τ) (Cert.KernelOptlin.main (F := Bits))) ⟨m, fun _ => 0, g⟩ (fun r => (∀ c : Dev Cert.KernelOptlin.nD,
      r.2.mem ((c.tc : Thread Cert.KernelOptlin.nD Cert.KernelOptlin.τ).loc Cert.KernelOptlin.main_arg0) = m ((c.tc : Thread Cert.KernelOptlin.nD Cert.KernelOptlin.τ).loc Cert.KernelOptlin.main_arg0)
      ∧ r.2.mem ((c.tc : Thread Cert.KernelOptlin.nD Cert.KernelOptlin.τ).loc Cert.KernelOptlin.main_arg1) = m ((c.tc : Thread Cert.KernelOptlin.nD Cert.KernelOptlin.τ).loc Cert.KernelOptlin.main_arg1)
      ∧ r.2.mem ((c.tc : Thread Cert.KernelOptlin.nD Cert.KernelOptlin.τ).loc Cert.KernelOptlin.main_arg2) = m ((c.tc : Thread Cert.KernelOptlin.nD Cert.KernelOptlin.τ).loc Cert.KernelOptlin.main_arg2)
      ∧ r.2.mem ((c.tc : Thread Cert.KernelOptlin.nD Cert.KernelOptlin.τ).loc Cert.KernelOptlin.main_arg3) = m ((c.tc : Thread Cert.KernelOptlin.nD Cert.KernelOptlin.τ).loc Cert.KernelOptlin.main_arg3)
      ∧ r.2.mem ((c.tc : Thread Cert.KernelOptlin.nD Cert.KernelOptlin.τ).loc Cert.KernelOptlin.main_arg4) = m ((c.tc : Thread Cert.KernelOptlin.nD Cert.KernelOptlin.τ).loc Cert.KernelOptlin.main_arg4))
      ∧ r.2.sem = fun _ => 0)

def quiescent_KernelOptlinIdeal [hKernelOptlinIdeal : Cert.KernelOptlinIdeal.Facts] : Prop :=
  ∀ (m : (ℓ : Loc Cert.KernelOptlinIdeal.nD Cert.KernelOptlinIdeal.τ Cert.KernelOptlinIdeal.sig) → Buf (Elt Ideal) ℓ) (g : Dev Cert.KernelOptlinIdeal.nD → PrngReg), Pre_KernelOptlinIdeal m →
    θ_run (Cert.KernelOptlinIdeal.defs (F := Ideal)) (onTc (τ := Cert.KernelOptlinIdeal.τ) (Cert.KernelOptlinIdeal.main (F := Ideal))) ⟨m, fun _ => 0, g⟩ (fun r => (∀ c : Dev Cert.KernelOptlinIdeal.nD,
      r.2.mem ((c.tc : Thread Cert.KernelOptlinIdeal.nD Cert.KernelOptlinIdeal.τ).loc Cert.KernelOptlinIdeal.main_arg0) = m ((c.tc : Thread Cert.KernelOptlinIdeal.nD Cert.KernelOptlinIdeal.τ).loc Cert.KernelOptlinIdeal.main_arg0)
      ∧ r.2.mem ((c.tc : Thread Cert.KernelOptlinIdeal.nD Cert.KernelOptlinIdeal.τ).loc Cert.KernelOptlinIdeal.main_arg1) = m ((c.tc : Thread Cert.KernelOptlinIdeal.nD Cert.KernelOptlinIdeal.τ).loc Cert.KernelOptlinIdeal.main_arg1)
      ∧ r.2.mem ((c.tc : Thread Cert.KernelOptlinIdeal.nD Cert.KernelOptlinIdeal.τ).loc Cert.KernelOptlinIdeal.main_arg2) = m ((c.tc : Thread Cert.KernelOptlinIdeal.nD Cert.KernelOptlinIdeal.τ).loc Cert.KernelOptlinIdeal.main_arg2)
      ∧ r.2.mem ((c.tc : Thread Cert.KernelOptlinIdeal.nD Cert.KernelOptlinIdeal.τ).loc Cert.KernelOptlinIdeal.main_arg3) = m ((c.tc : Thread Cert.KernelOptlinIdeal.nD Cert.KernelOptlinIdeal.τ).loc Cert.KernelOptlinIdeal.main_arg3)
      ∧ r.2.mem ((c.tc : Thread Cert.KernelOptlinIdeal.nD Cert.KernelOptlinIdeal.τ).loc Cert.KernelOptlinIdeal.main_arg4) = m ((c.tc : Thread Cert.KernelOptlinIdeal.nD Cert.KernelOptlinIdeal.τ).loc Cert.KernelOptlinIdeal.main_arg4))
      ∧ r.2.sem = fun _ => 0)

def quiescent_ReferenceOptlinIdeal [hReferenceOptlinIdeal : Cert.ReferenceOptlinIdeal.Facts] : Prop :=
  ∀ (m : (ℓ : Loc Cert.ReferenceOptlinIdeal.nD Cert.ReferenceOptlinIdeal.τ Cert.ReferenceOptlinIdeal.sig) → Buf (Elt Ideal) ℓ) (g : Dev Cert.ReferenceOptlinIdeal.nD → PrngReg), Pre_ReferenceOptlinIdeal m →
    θ_run (Cert.ReferenceOptlinIdeal.defs (F := Ideal)) (onTc (τ := Cert.ReferenceOptlinIdeal.τ) (Cert.ReferenceOptlinIdeal.main (F := Ideal))) ⟨m, fun _ => 0, g⟩ (fun r => (∀ c : Dev Cert.ReferenceOptlinIdeal.nD,
      r.2.mem ((c.tc : Thread Cert.ReferenceOptlinIdeal.nD Cert.ReferenceOptlinIdeal.τ).loc Cert.ReferenceOptlinIdeal.main_arg0) = m ((c.tc : Thread Cert.ReferenceOptlinIdeal.nD Cert.ReferenceOptlinIdeal.τ).loc Cert.ReferenceOptlinIdeal.main_arg0)
      ∧ r.2.mem ((c.tc : Thread Cert.ReferenceOptlinIdeal.nD Cert.ReferenceOptlinIdeal.τ).loc Cert.ReferenceOptlinIdeal.main_arg1) = m ((c.tc : Thread Cert.ReferenceOptlinIdeal.nD Cert.ReferenceOptlinIdeal.τ).loc Cert.ReferenceOptlinIdeal.main_arg1)
      ∧ r.2.mem ((c.tc : Thread Cert.ReferenceOptlinIdeal.nD Cert.ReferenceOptlinIdeal.τ).loc Cert.ReferenceOptlinIdeal.main_arg2) = m ((c.tc : Thread Cert.ReferenceOptlinIdeal.nD Cert.ReferenceOptlinIdeal.τ).loc Cert.ReferenceOptlinIdeal.main_arg2)
      ∧ r.2.mem ((c.tc : Thread Cert.ReferenceOptlinIdeal.nD Cert.ReferenceOptlinIdeal.τ).loc Cert.ReferenceOptlinIdeal.main_arg3) = m ((c.tc : Thread Cert.ReferenceOptlinIdeal.nD Cert.ReferenceOptlinIdeal.τ).loc Cert.ReferenceOptlinIdeal.main_arg3)
      ∧ r.2.mem ((c.tc : Thread Cert.ReferenceOptlinIdeal.nD Cert.ReferenceOptlinIdeal.τ).loc Cert.ReferenceOptlinIdeal.main_arg4) = m ((c.tc : Thread Cert.ReferenceOptlinIdeal.nD Cert.ReferenceOptlinIdeal.τ).loc Cert.ReferenceOptlinIdeal.main_arg4))
      ∧ r.2.sem = fun _ => 0)

def quiescent_KernelOptlout [hKernelOptlout : Cert.KernelOptlout.Facts] : Prop :=
  ∀ (m : (ℓ : Loc Cert.KernelOptlout.nD Cert.KernelOptlout.τ Cert.KernelOptlout.sig) → Buf (Elt Bits) ℓ) (g : Dev Cert.KernelOptlout.nD → PrngReg), Pre_KernelOptlout m →
    θ_run (Cert.KernelOptlout.defs (F := Bits)) (onTc (τ := Cert.KernelOptlout.τ) (Cert.KernelOptlout.main (F := Bits))) ⟨m, fun _ => 0, g⟩ (fun r => (∀ c : Dev Cert.KernelOptlout.nD,
      r.2.mem ((c.tc : Thread Cert.KernelOptlout.nD Cert.KernelOptlout.τ).loc Cert.KernelOptlout.main_arg0) = m ((c.tc : Thread Cert.KernelOptlout.nD Cert.KernelOptlout.τ).loc Cert.KernelOptlout.main_arg0)
      ∧ r.2.mem ((c.tc : Thread Cert.KernelOptlout.nD Cert.KernelOptlout.τ).loc Cert.KernelOptlout.main_arg1) = m ((c.tc : Thread Cert.KernelOptlout.nD Cert.KernelOptlout.τ).loc Cert.KernelOptlout.main_arg1)
      ∧ r.2.mem ((c.tc : Thread Cert.KernelOptlout.nD Cert.KernelOptlout.τ).loc Cert.KernelOptlout.main_arg2) = m ((c.tc : Thread Cert.KernelOptlout.nD Cert.KernelOptlout.τ).loc Cert.KernelOptlout.main_arg2)
      ∧ r.2.mem ((c.tc : Thread Cert.KernelOptlout.nD Cert.KernelOptlout.τ).loc Cert.KernelOptlout.main_arg3) = m ((c.tc : Thread Cert.KernelOptlout.nD Cert.KernelOptlout.τ).loc Cert.KernelOptlout.main_arg3)
      ∧ r.2.mem ((c.tc : Thread Cert.KernelOptlout.nD Cert.KernelOptlout.τ).loc Cert.KernelOptlout.main_arg4) = m ((c.tc : Thread Cert.KernelOptlout.nD Cert.KernelOptlout.τ).loc Cert.KernelOptlout.main_arg4))
      ∧ r.2.sem = fun _ => 0)

def quiescent_KernelOptloutIdeal [hKernelOptloutIdeal : Cert.KernelOptloutIdeal.Facts] : Prop :=
  ∀ (m : (ℓ : Loc Cert.KernelOptloutIdeal.nD Cert.KernelOptloutIdeal.τ Cert.KernelOptloutIdeal.sig) → Buf (Elt Ideal) ℓ) (g : Dev Cert.KernelOptloutIdeal.nD → PrngReg), Pre_KernelOptloutIdeal m →
    θ_run (Cert.KernelOptloutIdeal.defs (F := Ideal)) (onTc (τ := Cert.KernelOptloutIdeal.τ) (Cert.KernelOptloutIdeal.main (F := Ideal))) ⟨m, fun _ => 0, g⟩ (fun r => (∀ c : Dev Cert.KernelOptloutIdeal.nD,
      r.2.mem ((c.tc : Thread Cert.KernelOptloutIdeal.nD Cert.KernelOptloutIdeal.τ).loc Cert.KernelOptloutIdeal.main_arg0) = m ((c.tc : Thread Cert.KernelOptloutIdeal.nD Cert.KernelOptloutIdeal.τ).loc Cert.KernelOptloutIdeal.main_arg0)
      ∧ r.2.mem ((c.tc : Thread Cert.KernelOptloutIdeal.nD Cert.KernelOptloutIdeal.τ).loc Cert.KernelOptloutIdeal.main_arg1) = m ((c.tc : Thread Cert.KernelOptloutIdeal.nD Cert.KernelOptloutIdeal.τ).loc Cert.KernelOptloutIdeal.main_arg1)
      ∧ r.2.mem ((c.tc : Thread Cert.KernelOptloutIdeal.nD Cert.KernelOptloutIdeal.τ).loc Cert.KernelOptloutIdeal.main_arg2) = m ((c.tc : Thread Cert.KernelOptloutIdeal.nD Cert.KernelOptloutIdeal.τ).loc Cert.KernelOptloutIdeal.main_arg2)
      ∧ r.2.mem ((c.tc : Thread Cert.KernelOptloutIdeal.nD Cert.KernelOptloutIdeal.τ).loc Cert.KernelOptloutIdeal.main_arg3) = m ((c.tc : Thread Cert.KernelOptloutIdeal.nD Cert.KernelOptloutIdeal.τ).loc Cert.KernelOptloutIdeal.main_arg3)
      ∧ r.2.mem ((c.tc : Thread Cert.KernelOptloutIdeal.nD Cert.KernelOptloutIdeal.τ).loc Cert.KernelOptloutIdeal.main_arg4) = m ((c.tc : Thread Cert.KernelOptloutIdeal.nD Cert.KernelOptloutIdeal.τ).loc Cert.KernelOptloutIdeal.main_arg4))
      ∧ r.2.sem = fun _ => 0)

def quiescent_ReferenceOptloutIdeal [hReferenceOptloutIdeal : Cert.ReferenceOptloutIdeal.Facts] : Prop :=
  ∀ (m : (ℓ : Loc Cert.ReferenceOptloutIdeal.nD Cert.ReferenceOptloutIdeal.τ Cert.ReferenceOptloutIdeal.sig) → Buf (Elt Ideal) ℓ) (g : Dev Cert.ReferenceOptloutIdeal.nD → PrngReg), Pre_ReferenceOptloutIdeal m →
    θ_run (Cert.ReferenceOptloutIdeal.defs (F := Ideal)) (onTc (τ := Cert.ReferenceOptloutIdeal.τ) (Cert.ReferenceOptloutIdeal.main (F := Ideal))) ⟨m, fun _ => 0, g⟩ (fun r => (∀ c : Dev Cert.ReferenceOptloutIdeal.nD,
      r.2.mem ((c.tc : Thread Cert.ReferenceOptloutIdeal.nD Cert.ReferenceOptloutIdeal.τ).loc Cert.ReferenceOptloutIdeal.main_arg0) = m ((c.tc : Thread Cert.ReferenceOptloutIdeal.nD Cert.ReferenceOptloutIdeal.τ).loc Cert.ReferenceOptloutIdeal.main_arg0)
      ∧ r.2.mem ((c.tc : Thread Cert.ReferenceOptloutIdeal.nD Cert.ReferenceOptloutIdeal.τ).loc Cert.ReferenceOptloutIdeal.main_arg1) = m ((c.tc : Thread Cert.ReferenceOptloutIdeal.nD Cert.ReferenceOptloutIdeal.τ).loc Cert.ReferenceOptloutIdeal.main_arg1)
      ∧ r.2.mem ((c.tc : Thread Cert.ReferenceOptloutIdeal.nD Cert.ReferenceOptloutIdeal.τ).loc Cert.ReferenceOptloutIdeal.main_arg2) = m ((c.tc : Thread Cert.ReferenceOptloutIdeal.nD Cert.ReferenceOptloutIdeal.τ).loc Cert.ReferenceOptloutIdeal.main_arg2)
      ∧ r.2.mem ((c.tc : Thread Cert.ReferenceOptloutIdeal.nD Cert.ReferenceOptloutIdeal.τ).loc Cert.ReferenceOptloutIdeal.main_arg3) = m ((c.tc : Thread Cert.ReferenceOptloutIdeal.nD Cert.ReferenceOptloutIdeal.τ).loc Cert.ReferenceOptloutIdeal.main_arg3)
      ∧ r.2.mem ((c.tc : Thread Cert.ReferenceOptloutIdeal.nD Cert.ReferenceOptloutIdeal.τ).loc Cert.ReferenceOptloutIdeal.main_arg4) = m ((c.tc : Thread Cert.ReferenceOptloutIdeal.nD Cert.ReferenceOptloutIdeal.τ).loc Cert.ReferenceOptloutIdeal.main_arg4))
      ∧ r.2.sem = fun _ => 0)

def quiescent_KernelOptglu [hKernelOptglu : Cert.KernelOptglu.Facts] : Prop :=
  ∀ (m : (ℓ : Loc Cert.KernelOptglu.nD Cert.KernelOptglu.τ Cert.KernelOptglu.sig) → Buf (Elt Bits) ℓ) (g : Dev Cert.KernelOptglu.nD → PrngReg), Pre_KernelOptglu m →
    θ_run (Cert.KernelOptglu.defs (F := Bits)) (onTc (τ := Cert.KernelOptglu.τ) (Cert.KernelOptglu.main (F := Bits))) ⟨m, fun _ => 0, g⟩ (fun r => (∀ c : Dev Cert.KernelOptglu.nD,
      r.2.mem ((c.tc : Thread Cert.KernelOptglu.nD Cert.KernelOptglu.τ).loc Cert.KernelOptglu.main_arg0) = m ((c.tc : Thread Cert.KernelOptglu.nD Cert.KernelOptglu.τ).loc Cert.KernelOptglu.main_arg0)
      ∧ r.2.mem ((c.tc : Thread Cert.KernelOptglu.nD Cert.KernelOptglu.τ).loc Cert.KernelOptglu.main_arg1) = m ((c.tc : Thread Cert.KernelOptglu.nD Cert.KernelOptglu.τ).loc Cert.KernelOptglu.main_arg1)
      ∧ r.2.mem ((c.tc : Thread Cert.KernelOptglu.nD Cert.KernelOptglu.τ).loc Cert.KernelOptglu.main_arg2) = m ((c.tc : Thread Cert.KernelOptglu.nD Cert.KernelOptglu.τ).loc Cert.KernelOptglu.main_arg2)
      ∧ r.2.mem ((c.tc : Thread Cert.KernelOptglu.nD Cert.KernelOptglu.τ).loc Cert.KernelOptglu.main_arg3) = m ((c.tc : Thread Cert.KernelOptglu.nD Cert.KernelOptglu.τ).loc Cert.KernelOptglu.main_arg3)
      ∧ r.2.mem ((c.tc : Thread Cert.KernelOptglu.nD Cert.KernelOptglu.τ).loc Cert.KernelOptglu.main_arg4) = m ((c.tc : Thread Cert.KernelOptglu.nD Cert.KernelOptglu.τ).loc Cert.KernelOptglu.main_arg4))
      ∧ r.2.sem = fun _ => 0)

def quiescent_KernelOptgluIdeal [hKernelOptgluIdeal : Cert.KernelOptgluIdeal.Facts] : Prop :=
  ∀ (m : (ℓ : Loc Cert.KernelOptgluIdeal.nD Cert.KernelOptgluIdeal.τ Cert.KernelOptgluIdeal.sig) → Buf (Elt Ideal) ℓ) (g : Dev Cert.KernelOptgluIdeal.nD → PrngReg), Pre_KernelOptgluIdeal m →
    θ_run (Cert.KernelOptgluIdeal.defs (F := Ideal)) (onTc (τ := Cert.KernelOptgluIdeal.τ) (Cert.KernelOptgluIdeal.main (F := Ideal))) ⟨m, fun _ => 0, g⟩ (fun r => (∀ c : Dev Cert.KernelOptgluIdeal.nD,
      r.2.mem ((c.tc : Thread Cert.KernelOptgluIdeal.nD Cert.KernelOptgluIdeal.τ).loc Cert.KernelOptgluIdeal.main_arg0) = m ((c.tc : Thread Cert.KernelOptgluIdeal.nD Cert.KernelOptgluIdeal.τ).loc Cert.KernelOptgluIdeal.main_arg0)
      ∧ r.2.mem ((c.tc : Thread Cert.KernelOptgluIdeal.nD Cert.KernelOptgluIdeal.τ).loc Cert.KernelOptgluIdeal.main_arg1) = m ((c.tc : Thread Cert.KernelOptgluIdeal.nD Cert.KernelOptgluIdeal.τ).loc Cert.KernelOptgluIdeal.main_arg1)
      ∧ r.2.mem ((c.tc : Thread Cert.KernelOptgluIdeal.nD Cert.KernelOptgluIdeal.τ).loc Cert.KernelOptgluIdeal.main_arg2) = m ((c.tc : Thread Cert.KernelOptgluIdeal.nD Cert.KernelOptgluIdeal.τ).loc Cert.KernelOptgluIdeal.main_arg2)
      ∧ r.2.mem ((c.tc : Thread Cert.KernelOptgluIdeal.nD Cert.KernelOptgluIdeal.τ).loc Cert.KernelOptgluIdeal.main_arg3) = m ((c.tc : Thread Cert.KernelOptgluIdeal.nD Cert.KernelOptgluIdeal.τ).loc Cert.KernelOptgluIdeal.main_arg3)
      ∧ r.2.mem ((c.tc : Thread Cert.KernelOptgluIdeal.nD Cert.KernelOptgluIdeal.τ).loc Cert.KernelOptgluIdeal.main_arg4) = m ((c.tc : Thread Cert.KernelOptgluIdeal.nD Cert.KernelOptgluIdeal.τ).loc Cert.KernelOptgluIdeal.main_arg4))
      ∧ r.2.sem = fun _ => 0)

def quiescent_ReferenceOptgluIdeal [hReferenceOptgluIdeal : Cert.ReferenceOptgluIdeal.Facts] : Prop :=
  ∀ (m : (ℓ : Loc Cert.ReferenceOptgluIdeal.nD Cert.ReferenceOptgluIdeal.τ Cert.ReferenceOptgluIdeal.sig) → Buf (Elt Ideal) ℓ) (g : Dev Cert.ReferenceOptgluIdeal.nD → PrngReg), Pre_ReferenceOptgluIdeal m →
    θ_run (Cert.ReferenceOptgluIdeal.defs (F := Ideal)) (onTc (τ := Cert.ReferenceOptgluIdeal.τ) (Cert.ReferenceOptgluIdeal.main (F := Ideal))) ⟨m, fun _ => 0, g⟩ (fun r => (∀ c : Dev Cert.ReferenceOptgluIdeal.nD,
      r.2.mem ((c.tc : Thread Cert.ReferenceOptgluIdeal.nD Cert.ReferenceOptgluIdeal.τ).loc Cert.ReferenceOptgluIdeal.main_arg0) = m ((c.tc : Thread Cert.ReferenceOptgluIdeal.nD Cert.ReferenceOptgluIdeal.τ).loc Cert.ReferenceOptgluIdeal.main_arg0)
      ∧ r.2.mem ((c.tc : Thread Cert.ReferenceOptgluIdeal.nD Cert.ReferenceOptgluIdeal.τ).loc Cert.ReferenceOptgluIdeal.main_arg1) = m ((c.tc : Thread Cert.ReferenceOptgluIdeal.nD Cert.ReferenceOptgluIdeal.τ).loc Cert.ReferenceOptgluIdeal.main_arg1)
      ∧ r.2.mem ((c.tc : Thread Cert.ReferenceOptgluIdeal.nD Cert.ReferenceOptgluIdeal.τ).loc Cert.ReferenceOptgluIdeal.main_arg2) = m ((c.tc : Thread Cert.ReferenceOptgluIdeal.nD Cert.ReferenceOptgluIdeal.τ).loc Cert.ReferenceOptgluIdeal.main_arg2)
      ∧ r.2.mem ((c.tc : Thread Cert.ReferenceOptgluIdeal.nD Cert.ReferenceOptgluIdeal.τ).loc Cert.ReferenceOptgluIdeal.main_arg3) = m ((c.tc : Thread Cert.ReferenceOptgluIdeal.nD Cert.ReferenceOptgluIdeal.τ).loc Cert.ReferenceOptgluIdeal.main_arg3)
      ∧ r.2.mem ((c.tc : Thread Cert.ReferenceOptgluIdeal.nD Cert.ReferenceOptgluIdeal.τ).loc Cert.ReferenceOptgluIdeal.main_arg4) = m ((c.tc : Thread Cert.ReferenceOptgluIdeal.nD Cert.ReferenceOptgluIdeal.τ).loc Cert.ReferenceOptgluIdeal.main_arg4))
      ∧ r.2.sem = fun _ => 0)

def quiescent_KernelOptuq [hKernelOptuq : Cert.KernelOptuq.Facts] : Prop :=
  ∀ (m : (ℓ : Loc Cert.KernelOptuq.nD Cert.KernelOptuq.τ Cert.KernelOptuq.sig) → Buf (Elt Bits) ℓ) (g : Dev Cert.KernelOptuq.nD → PrngReg), Pre_KernelOptuq m →
    θ_run (Cert.KernelOptuq.defs (F := Bits)) (onTc (τ := Cert.KernelOptuq.τ) (Cert.KernelOptuq.main (F := Bits))) ⟨m, fun _ => 0, g⟩ (fun r => (∀ c : Dev Cert.KernelOptuq.nD,
      r.2.mem ((c.tc : Thread Cert.KernelOptuq.nD Cert.KernelOptuq.τ).loc Cert.KernelOptuq.main_arg0) = m ((c.tc : Thread Cert.KernelOptuq.nD Cert.KernelOptuq.τ).loc Cert.KernelOptuq.main_arg0)
      ∧ r.2.mem ((c.tc : Thread Cert.KernelOptuq.nD Cert.KernelOptuq.τ).loc Cert.KernelOptuq.main_arg1) = m ((c.tc : Thread Cert.KernelOptuq.nD Cert.KernelOptuq.τ).loc Cert.KernelOptuq.main_arg1)
      ∧ r.2.mem ((c.tc : Thread Cert.KernelOptuq.nD Cert.KernelOptuq.τ).loc Cert.KernelOptuq.main_arg2) = m ((c.tc : Thread Cert.KernelOptuq.nD Cert.KernelOptuq.τ).loc Cert.KernelOptuq.main_arg2)
      ∧ r.2.mem ((c.tc : Thread Cert.KernelOptuq.nD Cert.KernelOptuq.τ).loc Cert.KernelOptuq.main_arg3) = m ((c.tc : Thread Cert.KernelOptuq.nD Cert.KernelOptuq.τ).loc Cert.KernelOptuq.main_arg3)
      ∧ r.2.mem ((c.tc : Thread Cert.KernelOptuq.nD Cert.KernelOptuq.τ).loc Cert.KernelOptuq.main_arg4) = m ((c.tc : Thread Cert.KernelOptuq.nD Cert.KernelOptuq.τ).loc Cert.KernelOptuq.main_arg4))
      ∧ r.2.sem = fun _ => 0)

def quiescent_KernelOptuqIdeal [hKernelOptuqIdeal : Cert.KernelOptuqIdeal.Facts] : Prop :=
  ∀ (m : (ℓ : Loc Cert.KernelOptuqIdeal.nD Cert.KernelOptuqIdeal.τ Cert.KernelOptuqIdeal.sig) → Buf (Elt Ideal) ℓ) (g : Dev Cert.KernelOptuqIdeal.nD → PrngReg), Pre_KernelOptuqIdeal m →
    θ_run (Cert.KernelOptuqIdeal.defs (F := Ideal)) (onTc (τ := Cert.KernelOptuqIdeal.τ) (Cert.KernelOptuqIdeal.main (F := Ideal))) ⟨m, fun _ => 0, g⟩ (fun r => (∀ c : Dev Cert.KernelOptuqIdeal.nD,
      r.2.mem ((c.tc : Thread Cert.KernelOptuqIdeal.nD Cert.KernelOptuqIdeal.τ).loc Cert.KernelOptuqIdeal.main_arg0) = m ((c.tc : Thread Cert.KernelOptuqIdeal.nD Cert.KernelOptuqIdeal.τ).loc Cert.KernelOptuqIdeal.main_arg0)
      ∧ r.2.mem ((c.tc : Thread Cert.KernelOptuqIdeal.nD Cert.KernelOptuqIdeal.τ).loc Cert.KernelOptuqIdeal.main_arg1) = m ((c.tc : Thread Cert.KernelOptuqIdeal.nD Cert.KernelOptuqIdeal.τ).loc Cert.KernelOptuqIdeal.main_arg1)
      ∧ r.2.mem ((c.tc : Thread Cert.KernelOptuqIdeal.nD Cert.KernelOptuqIdeal.τ).loc Cert.KernelOptuqIdeal.main_arg2) = m ((c.tc : Thread Cert.KernelOptuqIdeal.nD Cert.KernelOptuqIdeal.τ).loc Cert.KernelOptuqIdeal.main_arg2)
      ∧ r.2.mem ((c.tc : Thread Cert.KernelOptuqIdeal.nD Cert.KernelOptuqIdeal.τ).loc Cert.KernelOptuqIdeal.main_arg3) = m ((c.tc : Thread Cert.KernelOptuqIdeal.nD Cert.KernelOptuqIdeal.τ).loc Cert.KernelOptuqIdeal.main_arg3)
      ∧ r.2.mem ((c.tc : Thread Cert.KernelOptuqIdeal.nD Cert.KernelOptuqIdeal.τ).loc Cert.KernelOptuqIdeal.main_arg4) = m ((c.tc : Thread Cert.KernelOptuqIdeal.nD Cert.KernelOptuqIdeal.τ).loc Cert.KernelOptuqIdeal.main_arg4))
      ∧ r.2.sem = fun _ => 0)

def quiescent_ReferenceOptuqIdeal [hReferenceOptuqIdeal : Cert.ReferenceOptuqIdeal.Facts] : Prop :=
  ∀ (m : (ℓ : Loc Cert.ReferenceOptuqIdeal.nD Cert.ReferenceOptuqIdeal.τ Cert.ReferenceOptuqIdeal.sig) → Buf (Elt Ideal) ℓ) (g : Dev Cert.ReferenceOptuqIdeal.nD → PrngReg), Pre_ReferenceOptuqIdeal m →
    θ_run (Cert.ReferenceOptuqIdeal.defs (F := Ideal)) (onTc (τ := Cert.ReferenceOptuqIdeal.τ) (Cert.ReferenceOptuqIdeal.main (F := Ideal))) ⟨m, fun _ => 0, g⟩ (fun r => (∀ c : Dev Cert.ReferenceOptuqIdeal.nD,
      r.2.mem ((c.tc : Thread Cert.ReferenceOptuqIdeal.nD Cert.ReferenceOptuqIdeal.τ).loc Cert.ReferenceOptuqIdeal.main_arg0) = m ((c.tc : Thread Cert.ReferenceOptuqIdeal.nD Cert.ReferenceOptuqIdeal.τ).loc Cert.ReferenceOptuqIdeal.main_arg0)
      ∧ r.2.mem ((c.tc : Thread Cert.ReferenceOptuqIdeal.nD Cert.ReferenceOptuqIdeal.τ).loc Cert.ReferenceOptuqIdeal.main_arg1) = m ((c.tc : Thread Cert.ReferenceOptuqIdeal.nD Cert.ReferenceOptuqIdeal.τ).loc Cert.ReferenceOptuqIdeal.main_arg1)
      ∧ r.2.mem ((c.tc : Thread Cert.ReferenceOptuqIdeal.nD Cert.ReferenceOptuqIdeal.τ).loc Cert.ReferenceOptuqIdeal.main_arg2) = m ((c.tc : Thread Cert.ReferenceOptuqIdeal.nD Cert.ReferenceOptuqIdeal.τ).loc Cert.ReferenceOptuqIdeal.main_arg2)
      ∧ r.2.mem ((c.tc : Thread Cert.ReferenceOptuqIdeal.nD Cert.ReferenceOptuqIdeal.τ).loc Cert.ReferenceOptuqIdeal.main_arg3) = m ((c.tc : Thread Cert.ReferenceOptuqIdeal.nD Cert.ReferenceOptuqIdeal.τ).loc Cert.ReferenceOptuqIdeal.main_arg3)
      ∧ r.2.mem ((c.tc : Thread Cert.ReferenceOptuqIdeal.nD Cert.ReferenceOptuqIdeal.τ).loc Cert.ReferenceOptuqIdeal.main_arg4) = m ((c.tc : Thread Cert.ReferenceOptuqIdeal.nD Cert.ReferenceOptuqIdeal.τ).loc Cert.ReferenceOptuqIdeal.main_arg4))
      ∧ r.2.sem = fun _ => 0)

def quiescent_KernelOptukv [hKernelOptukv : Cert.KernelOptukv.Facts] : Prop :=
  ∀ (m : (ℓ : Loc Cert.KernelOptukv.nD Cert.KernelOptukv.τ Cert.KernelOptukv.sig) → Buf (Elt Bits) ℓ) (g : Dev Cert.KernelOptukv.nD → PrngReg), Pre_KernelOptukv m →
    θ_run (Cert.KernelOptukv.defs (F := Bits)) (onTc (τ := Cert.KernelOptukv.τ) (Cert.KernelOptukv.main (F := Bits))) ⟨m, fun _ => 0, g⟩ (fun r => (∀ c : Dev Cert.KernelOptukv.nD,
      r.2.mem ((c.tc : Thread Cert.KernelOptukv.nD Cert.KernelOptukv.τ).loc Cert.KernelOptukv.main_arg0) = m ((c.tc : Thread Cert.KernelOptukv.nD Cert.KernelOptukv.τ).loc Cert.KernelOptukv.main_arg0)
      ∧ r.2.mem ((c.tc : Thread Cert.KernelOptukv.nD Cert.KernelOptukv.τ).loc Cert.KernelOptukv.main_arg1) = m ((c.tc : Thread Cert.KernelOptukv.nD Cert.KernelOptukv.τ).loc Cert.KernelOptukv.main_arg1)
      ∧ r.2.mem ((c.tc : Thread Cert.KernelOptukv.nD Cert.KernelOptukv.τ).loc Cert.KernelOptukv.main_arg2) = m ((c.tc : Thread Cert.KernelOptukv.nD Cert.KernelOptukv.τ).loc Cert.KernelOptukv.main_arg2)
      ∧ r.2.mem ((c.tc : Thread Cert.KernelOptukv.nD Cert.KernelOptukv.τ).loc Cert.KernelOptukv.main_arg3) = m ((c.tc : Thread Cert.KernelOptukv.nD Cert.KernelOptukv.τ).loc Cert.KernelOptukv.main_arg3)
      ∧ r.2.mem ((c.tc : Thread Cert.KernelOptukv.nD Cert.KernelOptukv.τ).loc Cert.KernelOptukv.main_arg4) = m ((c.tc : Thread Cert.KernelOptukv.nD Cert.KernelOptukv.τ).loc Cert.KernelOptukv.main_arg4))
      ∧ r.2.sem = fun _ => 0)

def quiescent_KernelOptukvIdeal [hKernelOptukvIdeal : Cert.KernelOptukvIdeal.Facts] : Prop :=
  ∀ (m : (ℓ : Loc Cert.KernelOptukvIdeal.nD Cert.KernelOptukvIdeal.τ Cert.KernelOptukvIdeal.sig) → Buf (Elt Ideal) ℓ) (g : Dev Cert.KernelOptukvIdeal.nD → PrngReg), Pre_KernelOptukvIdeal m →
    θ_run (Cert.KernelOptukvIdeal.defs (F := Ideal)) (onTc (τ := Cert.KernelOptukvIdeal.τ) (Cert.KernelOptukvIdeal.main (F := Ideal))) ⟨m, fun _ => 0, g⟩ (fun r => (∀ c : Dev Cert.KernelOptukvIdeal.nD,
      r.2.mem ((c.tc : Thread Cert.KernelOptukvIdeal.nD Cert.KernelOptukvIdeal.τ).loc Cert.KernelOptukvIdeal.main_arg0) = m ((c.tc : Thread Cert.KernelOptukvIdeal.nD Cert.KernelOptukvIdeal.τ).loc Cert.KernelOptukvIdeal.main_arg0)
      ∧ r.2.mem ((c.tc : Thread Cert.KernelOptukvIdeal.nD Cert.KernelOptukvIdeal.τ).loc Cert.KernelOptukvIdeal.main_arg1) = m ((c.tc : Thread Cert.KernelOptukvIdeal.nD Cert.KernelOptukvIdeal.τ).loc Cert.KernelOptukvIdeal.main_arg1)
      ∧ r.2.mem ((c.tc : Thread Cert.KernelOptukvIdeal.nD Cert.KernelOptukvIdeal.τ).loc Cert.KernelOptukvIdeal.main_arg2) = m ((c.tc : Thread Cert.KernelOptukvIdeal.nD Cert.KernelOptukvIdeal.τ).loc Cert.KernelOptukvIdeal.main_arg2)
      ∧ r.2.mem ((c.tc : Thread Cert.KernelOptukvIdeal.nD Cert.KernelOptukvIdeal.τ).loc Cert.KernelOptukvIdeal.main_arg3) = m ((c.tc : Thread Cert.KernelOptukvIdeal.nD Cert.KernelOptukvIdeal.τ).loc Cert.KernelOptukvIdeal.main_arg3)
      ∧ r.2.mem ((c.tc : Thread Cert.KernelOptukvIdeal.nD Cert.KernelOptukvIdeal.τ).loc Cert.KernelOptukvIdeal.main_arg4) = m ((c.tc : Thread Cert.KernelOptukvIdeal.nD Cert.KernelOptukvIdeal.τ).loc Cert.KernelOptukvIdeal.main_arg4))
      ∧ r.2.sem = fun _ => 0)

def quiescent_ReferenceOptukvIdeal [hReferenceOptukvIdeal : Cert.ReferenceOptukvIdeal.Facts] : Prop :=
  ∀ (m : (ℓ : Loc Cert.ReferenceOptukvIdeal.nD Cert.ReferenceOptukvIdeal.τ Cert.ReferenceOptukvIdeal.sig) → Buf (Elt Ideal) ℓ) (g : Dev Cert.ReferenceOptukvIdeal.nD → PrngReg), Pre_ReferenceOptukvIdeal m →
    θ_run (Cert.ReferenceOptukvIdeal.defs (F := Ideal)) (onTc (τ := Cert.ReferenceOptukvIdeal.τ) (Cert.ReferenceOptukvIdeal.main (F := Ideal))) ⟨m, fun _ => 0, g⟩ (fun r => (∀ c : Dev Cert.ReferenceOptukvIdeal.nD,
      r.2.mem ((c.tc : Thread Cert.ReferenceOptukvIdeal.nD Cert.ReferenceOptukvIdeal.τ).loc Cert.ReferenceOptukvIdeal.main_arg0) = m ((c.tc : Thread Cert.ReferenceOptukvIdeal.nD Cert.ReferenceOptukvIdeal.τ).loc Cert.ReferenceOptukvIdeal.main_arg0)
      ∧ r.2.mem ((c.tc : Thread Cert.ReferenceOptukvIdeal.nD Cert.ReferenceOptukvIdeal.τ).loc Cert.ReferenceOptukvIdeal.main_arg1) = m ((c.tc : Thread Cert.ReferenceOptukvIdeal.nD Cert.ReferenceOptukvIdeal.τ).loc Cert.ReferenceOptukvIdeal.main_arg1)
      ∧ r.2.mem ((c.tc : Thread Cert.ReferenceOptukvIdeal.nD Cert.ReferenceOptukvIdeal.τ).loc Cert.ReferenceOptukvIdeal.main_arg2) = m ((c.tc : Thread Cert.ReferenceOptukvIdeal.nD Cert.ReferenceOptukvIdeal.τ).loc Cert.ReferenceOptukvIdeal.main_arg2)
      ∧ r.2.mem ((c.tc : Thread Cert.ReferenceOptukvIdeal.nD Cert.ReferenceOptukvIdeal.τ).loc Cert.ReferenceOptukvIdeal.main_arg3) = m ((c.tc : Thread Cert.ReferenceOptukvIdeal.nD Cert.ReferenceOptukvIdeal.τ).loc Cert.ReferenceOptukvIdeal.main_arg3)
      ∧ r.2.mem ((c.tc : Thread Cert.ReferenceOptukvIdeal.nD Cert.ReferenceOptukvIdeal.τ).loc Cert.ReferenceOptukvIdeal.main_arg4) = m ((c.tc : Thread Cert.ReferenceOptukvIdeal.nD Cert.ReferenceOptukvIdeal.τ).loc Cert.ReferenceOptukvIdeal.main_arg4))
      ∧ r.2.sem = fun _ => 0)

def quiescent_KernelOptmeta [hKernelOptmeta : Cert.KernelOptmeta.Facts] : Prop :=
  ∀ (m : (ℓ : Loc Cert.KernelOptmeta.nD Cert.KernelOptmeta.τ Cert.KernelOptmeta.sig) → Buf (Elt Bits) ℓ) (g : Dev Cert.KernelOptmeta.nD → PrngReg), Pre_KernelOptmeta m →
    θ_run (Cert.KernelOptmeta.defs (F := Bits)) (onTc (τ := Cert.KernelOptmeta.τ) (Cert.KernelOptmeta.main (F := Bits))) ⟨m, fun _ => 0, g⟩ (fun r => (∀ c : Dev Cert.KernelOptmeta.nD,
      r.2.mem ((c.tc : Thread Cert.KernelOptmeta.nD Cert.KernelOptmeta.τ).loc Cert.KernelOptmeta.main_arg0) = m ((c.tc : Thread Cert.KernelOptmeta.nD Cert.KernelOptmeta.τ).loc Cert.KernelOptmeta.main_arg0)
      ∧ r.2.mem ((c.tc : Thread Cert.KernelOptmeta.nD Cert.KernelOptmeta.τ).loc Cert.KernelOptmeta.main_arg1) = m ((c.tc : Thread Cert.KernelOptmeta.nD Cert.KernelOptmeta.τ).loc Cert.KernelOptmeta.main_arg1)
      ∧ r.2.mem ((c.tc : Thread Cert.KernelOptmeta.nD Cert.KernelOptmeta.τ).loc Cert.KernelOptmeta.main_arg2) = m ((c.tc : Thread Cert.KernelOptmeta.nD Cert.KernelOptmeta.τ).loc Cert.KernelOptmeta.main_arg2)
      ∧ r.2.mem ((c.tc : Thread Cert.KernelOptmeta.nD Cert.KernelOptmeta.τ).loc Cert.KernelOptmeta.main_arg3) = m ((c.tc : Thread Cert.KernelOptmeta.nD Cert.KernelOptmeta.τ).loc Cert.KernelOptmeta.main_arg3))
      ∧ r.2.sem = fun _ => 0)

def quiescent_KernelOptmetaIdeal [hKernelOptmetaIdeal : Cert.KernelOptmetaIdeal.Facts] : Prop :=
  ∀ (m : (ℓ : Loc Cert.KernelOptmetaIdeal.nD Cert.KernelOptmetaIdeal.τ Cert.KernelOptmetaIdeal.sig) → Buf (Elt Ideal) ℓ) (g : Dev Cert.KernelOptmetaIdeal.nD → PrngReg), Pre_KernelOptmetaIdeal m →
    θ_run (Cert.KernelOptmetaIdeal.defs (F := Ideal)) (onTc (τ := Cert.KernelOptmetaIdeal.τ) (Cert.KernelOptmetaIdeal.main (F := Ideal))) ⟨m, fun _ => 0, g⟩ (fun r => (∀ c : Dev Cert.KernelOptmetaIdeal.nD,
      r.2.mem ((c.tc : Thread Cert.KernelOptmetaIdeal.nD Cert.KernelOptmetaIdeal.τ).loc Cert.KernelOptmetaIdeal.main_arg0) = m ((c.tc : Thread Cert.KernelOptmetaIdeal.nD Cert.KernelOptmetaIdeal.τ).loc Cert.KernelOptmetaIdeal.main_arg0)
      ∧ r.2.mem ((c.tc : Thread Cert.KernelOptmetaIdeal.nD Cert.KernelOptmetaIdeal.τ).loc Cert.KernelOptmetaIdeal.main_arg1) = m ((c.tc : Thread Cert.KernelOptmetaIdeal.nD Cert.KernelOptmetaIdeal.τ).loc Cert.KernelOptmetaIdeal.main_arg1)
      ∧ r.2.mem ((c.tc : Thread Cert.KernelOptmetaIdeal.nD Cert.KernelOptmetaIdeal.τ).loc Cert.KernelOptmetaIdeal.main_arg2) = m ((c.tc : Thread Cert.KernelOptmetaIdeal.nD Cert.KernelOptmetaIdeal.τ).loc Cert.KernelOptmetaIdeal.main_arg2)
      ∧ r.2.mem ((c.tc : Thread Cert.KernelOptmetaIdeal.nD Cert.KernelOptmetaIdeal.τ).loc Cert.KernelOptmetaIdeal.main_arg3) = m ((c.tc : Thread Cert.KernelOptmetaIdeal.nD Cert.KernelOptmetaIdeal.τ).loc Cert.KernelOptmetaIdeal.main_arg3))
      ∧ r.2.sem = fun _ => 0)

def quiescent_ReferenceOptmetaIdeal [hReferenceOptmetaIdeal : Cert.ReferenceOptmetaIdeal.Facts] : Prop :=
  ∀ (m : (ℓ : Loc Cert.ReferenceOptmetaIdeal.nD Cert.ReferenceOptmetaIdeal.τ Cert.ReferenceOptmetaIdeal.sig) → Buf (Elt Ideal) ℓ) (g : Dev Cert.ReferenceOptmetaIdeal.nD → PrngReg), Pre_ReferenceOptmetaIdeal m →
    θ_run (Cert.ReferenceOptmetaIdeal.defs (F := Ideal)) (onTc (τ := Cert.ReferenceOptmetaIdeal.τ) (Cert.ReferenceOptmetaIdeal.main (F := Ideal))) ⟨m, fun _ => 0, g⟩ (fun r => (∀ c : Dev Cert.ReferenceOptmetaIdeal.nD,
      r.2.mem ((c.tc : Thread Cert.ReferenceOptmetaIdeal.nD Cert.ReferenceOptmetaIdeal.τ).loc Cert.ReferenceOptmetaIdeal.main_arg0) = m ((c.tc : Thread Cert.ReferenceOptmetaIdeal.nD Cert.ReferenceOptmetaIdeal.τ).loc Cert.ReferenceOptmetaIdeal.main_arg0)
      ∧ r.2.mem ((c.tc : Thread Cert.ReferenceOptmetaIdeal.nD Cert.ReferenceOptmetaIdeal.τ).loc Cert.ReferenceOptmetaIdeal.main_arg1) = m ((c.tc : Thread Cert.ReferenceOptmetaIdeal.nD Cert.ReferenceOptmetaIdeal.τ).loc Cert.ReferenceOptmetaIdeal.main_arg1)
      ∧ r.2.mem ((c.tc : Thread Cert.ReferenceOptmetaIdeal.nD Cert.ReferenceOptmetaIdeal.τ).loc Cert.ReferenceOptmetaIdeal.main_arg2) = m ((c.tc : Thread Cert.ReferenceOptmetaIdeal.nD Cert.ReferenceOptmetaIdeal.τ).loc Cert.ReferenceOptmetaIdeal.main_arg2)
      ∧ r.2.mem ((c.tc : Thread Cert.ReferenceOptmetaIdeal.nD Cert.ReferenceOptmetaIdeal.τ).loc Cert.ReferenceOptmetaIdeal.main_arg3) = m ((c.tc : Thread Cert.ReferenceOptmetaIdeal.nD Cert.ReferenceOptmetaIdeal.τ).loc Cert.ReferenceOptmetaIdeal.main_arg3))
      ∧ r.2.sem = fun _ => 0)

def quiescent_KernelOptconv [hKernelOptconv : Cert.KernelOptconv.Facts] : Prop :=
  ∀ (m : (ℓ : Loc Cert.KernelOptconv.nD Cert.KernelOptconv.τ Cert.KernelOptconv.sig) → Buf (Elt Bits) ℓ) (g : Dev Cert.KernelOptconv.nD → PrngReg), Pre_KernelOptconv m →
    θ_run (Cert.KernelOptconv.defs (F := Bits)) (onTc (τ := Cert.KernelOptconv.τ) (Cert.KernelOptconv.main (F := Bits))) ⟨m, fun _ => 0, g⟩ (fun r => (∀ c : Dev Cert.KernelOptconv.nD,
      r.2.mem ((c.tc : Thread Cert.KernelOptconv.nD Cert.KernelOptconv.τ).loc Cert.KernelOptconv.main_arg0) = m ((c.tc : Thread Cert.KernelOptconv.nD Cert.KernelOptconv.τ).loc Cert.KernelOptconv.main_arg0)
      ∧ r.2.mem ((c.tc : Thread Cert.KernelOptconv.nD Cert.KernelOptconv.τ).loc Cert.KernelOptconv.main_arg1) = m ((c.tc : Thread Cert.KernelOptconv.nD Cert.KernelOptconv.τ).loc Cert.KernelOptconv.main_arg1)
      ∧ r.2.mem ((c.tc : Thread Cert.KernelOptconv.nD Cert.KernelOptconv.τ).loc Cert.KernelOptconv.main_arg2) = m ((c.tc : Thread Cert.KernelOptconv.nD Cert.KernelOptconv.τ).loc Cert.KernelOptconv.main_arg2)
      ∧ r.2.mem ((c.tc : Thread Cert.KernelOptconv.nD Cert.KernelOptconv.τ).loc Cert.KernelOptconv.main_arg3) = m ((c.tc : Thread Cert.KernelOptconv.nD Cert.KernelOptconv.τ).loc Cert.KernelOptconv.main_arg3))
      ∧ r.2.sem = fun _ => 0)

def quiescent_KernelOptconvIdeal [hKernelOptconvIdeal : Cert.KernelOptconvIdeal.Facts] : Prop :=
  ∀ (m : (ℓ : Loc Cert.KernelOptconvIdeal.nD Cert.KernelOptconvIdeal.τ Cert.KernelOptconvIdeal.sig) → Buf (Elt Ideal) ℓ) (g : Dev Cert.KernelOptconvIdeal.nD → PrngReg), Pre_KernelOptconvIdeal m →
    θ_run (Cert.KernelOptconvIdeal.defs (F := Ideal)) (onTc (τ := Cert.KernelOptconvIdeal.τ) (Cert.KernelOptconvIdeal.main (F := Ideal))) ⟨m, fun _ => 0, g⟩ (fun r => (∀ c : Dev Cert.KernelOptconvIdeal.nD,
      r.2.mem ((c.tc : Thread Cert.KernelOptconvIdeal.nD Cert.KernelOptconvIdeal.τ).loc Cert.KernelOptconvIdeal.main_arg0) = m ((c.tc : Thread Cert.KernelOptconvIdeal.nD Cert.KernelOptconvIdeal.τ).loc Cert.KernelOptconvIdeal.main_arg0)
      ∧ r.2.mem ((c.tc : Thread Cert.KernelOptconvIdeal.nD Cert.KernelOptconvIdeal.τ).loc Cert.KernelOptconvIdeal.main_arg1) = m ((c.tc : Thread Cert.KernelOptconvIdeal.nD Cert.KernelOptconvIdeal.τ).loc Cert.KernelOptconvIdeal.main_arg1)
      ∧ r.2.mem ((c.tc : Thread Cert.KernelOptconvIdeal.nD Cert.KernelOptconvIdeal.τ).loc Cert.KernelOptconvIdeal.main_arg2) = m ((c.tc : Thread Cert.KernelOptconvIdeal.nD Cert.KernelOptconvIdeal.τ).loc Cert.KernelOptconvIdeal.main_arg2)
      ∧ r.2.mem ((c.tc : Thread Cert.KernelOptconvIdeal.nD Cert.KernelOptconvIdeal.τ).loc Cert.KernelOptconvIdeal.main_arg3) = m ((c.tc : Thread Cert.KernelOptconvIdeal.nD Cert.KernelOptconvIdeal.τ).loc Cert.KernelOptconvIdeal.main_arg3))
      ∧ r.2.sem = fun _ => 0)

def quiescent_ReferenceOptconvIdeal [hReferenceOptconvIdeal : Cert.ReferenceOptconvIdeal.Facts] : Prop :=
  ∀ (m : (ℓ : Loc Cert.ReferenceOptconvIdeal.nD Cert.ReferenceOptconvIdeal.τ Cert.ReferenceOptconvIdeal.sig) → Buf (Elt Ideal) ℓ) (g : Dev Cert.ReferenceOptconvIdeal.nD → PrngReg), Pre_ReferenceOptconvIdeal m →
    θ_run (Cert.ReferenceOptconvIdeal.defs (F := Ideal)) (onTc (τ := Cert.ReferenceOptconvIdeal.τ) (Cert.ReferenceOptconvIdeal.main (F := Ideal))) ⟨m, fun _ => 0, g⟩ (fun r => (∀ c : Dev Cert.ReferenceOptconvIdeal.nD,
      r.2.mem ((c.tc : Thread Cert.ReferenceOptconvIdeal.nD Cert.ReferenceOptconvIdeal.τ).loc Cert.ReferenceOptconvIdeal.main_arg0) = m ((c.tc : Thread Cert.ReferenceOptconvIdeal.nD Cert.ReferenceOptconvIdeal.τ).loc Cert.ReferenceOptconvIdeal.main_arg0)
      ∧ r.2.mem ((c.tc : Thread Cert.ReferenceOptconvIdeal.nD Cert.ReferenceOptconvIdeal.τ).loc Cert.ReferenceOptconvIdeal.main_arg1) = m ((c.tc : Thread Cert.ReferenceOptconvIdeal.nD Cert.ReferenceOptconvIdeal.τ).loc Cert.ReferenceOptconvIdeal.main_arg1)
      ∧ r.2.mem ((c.tc : Thread Cert.ReferenceOptconvIdeal.nD Cert.ReferenceOptconvIdeal.τ).loc Cert.ReferenceOptconvIdeal.main_arg2) = m ((c.tc : Thread Cert.ReferenceOptconvIdeal.nD Cert.ReferenceOptconvIdeal.τ).loc Cert.ReferenceOptconvIdeal.main_arg2)
      ∧ r.2.mem ((c.tc : Thread Cert.ReferenceOptconvIdeal.nD Cert.ReferenceOptconvIdeal.τ).loc Cert.ReferenceOptconvIdeal.main_arg3) = m ((c.tc : Thread Cert.ReferenceOptconvIdeal.nD Cert.ReferenceOptconvIdeal.τ).loc Cert.ReferenceOptconvIdeal.main_arg3))
      ∧ r.2.sem = fun _ => 0)

def quiescent_KernelOptflat [hKernelOptflat : Cert.KernelOptflat.Facts] : Prop :=
  ∀ (m : (ℓ : Loc Cert.KernelOptflat.nD Cert.KernelOptflat.τ Cert.KernelOptflat.sig) → Buf (Elt Bits) ℓ) (g : Dev Cert.KernelOptflat.nD → PrngReg), Pre_KernelOptflat m →
    θ_run (Cert.KernelOptflat.defs (F := Bits)) (onTc (τ := Cert.KernelOptflat.τ) (Cert.KernelOptflat.main (F := Bits))) ⟨m, fun _ => 0, g⟩ (fun r => (∀ c : Dev Cert.KernelOptflat.nD,
      r.2.mem ((c.tc : Thread Cert.KernelOptflat.nD Cert.KernelOptflat.τ).loc Cert.KernelOptflat.main_arg0) = m ((c.tc : Thread Cert.KernelOptflat.nD Cert.KernelOptflat.τ).loc Cert.KernelOptflat.main_arg0)
      ∧ r.2.mem ((c.tc : Thread Cert.KernelOptflat.nD Cert.KernelOptflat.τ).loc Cert.KernelOptflat.main_arg1) = m ((c.tc : Thread Cert.KernelOptflat.nD Cert.KernelOptflat.τ).loc Cert.KernelOptflat.main_arg1)
      ∧ r.2.mem ((c.tc : Thread Cert.KernelOptflat.nD Cert.KernelOptflat.τ).loc Cert.KernelOptflat.main_arg2) = m ((c.tc : Thread Cert.KernelOptflat.nD Cert.KernelOptflat.τ).loc Cert.KernelOptflat.main_arg2)
      ∧ r.2.mem ((c.tc : Thread Cert.KernelOptflat.nD Cert.KernelOptflat.τ).loc Cert.KernelOptflat.main_arg3) = m ((c.tc : Thread Cert.KernelOptflat.nD Cert.KernelOptflat.τ).loc Cert.KernelOptflat.main_arg3))
      ∧ r.2.sem = fun _ => 0)

def quiescent_KernelOptflatIdeal [hKernelOptflatIdeal : Cert.KernelOptflatIdeal.Facts] : Prop :=
  ∀ (m : (ℓ : Loc Cert.KernelOptflatIdeal.nD Cert.KernelOptflatIdeal.τ Cert.KernelOptflatIdeal.sig) → Buf (Elt Ideal) ℓ) (g : Dev Cert.KernelOptflatIdeal.nD → PrngReg), Pre_KernelOptflatIdeal m →
    θ_run (Cert.KernelOptflatIdeal.defs (F := Ideal)) (onTc (τ := Cert.KernelOptflatIdeal.τ) (Cert.KernelOptflatIdeal.main (F := Ideal))) ⟨m, fun _ => 0, g⟩ (fun r => (∀ c : Dev Cert.KernelOptflatIdeal.nD,
      r.2.mem ((c.tc : Thread Cert.KernelOptflatIdeal.nD Cert.KernelOptflatIdeal.τ).loc Cert.KernelOptflatIdeal.main_arg0) = m ((c.tc : Thread Cert.KernelOptflatIdeal.nD Cert.KernelOptflatIdeal.τ).loc Cert.KernelOptflatIdeal.main_arg0)
      ∧ r.2.mem ((c.tc : Thread Cert.KernelOptflatIdeal.nD Cert.KernelOptflatIdeal.τ).loc Cert.KernelOptflatIdeal.main_arg1) = m ((c.tc : Thread Cert.KernelOptflatIdeal.nD Cert.KernelOptflatIdeal.τ).loc Cert.KernelOptflatIdeal.main_arg1)
      ∧ r.2.mem ((c.tc : Thread Cert.KernelOptflatIdeal.nD Cert.KernelOptflatIdeal.τ).loc Cert.KernelOptflatIdeal.main_arg2) = m ((c.tc : Thread Cert.KernelOptflatIdeal.nD Cert.KernelOptflatIdeal.τ).loc Cert.KernelOptflatIdeal.main_arg2)
      ∧ r.2.mem ((c.tc : Thread Cert.KernelOptflatIdeal.nD Cert.KernelOptflatIdeal.τ).loc Cert.KernelOptflatIdeal.main_arg3) = m ((c.tc : Thread Cert.KernelOptflatIdeal.nD Cert.KernelOptflatIdeal.τ).loc Cert.KernelOptflatIdeal.main_arg3))
      ∧ r.2.sem = fun _ => 0)

def quiescent_ReferenceOptflatIdeal [hReferenceOptflatIdeal : Cert.ReferenceOptflatIdeal.Facts] : Prop :=
  ∀ (m : (ℓ : Loc Cert.ReferenceOptflatIdeal.nD Cert.ReferenceOptflatIdeal.τ Cert.ReferenceOptflatIdeal.sig) → Buf (Elt Ideal) ℓ) (g : Dev Cert.ReferenceOptflatIdeal.nD → PrngReg), Pre_ReferenceOptflatIdeal m →
    θ_run (Cert.ReferenceOptflatIdeal.defs (F := Ideal)) (onTc (τ := Cert.ReferenceOptflatIdeal.τ) (Cert.ReferenceOptflatIdeal.main (F := Ideal))) ⟨m, fun _ => 0, g⟩ (fun r => (∀ c : Dev Cert.ReferenceOptflatIdeal.nD,
      r.2.mem ((c.tc : Thread Cert.ReferenceOptflatIdeal.nD Cert.ReferenceOptflatIdeal.τ).loc Cert.ReferenceOptflatIdeal.main_arg0) = m ((c.tc : Thread Cert.ReferenceOptflatIdeal.nD Cert.ReferenceOptflatIdeal.τ).loc Cert.ReferenceOptflatIdeal.main_arg0)
      ∧ r.2.mem ((c.tc : Thread Cert.ReferenceOptflatIdeal.nD Cert.ReferenceOptflatIdeal.τ).loc Cert.ReferenceOptflatIdeal.main_arg1) = m ((c.tc : Thread Cert.ReferenceOptflatIdeal.nD Cert.ReferenceOptflatIdeal.τ).loc Cert.ReferenceOptflatIdeal.main_arg1)
      ∧ r.2.mem ((c.tc : Thread Cert.ReferenceOptflatIdeal.nD Cert.ReferenceOptflatIdeal.τ).loc Cert.ReferenceOptflatIdeal.main_arg2) = m ((c.tc : Thread Cert.ReferenceOptflatIdeal.nD Cert.ReferenceOptflatIdeal.τ).loc Cert.ReferenceOptflatIdeal.main_arg2)
      ∧ r.2.mem ((c.tc : Thread Cert.ReferenceOptflatIdeal.nD Cert.ReferenceOptflatIdeal.τ).loc Cert.ReferenceOptflatIdeal.main_arg3) = m ((c.tc : Thread Cert.ReferenceOptflatIdeal.nD Cert.ReferenceOptflatIdeal.τ).loc Cert.ReferenceOptflatIdeal.main_arg3))
      ∧ r.2.sem = fun _ => 0)

def quiescent_KernelDx [hKernelDx : Cert.KernelDx.Facts] : Prop :=
  ∀ (m : (ℓ : Loc Cert.KernelDx.nD Cert.KernelDx.τ Cert.KernelDx.sig) → Buf (Elt Bits) ℓ) (g : Dev Cert.KernelDx.nD → PrngReg), Pre_KernelDx m →
    θ_run (Cert.KernelDx.defs (F := Bits)) (onTc (τ := Cert.KernelDx.τ) (Cert.KernelDx.main (F := Bits))) ⟨m, fun _ => 0, g⟩ (fun r => (∀ c : Dev Cert.KernelDx.nD,
      r.2.mem ((c.tc : Thread Cert.KernelDx.nD Cert.KernelDx.τ).loc Cert.KernelDx.main_arg0) = m ((c.tc : Thread Cert.KernelDx.nD Cert.KernelDx.τ).loc Cert.KernelDx.main_arg0)
      ∧ r.2.mem ((c.tc : Thread Cert.KernelDx.nD Cert.KernelDx.τ).loc Cert.KernelDx.main_arg1) = m ((c.tc : Thread Cert.KernelDx.nD Cert.KernelDx.τ).loc Cert.KernelDx.main_arg1))
      ∧ r.2.sem = fun _ => 0)

def quiescent_KernelDxIdeal [hKernelDxIdeal : Cert.KernelDxIdeal.Facts] : Prop :=
  ∀ (m : (ℓ : Loc Cert.KernelDxIdeal.nD Cert.KernelDxIdeal.τ Cert.KernelDxIdeal.sig) → Buf (Elt Ideal) ℓ) (g : Dev Cert.KernelDxIdeal.nD → PrngReg), Pre_KernelDxIdeal m →
    θ_run (Cert.KernelDxIdeal.defs (F := Ideal)) (onTc (τ := Cert.KernelDxIdeal.τ) (Cert.KernelDxIdeal.main (F := Ideal))) ⟨m, fun _ => 0, g⟩ (fun r => (∀ c : Dev Cert.KernelDxIdeal.nD,
      r.2.mem ((c.tc : Thread Cert.KernelDxIdeal.nD Cert.KernelDxIdeal.τ).loc Cert.KernelDxIdeal.main_arg0) = m ((c.tc : Thread Cert.KernelDxIdeal.nD Cert.KernelDxIdeal.τ).loc Cert.KernelDxIdeal.main_arg0)
      ∧ r.2.mem ((c.tc : Thread Cert.KernelDxIdeal.nD Cert.KernelDxIdeal.τ).loc Cert.KernelDxIdeal.main_arg1) = m ((c.tc : Thread Cert.KernelDxIdeal.nD Cert.KernelDxIdeal.τ).loc Cert.KernelDxIdeal.main_arg1))
      ∧ r.2.sem = fun _ => 0)

def quiescent_ReferenceDxIdeal [hReferenceDxIdeal : Cert.ReferenceDxIdeal.Facts] : Prop :=
  ∀ (m : (ℓ : Loc Cert.ReferenceDxIdeal.nD Cert.ReferenceDxIdeal.τ Cert.ReferenceDxIdeal.sig) → Buf (Elt Ideal) ℓ) (g : Dev Cert.ReferenceDxIdeal.nD → PrngReg), Pre_ReferenceDxIdeal m →
    θ_run (Cert.ReferenceDxIdeal.defs (F := Ideal)) (onTc (τ := Cert.ReferenceDxIdeal.τ) (Cert.ReferenceDxIdeal.main (F := Ideal))) ⟨m, fun _ => 0, g⟩ (fun r => (∀ c : Dev Cert.ReferenceDxIdeal.nD,
      r.2.mem ((c.tc : Thread Cert.ReferenceDxIdeal.nD Cert.ReferenceDxIdeal.τ).loc Cert.ReferenceDxIdeal.main_arg0) = m ((c.tc : Thread Cert.ReferenceDxIdeal.nD Cert.ReferenceDxIdeal.τ).loc Cert.ReferenceDxIdeal.main_arg0)
      ∧ r.2.mem ((c.tc : Thread Cert.ReferenceDxIdeal.nD Cert.ReferenceDxIdeal.τ).loc Cert.ReferenceDxIdeal.main_arg1) = m ((c.tc : Thread Cert.ReferenceDxIdeal.nD Cert.ReferenceDxIdeal.τ).loc Cert.ReferenceDxIdeal.main_arg1))
      ∧ r.2.sem = fun _ => 0)

def preserves_KernelGate_KernelGateIdeal : Prop :=
  True

def algebraic_KernelGateIdeal_ReferenceGateIdeal_pre_finite [hKernelGateIdeal : Cert.KernelGateIdeal.Facts] [hReferenceGateIdeal : Cert.ReferenceGateIdeal.Facts] [hPre_finite : Cert.Pre_finite.Facts] : Prop :=
  ∀ (m : (ℓ : Loc Cert.KernelGateIdeal.nD Cert.KernelGateIdeal.τ Cert.KernelGateIdeal.sig) → Buf (Elt Ideal) ℓ) (g : Dev Cert.KernelGateIdeal.nD → PrngReg)
    (m' : (ℓ : Loc Cert.ReferenceGateIdeal.nD Cert.ReferenceGateIdeal.τ Cert.ReferenceGateIdeal.sig) → Buf (Elt Ideal) ℓ) (g' : Dev Cert.ReferenceGateIdeal.nD → PrngReg), Pre_KernelGateIdeal_finite m →
    (∀ c : Dev Cert.KernelGateIdeal.nD,
      m' ((c.tc : Thread Cert.ReferenceGateIdeal.nD Cert.ReferenceGateIdeal.τ).loc Cert.ReferenceGateIdeal.main_arg0) = m ((c.tc : Thread Cert.KernelGateIdeal.nD Cert.KernelGateIdeal.τ).loc Cert.KernelGateIdeal.main_arg0)
      ∧ m' ((c.tc : Thread Cert.ReferenceGateIdeal.nD Cert.ReferenceGateIdeal.τ).loc Cert.ReferenceGateIdeal.main_arg1) = m ((c.tc : Thread Cert.KernelGateIdeal.nD Cert.KernelGateIdeal.τ).loc Cert.KernelGateIdeal.main_arg1)) →
    ∃ (v0 : (c : Dev Cert.KernelGateIdeal.nD) → Buf (Elt Ideal) ((c.tc : Thread Cert.KernelGateIdeal.nD Cert.KernelGateIdeal.τ).loc Cert.KernelGateIdeal.main_v0)),
      θ_run (Cert.KernelGateIdeal.defs (F := Ideal)) (onTc (τ := Cert.KernelGateIdeal.τ) (Cert.KernelGateIdeal.main (F := Ideal))) ⟨m, fun _ => 0, g⟩ (fun r => ∀ c : Dev Cert.KernelGateIdeal.nD,
          r.2.mem ((c.tc : Thread Cert.KernelGateIdeal.nD Cert.KernelGateIdeal.τ).loc Cert.KernelGateIdeal.main_v0) = v0 c
          ∧ r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
          ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1))
      ∧ θ_run (Cert.ReferenceGateIdeal.defs (F := Ideal)) (onTc (τ := Cert.ReferenceGateIdeal.τ) (Cert.ReferenceGateIdeal.main (F := Ideal))) ⟨m', fun _ => 0, g'⟩ (fun r => ∀ c : Dev Cert.ReferenceGateIdeal.nD,
          r.2.mem ((c.tc : Thread Cert.ReferenceGateIdeal.nD Cert.ReferenceGateIdeal.τ).loc Cert.ReferenceGateIdeal.main_v11) = v0 c
          ∧ r.2.mem ((c.tc : Thread Cert.ReferenceGateIdeal.nD Cert.ReferenceGateIdeal.τ).loc Cert.ReferenceGateIdeal.main_arg0) = m' ((c.tc : Thread Cert.ReferenceGateIdeal.nD Cert.ReferenceGateIdeal.τ).loc Cert.ReferenceGateIdeal.main_arg0)
          ∧ r.2.mem ((c.tc : Thread Cert.ReferenceGateIdeal.nD Cert.ReferenceGateIdeal.τ).loc Cert.ReferenceGateIdeal.main_arg1) = m' ((c.tc : Thread Cert.ReferenceGateIdeal.nD Cert.ReferenceGateIdeal.τ).loc Cert.ReferenceGateIdeal.main_arg1))

def preserves_KernelDact_KernelDactIdeal : Prop :=
  True

def algebraic_KernelDactIdeal_ReferenceDactIdeal [hKernelDactIdeal : Cert.KernelDactIdeal.Facts] [hReferenceDactIdeal : Cert.ReferenceDactIdeal.Facts] : Prop :=
  ∀ (m : (ℓ : Loc Cert.KernelDactIdeal.nD Cert.KernelDactIdeal.τ Cert.KernelDactIdeal.sig) → Buf (Elt Ideal) ℓ) (g : Dev Cert.KernelDactIdeal.nD → PrngReg)
    (m' : (ℓ : Loc Cert.ReferenceDactIdeal.nD Cert.ReferenceDactIdeal.τ Cert.ReferenceDactIdeal.sig) → Buf (Elt Ideal) ℓ) (g' : Dev Cert.ReferenceDactIdeal.nD → PrngReg), Pre_KernelDactIdeal m →
    (∀ c : Dev Cert.KernelDactIdeal.nD,
      m' ((c.tc : Thread Cert.ReferenceDactIdeal.nD Cert.ReferenceDactIdeal.τ).loc Cert.ReferenceDactIdeal.main_arg0) = m ((c.tc : Thread Cert.KernelDactIdeal.nD Cert.KernelDactIdeal.τ).loc Cert.KernelDactIdeal.main_arg0)
      ∧ m' ((c.tc : Thread Cert.ReferenceDactIdeal.nD Cert.ReferenceDactIdeal.τ).loc Cert.ReferenceDactIdeal.main_arg1) = m ((c.tc : Thread Cert.KernelDactIdeal.nD Cert.KernelDactIdeal.τ).loc Cert.KernelDactIdeal.main_arg1)) →
    ∃ (v0 : (c : Dev Cert.KernelDactIdeal.nD) → Buf (Elt Ideal) ((c.tc : Thread Cert.KernelDactIdeal.nD Cert.KernelDactIdeal.τ).loc Cert.KernelDactIdeal.main_v0)),
      θ_run (Cert.KernelDactIdeal.defs (F := Ideal)) (onTc (τ := Cert.KernelDactIdeal.τ) (Cert.KernelDactIdeal.main (F := Ideal))) ⟨m, fun _ => 0, g⟩ (fun r => ∀ c : Dev Cert.KernelDactIdeal.nD,
          r.2.mem ((c.tc : Thread Cert.KernelDactIdeal.nD Cert.KernelDactIdeal.τ).loc Cert.KernelDactIdeal.main_v0) = v0 c
          ∧ r.2.mem ((c.tc : Thread Cert.KernelDactIdeal.nD Cert.KernelDactIdeal.τ).loc Cert.KernelDactIdeal.main_arg0) = m ((c.tc : Thread Cert.KernelDactIdeal.nD Cert.KernelDactIdeal.τ).loc Cert.KernelDactIdeal.main_arg0)
          ∧ r.2.mem ((c.tc : Thread Cert.KernelDactIdeal.nD Cert.KernelDactIdeal.τ).loc Cert.KernelDactIdeal.main_arg1) = m ((c.tc : Thread Cert.KernelDactIdeal.nD Cert.KernelDactIdeal.τ).loc Cert.KernelDactIdeal.main_arg1))
      ∧ θ_run (Cert.ReferenceDactIdeal.defs (F := Ideal)) (onTc (τ := Cert.ReferenceDactIdeal.τ) (Cert.ReferenceDactIdeal.main (F := Ideal))) ⟨m', fun _ => 0, g'⟩ (fun r => ∀ c : Dev Cert.ReferenceDactIdeal.nD,
          r.2.mem ((c.tc : Thread Cert.ReferenceDactIdeal.nD Cert.ReferenceDactIdeal.τ).loc Cert.ReferenceDactIdeal.main_v5) = v0 c
          ∧ r.2.mem ((c.tc : Thread Cert.ReferenceDactIdeal.nD Cert.ReferenceDactIdeal.τ).loc Cert.ReferenceDactIdeal.main_arg0) = m' ((c.tc : Thread Cert.ReferenceDactIdeal.nD Cert.ReferenceDactIdeal.τ).loc Cert.ReferenceDactIdeal.main_arg0)
          ∧ r.2.mem ((c.tc : Thread Cert.ReferenceDactIdeal.nD Cert.ReferenceDactIdeal.τ).loc Cert.ReferenceDactIdeal.main_arg1) = m' ((c.tc : Thread Cert.ReferenceDactIdeal.nD Cert.ReferenceDactIdeal.τ).loc Cert.ReferenceDactIdeal.main_arg1))

def preserves_KernelDwdown_KernelDwdownIdeal : Prop :=
  True

def algebraic_KernelDwdownIdeal_ReferenceDwdownIdeal [hKernelDwdownIdeal : Cert.KernelDwdownIdeal.Facts] [hReferenceDwdownIdeal : Cert.ReferenceDwdownIdeal.Facts] : Prop :=
  ∀ (m : (ℓ : Loc Cert.KernelDwdownIdeal.nD Cert.KernelDwdownIdeal.τ Cert.KernelDwdownIdeal.sig) → Buf (Elt Ideal) ℓ) (g : Dev Cert.KernelDwdownIdeal.nD → PrngReg)
    (m' : (ℓ : Loc Cert.ReferenceDwdownIdeal.nD Cert.ReferenceDwdownIdeal.τ Cert.ReferenceDwdownIdeal.sig) → Buf (Elt Ideal) ℓ) (g' : Dev Cert.ReferenceDwdownIdeal.nD → PrngReg), Pre_KernelDwdownIdeal m →
    (∀ c : Dev Cert.KernelDwdownIdeal.nD,
      m' ((c.tc : Thread Cert.ReferenceDwdownIdeal.nD Cert.ReferenceDwdownIdeal.τ).loc Cert.ReferenceDwdownIdeal.main_arg0) = m ((c.tc : Thread Cert.KernelDwdownIdeal.nD Cert.KernelDwdownIdeal.τ).loc Cert.KernelDwdownIdeal.main_arg0)
      ∧ m' ((c.tc : Thread Cert.ReferenceDwdownIdeal.nD Cert.ReferenceDwdownIdeal.τ).loc Cert.ReferenceDwdownIdeal.main_arg1) = m ((c.tc : Thread Cert.KernelDwdownIdeal.nD Cert.KernelDwdownIdeal.τ).loc Cert.KernelDwdownIdeal.main_arg1)) →
    ∃ (v0 : (c : Dev Cert.KernelDwdownIdeal.nD) → Buf (Elt Ideal) ((c.tc : Thread Cert.KernelDwdownIdeal.nD Cert.KernelDwdownIdeal.τ).loc Cert.KernelDwdownIdeal.main_v0)),
      θ_run (Cert.KernelDwdownIdeal.defs (F := Ideal)) (onTc (τ := Cert.KernelDwdownIdeal.τ) (Cert.KernelDwdownIdeal.main (F := Ideal))) ⟨m, fun _ => 0, g⟩ (fun r => ∀ c : Dev Cert.KernelDwdownIdeal.nD,
          r.2.mem ((c.tc : Thread Cert.KernelDwdownIdeal.nD Cert.KernelDwdownIdeal.τ).loc Cert.KernelDwdownIdeal.main_v0) = v0 c
          ∧ r.2.mem ((c.tc : Thread Cert.KernelDwdownIdeal.nD Cert.KernelDwdownIdeal.τ).loc Cert.KernelDwdownIdeal.main_arg0) = m ((c.tc : Thread Cert.KernelDwdownIdeal.nD Cert.KernelDwdownIdeal.τ).loc Cert.KernelDwdownIdeal.main_arg0)
          ∧ r.2.mem ((c.tc : Thread Cert.KernelDwdownIdeal.nD Cert.KernelDwdownIdeal.τ).loc Cert.KernelDwdownIdeal.main_arg1) = m ((c.tc : Thread Cert.KernelDwdownIdeal.nD Cert.KernelDwdownIdeal.τ).loc Cert.KernelDwdownIdeal.main_arg1))
      ∧ θ_run (Cert.ReferenceDwdownIdeal.defs (F := Ideal)) (onTc (τ := Cert.ReferenceDwdownIdeal.τ) (Cert.ReferenceDwdownIdeal.main (F := Ideal))) ⟨m', fun _ => 0, g'⟩ (fun r => ∀ c : Dev Cert.ReferenceDwdownIdeal.nD,
          r.2.mem ((c.tc : Thread Cert.ReferenceDwdownIdeal.nD Cert.ReferenceDwdownIdeal.τ).loc Cert.ReferenceDwdownIdeal.main_v6) = v0 c
          ∧ r.2.mem ((c.tc : Thread Cert.ReferenceDwdownIdeal.nD Cert.ReferenceDwdownIdeal.τ).loc Cert.ReferenceDwdownIdeal.main_arg0) = m' ((c.tc : Thread Cert.ReferenceDwdownIdeal.nD Cert.ReferenceDwdownIdeal.τ).loc Cert.ReferenceDwdownIdeal.main_arg0)
          ∧ r.2.mem ((c.tc : Thread Cert.ReferenceDwdownIdeal.nD Cert.ReferenceDwdownIdeal.τ).loc Cert.ReferenceDwdownIdeal.main_arg1) = m' ((c.tc : Thread Cert.ReferenceDwdownIdeal.nD Cert.ReferenceDwdownIdeal.τ).loc Cert.ReferenceDwdownIdeal.main_arg1))

def preserves_KernelDh_KernelDhIdeal : Prop :=
  True

def algebraic_KernelDhIdeal_ReferenceDhIdeal [hKernelDhIdeal : Cert.KernelDhIdeal.Facts] [hReferenceDhIdeal : Cert.ReferenceDhIdeal.Facts] : Prop :=
  ∀ (m : (ℓ : Loc Cert.KernelDhIdeal.nD Cert.KernelDhIdeal.τ Cert.KernelDhIdeal.sig) → Buf (Elt Ideal) ℓ) (g : Dev Cert.KernelDhIdeal.nD → PrngReg)
    (m' : (ℓ : Loc Cert.ReferenceDhIdeal.nD Cert.ReferenceDhIdeal.τ Cert.ReferenceDhIdeal.sig) → Buf (Elt Ideal) ℓ) (g' : Dev Cert.ReferenceDhIdeal.nD → PrngReg), Pre_KernelDhIdeal m →
    (∀ c : Dev Cert.KernelDhIdeal.nD,
      m' ((c.tc : Thread Cert.ReferenceDhIdeal.nD Cert.ReferenceDhIdeal.τ).loc Cert.ReferenceDhIdeal.main_arg0) = m ((c.tc : Thread Cert.KernelDhIdeal.nD Cert.KernelDhIdeal.τ).loc Cert.KernelDhIdeal.main_arg0)
      ∧ m' ((c.tc : Thread Cert.ReferenceDhIdeal.nD Cert.ReferenceDhIdeal.τ).loc Cert.ReferenceDhIdeal.main_arg1) = m ((c.tc : Thread Cert.KernelDhIdeal.nD Cert.KernelDhIdeal.τ).loc Cert.KernelDhIdeal.main_arg1)
      ∧ m' ((c.tc : Thread Cert.ReferenceDhIdeal.nD Cert.ReferenceDhIdeal.τ).loc Cert.ReferenceDhIdeal.main_arg2) = m ((c.tc : Thread Cert.KernelDhIdeal.nD Cert.KernelDhIdeal.τ).loc Cert.KernelDhIdeal.main_arg2)) →
    ∃ (v0 : (c : Dev Cert.KernelDhIdeal.nD) → Buf (Elt Ideal) ((c.tc : Thread Cert.KernelDhIdeal.nD Cert.KernelDhIdeal.τ).loc Cert.KernelDhIdeal.main_v9)),
      θ_run (Cert.KernelDhIdeal.defs (F := Ideal)) (onTc (τ := Cert.KernelDhIdeal.τ) (Cert.KernelDhIdeal.main (F := Ideal))) ⟨m, fun _ => 0, g⟩ (fun r => ∀ c : Dev Cert.KernelDhIdeal.nD,
          r.2.mem ((c.tc : Thread Cert.KernelDhIdeal.nD Cert.KernelDhIdeal.τ).loc Cert.KernelDhIdeal.main_v9) = v0 c
          ∧ r.2.mem ((c.tc : Thread Cert.KernelDhIdeal.nD Cert.KernelDhIdeal.τ).loc Cert.KernelDhIdeal.main_arg0) = m ((c.tc : Thread Cert.KernelDhIdeal.nD Cert.KernelDhIdeal.τ).loc Cert.KernelDhIdeal.main_arg0)
          ∧ r.2.mem ((c.tc : Thread Cert.KernelDhIdeal.nD Cert.KernelDhIdeal.τ).loc Cert.KernelDhIdeal.main_arg1) = m ((c.tc : Thread Cert.KernelDhIdeal.nD Cert.KernelDhIdeal.τ).loc Cert.KernelDhIdeal.main_arg1)
          ∧ r.2.mem ((c.tc : Thread Cert.KernelDhIdeal.nD Cert.KernelDhIdeal.τ).loc Cert.KernelDhIdeal.main_arg2) = m ((c.tc : Thread Cert.KernelDhIdeal.nD Cert.KernelDhIdeal.τ).loc Cert.KernelDhIdeal.main_arg2))
      ∧ θ_run (Cert.ReferenceDhIdeal.defs (F := Ideal)) (onTc (τ := Cert.ReferenceDhIdeal.τ) (Cert.ReferenceDhIdeal.main (F := Ideal))) ⟨m', fun _ => 0, g'⟩ (fun r => ∀ c : Dev Cert.ReferenceDhIdeal.nD,
          r.2.mem ((c.tc : Thread Cert.ReferenceDhIdeal.nD Cert.ReferenceDhIdeal.τ).loc Cert.ReferenceDhIdeal.main_v11) = v0 c
          ∧ r.2.mem ((c.tc : Thread Cert.ReferenceDhIdeal.nD Cert.ReferenceDhIdeal.τ).loc Cert.ReferenceDhIdeal.main_arg0) = m' ((c.tc : Thread Cert.ReferenceDhIdeal.nD Cert.ReferenceDhIdeal.τ).loc Cert.ReferenceDhIdeal.main_arg0)
          ∧ r.2.mem ((c.tc : Thread Cert.ReferenceDhIdeal.nD Cert.ReferenceDhIdeal.τ).loc Cert.ReferenceDhIdeal.main_arg1) = m' ((c.tc : Thread Cert.ReferenceDhIdeal.nD Cert.ReferenceDhIdeal.τ).loc Cert.ReferenceDhIdeal.main_arg1)
          ∧ r.2.mem ((c.tc : Thread Cert.ReferenceDhIdeal.nD Cert.ReferenceDhIdeal.τ).loc Cert.ReferenceDhIdeal.main_arg2) = m' ((c.tc : Thread Cert.ReferenceDhIdeal.nD Cert.ReferenceDhIdeal.τ).loc Cert.ReferenceDhIdeal.main_arg2))

def preserves_KernelDwgu_KernelDwguIdeal : Prop :=
  True

def algebraic_KernelDwguIdeal_ReferenceDwguIdeal [hKernelDwguIdeal : Cert.KernelDwguIdeal.Facts] [hReferenceDwguIdeal : Cert.ReferenceDwguIdeal.Facts] : Prop :=
  ∀ (m : (ℓ : Loc Cert.KernelDwguIdeal.nD Cert.KernelDwguIdeal.τ Cert.KernelDwguIdeal.sig) → Buf (Elt Ideal) ℓ) (g : Dev Cert.KernelDwguIdeal.nD → PrngReg)
    (m' : (ℓ : Loc Cert.ReferenceDwguIdeal.nD Cert.ReferenceDwguIdeal.τ Cert.ReferenceDwguIdeal.sig) → Buf (Elt Ideal) ℓ) (g' : Dev Cert.ReferenceDwguIdeal.nD → PrngReg), Pre_KernelDwguIdeal m →
    (∀ c : Dev Cert.KernelDwguIdeal.nD,
      m' ((c.tc : Thread Cert.ReferenceDwguIdeal.nD Cert.ReferenceDwguIdeal.τ).loc Cert.ReferenceDwguIdeal.main_arg0) = m ((c.tc : Thread Cert.KernelDwguIdeal.nD Cert.KernelDwguIdeal.τ).loc Cert.KernelDwguIdeal.main_arg0)
      ∧ m' ((c.tc : Thread Cert.ReferenceDwguIdeal.nD Cert.ReferenceDwguIdeal.τ).loc Cert.ReferenceDwguIdeal.main_arg1) = m ((c.tc : Thread Cert.KernelDwguIdeal.nD Cert.KernelDwguIdeal.τ).loc Cert.KernelDwguIdeal.main_arg1)) →
    ∃ (v0 : (c : Dev Cert.KernelDwguIdeal.nD) → Buf (Elt Ideal) ((c.tc : Thread Cert.KernelDwguIdeal.nD Cert.KernelDwguIdeal.τ).loc Cert.KernelDwguIdeal.main_v0)),
      θ_run (Cert.KernelDwguIdeal.defs (F := Ideal)) (onTc (τ := Cert.KernelDwguIdeal.τ) (Cert.KernelDwguIdeal.main (F := Ideal))) ⟨m, fun _ => 0, g⟩ (fun r => ∀ c : Dev Cert.KernelDwguIdeal.nD,
          r.2.mem ((c.tc : Thread Cert.KernelDwguIdeal.nD Cert.KernelDwguIdeal.τ).loc Cert.KernelDwguIdeal.main_v0) = v0 c
          ∧ r.2.mem ((c.tc : Thread Cert.KernelDwguIdeal.nD Cert.KernelDwguIdeal.τ).loc Cert.KernelDwguIdeal.main_arg0) = m ((c.tc : Thread Cert.KernelDwguIdeal.nD Cert.KernelDwguIdeal.τ).loc Cert.KernelDwguIdeal.main_arg0)
          ∧ r.2.mem ((c.tc : Thread Cert.KernelDwguIdeal.nD Cert.KernelDwguIdeal.τ).loc Cert.KernelDwguIdeal.main_arg1) = m ((c.tc : Thread Cert.KernelDwguIdeal.nD Cert.KernelDwguIdeal.τ).loc Cert.KernelDwguIdeal.main_arg1))
      ∧ θ_run (Cert.ReferenceDwguIdeal.defs (F := Ideal)) (onTc (τ := Cert.ReferenceDwguIdeal.τ) (Cert.ReferenceDwguIdeal.main (F := Ideal))) ⟨m', fun _ => 0, g'⟩ (fun r => ∀ c : Dev Cert.ReferenceDwguIdeal.nD,
          r.2.mem ((c.tc : Thread Cert.ReferenceDwguIdeal.nD Cert.ReferenceDwguIdeal.τ).loc Cert.ReferenceDwguIdeal.main_v17) = v0 c
          ∧ r.2.mem ((c.tc : Thread Cert.ReferenceDwguIdeal.nD Cert.ReferenceDwguIdeal.τ).loc Cert.ReferenceDwguIdeal.main_arg0) = m' ((c.tc : Thread Cert.ReferenceDwguIdeal.nD Cert.ReferenceDwguIdeal.τ).loc Cert.ReferenceDwguIdeal.main_arg0)
          ∧ r.2.mem ((c.tc : Thread Cert.ReferenceDwguIdeal.nD Cert.ReferenceDwguIdeal.τ).loc Cert.ReferenceDwguIdeal.main_arg1) = m' ((c.tc : Thread Cert.ReferenceDwguIdeal.nD Cert.ReferenceDwguIdeal.τ).loc Cert.ReferenceDwguIdeal.main_arg1))

def preserves_KernelGu_KernelGuIdeal : Prop :=
  True

def algebraic_KernelGuIdeal_ReferenceGuIdeal [hKernelGuIdeal : Cert.KernelGuIdeal.Facts] [hReferenceGuIdeal : Cert.ReferenceGuIdeal.Facts] : Prop :=
  ∀ (m : (ℓ : Loc Cert.KernelGuIdeal.nD Cert.KernelGuIdeal.τ Cert.KernelGuIdeal.sig) → Buf (Elt Ideal) ℓ) (g : Dev Cert.KernelGuIdeal.nD → PrngReg)
    (m' : (ℓ : Loc Cert.ReferenceGuIdeal.nD Cert.ReferenceGuIdeal.τ Cert.ReferenceGuIdeal.sig) → Buf (Elt Ideal) ℓ) (g' : Dev Cert.ReferenceGuIdeal.nD → PrngReg), Pre_KernelGuIdeal m →
    (∀ c : Dev Cert.KernelGuIdeal.nD,
      m' ((c.tc : Thread Cert.ReferenceGuIdeal.nD Cert.ReferenceGuIdeal.τ).loc Cert.ReferenceGuIdeal.main_arg0) = m ((c.tc : Thread Cert.KernelGuIdeal.nD Cert.KernelGuIdeal.τ).loc Cert.KernelGuIdeal.main_arg0)
      ∧ m' ((c.tc : Thread Cert.ReferenceGuIdeal.nD Cert.ReferenceGuIdeal.τ).loc Cert.ReferenceGuIdeal.main_arg1) = m ((c.tc : Thread Cert.KernelGuIdeal.nD Cert.KernelGuIdeal.τ).loc Cert.KernelGuIdeal.main_arg1)
      ∧ m' ((c.tc : Thread Cert.ReferenceGuIdeal.nD Cert.ReferenceGuIdeal.τ).loc Cert.ReferenceGuIdeal.main_arg2) = m ((c.tc : Thread Cert.KernelGuIdeal.nD Cert.KernelGuIdeal.τ).loc Cert.KernelGuIdeal.main_arg2)) →
    ∃ (v0 : (c : Dev Cert.KernelGuIdeal.nD) → Buf (Elt Ideal) ((c.tc : Thread Cert.KernelGuIdeal.nD Cert.KernelGuIdeal.τ).loc Cert.KernelGuIdeal.main_v9)),
      θ_run (Cert.KernelGuIdeal.defs (F := Ideal)) (onTc (τ := Cert.KernelGuIdeal.τ) (Cert.KernelGuIdeal.main (F := Ideal))) ⟨m, fun _ => 0, g⟩ (fun r => ∀ c : Dev Cert.KernelGuIdeal.nD,
          r.2.mem ((c.tc : Thread Cert.KernelGuIdeal.nD Cert.KernelGuIdeal.τ).loc Cert.KernelGuIdeal.main_v9) = v0 c
          ∧ r.2.mem ((c.tc : Thread Cert.KernelGuIdeal.nD Cert.KernelGuIdeal.τ).loc Cert.KernelGuIdeal.main_arg0) = m ((c.tc : Thread Cert.KernelGuIdeal.nD Cert.KernelGuIdeal.τ).loc Cert.KernelGuIdeal.main_arg0)
          ∧ r.2.mem ((c.tc : Thread Cert.KernelGuIdeal.nD Cert.KernelGuIdeal.τ).loc Cert.KernelGuIdeal.main_arg1) = m ((c.tc : Thread Cert.KernelGuIdeal.nD Cert.KernelGuIdeal.τ).loc Cert.KernelGuIdeal.main_arg1)
          ∧ r.2.mem ((c.tc : Thread Cert.KernelGuIdeal.nD Cert.KernelGuIdeal.τ).loc Cert.KernelGuIdeal.main_arg2) = m ((c.tc : Thread Cert.KernelGuIdeal.nD Cert.KernelGuIdeal.τ).loc Cert.KernelGuIdeal.main_arg2))
      ∧ θ_run (Cert.ReferenceGuIdeal.defs (F := Ideal)) (onTc (τ := Cert.ReferenceGuIdeal.τ) (Cert.ReferenceGuIdeal.main (F := Ideal))) ⟨m', fun _ => 0, g'⟩ (fun r => ∀ c : Dev Cert.ReferenceGuIdeal.nD,
          r.2.mem ((c.tc : Thread Cert.ReferenceGuIdeal.nD Cert.ReferenceGuIdeal.τ).loc Cert.ReferenceGuIdeal.main_v6) = v0 c
          ∧ r.2.mem ((c.tc : Thread Cert.ReferenceGuIdeal.nD Cert.ReferenceGuIdeal.τ).loc Cert.ReferenceGuIdeal.main_arg0) = m' ((c.tc : Thread Cert.ReferenceGuIdeal.nD Cert.ReferenceGuIdeal.τ).loc Cert.ReferenceGuIdeal.main_arg0)
          ∧ r.2.mem ((c.tc : Thread Cert.ReferenceGuIdeal.nD Cert.ReferenceGuIdeal.τ).loc Cert.ReferenceGuIdeal.main_arg1) = m' ((c.tc : Thread Cert.ReferenceGuIdeal.nD Cert.ReferenceGuIdeal.τ).loc Cert.ReferenceGuIdeal.main_arg1)
          ∧ r.2.mem ((c.tc : Thread Cert.ReferenceGuIdeal.nD Cert.ReferenceGuIdeal.τ).loc Cert.ReferenceGuIdeal.main_arg2) = m' ((c.tc : Thread Cert.ReferenceGuIdeal.nD Cert.ReferenceGuIdeal.τ).loc Cert.ReferenceGuIdeal.main_arg2))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)) →
    ∃ (v0 : (c : Dev Cert.KernelDownIdeal.nD) → Buf (Elt Ideal) ((c.tc : Thread Cert.KernelDownIdeal.nD Cert.KernelDownIdeal.τ).loc Cert.KernelDownIdeal.main_v0)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v0) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v2) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)) →
    ∃ (v0 : (c : Dev Cert.KernelOutIdeal.nD) → Buf (Elt Ideal) ((c.tc : Thread Cert.KernelOutIdeal.nD Cert.KernelOutIdeal.τ).loc Cert.KernelOutIdeal.main_v0)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v0) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v1) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1))

def preserves_KernelDwout_KernelDwoutIdeal : Prop :=
  True

def algebraic_KernelDwoutIdeal_ReferenceDwoutIdeal [hKernelDwoutIdeal : Cert.KernelDwoutIdeal.Facts] [hReferenceDwoutIdeal : Cert.ReferenceDwoutIdeal.Facts] : Prop :=
  ∀ (m : (ℓ : Loc Cert.KernelDwoutIdeal.nD Cert.KernelDwoutIdeal.τ Cert.KernelDwoutIdeal.sig) → Buf (Elt Ideal) ℓ) (g : Dev Cert.KernelDwoutIdeal.nD → PrngReg)
    (m' : (ℓ : Loc Cert.ReferenceDwoutIdeal.nD Cert.ReferenceDwoutIdeal.τ Cert.ReferenceDwoutIdeal.sig) → Buf (Elt Ideal) ℓ) (g' : Dev Cert.ReferenceDwoutIdeal.nD → PrngReg), Pre_KernelDwoutIdeal m →
    (∀ c : Dev Cert.KernelDwoutIdeal.nD,
      m' ((c.tc : Thread Cert.ReferenceDwoutIdeal.nD Cert.ReferenceDwoutIdeal.τ).loc Cert.ReferenceDwoutIdeal.main_arg0) = m ((c.tc : Thread Cert.KernelDwoutIdeal.nD Cert.KernelDwoutIdeal.τ).loc Cert.KernelDwoutIdeal.main_arg0)
      ∧ m' ((c.tc : Thread Cert.ReferenceDwoutIdeal.nD Cert.ReferenceDwoutIdeal.τ).loc Cert.ReferenceDwoutIdeal.main_arg1) = m ((c.tc : Thread Cert.KernelDwoutIdeal.nD Cert.KernelDwoutIdeal.τ).loc Cert.KernelDwoutIdeal.main_arg1)) →
    ∃ (v0 : (c : Dev Cert.KernelDwoutIdeal.nD) → Buf (Elt Ideal) ((c.tc : Thread Cert.KernelDwoutIdeal.nD Cert.KernelDwoutIdeal.τ).loc Cert.KernelDwoutIdeal.main_v0)),
      θ_run (Cert.KernelDwoutIdeal.defs (F := Ideal)) (onTc (τ := Cert.KernelDwoutIdeal.τ) (Cert.KernelDwoutIdeal.main (F := Ideal))) ⟨m, fun _ => 0, g⟩ (fun r => ∀ c : Dev Cert.KernelDwoutIdeal.nD,
          r.2.mem ((c.tc : Thread Cert.KernelDwoutIdeal.nD Cert.KernelDwoutIdeal.τ).loc Cert.KernelDwoutIdeal.main_v0) = v0 c
          ∧ r.2.mem ((c.tc : Thread Cert.KernelDwoutIdeal.nD Cert.KernelDwoutIdeal.τ).loc Cert.KernelDwoutIdeal.main_arg0) = m ((c.tc : Thread Cert.KernelDwoutIdeal.nD Cert.KernelDwoutIdeal.τ).loc Cert.KernelDwoutIdeal.main_arg0)
          ∧ r.2.mem ((c.tc : Thread Cert.KernelDwoutIdeal.nD Cert.KernelDwoutIdeal.τ).loc Cert.KernelDwoutIdeal.main_arg1) = m ((c.tc : Thread Cert.KernelDwoutIdeal.nD Cert.KernelDwoutIdeal.τ).loc Cert.KernelDwoutIdeal.main_arg1))
      ∧ θ_run (Cert.ReferenceDwoutIdeal.defs (F := Ideal)) (onTc (τ := Cert.ReferenceDwoutIdeal.τ) (Cert.ReferenceDwoutIdeal.main (F := Ideal))) ⟨m', fun _ => 0, g'⟩ (fun r => ∀ c : Dev Cert.ReferenceDwoutIdeal.nD,
          r.2.mem ((c.tc : Thread Cert.ReferenceDwoutIdeal.nD Cert.ReferenceDwoutIdeal.τ).loc Cert.ReferenceDwoutIdeal.main_v5) = v0 c
          ∧ r.2.mem ((c.tc : Thread Cert.ReferenceDwoutIdeal.nD Cert.ReferenceDwoutIdeal.τ).loc Cert.ReferenceDwoutIdeal.main_arg0) = m' ((c.tc : Thread Cert.ReferenceDwoutIdeal.nD Cert.ReferenceDwoutIdeal.τ).loc Cert.ReferenceDwoutIdeal.main_arg0)
          ∧ r.2.mem ((c.tc : Thread Cert.ReferenceDwoutIdeal.nD Cert.ReferenceDwoutIdeal.τ).loc Cert.ReferenceDwoutIdeal.main_arg1) = m' ((c.tc : Thread Cert.ReferenceDwoutIdeal.nD Cert.ReferenceDwoutIdeal.τ).loc Cert.ReferenceDwoutIdeal.main_arg1))

def preserves_KernelDyn_KernelDynIdeal : Prop :=
  True

def algebraic_KernelDynIdeal_ReferenceDynIdeal [hKernelDynIdeal : Cert.KernelDynIdeal.Facts] [hReferenceDynIdeal : Cert.ReferenceDynIdeal.Facts] : Prop :=
  ∀ (m : (ℓ : Loc Cert.KernelDynIdeal.nD Cert.KernelDynIdeal.τ Cert.KernelDynIdeal.sig) → Buf (Elt Ideal) ℓ) (g : Dev Cert.KernelDynIdeal.nD → PrngReg)
    (m' : (ℓ : Loc Cert.ReferenceDynIdeal.nD Cert.ReferenceDynIdeal.τ Cert.ReferenceDynIdeal.sig) → Buf (Elt Ideal) ℓ) (g' : Dev Cert.ReferenceDynIdeal.nD → PrngReg), Pre_KernelDynIdeal m →
    (∀ c : Dev Cert.KernelDynIdeal.nD,
      m' ((c.tc : Thread Cert.ReferenceDynIdeal.nD Cert.ReferenceDynIdeal.τ).loc Cert.ReferenceDynIdeal.main_arg0) = m ((c.tc : Thread Cert.KernelDynIdeal.nD Cert.KernelDynIdeal.τ).loc Cert.KernelDynIdeal.main_arg0)
      ∧ m' ((c.tc : Thread Cert.ReferenceDynIdeal.nD Cert.ReferenceDynIdeal.τ).loc Cert.ReferenceDynIdeal.main_arg1) = m ((c.tc : Thread Cert.KernelDynIdeal.nD Cert.KernelDynIdeal.τ).loc Cert.KernelDynIdeal.main_arg1)) →
    ∃ (v0 : (c : Dev Cert.KernelDynIdeal.nD) → Buf (Elt Ideal) ((c.tc : Thread Cert.KernelDynIdeal.nD Cert.KernelDynIdeal.τ).loc Cert.KernelDynIdeal.main_v0)),
      θ_run (Cert.KernelDynIdeal.defs (F := Ideal)) (onTc (τ := Cert.KernelDynIdeal.τ) (Cert.KernelDynIdeal.main (F := Ideal))) ⟨m, fun _ => 0, g⟩ (fun r => ∀ c : Dev Cert.KernelDynIdeal.nD,
          r.2.mem ((c.tc : Thread Cert.KernelDynIdeal.nD Cert.KernelDynIdeal.τ).loc Cert.KernelDynIdeal.main_v0) = v0 c
          ∧ r.2.mem ((c.tc : Thread Cert.KernelDynIdeal.nD Cert.KernelDynIdeal.τ).loc Cert.KernelDynIdeal.main_arg0) = m ((c.tc : Thread Cert.KernelDynIdeal.nD Cert.KernelDynIdeal.τ).loc Cert.KernelDynIdeal.main_arg0)
          ∧ r.2.mem ((c.tc : Thread Cert.KernelDynIdeal.nD Cert.KernelDynIdeal.τ).loc Cert.KernelDynIdeal.main_arg1) = m ((c.tc : Thread Cert.KernelDynIdeal.nD Cert.KernelDynIdeal.τ).loc Cert.KernelDynIdeal.main_arg1))
      ∧ θ_run (Cert.ReferenceDynIdeal.defs (F := Ideal)) (onTc (τ := Cert.ReferenceDynIdeal.τ) (Cert.ReferenceDynIdeal.main (F := Ideal))) ⟨m', fun _ => 0, g'⟩ (fun r => ∀ c : Dev Cert.ReferenceDynIdeal.nD,
          r.2.mem ((c.tc : Thread Cert.ReferenceDynIdeal.nD Cert.ReferenceDynIdeal.τ).loc Cert.ReferenceDynIdeal.main_v4) = v0 c
          ∧ r.2.mem ((c.tc : Thread Cert.ReferenceDynIdeal.nD Cert.ReferenceDynIdeal.τ).loc Cert.ReferenceDynIdeal.main_arg0) = m' ((c.tc : Thread Cert.ReferenceDynIdeal.nD Cert.ReferenceDynIdeal.τ).loc Cert.ReferenceDynIdeal.main_arg0)
          ∧ r.2.mem ((c.tc : Thread Cert.ReferenceDynIdeal.nD Cert.ReferenceDynIdeal.τ).loc Cert.ReferenceDynIdeal.main_arg1) = m' ((c.tc : Thread Cert.ReferenceDynIdeal.nD Cert.ReferenceDynIdeal.τ).loc Cert.ReferenceDynIdeal.main_arg1))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)) →
    ∃ (v0 : (c : Dev Cert.KernelInIdeal.nD) → Buf (Elt Ideal) ((c.tc : Thread Cert.KernelInIdeal.nD Cert.KernelInIdeal.τ).loc Cert.KernelInIdeal.main_v7)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v7) = v0 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v4) = v0 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1))

def preserves_KernelDwin_KernelDwinIdeal : Prop :=
  True

def algebraic_KernelDwinIdeal_ReferenceDwinIdeal [hKernelDwinIdeal : Cert.KernelDwinIdeal.Facts] [hReferenceDwinIdeal : Cert.ReferenceDwinIdeal.Facts] : Prop :=
  ∀ (m : (ℓ : Loc Cert.KernelDwinIdeal.nD Cert.KernelDwinIdeal.τ Cert.KernelDwinIdeal.sig) → Buf (Elt Ideal) ℓ) (g : Dev Cert.KernelDwinIdeal.nD → PrngReg)
    (m' : (ℓ : Loc Cert.ReferenceDwinIdeal.nD Cert.ReferenceDwinIdeal.τ Cert.ReferenceDwinIdeal.sig) → Buf (Elt Ideal) ℓ) (g' : Dev Cert.ReferenceDwinIdeal.nD → PrngReg), Pre_KernelDwinIdeal m →
    (∀ c : Dev Cert.KernelDwinIdeal.nD,
      m' ((c.tc : Thread Cert.ReferenceDwinIdeal.nD Cert.ReferenceDwinIdeal.τ).loc Cert.ReferenceDwinIdeal.main_arg0) = m ((c.tc : Thread Cert.KernelDwinIdeal.nD Cert.KernelDwinIdeal.τ).loc Cert.KernelDwinIdeal.main_arg0)
      ∧ m' ((c.tc : Thread Cert.ReferenceDwinIdeal.nD Cert.ReferenceDwinIdeal.τ).loc Cert.ReferenceDwinIdeal.main_arg1) = m ((c.tc : Thread Cert.KernelDwinIdeal.nD Cert.KernelDwinIdeal.τ).loc Cert.KernelDwinIdeal.main_arg1)) →
    ∃ (v0 : (c : Dev Cert.KernelDwinIdeal.nD) → Buf (Elt Ideal) ((c.tc : Thread Cert.KernelDwinIdeal.nD Cert.KernelDwinIdeal.τ).loc Cert.KernelDwinIdeal.main_v0)),
      θ_run (Cert.KernelDwinIdeal.defs (F := Ideal)) (onTc (τ := Cert.KernelDwinIdeal.τ) (Cert.KernelDwinIdeal.main (F := Ideal))) ⟨m, fun _ => 0, g⟩ (fun r => ∀ c : Dev Cert.KernelDwinIdeal.nD,
          r.2.mem ((c.tc : Thread Cert.KernelDwinIdeal.nD Cert.KernelDwinIdeal.τ).loc Cert.KernelDwinIdeal.main_v0) = v0 c
          ∧ r.2.mem ((c.tc : Thread Cert.KernelDwinIdeal.nD Cert.KernelDwinIdeal.τ).loc Cert.KernelDwinIdeal.main_arg0) = m ((c.tc : Thread Cert.KernelDwinIdeal.nD Cert.KernelDwinIdeal.τ).loc Cert.KernelDwinIdeal.main_arg0)
          ∧ r.2.mem ((c.tc : Thread Cert.KernelDwinIdeal.nD Cert.KernelDwinIdeal.τ).loc Cert.KernelDwinIdeal.main_arg1) = m ((c.tc : Thread Cert.KernelDwinIdeal.nD Cert.KernelDwinIdeal.τ).loc Cert.KernelDwinIdeal.main_arg1))
      ∧ θ_run (Cert.ReferenceDwinIdeal.defs (F := Ideal)) (onTc (τ := Cert.ReferenceDwinIdeal.τ) (Cert.ReferenceDwinIdeal.main (F := Ideal))) ⟨m', fun _ => 0, g'⟩ (fun r => ∀ c : Dev Cert.ReferenceDwinIdeal.nD,
          r.2.mem ((c.tc : Thread Cert.ReferenceDwinIdeal.nD Cert.ReferenceDwinIdeal.τ).loc Cert.ReferenceDwinIdeal.main_v7) = v0 c
          ∧ r.2.mem ((c.tc : Thread Cert.ReferenceDwinIdeal.nD Cert.ReferenceDwinIdeal.τ).loc Cert.ReferenceDwinIdeal.main_arg0) = m' ((c.tc : Thread Cert.ReferenceDwinIdeal.nD Cert.ReferenceDwinIdeal.τ).loc Cert.ReferenceDwinIdeal.main_arg0)
          ∧ r.2.mem ((c.tc : Thread Cert.ReferenceDwinIdeal.nD Cert.ReferenceDwinIdeal.τ).loc Cert.ReferenceDwinIdeal.main_arg1) = m' ((c.tc : Thread Cert.ReferenceDwinIdeal.nD Cert.ReferenceDwinIdeal.τ).loc Cert.ReferenceDwinIdeal.main_arg1))

def preserves_KernelDhin_KernelDhinIdeal : Prop :=
  True

def algebraic_KernelDhinIdeal_ReferenceDhinIdeal [hKernelDhinIdeal : Cert.KernelDhinIdeal.Facts] [hReferenceDhinIdeal : Cert.ReferenceDhinIdeal.Facts] : Prop :=
  ∀ (m : (ℓ : Loc Cert.KernelDhinIdeal.nD Cert.KernelDhinIdeal.τ Cert.KernelDhinIdeal.sig) → Buf (Elt Ideal) ℓ) (g : Dev Cert.KernelDhinIdeal.nD → PrngReg)
    (m' : (ℓ : Loc Cert.ReferenceDhinIdeal.nD Cert.ReferenceDhinIdeal.τ Cert.ReferenceDhinIdeal.sig) → Buf (Elt Ideal) ℓ) (g' : Dev Cert.ReferenceDhinIdeal.nD → PrngReg), Pre_KernelDhinIdeal m →
    (∀ c : Dev Cert.KernelDhinIdeal.nD,
      m' ((c.tc : Thread Cert.ReferenceDhinIdeal.nD Cert.ReferenceDhinIdeal.τ).loc Cert.ReferenceDhinIdeal.main_arg0) = m ((c.tc : Thread Cert.KernelDhinIdeal.nD Cert.KernelDhinIdeal.τ).loc Cert.KernelDhinIdeal.main_arg0)
      ∧ m' ((c.tc : Thread Cert.ReferenceDhinIdeal.nD Cert.ReferenceDhinIdeal.τ).loc Cert.ReferenceDhinIdeal.main_arg1) = m ((c.tc : Thread Cert.KernelDhinIdeal.nD Cert.KernelDhinIdeal.τ).loc Cert.KernelDhinIdeal.main_arg1)) →
    ∃ (v0 : (c : Dev Cert.KernelDhinIdeal.nD) → Buf (Elt Ideal) ((c.tc : Thread Cert.KernelDhinIdeal.nD Cert.KernelDhinIdeal.τ).loc Cert.KernelDhinIdeal.main_v7)),
      θ_run (Cert.KernelDhinIdeal.defs (F := Ideal)) (onTc (τ := Cert.KernelDhinIdeal.τ) (Cert.KernelDhinIdeal.main (F := Ideal))) ⟨m, fun _ => 0, g⟩ (fun r => ∀ c : Dev Cert.KernelDhinIdeal.nD,
          r.2.mem ((c.tc : Thread Cert.KernelDhinIdeal.nD Cert.KernelDhinIdeal.τ).loc Cert.KernelDhinIdeal.main_v7) = v0 c
          ∧ r.2.mem ((c.tc : Thread Cert.KernelDhinIdeal.nD Cert.KernelDhinIdeal.τ).loc Cert.KernelDhinIdeal.main_arg0) = m ((c.tc : Thread Cert.KernelDhinIdeal.nD Cert.KernelDhinIdeal.τ).loc Cert.KernelDhinIdeal.main_arg0)
          ∧ r.2.mem ((c.tc : Thread Cert.KernelDhinIdeal.nD Cert.KernelDhinIdeal.τ).loc Cert.KernelDhinIdeal.main_arg1) = m ((c.tc : Thread Cert.KernelDhinIdeal.nD Cert.KernelDhinIdeal.τ).loc Cert.KernelDhinIdeal.main_arg1))
      ∧ θ_run (Cert.ReferenceDhinIdeal.defs (F := Ideal)) (onTc (τ := Cert.ReferenceDhinIdeal.τ) (Cert.ReferenceDhinIdeal.main (F := Ideal))) ⟨m', fun _ => 0, g'⟩ (fun r => ∀ c : Dev Cert.ReferenceDhinIdeal.nD,
          r.2.mem ((c.tc : Thread Cert.ReferenceDhinIdeal.nD Cert.ReferenceDhinIdeal.τ).loc Cert.ReferenceDhinIdeal.main_v5) = v0 c
          ∧ r.2.mem ((c.tc : Thread Cert.ReferenceDhinIdeal.nD Cert.ReferenceDhinIdeal.τ).loc Cert.ReferenceDhinIdeal.main_arg0) = m' ((c.tc : Thread Cert.ReferenceDhinIdeal.nD Cert.ReferenceDhinIdeal.τ).loc Cert.ReferenceDhinIdeal.main_arg0)
          ∧ r.2.mem ((c.tc : Thread Cert.ReferenceDhinIdeal.nD Cert.ReferenceDhinIdeal.τ).loc Cert.ReferenceDhinIdeal.main_arg1) = m' ((c.tc : Thread Cert.ReferenceDhinIdeal.nD Cert.ReferenceDhinIdeal.τ).loc Cert.ReferenceDhinIdeal.main_arg1))

def preserves_KernelLin_KernelLinIdeal : Prop :=
  True

def algebraic_KernelLinIdeal_ReferenceLinIdeal [hKernelLinIdeal : Cert.KernelLinIdeal.Facts] [hReferenceLinIdeal : Cert.ReferenceLinIdeal.Facts] : Prop :=
  ∀ (m : (ℓ : Loc Cert.KernelLinIdeal.nD Cert.KernelLinIdeal.τ Cert.KernelLinIdeal.sig) → Buf (Elt Ideal) ℓ) (g : Dev Cert.KernelLinIdeal.nD → PrngReg)
    (m' : (ℓ : Loc Cert.ReferenceLinIdeal.nD Cert.ReferenceLinIdeal.τ Cert.ReferenceLinIdeal.sig) → Buf (Elt Ideal) ℓ) (g' : Dev Cert.ReferenceLinIdeal.nD → PrngReg), Pre_KernelLinIdeal m →
    (∀ c : Dev Cert.KernelLinIdeal.nD,
      m' ((c.tc : Thread Cert.ReferenceLinIdeal.nD Cert.ReferenceLinIdeal.τ).loc Cert.ReferenceLinIdeal.main_arg0) = m ((c.tc : Thread Cert.KernelLinIdeal.nD Cert.KernelLinIdeal.τ).loc Cert.KernelLinIdeal.main_arg0)
      ∧ m' ((c.tc : Thread Cert.ReferenceLinIdeal.nD Cert.ReferenceLinIdeal.τ).loc Cert.ReferenceLinIdeal.main_arg1) = m ((c.tc : Thread Cert.KernelLinIdeal.nD Cert.KernelLinIdeal.τ).loc Cert.KernelLinIdeal.main_arg1)) →
    ∃ (v0 : (c : Dev Cert.KernelLinIdeal.nD) → Buf (Elt Ideal) ((c.tc : Thread Cert.KernelLinIdeal.nD Cert.KernelLinIdeal.τ).loc Cert.KernelLinIdeal.main_v0)),
      θ_run (Cert.KernelLinIdeal.defs (F := Ideal)) (onTc (τ := Cert.KernelLinIdeal.τ) (Cert.KernelLinIdeal.main (F := Ideal))) ⟨m, fun _ => 0, g⟩ (fun r => ∀ c : Dev Cert.KernelLinIdeal.nD,
          r.2.mem ((c.tc : Thread Cert.KernelLinIdeal.nD Cert.KernelLinIdeal.τ).loc Cert.KernelLinIdeal.main_v0) = v0 c
          ∧ r.2.mem ((c.tc : Thread Cert.KernelLinIdeal.nD Cert.KernelLinIdeal.τ).loc Cert.KernelLinIdeal.main_arg0) = m ((c.tc : Thread Cert.KernelLinIdeal.nD Cert.KernelLinIdeal.τ).loc Cert.KernelLinIdeal.main_arg0)
          ∧ r.2.mem ((c.tc : Thread Cert.KernelLinIdeal.nD Cert.KernelLinIdeal.τ).loc Cert.KernelLinIdeal.main_arg1) = m ((c.tc : Thread Cert.KernelLinIdeal.nD Cert.KernelLinIdeal.τ).loc Cert.KernelLinIdeal.main_arg1))
      ∧ θ_run (Cert.ReferenceLinIdeal.defs (F := Ideal)) (onTc (τ := Cert.ReferenceLinIdeal.τ) (Cert.ReferenceLinIdeal.main (F := Ideal))) ⟨m', fun _ => 0, g'⟩ (fun r => ∀ c : Dev Cert.ReferenceLinIdeal.nD,
          r.2.mem ((c.tc : Thread Cert.ReferenceLinIdeal.nD Cert.ReferenceLinIdeal.τ).loc Cert.ReferenceLinIdeal.main_v1) = v0 c
          ∧ r.2.mem ((c.tc : Thread Cert.ReferenceLinIdeal.nD Cert.ReferenceLinIdeal.τ).loc Cert.ReferenceLinIdeal.main_arg0) = m' ((c.tc : Thread Cert.ReferenceLinIdeal.nD Cert.ReferenceLinIdeal.τ).loc Cert.ReferenceLinIdeal.main_arg0)
          ∧ r.2.mem ((c.tc : Thread Cert.ReferenceLinIdeal.nD Cert.ReferenceLinIdeal.τ).loc Cert.ReferenceLinIdeal.main_arg1) = m' ((c.tc : Thread Cert.ReferenceLinIdeal.nD Cert.ReferenceLinIdeal.τ).loc Cert.ReferenceLinIdeal.main_arg1))

def preserves_KernelDlwin_KernelDlwinIdeal : Prop :=
  True

def algebraic_KernelDlwinIdeal_ReferenceDlwinIdeal [hKernelDlwinIdeal : Cert.KernelDlwinIdeal.Facts] [hReferenceDlwinIdeal : Cert.ReferenceDlwinIdeal.Facts] : Prop :=
  ∀ (m : (ℓ : Loc Cert.KernelDlwinIdeal.nD Cert.KernelDlwinIdeal.τ Cert.KernelDlwinIdeal.sig) → Buf (Elt Ideal) ℓ) (g : Dev Cert.KernelDlwinIdeal.nD → PrngReg)
    (m' : (ℓ : Loc Cert.ReferenceDlwinIdeal.nD Cert.ReferenceDlwinIdeal.τ Cert.ReferenceDlwinIdeal.sig) → Buf (Elt Ideal) ℓ) (g' : Dev Cert.ReferenceDlwinIdeal.nD → PrngReg), Pre_KernelDlwinIdeal m →
    (∀ c : Dev Cert.KernelDlwinIdeal.nD,
      m' ((c.tc : Thread Cert.ReferenceDlwinIdeal.nD Cert.ReferenceDlwinIdeal.τ).loc Cert.ReferenceDlwinIdeal.main_arg0) = m ((c.tc : Thread Cert.KernelDlwinIdeal.nD Cert.KernelDlwinIdeal.τ).loc Cert.KernelDlwinIdeal.main_arg0)
      ∧ m' ((c.tc : Thread Cert.ReferenceDlwinIdeal.nD Cert.ReferenceDlwinIdeal.τ).loc Cert.ReferenceDlwinIdeal.main_arg1) = m ((c.tc : Thread Cert.KernelDlwinIdeal.nD Cert.KernelDlwinIdeal.τ).loc Cert.KernelDlwinIdeal.main_arg1)) →
    ∃ (v0 : (c : Dev Cert.KernelDlwinIdeal.nD) → Buf (Elt Ideal) ((c.tc : Thread Cert.KernelDlwinIdeal.nD Cert.KernelDlwinIdeal.τ).loc Cert.KernelDlwinIdeal.main_v0)),
      θ_run (Cert.KernelDlwinIdeal.defs (F := Ideal)) (onTc (τ := Cert.KernelDlwinIdeal.τ) (Cert.KernelDlwinIdeal.main (F := Ideal))) ⟨m, fun _ => 0, g⟩ (fun r => ∀ c : Dev Cert.KernelDlwinIdeal.nD,
          r.2.mem ((c.tc : Thread Cert.KernelDlwinIdeal.nD Cert.KernelDlwinIdeal.τ).loc Cert.KernelDlwinIdeal.main_v0) = v0 c
          ∧ r.2.mem ((c.tc : Thread Cert.KernelDlwinIdeal.nD Cert.KernelDlwinIdeal.τ).loc Cert.KernelDlwinIdeal.main_arg0) = m ((c.tc : Thread Cert.KernelDlwinIdeal.nD Cert.KernelDlwinIdeal.τ).loc Cert.KernelDlwinIdeal.main_arg0)
          ∧ r.2.mem ((c.tc : Thread Cert.KernelDlwinIdeal.nD Cert.KernelDlwinIdeal.τ).loc Cert.KernelDlwinIdeal.main_arg1) = m ((c.tc : Thread Cert.KernelDlwinIdeal.nD Cert.KernelDlwinIdeal.τ).loc Cert.KernelDlwinIdeal.main_arg1))
      ∧ θ_run (Cert.ReferenceDlwinIdeal.defs (F := Ideal)) (onTc (τ := Cert.ReferenceDlwinIdeal.τ) (Cert.ReferenceDlwinIdeal.main (F := Ideal))) ⟨m', fun _ => 0, g'⟩ (fun r => ∀ c : Dev Cert.ReferenceDlwinIdeal.nD,
          r.2.mem ((c.tc : Thread Cert.ReferenceDlwinIdeal.nD Cert.ReferenceDlwinIdeal.τ).loc Cert.ReferenceDlwinIdeal.main_v4) = v0 c
          ∧ r.2.mem ((c.tc : Thread Cert.ReferenceDlwinIdeal.nD Cert.ReferenceDlwinIdeal.τ).loc Cert.ReferenceDlwinIdeal.main_arg0) = m' ((c.tc : Thread Cert.ReferenceDlwinIdeal.nD Cert.ReferenceDlwinIdeal.τ).loc Cert.ReferenceDlwinIdeal.main_arg0)
          ∧ r.2.mem ((c.tc : Thread Cert.ReferenceDlwinIdeal.nD Cert.ReferenceDlwinIdeal.τ).loc Cert.ReferenceDlwinIdeal.main_arg1) = m' ((c.tc : Thread Cert.ReferenceDlwinIdeal.nD Cert.ReferenceDlwinIdeal.τ).loc Cert.ReferenceDlwinIdeal.main_arg1))

def preserves_KernelDlh_KernelDlhIdeal : Prop :=
  True

def algebraic_KernelDlhIdeal_ReferenceDlhIdeal [hKernelDlhIdeal : Cert.KernelDlhIdeal.Facts] [hReferenceDlhIdeal : Cert.ReferenceDlhIdeal.Facts] : Prop :=
  ∀ (m : (ℓ : Loc Cert.KernelDlhIdeal.nD Cert.KernelDlhIdeal.τ Cert.KernelDlhIdeal.sig) → Buf (Elt Ideal) ℓ) (g : Dev Cert.KernelDlhIdeal.nD → PrngReg)
    (m' : (ℓ : Loc Cert.ReferenceDlhIdeal.nD Cert.ReferenceDlhIdeal.τ Cert.ReferenceDlhIdeal.sig) → Buf (Elt Ideal) ℓ) (g' : Dev Cert.ReferenceDlhIdeal.nD → PrngReg), Pre_KernelDlhIdeal m →
    (∀ c : Dev Cert.KernelDlhIdeal.nD,
      m' ((c.tc : Thread Cert.ReferenceDlhIdeal.nD Cert.ReferenceDlhIdeal.τ).loc Cert.ReferenceDlhIdeal.main_arg0) = m ((c.tc : Thread Cert.KernelDlhIdeal.nD Cert.KernelDlhIdeal.τ).loc Cert.KernelDlhIdeal.main_arg0)
      ∧ m' ((c.tc : Thread Cert.ReferenceDlhIdeal.nD Cert.ReferenceDlhIdeal.τ).loc Cert.ReferenceDlhIdeal.main_arg1) = m ((c.tc : Thread Cert.KernelDlhIdeal.nD Cert.KernelDlhIdeal.τ).loc Cert.KernelDlhIdeal.main_arg1)) →
    ∃ (v0 : (c : Dev Cert.KernelDlhIdeal.nD) → Buf (Elt Ideal) ((c.tc : Thread Cert.KernelDlhIdeal.nD Cert.KernelDlhIdeal.τ).loc Cert.KernelDlhIdeal.main_v0)),
      θ_run (Cert.KernelDlhIdeal.defs (F := Ideal)) (onTc (τ := Cert.KernelDlhIdeal.τ) (Cert.KernelDlhIdeal.main (F := Ideal))) ⟨m, fun _ => 0, g⟩ (fun r => ∀ c : Dev Cert.KernelDlhIdeal.nD,
          r.2.mem ((c.tc : Thread Cert.KernelDlhIdeal.nD Cert.KernelDlhIdeal.τ).loc Cert.KernelDlhIdeal.main_v0) = v0 c
          ∧ r.2.mem ((c.tc : Thread Cert.KernelDlhIdeal.nD Cert.KernelDlhIdeal.τ).loc Cert.KernelDlhIdeal.main_arg0) = m ((c.tc : Thread Cert.KernelDlhIdeal.nD Cert.KernelDlhIdeal.τ).loc Cert.KernelDlhIdeal.main_arg0)
          ∧ r.2.mem ((c.tc : Thread Cert.KernelDlhIdeal.nD Cert.KernelDlhIdeal.τ).loc Cert.KernelDlhIdeal.main_arg1) = m ((c.tc : Thread Cert.KernelDlhIdeal.nD Cert.KernelDlhIdeal.τ).loc Cert.KernelDlhIdeal.main_arg1))
      ∧ θ_run (Cert.ReferenceDlhIdeal.defs (F := Ideal)) (onTc (τ := Cert.ReferenceDlhIdeal.τ) (Cert.ReferenceDlhIdeal.main (F := Ideal))) ⟨m', fun _ => 0, g'⟩ (fun r => ∀ c : Dev Cert.ReferenceDlhIdeal.nD,
          r.2.mem ((c.tc : Thread Cert.ReferenceDlhIdeal.nD Cert.ReferenceDlhIdeal.τ).loc Cert.ReferenceDlhIdeal.main_v3) = v0 c
          ∧ r.2.mem ((c.tc : Thread Cert.ReferenceDlhIdeal.nD Cert.ReferenceDlhIdeal.τ).loc Cert.ReferenceDlhIdeal.main_arg0) = m' ((c.tc : Thread Cert.ReferenceDlhIdeal.nD Cert.ReferenceDlhIdeal.τ).loc Cert.ReferenceDlhIdeal.main_arg0)
          ∧ r.2.mem ((c.tc : Thread Cert.ReferenceDlhIdeal.nD Cert.ReferenceDlhIdeal.τ).loc Cert.ReferenceDlhIdeal.main_arg1) = m' ((c.tc : Thread Cert.ReferenceDlhIdeal.nD Cert.ReferenceDlhIdeal.τ).loc Cert.ReferenceDlhIdeal.main_arg1))

def preserves_KernelLout_KernelLoutIdeal : Prop :=
  True

def algebraic_KernelLoutIdeal_ReferenceLoutIdeal [hKernelLoutIdeal : Cert.KernelLoutIdeal.Facts] [hReferenceLoutIdeal : Cert.ReferenceLoutIdeal.Facts] : Prop :=
  ∀ (m : (ℓ : Loc Cert.KernelLoutIdeal.nD Cert.KernelLoutIdeal.τ Cert.KernelLoutIdeal.sig) → Buf (Elt Ideal) ℓ) (g : Dev Cert.KernelLoutIdeal.nD → PrngReg)
    (m' : (ℓ : Loc Cert.ReferenceLoutIdeal.nD Cert.ReferenceLoutIdeal.τ Cert.ReferenceLoutIdeal.sig) → Buf (Elt Ideal) ℓ) (g' : Dev Cert.ReferenceLoutIdeal.nD → PrngReg), Pre_KernelLoutIdeal m →
    (∀ c : Dev Cert.KernelLoutIdeal.nD,
      m' ((c.tc : Thread Cert.ReferenceLoutIdeal.nD Cert.ReferenceLoutIdeal.τ).loc Cert.ReferenceLoutIdeal.main_arg0) = m ((c.tc : Thread Cert.KernelLoutIdeal.nD Cert.KernelLoutIdeal.τ).loc Cert.KernelLoutIdeal.main_arg0)
      ∧ m' ((c.tc : Thread Cert.ReferenceLoutIdeal.nD Cert.ReferenceLoutIdeal.τ).loc Cert.ReferenceLoutIdeal.main_arg1) = m ((c.tc : Thread Cert.KernelLoutIdeal.nD Cert.KernelLoutIdeal.τ).loc Cert.KernelLoutIdeal.main_arg1)) →
    ∃ (v0 : (c : Dev Cert.KernelLoutIdeal.nD) → Buf (Elt Ideal) ((c.tc : Thread Cert.KernelLoutIdeal.nD Cert.KernelLoutIdeal.τ).loc Cert.KernelLoutIdeal.main_v0)),
      θ_run (Cert.KernelLoutIdeal.defs (F := Ideal)) (onTc (τ := Cert.KernelLoutIdeal.τ) (Cert.KernelLoutIdeal.main (F := Ideal))) ⟨m, fun _ => 0, g⟩ (fun r => ∀ c : Dev Cert.KernelLoutIdeal.nD,
          r.2.mem ((c.tc : Thread Cert.KernelLoutIdeal.nD Cert.KernelLoutIdeal.τ).loc Cert.KernelLoutIdeal.main_v0) = v0 c
          ∧ r.2.mem ((c.tc : Thread Cert.KernelLoutIdeal.nD Cert.KernelLoutIdeal.τ).loc Cert.KernelLoutIdeal.main_arg0) = m ((c.tc : Thread Cert.KernelLoutIdeal.nD Cert.KernelLoutIdeal.τ).loc Cert.KernelLoutIdeal.main_arg0)
          ∧ r.2.mem ((c.tc : Thread Cert.KernelLoutIdeal.nD Cert.KernelLoutIdeal.τ).loc Cert.KernelLoutIdeal.main_arg1) = m ((c.tc : Thread Cert.KernelLoutIdeal.nD Cert.KernelLoutIdeal.τ).loc Cert.KernelLoutIdeal.main_arg1))
      ∧ θ_run (Cert.ReferenceLoutIdeal.defs (F := Ideal)) (onTc (τ := Cert.ReferenceLoutIdeal.τ) (Cert.ReferenceLoutIdeal.main (F := Ideal))) ⟨m', fun _ => 0, g'⟩ (fun r => ∀ c : Dev Cert.ReferenceLoutIdeal.nD,
          r.2.mem ((c.tc : Thread Cert.ReferenceLoutIdeal.nD Cert.ReferenceLoutIdeal.τ).loc Cert.ReferenceLoutIdeal.main_v2) = v0 c
          ∧ r.2.mem ((c.tc : Thread Cert.ReferenceLoutIdeal.nD Cert.ReferenceLoutIdeal.τ).loc Cert.ReferenceLoutIdeal.main_arg0) = m' ((c.tc : Thread Cert.ReferenceLoutIdeal.nD Cert.ReferenceLoutIdeal.τ).loc Cert.ReferenceLoutIdeal.main_arg0)
          ∧ r.2.mem ((c.tc : Thread Cert.ReferenceLoutIdeal.nD Cert.ReferenceLoutIdeal.τ).loc Cert.ReferenceLoutIdeal.main_arg1) = m' ((c.tc : Thread Cert.ReferenceLoutIdeal.nD Cert.ReferenceLoutIdeal.τ).loc Cert.ReferenceLoutIdeal.main_arg1))

def preserves_KernelDlwout_KernelDlwoutIdeal : Prop :=
  True

def algebraic_KernelDlwoutIdeal_ReferenceDlwoutIdeal [hKernelDlwoutIdeal : Cert.KernelDlwoutIdeal.Facts] [hReferenceDlwoutIdeal : Cert.ReferenceDlwoutIdeal.Facts] : Prop :=
  ∀ (m : (ℓ : Loc Cert.KernelDlwoutIdeal.nD Cert.KernelDlwoutIdeal.τ Cert.KernelDlwoutIdeal.sig) → Buf (Elt Ideal) ℓ) (g : Dev Cert.KernelDlwoutIdeal.nD → PrngReg)
    (m' : (ℓ : Loc Cert.ReferenceDlwoutIdeal.nD Cert.ReferenceDlwoutIdeal.τ Cert.ReferenceDlwoutIdeal.sig) → Buf (Elt Ideal) ℓ) (g' : Dev Cert.ReferenceDlwoutIdeal.nD → PrngReg), Pre_KernelDlwoutIdeal m →
    (∀ c : Dev Cert.KernelDlwoutIdeal.nD,
      m' ((c.tc : Thread Cert.ReferenceDlwoutIdeal.nD Cert.ReferenceDlwoutIdeal.τ).loc Cert.ReferenceDlwoutIdeal.main_arg0) = m ((c.tc : Thread Cert.KernelDlwoutIdeal.nD Cert.KernelDlwoutIdeal.τ).loc Cert.KernelDlwoutIdeal.main_arg0)
      ∧ m' ((c.tc : Thread Cert.ReferenceDlwoutIdeal.nD Cert.ReferenceDlwoutIdeal.τ).loc Cert.ReferenceDlwoutIdeal.main_arg1) = m ((c.tc : Thread Cert.KernelDlwoutIdeal.nD Cert.KernelDlwoutIdeal.τ).loc Cert.KernelDlwoutIdeal.main_arg1)) →
    ∃ (v0 : (c : Dev Cert.KernelDlwoutIdeal.nD) → Buf (Elt Ideal) ((c.tc : Thread Cert.KernelDlwoutIdeal.nD Cert.KernelDlwoutIdeal.τ).loc Cert.KernelDlwoutIdeal.main_v0)),
      θ_run (Cert.KernelDlwoutIdeal.defs (F := Ideal)) (onTc (τ := Cert.KernelDlwoutIdeal.τ) (Cert.KernelDlwoutIdeal.main (F := Ideal))) ⟨m, fun _ => 0, g⟩ (fun r => ∀ c : Dev Cert.KernelDlwoutIdeal.nD,
          r.2.mem ((c.tc : Thread Cert.KernelDlwoutIdeal.nD Cert.KernelDlwoutIdeal.τ).loc Cert.KernelDlwoutIdeal.main_v0) = v0 c
          ∧ r.2.mem ((c.tc : Thread Cert.KernelDlwoutIdeal.nD Cert.KernelDlwoutIdeal.τ).loc Cert.KernelDlwoutIdeal.main_arg0) = m ((c.tc : Thread Cert.KernelDlwoutIdeal.nD Cert.KernelDlwoutIdeal.τ).loc Cert.KernelDlwoutIdeal.main_arg0)
          ∧ r.2.mem ((c.tc : Thread Cert.KernelDlwoutIdeal.nD Cert.KernelDlwoutIdeal.τ).loc Cert.KernelDlwoutIdeal.main_arg1) = m ((c.tc : Thread Cert.KernelDlwoutIdeal.nD Cert.KernelDlwoutIdeal.τ).loc Cert.KernelDlwoutIdeal.main_arg1))
      ∧ θ_run (Cert.ReferenceDlwoutIdeal.defs (F := Ideal)) (onTc (τ := Cert.ReferenceDlwoutIdeal.τ) (Cert.ReferenceDlwoutIdeal.main (F := Ideal))) ⟨m', fun _ => 0, g'⟩ (fun r => ∀ c : Dev Cert.ReferenceDlwoutIdeal.nD,
          r.2.mem ((c.tc : Thread Cert.ReferenceDlwoutIdeal.nD Cert.ReferenceDlwoutIdeal.τ).loc Cert.ReferenceDlwoutIdeal.main_v6) = v0 c
          ∧ r.2.mem ((c.tc : Thread Cert.ReferenceDlwoutIdeal.nD Cert.ReferenceDlwoutIdeal.τ).loc Cert.ReferenceDlwoutIdeal.main_arg0) = m' ((c.tc : Thread Cert.ReferenceDlwoutIdeal.nD Cert.ReferenceDlwoutIdeal.τ).loc Cert.ReferenceDlwoutIdeal.main_arg0)
          ∧ r.2.mem ((c.tc : Thread Cert.ReferenceDlwoutIdeal.nD Cert.ReferenceDlwoutIdeal.τ).loc Cert.ReferenceDlwoutIdeal.main_arg1) = m' ((c.tc : Thread Cert.ReferenceDlwoutIdeal.nD Cert.ReferenceDlwoutIdeal.τ).loc Cert.ReferenceDlwoutIdeal.main_arg1))

def preserves_KernelDmix_KernelDmixIdeal : Prop :=
  True

def algebraic_KernelDmixIdeal_ReferenceDmixIdeal [hKernelDmixIdeal : Cert.KernelDmixIdeal.Facts] [hReferenceDmixIdeal : Cert.ReferenceDmixIdeal.Facts] : Prop :=
  ∀ (m : (ℓ : Loc Cert.KernelDmixIdeal.nD Cert.KernelDmixIdeal.τ Cert.KernelDmixIdeal.sig) → Buf (Elt Ideal) ℓ) (g : Dev Cert.KernelDmixIdeal.nD → PrngReg)
    (m' : (ℓ : Loc Cert.ReferenceDmixIdeal.nD Cert.ReferenceDmixIdeal.τ Cert.ReferenceDmixIdeal.sig) → Buf (Elt Ideal) ℓ) (g' : Dev Cert.ReferenceDmixIdeal.nD → PrngReg), Pre_KernelDmixIdeal m →
    (∀ c : Dev Cert.KernelDmixIdeal.nD,
      m' ((c.tc : Thread Cert.ReferenceDmixIdeal.nD Cert.ReferenceDmixIdeal.τ).loc Cert.ReferenceDmixIdeal.main_arg0) = m ((c.tc : Thread Cert.KernelDmixIdeal.nD Cert.KernelDmixIdeal.τ).loc Cert.KernelDmixIdeal.main_arg0)
      ∧ m' ((c.tc : Thread Cert.ReferenceDmixIdeal.nD Cert.ReferenceDmixIdeal.τ).loc Cert.ReferenceDmixIdeal.main_arg1) = m ((c.tc : Thread Cert.KernelDmixIdeal.nD Cert.KernelDmixIdeal.τ).loc Cert.KernelDmixIdeal.main_arg1)) →
    ∃ (v0 : (c : Dev Cert.KernelDmixIdeal.nD) → Buf (Elt Ideal) ((c.tc : Thread Cert.KernelDmixIdeal.nD Cert.KernelDmixIdeal.τ).loc Cert.KernelDmixIdeal.main_v0)),
      θ_run (Cert.KernelDmixIdeal.defs (F := Ideal)) (onTc (τ := Cert.KernelDmixIdeal.τ) (Cert.KernelDmixIdeal.main (F := Ideal))) ⟨m, fun _ => 0, g⟩ (fun r => ∀ c : Dev Cert.KernelDmixIdeal.nD,
          r.2.mem ((c.tc : Thread Cert.KernelDmixIdeal.nD Cert.KernelDmixIdeal.τ).loc Cert.KernelDmixIdeal.main_v0) = v0 c
          ∧ r.2.mem ((c.tc : Thread Cert.KernelDmixIdeal.nD Cert.KernelDmixIdeal.τ).loc Cert.KernelDmixIdeal.main_arg0) = m ((c.tc : Thread Cert.KernelDmixIdeal.nD Cert.KernelDmixIdeal.τ).loc Cert.KernelDmixIdeal.main_arg0)
          ∧ r.2.mem ((c.tc : Thread Cert.KernelDmixIdeal.nD Cert.KernelDmixIdeal.τ).loc Cert.KernelDmixIdeal.main_arg1) = m ((c.tc : Thread Cert.KernelDmixIdeal.nD Cert.KernelDmixIdeal.τ).loc Cert.KernelDmixIdeal.main_arg1))
      ∧ θ_run (Cert.ReferenceDmixIdeal.defs (F := Ideal)) (onTc (τ := Cert.ReferenceDmixIdeal.τ) (Cert.ReferenceDmixIdeal.main (F := Ideal))) ⟨m', fun _ => 0, g'⟩ (fun r => ∀ c : Dev Cert.ReferenceDmixIdeal.nD,
          r.2.mem ((c.tc : Thread Cert.ReferenceDmixIdeal.nD Cert.ReferenceDmixIdeal.τ).loc Cert.ReferenceDmixIdeal.main_v4) = v0 c
          ∧ r.2.mem ((c.tc : Thread Cert.ReferenceDmixIdeal.nD Cert.ReferenceDmixIdeal.τ).loc Cert.ReferenceDmixIdeal.main_arg0) = m' ((c.tc : Thread Cert.ReferenceDmixIdeal.nD Cert.ReferenceDmixIdeal.τ).loc Cert.ReferenceDmixIdeal.main_arg0)
          ∧ r.2.mem ((c.tc : Thread Cert.ReferenceDmixIdeal.nD Cert.ReferenceDmixIdeal.τ).loc Cert.ReferenceDmixIdeal.main_arg1) = m' ((c.tc : Thread Cert.ReferenceDmixIdeal.nD Cert.ReferenceDmixIdeal.τ).loc Cert.ReferenceDmixIdeal.main_arg1))

def preserves_KernelDln_KernelDlnIdeal : Prop :=
  True

def algebraic_KernelDlnIdeal_ReferenceDlnIdeal_pre_finite_grad [hKernelDlnIdeal : Cert.KernelDlnIdeal.Facts] [hReferenceDlnIdeal : Cert.ReferenceDlnIdeal.Facts] [hPre_finite_grad : Cert.Pre_finite_grad.Facts] : Prop :=
  ∀ (m : (ℓ : Loc Cert.KernelDlnIdeal.nD Cert.KernelDlnIdeal.τ Cert.KernelDlnIdeal.sig) → Buf (Elt Ideal) ℓ) (g : Dev Cert.KernelDlnIdeal.nD → PrngReg)
    (m' : (ℓ : Loc Cert.ReferenceDlnIdeal.nD Cert.ReferenceDlnIdeal.τ Cert.ReferenceDlnIdeal.sig) → Buf (Elt Ideal) ℓ) (g' : Dev Cert.ReferenceDlnIdeal.nD → PrngReg), Pre_KernelDlnIdeal_finite_grad m →
    (∀ c : Dev Cert.KernelDlnIdeal.nD,
      m' ((c.tc : Thread Cert.ReferenceDlnIdeal.nD Cert.ReferenceDlnIdeal.τ).loc Cert.ReferenceDlnIdeal.main_arg0) = m ((c.tc : Thread Cert.KernelDlnIdeal.nD Cert.KernelDlnIdeal.τ).loc Cert.KernelDlnIdeal.main_arg0)
      ∧ m' ((c.tc : Thread Cert.ReferenceDlnIdeal.nD Cert.ReferenceDlnIdeal.τ).loc Cert.ReferenceDlnIdeal.main_arg1) = m ((c.tc : Thread Cert.KernelDlnIdeal.nD Cert.KernelDlnIdeal.τ).loc Cert.KernelDlnIdeal.main_arg1)
      ∧ m' ((c.tc : Thread Cert.ReferenceDlnIdeal.nD Cert.ReferenceDlnIdeal.τ).loc Cert.ReferenceDlnIdeal.main_arg2) = m ((c.tc : Thread Cert.KernelDlnIdeal.nD Cert.KernelDlnIdeal.τ).loc Cert.KernelDlnIdeal.main_arg2)
      ∧ m' ((c.tc : Thread Cert.ReferenceDlnIdeal.nD Cert.ReferenceDlnIdeal.τ).loc Cert.ReferenceDlnIdeal.main_arg3) = m ((c.tc : Thread Cert.KernelDlnIdeal.nD Cert.KernelDlnIdeal.τ).loc Cert.KernelDlnIdeal.main_arg3)
      ∧ m' ((c.tc : Thread Cert.ReferenceDlnIdeal.nD Cert.ReferenceDlnIdeal.τ).loc Cert.ReferenceDlnIdeal.main_arg4) = m ((c.tc : Thread Cert.KernelDlnIdeal.nD Cert.KernelDlnIdeal.τ).loc Cert.KernelDlnIdeal.main_arg4)
      ∧ m' ((c.tc : Thread Cert.ReferenceDlnIdeal.nD Cert.ReferenceDlnIdeal.τ).loc Cert.ReferenceDlnIdeal.main_arg5) = m ((c.tc : Thread Cert.KernelDlnIdeal.nD Cert.KernelDlnIdeal.τ).loc Cert.KernelDlnIdeal.main_arg5)) →
    ∃ (v0 : (c : Dev Cert.KernelDlnIdeal.nD) → Buf (Elt Ideal) ((c.tc : Thread Cert.KernelDlnIdeal.nD Cert.KernelDlnIdeal.τ).loc Cert.KernelDlnIdeal.main_v2_0)) (v1 : (c : Dev Cert.KernelDlnIdeal.nD) → Buf (Elt Ideal) ((c.tc : Thread Cert.KernelDlnIdeal.nD Cert.KernelDlnIdeal.τ).loc Cert.KernelDlnIdeal.main_v2_1)) (v2 : (c : Dev Cert.KernelDlnIdeal.nD) → Buf (Elt Ideal) ((c.tc : Thread Cert.KernelDlnIdeal.nD Cert.KernelDlnIdeal.τ).loc Cert.KernelDlnIdeal.main_v2_2)) (v3 : (c : Dev Cert.KernelDlnIdeal.nD) → Buf (Elt Ideal) ((c.tc : Thread Cert.KernelDlnIdeal.nD Cert.KernelDlnIdeal.τ).loc Cert.KernelDlnIdeal.main_v2_3)),
      θ_run (Cert.KernelDlnIdeal.defs (F := Ideal)) (onTc (τ := Cert.KernelDlnIdeal.τ) (Cert.KernelDlnIdeal.main (F := Ideal))) ⟨m, fun _ => 0, g⟩ (fun r => ∀ c : Dev Cert.KernelDlnIdeal.nD,
          r.2.mem ((c.tc : Thread Cert.KernelDlnIdeal.nD Cert.KernelDlnIdeal.τ).loc Cert.KernelDlnIdeal.main_v2_0) = v0 c
          ∧ r.2.mem ((c.tc : Thread Cert.KernelDlnIdeal.nD Cert.KernelDlnIdeal.τ).loc Cert.KernelDlnIdeal.main_v2_1) = v1 c
          ∧ r.2.mem ((c.tc : Thread Cert.KernelDlnIdeal.nD Cert.KernelDlnIdeal.τ).loc Cert.KernelDlnIdeal.main_v2_2) = v2 c
          ∧ r.2.mem ((c.tc : Thread Cert.KernelDlnIdeal.nD Cert.KernelDlnIdeal.τ).loc Cert.KernelDlnIdeal.main_v2_3) = v3 c
          ∧ r.2.mem ((c.tc : Thread Cert.KernelDlnIdeal.nD Cert.KernelDlnIdeal.τ).loc Cert.KernelDlnIdeal.main_arg0) = m ((c.tc : Thread Cert.KernelDlnIdeal.nD Cert.KernelDlnIdeal.τ).loc Cert.KernelDlnIdeal.main_arg0)
          ∧ r.2.mem ((c.tc : Thread Cert.KernelDlnIdeal.nD Cert.KernelDlnIdeal.τ).loc Cert.KernelDlnIdeal.main_arg1) = m ((c.tc : Thread Cert.KernelDlnIdeal.nD Cert.KernelDlnIdeal.τ).loc Cert.KernelDlnIdeal.main_arg1)
          ∧ r.2.mem ((c.tc : Thread Cert.KernelDlnIdeal.nD Cert.KernelDlnIdeal.τ).loc Cert.KernelDlnIdeal.main_arg2) = m ((c.tc : Thread Cert.KernelDlnIdeal.nD Cert.KernelDlnIdeal.τ).loc Cert.KernelDlnIdeal.main_arg2)
          ∧ r.2.mem ((c.tc : Thread Cert.KernelDlnIdeal.nD Cert.KernelDlnIdeal.τ).loc Cert.KernelDlnIdeal.main_arg3) = m ((c.tc : Thread Cert.KernelDlnIdeal.nD Cert.KernelDlnIdeal.τ).loc Cert.KernelDlnIdeal.main_arg3)
          ∧ r.2.mem ((c.tc : Thread Cert.KernelDlnIdeal.nD Cert.KernelDlnIdeal.τ).loc Cert.KernelDlnIdeal.main_arg4) = m ((c.tc : Thread Cert.KernelDlnIdeal.nD Cert.KernelDlnIdeal.τ).loc Cert.KernelDlnIdeal.main_arg4)
          ∧ r.2.mem ((c.tc : Thread Cert.KernelDlnIdeal.nD Cert.KernelDlnIdeal.τ).loc Cert.KernelDlnIdeal.main_arg5) = m ((c.tc : Thread Cert.KernelDlnIdeal.nD Cert.KernelDlnIdeal.τ).loc Cert.KernelDlnIdeal.main_arg5))
      ∧ θ_run (Cert.ReferenceDlnIdeal.defs (F := Ideal)) (onTc (τ := Cert.ReferenceDlnIdeal.τ) (Cert.ReferenceDlnIdeal.main (F := Ideal))) ⟨m', fun _ => 0, g'⟩ (fun r => ∀ c : Dev Cert.ReferenceDlnIdeal.nD,
          r.2.mem ((c.tc : Thread Cert.ReferenceDlnIdeal.nD Cert.ReferenceDlnIdeal.τ).loc Cert.ReferenceDlnIdeal.main_v67) = v0 c
          ∧ r.2.mem ((c.tc : Thread Cert.ReferenceDlnIdeal.nD Cert.ReferenceDlnIdeal.τ).loc Cert.ReferenceDlnIdeal.main_v68) = v1 c
          ∧ r.2.mem ((c.tc : Thread Cert.ReferenceDlnIdeal.nD Cert.ReferenceDlnIdeal.τ).loc Cert.ReferenceDlnIdeal.main_v69) = v2 c
          ∧ r.2.mem ((c.tc : Thread Cert.ReferenceDlnIdeal.nD Cert.ReferenceDlnIdeal.τ).loc Cert.ReferenceDlnIdeal.main_v70) = v3 c
          ∧ r.2.mem ((c.tc : Thread Cert.ReferenceDlnIdeal.nD Cert.ReferenceDlnIdeal.τ).loc Cert.ReferenceDlnIdeal.main_arg0) = m' ((c.tc : Thread Cert.ReferenceDlnIdeal.nD Cert.ReferenceDlnIdeal.τ).loc Cert.ReferenceDlnIdeal.main_arg0)
          ∧ r.2.mem ((c.tc : Thread Cert.ReferenceDlnIdeal.nD Cert.ReferenceDlnIdeal.τ).loc Cert.ReferenceDlnIdeal.main_arg1) = m' ((c.tc : Thread Cert.ReferenceDlnIdeal.nD Cert.ReferenceDlnIdeal.τ).loc Cert.ReferenceDlnIdeal.main_arg1)
          ∧ r.2.mem ((c.tc : Thread Cert.ReferenceDlnIdeal.nD Cert.ReferenceDlnIdeal.τ).loc Cert.ReferenceDlnIdeal.main_arg2) = m' ((c.tc : Thread Cert.ReferenceDlnIdeal.nD Cert.ReferenceDlnIdeal.τ).loc Cert.ReferenceDlnIdeal.main_arg2)
          ∧ r.2.mem ((c.tc : Thread Cert.ReferenceDlnIdeal.nD Cert.ReferenceDlnIdeal.τ).loc Cert.ReferenceDlnIdeal.main_arg3) = m' ((c.tc : Thread Cert.ReferenceDlnIdeal.nD Cert.ReferenceDlnIdeal.τ).loc Cert.ReferenceDlnIdeal.main_arg3)
          ∧ r.2.mem ((c.tc : Thread Cert.ReferenceDlnIdeal.nD Cert.ReferenceDlnIdeal.τ).loc Cert.ReferenceDlnIdeal.main_arg4) = m' ((c.tc : Thread Cert.ReferenceDlnIdeal.nD Cert.ReferenceDlnIdeal.τ).loc Cert.ReferenceDlnIdeal.main_arg4)
          ∧ r.2.mem ((c.tc : Thread Cert.ReferenceDlnIdeal.nD Cert.ReferenceDlnIdeal.τ).loc Cert.ReferenceDlnIdeal.main_arg5) = m' ((c.tc : Thread Cert.ReferenceDlnIdeal.nD Cert.ReferenceDlnIdeal.τ).loc Cert.ReferenceDlnIdeal.main_arg5))

def preserves_KernelLn_KernelLnIdeal : Prop :=
  True

def algebraic_KernelLnIdeal_ReferenceLnIdeal [hKernelLnIdeal : Cert.KernelLnIdeal.Facts] [hReferenceLnIdeal : Cert.ReferenceLnIdeal.Facts] : Prop :=
  ∀ (m : (ℓ : Loc Cert.KernelLnIdeal.nD Cert.KernelLnIdeal.τ Cert.KernelLnIdeal.sig) → Buf (Elt Ideal) ℓ) (g : Dev Cert.KernelLnIdeal.nD → PrngReg)
    (m' : (ℓ : Loc Cert.ReferenceLnIdeal.nD Cert.ReferenceLnIdeal.τ Cert.ReferenceLnIdeal.sig) → Buf (Elt Ideal) ℓ) (g' : Dev Cert.ReferenceLnIdeal.nD → PrngReg), Pre_KernelLnIdeal m →
    (∀ c : Dev Cert.KernelLnIdeal.nD,
      m' ((c.tc : Thread Cert.ReferenceLnIdeal.nD Cert.ReferenceLnIdeal.τ).loc Cert.ReferenceLnIdeal.main_arg0) = m ((c.tc : Thread Cert.KernelLnIdeal.nD Cert.KernelLnIdeal.τ).loc Cert.KernelLnIdeal.main_arg0)
      ∧ m' ((c.tc : Thread Cert.ReferenceLnIdeal.nD Cert.ReferenceLnIdeal.τ).loc Cert.ReferenceLnIdeal.main_arg1) = m ((c.tc : Thread Cert.KernelLnIdeal.nD Cert.KernelLnIdeal.τ).loc Cert.KernelLnIdeal.main_arg1)
      ∧ m' ((c.tc : Thread Cert.ReferenceLnIdeal.nD Cert.ReferenceLnIdeal.τ).loc Cert.ReferenceLnIdeal.main_arg2) = m ((c.tc : Thread Cert.KernelLnIdeal.nD Cert.KernelLnIdeal.τ).loc Cert.KernelLnIdeal.main_arg2)
      ∧ m' ((c.tc : Thread Cert.ReferenceLnIdeal.nD Cert.ReferenceLnIdeal.τ).loc Cert.ReferenceLnIdeal.main_arg3) = m ((c.tc : Thread Cert.KernelLnIdeal.nD Cert.KernelLnIdeal.τ).loc Cert.KernelLnIdeal.main_arg3)) →
    ∃ (v0 : (c : Dev Cert.KernelLnIdeal.nD) → Buf (Elt Ideal) ((c.tc : Thread Cert.KernelLnIdeal.nD Cert.KernelLnIdeal.τ).loc Cert.KernelLnIdeal.main_v2_0)) (v1 : (c : Dev Cert.KernelLnIdeal.nD) → Buf (Elt Ideal) ((c.tc : Thread Cert.KernelLnIdeal.nD Cert.KernelLnIdeal.τ).loc Cert.KernelLnIdeal.main_v2_1)),
      θ_run (Cert.KernelLnIdeal.defs (F := Ideal)) (onTc (τ := Cert.KernelLnIdeal.τ) (Cert.KernelLnIdeal.main (F := Ideal))) ⟨m, fun _ => 0, g⟩ (fun r => ∀ c : Dev Cert.KernelLnIdeal.nD,
          r.2.mem ((c.tc : Thread Cert.KernelLnIdeal.nD Cert.KernelLnIdeal.τ).loc Cert.KernelLnIdeal.main_v2_0) = v0 c
          ∧ r.2.mem ((c.tc : Thread Cert.KernelLnIdeal.nD Cert.KernelLnIdeal.τ).loc Cert.KernelLnIdeal.main_v2_1) = v1 c
          ∧ r.2.mem ((c.tc : Thread Cert.KernelLnIdeal.nD Cert.KernelLnIdeal.τ).loc Cert.KernelLnIdeal.main_arg0) = m ((c.tc : Thread Cert.KernelLnIdeal.nD Cert.KernelLnIdeal.τ).loc Cert.KernelLnIdeal.main_arg0)
          ∧ r.2.mem ((c.tc : Thread Cert.KernelLnIdeal.nD Cert.KernelLnIdeal.τ).loc Cert.KernelLnIdeal.main_arg1) = m ((c.tc : Thread Cert.KernelLnIdeal.nD Cert.KernelLnIdeal.τ).loc Cert.KernelLnIdeal.main_arg1)
          ∧ r.2.mem ((c.tc : Thread Cert.KernelLnIdeal.nD Cert.KernelLnIdeal.τ).loc Cert.KernelLnIdeal.main_arg2) = m ((c.tc : Thread Cert.KernelLnIdeal.nD Cert.KernelLnIdeal.τ).loc Cert.KernelLnIdeal.main_arg2)
          ∧ r.2.mem ((c.tc : Thread Cert.KernelLnIdeal.nD Cert.KernelLnIdeal.τ).loc Cert.KernelLnIdeal.main_arg3) = m ((c.tc : Thread Cert.KernelLnIdeal.nD Cert.KernelLnIdeal.τ).loc Cert.KernelLnIdeal.main_arg3))
      ∧ θ_run (Cert.ReferenceLnIdeal.defs (F := Ideal)) (onTc (τ := Cert.ReferenceLnIdeal.τ) (Cert.ReferenceLnIdeal.main (F := Ideal))) ⟨m', fun _ => 0, g'⟩ (fun r => ∀ c : Dev Cert.ReferenceLnIdeal.nD,
          r.2.mem ((c.tc : Thread Cert.ReferenceLnIdeal.nD Cert.ReferenceLnIdeal.τ).loc Cert.ReferenceLnIdeal.main_v26) = v0 c
          ∧ r.2.mem ((c.tc : Thread Cert.ReferenceLnIdeal.nD Cert.ReferenceLnIdeal.τ).loc Cert.ReferenceLnIdeal.main_v27) = v1 c
          ∧ r.2.mem ((c.tc : Thread Cert.ReferenceLnIdeal.nD Cert.ReferenceLnIdeal.τ).loc Cert.ReferenceLnIdeal.main_arg0) = m' ((c.tc : Thread Cert.ReferenceLnIdeal.nD Cert.ReferenceLnIdeal.τ).loc Cert.ReferenceLnIdeal.main_arg0)
          ∧ r.2.mem ((c.tc : Thread Cert.ReferenceLnIdeal.nD Cert.ReferenceLnIdeal.τ).loc Cert.ReferenceLnIdeal.main_arg1) = m' ((c.tc : Thread Cert.ReferenceLnIdeal.nD Cert.ReferenceLnIdeal.τ).loc Cert.ReferenceLnIdeal.main_arg1)
          ∧ r.2.mem ((c.tc : Thread Cert.ReferenceLnIdeal.nD Cert.ReferenceLnIdeal.τ).loc Cert.ReferenceLnIdeal.main_arg2) = m' ((c.tc : Thread Cert.ReferenceLnIdeal.nD Cert.ReferenceLnIdeal.τ).loc Cert.ReferenceLnIdeal.main_arg2)
          ∧ r.2.mem ((c.tc : Thread Cert.ReferenceLnIdeal.nD Cert.ReferenceLnIdeal.τ).loc Cert.ReferenceLnIdeal.main_arg3) = m' ((c.tc : Thread Cert.ReferenceLnIdeal.nD Cert.ReferenceLnIdeal.τ).loc Cert.ReferenceLnIdeal.main_arg3))

def preserves_KernelAct_KernelActIdeal : Prop :=
  True

def algebraic_KernelActIdeal_ReferenceActIdeal [hKernelActIdeal : Cert.KernelActIdeal.Facts] [hReferenceActIdeal : Cert.ReferenceActIdeal.Facts] : Prop :=
  ∀ (m : (ℓ : Loc Cert.KernelActIdeal.nD Cert.KernelActIdeal.τ Cert.KernelActIdeal.sig) → Buf (Elt Ideal) ℓ) (g : Dev Cert.KernelActIdeal.nD → PrngReg)
    (m' : (ℓ : Loc Cert.ReferenceActIdeal.nD Cert.ReferenceActIdeal.τ Cert.ReferenceActIdeal.sig) → Buf (Elt Ideal) ℓ) (g' : Dev Cert.ReferenceActIdeal.nD → PrngReg), Pre_KernelActIdeal m →
    (∀ c : Dev Cert.KernelActIdeal.nD,
      m' ((c.tc : Thread Cert.ReferenceActIdeal.nD Cert.ReferenceActIdeal.τ).loc Cert.ReferenceActIdeal.main_arg0) = m ((c.tc : Thread Cert.KernelActIdeal.nD Cert.KernelActIdeal.τ).loc Cert.KernelActIdeal.main_arg0)) →
    ∃ (v0 : (c : Dev Cert.KernelActIdeal.nD) → Buf (Elt Ideal) ((c.tc : Thread Cert.KernelActIdeal.nD Cert.KernelActIdeal.τ).loc Cert.KernelActIdeal.main_v0)),
      θ_run (Cert.KernelActIdeal.defs (F := Ideal)) (onTc (τ := Cert.KernelActIdeal.τ) (Cert.KernelActIdeal.main (F := Ideal))) ⟨m, fun _ => 0, g⟩ (fun r => ∀ c : Dev Cert.KernelActIdeal.nD,
          r.2.mem ((c.tc : Thread Cert.KernelActIdeal.nD Cert.KernelActIdeal.τ).loc Cert.KernelActIdeal.main_v0) = v0 c
          ∧ r.2.mem ((c.tc : Thread Cert.KernelActIdeal.nD Cert.KernelActIdeal.τ).loc Cert.KernelActIdeal.main_arg0) = m ((c.tc : Thread Cert.KernelActIdeal.nD Cert.KernelActIdeal.τ).loc Cert.KernelActIdeal.main_arg0))
      ∧ θ_run (Cert.ReferenceActIdeal.defs (F := Ideal)) (onTc (τ := Cert.ReferenceActIdeal.τ) (Cert.ReferenceActIdeal.main (F := Ideal))) ⟨m', fun _ => 0, g'⟩ (fun r => ∀ c : Dev Cert.ReferenceActIdeal.nD,
          r.2.mem ((c.tc : Thread Cert.ReferenceActIdeal.nD Cert.ReferenceActIdeal.τ).loc Cert.ReferenceActIdeal.main_v6) = v0 c
          ∧ r.2.mem ((c.tc : Thread Cert.ReferenceActIdeal.nD Cert.ReferenceActIdeal.τ).loc Cert.ReferenceActIdeal.main_arg0) = m' ((c.tc : Thread Cert.ReferenceActIdeal.nD Cert.ReferenceActIdeal.τ).loc Cert.ReferenceActIdeal.main_arg0))

def preserves_KernelOptgu_KernelOptguIdeal : Prop :=
  True

def algebraic_KernelOptguIdeal_ReferenceOptguIdeal [hKernelOptguIdeal : Cert.KernelOptguIdeal.Facts] [hReferenceOptguIdeal : Cert.ReferenceOptguIdeal.Facts] : Prop :=
  ∀ (m : (ℓ : Loc Cert.KernelOptguIdeal.nD Cert.KernelOptguIdeal.τ Cert.KernelOptguIdeal.sig) → Buf (Elt Ideal) ℓ) (g : Dev Cert.KernelOptguIdeal.nD → PrngReg)
    (m' : (ℓ : Loc Cert.ReferenceOptguIdeal.nD Cert.ReferenceOptguIdeal.τ Cert.ReferenceOptguIdeal.sig) → Buf (Elt Ideal) ℓ) (g' : Dev Cert.ReferenceOptguIdeal.nD → PrngReg), Pre_KernelOptguIdeal m →
    (∀ c : Dev Cert.KernelOptguIdeal.nD,
      m' ((c.tc : Thread Cert.ReferenceOptguIdeal.nD Cert.ReferenceOptguIdeal.τ).loc Cert.ReferenceOptguIdeal.main_arg0) = m ((c.tc : Thread Cert.KernelOptguIdeal.nD Cert.KernelOptguIdeal.τ).loc Cert.KernelOptguIdeal.main_arg0)
      ∧ m' ((c.tc : Thread Cert.ReferenceOptguIdeal.nD Cert.ReferenceOptguIdeal.τ).loc Cert.ReferenceOptguIdeal.main_arg1) = m ((c.tc : Thread Cert.KernelOptguIdeal.nD Cert.KernelOptguIdeal.τ).loc Cert.KernelOptguIdeal.main_arg1)
      ∧ m' ((c.tc : Thread Cert.ReferenceOptguIdeal.nD Cert.ReferenceOptguIdeal.τ).loc Cert.ReferenceOptguIdeal.main_arg2) = m ((c.tc : Thread Cert.KernelOptguIdeal.nD Cert.KernelOptguIdeal.τ).loc Cert.KernelOptguIdeal.main_arg2)
      ∧ m' ((c.tc : Thread Cert.ReferenceOptguIdeal.nD Cert.ReferenceOptguIdeal.τ).loc Cert.ReferenceOptguIdeal.main_arg3) = m ((c.tc : Thread Cert.KernelOptguIdeal.nD Cert.KernelOptguIdeal.τ).loc Cert.KernelOptguIdeal.main_arg3)
      ∧ m' ((c.tc : Thread Cert.ReferenceOptguIdeal.nD Cert.ReferenceOptguIdeal.τ).loc Cert.ReferenceOptguIdeal.main_arg4) = m ((c.tc : Thread Cert.KernelOptguIdeal.nD Cert.KernelOptguIdeal.τ).loc Cert.KernelOptguIdeal.main_arg4)) →
    ∃ (v0 : (c : Dev Cert.KernelOptguIdeal.nD) → Buf (Elt Ideal) ((c.tc : Thread Cert.KernelOptguIdeal.nD Cert.KernelOptguIdeal.τ).loc Cert.KernelOptguIdeal.main_v0_0)) (v1 : (c : Dev Cert.KernelOptguIdeal.nD) → Buf (Elt Ideal) ((c.tc : Thread Cert.KernelOptguIdeal.nD Cert.KernelOptguIdeal.τ).loc Cert.KernelOptguIdeal.main_v0_1)) (v2 : (c : Dev Cert.KernelOptguIdeal.nD) → Buf (Elt Ideal) ((c.tc : Thread Cert.KernelOptguIdeal.nD Cert.KernelOptguIdeal.τ).loc Cert.KernelOptguIdeal.main_v0_2)) (v3 : (c : Dev Cert.KernelOptguIdeal.nD) → Buf (Elt Ideal) ((c.tc : Thread Cert.KernelOptguIdeal.nD Cert.KernelOptguIdeal.τ).loc Cert.KernelOptguIdeal.main_v0_3)),
      θ_run (Cert.KernelOptguIdeal.defs (F := Ideal)) (onTc (τ := Cert.KernelOptguIdeal.τ) (Cert.KernelOptguIdeal.main (F := Ideal))) ⟨m, fun _ => 0, g⟩ (fun r => ∀ c : Dev Cert.KernelOptguIdeal.nD,
          r.2.mem ((c.tc : Thread Cert.KernelOptguIdeal.nD Cert.KernelOptguIdeal.τ).loc Cert.KernelOptguIdeal.main_v0_0) = v0 c
          ∧ r.2.mem ((c.tc : Thread Cert.KernelOptguIdeal.nD Cert.KernelOptguIdeal.τ).loc Cert.KernelOptguIdeal.main_v0_1) = v1 c
          ∧ r.2.mem ((c.tc : Thread Cert.KernelOptguIdeal.nD Cert.KernelOptguIdeal.τ).loc Cert.KernelOptguIdeal.main_v0_2) = v2 c
          ∧ r.2.mem ((c.tc : Thread Cert.KernelOptguIdeal.nD Cert.KernelOptguIdeal.τ).loc Cert.KernelOptguIdeal.main_v0_3) = v3 c
          ∧ r.2.mem ((c.tc : Thread Cert.KernelOptguIdeal.nD Cert.KernelOptguIdeal.τ).loc Cert.KernelOptguIdeal.main_arg0) = m ((c.tc : Thread Cert.KernelOptguIdeal.nD Cert.KernelOptguIdeal.τ).loc Cert.KernelOptguIdeal.main_arg0)
          ∧ r.2.mem ((c.tc : Thread Cert.KernelOptguIdeal.nD Cert.KernelOptguIdeal.τ).loc Cert.KernelOptguIdeal.main_arg1) = m ((c.tc : Thread Cert.KernelOptguIdeal.nD Cert.KernelOptguIdeal.τ).loc Cert.KernelOptguIdeal.main_arg1)
          ∧ r.2.mem ((c.tc : Thread Cert.KernelOptguIdeal.nD Cert.KernelOptguIdeal.τ).loc Cert.KernelOptguIdeal.main_arg2) = m ((c.tc : Thread Cert.KernelOptguIdeal.nD Cert.KernelOptguIdeal.τ).loc Cert.KernelOptguIdeal.main_arg2)
          ∧ r.2.mem ((c.tc : Thread Cert.KernelOptguIdeal.nD Cert.KernelOptguIdeal.τ).loc Cert.KernelOptguIdeal.main_arg3) = m ((c.tc : Thread Cert.KernelOptguIdeal.nD Cert.KernelOptguIdeal.τ).loc Cert.KernelOptguIdeal.main_arg3)
          ∧ r.2.mem ((c.tc : Thread Cert.KernelOptguIdeal.nD Cert.KernelOptguIdeal.τ).loc Cert.KernelOptguIdeal.main_arg4) = m ((c.tc : Thread Cert.KernelOptguIdeal.nD Cert.KernelOptguIdeal.τ).loc Cert.KernelOptguIdeal.main_arg4))
      ∧ θ_run (Cert.ReferenceOptguIdeal.defs (F := Ideal)) (onTc (τ := Cert.ReferenceOptguIdeal.τ) (Cert.ReferenceOptguIdeal.main (F := Ideal))) ⟨m', fun _ => 0, g'⟩ (fun r => ∀ c : Dev Cert.ReferenceOptguIdeal.nD,
          r.2.mem ((c.tc : Thread Cert.ReferenceOptguIdeal.nD Cert.ReferenceOptguIdeal.τ).loc Cert.ReferenceOptguIdeal.main_v0) = v0 c
          ∧ r.2.mem ((c.tc : Thread Cert.ReferenceOptguIdeal.nD Cert.ReferenceOptguIdeal.τ).loc Cert.ReferenceOptguIdeal.main_v24) = v1 c
          ∧ r.2.mem ((c.tc : Thread Cert.ReferenceOptguIdeal.nD Cert.ReferenceOptguIdeal.τ).loc Cert.ReferenceOptguIdeal.main_v5) = v2 c
          ∧ r.2.mem ((c.tc : Thread Cert.ReferenceOptguIdeal.nD Cert.ReferenceOptguIdeal.τ).loc Cert.ReferenceOptguIdeal.main_v11) = v3 c
          ∧ r.2.mem ((c.tc : Thread Cert.ReferenceOptguIdeal.nD Cert.ReferenceOptguIdeal.τ).loc Cert.ReferenceOptguIdeal.main_arg0) = m' ((c.tc : Thread Cert.ReferenceOptguIdeal.nD Cert.ReferenceOptguIdeal.τ).loc Cert.ReferenceOptguIdeal.main_arg0)
          ∧ r.2.mem ((c.tc : Thread Cert.ReferenceOptguIdeal.nD Cert.ReferenceOptguIdeal.τ).loc Cert.ReferenceOptguIdeal.main_arg1) = m' ((c.tc : Thread Cert.ReferenceOptguIdeal.nD Cert.ReferenceOptguIdeal.τ).loc Cert.ReferenceOptguIdeal.main_arg1)
          ∧ r.2.mem ((c.tc : Thread Cert.ReferenceOptguIdeal.nD Cert.ReferenceOptguIdeal.τ).loc Cert.ReferenceOptguIdeal.main_arg2) = m' ((c.tc : Thread Cert.ReferenceOptguIdeal.nD Cert.ReferenceOptguIdeal.τ).loc Cert.ReferenceOptguIdeal.main_arg2)
          ∧ r.2.mem ((c.tc : Thread Cert.ReferenceOptguIdeal.nD Cert.ReferenceOptguIdeal.τ).loc Cert.ReferenceOptguIdeal.main_arg3) = m' ((c.tc : Thread Cert.ReferenceOptguIdeal.nD Cert.ReferenceOptguIdeal.τ).loc Cert.ReferenceOptguIdeal.main_arg3)
          ∧ r.2.mem ((c.tc : Thread Cert.ReferenceOptguIdeal.nD Cert.ReferenceOptguIdeal.τ).loc Cert.ReferenceOptguIdeal.main_arg4) = m' ((c.tc : Thread Cert.ReferenceOptguIdeal.nD Cert.ReferenceOptguIdeal.τ).loc Cert.ReferenceOptguIdeal.main_arg4))

def preserves_KernelOptdown_KernelOptdownIdeal : Prop :=
  True

def algebraic_KernelOptdownIdeal_ReferenceOptdownIdeal [hKernelOptdownIdeal : Cert.KernelOptdownIdeal.Facts] [hReferenceOptdownIdeal : Cert.ReferenceOptdownIdeal.Facts] : Prop :=
  ∀ (m : (ℓ : Loc Cert.KernelOptdownIdeal.nD Cert.KernelOptdownIdeal.τ Cert.KernelOptdownIdeal.sig) → Buf (Elt Ideal) ℓ) (g : Dev Cert.KernelOptdownIdeal.nD → PrngReg)
    (m' : (ℓ : Loc Cert.ReferenceOptdownIdeal.nD Cert.ReferenceOptdownIdeal.τ Cert.ReferenceOptdownIdeal.sig) → Buf (Elt Ideal) ℓ) (g' : Dev Cert.ReferenceOptdownIdeal.nD → PrngReg), Pre_KernelOptdownIdeal m →
    (∀ c : Dev Cert.KernelOptdownIdeal.nD,
      m' ((c.tc : Thread Cert.ReferenceOptdownIdeal.nD Cert.ReferenceOptdownIdeal.τ).loc Cert.ReferenceOptdownIdeal.main_arg0) = m ((c.tc : Thread Cert.KernelOptdownIdeal.nD Cert.KernelOptdownIdeal.τ).loc Cert.KernelOptdownIdeal.main_arg0)
      ∧ m' ((c.tc : Thread Cert.ReferenceOptdownIdeal.nD Cert.ReferenceOptdownIdeal.τ).loc Cert.ReferenceOptdownIdeal.main_arg1) = m ((c.tc : Thread Cert.KernelOptdownIdeal.nD Cert.KernelOptdownIdeal.τ).loc Cert.KernelOptdownIdeal.main_arg1)
      ∧ m' ((c.tc : Thread Cert.ReferenceOptdownIdeal.nD Cert.ReferenceOptdownIdeal.τ).loc Cert.ReferenceOptdownIdeal.main_arg2) = m ((c.tc : Thread Cert.KernelOptdownIdeal.nD Cert.KernelOptdownIdeal.τ).loc Cert.KernelOptdownIdeal.main_arg2)
      ∧ m' ((c.tc : Thread Cert.ReferenceOptdownIdeal.nD Cert.ReferenceOptdownIdeal.τ).loc Cert.ReferenceOptdownIdeal.main_arg3) = m ((c.tc : Thread Cert.KernelOptdownIdeal.nD Cert.KernelOptdownIdeal.τ).loc Cert.KernelOptdownIdeal.main_arg3)
      ∧ m' ((c.tc : Thread Cert.ReferenceOptdownIdeal.nD Cert.ReferenceOptdownIdeal.τ).loc Cert.ReferenceOptdownIdeal.main_arg4) = m ((c.tc : Thread Cert.KernelOptdownIdeal.nD Cert.KernelOptdownIdeal.τ).loc Cert.KernelOptdownIdeal.main_arg4)) →
    ∃ (v0 : (c : Dev Cert.KernelOptdownIdeal.nD) → Buf (Elt Ideal) ((c.tc : Thread Cert.KernelOptdownIdeal.nD Cert.KernelOptdownIdeal.τ).loc Cert.KernelOptdownIdeal.main_v0_0)) (v1 : (c : Dev Cert.KernelOptdownIdeal.nD) → Buf (Elt Ideal) ((c.tc : Thread Cert.KernelOptdownIdeal.nD Cert.KernelOptdownIdeal.τ).loc Cert.KernelOptdownIdeal.main_v0_1)) (v2 : (c : Dev Cert.KernelOptdownIdeal.nD) → Buf (Elt Ideal) ((c.tc : Thread Cert.KernelOptdownIdeal.nD Cert.KernelOptdownIdeal.τ).loc Cert.KernelOptdownIdeal.main_v0_2)) (v3 : (c : Dev Cert.KernelOptdownIdeal.nD) → Buf (Elt Ideal) ((c.tc : Thread Cert.KernelOptdownIdeal.nD Cert.KernelOptdownIdeal.τ).loc Cert.KernelOptdownIdeal.main_v0_3)),
      θ_run (Cert.KernelOptdownIdeal.defs (F := Ideal)) (onTc (τ := Cert.KernelOptdownIdeal.τ) (Cert.KernelOptdownIdeal.main (F := Ideal))) ⟨m, fun _ => 0, g⟩ (fun r => ∀ c : Dev Cert.KernelOptdownIdeal.nD,
          r.2.mem ((c.tc : Thread Cert.KernelOptdownIdeal.nD Cert.KernelOptdownIdeal.τ).loc Cert.KernelOptdownIdeal.main_v0_0) = v0 c
          ∧ r.2.mem ((c.tc : Thread Cert.KernelOptdownIdeal.nD Cert.KernelOptdownIdeal.τ).loc Cert.KernelOptdownIdeal.main_v0_1) = v1 c
          ∧ r.2.mem ((c.tc : Thread Cert.KernelOptdownIdeal.nD Cert.KernelOptdownIdeal.τ).loc Cert.KernelOptdownIdeal.main_v0_2) = v2 c
          ∧ r.2.mem ((c.tc : Thread Cert.KernelOptdownIdeal.nD Cert.KernelOptdownIdeal.τ).loc Cert.KernelOptdownIdeal.main_v0_3) = v3 c
          ∧ r.2.mem ((c.tc : Thread Cert.KernelOptdownIdeal.nD Cert.KernelOptdownIdeal.τ).loc Cert.KernelOptdownIdeal.main_arg0) = m ((c.tc : Thread Cert.KernelOptdownIdeal.nD Cert.KernelOptdownIdeal.τ).loc Cert.KernelOptdownIdeal.main_arg0)
          ∧ r.2.mem ((c.tc : Thread Cert.KernelOptdownIdeal.nD Cert.KernelOptdownIdeal.τ).loc Cert.KernelOptdownIdeal.main_arg1) = m ((c.tc : Thread Cert.KernelOptdownIdeal.nD Cert.KernelOptdownIdeal.τ).loc Cert.KernelOptdownIdeal.main_arg1)
          ∧ r.2.mem ((c.tc : Thread Cert.KernelOptdownIdeal.nD Cert.KernelOptdownIdeal.τ).loc Cert.KernelOptdownIdeal.main_arg2) = m ((c.tc : Thread Cert.KernelOptdownIdeal.nD Cert.KernelOptdownIdeal.τ).loc Cert.KernelOptdownIdeal.main_arg2)
          ∧ r.2.mem ((c.tc : Thread Cert.KernelOptdownIdeal.nD Cert.KernelOptdownIdeal.τ).loc Cert.KernelOptdownIdeal.main_arg3) = m ((c.tc : Thread Cert.KernelOptdownIdeal.nD Cert.KernelOptdownIdeal.τ).loc Cert.KernelOptdownIdeal.main_arg3)
          ∧ r.2.mem ((c.tc : Thread Cert.KernelOptdownIdeal.nD Cert.KernelOptdownIdeal.τ).loc Cert.KernelOptdownIdeal.main_arg4) = m ((c.tc : Thread Cert.KernelOptdownIdeal.nD Cert.KernelOptdownIdeal.τ).loc Cert.KernelOptdownIdeal.main_arg4))
      ∧ θ_run (Cert.ReferenceOptdownIdeal.defs (F := Ideal)) (onTc (τ := Cert.ReferenceOptdownIdeal.τ) (Cert.ReferenceOptdownIdeal.main (F := Ideal))) ⟨m', fun _ => 0, g'⟩ (fun r => ∀ c : Dev Cert.ReferenceOptdownIdeal.nD,
          r.2.mem ((c.tc : Thread Cert.ReferenceOptdownIdeal.nD Cert.ReferenceOptdownIdeal.τ).loc Cert.ReferenceOptdownIdeal.main_v0) = v0 c
          ∧ r.2.mem ((c.tc : Thread Cert.ReferenceOptdownIdeal.nD Cert.ReferenceOptdownIdeal.τ).loc Cert.ReferenceOptdownIdeal.main_v24) = v1 c
          ∧ r.2.mem ((c.tc : Thread Cert.ReferenceOptdownIdeal.nD Cert.ReferenceOptdownIdeal.τ).loc Cert.ReferenceOptdownIdeal.main_v5) = v2 c
          ∧ r.2.mem ((c.tc : Thread Cert.ReferenceOptdownIdeal.nD Cert.ReferenceOptdownIdeal.τ).loc Cert.ReferenceOptdownIdeal.main_v11) = v3 c
          ∧ r.2.mem ((c.tc : Thread Cert.ReferenceOptdownIdeal.nD Cert.ReferenceOptdownIdeal.τ).loc Cert.ReferenceOptdownIdeal.main_arg0) = m' ((c.tc : Thread Cert.ReferenceOptdownIdeal.nD Cert.ReferenceOptdownIdeal.τ).loc Cert.ReferenceOptdownIdeal.main_arg0)
          ∧ r.2.mem ((c.tc : Thread Cert.ReferenceOptdownIdeal.nD Cert.ReferenceOptdownIdeal.τ).loc Cert.ReferenceOptdownIdeal.main_arg1) = m' ((c.tc : Thread Cert.ReferenceOptdownIdeal.nD Cert.ReferenceOptdownIdeal.τ).loc Cert.ReferenceOptdownIdeal.main_arg1)
          ∧ r.2.mem ((c.tc : Thread Cert.ReferenceOptdownIdeal.nD Cert.ReferenceOptdownIdeal.τ).loc Cert.ReferenceOptdownIdeal.main_arg2) = m' ((c.tc : Thread Cert.ReferenceOptdownIdeal.nD Cert.ReferenceOptdownIdeal.τ).loc Cert.ReferenceOptdownIdeal.main_arg2)
          ∧ r.2.mem ((c.tc : Thread Cert.ReferenceOptdownIdeal.nD Cert.ReferenceOptdownIdeal.τ).loc Cert.ReferenceOptdownIdeal.main_arg3) = m' ((c.tc : Thread Cert.ReferenceOptdownIdeal.nD Cert.ReferenceOptdownIdeal.τ).loc Cert.ReferenceOptdownIdeal.main_arg3)
          ∧ r.2.mem ((c.tc : Thread Cert.ReferenceOptdownIdeal.nD Cert.ReferenceOptdownIdeal.τ).loc Cert.ReferenceOptdownIdeal.main_arg4) = m' ((c.tc : Thread Cert.ReferenceOptdownIdeal.nD Cert.ReferenceOptdownIdeal.τ).loc Cert.ReferenceOptdownIdeal.main_arg4))

def preserves_KernelOptin_KernelOptinIdeal : Prop :=
  True

def algebraic_KernelOptinIdeal_ReferenceOptinIdeal [hKernelOptinIdeal : Cert.KernelOptinIdeal.Facts] [hReferenceOptinIdeal : Cert.ReferenceOptinIdeal.Facts] : Prop :=
  ∀ (m : (ℓ : Loc Cert.KernelOptinIdeal.nD Cert.KernelOptinIdeal.τ Cert.KernelOptinIdeal.sig) → Buf (Elt Ideal) ℓ) (g : Dev Cert.KernelOptinIdeal.nD → PrngReg)
    (m' : (ℓ : Loc Cert.ReferenceOptinIdeal.nD Cert.ReferenceOptinIdeal.τ Cert.ReferenceOptinIdeal.sig) → Buf (Elt Ideal) ℓ) (g' : Dev Cert.ReferenceOptinIdeal.nD → PrngReg), Pre_KernelOptinIdeal m →
    (∀ c : Dev Cert.KernelOptinIdeal.nD,
      m' ((c.tc : Thread Cert.ReferenceOptinIdeal.nD Cert.ReferenceOptinIdeal.τ).loc Cert.ReferenceOptinIdeal.main_arg0) = m ((c.tc : Thread Cert.KernelOptinIdeal.nD Cert.KernelOptinIdeal.τ).loc Cert.KernelOptinIdeal.main_arg0)
      ∧ m' ((c.tc : Thread Cert.ReferenceOptinIdeal.nD Cert.ReferenceOptinIdeal.τ).loc Cert.ReferenceOptinIdeal.main_arg1) = m ((c.tc : Thread Cert.KernelOptinIdeal.nD Cert.KernelOptinIdeal.τ).loc Cert.KernelOptinIdeal.main_arg1)
      ∧ m' ((c.tc : Thread Cert.ReferenceOptinIdeal.nD Cert.ReferenceOptinIdeal.τ).loc Cert.ReferenceOptinIdeal.main_arg2) = m ((c.tc : Thread Cert.KernelOptinIdeal.nD Cert.KernelOptinIdeal.τ).loc Cert.KernelOptinIdeal.main_arg2)
      ∧ m' ((c.tc : Thread Cert.ReferenceOptinIdeal.nD Cert.ReferenceOptinIdeal.τ).loc Cert.ReferenceOptinIdeal.main_arg3) = m ((c.tc : Thread Cert.KernelOptinIdeal.nD Cert.KernelOptinIdeal.τ).loc Cert.KernelOptinIdeal.main_arg3)
      ∧ m' ((c.tc : Thread Cert.ReferenceOptinIdeal.nD Cert.ReferenceOptinIdeal.τ).loc Cert.ReferenceOptinIdeal.main_arg4) = m ((c.tc : Thread Cert.KernelOptinIdeal.nD Cert.KernelOptinIdeal.τ).loc Cert.KernelOptinIdeal.main_arg4)) →
    ∃ (v0 : (c : Dev Cert.KernelOptinIdeal.nD) → Buf (Elt Ideal) ((c.tc : Thread Cert.KernelOptinIdeal.nD Cert.KernelOptinIdeal.τ).loc Cert.KernelOptinIdeal.main_v0_0)) (v1 : (c : Dev Cert.KernelOptinIdeal.nD) → Buf (Elt Ideal) ((c.tc : Thread Cert.KernelOptinIdeal.nD Cert.KernelOptinIdeal.τ).loc Cert.KernelOptinIdeal.main_v0_1)) (v2 : (c : Dev Cert.KernelOptinIdeal.nD) → Buf (Elt Ideal) ((c.tc : Thread Cert.KernelOptinIdeal.nD Cert.KernelOptinIdeal.τ).loc Cert.KernelOptinIdeal.main_v0_2)) (v3 : (c : Dev Cert.KernelOptinIdeal.nD) → Buf (Elt Ideal) ((c.tc : Thread Cert.KernelOptinIdeal.nD Cert.KernelOptinIdeal.τ).loc Cert.KernelOptinIdeal.main_v0_3)),
      θ_run (Cert.KernelOptinIdeal.defs (F := Ideal)) (onTc (τ := Cert.KernelOptinIdeal.τ) (Cert.KernelOptinIdeal.main (F := Ideal))) ⟨m, fun _ => 0, g⟩ (fun r => ∀ c : Dev Cert.KernelOptinIdeal.nD,
          r.2.mem ((c.tc : Thread Cert.KernelOptinIdeal.nD Cert.KernelOptinIdeal.τ).loc Cert.KernelOptinIdeal.main_v0_0) = v0 c
          ∧ r.2.mem ((c.tc : Thread Cert.KernelOptinIdeal.nD Cert.KernelOptinIdeal.τ).loc Cert.KernelOptinIdeal.main_v0_1) = v1 c
          ∧ r.2.mem ((c.tc : Thread Cert.KernelOptinIdeal.nD Cert.KernelOptinIdeal.τ).loc Cert.KernelOptinIdeal.main_v0_2) = v2 c
          ∧ r.2.mem ((c.tc : Thread Cert.KernelOptinIdeal.nD Cert.KernelOptinIdeal.τ).loc Cert.KernelOptinIdeal.main_v0_3) = v3 c
          ∧ r.2.mem ((c.tc : Thread Cert.KernelOptinIdeal.nD Cert.KernelOptinIdeal.τ).loc Cert.KernelOptinIdeal.main_arg0) = m ((c.tc : Thread Cert.KernelOptinIdeal.nD Cert.KernelOptinIdeal.τ).loc Cert.KernelOptinIdeal.main_arg0)
          ∧ r.2.mem ((c.tc : Thread Cert.KernelOptinIdeal.nD Cert.KernelOptinIdeal.τ).loc Cert.KernelOptinIdeal.main_arg1) = m ((c.tc : Thread Cert.KernelOptinIdeal.nD Cert.KernelOptinIdeal.τ).loc Cert.KernelOptinIdeal.main_arg1)
          ∧ r.2.mem ((c.tc : Thread Cert.KernelOptinIdeal.nD Cert.KernelOptinIdeal.τ).loc Cert.KernelOptinIdeal.main_arg2) = m ((c.tc : Thread Cert.KernelOptinIdeal.nD Cert.KernelOptinIdeal.τ).loc Cert.KernelOptinIdeal.main_arg2)
          ∧ r.2.mem ((c.tc : Thread Cert.KernelOptinIdeal.nD Cert.KernelOptinIdeal.τ).loc Cert.KernelOptinIdeal.main_arg3) = m ((c.tc : Thread Cert.KernelOptinIdeal.nD Cert.KernelOptinIdeal.τ).loc Cert.KernelOptinIdeal.main_arg3)
          ∧ r.2.mem ((c.tc : Thread Cert.KernelOptinIdeal.nD Cert.KernelOptinIdeal.τ).loc Cert.KernelOptinIdeal.main_arg4) = m ((c.tc : Thread Cert.KernelOptinIdeal.nD Cert.KernelOptinIdeal.τ).loc Cert.KernelOptinIdeal.main_arg4))
      ∧ θ_run (Cert.ReferenceOptinIdeal.defs (F := Ideal)) (onTc (τ := Cert.ReferenceOptinIdeal.τ) (Cert.ReferenceOptinIdeal.main (F := Ideal))) ⟨m', fun _ => 0, g'⟩ (fun r => ∀ c : Dev Cert.ReferenceOptinIdeal.nD,
          r.2.mem ((c.tc : Thread Cert.ReferenceOptinIdeal.nD Cert.ReferenceOptinIdeal.τ).loc Cert.ReferenceOptinIdeal.main_v0) = v0 c
          ∧ r.2.mem ((c.tc : Thread Cert.ReferenceOptinIdeal.nD Cert.ReferenceOptinIdeal.τ).loc Cert.ReferenceOptinIdeal.main_v24) = v1 c
          ∧ r.2.mem ((c.tc : Thread Cert.ReferenceOptinIdeal.nD Cert.ReferenceOptinIdeal.τ).loc Cert.ReferenceOptinIdeal.main_v5) = v2 c
          ∧ r.2.mem ((c.tc : Thread Cert.ReferenceOptinIdeal.nD Cert.ReferenceOptinIdeal.τ).loc Cert.ReferenceOptinIdeal.main_v11) = v3 c
          ∧ r.2.mem ((c.tc : Thread Cert.ReferenceOptinIdeal.nD Cert.ReferenceOptinIdeal.τ).loc Cert.ReferenceOptinIdeal.main_arg0) = m' ((c.tc : Thread Cert.ReferenceOptinIdeal.nD Cert.ReferenceOptinIdeal.τ).loc Cert.ReferenceOptinIdeal.main_arg0)
          ∧ r.2.mem ((c.tc : Thread Cert.ReferenceOptinIdeal.nD Cert.ReferenceOptinIdeal.τ).loc Cert.ReferenceOptinIdeal.main_arg1) = m' ((c.tc : Thread Cert.ReferenceOptinIdeal.nD Cert.ReferenceOptinIdeal.τ).loc Cert.ReferenceOptinIdeal.main_arg1)
          ∧ r.2.mem ((c.tc : Thread Cert.ReferenceOptinIdeal.nD Cert.ReferenceOptinIdeal.τ).loc Cert.ReferenceOptinIdeal.main_arg2) = m' ((c.tc : Thread Cert.ReferenceOptinIdeal.nD Cert.ReferenceOptinIdeal.τ).loc Cert.ReferenceOptinIdeal.main_arg2)
          ∧ r.2.mem ((c.tc : Thread Cert.ReferenceOptinIdeal.nD Cert.ReferenceOptinIdeal.τ).loc Cert.ReferenceOptinIdeal.main_arg3) = m' ((c.tc : Thread Cert.ReferenceOptinIdeal.nD Cert.ReferenceOptinIdeal.τ).loc Cert.ReferenceOptinIdeal.main_arg3)
          ∧ r.2.mem ((c.tc : Thread Cert.ReferenceOptinIdeal.nD Cert.ReferenceOptinIdeal.τ).loc Cert.ReferenceOptinIdeal.main_arg4) = m' ((c.tc : Thread Cert.ReferenceOptinIdeal.nD Cert.ReferenceOptinIdeal.τ).loc Cert.ReferenceOptinIdeal.main_arg4))

def preserves_KernelOptout_KernelOptoutIdeal : Prop :=
  True

def algebraic_KernelOptoutIdeal_ReferenceOptoutIdeal [hKernelOptoutIdeal : Cert.KernelOptoutIdeal.Facts] [hReferenceOptoutIdeal : Cert.ReferenceOptoutIdeal.Facts] : Prop :=
  ∀ (m : (ℓ : Loc Cert.KernelOptoutIdeal.nD Cert.KernelOptoutIdeal.τ Cert.KernelOptoutIdeal.sig) → Buf (Elt Ideal) ℓ) (g : Dev Cert.KernelOptoutIdeal.nD → PrngReg)
    (m' : (ℓ : Loc Cert.ReferenceOptoutIdeal.nD Cert.ReferenceOptoutIdeal.τ Cert.ReferenceOptoutIdeal.sig) → Buf (Elt Ideal) ℓ) (g' : Dev Cert.ReferenceOptoutIdeal.nD → PrngReg), Pre_KernelOptoutIdeal m →
    (∀ c : Dev Cert.KernelOptoutIdeal.nD,
      m' ((c.tc : Thread Cert.ReferenceOptoutIdeal.nD Cert.ReferenceOptoutIdeal.τ).loc Cert.ReferenceOptoutIdeal.main_arg0) = m ((c.tc : Thread Cert.KernelOptoutIdeal.nD Cert.KernelOptoutIdeal.τ).loc Cert.KernelOptoutIdeal.main_arg0)
      ∧ m' ((c.tc : Thread Cert.ReferenceOptoutIdeal.nD Cert.ReferenceOptoutIdeal.τ).loc Cert.ReferenceOptoutIdeal.main_arg1) = m ((c.tc : Thread Cert.KernelOptoutIdeal.nD Cert.KernelOptoutIdeal.τ).loc Cert.KernelOptoutIdeal.main_arg1)
      ∧ m' ((c.tc : Thread Cert.ReferenceOptoutIdeal.nD Cert.ReferenceOptoutIdeal.τ).loc Cert.ReferenceOptoutIdeal.main_arg2) = m ((c.tc : Thread Cert.KernelOptoutIdeal.nD Cert.KernelOptoutIdeal.τ).loc Cert.KernelOptoutIdeal.main_arg2)
      ∧ m' ((c.tc : Thread Cert.ReferenceOptoutIdeal.nD Cert.ReferenceOptoutIdeal.τ).loc Cert.ReferenceOptoutIdeal.main_arg3) = m ((c.tc : Thread Cert.KernelOptoutIdeal.nD Cert.KernelOptoutIdeal.τ).loc Cert.KernelOptoutIdeal.main_arg3)
      ∧ m' ((c.tc : Thread Cert.ReferenceOptoutIdeal.nD Cert.ReferenceOptoutIdeal.τ).loc Cert.ReferenceOptoutIdeal.main_arg4) = m ((c.tc : Thread Cert.KernelOptoutIdeal.nD Cert.KernelOptoutIdeal.τ).loc Cert.KernelOptoutIdeal.main_arg4)) →
    ∃ (v0 : (c : Dev Cert.KernelOptoutIdeal.nD) → Buf (Elt Ideal) ((c.tc : Thread Cert.KernelOptoutIdeal.nD Cert.KernelOptoutIdeal.τ).loc Cert.KernelOptoutIdeal.main_v0_0)) (v1 : (c : Dev Cert.KernelOptoutIdeal.nD) → Buf (Elt Ideal) ((c.tc : Thread Cert.KernelOptoutIdeal.nD Cert.KernelOptoutIdeal.τ).loc Cert.KernelOptoutIdeal.main_v0_1)) (v2 : (c : Dev Cert.KernelOptoutIdeal.nD) → Buf (Elt Ideal) ((c.tc : Thread Cert.KernelOptoutIdeal.nD Cert.KernelOptoutIdeal.τ).loc Cert.KernelOptoutIdeal.main_v0_2)) (v3 : (c : Dev Cert.KernelOptoutIdeal.nD) → Buf (Elt Ideal) ((c.tc : Thread Cert.KernelOptoutIdeal.nD Cert.KernelOptoutIdeal.τ).loc Cert.KernelOptoutIdeal.main_v0_3)),
      θ_run (Cert.KernelOptoutIdeal.defs (F := Ideal)) (onTc (τ := Cert.KernelOptoutIdeal.τ) (Cert.KernelOptoutIdeal.main (F := Ideal))) ⟨m, fun _ => 0, g⟩ (fun r => ∀ c : Dev Cert.KernelOptoutIdeal.nD,
          r.2.mem ((c.tc : Thread Cert.KernelOptoutIdeal.nD Cert.KernelOptoutIdeal.τ).loc Cert.KernelOptoutIdeal.main_v0_0) = v0 c
          ∧ r.2.mem ((c.tc : Thread Cert.KernelOptoutIdeal.nD Cert.KernelOptoutIdeal.τ).loc Cert.KernelOptoutIdeal.main_v0_1) = v1 c
          ∧ r.2.mem ((c.tc : Thread Cert.KernelOptoutIdeal.nD Cert.KernelOptoutIdeal.τ).loc Cert.KernelOptoutIdeal.main_v0_2) = v2 c
          ∧ r.2.mem ((c.tc : Thread Cert.KernelOptoutIdeal.nD Cert.KernelOptoutIdeal.τ).loc Cert.KernelOptoutIdeal.main_v0_3) = v3 c
          ∧ r.2.mem ((c.tc : Thread Cert.KernelOptoutIdeal.nD Cert.KernelOptoutIdeal.τ).loc Cert.KernelOptoutIdeal.main_arg0) = m ((c.tc : Thread Cert.KernelOptoutIdeal.nD Cert.KernelOptoutIdeal.τ).loc Cert.KernelOptoutIdeal.main_arg0)
          ∧ r.2.mem ((c.tc : Thread Cert.KernelOptoutIdeal.nD Cert.KernelOptoutIdeal.τ).loc Cert.KernelOptoutIdeal.main_arg1) = m ((c.tc : Thread Cert.KernelOptoutIdeal.nD Cert.KernelOptoutIdeal.τ).loc Cert.KernelOptoutIdeal.main_arg1)
          ∧ r.2.mem ((c.tc : Thread Cert.KernelOptoutIdeal.nD Cert.KernelOptoutIdeal.τ).loc Cert.KernelOptoutIdeal.main_arg2) = m ((c.tc : Thread Cert.KernelOptoutIdeal.nD Cert.KernelOptoutIdeal.τ).loc Cert.KernelOptoutIdeal.main_arg2)
          ∧ r.2.mem ((c.tc : Thread Cert.KernelOptoutIdeal.nD Cert.KernelOptoutIdeal.τ).loc Cert.KernelOptoutIdeal.main_arg3) = m ((c.tc : Thread Cert.KernelOptoutIdeal.nD Cert.KernelOptoutIdeal.τ).loc Cert.KernelOptoutIdeal.main_arg3)
          ∧ r.2.mem ((c.tc : Thread Cert.KernelOptoutIdeal.nD Cert.KernelOptoutIdeal.τ).loc Cert.KernelOptoutIdeal.main_arg4) = m ((c.tc : Thread Cert.KernelOptoutIdeal.nD Cert.KernelOptoutIdeal.τ).loc Cert.KernelOptoutIdeal.main_arg4))
      ∧ θ_run (Cert.ReferenceOptoutIdeal.defs (F := Ideal)) (onTc (τ := Cert.ReferenceOptoutIdeal.τ) (Cert.ReferenceOptoutIdeal.main (F := Ideal))) ⟨m', fun _ => 0, g'⟩ (fun r => ∀ c : Dev Cert.ReferenceOptoutIdeal.nD,
          r.2.mem ((c.tc : Thread Cert.ReferenceOptoutIdeal.nD Cert.ReferenceOptoutIdeal.τ).loc Cert.ReferenceOptoutIdeal.main_v0) = v0 c
          ∧ r.2.mem ((c.tc : Thread Cert.ReferenceOptoutIdeal.nD Cert.ReferenceOptoutIdeal.τ).loc Cert.ReferenceOptoutIdeal.main_v24) = v1 c
          ∧ r.2.mem ((c.tc : Thread Cert.ReferenceOptoutIdeal.nD Cert.ReferenceOptoutIdeal.τ).loc Cert.ReferenceOptoutIdeal.main_v5) = v2 c
          ∧ r.2.mem ((c.tc : Thread Cert.ReferenceOptoutIdeal.nD Cert.ReferenceOptoutIdeal.τ).loc Cert.ReferenceOptoutIdeal.main_v11) = v3 c
          ∧ r.2.mem ((c.tc : Thread Cert.ReferenceOptoutIdeal.nD Cert.ReferenceOptoutIdeal.τ).loc Cert.ReferenceOptoutIdeal.main_arg0) = m' ((c.tc : Thread Cert.ReferenceOptoutIdeal.nD Cert.ReferenceOptoutIdeal.τ).loc Cert.ReferenceOptoutIdeal.main_arg0)
          ∧ r.2.mem ((c.tc : Thread Cert.ReferenceOptoutIdeal.nD Cert.ReferenceOptoutIdeal.τ).loc Cert.ReferenceOptoutIdeal.main_arg1) = m' ((c.tc : Thread Cert.ReferenceOptoutIdeal.nD Cert.ReferenceOptoutIdeal.τ).loc Cert.ReferenceOptoutIdeal.main_arg1)
          ∧ r.2.mem ((c.tc : Thread Cert.ReferenceOptoutIdeal.nD Cert.ReferenceOptoutIdeal.τ).loc Cert.ReferenceOptoutIdeal.main_arg2) = m' ((c.tc : Thread Cert.ReferenceOptoutIdeal.nD Cert.ReferenceOptoutIdeal.τ).loc Cert.ReferenceOptoutIdeal.main_arg2)
          ∧ r.2.mem ((c.tc : Thread Cert.ReferenceOptoutIdeal.nD Cert.ReferenceOptoutIdeal.τ).loc Cert.ReferenceOptoutIdeal.main_arg3) = m' ((c.tc : Thread Cert.ReferenceOptoutIdeal.nD Cert.ReferenceOptoutIdeal.τ).loc Cert.ReferenceOptoutIdeal.main_arg3)
          ∧ r.2.mem ((c.tc : Thread Cert.ReferenceOptoutIdeal.nD Cert.ReferenceOptoutIdeal.τ).loc Cert.ReferenceOptoutIdeal.main_arg4) = m' ((c.tc : Thread Cert.ReferenceOptoutIdeal.nD Cert.ReferenceOptoutIdeal.τ).loc Cert.ReferenceOptoutIdeal.main_arg4))

def preserves_KernelOptlin_KernelOptlinIdeal : Prop :=
  True

def algebraic_KernelOptlinIdeal_ReferenceOptlinIdeal [hKernelOptlinIdeal : Cert.KernelOptlinIdeal.Facts] [hReferenceOptlinIdeal : Cert.ReferenceOptlinIdeal.Facts] : Prop :=
  ∀ (m : (ℓ : Loc Cert.KernelOptlinIdeal.nD Cert.KernelOptlinIdeal.τ Cert.KernelOptlinIdeal.sig) → Buf (Elt Ideal) ℓ) (g : Dev Cert.KernelOptlinIdeal.nD → PrngReg)
    (m' : (ℓ : Loc Cert.ReferenceOptlinIdeal.nD Cert.ReferenceOptlinIdeal.τ Cert.ReferenceOptlinIdeal.sig) → Buf (Elt Ideal) ℓ) (g' : Dev Cert.ReferenceOptlinIdeal.nD → PrngReg), Pre_KernelOptlinIdeal m →
    (∀ c : Dev Cert.KernelOptlinIdeal.nD,
      m' ((c.tc : Thread Cert.ReferenceOptlinIdeal.nD Cert.ReferenceOptlinIdeal.τ).loc Cert.ReferenceOptlinIdeal.main_arg0) = m ((c.tc : Thread Cert.KernelOptlinIdeal.nD Cert.KernelOptlinIdeal.τ).loc Cert.KernelOptlinIdeal.main_arg0)
      ∧ m' ((c.tc : Thread Cert.ReferenceOptlinIdeal.nD Cert.ReferenceOptlinIdeal.τ).loc Cert.ReferenceOptlinIdeal.main_arg1) = m ((c.tc : Thread Cert.KernelOptlinIdeal.nD Cert.KernelOptlinIdeal.τ).loc Cert.KernelOptlinIdeal.main_arg1)
      ∧ m' ((c.tc : Thread Cert.ReferenceOptlinIdeal.nD Cert.ReferenceOptlinIdeal.τ).loc Cert.ReferenceOptlinIdeal.main_arg2) = m ((c.tc : Thread Cert.KernelOptlinIdeal.nD Cert.KernelOptlinIdeal.τ).loc Cert.KernelOptlinIdeal.main_arg2)
      ∧ m' ((c.tc : Thread Cert.ReferenceOptlinIdeal.nD Cert.ReferenceOptlinIdeal.τ).loc Cert.ReferenceOptlinIdeal.main_arg3) = m ((c.tc : Thread Cert.KernelOptlinIdeal.nD Cert.KernelOptlinIdeal.τ).loc Cert.KernelOptlinIdeal.main_arg3)
      ∧ m' ((c.tc : Thread Cert.ReferenceOptlinIdeal.nD Cert.ReferenceOptlinIdeal.τ).loc Cert.ReferenceOptlinIdeal.main_arg4) = m ((c.tc : Thread Cert.KernelOptlinIdeal.nD Cert.KernelOptlinIdeal.τ).loc Cert.KernelOptlinIdeal.main_arg4)) →
    ∃ (v0 : (c : Dev Cert.KernelOptlinIdeal.nD) → Buf (Elt Ideal) ((c.tc : Thread Cert.KernelOptlinIdeal.nD Cert.KernelOptlinIdeal.τ).loc Cert.KernelOptlinIdeal.main_v0_0)) (v1 : (c : Dev Cert.KernelOptlinIdeal.nD) → Buf (Elt Ideal) ((c.tc : Thread Cert.KernelOptlinIdeal.nD Cert.KernelOptlinIdeal.τ).loc Cert.KernelOptlinIdeal.main_v0_1)) (v2 : (c : Dev Cert.KernelOptlinIdeal.nD) → Buf (Elt Ideal) ((c.tc : Thread Cert.KernelOptlinIdeal.nD Cert.KernelOptlinIdeal.τ).loc Cert.KernelOptlinIdeal.main_v0_2)) (v3 : (c : Dev Cert.KernelOptlinIdeal.nD) → Buf (Elt Ideal) ((c.tc : Thread Cert.KernelOptlinIdeal.nD Cert.KernelOptlinIdeal.τ).loc Cert.KernelOptlinIdeal.main_v0_3)),
      θ_run (Cert.KernelOptlinIdeal.defs (F := Ideal)) (onTc (τ := Cert.KernelOptlinIdeal.τ) (Cert.KernelOptlinIdeal.main (F := Ideal))) ⟨m, fun _ => 0, g⟩ (fun r => ∀ c : Dev Cert.KernelOptlinIdeal.nD,
          r.2.mem ((c.tc : Thread Cert.KernelOptlinIdeal.nD Cert.KernelOptlinIdeal.τ).loc Cert.KernelOptlinIdeal.main_v0_0) = v0 c
          ∧ r.2.mem ((c.tc : Thread Cert.KernelOptlinIdeal.nD Cert.KernelOptlinIdeal.τ).loc Cert.KernelOptlinIdeal.main_v0_1) = v1 c
          ∧ r.2.mem ((c.tc : Thread Cert.KernelOptlinIdeal.nD Cert.KernelOptlinIdeal.τ).loc Cert.KernelOptlinIdeal.main_v0_2) = v2 c
          ∧ r.2.mem ((c.tc : Thread Cert.KernelOptlinIdeal.nD Cert.KernelOptlinIdeal.τ).loc Cert.KernelOptlinIdeal.main_v0_3) = v3 c
          ∧ r.2.mem ((c.tc : Thread Cert.KernelOptlinIdeal.nD Cert.KernelOptlinIdeal.τ).loc Cert.KernelOptlinIdeal.main_arg0) = m ((c.tc : Thread Cert.KernelOptlinIdeal.nD Cert.KernelOptlinIdeal.τ).loc Cert.KernelOptlinIdeal.main_arg0)
          ∧ r.2.mem ((c.tc : Thread Cert.KernelOptlinIdeal.nD Cert.KernelOptlinIdeal.τ).loc Cert.KernelOptlinIdeal.main_arg1) = m ((c.tc : Thread Cert.KernelOptlinIdeal.nD Cert.KernelOptlinIdeal.τ).loc Cert.KernelOptlinIdeal.main_arg1)
          ∧ r.2.mem ((c.tc : Thread Cert.KernelOptlinIdeal.nD Cert.KernelOptlinIdeal.τ).loc Cert.KernelOptlinIdeal.main_arg2) = m ((c.tc : Thread Cert.KernelOptlinIdeal.nD Cert.KernelOptlinIdeal.τ).loc Cert.KernelOptlinIdeal.main_arg2)
          ∧ r.2.mem ((c.tc : Thread Cert.KernelOptlinIdeal.nD Cert.KernelOptlinIdeal.τ).loc Cert.KernelOptlinIdeal.main_arg3) = m ((c.tc : Thread Cert.KernelOptlinIdeal.nD Cert.KernelOptlinIdeal.τ).loc Cert.KernelOptlinIdeal.main_arg3)
          ∧ r.2.mem ((c.tc : Thread Cert.KernelOptlinIdeal.nD Cert.KernelOptlinIdeal.τ).loc Cert.KernelOptlinIdeal.main_arg4) = m ((c.tc : Thread Cert.KernelOptlinIdeal.nD Cert.KernelOptlinIdeal.τ).loc Cert.KernelOptlinIdeal.main_arg4))
      ∧ θ_run (Cert.ReferenceOptlinIdeal.defs (F := Ideal)) (onTc (τ := Cert.ReferenceOptlinIdeal.τ) (Cert.ReferenceOptlinIdeal.main (F := Ideal))) ⟨m', fun _ => 0, g'⟩ (fun r => ∀ c : Dev Cert.ReferenceOptlinIdeal.nD,
          r.2.mem ((c.tc : Thread Cert.ReferenceOptlinIdeal.nD Cert.ReferenceOptlinIdeal.τ).loc Cert.ReferenceOptlinIdeal.main_v0) = v0 c
          ∧ r.2.mem ((c.tc : Thread Cert.ReferenceOptlinIdeal.nD Cert.ReferenceOptlinIdeal.τ).loc Cert.ReferenceOptlinIdeal.main_v24) = v1 c
          ∧ r.2.mem ((c.tc : Thread Cert.ReferenceOptlinIdeal.nD Cert.ReferenceOptlinIdeal.τ).loc Cert.ReferenceOptlinIdeal.main_v5) = v2 c
          ∧ r.2.mem ((c.tc : Thread Cert.ReferenceOptlinIdeal.nD Cert.ReferenceOptlinIdeal.τ).loc Cert.ReferenceOptlinIdeal.main_v11) = v3 c
          ∧ r.2.mem ((c.tc : Thread Cert.ReferenceOptlinIdeal.nD Cert.ReferenceOptlinIdeal.τ).loc Cert.ReferenceOptlinIdeal.main_arg0) = m' ((c.tc : Thread Cert.ReferenceOptlinIdeal.nD Cert.ReferenceOptlinIdeal.τ).loc Cert.ReferenceOptlinIdeal.main_arg0)
          ∧ r.2.mem ((c.tc : Thread Cert.ReferenceOptlinIdeal.nD Cert.ReferenceOptlinIdeal.τ).loc Cert.ReferenceOptlinIdeal.main_arg1) = m' ((c.tc : Thread Cert.ReferenceOptlinIdeal.nD Cert.ReferenceOptlinIdeal.τ).loc Cert.ReferenceOptlinIdeal.main_arg1)
          ∧ r.2.mem ((c.tc : Thread Cert.ReferenceOptlinIdeal.nD Cert.ReferenceOptlinIdeal.τ).loc Cert.ReferenceOptlinIdeal.main_arg2) = m' ((c.tc : Thread Cert.ReferenceOptlinIdeal.nD Cert.ReferenceOptlinIdeal.τ).loc Cert.ReferenceOptlinIdeal.main_arg2)
          ∧ r.2.mem ((c.tc : Thread Cert.ReferenceOptlinIdeal.nD Cert.ReferenceOptlinIdeal.τ).loc Cert.ReferenceOptlinIdeal.main_arg3) = m' ((c.tc : Thread Cert.ReferenceOptlinIdeal.nD Cert.ReferenceOptlinIdeal.τ).loc Cert.ReferenceOptlinIdeal.main_arg3)
          ∧ r.2.mem ((c.tc : Thread Cert.ReferenceOptlinIdeal.nD Cert.ReferenceOptlinIdeal.τ).loc Cert.ReferenceOptlinIdeal.main_arg4) = m' ((c.tc : Thread Cert.ReferenceOptlinIdeal.nD Cert.ReferenceOptlinIdeal.τ).loc Cert.ReferenceOptlinIdeal.main_arg4))

def preserves_KernelOptlout_KernelOptloutIdeal : Prop :=
  True

def algebraic_KernelOptloutIdeal_ReferenceOptloutIdeal [hKernelOptloutIdeal : Cert.KernelOptloutIdeal.Facts] [hReferenceOptloutIdeal : Cert.ReferenceOptloutIdeal.Facts] : Prop :=
  ∀ (m : (ℓ : Loc Cert.KernelOptloutIdeal.nD Cert.KernelOptloutIdeal.τ Cert.KernelOptloutIdeal.sig) → Buf (Elt Ideal) ℓ) (g : Dev Cert.KernelOptloutIdeal.nD → PrngReg)
    (m' : (ℓ : Loc Cert.ReferenceOptloutIdeal.nD Cert.ReferenceOptloutIdeal.τ Cert.ReferenceOptloutIdeal.sig) → Buf (Elt Ideal) ℓ) (g' : Dev Cert.ReferenceOptloutIdeal.nD → PrngReg), Pre_KernelOptloutIdeal m →
    (∀ c : Dev Cert.KernelOptloutIdeal.nD,
      m' ((c.tc : Thread Cert.ReferenceOptloutIdeal.nD Cert.ReferenceOptloutIdeal.τ).loc Cert.ReferenceOptloutIdeal.main_arg0) = m ((c.tc : Thread Cert.KernelOptloutIdeal.nD Cert.KernelOptloutIdeal.τ).loc Cert.KernelOptloutIdeal.main_arg0)
      ∧ m' ((c.tc : Thread Cert.ReferenceOptloutIdeal.nD Cert.ReferenceOptloutIdeal.τ).loc Cert.ReferenceOptloutIdeal.main_arg1) = m ((c.tc : Thread Cert.KernelOptloutIdeal.nD Cert.KernelOptloutIdeal.τ).loc Cert.KernelOptloutIdeal.main_arg1)
      ∧ m' ((c.tc : Thread Cert.ReferenceOptloutIdeal.nD Cert.ReferenceOptloutIdeal.τ).loc Cert.ReferenceOptloutIdeal.main_arg2) = m ((c.tc : Thread Cert.KernelOptloutIdeal.nD Cert.KernelOptloutIdeal.τ).loc Cert.KernelOptloutIdeal.main_arg2)
      ∧ m' ((c.tc : Thread Cert.ReferenceOptloutIdeal.nD Cert.ReferenceOptloutIdeal.τ).loc Cert.ReferenceOptloutIdeal.main_arg3) = m ((c.tc : Thread Cert.KernelOptloutIdeal.nD Cert.KernelOptloutIdeal.τ).loc Cert.KernelOptloutIdeal.main_arg3)
      ∧ m' ((c.tc : Thread Cert.ReferenceOptloutIdeal.nD Cert.ReferenceOptloutIdeal.τ).loc Cert.ReferenceOptloutIdeal.main_arg4) = m ((c.tc : Thread Cert.KernelOptloutIdeal.nD Cert.KernelOptloutIdeal.τ).loc Cert.KernelOptloutIdeal.main_arg4)) →
    ∃ (v0 : (c : Dev Cert.KernelOptloutIdeal.nD) → Buf (Elt Ideal) ((c.tc : Thread Cert.KernelOptloutIdeal.nD Cert.KernelOptloutIdeal.τ).loc Cert.KernelOptloutIdeal.main_v0_0)) (v1 : (c : Dev Cert.KernelOptloutIdeal.nD) → Buf (Elt Ideal) ((c.tc : Thread Cert.KernelOptloutIdeal.nD Cert.KernelOptloutIdeal.τ).loc Cert.KernelOptloutIdeal.main_v0_1)) (v2 : (c : Dev Cert.KernelOptloutIdeal.nD) → Buf (Elt Ideal) ((c.tc : Thread Cert.KernelOptloutIdeal.nD Cert.KernelOptloutIdeal.τ).loc Cert.KernelOptloutIdeal.main_v0_2)) (v3 : (c : Dev Cert.KernelOptloutIdeal.nD) → Buf (Elt Ideal) ((c.tc : Thread Cert.KernelOptloutIdeal.nD Cert.KernelOptloutIdeal.τ).loc Cert.KernelOptloutIdeal.main_v0_3)),
      θ_run (Cert.KernelOptloutIdeal.defs (F := Ideal)) (onTc (τ := Cert.KernelOptloutIdeal.τ) (Cert.KernelOptloutIdeal.main (F := Ideal))) ⟨m, fun _ => 0, g⟩ (fun r => ∀ c : Dev Cert.KernelOptloutIdeal.nD,
          r.2.mem ((c.tc : Thread Cert.KernelOptloutIdeal.nD Cert.KernelOptloutIdeal.τ).loc Cert.KernelOptloutIdeal.main_v0_0) = v0 c
          ∧ r.2.mem ((c.tc : Thread Cert.KernelOptloutIdeal.nD Cert.KernelOptloutIdeal.τ).loc Cert.KernelOptloutIdeal.main_v0_1) = v1 c
          ∧ r.2.mem ((c.tc : Thread Cert.KernelOptloutIdeal.nD Cert.KernelOptloutIdeal.τ).loc Cert.KernelOptloutIdeal.main_v0_2) = v2 c
          ∧ r.2.mem ((c.tc : Thread Cert.KernelOptloutIdeal.nD Cert.KernelOptloutIdeal.τ).loc Cert.KernelOptloutIdeal.main_v0_3) = v3 c
          ∧ r.2.mem ((c.tc : Thread Cert.KernelOptloutIdeal.nD Cert.KernelOptloutIdeal.τ).loc Cert.KernelOptloutIdeal.main_arg0) = m ((c.tc : Thread Cert.KernelOptloutIdeal.nD Cert.KernelOptloutIdeal.τ).loc Cert.KernelOptloutIdeal.main_arg0)
          ∧ r.2.mem ((c.tc : Thread Cert.KernelOptloutIdeal.nD Cert.KernelOptloutIdeal.τ).loc Cert.KernelOptloutIdeal.main_arg1) = m ((c.tc : Thread Cert.KernelOptloutIdeal.nD Cert.KernelOptloutIdeal.τ).loc Cert.KernelOptloutIdeal.main_arg1)
          ∧ r.2.mem ((c.tc : Thread Cert.KernelOptloutIdeal.nD Cert.KernelOptloutIdeal.τ).loc Cert.KernelOptloutIdeal.main_arg2) = m ((c.tc : Thread Cert.KernelOptloutIdeal.nD Cert.KernelOptloutIdeal.τ).loc Cert.KernelOptloutIdeal.main_arg2)
          ∧ r.2.mem ((c.tc : Thread Cert.KernelOptloutIdeal.nD Cert.KernelOptloutIdeal.τ).loc Cert.KernelOptloutIdeal.main_arg3) = m ((c.tc : Thread Cert.KernelOptloutIdeal.nD Cert.KernelOptloutIdeal.τ).loc Cert.KernelOptloutIdeal.main_arg3)
          ∧ r.2.mem ((c.tc : Thread Cert.KernelOptloutIdeal.nD Cert.KernelOptloutIdeal.τ).loc Cert.KernelOptloutIdeal.main_arg4) = m ((c.tc : Thread Cert.KernelOptloutIdeal.nD Cert.KernelOptloutIdeal.τ).loc Cert.KernelOptloutIdeal.main_arg4))
      ∧ θ_run (Cert.ReferenceOptloutIdeal.defs (F := Ideal)) (onTc (τ := Cert.ReferenceOptloutIdeal.τ) (Cert.ReferenceOptloutIdeal.main (F := Ideal))) ⟨m', fun _ => 0, g'⟩ (fun r => ∀ c : Dev Cert.ReferenceOptloutIdeal.nD,
          r.2.mem ((c.tc : Thread Cert.ReferenceOptloutIdeal.nD Cert.ReferenceOptloutIdeal.τ).loc Cert.ReferenceOptloutIdeal.main_v0) = v0 c
          ∧ r.2.mem ((c.tc : Thread Cert.ReferenceOptloutIdeal.nD Cert.ReferenceOptloutIdeal.τ).loc Cert.ReferenceOptloutIdeal.main_v24) = v1 c
          ∧ r.2.mem ((c.tc : Thread Cert.ReferenceOptloutIdeal.nD Cert.ReferenceOptloutIdeal.τ).loc Cert.ReferenceOptloutIdeal.main_v5) = v2 c
          ∧ r.2.mem ((c.tc : Thread Cert.ReferenceOptloutIdeal.nD Cert.ReferenceOptloutIdeal.τ).loc Cert.ReferenceOptloutIdeal.main_v11) = v3 c
          ∧ r.2.mem ((c.tc : Thread Cert.ReferenceOptloutIdeal.nD Cert.ReferenceOptloutIdeal.τ).loc Cert.ReferenceOptloutIdeal.main_arg0) = m' ((c.tc : Thread Cert.ReferenceOptloutIdeal.nD Cert.ReferenceOptloutIdeal.τ).loc Cert.ReferenceOptloutIdeal.main_arg0)
          ∧ r.2.mem ((c.tc : Thread Cert.ReferenceOptloutIdeal.nD Cert.ReferenceOptloutIdeal.τ).loc Cert.ReferenceOptloutIdeal.main_arg1) = m' ((c.tc : Thread Cert.ReferenceOptloutIdeal.nD Cert.ReferenceOptloutIdeal.τ).loc Cert.ReferenceOptloutIdeal.main_arg1)
          ∧ r.2.mem ((c.tc : Thread Cert.ReferenceOptloutIdeal.nD Cert.ReferenceOptloutIdeal.τ).loc Cert.ReferenceOptloutIdeal.main_arg2) = m' ((c.tc : Thread Cert.ReferenceOptloutIdeal.nD Cert.ReferenceOptloutIdeal.τ).loc Cert.ReferenceOptloutIdeal.main_arg2)
          ∧ r.2.mem ((c.tc : Thread Cert.ReferenceOptloutIdeal.nD Cert.ReferenceOptloutIdeal.τ).loc Cert.ReferenceOptloutIdeal.main_arg3) = m' ((c.tc : Thread Cert.ReferenceOptloutIdeal.nD Cert.ReferenceOptloutIdeal.τ).loc Cert.ReferenceOptloutIdeal.main_arg3)
          ∧ r.2.mem ((c.tc : Thread Cert.ReferenceOptloutIdeal.nD Cert.ReferenceOptloutIdeal.τ).loc Cert.ReferenceOptloutIdeal.main_arg4) = m' ((c.tc : Thread Cert.ReferenceOptloutIdeal.nD Cert.ReferenceOptloutIdeal.τ).loc Cert.ReferenceOptloutIdeal.main_arg4))

def preserves_KernelOptglu_KernelOptgluIdeal : Prop :=
  True

def algebraic_KernelOptgluIdeal_ReferenceOptgluIdeal [hKernelOptgluIdeal : Cert.KernelOptgluIdeal.Facts] [hReferenceOptgluIdeal : Cert.ReferenceOptgluIdeal.Facts] : Prop :=
  ∀ (m : (ℓ : Loc Cert.KernelOptgluIdeal.nD Cert.KernelOptgluIdeal.τ Cert.KernelOptgluIdeal.sig) → Buf (Elt Ideal) ℓ) (g : Dev Cert.KernelOptgluIdeal.nD → PrngReg)
    (m' : (ℓ : Loc Cert.ReferenceOptgluIdeal.nD Cert.ReferenceOptgluIdeal.τ Cert.ReferenceOptgluIdeal.sig) → Buf (Elt Ideal) ℓ) (g' : Dev Cert.ReferenceOptgluIdeal.nD → PrngReg), Pre_KernelOptgluIdeal m →
    (∀ c : Dev Cert.KernelOptgluIdeal.nD,
      m' ((c.tc : Thread Cert.ReferenceOptgluIdeal.nD Cert.ReferenceOptgluIdeal.τ).loc Cert.ReferenceOptgluIdeal.main_arg0) = m ((c.tc : Thread Cert.KernelOptgluIdeal.nD Cert.KernelOptgluIdeal.τ).loc Cert.KernelOptgluIdeal.main_arg0)
      ∧ m' ((c.tc : Thread Cert.ReferenceOptgluIdeal.nD Cert.ReferenceOptgluIdeal.τ).loc Cert.ReferenceOptgluIdeal.main_arg1) = m ((c.tc : Thread Cert.KernelOptgluIdeal.nD Cert.KernelOptgluIdeal.τ).loc Cert.KernelOptgluIdeal.main_arg1)
      ∧ m' ((c.tc : Thread Cert.ReferenceOptgluIdeal.nD Cert.ReferenceOptgluIdeal.τ).loc Cert.ReferenceOptgluIdeal.main_arg2) = m ((c.tc : Thread Cert.KernelOptgluIdeal.nD Cert.KernelOptgluIdeal.τ).loc Cert.KernelOptgluIdeal.main_arg2)
      ∧ m' ((c.tc : Thread Cert.ReferenceOptgluIdeal.nD Cert.ReferenceOptgluIdeal.τ).loc Cert.ReferenceOptgluIdeal.main_arg3) = m ((c.tc : Thread Cert.KernelOptgluIdeal.nD Cert.KernelOptgluIdeal.τ).loc Cert.KernelOptgluIdeal.main_arg3)
      ∧ m' ((c.tc : Thread Cert.ReferenceOptgluIdeal.nD Cert.ReferenceOptgluIdeal.τ).loc Cert.ReferenceOptgluIdeal.main_arg4) = m ((c.tc : Thread Cert.KernelOptgluIdeal.nD Cert.KernelOptgluIdeal.τ).loc Cert.KernelOptgluIdeal.main_arg4)) →
    ∃ (v0 : (c : Dev Cert.KernelOptgluIdeal.nD) → Buf (Elt Ideal) ((c.tc : Thread Cert.KernelOptgluIdeal.nD Cert.KernelOptgluIdeal.τ).loc Cert.KernelOptgluIdeal.main_v0_0)) (v1 : (c : Dev Cert.KernelOptgluIdeal.nD) → Buf (Elt Ideal) ((c.tc : Thread Cert.KernelOptgluIdeal.nD Cert.KernelOptgluIdeal.τ).loc Cert.KernelOptgluIdeal.main_v0_1)) (v2 : (c : Dev Cert.KernelOptgluIdeal.nD) → Buf (Elt Ideal) ((c.tc : Thread Cert.KernelOptgluIdeal.nD Cert.KernelOptgluIdeal.τ).loc Cert.KernelOptgluIdeal.main_v0_2)) (v3 : (c : Dev Cert.KernelOptgluIdeal.nD) → Buf (Elt Ideal) ((c.tc : Thread Cert.KernelOptgluIdeal.nD Cert.KernelOptgluIdeal.τ).loc Cert.KernelOptgluIdeal.main_v0_3)),
      θ_run (Cert.KernelOptgluIdeal.defs (F := Ideal)) (onTc (τ := Cert.KernelOptgluIdeal.τ) (Cert.KernelOptgluIdeal.main (F := Ideal))) ⟨m, fun _ => 0, g⟩ (fun r => ∀ c : Dev Cert.KernelOptgluIdeal.nD,
          r.2.mem ((c.tc : Thread Cert.KernelOptgluIdeal.nD Cert.KernelOptgluIdeal.τ).loc Cert.KernelOptgluIdeal.main_v0_0) = v0 c
          ∧ r.2.mem ((c.tc : Thread Cert.KernelOptgluIdeal.nD Cert.KernelOptgluIdeal.τ).loc Cert.KernelOptgluIdeal.main_v0_1) = v1 c
          ∧ r.2.mem ((c.tc : Thread Cert.KernelOptgluIdeal.nD Cert.KernelOptgluIdeal.τ).loc Cert.KernelOptgluIdeal.main_v0_2) = v2 c
          ∧ r.2.mem ((c.tc : Thread Cert.KernelOptgluIdeal.nD Cert.KernelOptgluIdeal.τ).loc Cert.KernelOptgluIdeal.main_v0_3) = v3 c
          ∧ r.2.mem ((c.tc : Thread Cert.KernelOptgluIdeal.nD Cert.KernelOptgluIdeal.τ).loc Cert.KernelOptgluIdeal.main_arg0) = m ((c.tc : Thread Cert.KernelOptgluIdeal.nD Cert.KernelOptgluIdeal.τ).loc Cert.KernelOptgluIdeal.main_arg0)
          ∧ r.2.mem ((c.tc : Thread Cert.KernelOptgluIdeal.nD Cert.KernelOptgluIdeal.τ).loc Cert.KernelOptgluIdeal.main_arg1) = m ((c.tc : Thread Cert.KernelOptgluIdeal.nD Cert.KernelOptgluIdeal.τ).loc Cert.KernelOptgluIdeal.main_arg1)
          ∧ r.2.mem ((c.tc : Thread Cert.KernelOptgluIdeal.nD Cert.KernelOptgluIdeal.τ).loc Cert.KernelOptgluIdeal.main_arg2) = m ((c.tc : Thread Cert.KernelOptgluIdeal.nD Cert.KernelOptgluIdeal.τ).loc Cert.KernelOptgluIdeal.main_arg2)
          ∧ r.2.mem ((c.tc : Thread Cert.KernelOptgluIdeal.nD Cert.KernelOptgluIdeal.τ).loc Cert.KernelOptgluIdeal.main_arg3) = m ((c.tc : Thread Cert.KernelOptgluIdeal.nD Cert.KernelOptgluIdeal.τ).loc Cert.KernelOptgluIdeal.main_arg3)
          ∧ r.2.mem ((c.tc : Thread Cert.KernelOptgluIdeal.nD Cert.KernelOptgluIdeal.τ).loc Cert.KernelOptgluIdeal.main_arg4) = m ((c.tc : Thread Cert.KernelOptgluIdeal.nD Cert.KernelOptgluIdeal.τ).loc Cert.KernelOptgluIdeal.main_arg4))
      ∧ θ_run (Cert.ReferenceOptgluIdeal.defs (F := Ideal)) (onTc (τ := Cert.ReferenceOptgluIdeal.τ) (Cert.ReferenceOptgluIdeal.main (F := Ideal))) ⟨m', fun _ => 0, g'⟩ (fun r => ∀ c : Dev Cert.ReferenceOptgluIdeal.nD,
          r.2.mem ((c.tc : Thread Cert.ReferenceOptgluIdeal.nD Cert.ReferenceOptgluIdeal.τ).loc Cert.ReferenceOptgluIdeal.main_v0) = v0 c
          ∧ r.2.mem ((c.tc : Thread Cert.ReferenceOptgluIdeal.nD Cert.ReferenceOptgluIdeal.τ).loc Cert.ReferenceOptgluIdeal.main_v24) = v1 c
          ∧ r.2.mem ((c.tc : Thread Cert.ReferenceOptgluIdeal.nD Cert.ReferenceOptgluIdeal.τ).loc Cert.ReferenceOptgluIdeal.main_v5) = v2 c
          ∧ r.2.mem ((c.tc : Thread Cert.ReferenceOptgluIdeal.nD Cert.ReferenceOptgluIdeal.τ).loc Cert.ReferenceOptgluIdeal.main_v11) = v3 c
          ∧ r.2.mem ((c.tc : Thread Cert.ReferenceOptgluIdeal.nD Cert.ReferenceOptgluIdeal.τ).loc Cert.ReferenceOptgluIdeal.main_arg0) = m' ((c.tc : Thread Cert.ReferenceOptgluIdeal.nD Cert.ReferenceOptgluIdeal.τ).loc Cert.ReferenceOptgluIdeal.main_arg0)
          ∧ r.2.mem ((c.tc : Thread Cert.ReferenceOptgluIdeal.nD Cert.ReferenceOptgluIdeal.τ).loc Cert.ReferenceOptgluIdeal.main_arg1) = m' ((c.tc : Thread Cert.ReferenceOptgluIdeal.nD Cert.ReferenceOptgluIdeal.τ).loc Cert.ReferenceOptgluIdeal.main_arg1)
          ∧ r.2.mem ((c.tc : Thread Cert.ReferenceOptgluIdeal.nD Cert.ReferenceOptgluIdeal.τ).loc Cert.ReferenceOptgluIdeal.main_arg2) = m' ((c.tc : Thread Cert.ReferenceOptgluIdeal.nD Cert.ReferenceOptgluIdeal.τ).loc Cert.ReferenceOptgluIdeal.main_arg2)
          ∧ r.2.mem ((c.tc : Thread Cert.ReferenceOptgluIdeal.nD Cert.ReferenceOptgluIdeal.τ).loc Cert.ReferenceOptgluIdeal.main_arg3) = m' ((c.tc : Thread Cert.ReferenceOptgluIdeal.nD Cert.ReferenceOptgluIdeal.τ).loc Cert.ReferenceOptgluIdeal.main_arg3)
          ∧ r.2.mem ((c.tc : Thread Cert.ReferenceOptgluIdeal.nD Cert.ReferenceOptgluIdeal.τ).loc Cert.ReferenceOptgluIdeal.main_arg4) = m' ((c.tc : Thread Cert.ReferenceOptgluIdeal.nD Cert.ReferenceOptgluIdeal.τ).loc Cert.ReferenceOptgluIdeal.main_arg4))

def preserves_KernelOptuq_KernelOptuqIdeal : Prop :=
  True

def algebraic_KernelOptuqIdeal_ReferenceOptuqIdeal [hKernelOptuqIdeal : Cert.KernelOptuqIdeal.Facts] [hReferenceOptuqIdeal : Cert.ReferenceOptuqIdeal.Facts] : Prop :=
  ∀ (m : (ℓ : Loc Cert.KernelOptuqIdeal.nD Cert.KernelOptuqIdeal.τ Cert.KernelOptuqIdeal.sig) → Buf (Elt Ideal) ℓ) (g : Dev Cert.KernelOptuqIdeal.nD → PrngReg)
    (m' : (ℓ : Loc Cert.ReferenceOptuqIdeal.nD Cert.ReferenceOptuqIdeal.τ Cert.ReferenceOptuqIdeal.sig) → Buf (Elt Ideal) ℓ) (g' : Dev Cert.ReferenceOptuqIdeal.nD → PrngReg), Pre_KernelOptuqIdeal m →
    (∀ c : Dev Cert.KernelOptuqIdeal.nD,
      m' ((c.tc : Thread Cert.ReferenceOptuqIdeal.nD Cert.ReferenceOptuqIdeal.τ).loc Cert.ReferenceOptuqIdeal.main_arg0) = m ((c.tc : Thread Cert.KernelOptuqIdeal.nD Cert.KernelOptuqIdeal.τ).loc Cert.KernelOptuqIdeal.main_arg0)
      ∧ m' ((c.tc : Thread Cert.ReferenceOptuqIdeal.nD Cert.ReferenceOptuqIdeal.τ).loc Cert.ReferenceOptuqIdeal.main_arg1) = m ((c.tc : Thread Cert.KernelOptuqIdeal.nD Cert.KernelOptuqIdeal.τ).loc Cert.KernelOptuqIdeal.main_arg1)
      ∧ m' ((c.tc : Thread Cert.ReferenceOptuqIdeal.nD Cert.ReferenceOptuqIdeal.τ).loc Cert.ReferenceOptuqIdeal.main_arg2) = m ((c.tc : Thread Cert.KernelOptuqIdeal.nD Cert.KernelOptuqIdeal.τ).loc Cert.KernelOptuqIdeal.main_arg2)
      ∧ m' ((c.tc : Thread Cert.ReferenceOptuqIdeal.nD Cert.ReferenceOptuqIdeal.τ).loc Cert.ReferenceOptuqIdeal.main_arg3) = m ((c.tc : Thread Cert.KernelOptuqIdeal.nD Cert.KernelOptuqIdeal.τ).loc Cert.KernelOptuqIdeal.main_arg3)
      ∧ m' ((c.tc : Thread Cert.ReferenceOptuqIdeal.nD Cert.ReferenceOptuqIdeal.τ).loc Cert.ReferenceOptuqIdeal.main_arg4) = m ((c.tc : Thread Cert.KernelOptuqIdeal.nD Cert.KernelOptuqIdeal.τ).loc Cert.KernelOptuqIdeal.main_arg4)) →
    ∃ (v0 : (c : Dev Cert.KernelOptuqIdeal.nD) → Buf (Elt Ideal) ((c.tc : Thread Cert.KernelOptuqIdeal.nD Cert.KernelOptuqIdeal.τ).loc Cert.KernelOptuqIdeal.main_v0_0)) (v1 : (c : Dev Cert.KernelOptuqIdeal.nD) → Buf (Elt Ideal) ((c.tc : Thread Cert.KernelOptuqIdeal.nD Cert.KernelOptuqIdeal.τ).loc Cert.KernelOptuqIdeal.main_v0_1)) (v2 : (c : Dev Cert.KernelOptuqIdeal.nD) → Buf (Elt Ideal) ((c.tc : Thread Cert.KernelOptuqIdeal.nD Cert.KernelOptuqIdeal.τ).loc Cert.KernelOptuqIdeal.main_v0_2)) (v3 : (c : Dev Cert.KernelOptuqIdeal.nD) → Buf (Elt Ideal) ((c.tc : Thread Cert.KernelOptuqIdeal.nD Cert.KernelOptuqIdeal.τ).loc Cert.KernelOptuqIdeal.main_v0_3)),
      θ_run (Cert.KernelOptuqIdeal.defs (F := Ideal)) (onTc (τ := Cert.KernelOptuqIdeal.τ) (Cert.KernelOptuqIdeal.main (F := Ideal))) ⟨m, fun _ => 0, g⟩ (fun r => ∀ c : Dev Cert.KernelOptuqIdeal.nD,
          r.2.mem ((c.tc : Thread Cert.KernelOptuqIdeal.nD Cert.KernelOptuqIdeal.τ).loc Cert.KernelOptuqIdeal.main_v0_0) = v0 c
          ∧ r.2.mem ((c.tc : Thread Cert.KernelOptuqIdeal.nD Cert.KernelOptuqIdeal.τ).loc Cert.KernelOptuqIdeal.main_v0_1) = v1 c
          ∧ r.2.mem ((c.tc : Thread Cert.KernelOptuqIdeal.nD Cert.KernelOptuqIdeal.τ).loc Cert.KernelOptuqIdeal.main_v0_2) = v2 c
          ∧ r.2.mem ((c.tc : Thread Cert.KernelOptuqIdeal.nD Cert.KernelOptuqIdeal.τ).loc Cert.KernelOptuqIdeal.main_v0_3) = v3 c
          ∧ r.2.mem ((c.tc : Thread Cert.KernelOptuqIdeal.nD Cert.KernelOptuqIdeal.τ).loc Cert.KernelOptuqIdeal.main_arg0) = m ((c.tc : Thread Cert.KernelOptuqIdeal.nD Cert.KernelOptuqIdeal.τ).loc Cert.KernelOptuqIdeal.main_arg0)
          ∧ r.2.mem ((c.tc : Thread Cert.KernelOptuqIdeal.nD Cert.KernelOptuqIdeal.τ).loc Cert.KernelOptuqIdeal.main_arg1) = m ((c.tc : Thread Cert.KernelOptuqIdeal.nD Cert.KernelOptuqIdeal.τ).loc Cert.KernelOptuqIdeal.main_arg1)
          ∧ r.2.mem ((c.tc : Thread Cert.KernelOptuqIdeal.nD Cert.KernelOptuqIdeal.τ).loc Cert.KernelOptuqIdeal.main_arg2) = m ((c.tc : Thread Cert.KernelOptuqIdeal.nD Cert.KernelOptuqIdeal.τ).loc Cert.KernelOptuqIdeal.main_arg2)
          ∧ r.2.mem ((c.tc : Thread Cert.KernelOptuqIdeal.nD Cert.KernelOptuqIdeal.τ).loc Cert.KernelOptuqIdeal.main_arg3) = m ((c.tc : Thread Cert.KernelOptuqIdeal.nD Cert.KernelOptuqIdeal.τ).loc Cert.KernelOptuqIdeal.main_arg3)
          ∧ r.2.mem ((c.tc : Thread Cert.KernelOptuqIdeal.nD Cert.KernelOptuqIdeal.τ).loc Cert.KernelOptuqIdeal.main_arg4) = m ((c.tc : Thread Cert.KernelOptuqIdeal.nD Cert.KernelOptuqIdeal.τ).loc Cert.KernelOptuqIdeal.main_arg4))
      ∧ θ_run (Cert.ReferenceOptuqIdeal.defs (F := Ideal)) (onTc (τ := Cert.ReferenceOptuqIdeal.τ) (Cert.ReferenceOptuqIdeal.main (F := Ideal))) ⟨m', fun _ => 0, g'⟩ (fun r => ∀ c : Dev Cert.ReferenceOptuqIdeal.nD,
          r.2.mem ((c.tc : Thread Cert.ReferenceOptuqIdeal.nD Cert.ReferenceOptuqIdeal.τ).loc Cert.ReferenceOptuqIdeal.main_v0) = v0 c
          ∧ r.2.mem ((c.tc : Thread Cert.ReferenceOptuqIdeal.nD Cert.ReferenceOptuqIdeal.τ).loc Cert.ReferenceOptuqIdeal.main_v24) = v1 c
          ∧ r.2.mem ((c.tc : Thread Cert.ReferenceOptuqIdeal.nD Cert.ReferenceOptuqIdeal.τ).loc Cert.ReferenceOptuqIdeal.main_v5) = v2 c
          ∧ r.2.mem ((c.tc : Thread Cert.ReferenceOptuqIdeal.nD Cert.ReferenceOptuqIdeal.τ).loc Cert.ReferenceOptuqIdeal.main_v11) = v3 c
          ∧ r.2.mem ((c.tc : Thread Cert.ReferenceOptuqIdeal.nD Cert.ReferenceOptuqIdeal.τ).loc Cert.ReferenceOptuqIdeal.main_arg0) = m' ((c.tc : Thread Cert.ReferenceOptuqIdeal.nD Cert.ReferenceOptuqIdeal.τ).loc Cert.ReferenceOptuqIdeal.main_arg0)
          ∧ r.2.mem ((c.tc : Thread Cert.ReferenceOptuqIdeal.nD Cert.ReferenceOptuqIdeal.τ).loc Cert.ReferenceOptuqIdeal.main_arg1) = m' ((c.tc : Thread Cert.ReferenceOptuqIdeal.nD Cert.ReferenceOptuqIdeal.τ).loc Cert.ReferenceOptuqIdeal.main_arg1)
          ∧ r.2.mem ((c.tc : Thread Cert.ReferenceOptuqIdeal.nD Cert.ReferenceOptuqIdeal.τ).loc Cert.ReferenceOptuqIdeal.main_arg2) = m' ((c.tc : Thread Cert.ReferenceOptuqIdeal.nD Cert.ReferenceOptuqIdeal.τ).loc Cert.ReferenceOptuqIdeal.main_arg2)
          ∧ r.2.mem ((c.tc : Thread Cert.ReferenceOptuqIdeal.nD Cert.ReferenceOptuqIdeal.τ).loc Cert.ReferenceOptuqIdeal.main_arg3) = m' ((c.tc : Thread Cert.ReferenceOptuqIdeal.nD Cert.ReferenceOptuqIdeal.τ).loc Cert.ReferenceOptuqIdeal.main_arg3)
          ∧ r.2.mem ((c.tc : Thread Cert.ReferenceOptuqIdeal.nD Cert.ReferenceOptuqIdeal.τ).loc Cert.ReferenceOptuqIdeal.main_arg4) = m' ((c.tc : Thread Cert.ReferenceOptuqIdeal.nD Cert.ReferenceOptuqIdeal.τ).loc Cert.ReferenceOptuqIdeal.main_arg4))

def preserves_KernelOptukv_KernelOptukvIdeal : Prop :=
  True

def algebraic_KernelOptukvIdeal_ReferenceOptukvIdeal [hKernelOptukvIdeal : Cert.KernelOptukvIdeal.Facts] [hReferenceOptukvIdeal : Cert.ReferenceOptukvIdeal.Facts] : Prop :=
  ∀ (m : (ℓ : Loc Cert.KernelOptukvIdeal.nD Cert.KernelOptukvIdeal.τ Cert.KernelOptukvIdeal.sig) → Buf (Elt Ideal) ℓ) (g : Dev Cert.KernelOptukvIdeal.nD → PrngReg)
    (m' : (ℓ : Loc Cert.ReferenceOptukvIdeal.nD Cert.ReferenceOptukvIdeal.τ Cert.ReferenceOptukvIdeal.sig) → Buf (Elt Ideal) ℓ) (g' : Dev Cert.ReferenceOptukvIdeal.nD → PrngReg), Pre_KernelOptukvIdeal m →
    (∀ c : Dev Cert.KernelOptukvIdeal.nD,
      m' ((c.tc : Thread Cert.ReferenceOptukvIdeal.nD Cert.ReferenceOptukvIdeal.τ).loc Cert.ReferenceOptukvIdeal.main_arg0) = m ((c.tc : Thread Cert.KernelOptukvIdeal.nD Cert.KernelOptukvIdeal.τ).loc Cert.KernelOptukvIdeal.main_arg0)
      ∧ m' ((c.tc : Thread Cert.ReferenceOptukvIdeal.nD Cert.ReferenceOptukvIdeal.τ).loc Cert.ReferenceOptukvIdeal.main_arg1) = m ((c.tc : Thread Cert.KernelOptukvIdeal.nD Cert.KernelOptukvIdeal.τ).loc Cert.KernelOptukvIdeal.main_arg1)
      ∧ m' ((c.tc : Thread Cert.ReferenceOptukvIdeal.nD Cert.ReferenceOptukvIdeal.τ).loc Cert.ReferenceOptukvIdeal.main_arg2) = m ((c.tc : Thread Cert.KernelOptukvIdeal.nD Cert.KernelOptukvIdeal.τ).loc Cert.KernelOptukvIdeal.main_arg2)
      ∧ m' ((c.tc : Thread Cert.ReferenceOptukvIdeal.nD Cert.ReferenceOptukvIdeal.τ).loc Cert.ReferenceOptukvIdeal.main_arg3) = m ((c.tc : Thread Cert.KernelOptukvIdeal.nD Cert.KernelOptukvIdeal.τ).loc Cert.KernelOptukvIdeal.main_arg3)
      ∧ m' ((c.tc : Thread Cert.ReferenceOptukvIdeal.nD Cert.ReferenceOptukvIdeal.τ).loc Cert.ReferenceOptukvIdeal.main_arg4) = m ((c.tc : Thread Cert.KernelOptukvIdeal.nD Cert.KernelOptukvIdeal.τ).loc Cert.KernelOptukvIdeal.main_arg4)) →
    ∃ (v0 : (c : Dev Cert.KernelOptukvIdeal.nD) → Buf (Elt Ideal) ((c.tc : Thread Cert.KernelOptukvIdeal.nD Cert.KernelOptukvIdeal.τ).loc Cert.KernelOptukvIdeal.main_v0_0)) (v1 : (c : Dev Cert.KernelOptukvIdeal.nD) → Buf (Elt Ideal) ((c.tc : Thread Cert.KernelOptukvIdeal.nD Cert.KernelOptukvIdeal.τ).loc Cert.KernelOptukvIdeal.main_v0_1)) (v2 : (c : Dev Cert.KernelOptukvIdeal.nD) → Buf (Elt Ideal) ((c.tc : Thread Cert.KernelOptukvIdeal.nD Cert.KernelOptukvIdeal.τ).loc Cert.KernelOptukvIdeal.main_v0_2)) (v3 : (c : Dev Cert.KernelOptukvIdeal.nD) → Buf (Elt Ideal) ((c.tc : Thread Cert.KernelOptukvIdeal.nD Cert.KernelOptukvIdeal.τ).loc Cert.KernelOptukvIdeal.main_v0_3)),
      θ_run (Cert.KernelOptukvIdeal.defs (F := Ideal)) (onTc (τ := Cert.KernelOptukvIdeal.τ) (Cert.KernelOptukvIdeal.main (F := Ideal))) ⟨m, fun _ => 0, g⟩ (fun r => ∀ c : Dev Cert.KernelOptukvIdeal.nD,
          r.2.mem ((c.tc : Thread Cert.KernelOptukvIdeal.nD Cert.KernelOptukvIdeal.τ).loc Cert.KernelOptukvIdeal.main_v0_0) = v0 c
          ∧ r.2.mem ((c.tc : Thread Cert.KernelOptukvIdeal.nD Cert.KernelOptukvIdeal.τ).loc Cert.KernelOptukvIdeal.main_v0_1) = v1 c
          ∧ r.2.mem ((c.tc : Thread Cert.KernelOptukvIdeal.nD Cert.KernelOptukvIdeal.τ).loc Cert.KernelOptukvIdeal.main_v0_2) = v2 c
          ∧ r.2.mem ((c.tc : Thread Cert.KernelOptukvIdeal.nD Cert.KernelOptukvIdeal.τ).loc Cert.KernelOptukvIdeal.main_v0_3) = v3 c
          ∧ r.2.mem ((c.tc : Thread Cert.KernelOptukvIdeal.nD Cert.KernelOptukvIdeal.τ).loc Cert.KernelOptukvIdeal.main_arg0) = m ((c.tc : Thread Cert.KernelOptukvIdeal.nD Cert.KernelOptukvIdeal.τ).loc Cert.KernelOptukvIdeal.main_arg0)
          ∧ r.2.mem ((c.tc : Thread Cert.KernelOptukvIdeal.nD Cert.KernelOptukvIdeal.τ).loc Cert.KernelOptukvIdeal.main_arg1) = m ((c.tc : Thread Cert.KernelOptukvIdeal.nD Cert.KernelOptukvIdeal.τ).loc Cert.KernelOptukvIdeal.main_arg1)
          ∧ r.2.mem ((c.tc : Thread Cert.KernelOptukvIdeal.nD Cert.KernelOptukvIdeal.τ).loc Cert.KernelOptukvIdeal.main_arg2) = m ((c.tc : Thread Cert.KernelOptukvIdeal.nD Cert.KernelOptukvIdeal.τ).loc Cert.KernelOptukvIdeal.main_arg2)
          ∧ r.2.mem ((c.tc : Thread Cert.KernelOptukvIdeal.nD Cert.KernelOptukvIdeal.τ).loc Cert.KernelOptukvIdeal.main_arg3) = m ((c.tc : Thread Cert.KernelOptukvIdeal.nD Cert.KernelOptukvIdeal.τ).loc Cert.KernelOptukvIdeal.main_arg3)
          ∧ r.2.mem ((c.tc : Thread Cert.KernelOptukvIdeal.nD Cert.KernelOptukvIdeal.τ).loc Cert.KernelOptukvIdeal.main_arg4) = m ((c.tc : Thread Cert.KernelOptukvIdeal.nD Cert.KernelOptukvIdeal.τ).loc Cert.KernelOptukvIdeal.main_arg4))
      ∧ θ_run (Cert.ReferenceOptukvIdeal.defs (F := Ideal)) (onTc (τ := Cert.ReferenceOptukvIdeal.τ) (Cert.ReferenceOptukvIdeal.main (F := Ideal))) ⟨m', fun _ => 0, g'⟩ (fun r => ∀ c : Dev Cert.ReferenceOptukvIdeal.nD,
          r.2.mem ((c.tc : Thread Cert.ReferenceOptukvIdeal.nD Cert.ReferenceOptukvIdeal.τ).loc Cert.ReferenceOptukvIdeal.main_v0) = v0 c
          ∧ r.2.mem ((c.tc : Thread Cert.ReferenceOptukvIdeal.nD Cert.ReferenceOptukvIdeal.τ).loc Cert.ReferenceOptukvIdeal.main_v24) = v1 c
          ∧ r.2.mem ((c.tc : Thread Cert.ReferenceOptukvIdeal.nD Cert.ReferenceOptukvIdeal.τ).loc Cert.ReferenceOptukvIdeal.main_v5) = v2 c
          ∧ r.2.mem ((c.tc : Thread Cert.ReferenceOptukvIdeal.nD Cert.ReferenceOptukvIdeal.τ).loc Cert.ReferenceOptukvIdeal.main_v11) = v3 c
          ∧ r.2.mem ((c.tc : Thread Cert.ReferenceOptukvIdeal.nD Cert.ReferenceOptukvIdeal.τ).loc Cert.ReferenceOptukvIdeal.main_arg0) = m' ((c.tc : Thread Cert.ReferenceOptukvIdeal.nD Cert.ReferenceOptukvIdeal.τ).loc Cert.ReferenceOptukvIdeal.main_arg0)
          ∧ r.2.mem ((c.tc : Thread Cert.ReferenceOptukvIdeal.nD Cert.ReferenceOptukvIdeal.τ).loc Cert.ReferenceOptukvIdeal.main_arg1) = m' ((c.tc : Thread Cert.ReferenceOptukvIdeal.nD Cert.ReferenceOptukvIdeal.τ).loc Cert.ReferenceOptukvIdeal.main_arg1)
          ∧ r.2.mem ((c.tc : Thread Cert.ReferenceOptukvIdeal.nD Cert.ReferenceOptukvIdeal.τ).loc Cert.ReferenceOptukvIdeal.main_arg2) = m' ((c.tc : Thread Cert.ReferenceOptukvIdeal.nD Cert.ReferenceOptukvIdeal.τ).loc Cert.ReferenceOptukvIdeal.main_arg2)
          ∧ r.2.mem ((c.tc : Thread Cert.ReferenceOptukvIdeal.nD Cert.ReferenceOptukvIdeal.τ).loc Cert.ReferenceOptukvIdeal.main_arg3) = m' ((c.tc : Thread Cert.ReferenceOptukvIdeal.nD Cert.ReferenceOptukvIdeal.τ).loc Cert.ReferenceOptukvIdeal.main_arg3)
          ∧ r.2.mem ((c.tc : Thread Cert.ReferenceOptukvIdeal.nD Cert.ReferenceOptukvIdeal.τ).loc Cert.ReferenceOptukvIdeal.main_arg4) = m' ((c.tc : Thread Cert.ReferenceOptukvIdeal.nD Cert.ReferenceOptukvIdeal.τ).loc Cert.ReferenceOptukvIdeal.main_arg4))

def preserves_KernelOptmeta_KernelOptmetaIdeal : Prop :=
  True

def algebraic_KernelOptmetaIdeal_ReferenceOptmetaIdeal [hKernelOptmetaIdeal : Cert.KernelOptmetaIdeal.Facts] [hReferenceOptmetaIdeal : Cert.ReferenceOptmetaIdeal.Facts] : Prop :=
  ∀ (m : (ℓ : Loc Cert.KernelOptmetaIdeal.nD Cert.KernelOptmetaIdeal.τ Cert.KernelOptmetaIdeal.sig) → Buf (Elt Ideal) ℓ) (g : Dev Cert.KernelOptmetaIdeal.nD → PrngReg)
    (m' : (ℓ : Loc Cert.ReferenceOptmetaIdeal.nD Cert.ReferenceOptmetaIdeal.τ Cert.ReferenceOptmetaIdeal.sig) → Buf (Elt Ideal) ℓ) (g' : Dev Cert.ReferenceOptmetaIdeal.nD → PrngReg), Pre_KernelOptmetaIdeal m →
    (∀ c : Dev Cert.KernelOptmetaIdeal.nD,
      m' ((c.tc : Thread Cert.ReferenceOptmetaIdeal.nD Cert.ReferenceOptmetaIdeal.τ).loc Cert.ReferenceOptmetaIdeal.main_arg0) = m ((c.tc : Thread Cert.KernelOptmetaIdeal.nD Cert.KernelOptmetaIdeal.τ).loc Cert.KernelOptmetaIdeal.main_arg0)
      ∧ m' ((c.tc : Thread Cert.ReferenceOptmetaIdeal.nD Cert.ReferenceOptmetaIdeal.τ).loc Cert.ReferenceOptmetaIdeal.main_arg1) = m ((c.tc : Thread Cert.KernelOptmetaIdeal.nD Cert.KernelOptmetaIdeal.τ).loc Cert.KernelOptmetaIdeal.main_arg1)
      ∧ m' ((c.tc : Thread Cert.ReferenceOptmetaIdeal.nD Cert.ReferenceOptmetaIdeal.τ).loc Cert.ReferenceOptmetaIdeal.main_arg2) = m ((c.tc : Thread Cert.KernelOptmetaIdeal.nD Cert.KernelOptmetaIdeal.τ).loc Cert.KernelOptmetaIdeal.main_arg2)
      ∧ m' ((c.tc : Thread Cert.ReferenceOptmetaIdeal.nD Cert.ReferenceOptmetaIdeal.τ).loc Cert.ReferenceOptmetaIdeal.main_arg3) = m ((c.tc : Thread Cert.KernelOptmetaIdeal.nD Cert.KernelOptmetaIdeal.τ).loc Cert.KernelOptmetaIdeal.main_arg3)) →
    ∃ (v0 : (c : Dev Cert.KernelOptmetaIdeal.nD) → Buf (Elt Ideal) ((c.tc : Thread Cert.KernelOptmetaIdeal.nD Cert.KernelOptmetaIdeal.τ).loc Cert.KernelOptmetaIdeal.main_v0_0)) (v1 : (c : Dev Cert.KernelOptmetaIdeal.nD) → Buf (Elt Ideal) ((c.tc : Thread Cert.KernelOptmetaIdeal.nD Cert.KernelOptmetaIdeal.τ).loc Cert.KernelOptmetaIdeal.main_v0_1)) (v2 : (c : Dev Cert.KernelOptmetaIdeal.nD) → Buf (Elt Ideal) ((c.tc : Thread Cert.KernelOptmetaIdeal.nD Cert.KernelOptmetaIdeal.τ).loc Cert.KernelOptmetaIdeal.main_v0_2)) (v3 : (c : Dev Cert.KernelOptmetaIdeal.nD) → Buf (Elt Ideal) ((c.tc : Thread Cert.KernelOptmetaIdeal.nD Cert.KernelOptmetaIdeal.τ).loc Cert.KernelOptmetaIdeal.main_v0_3)),
      θ_run (Cert.KernelOptmetaIdeal.defs (F := Ideal)) (onTc (τ := Cert.KernelOptmetaIdeal.τ) (Cert.KernelOptmetaIdeal.main (F := Ideal))) ⟨m, fun _ => 0, g⟩ (fun r => ∀ c : Dev Cert.KernelOptmetaIdeal.nD,
          r.2.mem ((c.tc : Thread Cert.KernelOptmetaIdeal.nD Cert.KernelOptmetaIdeal.τ).loc Cert.KernelOptmetaIdeal.main_v0_0) = v0 c
          ∧ r.2.mem ((c.tc : Thread Cert.KernelOptmetaIdeal.nD Cert.KernelOptmetaIdeal.τ).loc Cert.KernelOptmetaIdeal.main_v0_1) = v1 c
          ∧ r.2.mem ((c.tc : Thread Cert.KernelOptmetaIdeal.nD Cert.KernelOptmetaIdeal.τ).loc Cert.KernelOptmetaIdeal.main_v0_2) = v2 c
          ∧ r.2.mem ((c.tc : Thread Cert.KernelOptmetaIdeal.nD Cert.KernelOptmetaIdeal.τ).loc Cert.KernelOptmetaIdeal.main_v0_3) = v3 c
          ∧ r.2.mem ((c.tc : Thread Cert.KernelOptmetaIdeal.nD Cert.KernelOptmetaIdeal.τ).loc Cert.KernelOptmetaIdeal.main_arg0) = m ((c.tc : Thread Cert.KernelOptmetaIdeal.nD Cert.KernelOptmetaIdeal.τ).loc Cert.KernelOptmetaIdeal.main_arg0)
          ∧ r.2.mem ((c.tc : Thread Cert.KernelOptmetaIdeal.nD Cert.KernelOptmetaIdeal.τ).loc Cert.KernelOptmetaIdeal.main_arg1) = m ((c.tc : Thread Cert.KernelOptmetaIdeal.nD Cert.KernelOptmetaIdeal.τ).loc Cert.KernelOptmetaIdeal.main_arg1)
          ∧ r.2.mem ((c.tc : Thread Cert.KernelOptmetaIdeal.nD Cert.KernelOptmetaIdeal.τ).loc Cert.KernelOptmetaIdeal.main_arg2) = m ((c.tc : Thread Cert.KernelOptmetaIdeal.nD Cert.KernelOptmetaIdeal.τ).loc Cert.KernelOptmetaIdeal.main_arg2)
          ∧ r.2.mem ((c.tc : Thread Cert.KernelOptmetaIdeal.nD Cert.KernelOptmetaIdeal.τ).loc Cert.KernelOptmetaIdeal.main_arg3) = m ((c.tc : Thread Cert.KernelOptmetaIdeal.nD Cert.KernelOptmetaIdeal.τ).loc Cert.KernelOptmetaIdeal.main_arg3))
      ∧ θ_run (Cert.ReferenceOptmetaIdeal.defs (F := Ideal)) (onTc (τ := Cert.ReferenceOptmetaIdeal.τ) (Cert.ReferenceOptmetaIdeal.main (F := Ideal))) ⟨m', fun _ => 0, g'⟩ (fun r => ∀ c : Dev Cert.ReferenceOptmetaIdeal.nD,
          r.2.mem ((c.tc : Thread Cert.ReferenceOptmetaIdeal.nD Cert.ReferenceOptmetaIdeal.τ).loc Cert.ReferenceOptmetaIdeal.main_arg0) = v0 c
          ∧ r.2.mem ((c.tc : Thread Cert.ReferenceOptmetaIdeal.nD Cert.ReferenceOptmetaIdeal.τ).loc Cert.ReferenceOptmetaIdeal.main_v23) = v1 c
          ∧ r.2.mem ((c.tc : Thread Cert.ReferenceOptmetaIdeal.nD Cert.ReferenceOptmetaIdeal.τ).loc Cert.ReferenceOptmetaIdeal.main_v4) = v2 c
          ∧ r.2.mem ((c.tc : Thread Cert.ReferenceOptmetaIdeal.nD Cert.ReferenceOptmetaIdeal.τ).loc Cert.ReferenceOptmetaIdeal.main_v10) = v3 c
          ∧ r.2.mem ((c.tc : Thread Cert.ReferenceOptmetaIdeal.nD Cert.ReferenceOptmetaIdeal.τ).loc Cert.ReferenceOptmetaIdeal.main_arg0) = m' ((c.tc : Thread Cert.ReferenceOptmetaIdeal.nD Cert.ReferenceOptmetaIdeal.τ).loc Cert.ReferenceOptmetaIdeal.main_arg0)
          ∧ r.2.mem ((c.tc : Thread Cert.ReferenceOptmetaIdeal.nD Cert.ReferenceOptmetaIdeal.τ).loc Cert.ReferenceOptmetaIdeal.main_arg1) = m' ((c.tc : Thread Cert.ReferenceOptmetaIdeal.nD Cert.ReferenceOptmetaIdeal.τ).loc Cert.ReferenceOptmetaIdeal.main_arg1)
          ∧ r.2.mem ((c.tc : Thread Cert.ReferenceOptmetaIdeal.nD Cert.ReferenceOptmetaIdeal.τ).loc Cert.ReferenceOptmetaIdeal.main_arg2) = m' ((c.tc : Thread Cert.ReferenceOptmetaIdeal.nD Cert.ReferenceOptmetaIdeal.τ).loc Cert.ReferenceOptmetaIdeal.main_arg2)
          ∧ r.2.mem ((c.tc : Thread Cert.ReferenceOptmetaIdeal.nD Cert.ReferenceOptmetaIdeal.τ).loc Cert.ReferenceOptmetaIdeal.main_arg3) = m' ((c.tc : Thread Cert.ReferenceOptmetaIdeal.nD Cert.ReferenceOptmetaIdeal.τ).loc Cert.ReferenceOptmetaIdeal.main_arg3))

def preserves_KernelOptconv_KernelOptconvIdeal : Prop :=
  True

def algebraic_KernelOptconvIdeal_ReferenceOptconvIdeal [hKernelOptconvIdeal : Cert.KernelOptconvIdeal.Facts] [hReferenceOptconvIdeal : Cert.ReferenceOptconvIdeal.Facts] : Prop :=
  ∀ (m : (ℓ : Loc Cert.KernelOptconvIdeal.nD Cert.KernelOptconvIdeal.τ Cert.KernelOptconvIdeal.sig) → Buf (Elt Ideal) ℓ) (g : Dev Cert.KernelOptconvIdeal.nD → PrngReg)
    (m' : (ℓ : Loc Cert.ReferenceOptconvIdeal.nD Cert.ReferenceOptconvIdeal.τ Cert.ReferenceOptconvIdeal.sig) → Buf (Elt Ideal) ℓ) (g' : Dev Cert.ReferenceOptconvIdeal.nD → PrngReg), Pre_KernelOptconvIdeal m →
    (∀ c : Dev Cert.KernelOptconvIdeal.nD,
      m' ((c.tc : Thread Cert.ReferenceOptconvIdeal.nD Cert.ReferenceOptconvIdeal.τ).loc Cert.ReferenceOptconvIdeal.main_arg0) = m ((c.tc : Thread Cert.KernelOptconvIdeal.nD Cert.KernelOptconvIdeal.τ).loc Cert.KernelOptconvIdeal.main_arg0)
      ∧ m' ((c.tc : Thread Cert.ReferenceOptconvIdeal.nD Cert.ReferenceOptconvIdeal.τ).loc Cert.ReferenceOptconvIdeal.main_arg1) = m ((c.tc : Thread Cert.KernelOptconvIdeal.nD Cert.KernelOptconvIdeal.τ).loc Cert.KernelOptconvIdeal.main_arg1)
      ∧ m' ((c.tc : Thread Cert.ReferenceOptconvIdeal.nD Cert.ReferenceOptconvIdeal.τ).loc Cert.ReferenceOptconvIdeal.main_arg2) = m ((c.tc : Thread Cert.KernelOptconvIdeal.nD Cert.KernelOptconvIdeal.τ).loc Cert.KernelOptconvIdeal.main_arg2)
      ∧ m' ((c.tc : Thread Cert.ReferenceOptconvIdeal.nD Cert.ReferenceOptconvIdeal.τ).loc Cert.ReferenceOptconvIdeal.main_arg3) = m ((c.tc : Thread Cert.KernelOptconvIdeal.nD Cert.KernelOptconvIdeal.τ).loc Cert.KernelOptconvIdeal.main_arg3)) →
    ∃ (v0 : (c : Dev Cert.KernelOptconvIdeal.nD) → Buf (Elt Ideal) ((c.tc : Thread Cert.KernelOptconvIdeal.nD Cert.KernelOptconvIdeal.τ).loc Cert.KernelOptconvIdeal.main_v0_0)) (v1 : (c : Dev Cert.KernelOptconvIdeal.nD) → Buf (Elt Ideal) ((c.tc : Thread Cert.KernelOptconvIdeal.nD Cert.KernelOptconvIdeal.τ).loc Cert.KernelOptconvIdeal.main_v0_1)) (v2 : (c : Dev Cert.KernelOptconvIdeal.nD) → Buf (Elt Ideal) ((c.tc : Thread Cert.KernelOptconvIdeal.nD Cert.KernelOptconvIdeal.τ).loc Cert.KernelOptconvIdeal.main_v0_2)) (v3 : (c : Dev Cert.KernelOptconvIdeal.nD) → Buf (Elt Ideal) ((c.tc : Thread Cert.KernelOptconvIdeal.nD Cert.KernelOptconvIdeal.τ).loc Cert.KernelOptconvIdeal.main_v0_3)),
      θ_run (Cert.KernelOptconvIdeal.defs (F := Ideal)) (onTc (τ := Cert.KernelOptconvIdeal.τ) (Cert.KernelOptconvIdeal.main (F := Ideal))) ⟨m, fun _ => 0, g⟩ (fun r => ∀ c : Dev Cert.KernelOptconvIdeal.nD,
          r.2.mem ((c.tc : Thread Cert.KernelOptconvIdeal.nD Cert.KernelOptconvIdeal.τ).loc Cert.KernelOptconvIdeal.main_v0_0) = v0 c
          ∧ r.2.mem ((c.tc : Thread Cert.KernelOptconvIdeal.nD Cert.KernelOptconvIdeal.τ).loc Cert.KernelOptconvIdeal.main_v0_1) = v1 c
          ∧ r.2.mem ((c.tc : Thread Cert.KernelOptconvIdeal.nD Cert.KernelOptconvIdeal.τ).loc Cert.KernelOptconvIdeal.main_v0_2) = v2 c
          ∧ r.2.mem ((c.tc : Thread Cert.KernelOptconvIdeal.nD Cert.KernelOptconvIdeal.τ).loc Cert.KernelOptconvIdeal.main_v0_3) = v3 c
          ∧ r.2.mem ((c.tc : Thread Cert.KernelOptconvIdeal.nD Cert.KernelOptconvIdeal.τ).loc Cert.KernelOptconvIdeal.main_arg0) = m ((c.tc : Thread Cert.KernelOptconvIdeal.nD Cert.KernelOptconvIdeal.τ).loc Cert.KernelOptconvIdeal.main_arg0)
          ∧ r.2.mem ((c.tc : Thread Cert.KernelOptconvIdeal.nD Cert.KernelOptconvIdeal.τ).loc Cert.KernelOptconvIdeal.main_arg1) = m ((c.tc : Thread Cert.KernelOptconvIdeal.nD Cert.KernelOptconvIdeal.τ).loc Cert.KernelOptconvIdeal.main_arg1)
          ∧ r.2.mem ((c.tc : Thread Cert.KernelOptconvIdeal.nD Cert.KernelOptconvIdeal.τ).loc Cert.KernelOptconvIdeal.main_arg2) = m ((c.tc : Thread Cert.KernelOptconvIdeal.nD Cert.KernelOptconvIdeal.τ).loc Cert.KernelOptconvIdeal.main_arg2)
          ∧ r.2.mem ((c.tc : Thread Cert.KernelOptconvIdeal.nD Cert.KernelOptconvIdeal.τ).loc Cert.KernelOptconvIdeal.main_arg3) = m ((c.tc : Thread Cert.KernelOptconvIdeal.nD Cert.KernelOptconvIdeal.τ).loc Cert.KernelOptconvIdeal.main_arg3))
      ∧ θ_run (Cert.ReferenceOptconvIdeal.defs (F := Ideal)) (onTc (τ := Cert.ReferenceOptconvIdeal.τ) (Cert.ReferenceOptconvIdeal.main (F := Ideal))) ⟨m', fun _ => 0, g'⟩ (fun r => ∀ c : Dev Cert.ReferenceOptconvIdeal.nD,
          r.2.mem ((c.tc : Thread Cert.ReferenceOptconvIdeal.nD Cert.ReferenceOptconvIdeal.τ).loc Cert.ReferenceOptconvIdeal.main_arg0) = v0 c
          ∧ r.2.mem ((c.tc : Thread Cert.ReferenceOptconvIdeal.nD Cert.ReferenceOptconvIdeal.τ).loc Cert.ReferenceOptconvIdeal.main_v23) = v1 c
          ∧ r.2.mem ((c.tc : Thread Cert.ReferenceOptconvIdeal.nD Cert.ReferenceOptconvIdeal.τ).loc Cert.ReferenceOptconvIdeal.main_v4) = v2 c
          ∧ r.2.mem ((c.tc : Thread Cert.ReferenceOptconvIdeal.nD Cert.ReferenceOptconvIdeal.τ).loc Cert.ReferenceOptconvIdeal.main_v10) = v3 c
          ∧ r.2.mem ((c.tc : Thread Cert.ReferenceOptconvIdeal.nD Cert.ReferenceOptconvIdeal.τ).loc Cert.ReferenceOptconvIdeal.main_arg0) = m' ((c.tc : Thread Cert.ReferenceOptconvIdeal.nD Cert.ReferenceOptconvIdeal.τ).loc Cert.ReferenceOptconvIdeal.main_arg0)
          ∧ r.2.mem ((c.tc : Thread Cert.ReferenceOptconvIdeal.nD Cert.ReferenceOptconvIdeal.τ).loc Cert.ReferenceOptconvIdeal.main_arg1) = m' ((c.tc : Thread Cert.ReferenceOptconvIdeal.nD Cert.ReferenceOptconvIdeal.τ).loc Cert.ReferenceOptconvIdeal.main_arg1)
          ∧ r.2.mem ((c.tc : Thread Cert.ReferenceOptconvIdeal.nD Cert.ReferenceOptconvIdeal.τ).loc Cert.ReferenceOptconvIdeal.main_arg2) = m' ((c.tc : Thread Cert.ReferenceOptconvIdeal.nD Cert.ReferenceOptconvIdeal.τ).loc Cert.ReferenceOptconvIdeal.main_arg2)
          ∧ r.2.mem ((c.tc : Thread Cert.ReferenceOptconvIdeal.nD Cert.ReferenceOptconvIdeal.τ).loc Cert.ReferenceOptconvIdeal.main_arg3) = m' ((c.tc : Thread Cert.ReferenceOptconvIdeal.nD Cert.ReferenceOptconvIdeal.τ).loc Cert.ReferenceOptconvIdeal.main_arg3))

def preserves_KernelOptflat_KernelOptflatIdeal : Prop :=
  True

def algebraic_KernelOptflatIdeal_ReferenceOptflatIdeal [hKernelOptflatIdeal : Cert.KernelOptflatIdeal.Facts] [hReferenceOptflatIdeal : Cert.ReferenceOptflatIdeal.Facts] : Prop :=
  ∀ (m : (ℓ : Loc Cert.KernelOptflatIdeal.nD Cert.KernelOptflatIdeal.τ Cert.KernelOptflatIdeal.sig) → Buf (Elt Ideal) ℓ) (g : Dev Cert.KernelOptflatIdeal.nD → PrngReg)
    (m' : (ℓ : Loc Cert.ReferenceOptflatIdeal.nD Cert.ReferenceOptflatIdeal.τ Cert.ReferenceOptflatIdeal.sig) → Buf (Elt Ideal) ℓ) (g' : Dev Cert.ReferenceOptflatIdeal.nD → PrngReg), Pre_KernelOptflatIdeal m →
    (∀ c : Dev Cert.KernelOptflatIdeal.nD,
      m' ((c.tc : Thread Cert.ReferenceOptflatIdeal.nD Cert.ReferenceOptflatIdeal.τ).loc Cert.ReferenceOptflatIdeal.main_arg0) = m ((c.tc : Thread Cert.KernelOptflatIdeal.nD Cert.KernelOptflatIdeal.τ).loc Cert.KernelOptflatIdeal.main_arg0)
      ∧ m' ((c.tc : Thread Cert.ReferenceOptflatIdeal.nD Cert.ReferenceOptflatIdeal.τ).loc Cert.ReferenceOptflatIdeal.main_arg1) = m ((c.tc : Thread Cert.KernelOptflatIdeal.nD Cert.KernelOptflatIdeal.τ).loc Cert.KernelOptflatIdeal.main_arg1)
      ∧ m' ((c.tc : Thread Cert.ReferenceOptflatIdeal.nD Cert.ReferenceOptflatIdeal.τ).loc Cert.ReferenceOptflatIdeal.main_arg2) = m ((c.tc : Thread Cert.KernelOptflatIdeal.nD Cert.KernelOptflatIdeal.τ).loc Cert.KernelOptflatIdeal.main_arg2)
      ∧ m' ((c.tc : Thread Cert.ReferenceOptflatIdeal.nD Cert.ReferenceOptflatIdeal.τ).loc Cert.ReferenceOptflatIdeal.main_arg3) = m ((c.tc : Thread Cert.KernelOptflatIdeal.nD Cert.KernelOptflatIdeal.τ).loc Cert.KernelOptflatIdeal.main_arg3)) →
    ∃ (v0 : (c : Dev Cert.KernelOptflatIdeal.nD) → Buf (Elt Ideal) ((c.tc : Thread Cert.KernelOptflatIdeal.nD Cert.KernelOptflatIdeal.τ).loc Cert.KernelOptflatIdeal.main_v0_0)) (v1 : (c : Dev Cert.KernelOptflatIdeal.nD) → Buf (Elt Ideal) ((c.tc : Thread Cert.KernelOptflatIdeal.nD Cert.KernelOptflatIdeal.τ).loc Cert.KernelOptflatIdeal.main_v0_1)) (v2 : (c : Dev Cert.KernelOptflatIdeal.nD) → Buf (Elt Ideal) ((c.tc : Thread Cert.KernelOptflatIdeal.nD Cert.KernelOptflatIdeal.τ).loc Cert.KernelOptflatIdeal.main_v0_2)) (v3 : (c : Dev Cert.KernelOptflatIdeal.nD) → Buf (Elt Ideal) ((c.tc : Thread Cert.KernelOptflatIdeal.nD Cert.KernelOptflatIdeal.τ).loc Cert.KernelOptflatIdeal.main_v0_3)),
      θ_run (Cert.KernelOptflatIdeal.defs (F := Ideal)) (onTc (τ := Cert.KernelOptflatIdeal.τ) (Cert.KernelOptflatIdeal.main (F := Ideal))) ⟨m, fun _ => 0, g⟩ (fun r => ∀ c : Dev Cert.KernelOptflatIdeal.nD,
          r.2.mem ((c.tc : Thread Cert.KernelOptflatIdeal.nD Cert.KernelOptflatIdeal.τ).loc Cert.KernelOptflatIdeal.main_v0_0) = v0 c
          ∧ r.2.mem ((c.tc : Thread Cert.KernelOptflatIdeal.nD Cert.KernelOptflatIdeal.τ).loc Cert.KernelOptflatIdeal.main_v0_1) = v1 c
          ∧ r.2.mem ((c.tc : Thread Cert.KernelOptflatIdeal.nD Cert.KernelOptflatIdeal.τ).loc Cert.KernelOptflatIdeal.main_v0_2) = v2 c
          ∧ r.2.mem ((c.tc : Thread Cert.KernelOptflatIdeal.nD Cert.KernelOptflatIdeal.τ).loc Cert.KernelOptflatIdeal.main_v0_3) = v3 c
          ∧ r.2.mem ((c.tc : Thread Cert.KernelOptflatIdeal.nD Cert.KernelOptflatIdeal.τ).loc Cert.KernelOptflatIdeal.main_arg0) = m ((c.tc : Thread Cert.KernelOptflatIdeal.nD Cert.KernelOptflatIdeal.τ).loc Cert.KernelOptflatIdeal.main_arg0)
          ∧ r.2.mem ((c.tc : Thread Cert.KernelOptflatIdeal.nD Cert.KernelOptflatIdeal.τ).loc Cert.KernelOptflatIdeal.main_arg1) = m ((c.tc : Thread Cert.KernelOptflatIdeal.nD Cert.KernelOptflatIdeal.τ).loc Cert.KernelOptflatIdeal.main_arg1)
          ∧ r.2.mem ((c.tc : Thread Cert.KernelOptflatIdeal.nD Cert.KernelOptflatIdeal.τ).loc Cert.KernelOptflatIdeal.main_arg2) = m ((c.tc : Thread Cert.KernelOptflatIdeal.nD Cert.KernelOptflatIdeal.τ).loc Cert.KernelOptflatIdeal.main_arg2)
          ∧ r.2.mem ((c.tc : Thread Cert.KernelOptflatIdeal.nD Cert.KernelOptflatIdeal.τ).loc Cert.KernelOptflatIdeal.main_arg3) = m ((c.tc : Thread Cert.KernelOptflatIdeal.nD Cert.KernelOptflatIdeal.τ).loc Cert.KernelOptflatIdeal.main_arg3))
      ∧ θ_run (Cert.ReferenceOptflatIdeal.defs (F := Ideal)) (onTc (τ := Cert.ReferenceOptflatIdeal.τ) (Cert.ReferenceOptflatIdeal.main (F := Ideal))) ⟨m', fun _ => 0, g'⟩ (fun r => ∀ c : Dev Cert.ReferenceOptflatIdeal.nD,
          r.2.mem ((c.tc : Thread Cert.ReferenceOptflatIdeal.nD Cert.ReferenceOptflatIdeal.τ).loc Cert.ReferenceOptflatIdeal.main_arg0) = v0 c
          ∧ r.2.mem ((c.tc : Thread Cert.ReferenceOptflatIdeal.nD Cert.ReferenceOptflatIdeal.τ).loc Cert.ReferenceOptflatIdeal.main_v23) = v1 c
          ∧ r.2.mem ((c.tc : Thread Cert.ReferenceOptflatIdeal.nD Cert.ReferenceOptflatIdeal.τ).loc Cert.ReferenceOptflatIdeal.main_v4) = v2 c
          ∧ r.2.mem ((c.tc : Thread Cert.ReferenceOptflatIdeal.nD Cert.ReferenceOptflatIdeal.τ).loc Cert.ReferenceOptflatIdeal.main_v10) = v3 c
          ∧ r.2.mem ((c.tc : Thread Cert.ReferenceOptflatIdeal.nD Cert.ReferenceOptflatIdeal.τ).loc Cert.ReferenceOptflatIdeal.main_arg0) = m' ((c.tc : Thread Cert.ReferenceOptflatIdeal.nD Cert.ReferenceOptflatIdeal.τ).loc Cert.ReferenceOptflatIdeal.main_arg0)
          ∧ r.2.mem ((c.tc : Thread Cert.ReferenceOptflatIdeal.nD Cert.ReferenceOptflatIdeal.τ).loc Cert.ReferenceOptflatIdeal.main_arg1) = m' ((c.tc : Thread Cert.ReferenceOptflatIdeal.nD Cert.ReferenceOptflatIdeal.τ).loc Cert.ReferenceOptflatIdeal.main_arg1)
          ∧ r.2.mem ((c.tc : Thread Cert.ReferenceOptflatIdeal.nD Cert.ReferenceOptflatIdeal.τ).loc Cert.ReferenceOptflatIdeal.main_arg2) = m' ((c.tc : Thread Cert.ReferenceOptflatIdeal.nD Cert.ReferenceOptflatIdeal.τ).loc Cert.ReferenceOptflatIdeal.main_arg2)
          ∧ r.2.mem ((c.tc : Thread Cert.ReferenceOptflatIdeal.nD Cert.ReferenceOptflatIdeal.τ).loc Cert.ReferenceOptflatIdeal.main_arg3) = m' ((c.tc : Thread Cert.ReferenceOptflatIdeal.nD Cert.ReferenceOptflatIdeal.τ).loc Cert.ReferenceOptflatIdeal.main_arg3))

def preserves_KernelDx_KernelDxIdeal : Prop :=
  True

def algebraic_KernelDxIdeal_ReferenceDxIdeal [hKernelDxIdeal : Cert.KernelDxIdeal.Facts] [hReferenceDxIdeal : Cert.ReferenceDxIdeal.Facts] : Prop :=
  ∀ (m : (ℓ : Loc Cert.KernelDxIdeal.nD Cert.KernelDxIdeal.τ Cert.KernelDxIdeal.sig) → Buf (Elt Ideal) ℓ) (g : Dev Cert.KernelDxIdeal.nD → PrngReg)
    (m' : (ℓ : Loc Cert.ReferenceDxIdeal.nD Cert.ReferenceDxIdeal.τ Cert.ReferenceDxIdeal.sig) → Buf (Elt Ideal) ℓ) (g' : Dev Cert.ReferenceDxIdeal.nD → PrngReg), Pre_KernelDxIdeal m →
    (∀ c : Dev Cert.KernelDxIdeal.nD,
      m' ((c.tc : Thread Cert.ReferenceDxIdeal.nD Cert.ReferenceDxIdeal.τ).loc Cert.ReferenceDxIdeal.main_arg0) = m ((c.tc : Thread Cert.KernelDxIdeal.nD Cert.KernelDxIdeal.τ).loc Cert.KernelDxIdeal.main_arg0)
      ∧ m' ((c.tc : Thread Cert.ReferenceDxIdeal.nD Cert.ReferenceDxIdeal.τ).loc Cert.ReferenceDxIdeal.main_arg1) = m ((c.tc : Thread Cert.KernelDxIdeal.nD Cert.KernelDxIdeal.τ).loc Cert.KernelDxIdeal.main_arg1)) →
    ∃ (v0 : (c : Dev Cert.KernelDxIdeal.nD) → Buf (Elt Ideal) ((c.tc : Thread Cert.KernelDxIdeal.nD Cert.KernelDxIdeal.τ).loc Cert.KernelDxIdeal.main_v0)),
      θ_run (Cert.KernelDxIdeal.defs (F := Ideal)) (onTc (τ := Cert.KernelDxIdeal.τ) (Cert.KernelDxIdeal.main (F := Ideal))) ⟨m, fun _ => 0, g⟩ (fun r => ∀ c : Dev Cert.KernelDxIdeal.nD,
          r.2.mem ((c.tc : Thread Cert.KernelDxIdeal.nD Cert.KernelDxIdeal.τ).loc Cert.KernelDxIdeal.main_v0) = v0 c
          ∧ r.2.mem ((c.tc : Thread Cert.KernelDxIdeal.nD Cert.KernelDxIdeal.τ).loc Cert.KernelDxIdeal.main_arg0) = m ((c.tc : Thread Cert.KernelDxIdeal.nD Cert.KernelDxIdeal.τ).loc Cert.KernelDxIdeal.main_arg0)
          ∧ r.2.mem ((c.tc : Thread Cert.KernelDxIdeal.nD Cert.KernelDxIdeal.τ).loc Cert.KernelDxIdeal.main_arg1) = m ((c.tc : Thread Cert.KernelDxIdeal.nD Cert.KernelDxIdeal.τ).loc Cert.KernelDxIdeal.main_arg1))
      ∧ θ_run (Cert.ReferenceDxIdeal.defs (F := Ideal)) (onTc (τ := Cert.ReferenceDxIdeal.τ) (Cert.ReferenceDxIdeal.main (F := Ideal))) ⟨m', fun _ => 0, g'⟩ (fun r => ∀ c : Dev Cert.ReferenceDxIdeal.nD,
          r.2.mem ((c.tc : Thread Cert.ReferenceDxIdeal.nD Cert.ReferenceDxIdeal.τ).loc Cert.ReferenceDxIdeal.main_v2) = v0 c
          ∧ r.2.mem ((c.tc : Thread Cert.ReferenceDxIdeal.nD Cert.ReferenceDxIdeal.τ).loc Cert.ReferenceDxIdeal.main_arg0) = m' ((c.tc : Thread Cert.ReferenceDxIdeal.nD Cert.ReferenceDxIdeal.τ).loc Cert.ReferenceDxIdeal.main_arg0)
          ∧ r.2.mem ((c.tc : Thread Cert.ReferenceDxIdeal.nD Cert.ReferenceDxIdeal.τ).loc Cert.ReferenceDxIdeal.main_arg1) = m' ((c.tc : Thread Cert.ReferenceDxIdeal.nD Cert.ReferenceDxIdeal.τ).loc Cert.ReferenceDxIdeal.main_arg1))

def Claim : Prop :=
  ∃ (hKernelGate : Cert.KernelGate.Facts) (hKernelGateIdeal : Cert.KernelGateIdeal.Facts) (hReferenceGateIdeal : Cert.ReferenceGateIdeal.Facts) (hKernelDact : Cert.KernelDact.Facts) (hKernelDactIdeal : Cert.KernelDactIdeal.Facts) (hReferenceDactIdeal : Cert.ReferenceDactIdeal.Facts) (hKernelDwdown : Cert.KernelDwdown.Facts) (hKernelDwdownIdeal : Cert.KernelDwdownIdeal.Facts) (hReferenceDwdownIdeal : Cert.ReferenceDwdownIdeal.Facts) (hKernelDh : Cert.KernelDh.Facts) (hKernelDhIdeal : Cert.KernelDhIdeal.Facts) (hReferenceDhIdeal : Cert.ReferenceDhIdeal.Facts) (hKernelDwgu : Cert.KernelDwgu.Facts) (hKernelDwguIdeal : Cert.KernelDwguIdeal.Facts) (hReferenceDwguIdeal : Cert.ReferenceDwguIdeal.Facts) (hKernelGu : Cert.KernelGu.Facts) (hKernelGuIdeal : Cert.KernelGuIdeal.Facts) (hReferenceGuIdeal : Cert.ReferenceGuIdeal.Facts) (hKernelDown : Cert.KernelDown.Facts) (hKernelDownIdeal : Cert.KernelDownIdeal.Facts) (hReferenceDownIdeal : Cert.ReferenceDownIdeal.Facts) (hKernelOut : Cert.KernelOut.Facts) (hKernelOutIdeal : Cert.KernelOutIdeal.Facts) (hReferenceOutIdeal : Cert.ReferenceOutIdeal.Facts) (hKernelDwout : Cert.KernelDwout.Facts) (hKernelDwoutIdeal : Cert.KernelDwoutIdeal.Facts) (hReferenceDwoutIdeal : Cert.ReferenceDwoutIdeal.Facts) (hKernelDyn : Cert.KernelDyn.Facts) (hKernelDynIdeal : Cert.KernelDynIdeal.Facts) (hReferenceDynIdeal : Cert.ReferenceDynIdeal.Facts) (hKernelIn : Cert.KernelIn.Facts) (hKernelInIdeal : Cert.KernelInIdeal.Facts) (hReferenceInIdeal : Cert.ReferenceInIdeal.Facts) (hKernelDwin : Cert.KernelDwin.Facts) (hKernelDwinIdeal : Cert.KernelDwinIdeal.Facts) (hReferenceDwinIdeal : Cert.ReferenceDwinIdeal.Facts) (hKernelDhin : Cert.KernelDhin.Facts) (hKernelDhinIdeal : Cert.KernelDhinIdeal.Facts) (hReferenceDhinIdeal : Cert.ReferenceDhinIdeal.Facts) (hKernelLin : Cert.KernelLin.Facts) (hKernelLinIdeal : Cert.KernelLinIdeal.Facts) (hReferenceLinIdeal : Cert.ReferenceLinIdeal.Facts) (hKernelDlwin : Cert.KernelDlwin.Facts) (hKernelDlwinIdeal : Cert.KernelDlwinIdeal.Facts) (hReferenceDlwinIdeal : Cert.ReferenceDlwinIdeal.Facts) (hKernelDlh : Cert.KernelDlh.Facts) (hKernelDlhIdeal : Cert.KernelDlhIdeal.Facts) (hReferenceDlhIdeal : Cert.ReferenceDlhIdeal.Facts) (hKernelLout : Cert.KernelLout.Facts) (hKernelLoutIdeal : Cert.KernelLoutIdeal.Facts) (hReferenceLoutIdeal : Cert.ReferenceLoutIdeal.Facts) (hKernelDlwout : Cert.KernelDlwout.Facts) (hKernelDlwoutIdeal : Cert.KernelDlwoutIdeal.Facts) (hReferenceDlwoutIdeal : Cert.ReferenceDlwoutIdeal.Facts) (hKernelDmix : Cert.KernelDmix.Facts) (hKernelDmixIdeal : Cert.KernelDmixIdeal.Facts) (hReferenceDmixIdeal : Cert.ReferenceDmixIdeal.Facts) (hKernelDln : Cert.KernelDln.Facts) (hKernelDlnIdeal : Cert.KernelDlnIdeal.Facts) (hReferenceDlnIdeal : Cert.ReferenceDlnIdeal.Facts) (hKernelLn : Cert.KernelLn.Facts) (hKernelLnIdeal : Cert.KernelLnIdeal.Facts) (hReferenceLnIdeal : Cert.ReferenceLnIdeal.Facts) (hKernelAct : Cert.KernelAct.Facts) (hKernelActIdeal : Cert.KernelActIdeal.Facts) (hReferenceActIdeal : Cert.ReferenceActIdeal.Facts) (hKernelOptgu : Cert.KernelOptgu.Facts) (hKernelOptguIdeal : Cert.KernelOptguIdeal.Facts) (hReferenceOptguIdeal : Cert.ReferenceOptguIdeal.Facts) (hKernelOptdown : Cert.KernelOptdown.Facts) (hKernelOptdownIdeal : Cert.KernelOptdownIdeal.Facts) (hReferenceOptdownIdeal : Cert.ReferenceOptdownIdeal.Facts) (hKernelOptin : Cert.KernelOptin.Facts) (hKernelOptinIdeal : Cert.KernelOptinIdeal.Facts) (hReferenceOptinIdeal : Cert.ReferenceOptinIdeal.Facts) (hKernelOptout : Cert.KernelOptout.Facts) (hKernelOptoutIdeal : Cert.KernelOptoutIdeal.Facts) (hReferenceOptoutIdeal : Cert.ReferenceOptoutIdeal.Facts) (hKernelOptlin : Cert.KernelOptlin.Facts) (hKernelOptlinIdeal : Cert.KernelOptlinIdeal.Facts) (hReferenceOptlinIdeal : Cert.ReferenceOptlinIdeal.Facts) (hKernelOptlout : Cert.KernelOptlout.Facts) (hKernelOptloutIdeal : Cert.KernelOptloutIdeal.Facts) (hReferenceOptloutIdeal : Cert.ReferenceOptloutIdeal.Facts) (hKernelOptglu : Cert.KernelOptglu.Facts) (hKernelOptgluIdeal : Cert.KernelOptgluIdeal.Facts) (hReferenceOptgluIdeal : Cert.ReferenceOptgluIdeal.Facts) (hKernelOptuq : Cert.KernelOptuq.Facts) (hKernelOptuqIdeal : Cert.KernelOptuqIdeal.Facts) (hReferenceOptuqIdeal : Cert.ReferenceOptuqIdeal.Facts) (hKernelOptukv : Cert.KernelOptukv.Facts) (hKernelOptukvIdeal : Cert.KernelOptukvIdeal.Facts) (hReferenceOptukvIdeal : Cert.ReferenceOptukvIdeal.Facts) (hKernelOptmeta : Cert.KernelOptmeta.Facts) (hKernelOptmetaIdeal : Cert.KernelOptmetaIdeal.Facts) (hReferenceOptmetaIdeal : Cert.ReferenceOptmetaIdeal.Facts) (hKernelOptconv : Cert.KernelOptconv.Facts) (hKernelOptconvIdeal : Cert.KernelOptconvIdeal.Facts) (hReferenceOptconvIdeal : Cert.ReferenceOptconvIdeal.Facts) (hKernelOptflat : Cert.KernelOptflat.Facts) (hKernelOptflatIdeal : Cert.KernelOptflatIdeal.Facts) (hReferenceOptflatIdeal : Cert.ReferenceOptflatIdeal.Facts) (hKernelDx : Cert.KernelDx.Facts) (hKernelDxIdeal : Cert.KernelDxIdeal.Facts) (hReferenceDxIdeal : Cert.ReferenceDxIdeal.Facts) (hPre_finite : Cert.Pre_finite.Facts) (hPre_finite_grad : Cert.Pre_finite_grad.Facts),
    quiescent_KernelGate (hKernelGate := hKernelGate)
    ∧ quiescent_KernelGateIdeal (hKernelGateIdeal := hKernelGateIdeal)
    ∧ quiescent_KernelGateIdeal_pre_finite (hKernelGateIdeal := hKernelGateIdeal) (hPre_finite := hPre_finite)
    ∧ quiescent_ReferenceGateIdeal (hReferenceGateIdeal := hReferenceGateIdeal)
    ∧ quiescent_ReferenceGateIdeal_pre_finite (hReferenceGateIdeal := hReferenceGateIdeal) (hPre_finite := hPre_finite)
    ∧ quiescent_KernelDact (hKernelDact := hKernelDact)
    ∧ quiescent_KernelDactIdeal (hKernelDactIdeal := hKernelDactIdeal)
    ∧ quiescent_ReferenceDactIdeal (hReferenceDactIdeal := hReferenceDactIdeal)
    ∧ quiescent_KernelDwdown (hKernelDwdown := hKernelDwdown)
    ∧ quiescent_KernelDwdownIdeal (hKernelDwdownIdeal := hKernelDwdownIdeal)
    ∧ quiescent_ReferenceDwdownIdeal (hReferenceDwdownIdeal := hReferenceDwdownIdeal)
    ∧ quiescent_KernelDh (hKernelDh := hKernelDh)
    ∧ quiescent_KernelDhIdeal (hKernelDhIdeal := hKernelDhIdeal)
    ∧ quiescent_ReferenceDhIdeal (hReferenceDhIdeal := hReferenceDhIdeal)
    ∧ quiescent_KernelDwgu (hKernelDwgu := hKernelDwgu)
    ∧ quiescent_KernelDwguIdeal (hKernelDwguIdeal := hKernelDwguIdeal)
    ∧ quiescent_ReferenceDwguIdeal (hReferenceDwguIdeal := hReferenceDwguIdeal)
    ∧ quiescent_KernelGu (hKernelGu := hKernelGu)
    ∧ quiescent_KernelGuIdeal (hKernelGuIdeal := hKernelGuIdeal)
    ∧ quiescent_ReferenceGuIdeal (hReferenceGuIdeal := hReferenceGuIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelDwout (hKernelDwout := hKernelDwout)
    ∧ quiescent_KernelDwoutIdeal (hKernelDwoutIdeal := hKernelDwoutIdeal)
    ∧ quiescent_ReferenceDwoutIdeal (hReferenceDwoutIdeal := hReferenceDwoutIdeal)
    ∧ quiescent_KernelDyn (hKernelDyn := hKernelDyn)
    ∧ quiescent_KernelDynIdeal (hKernelDynIdeal := hKernelDynIdeal)
    ∧ quiescent_ReferenceDynIdeal (hReferenceDynIdeal := hReferenceDynIdeal)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelDwin (hKernelDwin := hKernelDwin)
    ∧ quiescent_KernelDwinIdeal (hKernelDwinIdeal := hKernelDwinIdeal)
    ∧ quiescent_ReferenceDwinIdeal (hReferenceDwinIdeal := hReferenceDwinIdeal)
    ∧ quiescent_KernelDhin (hKernelDhin := hKernelDhin)
    ∧ quiescent_KernelDhinIdeal (hKernelDhinIdeal := hKernelDhinIdeal)
    ∧ quiescent_ReferenceDhinIdeal (hReferenceDhinIdeal := hReferenceDhinIdeal)
    ∧ quiescent_KernelLin (hKernelLin := hKernelLin)
    ∧ quiescent_KernelLinIdeal (hKernelLinIdeal := hKernelLinIdeal)
    ∧ quiescent_ReferenceLinIdeal (hReferenceLinIdeal := hReferenceLinIdeal)
    ∧ quiescent_KernelDlwin (hKernelDlwin := hKernelDlwin)
    ∧ quiescent_KernelDlwinIdeal (hKernelDlwinIdeal := hKernelDlwinIdeal)
    ∧ quiescent_ReferenceDlwinIdeal (hReferenceDlwinIdeal := hReferenceDlwinIdeal)
    ∧ quiescent_KernelDlh (hKernelDlh := hKernelDlh)
    ∧ quiescent_KernelDlhIdeal (hKernelDlhIdeal := hKernelDlhIdeal)
    ∧ quiescent_ReferenceDlhIdeal (hReferenceDlhIdeal := hReferenceDlhIdeal)
    ∧ quiescent_KernelLout (hKernelLout := hKernelLout)
    ∧ quiescent_KernelLoutIdeal (hKernelLoutIdeal := hKernelLoutIdeal)
    ∧ quiescent_ReferenceLoutIdeal (hReferenceLoutIdeal := hReferenceLoutIdeal)
    ∧ quiescent_KernelDlwout (hKernelDlwout := hKernelDlwout)
    ∧ quiescent_KernelDlwoutIdeal (hKernelDlwoutIdeal := hKernelDlwoutIdeal)
    ∧ quiescent_ReferenceDlwoutIdeal (hReferenceDlwoutIdeal := hReferenceDlwoutIdeal)
    ∧ quiescent_KernelDmix (hKernelDmix := hKernelDmix)
    ∧ quiescent_KernelDmixIdeal (hKernelDmixIdeal := hKernelDmixIdeal)
    ∧ quiescent_ReferenceDmixIdeal (hReferenceDmixIdeal := hReferenceDmixIdeal)
    ∧ quiescent_KernelDln (hKernelDln := hKernelDln)
    ∧ quiescent_KernelDlnIdeal (hKernelDlnIdeal := hKernelDlnIdeal)
    ∧ quiescent_KernelDlnIdeal_pre_finite_grad (hKernelDlnIdeal := hKernelDlnIdeal) (hPre_finite_grad := hPre_finite_grad)
    ∧ quiescent_ReferenceDlnIdeal (hReferenceDlnIdeal := hReferenceDlnIdeal)
    ∧ quiescent_ReferenceDlnIdeal_pre_finite_grad (hReferenceDlnIdeal := hReferenceDlnIdeal) (hPre_finite_grad := hPre_finite_grad)
    ∧ quiescent_KernelLn (hKernelLn := hKernelLn)
    ∧ quiescent_KernelLnIdeal (hKernelLnIdeal := hKernelLnIdeal)
    ∧ quiescent_ReferenceLnIdeal (hReferenceLnIdeal := hReferenceLnIdeal)
    ∧ quiescent_KernelAct (hKernelAct := hKernelAct)
    ∧ quiescent_KernelActIdeal (hKernelActIdeal := hKernelActIdeal)
    ∧ quiescent_ReferenceActIdeal (hReferenceActIdeal := hReferenceActIdeal)
    ∧ quiescent_KernelOptgu (hKernelOptgu := hKernelOptgu)
    ∧ quiescent_KernelOptguIdeal (hKernelOptguIdeal := hKernelOptguIdeal)
    ∧ quiescent_ReferenceOptguIdeal (hReferenceOptguIdeal := hReferenceOptguIdeal)
    ∧ quiescent_KernelOptdown (hKernelOptdown := hKernelOptdown)
    ∧ quiescent_KernelOptdownIdeal (hKernelOptdownIdeal := hKernelOptdownIdeal)
    ∧ quiescent_ReferenceOptdownIdeal (hReferenceOptdownIdeal := hReferenceOptdownIdeal)
    ∧ quiescent_KernelOptin (hKernelOptin := hKernelOptin)
    ∧ quiescent_KernelOptinIdeal (hKernelOptinIdeal := hKernelOptinIdeal)
    ∧ quiescent_ReferenceOptinIdeal (hReferenceOptinIdeal := hReferenceOptinIdeal)
    ∧ quiescent_KernelOptout (hKernelOptout := hKernelOptout)
    ∧ quiescent_KernelOptoutIdeal (hKernelOptoutIdeal := hKernelOptoutIdeal)
    ∧ quiescent_ReferenceOptoutIdeal (hReferenceOptoutIdeal := hReferenceOptoutIdeal)
    ∧ quiescent_KernelOptlin (hKernelOptlin := hKernelOptlin)
    ∧ quiescent_KernelOptlinIdeal (hKernelOptlinIdeal := hKernelOptlinIdeal)
    ∧ quiescent_ReferenceOptlinIdeal (hReferenceOptlinIdeal := hReferenceOptlinIdeal)
    ∧ quiescent_KernelOptlout (hKernelOptlout := hKernelOptlout)
    ∧ quiescent_KernelOptloutIdeal (hKernelOptloutIdeal := hKernelOptloutIdeal)
    ∧ quiescent_ReferenceOptloutIdeal (hReferenceOptloutIdeal := hReferenceOptloutIdeal)
    ∧ quiescent_KernelOptglu (hKernelOptglu := hKernelOptglu)
    ∧ quiescent_KernelOptgluIdeal (hKernelOptgluIdeal := hKernelOptgluIdeal)
    ∧ quiescent_ReferenceOptgluIdeal (hReferenceOptgluIdeal := hReferenceOptgluIdeal)
    ∧ quiescent_KernelOptuq (hKernelOptuq := hKernelOptuq)
    ∧ quiescent_KernelOptuqIdeal (hKernelOptuqIdeal := hKernelOptuqIdeal)
    ∧ quiescent_ReferenceOptuqIdeal (hReferenceOptuqIdeal := hReferenceOptuqIdeal)
    ∧ quiescent_KernelOptukv (hKernelOptukv := hKernelOptukv)
    ∧ quiescent_KernelOptukvIdeal (hKernelOptukvIdeal := hKernelOptukvIdeal)
    ∧ quiescent_ReferenceOptukvIdeal (hReferenceOptukvIdeal := hReferenceOptukvIdeal)
    ∧ quiescent_KernelOptmeta (hKernelOptmeta := hKernelOptmeta)
    ∧ quiescent_KernelOptmetaIdeal (hKernelOptmetaIdeal := hKernelOptmetaIdeal)
    ∧ quiescent_ReferenceOptmetaIdeal (hReferenceOptmetaIdeal := hReferenceOptmetaIdeal)
    ∧ quiescent_KernelOptconv (hKernelOptconv := hKernelOptconv)
    ∧ quiescent_KernelOptconvIdeal (hKernelOptconvIdeal := hKernelOptconvIdeal)
    ∧ quiescent_ReferenceOptconvIdeal (hReferenceOptconvIdeal := hReferenceOptconvIdeal)
    ∧ quiescent_KernelOptflat (hKernelOptflat := hKernelOptflat)
    ∧ quiescent_KernelOptflatIdeal (hKernelOptflatIdeal := hKernelOptflatIdeal)
    ∧ quiescent_ReferenceOptflatIdeal (hReferenceOptflatIdeal := hReferenceOptflatIdeal)
    ∧ quiescent_KernelDx (hKernelDx := hKernelDx)
    ∧ quiescent_KernelDxIdeal (hKernelDxIdeal := hKernelDxIdeal)
    ∧ quiescent_ReferenceDxIdeal (hReferenceDxIdeal := hReferenceDxIdeal)
    ∧ preserves_KernelGate_KernelGateIdeal
    ∧ algebraic_KernelGateIdeal_ReferenceGateIdeal_pre_finite (hKernelGateIdeal := hKernelGateIdeal) (hReferenceGateIdeal := hReferenceGateIdeal) (hPre_finite := hPre_finite)
    ∧ preserves_KernelDact_KernelDactIdeal
    ∧ algebraic_KernelDactIdeal_ReferenceDactIdeal (hKernelDactIdeal := hKernelDactIdeal) (hReferenceDactIdeal := hReferenceDactIdeal)
    ∧ preserves_KernelDwdown_KernelDwdownIdeal
    ∧ algebraic_KernelDwdownIdeal_ReferenceDwdownIdeal (hKernelDwdownIdeal := hKernelDwdownIdeal) (hReferenceDwdownIdeal := hReferenceDwdownIdeal)
    ∧ preserves_KernelDh_KernelDhIdeal
    ∧ algebraic_KernelDhIdeal_ReferenceDhIdeal (hKernelDhIdeal := hKernelDhIdeal) (hReferenceDhIdeal := hReferenceDhIdeal)
    ∧ preserves_KernelDwgu_KernelDwguIdeal
    ∧ algebraic_KernelDwguIdeal_ReferenceDwguIdeal (hKernelDwguIdeal := hKernelDwguIdeal) (hReferenceDwguIdeal := hReferenceDwguIdeal)
    ∧ preserves_KernelGu_KernelGuIdeal
    ∧ algebraic_KernelGuIdeal_ReferenceGuIdeal (hKernelGuIdeal := hKernelGuIdeal) (hReferenceGuIdeal := hReferenceGuIdeal)
    ∧ preserves_KernelDown_KernelDownIdeal
    ∧ algebraic_KernelDownIdeal_ReferenceDownIdeal (hKernelDownIdeal := hKernelDownIdeal) (hReferenceDownIdeal := hReferenceDownIdeal)
    ∧ preserves_KernelOut_KernelOutIdeal
    ∧ algebraic_KernelOutIdeal_ReferenceOutIdeal (hKernelOutIdeal := hKernelOutIdeal) (hReferenceOutIdeal := hReferenceOutIdeal)
    ∧ preserves_KernelDwout_KernelDwoutIdeal
    ∧ algebraic_KernelDwoutIdeal_ReferenceDwoutIdeal (hKernelDwoutIdeal := hKernelDwoutIdeal) (hReferenceDwoutIdeal := hReferenceDwoutIdeal)
    ∧ preserves_KernelDyn_KernelDynIdeal
    ∧ algebraic_KernelDynIdeal_ReferenceDynIdeal (hKernelDynIdeal := hKernelDynIdeal) (hReferenceDynIdeal := hReferenceDynIdeal)
    ∧ preserves_KernelIn_KernelInIdeal
    ∧ algebraic_KernelInIdeal_ReferenceInIdeal (hKernelInIdeal := hKernelInIdeal) (hReferenceInIdeal := hReferenceInIdeal)
    ∧ preserves_KernelDwin_KernelDwinIdeal
    ∧ algebraic_KernelDwinIdeal_ReferenceDwinIdeal (hKernelDwinIdeal := hKernelDwinIdeal) (hReferenceDwinIdeal := hReferenceDwinIdeal)
    ∧ preserves_KernelDhin_KernelDhinIdeal
    ∧ algebraic_KernelDhinIdeal_ReferenceDhinIdeal (hKernelDhinIdeal := hKernelDhinIdeal) (hReferenceDhinIdeal := hReferenceDhinIdeal)
    ∧ preserves_KernelLin_KernelLinIdeal
    ∧ algebraic_KernelLinIdeal_ReferenceLinIdeal (hKernelLinIdeal := hKernelLinIdeal) (hReferenceLinIdeal := hReferenceLinIdeal)
    ∧ preserves_KernelDlwin_KernelDlwinIdeal
    ∧ algebraic_KernelDlwinIdeal_ReferenceDlwinIdeal (hKernelDlwinIdeal := hKernelDlwinIdeal) (hReferenceDlwinIdeal := hReferenceDlwinIdeal)
    ∧ preserves_KernelDlh_KernelDlhIdeal
    ∧ algebraic_KernelDlhIdeal_ReferenceDlhIdeal (hKernelDlhIdeal := hKernelDlhIdeal) (hReferenceDlhIdeal := hReferenceDlhIdeal)
    ∧ preserves_KernelLout_KernelLoutIdeal
    ∧ algebraic_KernelLoutIdeal_ReferenceLoutIdeal (hKernelLoutIdeal := hKernelLoutIdeal) (hReferenceLoutIdeal := hReferenceLoutIdeal)
    ∧ preserves_KernelDlwout_KernelDlwoutIdeal
    ∧ algebraic_KernelDlwoutIdeal_ReferenceDlwoutIdeal (hKernelDlwoutIdeal := hKernelDlwoutIdeal) (hReferenceDlwoutIdeal := hReferenceDlwoutIdeal)
    ∧ preserves_KernelDmix_KernelDmixIdeal
    ∧ algebraic_KernelDmixIdeal_ReferenceDmixIdeal (hKernelDmixIdeal := hKernelDmixIdeal) (hReferenceDmixIdeal := hReferenceDmixIdeal)
    ∧ preserves_KernelDln_KernelDlnIdeal
    ∧ algebraic_KernelDlnIdeal_ReferenceDlnIdeal_pre_finite_grad (hKernelDlnIdeal := hKernelDlnIdeal) (hReferenceDlnIdeal := hReferenceDlnIdeal) (hPre_finite_grad := hPre_finite_grad)
    ∧ preserves_KernelLn_KernelLnIdeal
    ∧ algebraic_KernelLnIdeal_ReferenceLnIdeal (hKernelLnIdeal := hKernelLnIdeal) (hReferenceLnIdeal := hReferenceLnIdeal)
    ∧ preserves_KernelAct_KernelActIdeal
    ∧ algebraic_KernelActIdeal_ReferenceActIdeal (hKernelActIdeal := hKernelActIdeal) (hReferenceActIdeal := hReferenceActIdeal)
    ∧ preserves_KernelOptgu_KernelOptguIdeal
    ∧ algebraic_KernelOptguIdeal_ReferenceOptguIdeal (hKernelOptguIdeal := hKernelOptguIdeal) (hReferenceOptguIdeal := hReferenceOptguIdeal)
    ∧ preserves_KernelOptdown_KernelOptdownIdeal
    ∧ algebraic_KernelOptdownIdeal_ReferenceOptdownIdeal (hKernelOptdownIdeal := hKernelOptdownIdeal) (hReferenceOptdownIdeal := hReferenceOptdownIdeal)
    ∧ preserves_KernelOptin_KernelOptinIdeal
    ∧ algebraic_KernelOptinIdeal_ReferenceOptinIdeal (hKernelOptinIdeal := hKernelOptinIdeal) (hReferenceOptinIdeal := hReferenceOptinIdeal)
    ∧ preserves_KernelOptout_KernelOptoutIdeal
    ∧ algebraic_KernelOptoutIdeal_ReferenceOptoutIdeal (hKernelOptoutIdeal := hKernelOptoutIdeal) (hReferenceOptoutIdeal := hReferenceOptoutIdeal)
    ∧ preserves_KernelOptlin_KernelOptlinIdeal
    ∧ algebraic_KernelOptlinIdeal_ReferenceOptlinIdeal (hKernelOptlinIdeal := hKernelOptlinIdeal) (hReferenceOptlinIdeal := hReferenceOptlinIdeal)
    ∧ preserves_KernelOptlout_KernelOptloutIdeal
    ∧ algebraic_KernelOptloutIdeal_ReferenceOptloutIdeal (hKernelOptloutIdeal := hKernelOptloutIdeal) (hReferenceOptloutIdeal := hReferenceOptloutIdeal)
    ∧ preserves_KernelOptglu_KernelOptgluIdeal
    ∧ algebraic_KernelOptgluIdeal_ReferenceOptgluIdeal (hKernelOptgluIdeal := hKernelOptgluIdeal) (hReferenceOptgluIdeal := hReferenceOptgluIdeal)
    ∧ preserves_KernelOptuq_KernelOptuqIdeal
    ∧ algebraic_KernelOptuqIdeal_ReferenceOptuqIdeal (hKernelOptuqIdeal := hKernelOptuqIdeal) (hReferenceOptuqIdeal := hReferenceOptuqIdeal)
    ∧ preserves_KernelOptukv_KernelOptukvIdeal
    ∧ algebraic_KernelOptukvIdeal_ReferenceOptukvIdeal (hKernelOptukvIdeal := hKernelOptukvIdeal) (hReferenceOptukvIdeal := hReferenceOptukvIdeal)
    ∧ preserves_KernelOptmeta_KernelOptmetaIdeal
    ∧ algebraic_KernelOptmetaIdeal_ReferenceOptmetaIdeal (hKernelOptmetaIdeal := hKernelOptmetaIdeal) (hReferenceOptmetaIdeal := hReferenceOptmetaIdeal)
    ∧ preserves_KernelOptconv_KernelOptconvIdeal
    ∧ algebraic_KernelOptconvIdeal_ReferenceOptconvIdeal (hKernelOptconvIdeal := hKernelOptconvIdeal) (hReferenceOptconvIdeal := hReferenceOptconvIdeal)
    ∧ preserves_KernelOptflat_KernelOptflatIdeal
    ∧ algebraic_KernelOptflatIdeal_ReferenceOptflatIdeal (hKernelOptflatIdeal := hKernelOptflatIdeal) (hReferenceOptflatIdeal := hReferenceOptflatIdeal)
    ∧ preserves_KernelDx_KernelDxIdeal
    ∧ algebraic_KernelDxIdeal_ReferenceDxIdeal (hKernelDxIdeal := hKernelDxIdeal) (hReferenceDxIdeal := hReferenceDxIdeal)
-- ==== Pre_finite.lean ====
abbrev S8320x11264 : Shape := ⟨2, ![8320, 11264]⟩
abbrev S8320x5632 : Shape := ⟨2, ![8320, 5632]⟩
abbrev S_ : Shape := ⟨0, ![]⟩

class Facts : Prop where
  slices_S8320x11264_S8320x5632_0_5632 : S8320x11264.Slices ![0, 5632] S8320x5632
  bitsLt_bf16_f32 : FTy.bits .bf16 < FTy.bits .f32
  bcast_S_S8320x5632 : S_.BroadcastsInDim S8320x5632 (![] : Fin 0 → Fin S8320x5632.rank)
  reducesTo_S8320x5632_S_d0_1 : S8320x5632.ReducesTo [0, 1] S_
  h_S_ : 0 < S_.numel

variable [Facts]

def fn {F : FTy → Type} [FloatOps F] (main_arg0 : FVec F S8320x11264 .bf16) (main_arg1 : FVec F S8320x5632 .bf16) : IVec S_ 1 :=
  let main_v0 : FVec F S8320x5632 .bf16 := (extractStridedSlice S8320x5632 ![0, 5632] · slices_S8320x11264_S8320x5632_0_5632) main_arg0
  let main_v1 : FVec F S8320x5632 .f32 := (extf .f32 · bitsLt_bf16_f32) main_v0
  let main_v2 : FVec F S8320x5632 .f32 := Host.absf main_v1
  let main_cst : FVec F S_ .f32 := constant S_ .f32 0x7F800000#32
  let main_v3 : FVec F S8320x5632 .f32 := broadcastInDim S8320x5632 ![] bcast_S_S8320x5632 main_cst
  let main_v4 : IVec S8320x5632 1 := cmpf .olt main_v2 main_v3
  let main_c : IVec S_ 1 := constantI S_ 1 1#1
  let main_v5 : IVec S_ 1 := (fun x v => Host.reduce IntOp.andi x v reducesTo_S8320x5632_S_d0_1 h_S_) main_v4 main_c
  let main_v6 : FVec F S8320x5632 .f32 := (extf .f32 · bitsLt_bf16_f32) main_arg1
  let main_v7 : FVec F S8320x5632 .f32 := Host.absf main_v6
  let main_cst_0 : FVec F S_ .f32 := constant S_ .f32 0x7F800000#32
  let main_v8 : FVec F S8320x5632 .f32 := broadcastInDim S8320x5632 ![] bcast_S_S8320x5632 main_cst_0
  let main_v9 : IVec S8320x5632 1 := cmpf .olt main_v7 main_v8
  let main_c_1 : IVec S_ 1 := constantI S_ 1 1#1
  let main_v10 : IVec S_ 1 := (fun x v => Host.reduce IntOp.andi x v reducesTo_S8320x5632_S_d0_1 h_S_) main_v9 main_c_1
  let main_v11 : IVec S_ 1 := andi main_v5 main_v10
  main_v11
-- ==== Pre_finite_grad.lean ====
abbrev S8320x2048 : Shape := ⟨2, ![8320, 2048]⟩
abbrev S2048 : Shape := ⟨1, ![2048]⟩
abbrev S_ : Shape := ⟨0, ![]⟩

class Facts : Prop where
  bcast_S_S2048 : S_.BroadcastsInDim S2048 (![] : Fin 0 → Fin S2048.rank)
  reducesTo_S2048_S_d0 : S2048.ReducesTo [0] S_
  h_S_ : 0 < S_.numel
  bcast_S_S8320x2048 : S_.BroadcastsInDim S8320x2048 (![] : Fin 0 → Fin S8320x2048.rank)
  reducesTo_S8320x2048_S_d0_1 : S8320x2048.ReducesTo [0, 1] S_

variable [Facts]

def fn {F : FTy → Type} [FloatOps F] (main_arg0 : FVec F S8320x2048 .f32) (main_arg1 : FVec F S8320x2048 .f32) (main_arg2 : FVec F S2048 .f32) (main_arg3 : FVec F S2048 .f32) (main_arg4 : FVec F S8320x2048 .f32) (main_arg5 : FVec F S8320x2048 .f32) : IVec S_ 1 :=
  let main_v0 : FVec F S2048 .f32 := Host.absf main_arg2
  let main_cst : FVec F S_ .f32 := constant S_ .f32 0x7F800000#32
  let main_v1 : FVec F S2048 .f32 := broadcastInDim S2048 ![] bcast_S_S2048 main_cst
  let main_v2 : IVec S2048 1 := cmpf .olt main_v0 main_v1
  let main_c : IVec S_ 1 := constantI S_ 1 1#1
  let main_v3 : IVec S_ 1 := (fun x v => Host.reduce IntOp.andi x v reducesTo_S2048_S_d0 h_S_) main_v2 main_c
  let main_v4 : FVec F S8320x2048 .f32 := Host.absf main_arg4
  let main_cst_0 : FVec F S_ .f32 := constant S_ .f32 0x7F800000#32
  let main_v5 : FVec F S8320x2048 .f32 := broadcastInDim S8320x2048 ![] bcast_S_S8320x2048 main_cst_0
  let main_v6 : IVec S8320x2048 1 := cmpf .olt main_v4 main_v5
  let main_c_1 : IVec S_ 1 := constantI S_ 1 1#1
  let main_v7 : IVec S_ 1 := (fun x v => Host.reduce IntOp.andi x v reducesTo_S8320x2048_S_d0_1 h_S_) main_v6 main_c_1
  let main_v8 : IVec S_ 1 := andi main_v3 main_v7
  let main_v9 : FVec F S8320x2048 .f32 := Host.absf main_arg5
  let main_cst_2 : FVec F S_ .f32 := constant S_ .f32 0x7F800000#32
  let main_v10 : FVec F S8320x2048 .f32 := broadcastInDim S8320x2048 ![] bcast_S_S8320x2048 main_cst_2
  let main_v11 : IVec S8320x2048 1 := cmpf .olt main_v9 main_v10
  let main_c_3 : IVec S_ 1 := constantI S_ 1 1#1
  let main_v12 : IVec S_ 1 := (fun x v => Host.reduce IntOp.andi x v reducesTo_S8320x2048_S_d0_1 h_S_) main_v11 main_c_3
  let main_v13 : IVec S_ 1 := andi main_v8 main_v12
  main_v13
-- ==== KernelGate.lean ====
abbrev S8320x11264 : Shape := ⟨2, ![8320, 11264]⟩
abbrev S8320x5632 : Shape := ⟨2, ![8320, 5632]⟩
abbrev S640x1408 : Shape := ⟨2, ![640, 1408]⟩

abbrev nBuf : Space → Nat
  | .hbm => 3
  | .vmem => 8
  | .smem => 0
  | _ => 0

abbrev bufTy : (tb : Table) → Fin (tcTables nBuf tb) → BufTy
  | .hbm, ⟨0, _⟩ => ⟨S8320x11264, .bf16⟩
  | .hbm, ⟨1, _⟩ => ⟨S8320x5632, .bf16⟩
  | .hbm, ⟨2, _⟩ => ⟨S8320x11264, .bf16⟩
  | .local _ .vmem, ⟨0, _⟩ => ⟨S640x1408, .bf16⟩
  | .local _ .vmem, ⟨1, _⟩ => ⟨S640x1408, .bf16⟩
  | .local _ .vmem, ⟨2, _⟩ => ⟨S640x1408, .bf16⟩
  | .local _ .vmem, ⟨3, _⟩ => ⟨S640x1408, .bf16⟩
  | .local _ .vmem, ⟨4, _⟩ => ⟨S640x1408, .bf16⟩
  | .local _ .vmem, ⟨5, _⟩ => ⟨S640x1408, .bf16⟩
  | .local _ .vmem, ⟨6, _⟩ => ⟨S640x1408, .bf16⟩
  | .local _ .vmem, ⟨7, _⟩ => ⟨S640x1408, .bf16⟩
  | _, _ => ⟨S8320x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![13, 8], ![false, false]⟩

def k0_cond1 (i : grid0.Coords) : BitVec 1 :=
  let arg1 : BitVec 32 := BitVec.ofNat 32 (i 1).val
  let c4_i32 : BitVec 32 := 4#32
  let v11 : BitVec 1 := Scalar.cmpi .slt arg1 c4_i32
  let v12 : BitVec 32 := Scalar.extui v11
  let c0_i32 : BitVec 32 := 0#32
  let v13 : BitVec 1 := Scalar.cmpi .ne v12 c0_i32
  v13

def k0_cond2 (i : grid0.Coords) : BitVec 1 :=
  let arg1 : BitVec 32 := BitVec.ofNat 32 (i 1).val
  let c4_i32_5 : BitVec 32 := 4#32
  let v14 : BitVec 1 := Scalar.cmpi .sge arg1 c4_i32_5
  let v15 : BitVec 32 := Scalar.extui v14
  let c0_i32_6 : BitVec 32 := 0#32
  let v16 : BitVec 1 := Scalar.cmpi .ne v15 c0_i32_6
  v16

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  ![arg0.toNat, v9.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32_3 : BitVec 32 := 4#32
  let v10 : BitVec 32 := Scalar.addi v9 c4_i32_3
  let c0_i32_4 : BitVec 32 := 0#32
  ![arg0.toNat, v10.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  ![arg0.toNat, v9.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S640x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S640x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S640x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S640x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceGateIdeal.lean ====
abbrev S8320x11264 : Shape := ⟨2, ![8320, 11264]⟩
abbrev S8320x5632 : Shape := ⟨2, ![8320, 5632]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S8320x11264, .bf16⟩
  | .hbm, ⟨1, _⟩ => ⟨S8320x5632, .bf16⟩
  | .hbm, ⟨2, _⟩ => ⟨S8320x5632, .bf16⟩
  | .hbm, ⟨3, _⟩ => ⟨S8320x5632, .f32⟩
  | .hbm, ⟨4, _⟩ => ⟨S8320x5632, .bf16⟩
  | .hbm, ⟨5, _⟩ => ⟨S8320x5632, .f32⟩
  | .hbm, ⟨6, _⟩ => ⟨S8320x5632, .f32⟩
  | .hbm, ⟨7, _⟩ => ⟨S8320x5632, .f32⟩
  | .hbm, ⟨8, _⟩ => ⟨S_, .f32⟩
  | .hbm, ⟨9, _⟩ => ⟨S8320x5632, .f32⟩
  | .hbm, ⟨10, _⟩ => ⟨S8320x5632, .f32⟩
  | .hbm, ⟨11, _⟩ => ⟨S_, .f32⟩
  | .hbm, ⟨12, _⟩ => ⟨S8320x5632, .f32⟩
  | .hbm, ⟨13, _⟩ => ⟨S8320x5632, .f32⟩
  | .hbm, ⟨14, _⟩ => ⟨S_, .f32⟩
  | .hbm, ⟨15, _⟩ => ⟨S8320x5632, .f32⟩
  | .hbm, ⟨16, _⟩ => ⟨S8320x5632, .f32⟩
  | .hbm, ⟨17, _⟩ => ⟨S8320x5632, .f32⟩
  | .hbm, ⟨18, _⟩ => ⟨S8320x5632, .f32⟩
  | .hbm, ⟨19, _⟩ => ⟨S8320x5632, .f32⟩
  | .hbm, ⟨20, _⟩ => ⟨S8320x5632, .f32⟩
  | .hbm, ⟨21, _⟩ => ⟨S8320x5632, .f32⟩
  | .hbm, ⟨22, _⟩ => ⟨S8320x5632, .f32⟩
  | .hbm, ⟨23, _⟩ => ⟨S8320x5632, .f32⟩
  | .hbm, ⟨24, _⟩ => ⟨S8320x5632, .f32⟩
  | .hbm, ⟨25, _⟩ => ⟨S8320x5632, .f32⟩
  | .hbm, ⟨26, _⟩ => ⟨S8320x5632, .f32⟩
  | .hbm, ⟨27, _⟩ => ⟨S8320x11264, .f32⟩
  | .hbm, ⟨28, _⟩ => ⟨S8320x11264, .bf16⟩
  | _, _ => ⟨S8320x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v4_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v4_1 : Ref sig .tc := ⟨.hbm, 17, rfl⟩
abbrev main_v4_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩

abbrev nD : Nat := 1
abbrev τ : Topo := Topo.v7x

variable {F : FTy → Type} [FloatOps F]
-- ==== KernelDact.lean ====
abbrev S8320x2048 : Shape := ⟨2, ![8320, 2048]⟩
abbrev S5632x2048 : Shape := ⟨2, ![5632, 2048]⟩
abbrev S8320x5632 : Shape := ⟨2, ![8320, 5632]⟩
abbrev S640x2048 : Shape := ⟨2, ![640, 2048]⟩
abbrev S1408x2048 : Shape := ⟨2, ![1408, 2048]⟩
abbrev S640x1408 : Shape := ⟨2, ![640, 1408]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S8320x2048, .bf16⟩
  | .hbm, ⟨1, _⟩ => ⟨S5632x2048, .bf16⟩
  | .hbm, ⟨2, _⟩ => ⟨S8320x5632, .bf16⟩
  | .local _ .vmem, ⟨0, _⟩ => ⟨S640x2048, .bf16⟩
  | .local _ .vmem, ⟨1, _⟩ => ⟨S640x2048, .bf16⟩
  | .local _ .vmem, ⟨2, _⟩ => ⟨S1408x2048, .bf16⟩
  | .local _ .vmem, ⟨3, _⟩ => ⟨S1408x2048, .bf16⟩
  | .local _ .vmem, ⟨4, _⟩ => ⟨S640x1408, .bf16⟩
  | .local _ .vmem, ⟨5, _⟩ => ⟨S640x1408, .bf16⟩
  | .local _ .vmem, ⟨6, _⟩ => ⟨S8x128, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![13, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S640x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDactIdeal.lean ====
abbrev S8320x2048 : Shape := ⟨2, ![8320, 2048]⟩
abbrev S5632x2048 : Shape := ⟨2, ![5632, 2048]⟩
abbrev S_ : Shape := ⟨0, ![]⟩
abbrev S8320x5632 : Shape := ⟨2, ![8320, 5632]⟩

abbrev nBuf : Space → Nat
  | .hbm => 9
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S5632x2048, .bf16⟩
  | .hbm, ⟨2, _⟩ => ⟨S5632x2048, .f32⟩
  | .hbm, ⟨3, _⟩ => ⟨S_, .f32⟩
  | .hbm, ⟨4, _⟩ => ⟨S8320x5632, .f32⟩
  | .hbm, ⟨5, _⟩ => ⟨S8320x2048, .f32⟩
  | .hbm, ⟨6, _⟩ => ⟨S8320x2048, .f32⟩
  | .hbm, ⟨7, _⟩ => ⟨S8320x5632, .f32⟩
  | .hbm, ⟨8, _⟩ => ⟨S8320x5632, .bf16⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelDwdown.lean ====
abbrev S8320x5632 : Shape := ⟨2, ![8320, 5632]⟩
abbrev S8320x2048 : Shape := ⟨2, ![8320, 2048]⟩
abbrev S5632x2048 : Shape := ⟨2, ![5632, 2048]⟩
abbrev S1664x512 : Shape := ⟨2, ![1664, 512]⟩
abbrev S1664x1024 : Shape := ⟨2, ![1664, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8320x5632, .bf16⟩
  | .hbm, ⟨1, _⟩ => ⟨S8320x2048, .bf16⟩
  | .hbm, ⟨2, _⟩ => ⟨S5632x2048, .bf16⟩
  | .local _ .vmem, ⟨0, _⟩ => ⟨S1664x512, .bf16⟩
  | .local _ .vmem, ⟨1, _⟩ => ⟨S1664x512, .bf16⟩
  | .local _ .vmem, ⟨2, _⟩ => ⟨S1664x1024, .bf16⟩
  | .local _ .vmem, ⟨3, _⟩ => ⟨S1664x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8320x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 5], ![false, false, false]⟩

def k0_cond3 (i : grid0.Coords) : BitVec 1 :=
  let arg2 : BitVec 32 := BitVec.ofNat 32 (i 2).val
  let c4_i32 : BitVec 32 := 4#32
  let v9 : BitVec 1 := Scalar.cmpi .eq arg2 c4_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDwdownIdeal.lean ====
abbrev S8320x5632 : Shape := ⟨2, ![8320, 5632]⟩
abbrev S8320x2048 : Shape := ⟨2, ![8320, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S8320x5632, .bf16⟩
  | .hbm, ⟨1, _⟩ => ⟨S8320x2048, .bf16⟩
  | .hbm, ⟨2, _⟩ => ⟨S8320x5632, .f32⟩
  | .hbm, ⟨3, _⟩ => ⟨S_, .f32⟩
  | .hbm, ⟨4, _⟩ => ⟨S5632x2048, .f32⟩
  | .hbm, ⟨5, _⟩ => ⟨S8320x2048, .f32⟩
  | .hbm, ⟨6, _⟩ => ⟨S8320x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S8320x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelDh.lean ====
abbrev S8320x11264 : Shape := ⟨2, ![8320, 11264]⟩
abbrev S2048x5632 : Shape := ⟨2, ![2048, 5632]⟩
abbrev S2048x4x1408 : Shape := ⟨3, ![2048, 4, 1408]⟩
abbrev S4x2048x1408 : Shape := ⟨3, ![4, 2048, 1408]⟩
abbrev S8192x1408 : Shape := ⟨2, ![8192, 1408]⟩
abbrev S8x2048x1408 : Shape := ⟨3, ![8, 2048, 1408]⟩
abbrev S8320x2048 : Shape := ⟨2, ![8320, 2048]⟩
abbrev S640x1408 : Shape := ⟨2, ![640, 1408]⟩
abbrev S1x2048x1408 : Shape := ⟨3, ![1, 2048, 1408]⟩
abbrev S640x2048 : Shape := ⟨2, ![640, 2048]⟩
abbrev S2048x1408 : Shape := ⟨2, ![2048, 1408]⟩

abbrev nBuf : Space → Nat
  | .hbm => 13
  | .vmem => 7
  | .smem => 0
  | _ => 0

abbrev bufTy : (tb : Table) → Fin (tcTables nBuf tb) → BufTy
  | .hbm, ⟨0, _⟩ => ⟨S8320x11264, .bf16⟩
  | .hbm, ⟨1, _⟩ => ⟨S2048x5632, .bf16⟩
  | .hbm, ⟨2, _⟩ => ⟨S2048x5632, .bf16⟩
  | .hbm, ⟨3, _⟩ => ⟨S2048x4x1408, .bf16⟩
  | .hbm, ⟨4, _⟩ => ⟨S4x2048x1408, .bf16⟩
  | .hbm, ⟨5, _⟩ => ⟨S8192x1408, .bf16⟩
  | .hbm, ⟨6, _⟩ => ⟨S4x2048x1408, .bf16⟩
  | .hbm, ⟨7, _⟩ => ⟨S2048x4x1408, .bf16⟩
  | .hbm, ⟨8, _⟩ => ⟨S4x2048x1408, .bf16⟩
  | .hbm, ⟨9, _⟩ => ⟨S8192x1408, .bf16⟩
  | .hbm, ⟨10, _⟩ => ⟨S4x2048x1408, .bf16⟩
  | .hbm, ⟨11, _⟩ => ⟨S8x2048x1408, .bf16⟩
  | .hbm, ⟨12, _⟩ => ⟨S8320x2048, .f32⟩
  | .local _ .vmem, ⟨0, _⟩ => ⟨S640x1408, .bf16⟩
  | .local _ .vmem, ⟨1, _⟩ => ⟨S640x1408, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S640x2048, .f32⟩
  | .local _ .vmem, ⟨5, _⟩ => ⟨S640x2048, .f32⟩
  | .local _ .vmem, ⟨6, _⟩ => ⟨S640x2048, .f32⟩
  | _, _ => ⟨S8320x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![13, 1, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S640x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDhIdeal.lean ====
abbrev S8320x11264 : Shape := ⟨2, ![8320, 11264]⟩
abbrev S2048x5632 : Shape := ⟨2, ![2048, 5632]⟩
abbrev S8320x5632 : Shape := ⟨2, ![8320, 5632]⟩
abbrev S_ : Shape := ⟨0, ![]⟩
abbrev S8320x2048 : Shape := ⟨2, ![8320, 2048]⟩

abbrev nBuf : Space → Nat
  | .hbm => 16
  | .vmem => 0
  | .smem => 0
  | _ => 0

abbrev bufTy : (tb : Table) → Fin (tcTables nBuf tb) → BufTy
  | .hbm, ⟨0, _⟩ => ⟨S8320x11264, .bf16⟩
  | .hbm, ⟨1, _⟩ => ⟨S2048x5632, .bf16⟩
  | .hbm, ⟨2, _⟩ => ⟨S2048x5632, .bf16⟩
  | .hbm, ⟨3, _⟩ => ⟨S2048x5632, .f32⟩
  | .hbm, ⟨4, _⟩ => ⟨S2048x5632, .f32⟩
  | .hbm, ⟨5, _⟩ => ⟨S8320x5632, .bf16⟩
  | .hbm, ⟨6, _⟩ => ⟨S8320x5632, .f32⟩
  | .hbm, ⟨7, _⟩ => ⟨S8320x5632, .bf16⟩
  | .hbm, ⟨8, _⟩ => ⟨S8320x5632, .f32⟩
  | .hbm, ⟨9, _⟩ => ⟨S_, .f32⟩
  | .hbm, ⟨10, _⟩ => ⟨S8320x2048, .f32⟩
  | .hbm, ⟨11, _⟩ => ⟨S8320x5632, .f32⟩
  | .hbm, ⟨12, _⟩ => ⟨S8320x5632, .f32⟩
  | .hbm, ⟨13, _⟩ => ⟨S8320x2048, .f32⟩
  | .hbm, ⟨14, _⟩ => ⟨S8320x2048, .f32⟩
  | .hbm, ⟨15, _⟩ => ⟨S8320x2048, .f32⟩
  | _, _ => ⟨S8320x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== KernelDwgu.lean ====
abbrev S8320x2048 : Shape := ⟨2, ![8320, 2048]⟩
abbrev S8320x11264 : Shape := ⟨2, ![8320, 11264]⟩
abbrev S8x2048x1408 : Shape := ⟨3, ![8, 2048, 1408]⟩
abbrev S1664x1024 : Shape := ⟨2, ![1664, 1024]⟩
abbrev S1664x1408 : Shape := ⟨2, ![1664, 1408]⟩
abbrev S1x1024x1408 : Shape := ⟨3, ![1, 1024, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8320x2048, .bf16⟩
  | .hbm, ⟨1, _⟩ => ⟨S8320x11264, .bf16⟩
  | .hbm, ⟨2, _⟩ => ⟨S8x2048x1408, .bf16⟩
  | .local _ .vmem, ⟨0, _⟩ => ⟨S1664x1024, .bf16⟩
  | .local _ .vmem, ⟨1, _⟩ => ⟨S1664x1024, .bf16⟩
  | .local _ .vmem, ⟨2, _⟩ => ⟨S1664x1408, .bf16⟩
  | .local _ .vmem, ⟨3, _⟩ => ⟨S1664x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 5], ![false, false, false]⟩

def k0_cond3 (i : grid0.Coords) : BitVec 1 :=
  let arg2 : BitVec 32 := BitVec.ofNat 32 (i 2).val
  let c4_i32 : BitVec 32 := 4#32
  let v9 : BitVec 1 := Scalar.cmpi .eq arg2 c4_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDwguIdeal.lean ====
abbrev S8320x2048 : Shape := ⟨2, ![8320, 2048]⟩
abbrev S8320x11264 : Shape := ⟨2, ![8320, 11264]⟩
abbrev S_ : Shape := ⟨0, ![]⟩
abbrev S2048x5632 : Shape := ⟨2, ![2048, 5632]⟩
abbrev S8320x5632 : Shape := ⟨2, ![8320, 5632]⟩
abbrev S5632x2048 : Shape := ⟨2, ![5632, 2048]⟩
abbrev S2048x4x1408 : Shape := ⟨3, ![2048, 4, 1408]⟩
abbrev S4x2048x1408 : Shape := ⟨3, ![4, 2048, 1408]⟩
abbrev S8x2048x1408 : Shape := ⟨3, ![8, 2048, 1408]⟩

abbrev nBuf : Space → Nat
  | .hbm => 21
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S8320x11264, .bf16⟩
  | .hbm, ⟨2, _⟩ => ⟨S8320x2048, .f32⟩
  | .hbm, ⟨3, _⟩ => ⟨S_, .f32⟩
  | .hbm, ⟨4, _⟩ => ⟨S2048x5632, .f32⟩
  | .hbm, ⟨5, _⟩ => ⟨S8320x5632, .bf16⟩
  | .hbm, ⟨6, _⟩ => ⟨S8320x5632, .f32⟩
  | .hbm, ⟨7, _⟩ => ⟨S8320x5632, .bf16⟩
  | .hbm, ⟨8, _⟩ => ⟨S8320x5632, .f32⟩
  | .hbm, ⟨9, _⟩ => ⟨S8320x5632, .f32⟩
  | .hbm, ⟨10, _⟩ => ⟨S8320x5632, .f32⟩
  | .hbm, ⟨11, _⟩ => ⟨S5632x2048, .f32⟩
  | .hbm, ⟨12, _⟩ => ⟨S2048x5632, .f32⟩
  | .hbm, ⟨13, _⟩ => ⟨S5632x2048, .f32⟩
  | .hbm, ⟨14, _⟩ => ⟨S2048x5632, .f32⟩
  | .hbm, ⟨15, _⟩ => ⟨S2048x4x1408, .f32⟩
  | .hbm, ⟨16, _⟩ => ⟨S4x2048x1408, .f32⟩
  | .hbm, ⟨17, _⟩ => ⟨S2048x4x1408, .f32⟩
  | .hbm, ⟨18, _⟩ => ⟨S4x2048x1408, .f32⟩
  | .hbm, ⟨19, _⟩ => ⟨S8x2048x1408, .f32⟩
  | .hbm, ⟨20, _⟩ => ⟨S8x2048x1408, .bf16⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩

abbrev nD : Nat := 1
abbrev τ : Topo := Topo.v7x

variable {F : FTy → Type} [FloatOps F]
-- ==== KernelGu.lean ====
abbrev S8320x2048 : Shape := ⟨2, ![8320, 2048]⟩
abbrev S2048x5632 : Shape := ⟨2, ![2048, 5632]⟩
abbrev S2048x4x1408 : Shape := ⟨3, ![2048, 4, 1408]⟩
abbrev S4x2048x1408 : Shape := ⟨3, ![4, 2048, 1408]⟩
abbrev S8192x1408 : Shape := ⟨2, ![8192, 1408]⟩
abbrev S8x2048x1408 : Shape := ⟨3, ![8, 2048, 1408]⟩
abbrev S8320x11264 : Shape := ⟨2, ![8320, 11264]⟩
abbrev S640x2048 : Shape := ⟨2, ![640, 2048]⟩
abbrev S1x2048x1408 : Shape := ⟨3, ![1, 2048, 1408]⟩
abbrev S640x1408 : Shape := ⟨2, ![640, 1408]⟩
abbrev S8x128 : Shape := ⟨2, ![8, 128]⟩
abbrev S2048x1408 : Shape := ⟨2, ![2048, 1408]⟩

abbrev nBuf : Space → Nat
  | .hbm => 13
  | .vmem => 7
  | .smem => 0
  | _ => 0

abbrev bufTy : (tb : Table) → Fin (tcTables nBuf tb) → BufTy
  | .hbm, ⟨0, _⟩ => ⟨S8320x2048, .bf16⟩
  | .hbm, ⟨1, _⟩ => ⟨S2048x5632, .bf16⟩
  | .hbm, ⟨2, _⟩ => ⟨S2048x5632, .bf16⟩
  | .hbm, ⟨3, _⟩ => ⟨S2048x4x1408, .bf16⟩
  | .hbm, ⟨4, _⟩ => ⟨S4x2048x1408, .bf16⟩
  | .hbm, ⟨5, _⟩ => ⟨S8192x1408, .bf16⟩
  | .hbm, ⟨6, _⟩ => ⟨S4x2048x1408, .bf16⟩
  | .hbm, ⟨7, _⟩ => ⟨S2048x4x1408, .bf16⟩
  | .hbm, ⟨8, _⟩ => ⟨S4x2048x1408, .bf16⟩
  | .hbm, ⟨9, _⟩ => ⟨S8192x1408, .bf16⟩
  | .hbm, ⟨10, _⟩ => ⟨S4x2048x1408, .bf16⟩
  | .hbm, ⟨11, _⟩ => ⟨S8x2048x1408, .bf16⟩
  | .hbm, ⟨12, _⟩ => ⟨S8320x11264, .bf16⟩
  | .local _ .vmem, ⟨0, _⟩ => ⟨S640x2048, .bf16⟩
  | .local _ .vmem, ⟨1, _⟩ => ⟨S640x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S640x1408, .bf16⟩
  | .local _ .vmem, ⟨5, _⟩ => ⟨S640x1408, .bf16⟩
  | .local _ .vmem, ⟨6, _⟩ => ⟨S8x128, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![13, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S640x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceGuIdeal.lean ====
abbrev S8320x2048 : Shape := ⟨2, ![8320, 2048]⟩
abbrev S2048x5632 : Shape := ⟨2, ![2048, 5632]⟩
abbrev S8320x5632 : Shape := ⟨2, ![8320, 5632]⟩
abbrev S8320x11264 : Shape := ⟨2, ![8320, 11264]⟩

abbrev nBuf : Space → Nat
  | .hbm => 10
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S2048x5632, .bf16⟩
  | .hbm, ⟨2, _⟩ => ⟨S2048x5632, .bf16⟩
  | .hbm, ⟨3, _⟩ => ⟨S8320x2048, .f32⟩
  | .hbm, ⟨4, _⟩ => ⟨S2048x5632, .f32⟩
  | .hbm, ⟨5, _⟩ => ⟨S8320x5632, .f32⟩
  | .hbm, ⟨6, _⟩ => ⟨S2048x5632, .f32⟩
  | .hbm, ⟨7, _⟩ => ⟨S8320x5632, .f32⟩
  | .hbm, ⟨8, _⟩ => ⟨S8320x11264, .f32⟩
  | .hbm, ⟨9, _⟩ => ⟨S8320x11264, .bf16⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelDown.lean ====
abbrev S8320x5632 : Shape := ⟨2, ![8320, 5632]⟩
abbrev S5632x2048 : Shape := ⟨2, ![5632, 2048]⟩
abbrev S8320x2048 : Shape := ⟨2, ![8320, 2048]⟩
abbrev S640x1408 : Shape := ⟨2, ![640, 1408]⟩
abbrev S1408x1024 : Shape := ⟨2, ![1408, 1024]⟩
abbrev S640x1024 : Shape := ⟨2, ![640, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8320x5632, .bf16⟩
  | .hbm, ⟨1, _⟩ => ⟨S5632x2048, .bf16⟩
  | .hbm, ⟨2, _⟩ => ⟨S8320x2048, .f32⟩
  | .local _ .vmem, ⟨0, _⟩ => ⟨S640x1408, .bf16⟩
  | .local _ .vmem, ⟨1, _⟩ => ⟨S640x1408, .bf16⟩
  | .local _ .vmem, ⟨2, _⟩ => ⟨S1408x1024, .bf16⟩
  | .local _ .vmem, ⟨3, _⟩ => ⟨S1408x1024, .bf16⟩
  | .local _ .vmem, ⟨4, _⟩ => ⟨S640x1024, .f32⟩
  | .local _ .vmem, ⟨5, _⟩ => ⟨S640x1024, .f32⟩
  | .local _ .vmem, ⟨6, _⟩ => ⟨S640x1024, .f32⟩
  | _, _ => ⟨S8320x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![13, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDownIdeal.lean ====
abbrev S8320x5632 : Shape := ⟨2, ![8320, 5632]⟩
abbrev S5632x2048 : Shape := ⟨2, ![5632, 2048]⟩
abbrev S8320x2048 : Shape := ⟨2, ![8320, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8320x5632, .bf16⟩
  | .hbm, ⟨1, _⟩ => ⟨S5632x2048, .bf16⟩
  | .hbm, ⟨2, _⟩ => ⟨S8320x5632, .f32⟩
  | .hbm, ⟨3, _⟩ => ⟨S5632x2048, .f32⟩
  | .hbm, ⟨4, _⟩ => ⟨S8320x2048, .f32⟩
  | _, _ => ⟨S8320x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelOut.lean ====
abbrev S8320x4096 : Shape := ⟨2, ![8320, 4096]⟩
abbrev S4096x2048 : Shape := ⟨2, ![4096, 2048]⟩
abbrev S8320x2048 : Shape := ⟨2, ![8320, 2048]⟩
abbrev S640x2048 : Shape := ⟨2, ![640, 2048]⟩
abbrev S2048x1024 : Shape := ⟨2, ![2048, 1024]⟩
abbrev S640x1024 : Shape := ⟨2, ![640, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8320x4096, .f32⟩
  | .hbm, ⟨1, _⟩ => ⟨S4096x2048, .bf16⟩
  | .hbm, ⟨2, _⟩ => ⟨S8320x2048, .f32⟩
  | .local _ .vmem, ⟨0, _⟩ => ⟨S640x2048, .f32⟩
  | .local _ .vmem, ⟨1, _⟩ => ⟨S640x2048, .f32⟩
  | .local _ .vmem, ⟨2, _⟩ => ⟨S2048x1024, .bf16⟩
  | .local _ .vmem, ⟨3, _⟩ => ⟨S2048x1024, .bf16⟩
  | .local _ .vmem, ⟨4, _⟩ => ⟨S640x1024, .f32⟩
  | .local _ .vmem, ⟨5, _⟩ => ⟨S640x1024, .f32⟩
  | .local _ .vmem, ⟨6, _⟩ => ⟨S640x1024, .f32⟩
  | _, _ => ⟨S8320x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![13, 2, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceOutIdeal.lean ====
abbrev S8320x4096 : Shape := ⟨2, ![8320, 4096]⟩
abbrev S4096x2048 : Shape := ⟨2, ![4096, 2048]⟩
abbrev S8320x2048 : Shape := ⟨2, ![8320, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8320x4096, .f32⟩
  | .hbm, ⟨1, _⟩ => ⟨S4096x2048, .bf16⟩
  | .hbm, ⟨2, _⟩ => ⟨S4096x2048, .f32⟩
  | .hbm, ⟨3, _⟩ => ⟨S8320x2048, .f32⟩
  | _, _ => ⟨S8320x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== KernelDwout.lean ====
abbrev S8320x4096 : Shape := ⟨2, ![8320, 4096]⟩
abbrev S8320x2048 : Shape := ⟨2, ![8320, 2048]⟩
abbrev S4096x2048 : Shape := ⟨2, ![4096, 2048]⟩
abbrev S640x1024 : Shape := ⟨2, ![640, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8320x4096, .f32⟩
  | .hbm, ⟨1, _⟩ => ⟨S8320x2048, .bf16⟩
  | .hbm, ⟨2, _⟩ => ⟨S4096x2048, .bf16⟩
  | .local _ .vmem, ⟨0, _⟩ => ⟨S640x1024, .f32⟩
  | .local _ .vmem, ⟨1, _⟩ => ⟨S640x1024, .f32⟩
  | .local _ .vmem, ⟨2, _⟩ => ⟨S640x1024, .bf16⟩
  | .local _ .vmem, ⟨3, _⟩ => ⟨S640x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8320x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 13], ![false, false, false]⟩

def k0_cond3 (i : grid0.Coords) : BitVec 1 :=
  let arg2 : BitVec 32 := BitVec.ofNat 32 (i 2).val
  let c12_i32 : BitVec 32 := 12#32
  let v10 : BitVec 1 := Scalar.cmpi .eq arg2 c12_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S640x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDwoutIdeal.lean ====
abbrev S8320x4096 : Shape := ⟨2, ![8320, 4096]⟩
abbrev S8320x2048 : Shape := ⟨2, ![8320, 2048]⟩
abbrev S_ : Shape := ⟨0, ![]⟩
abbrev S4096x2048 : Shape := ⟨2, ![4096, 2048]⟩
abbrev S2048x4096 : Shape := ⟨2, ![2048, 4096]⟩

abbrev nBuf : Space → Nat
  | .hbm => 9
  | .vmem => 0
  | .smem => 0
  | _ => 0

abbrev bufTy : (tb : Table) → Fin (tcTables nBuf tb) → BufTy
  | .hbm, ⟨0, _⟩ => ⟨S8320x4096, .f32⟩
  | .hbm, ⟨1, _⟩ => ⟨S8320x2048, .bf16⟩
  | .hbm, ⟨2, _⟩ => ⟨S_, .f32⟩
  | .hbm, ⟨3, _⟩ => ⟨S4096x2048, .f32⟩
  | .hbm, ⟨4, _⟩ => ⟨S8320x2048, .f32⟩
  | .hbm, ⟨5, _⟩ => ⟨S8320x2048, .f32⟩
  | .hbm, ⟨6, _⟩ => ⟨S2048x4096, .f32⟩
  | .hbm, ⟨7, _⟩ => ⟨S4096x2048, .f32⟩
  | .hbm, ⟨8, _⟩ => ⟨S4096x2048, .bf16⟩
  | _, _ => ⟨S8320x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelDyn.lean ====
abbrev S8320x2048 : Shape := ⟨2, ![8320, 2048]⟩
abbrev S4096x2048 : Shape := ⟨2, ![4096, 2048]⟩
abbrev S8320x4096 : Shape := ⟨2, ![8320, 4096]⟩
abbrev S640x2048 : Shape := ⟨2, ![640, 2048]⟩
abbrev S1024x2048 : Shape := ⟨2, ![1024, 2048]⟩
abbrev S640x1024 : Shape := ⟨2, ![640, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S8320x2048, .bf16⟩
  | .hbm, ⟨1, _⟩ => ⟨S4096x2048, .bf16⟩
  | .hbm, ⟨2, _⟩ => ⟨S8320x4096, .f32⟩
  | .local _ .vmem, ⟨0, _⟩ => ⟨S640x2048, .bf16⟩
  | .local _ .vmem, ⟨1, _⟩ => ⟨S640x2048, .bf16⟩
  | .local _ .vmem, ⟨2, _⟩ => ⟨S1024x2048, .bf16⟩
  | .local _ .vmem, ⟨3, _⟩ => ⟨S1024x2048, .bf16⟩
  | .local _ .vmem, ⟨4, _⟩ => ⟨S640x1024, .f32⟩
  | .local _ .vmem, ⟨5, _⟩ => ⟨S640x1024, .f32⟩
  | .local _ .vmem, ⟨6, _⟩ => ⟨S8x128, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![13, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDynIdeal.lean ====
abbrev S8320x2048 : Shape := ⟨2, ![8320, 2048]⟩
abbrev S4096x2048 : Shape := ⟨2, ![4096, 2048]⟩
abbrev S_ : Shape := ⟨0, ![]⟩
abbrev S8320x4096 : Shape := ⟨2, ![8320, 4096]⟩

abbrev nBuf : Space → Nat
  | .hbm => 8
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S4096x2048, .bf16⟩
  | .hbm, ⟨2, _⟩ => ⟨S4096x2048, .f32⟩
  | .hbm, ⟨3, _⟩ => ⟨S_, .f32⟩
  | .hbm, ⟨4, _⟩ => ⟨S8320x4096, .f32⟩
  | .hbm, ⟨5, _⟩ => ⟨S8320x2048, .f32⟩
  | .hbm, ⟨6, _⟩ => ⟨S8320x2048, .f32⟩
  | .hbm, ⟨7, _⟩ => ⟨S8320x4096, .f32⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelIn.lean ====
abbrev S8320x2048 : Shape := ⟨2, ![8320, 2048]⟩
abbrev S2048x10304 : Shape := ⟨2, ![2048, 10304]⟩
abbrev S2048x4x2576 : Shape := ⟨3, ![2048, 4, 2576]⟩
abbrev S4x2048x2576 : Shape := ⟨3, ![4, 2048, 2576]⟩
abbrev S8192x2576 : Shape := ⟨2, ![8192, 2576]⟩
abbrev S4x2576x2048 : Shape := ⟨3, ![4, 2576, 2048]⟩
abbrev S10304x2048 : Shape := ⟨2, ![10304, 2048]⟩
abbrev S_ : Shape := ⟨0, ![]⟩
abbrev S10368x2048 : Shape := ⟨2, ![10368, 2048]⟩
abbrev S8320x10368 : Shape := ⟨2, ![8320, 10368]⟩
abbrev S640x2048 : Shape := ⟨2, ![640, 2048]⟩
abbrev S1152x2048 : Shape := ⟨2, ![1152, 2048]⟩
abbrev S640x1152 : Shape := ⟨2, ![640, 1152]⟩
abbrev S8x128 : Shape := ⟨2, ![8, 128]⟩

abbrev nBuf : Space → Nat
  | .hbm => 12
  | .vmem => 7
  | .smem => 0
  | _ => 0

abbrev bufTy : (tb : Table) → Fin (tcTables nBuf tb) → BufTy
  | .hbm, ⟨0, _⟩ => ⟨S8320x2048, .bf16⟩
  | .hbm, ⟨1, _⟩ => ⟨S2048x10304, .bf16⟩
  | .hbm, ⟨2, _⟩ => ⟨S2048x4x2576, .bf16⟩
  | .hbm, ⟨3, _⟩ => ⟨S4x2048x2576, .bf16⟩
  | .hbm, ⟨4, _⟩ => ⟨S8192x2576, .bf16⟩
  | .hbm, ⟨5, _⟩ => ⟨S4x2048x2576, .bf16⟩
  | .hbm, ⟨6, _⟩ => ⟨S4x2576x2048, .bf16⟩
  | .hbm, ⟨7, _⟩ => ⟨S10304x2048, .bf16⟩
  | .hbm, ⟨8, _⟩ => ⟨S_, .i32⟩
  | .hbm, ⟨9, _⟩ => ⟨S_, .bf16⟩
  | .hbm, ⟨10, _⟩ => ⟨S10368x2048, .bf16⟩
  | .hbm, ⟨11, _⟩ => ⟨S8320x10368, .f32⟩
  | .local _ .vmem, ⟨0, _⟩ => ⟨S640x2048, .bf16⟩
  | .local _ .vmem, ⟨1, _⟩ => ⟨S640x2048, .bf16⟩
  | .local _ .vmem, ⟨2, _⟩ => ⟨S1152x2048, .bf16⟩
  | .local _ .vmem, ⟨3, _⟩ => ⟨S1152x2048, .bf16⟩
  | .local _ .vmem, ⟨4, _⟩ => ⟨S640x1152, .f32⟩
  | .local _ .vmem, ⟨5, _⟩ => ⟨S640x1152, .f32⟩
  | .local _ .vmem, ⟨6, _⟩ => ⟨S8x128, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_call0_v0 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![13, 9, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1152x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S640x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceInIdeal.lean ====
abbrev S8320x2048 : Shape := ⟨2, ![8320, 2048]⟩
abbrev S2048x10304 : Shape := ⟨2, ![2048, 10304]⟩
abbrev S8320x10304 : Shape := ⟨2, ![8320, 10304]⟩
abbrev S_ : Shape := ⟨0, ![]⟩
abbrev S8320x64 : Shape := ⟨2, ![8320, 64]⟩
abbrev S8320x10368 : Shape := ⟨2, ![8320, 10368]⟩

abbrev nBuf : Space → Nat
  | .hbm => 8
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S2048x10304, .bf16⟩
  | .hbm, ⟨2, _⟩ => ⟨S8320x2048, .f32⟩
  | .hbm, ⟨3, _⟩ => ⟨S2048x10304, .f32⟩
  | .hbm, ⟨4, _⟩ => ⟨S8320x10304, .f32⟩
  | .hbm, ⟨5, _⟩ => ⟨S_, .f32⟩
  | .hbm, ⟨6, _⟩ => ⟨S8320x64, .f32⟩
  | .hbm, ⟨7, _⟩ => ⟨S8320x10368, .f32⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelDwin.lean ====
abbrev S8320x10368 : Shape := ⟨2, ![8320, 10368]⟩
abbrev S8320x2048 : Shape := ⟨2, ![8320, 2048]⟩
abbrev S10368x2048 : Shape := ⟨2, ![10368, 2048]⟩
abbrev S1664x1152 : Shape := ⟨2, ![1664, 1152]⟩
abbrev S1664x1024 : Shape := ⟨2, ![1664, 1024]⟩
abbrev S1152x1024 : Shape := ⟨2, ![1152, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8320x10368, .bf16⟩
  | .hbm, ⟨1, _⟩ => ⟨S8320x2048, .bf16⟩
  | .hbm, ⟨2, _⟩ => ⟨S10368x2048, .bf16⟩
  | .local _ .vmem, ⟨0, _⟩ => ⟨S1664x1152, .bf16⟩
  | .local _ .vmem, ⟨1, _⟩ => ⟨S1664x1152, .bf16⟩
  | .local _ .vmem, ⟨2, _⟩ => ⟨S1664x1024, .bf16⟩
  | .local _ .vmem, ⟨3, _⟩ => ⟨S1664x1024, .bf16⟩
  | .local _ .vmem, ⟨4, _⟩ => ⟨S1152x1024, .bf16⟩
  | .local _ .vmem, ⟨5, _⟩ => ⟨S1152x1024, .bf16⟩
  | .local _ .vmem, ⟨6, _⟩ => ⟨S1152x1024, .f32⟩
  | _, _ => ⟨S8320x10368, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![9, 2, 5], ![false, false, false]⟩

def k0_cond3 (i : grid0.Coords) : BitVec 1 :=
  let arg2 : BitVec 32 := BitVec.ofNat 32 (i 2).val
  let c4_i32 : BitVec 32 := 4#32
  let v9 : BitVec 1 := Scalar.cmpi .eq arg2 c4_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1152x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDwinIdeal.lean ====
abbrev S8320x10368 : Shape := ⟨2, ![8320, 10368]⟩
abbrev S8320x2048 : Shape := ⟨2, ![8320, 2048]⟩
abbrev S_ : Shape := ⟨0, ![]⟩
abbrev S2048x10368 : Shape := ⟨2, ![2048, 10368]⟩
abbrev S10368x2048 : Shape := ⟨2, ![10368, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8320x10368, .bf16⟩
  | .hbm, ⟨1, _⟩ => ⟨S8320x2048, .bf16⟩
  | .hbm, ⟨2, _⟩ => ⟨S8320x2048, .f32⟩
  | .hbm, ⟨3, _⟩ => ⟨S_, .f32⟩
  | .hbm, ⟨4, _⟩ => ⟨S2048x10368, .f32⟩
  | .hbm, ⟨5, _⟩ => ⟨S8320x10368, .f32⟩
  | .hbm, ⟨6, _⟩ => ⟨S8320x10368, .f32⟩
  | .hbm, ⟨7, _⟩ => ⟨S10368x2048, .f32⟩
  | .hbm, ⟨8, _⟩ => ⟨S2048x10368, .f32⟩
  | .hbm, ⟨9, _⟩ => ⟨S10368x2048, .f32⟩
  | .hbm, ⟨10, _⟩ => ⟨S10368x2048, .bf16⟩
  | _, _ => ⟨S8320x10368, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KernelDhin.lean ====
abbrev S8320x10368 : Shape := ⟨2, ![8320, 10368]⟩
abbrev S2048x10304 : Shape := ⟨2, ![2048, 10304]⟩
abbrev S2048x4x2576 : Shape := ⟨3, ![2048, 4, 2576]⟩
abbrev S4x2048x2576 : Shape := ⟨3, ![4, 2048, 2576]⟩
abbrev S8192x2576 : Shape := ⟨2, ![8192, 2576]⟩
abbrev S4x2576x2048 : Shape := ⟨3, ![4, 2576, 2048]⟩
abbrev S10304x2048 : Shape := ⟨2, ![10304, 2048]⟩
abbrev S_ : Shape := ⟨0, ![]⟩
abbrev S10368x2048 : Shape := ⟨2, ![10368, 2048]⟩
abbrev S8320x2048 : Shape := ⟨2, ![8320, 2048]⟩
abbrev S640x1152 : Shape := ⟨2, ![640, 1152]⟩
abbrev S1152x2048 : Shape := ⟨2, ![1152, 2048]⟩
abbrev S640x2048 : Shape := ⟨2, ![640, 2048]⟩

abbrev nBuf : Space → Nat
  | .hbm => 12
  | .vmem => 7
  | .smem => 0
  | _ => 0

abbrev bufTy : (tb : Table) → Fin (tcTables nBuf tb) → BufTy
  | .hbm, ⟨0, _⟩ => ⟨S8320x10368, .bf16⟩
  | .hbm, ⟨1, _⟩ => ⟨S2048x10304, .bf16⟩
  | .hbm, ⟨2, _⟩ => ⟨S2048x4x2576, .bf16⟩
  | .hbm, ⟨3, _⟩ => ⟨S4x2048x2576, .bf16⟩
  | .hbm, ⟨4, _⟩ => ⟨S8192x2576, .bf16⟩
  | .hbm, ⟨5, _⟩ => ⟨S4x2048x2576, .bf16⟩
  | .hbm, ⟨6, _⟩ => ⟨S4x2576x2048, .bf16⟩
  | .hbm, ⟨7, _⟩ => ⟨S10304x2048, .bf16⟩
  | .hbm, ⟨8, _⟩ => ⟨S_, .i32⟩
  | .hbm, ⟨9, _⟩ => ⟨S_, .bf16⟩
  | .hbm, ⟨10, _⟩ => ⟨S10368x2048, .bf16⟩
  | .hbm, ⟨11, _⟩ => ⟨S8320x2048, .f32⟩
  | .local _ .vmem, ⟨0, _⟩ => ⟨S640x1152, .bf16⟩
  | .local _ .vmem, ⟨1, _⟩ => ⟨S640x1152, .bf16⟩
  | .local _ .vmem, ⟨2, _⟩ => ⟨S1152x2048, .bf16⟩
  | .local _ .vmem, ⟨3, _⟩ => ⟨S1152x2048, .bf16⟩
  | .local _ .vmem, ⟨4, _⟩ => ⟨S640x2048, .f32⟩
  | .local _ .vmem, ⟨5, _⟩ => ⟨S640x2048, .f32⟩
  | .local _ .vmem, ⟨6, _⟩ => ⟨S640x2048, .f32⟩
  | _, _ => ⟨S8320x10368, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_call0_v0 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![13, 1, 9], ![false, false, false]⟩

def k0_cond3 (i : grid0.Coords) : BitVec 1 :=
  let arg2 : BitVec 32 := BitVec.ofNat 32 (i 2).val
  let c8_i32 : BitVec 32 := 8#32
  let v10 : BitVec 1 := Scalar.cmpi .eq arg2 c8_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1152x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S640x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDhinIdeal.lean ====
abbrev S8320x10368 : Shape := ⟨2, ![8320, 10368]⟩
abbrev S2048x10304 : Shape := ⟨2, ![2048, 10304]⟩
abbrev S_ : Shape := ⟨0, ![]⟩
abbrev S8320x2048 : Shape := ⟨2, ![8320, 2048]⟩
abbrev S8320x10304 : Shape := ⟨2, ![8320, 10304]⟩

abbrev nBuf : Space → Nat
  | .hbm => 9
  | .vmem => 0
  | .smem => 0
  | _ => 0

abbrev bufTy : (tb : Table) → Fin (tcTables nBuf tb) → BufTy
  | .hbm, ⟨0, _⟩ => ⟨S8320x10368, .bf16⟩
  | .hbm, ⟨1, _⟩ => ⟨S2048x10304, .bf16⟩
  | .hbm, ⟨2, _⟩ => ⟨S2048x10304, .f32⟩
  | .hbm, ⟨3, _⟩ => ⟨S_, .f32⟩
  | .hbm, ⟨4, _⟩ => ⟨S8320x2048, .f32⟩
  | .hbm, ⟨5, _⟩ => ⟨S8320x10304, .f32⟩
  | .hbm, ⟨6, _⟩ => ⟨S8320x10304, .bf16⟩
  | .hbm, ⟨7, _⟩ => ⟨S8320x10304, .f32⟩
  | .hbm, ⟨8, _⟩ => ⟨S8320x2048, .f32⟩
  | _, _ => ⟨S8320x10368, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelLin.lean ====
abbrev S8320x2048 : Shape := ⟨2, ![8320, 2048]⟩
abbrev S2048x1856 : Shape := ⟨2, ![2048, 1856]⟩
abbrev S8320x1856 : Shape := ⟨2, ![8320, 1856]⟩
abbrev S640x2048 : Shape := ⟨2, ![640, 2048]⟩
abbrev S640x1856 : Shape := ⟨2, ![640, 1856]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S8320x2048, .f32⟩
  | .hbm, ⟨1, _⟩ => ⟨S2048x1856, .bf16⟩
  | .hbm, ⟨2, _⟩ => ⟨S8320x1856, .f32⟩
  | .local _ .vmem, ⟨0, _⟩ => ⟨S640x2048, .f32⟩
  | .local _ .vmem, ⟨1, _⟩ => ⟨S640x2048, .f32⟩
  | .local _ .vmem, ⟨2, _⟩ => ⟨S2048x1856, .bf16⟩
  | .local _ .vmem, ⟨3, _⟩ => ⟨S640x1856, .f32⟩
  | .local _ .vmem, ⟨4, _⟩ => ⟨S640x1856, .f32⟩
  | .local _ .vmem, ⟨5, _⟩ => ⟨S8x128, .f32⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![13, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1856 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S640x1856 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceLinIdeal.lean ====
abbrev S8320x2048 : Shape := ⟨2, ![8320, 2048]⟩
abbrev S2048x1856 : Shape := ⟨2, ![2048, 1856]⟩
abbrev S8320x1856 : Shape := ⟨2, ![8320, 1856]⟩

abbrev nBuf : Space → Nat
  | .hbm => 4
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S2048x1856, .bf16⟩
  | .hbm, ⟨2, _⟩ => ⟨S2048x1856, .f32⟩
  | .hbm, ⟨3, _⟩ => ⟨S8320x1856, .f32⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== KernelDlwin.lean ====
abbrev S8320x2048 : Shape := ⟨2, ![8320, 2048]⟩
abbrev S8320x1856 : Shape := ⟨2, ![8320, 1856]⟩
abbrev S2048x1856 : Shape := ⟨2, ![2048, 1856]⟩
abbrev S640x1024 : Shape := ⟨2, ![640, 1024]⟩
abbrev S640x1856 : Shape := ⟨2, ![640, 1856]⟩
abbrev S1024x1856 : Shape := ⟨2, ![1024, 1856]⟩

abbrev nBuf : Space → Nat
  | .hbm => 3
  | .vmem => 7
  | .smem => 0
  | _ => 0

abbrev bufTy : (tb : Table) → Fin (tcTables nBuf tb) → BufTy
  | .hbm, ⟨0, _⟩ => ⟨S8320x2048, .f32⟩
  | .hbm, ⟨1, _⟩ => ⟨S8320x1856, .f32⟩
  | .hbm, ⟨2, _⟩ => ⟨S2048x1856, .bf16⟩
  | .local _ .vmem, ⟨0, _⟩ => ⟨S640x1024, .f32⟩
  | .local _ .vmem, ⟨1, _⟩ => ⟨S640x1024, .f32⟩
  | .local _ .vmem, ⟨2, _⟩ => ⟨S640x1856, .f32⟩
  | .local _ .vmem, ⟨3, _⟩ => ⟨S640x1856, .f32⟩
  | .local _ .vmem, ⟨4, _⟩ => ⟨S1024x1856, .bf16⟩
  | .local _ .vmem, ⟨5, _⟩ => ⟨S1024x1856, .bf16⟩
  | .local _ .vmem, ⟨6, _⟩ => ⟨S1024x1856, .f32⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 13], ![false, false, false]⟩

def k0_cond3 (i : grid0.Coords) : BitVec 1 :=
  let arg2 : BitVec 32 := BitVec.ofNat 32 (i 2).val
  let c12_i32 : BitVec 32 := 12#32
  let v11 : BitVec 1 := Scalar.cmpi .eq arg2 c12_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S640x1856 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1856 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDlwinIdeal.lean ====
abbrev S8320x2048 : Shape := ⟨2, ![8320, 2048]⟩
abbrev S8320x1856 : Shape := ⟨2, ![8320, 1856]⟩
abbrev S_ : Shape := ⟨0, ![]⟩
abbrev S2048x1856 : Shape := ⟨2, ![2048, 1856]⟩
abbrev S1856x2048 : Shape := ⟨2, ![1856, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S8320x1856, .f32⟩
  | .hbm, ⟨2, _⟩ => ⟨S_, .f32⟩
  | .hbm, ⟨3, _⟩ => ⟨S2048x1856, .f32⟩
  | .hbm, ⟨4, _⟩ => ⟨S8320x1856, .f32⟩
  | .hbm, ⟨5, _⟩ => ⟨S1856x2048, .f32⟩
  | .hbm, ⟨6, _⟩ => ⟨S2048x1856, .f32⟩
  | .hbm, ⟨7, _⟩ => ⟨S2048x1856, .bf16⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelDlh.lean ====
abbrev S8320x1856 : Shape := ⟨2, ![8320, 1856]⟩
abbrev S2048x1856 : Shape := ⟨2, ![2048, 1856]⟩
abbrev S8320x2048 : Shape := ⟨2, ![8320, 2048]⟩
abbrev S640x1856 : Shape := ⟨2, ![640, 1856]⟩
abbrev S1024x1856 : Shape := ⟨2, ![1024, 1856]⟩
abbrev S640x1024 : Shape := ⟨2, ![640, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S8320x1856, .f32⟩
  | .hbm, ⟨1, _⟩ => ⟨S2048x1856, .bf16⟩
  | .hbm, ⟨2, _⟩ => ⟨S8320x2048, .f32⟩
  | .local _ .vmem, ⟨0, _⟩ => ⟨S640x1856, .f32⟩
  | .local _ .vmem, ⟨1, _⟩ => ⟨S640x1856, .f32⟩
  | .local _ .vmem, ⟨2, _⟩ => ⟨S1024x1856, .bf16⟩
  | .local _ .vmem, ⟨3, _⟩ => ⟨S1024x1856, .bf16⟩
  | .local _ .vmem, ⟨4, _⟩ => ⟨S640x1024, .f32⟩
  | .local _ .vmem, ⟨5, _⟩ => ⟨S640x1024, .f32⟩
  | .local _ .vmem, ⟨6, _⟩ => ⟨S8x128, .f32⟩
  | _, _ => ⟨S8320x1856, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![13, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x1856 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1856 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDlhIdeal.lean ====
abbrev S8320x1856 : Shape := ⟨2, ![8320, 1856]⟩
abbrev S2048x1856 : Shape := ⟨2, ![2048, 1856]⟩
abbrev S_ : Shape := ⟨0, ![]⟩
abbrev S8320x2048 : Shape := ⟨2, ![8320, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8320x1856, .f32⟩
  | .hbm, ⟨1, _⟩ => ⟨S2048x1856, .bf16⟩
  | .hbm, ⟨2, _⟩ => ⟨S2048x1856, .f32⟩
  | .hbm, ⟨3, _⟩ => ⟨S_, .f32⟩
  | .hbm, ⟨4, _⟩ => ⟨S8320x2048, .f32⟩
  | .hbm, ⟨5, _⟩ => ⟨S8320x1856, .f32⟩
  | .hbm, ⟨6, _⟩ => ⟨S8320x2048, .f32⟩
  | _, _ => ⟨S8320x1856, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelLout.lean ====
abbrev S8320x2048 : Shape := ⟨2, ![8320, 2048]⟩
abbrev S2048x2048 : Shape := ⟨2, ![2048, 2048]⟩
abbrev S640x2048 : Shape := ⟨2, ![640, 2048]⟩
abbrev S2048x1024 : Shape := ⟨2, ![2048, 1024]⟩
abbrev S640x1024 : Shape := ⟨2, ![640, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S8320x2048, .bf16⟩
  | .hbm, ⟨1, _⟩ => ⟨S2048x2048, .bf16⟩
  | .hbm, ⟨2, _⟩ => ⟨S8320x2048, .f32⟩
  | .local _ .vmem, ⟨0, _⟩ => ⟨S640x2048, .bf16⟩
  | .local _ .vmem, ⟨1, _⟩ => ⟨S640x2048, .bf16⟩
  | .local _ .vmem, ⟨2, _⟩ => ⟨S2048x1024, .bf16⟩
  | .local _ .vmem, ⟨3, _⟩ => ⟨S2048x1024, .bf16⟩
  | .local _ .vmem, ⟨4, _⟩ => ⟨S640x1024, .f32⟩
  | .local _ .vmem, ⟨5, _⟩ => ⟨S640x1024, .f32⟩
  | .local _ .vmem, ⟨6, _⟩ => ⟨S8x128, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![13, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceLoutIdeal.lean ====
abbrev S8320x2048 : Shape := ⟨2, ![8320, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S2048x2048, .bf16⟩
  | .hbm, ⟨2, _⟩ => ⟨S8320x2048, .f32⟩
  | .hbm, ⟨3, _⟩ => ⟨S2048x2048, .f32⟩
  | .hbm, ⟨4, _⟩ => ⟨S8320x2048, .f32⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelDlwout.lean ====
abbrev S8320x2048 : Shape := ⟨2, ![8320, 2048]⟩
abbrev S2048x2048 : Shape := ⟨2, ![2048, 2048]⟩
abbrev S1664x1024 : Shape := ⟨2, ![1664, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8320x2048, .bf16⟩
  | .hbm, ⟨1, _⟩ => ⟨S8320x2048, .bf16⟩
  | .hbm, ⟨2, _⟩ => ⟨S2048x2048, .bf16⟩
  | .local _ .vmem, ⟨0, _⟩ => ⟨S1664x1024, .bf16⟩
  | .local _ .vmem, ⟨1, _⟩ => ⟨S1664x1024, .bf16⟩
  | .local _ .vmem, ⟨2, _⟩ => ⟨S1664x1024, .bf16⟩
  | .local _ .vmem, ⟨3, _⟩ => ⟨S1664x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 5], ![false, false, false]⟩

def k0_cond3 (i : grid0.Coords) : BitVec 1 :=
  let arg2 : BitVec 32 := BitVec.ofNat 32 (i 2).val
  let c4_i32 : BitVec 32 := 4#32
  let v9 : BitVec 1 := Scalar.cmpi .eq arg2 c4_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDlwoutIdeal.lean ====
abbrev S8320x2048 : Shape := ⟨2, ![8320, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S8320x2048, .bf16⟩
  | .hbm, ⟨2, _⟩ => ⟨S8320x2048, .f32⟩
  | .hbm, ⟨3, _⟩ => ⟨S_, .f32⟩
  | .hbm, ⟨4, _⟩ => ⟨S2048x2048, .f32⟩
  | .hbm, ⟨5, _⟩ => ⟨S8320x2048, .f32⟩
  | .hbm, ⟨6, _⟩ => ⟨S8320x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelDmix.lean ====
abbrev S8320x2048 : Shape := ⟨2, ![8320, 2048]⟩
abbrev S2048x2048 : Shape := ⟨2, ![2048, 2048]⟩
abbrev S640x2048 : Shape := ⟨2, ![640, 2048]⟩
abbrev S1024x2048 : Shape := ⟨2, ![1024, 2048]⟩
abbrev S640x1024 : Shape := ⟨2, ![640, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S8320x2048, .bf16⟩
  | .hbm, ⟨1, _⟩ => ⟨S2048x2048, .bf16⟩
  | .hbm, ⟨2, _⟩ => ⟨S8320x2048, .f32⟩
  | .local _ .vmem, ⟨0, _⟩ => ⟨S640x2048, .bf16⟩
  | .local _ .vmem, ⟨1, _⟩ => ⟨S640x2048, .bf16⟩
  | .local _ .vmem, ⟨2, _⟩ => ⟨S1024x2048, .bf16⟩
  | .local _ .vmem, ⟨3, _⟩ => ⟨S1024x2048, .bf16⟩
  | .local _ .vmem, ⟨4, _⟩ => ⟨S640x1024, .f32⟩
  | .local _ .vmem, ⟨5, _⟩ => ⟨S640x1024, .f32⟩
  | .local _ .vmem, ⟨6, _⟩ => ⟨S8x128, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![13, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDmixIdeal.lean ====
abbrev S8320x2048 : Shape := ⟨2, ![8320, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S2048x2048, .bf16⟩
  | .hbm, ⟨2, _⟩ => ⟨S2048x2048, .f32⟩
  | .hbm, ⟨3, _⟩ => ⟨S_, .f32⟩
  | .hbm, ⟨4, _⟩ => ⟨S8320x2048, .f32⟩
  | .hbm, ⟨5, _⟩ => ⟨S8320x2048, .f32⟩
  | .hbm, ⟨6, _⟩ => ⟨S8320x2048, .f32⟩
  | .hbm, ⟨7, _⟩ => ⟨S8320x2048, .f32⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelDln.lean ====
abbrev S8320x2048 : Shape := ⟨2, ![8320, 2048]⟩
abbrev S2048 : Shape := ⟨1, ![2048]⟩
abbrev S1x2048 : Shape := ⟨2, ![1, 2048]⟩
abbrev S320x2048 : Shape := ⟨2, ![320, 2048]⟩
abbrev S320 : Shape := ⟨1, ![320]⟩
abbrev S320x1 : Shape := ⟨2, ![320, 1]⟩

abbrev nBuf : Space → Nat
  | .hbm => 12
  | .vmem => 16
  | .smem => 0
  | _ => 0

abbrev bufTy : (tb : Table) → Fin (tcTables nBuf tb) → BufTy
  | .hbm, ⟨0, _⟩ => ⟨S8320x2048, .f32⟩
  | .hbm, ⟨1, _⟩ => ⟨S8320x2048, .f32⟩
  | .hbm, ⟨2, _⟩ => ⟨S2048, .f32⟩
  | .hbm, ⟨3, _⟩ => ⟨S2048, .f32⟩
  | .hbm, ⟨4, _⟩ => ⟨S8320x2048, .f32⟩
  | .hbm, ⟨5, _⟩ => ⟨S8320x2048, .f32⟩
  | .hbm, ⟨6, _⟩ => ⟨S1x2048, .f32⟩
  | .hbm, ⟨7, _⟩ => ⟨S1x2048, .f32⟩
  | .hbm, ⟨8, _⟩ => ⟨S8320x2048, .f32⟩
  | .hbm, ⟨9, _⟩ => ⟨S8320x2048, .bf16⟩
  | .hbm, ⟨10, _⟩ => ⟨S1x2048, .f32⟩
  | .hbm, ⟨11, _⟩ => ⟨S1x2048, .f32⟩
  | .local _ .vmem, ⟨0, _⟩ => ⟨S320x2048, .f32⟩
  | .local _ .vmem, ⟨1, _⟩ => ⟨S320x2048, .f32⟩
  | .local _ .vmem, ⟨2, _⟩ => ⟨S320x2048, .f32⟩
  | .local _ .vmem, ⟨3, _⟩ => ⟨S320x2048, .f32⟩
  | .local _ .vmem, ⟨4, _⟩ => ⟨S320x2048, .f32⟩
  | .local _ .vmem, ⟨5, _⟩ => ⟨S320x2048, .f32⟩
  | .local _ .vmem, ⟨6, _⟩ => ⟨S320x2048, .f32⟩
  | .local _ .vmem, ⟨7, _⟩ => ⟨S320x2048, .f32⟩
  | .local _ .vmem, ⟨8, _⟩ => ⟨S1x2048, .f32⟩
  | .local _ .vmem, ⟨9, _⟩ => ⟨S1x2048, .f32⟩
  | .local _ .vmem, ⟨10, _⟩ => ⟨S320x2048, .f32⟩
  | .local _ .vmem, ⟨11, _⟩ => ⟨S320x2048, .f32⟩
  | .local _ .vmem, ⟨12, _⟩ => ⟨S320x2048, .bf16⟩
  | .local _ .vmem, ⟨13, _⟩ => ⟨S320x2048, .bf16⟩
  | .local _ .vmem, ⟨14, _⟩ => ⟨S1x2048, .f32⟩
  | .local _ .vmem, ⟨15, _⟩ => ⟨S1x2048, .f32⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![26], ![false]⟩

def k0_cond1 (i : grid0.Coords) : BitVec 1 :=
  let arg0 : BitVec 32 := BitVec.ofNat 32 (i 0).val
  let c0_i32 : BitVec 32 := 0#32
  let v68 : BitVec 1 := Scalar.cmpi .eq arg0 c0_i32
  let v69 : BitVec 32 := Scalar.extui v68
  let c0_i32_30 : BitVec 32 := 0#32
  let v70 : BitVec 1 := Scalar.cmpi .ne v69 c0_i32_30
  v70

def k0_cond2 (i : grid0.Coords) : BitVec 1 :=
  let arg0 : BitVec 32 := BitVec.ofNat 32 (i 0).val
  let c0_i32 : BitVec 32 := 0#32
  let v68 : BitVec 1 := Scalar.cmpi .eq arg0 c0_i32
  let v_true : BitVec 1 := 1#1
  let v71 : BitVec 1 := Scalar.xori v68 v_true
  let v72 : BitVec 32 := Scalar.extui v71
  let c0_i32_31 : BitVec 32 := 0#32
  let v73 : BitVec 1 := Scalar.cmpi .ne v72 c0_i32_31
  v73

def k0_cond3 (i : grid0.Coords) : BitVec 1 :=
  let arg0 : BitVec 32 := BitVec.ofNat 32 (i 0).val
  let c0_i32_32 : BitVec 32 := 0#32
  let v74 : BitVec 1 := Scalar.cmpi .eq arg0 c0_i32_32
  let v75 : BitVec 32 := Scalar.extui v74
  let c0_i32_33 : BitVec 32 := 0#32
  let v76 : BitVec 1 := Scalar.cmpi .ne v75 c0_i32_33
  v76

def k0_cond4 (i : grid0.Coords) : BitVec 1 :=
  let arg0 : BitVec 32 := BitVec.ofNat 32 (i 0).val
  let c0_i32_32 : BitVec 32 := 0#32
  let v74 : BitVec 1 := Scalar.cmpi .eq arg0 c0_i32_32
  let true_34 : BitVec 1 := 1#1
  let v77 : BitVec 1 := Scalar.xori v74 true_34
  let v78 : BitVec 32 := Scalar.extui v77
  let c0_i32_35 : BitVec 32 := 0#32
  let v79 : BitVec 1 := Scalar.cmpi .ne v78 c0_i32_35
  v79

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S320x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S320x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S320x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S320x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S320x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S320x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceDlnIdeal.lean ====
abbrev S8320x2048 : Shape := ⟨2, ![8320, 2048]⟩
abbrev S2048 : Shape := ⟨1, ![2048]⟩
abbrev S_ : Shape := ⟨0, ![]⟩
abbrev S8320 : Shape := ⟨1, ![8320]⟩
abbrev S8320x1 : Shape := ⟨2, ![8320, 1]⟩
abbrev S1x2048 : Shape := ⟨2, ![1, 2048]⟩

abbrev nBuf : Space → Nat
  | .hbm => 97
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S8320x2048, .f32⟩
  | .hbm, ⟨2, _⟩ => ⟨S2048, .f32⟩
  | .hbm, ⟨3, _⟩ => ⟨S2048, .f32⟩
  | .hbm, ⟨4, _⟩ => ⟨S8320x2048, .f32⟩
  | .hbm, ⟨5, _⟩ => ⟨S8320x2048, .f32⟩
  | .hbm, ⟨6, _⟩ => ⟨S_, .f32⟩
  | .hbm, ⟨7, _⟩ => ⟨S8320x2048, .f32⟩
  | .hbm, ⟨8, _⟩ => ⟨S8320x2048, .f32⟩
  | .hbm, ⟨9, _⟩ => ⟨S8320x2048, .f32⟩
  | .hbm, ⟨10, _⟩ => ⟨S_, .f32⟩
  | .hbm, ⟨11, _⟩ => ⟨S8320, .f32⟩
  | .hbm, ⟨12, _⟩ => ⟨S8320x1, .f32⟩
  | .hbm, ⟨13, _⟩ => ⟨S_, .f32⟩
  | .hbm, ⟨14, _⟩ => ⟨S8320x1, .f32⟩
  | .hbm, ⟨15, _⟩ => ⟨S8320x1, .f32⟩
  | .hbm, ⟨16, _⟩ => ⟨S8320x2048, .f32⟩
  | .hbm, ⟨17, _⟩ => ⟨S8320x2048, .f32⟩
  | .hbm, ⟨18, _⟩ => ⟨S8320x2048, .f32⟩
  | .hbm, ⟨19, _⟩ => ⟨S_, .f32⟩
  | .hbm, ⟨20, _⟩ => ⟨S8320x2048, .f32⟩
  | .hbm, ⟨21, _⟩ => ⟨S8320x2048, .f32⟩
  | .hbm, ⟨22, _⟩ => ⟨S_, .f32⟩
  | .hbm, ⟨23, _⟩ => ⟨S8320, .f32⟩
  | .hbm, ⟨24, _⟩ => ⟨S8320x1, .f32⟩
  | .hbm, ⟨25, _⟩ => ⟨S_, .f32⟩
  | .hbm, ⟨26, _⟩ => ⟨S8320x1, .f32⟩
  | .hbm, ⟨27, _⟩ => ⟨S8320x1, .f32⟩
  | .hbm, ⟨28, _⟩ => ⟨S8320x2048, .f32⟩
  | .hbm, ⟨29, _⟩ => ⟨S8320x2048, .f32⟩
  | .hbm, ⟨30, _⟩ => ⟨S_, .f32⟩
  | .hbm, ⟨31, _⟩ => ⟨S8320x1, .f32⟩
  | .hbm, ⟨32, _⟩ => ⟨S8320x1, .f32⟩
  | .hbm, ⟨33, _⟩ => ⟨S8320x1, .f32⟩
  | .hbm, ⟨34, _⟩ => ⟨S8320x1, .f32⟩
  | .hbm, ⟨35, _⟩ => ⟨S_, .f32⟩
  | .hbm, ⟨36, _⟩ => ⟨S8320x1, .f32⟩
  | .hbm, ⟨37, _⟩ => ⟨S8320x1, .f32⟩
  | .hbm, ⟨38, _⟩ => ⟨S8320x2048, .f32⟩
  | .hbm, ⟨39, _⟩ => ⟨S8320x2048, .f32⟩
  | .hbm, ⟨40, _⟩ => ⟨S1x2048, .f32⟩
  | .hbm, ⟨41, _⟩ => ⟨S8320x2048, .f32⟩
  | .hbm, ⟨42, _⟩ => ⟨S8320x2048, .f32⟩
  | .hbm, ⟨43, _⟩ => ⟨S1x2048, .f32⟩
  | .hbm, ⟨44, _⟩ => ⟨S8320x2048, .f32⟩
  | .hbm, ⟨45, _⟩ => ⟨S8320x2048, .f32⟩
  | .hbm, ⟨46, _⟩ => ⟨S_, .f32⟩
  | .hbm, ⟨47, _⟩ => ⟨S8320x2048, .f32⟩
  | .hbm, ⟨48, _⟩ => ⟨S8320x2048, .f32⟩
  | .hbm, ⟨49, _⟩ => ⟨S8320x2048, .f32⟩
  | .hbm, ⟨50, _⟩ => ⟨S_, .f32⟩
  | .hbm, ⟨51, _⟩ => ⟨S2048, .f32⟩
  | .hbm, ⟨52, _⟩ => ⟨S1x2048, .f32⟩
  | .hbm, ⟨53, _⟩ => ⟨S_, .f32⟩
  | .hbm, ⟨54, _⟩ => ⟨S2048, .f32⟩
  | .hbm, ⟨55, _⟩ => ⟨S8320x2048, .f32⟩
  | .hbm, ⟨56, _⟩ => ⟨S_, .f32⟩
  | .hbm, ⟨57, _⟩ => ⟨S2048, .f32⟩
  | .hbm, ⟨58, _⟩ => ⟨S1x2048, .f32⟩
  | .hbm, ⟨59, _⟩ => ⟨S8320x2048, .f32⟩
  | .hbm, ⟨60, _⟩ => ⟨S8320x2048, .f32⟩
  | .hbm, ⟨61, _⟩ => ⟨S_, .f32⟩
  | .hbm, ⟨62, _⟩ => ⟨S2048, .f32⟩
  | .hbm, ⟨63, _⟩ => ⟨S8320x2048, .f32⟩
  | .hbm, ⟨64, _⟩ => ⟨S_, .f32⟩
  | .hbm, ⟨65, _⟩ => ⟨S8320, .f32⟩
  | .hbm, ⟨66, _⟩ => ⟨S8320x1, .f32⟩
  | .hbm, ⟨67, _⟩ => ⟨S8320x2048, .f32⟩
  | .hbm, ⟨68, _⟩ => ⟨S8320x2048, .f32⟩
  | .hbm, ⟨69, _⟩ => ⟨S8320x1, .f32⟩
  | .hbm, ⟨70, _⟩ => ⟨S8320x2048, .f32⟩
  | .hbm, ⟨71, _⟩ => ⟨S_, .f32⟩
  | .hbm, ⟨72, _⟩ => ⟨S8320, .f32⟩
  | .hbm, ⟨73, _⟩ => ⟨S8320x1, .f32⟩
  | .hbm, ⟨74, _⟩ => ⟨S_, .f32⟩
  | .hbm, ⟨75, _⟩ => ⟨S8320x1, .f32⟩
  | .hbm, ⟨76, _⟩ => ⟨S8320x1, .f32⟩
  | .hbm, ⟨77, _⟩ => ⟨S_, .f32⟩
  | .hbm, ⟨78, _⟩ => ⟨S8320, .f32⟩
  | .hbm, ⟨79, _⟩ => ⟨S8320x2048, .f32⟩
  | .hbm, ⟨80, _⟩ => ⟨S8320x2048, .f32⟩
  | .hbm, ⟨81, _⟩ => ⟨S8320x2048, .f32⟩
  | .hbm, ⟨82, _⟩ => ⟨S_, .f32⟩
  | .hbm, ⟨83, _⟩ => ⟨S8320, .f32⟩
  | .hbm, ⟨84, _⟩ => ⟨S8320x1, .f32⟩
  | .hbm, ⟨85, _⟩ => ⟨S8320x2048, .f32⟩
  | .hbm, ⟨86, _⟩ => ⟨S8320x1, .f32⟩
  | .hbm, ⟨87, _⟩ => ⟨S_, .f32⟩
  | .hbm, ⟨88, _⟩ => ⟨S8320x1, .f32⟩
  | .hbm, ⟨89, _⟩ => ⟨S8320x1, .f32⟩
  | .hbm, ⟨90, _⟩ => ⟨S_, .f32⟩
  | .hbm, ⟨91, _⟩ => ⟨S8320, .f32⟩
  | .hbm, ⟨92, _⟩ => ⟨S8320x2048, .f32⟩
  | .hbm, ⟨93, _⟩ => ⟨S8320x2048, .f32⟩
  | .hbm, ⟨94, _⟩ => ⟨S8320x2048, .bf16⟩
  | .hbm, ⟨95, _⟩ => ⟨S1x2048, .f32⟩
  | .hbm, ⟨96, _⟩ => ⟨S1x2048, .f32⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_cst_4 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_6 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_8 : Ref sig .tc := ⟨.hbm, 50, rfl⟩
abbrev main_v35 : Ref sig .tc := ⟨.hbm, 51, rfl⟩
abbrev main_v36 : Ref sig .tc := ⟨.hbm, 52, rfl⟩
abbrev main_cst_9 : Ref sig .tc := ⟨.hbm, 53, rfl⟩
abbrev main_v37 : Ref sig .tc := ⟨.hbm, 54, rfl⟩
abbrev main_v38 : Ref sig .tc := ⟨.hbm, 55, rfl⟩
abbrev main_cst_10 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_11 : Ref sig .tc := ⟨.hbm, 61, rfl⟩
abbrev main_v43 : Ref sig .tc := ⟨.hbm, 62, rfl⟩
abbrev main_v44 : Ref sig .tc := ⟨.hbm, 63, rfl⟩
abbrev main_cst_12 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_13 : Ref sig .tc := ⟨.hbm, 71, rfl⟩
abbrev main_v51 : Ref sig .tc := ⟨.hbm, 72, rfl⟩
abbrev main_v52 : Ref sig .tc := ⟨.hbm, 73, rfl⟩
abbrev main_cst_14 : Ref sig .tc := ⟨.hbm, 74, rfl⟩
abbrev main_v53 : Ref sig .tc := ⟨.hbm, 75, rfl⟩
abbrev main_v54 : Ref sig .tc := ⟨.hbm, 76, rfl⟩
abbrev main_cst_15 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_16 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_17 : Ref sig .tc := ⟨.hbm, 87, rfl⟩
abbrev main_v63 : Ref sig .tc := ⟨.hbm, 88, rfl⟩
abbrev main_v64 : Ref sig .tc := ⟨.hbm, 89, rfl⟩
abbrev main_cst_18 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩

abbrev nD : Nat := 1
abbrev τ : Topo := Topo.v7x

variable {F : FTy → Type} [FloatOps F]
-- ==== KernelLn.lean ====
abbrev S8320x2048 : Shape := ⟨2, ![8320, 2048]⟩
abbrev S2048 : Shape := ⟨1, ![2048]⟩
abbrev S1x2048 : Shape := ⟨2, ![1, 2048]⟩
abbrev S320x2048 : Shape := ⟨2, ![320, 2048]⟩
abbrev S320 : Shape := ⟨1, ![320]⟩
abbrev S320x1 : Shape := ⟨2, ![320, 1]⟩

abbrev nBuf : Space → Nat
  | .hbm => 8
  | .vmem => 10
  | .smem => 0
  | _ => 0

abbrev bufTy : (tb : Table) → Fin (tcTables nBuf tb) → BufTy
  | .hbm, ⟨0, _⟩ => ⟨S8320x2048, .f32⟩
  | .hbm, ⟨1, _⟩ => ⟨S8320x2048, .f32⟩
  | .hbm, ⟨2, _⟩ => ⟨S2048, .f32⟩
  | .hbm, ⟨3, _⟩ => ⟨S2048, .f32⟩
  | .hbm, ⟨4, _⟩ => ⟨S1x2048, .f32⟩
  | .hbm, ⟨5, _⟩ => ⟨S1x2048, .f32⟩
  | .hbm, ⟨6, _⟩ => ⟨S8320x2048, .f32⟩
  | .hbm, ⟨7, _⟩ => ⟨S8320x2048, .bf16⟩
  | .local _ .vmem, ⟨0, _⟩ => ⟨S320x2048, .f32⟩
  | .local _ .vmem, ⟨1, _⟩ => ⟨S320x2048, .f32⟩
  | .local _ .vmem, ⟨2, _⟩ => ⟨S320x2048, .f32⟩
  | .local _ .vmem, ⟨3, _⟩ => ⟨S320x2048, .f32⟩
  | .local _ .vmem, ⟨4, _⟩ => ⟨S1x2048, .f32⟩
  | .local _ .vmem, ⟨5, _⟩ => ⟨S1x2048, .f32⟩
  | .local _ .vmem, ⟨6, _⟩ => ⟨S320x2048, .f32⟩
  | .local _ .vmem, ⟨7, _⟩ => ⟨S320x2048, .f32⟩
  | .local _ .vmem, ⟨8, _⟩ => ⟨S320x2048, .bf16⟩
  | .local _ .vmem, ⟨9, _⟩ => ⟨S320x2048, .bf16⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S320x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S320x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S320x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S320x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceLnIdeal.lean ====
abbrev S8320x2048 : Shape := ⟨2, ![8320, 2048]⟩
abbrev S2048 : Shape := ⟨1, ![2048]⟩
abbrev S_ : Shape := ⟨0, ![]⟩
abbrev S8320 : Shape := ⟨1, ![8320]⟩
abbrev S8320x1 : Shape := ⟨2, ![8320, 1]⟩
abbrev S1x2048 : Shape := ⟨2, ![1, 2048]⟩

abbrev nBuf : Space → Nat
  | .hbm => 38
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S8320x2048, .f32⟩
  | .hbm, ⟨2, _⟩ => ⟨S2048, .f32⟩
  | .hbm, ⟨3, _⟩ => ⟨S2048, .f32⟩
  | .hbm, ⟨4, _⟩ => ⟨S_, .f32⟩
  | .hbm, ⟨5, _⟩ => ⟨S8320x2048, .f32⟩
  | .hbm, ⟨6, _⟩ => ⟨S8320x2048, .f32⟩
  | .hbm, ⟨7, _⟩ => ⟨S8320x2048, .f32⟩
  | .hbm, ⟨8, _⟩ => ⟨S_, .f32⟩
  | .hbm, ⟨9, _⟩ => ⟨S8320, .f32⟩
  | .hbm, ⟨10, _⟩ => ⟨S8320x1, .f32⟩
  | .hbm, ⟨11, _⟩ => ⟨S_, .f32⟩
  | .hbm, ⟨12, _⟩ => ⟨S8320x1, .f32⟩
  | .hbm, ⟨13, _⟩ => ⟨S8320x1, .f32⟩
  | .hbm, ⟨14, _⟩ => ⟨S8320x2048, .f32⟩
  | .hbm, ⟨15, _⟩ => ⟨S8320x2048, .f32⟩
  | .hbm, ⟨16, _⟩ => ⟨S8320x2048, .f32⟩
  | .hbm, ⟨17, _⟩ => ⟨S_, .f32⟩
  | .hbm, ⟨18, _⟩ => ⟨S8320, .f32⟩
  | .hbm, ⟨19, _⟩ => ⟨S8320x1, .f32⟩
  | .hbm, ⟨20, _⟩ => ⟨S_, .f32⟩
  | .hbm, ⟨21, _⟩ => ⟨S8320x1, .f32⟩
  | .hbm, ⟨22, _⟩ => ⟨S8320x1, .f32⟩
  | .hbm, ⟨23, _⟩ => ⟨S8320x2048, .f32⟩
  | .hbm, ⟨24, _⟩ => ⟨S8320x2048, .f32⟩
  | .hbm, ⟨25, _⟩ => ⟨S_, .f32⟩
  | .hbm, ⟨26, _⟩ => ⟨S8320x1, .f32⟩
  | .hbm, ⟨27, _⟩ => ⟨S8320x1, .f32⟩
  | .hbm, ⟨28, _⟩ => ⟨S8320x1, .f32⟩
  | .hbm, ⟨29, _⟩ => ⟨S8320x2048, .f32⟩
  | .hbm, ⟨30, _⟩ => ⟨S8320x2048, .f32⟩
  | .hbm, ⟨31, _⟩ => ⟨S1x2048, .f32⟩
  | .hbm, ⟨32, _⟩ => ⟨S8320x2048, .f32⟩
  | .hbm, ⟨33, _⟩ => ⟨S8320x2048, .f32⟩
  | .hbm, ⟨34, _⟩ => ⟨S1x2048, .f32⟩
  | .hbm, ⟨35, _⟩ => ⟨S8320x2048, .f32⟩
  | .hbm, ⟨36, _⟩ => ⟨S8320x2048, .f32⟩
  | .hbm, ⟨37, _⟩ => ⟨S8320x2048, .bf16⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== KernelAct.lean ====
abbrev S8320x11264 : Shape := ⟨2, ![8320, 11264]⟩
abbrev S8320x5632 : Shape := ⟨2, ![8320, 5632]⟩
abbrev S640x1408 : Shape := ⟨2, ![640, 1408]⟩

abbrev nBuf : Space → Nat
  | .hbm => 2
  | .vmem => 6
  | .smem => 0
  | _ => 0

abbrev bufTy : (tb : Table) → Fin (tcTables nBuf tb) → BufTy
  | .hbm, ⟨0, _⟩ => ⟨S8320x11264, .bf16⟩
  | .hbm, ⟨1, _⟩ => ⟨S8320x5632, .bf16⟩
  | .local _ .vmem, ⟨0, _⟩ => ⟨S640x1408, .bf16⟩
  | .local _ .vmem, ⟨1, _⟩ => ⟨S640x1408, .bf16⟩
  | .local _ .vmem, ⟨2, _⟩ => ⟨S640x1408, .bf16⟩
  | .local _ .vmem, ⟨3, _⟩ => ⟨S640x1408, .bf16⟩
  | .local _ .vmem, ⟨4, _⟩ => ⟨S640x1408, .bf16⟩
  | .local _ .vmem, ⟨5, _⟩ => ⟨S640x1408, .bf16⟩
  | _, _ => ⟨S8320x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![13, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S640x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S640x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S640x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceActIdeal.lean ====
abbrev S8320x11264 : Shape := ⟨2, ![8320, 11264]⟩
abbrev S8320x5632 : Shape := ⟨2, ![8320, 5632]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S8320x11264, .bf16⟩
  | .hbm, ⟨1, _⟩ => ⟨S8320x5632, .bf16⟩
  | .hbm, ⟨2, _⟩ => ⟨S8320x5632, .f32⟩
  | .hbm, ⟨3, _⟩ => ⟨S8320x5632, .bf16⟩
  | .hbm, ⟨4, _⟩ => ⟨S8320x5632, .f32⟩
  | .hbm, ⟨5, _⟩ => ⟨S8320x5632, .f32⟩
  | .hbm, ⟨6, _⟩ => ⟨S8320x5632, .f32⟩
  | .hbm, ⟨7, _⟩ => ⟨S_, .f32⟩
  | .hbm, ⟨8, _⟩ => ⟨S8320x5632, .f32⟩
  | .hbm, ⟨9, _⟩ => ⟨S8320x5632, .f32⟩
  | .hbm, ⟨10, _⟩ => ⟨S_, .f32⟩
  | .hbm, ⟨11, _⟩ => ⟨S8320x5632, .f32⟩
  | .hbm, ⟨12, _⟩ => ⟨S8320x5632, .f32⟩
  | .hbm, ⟨13, _⟩ => ⟨S8320x5632, .f32⟩
  | .hbm, ⟨14, _⟩ => ⟨S8320x5632, .f32⟩
  | .hbm, ⟨15, _⟩ => ⟨S8320x5632, .bf16⟩
  | _, _ => ⟨S8320x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩

abbrev nD : Nat := 1
abbrev τ : Topo := Topo.v7x

variable {F : FTy → Type} [FloatOps F]
-- ==== KernelOptgu.lean ====
abbrev S2048x1408 : Shape := ⟨2, ![2048, 1408]⟩
abbrev S256x1408 : Shape := ⟨2, ![256, 1408]⟩

abbrev nBuf : Space → Nat
  | .hbm => 9
  | .vmem => 18
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .hbm, ⟨7, _⟩ => ⟨S2048x1408, .f32⟩
  | .hbm, ⟨8, _⟩ => ⟨S2048x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | .local _ .vmem, ⟨16, _⟩ => ⟨S256x1408, .f32⟩
  | .local _ .vmem, ⟨17, _⟩ => ⟨S256x1408, .f32⟩
  | _, _ => ⟨S2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelOptguIdeal.lean ====
abbrev S2048x1408 : Shape := ⟨2, ![2048, 1408]⟩
abbrev S256x1408 : Shape := ⟨2, ![256, 1408]⟩

abbrev nBuf : Space → Nat
  | .hbm => 9
  | .vmem => 18
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .hbm, ⟨7, _⟩ => ⟨S2048x1408, .f32⟩
  | .hbm, ⟨8, _⟩ => ⟨S2048x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | .local _ .vmem, ⟨16, _⟩ => ⟨S256x1408, .f32⟩
  | .local _ .vmem, ⟨17, _⟩ => ⟨S256x1408, .f32⟩
  | _, _ => ⟨S2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceOptguIdeal.lean ====
abbrev S2048x1408 : Shape := ⟨2, ![2048, 1408]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S2048x1408, .f32⟩
  | .hbm, ⟨5, _⟩ => ⟨S2048x1408, .f32⟩
  | .hbm, ⟨6, _⟩ => ⟨S_, .f32⟩
  | .hbm, ⟨7, _⟩ => ⟨S2048x1408, .f32⟩
  | .hbm, ⟨8, _⟩ => ⟨S2048x1408, .f32⟩
  | .hbm, ⟨9, _⟩ => ⟨S_, .f32⟩
  | .hbm, ⟨10, _⟩ => ⟨S2048x1408, .f32⟩
  | .hbm, ⟨11, _⟩ => ⟨S2048x1408, .f32⟩
  | .hbm, ⟨12, _⟩ => ⟨S2048x1408, .f32⟩
  | .hbm, ⟨13, _⟩ => ⟨S_, .f32⟩
  | .hbm, ⟨14, _⟩ => ⟨S2048x1408, .f32⟩
  | .hbm, ⟨15, _⟩ => ⟨S2048x1408, .f32⟩
  | .hbm, ⟨16, _⟩ => ⟨S2048x1408, .f32⟩
  | .hbm, ⟨17, _⟩ => ⟨S_, .f32⟩
  | .hbm, ⟨18, _⟩ => ⟨S2048x1408, .f32⟩
  | .hbm, ⟨19, _⟩ => ⟨S2048x1408, .f32⟩
  | .hbm, ⟨20, _⟩ => ⟨S2048x1408, .f32⟩
  | .hbm, ⟨21, _⟩ => ⟨S_, .f32⟩
  | .hbm, ⟨22, _⟩ => ⟨S2048x1408, .f32⟩
  | .hbm, ⟨23, _⟩ => ⟨S2048x1408, .f32⟩
  | .hbm, ⟨24, _⟩ => ⟨S_, .f32⟩
  | .hbm, ⟨25, _⟩ => ⟨S2048x1408, .f32⟩
  | .hbm, ⟨26, _⟩ => ⟨S2048x1408, .f32⟩
  | .hbm, ⟨27, _⟩ => ⟨S2048x1408, .f32⟩
  | .hbm, ⟨28, _⟩ => ⟨S_, .f32⟩
  | .hbm, ⟨29, _⟩ => ⟨S2048x1408, .f32⟩
  | .hbm, ⟨30, _⟩ => ⟨S2048x1408, .f32⟩
  | .hbm, ⟨31, _⟩ => ⟨S2048x1408, .f32⟩
  | .hbm, ⟨32, _⟩ => ⟨S_, .f32⟩
  | .hbm, ⟨33, _⟩ => ⟨S2048x1408, .f32⟩
  | .hbm, ⟨34, _⟩ => ⟨S2048x1408, .f32⟩
  | .hbm, ⟨35, _⟩ => ⟨S2048x1408, .f32⟩
  | .hbm, ⟨36, _⟩ => ⟨S_, .f32⟩
  | .hbm, ⟨37, _⟩ => ⟨S2048x1408, .f32⟩
  | .hbm, ⟨38, _⟩ => ⟨S2048x1408, .f32⟩
  | _, _ => ⟨S2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== KernelOptdown.lean ====
abbrev S1408x2048 : Shape := ⟨2, ![1408, 2048]⟩
abbrev S176x2048 : Shape := ⟨2, ![176, 2048]⟩

abbrev nBuf : Space → Nat
  | .hbm => 9
  | .vmem => 18
  | .smem => 0
  | _ => 0

abbrev bufTy : (tb : Table) → Fin (tcTables nBuf tb) → BufTy
  | .hbm, ⟨0, _⟩ => ⟨S1408x2048, .f32⟩
  | .hbm, ⟨1, _⟩ => ⟨S1408x2048, .f32⟩
  | .hbm, ⟨2, _⟩ => ⟨S1408x2048, .f32⟩
  | .hbm, ⟨3, _⟩ => ⟨S1408x2048, .f32⟩
  | .hbm, ⟨4, _⟩ => ⟨S1408x2048, .f32⟩
  | .hbm, ⟨5, _⟩ => ⟨S1408x2048, .f32⟩
  | .hbm, ⟨6, _⟩ => ⟨S1408x2048, .f32⟩
  | .hbm, ⟨7, _⟩ => ⟨S1408x2048, .f32⟩
  | .hbm, ⟨8, _⟩ => ⟨S1408x2048, .f32⟩
  | .local _ .vmem, ⟨0, _⟩ => ⟨S176x2048, .f32⟩
  | .local _ .vmem, ⟨1, _⟩ => ⟨S176x2048, .f32⟩
  | .local _ .vmem, ⟨2, _⟩ => ⟨S176x2048, .f32⟩
  | .local _ .vmem, ⟨3, _⟩ => ⟨S176x2048, .f32⟩
  | .local _ .vmem, ⟨4, _⟩ => ⟨S176x2048, .f32⟩
  | .local _ .vmem, ⟨5, _⟩ => ⟨S176x2048, .f32⟩
  | .local _ .vmem, ⟨6, _⟩ => ⟨S176x2048, .f32⟩
  | .local _ .vmem, ⟨7, _⟩ => ⟨S176x2048, .f32⟩
  | .local _ .vmem, ⟨8, _⟩ => ⟨S176x2048, .f32⟩
  | .local _ .vmem, ⟨9, _⟩ => ⟨S176x2048, .f32⟩
  | .local _ .vmem, ⟨10, _⟩ => ⟨S176x2048, .f32⟩
  | .local _ .vmem, ⟨11, _⟩ => ⟨S176x2048, .f32⟩
  | .local _ .vmem, ⟨12, _⟩ => ⟨S176x2048, .f32⟩
  | .local _ .vmem, ⟨13, _⟩ => ⟨S176x2048, .f32⟩
  | .local _ .vmem, ⟨14, _⟩ => ⟨S176x2048, .f32⟩
  | .local _ .vmem, ⟨15, _⟩ => ⟨S176x2048, .f32⟩
  | .local _ .vmem, ⟨16, _⟩ => ⟨S176x2048, .f32⟩
  | .local _ .vmem, ⟨17, _⟩ => ⟨S176x2048, .f32⟩
  | _, _ => ⟨S1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S176x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelOptdownIdeal.lean ====
abbrev S1408x2048 : Shape := ⟨2, ![1408, 2048]⟩
abbrev S176x2048 : Shape := ⟨2, ![176, 2048]⟩

abbrev nBuf : Space → Nat
  | .hbm => 9
  | .vmem => 18
  | .smem => 0
  | _ => 0

abbrev bufTy : (tb : Table) → Fin (tcTables nBuf tb) → BufTy
  | .hbm, ⟨0, _⟩ => ⟨S1408x2048, .f32⟩
  | .hbm, ⟨1, _⟩ => ⟨S1408x2048, .f32⟩
  | .hbm, ⟨2, _⟩ => ⟨S1408x2048, .f32⟩
  | .hbm, ⟨3, _⟩ => ⟨S1408x2048, .f32⟩
  | .hbm, ⟨4, _⟩ => ⟨S1408x2048, .f32⟩
  | .hbm, ⟨5, _⟩ => ⟨S1408x2048, .f32⟩
  | .hbm, ⟨6, _⟩ => ⟨S1408x2048, .f32⟩
  | .hbm, ⟨7, _⟩ => ⟨S1408x2048, .f32⟩
  | .hbm, ⟨8, _⟩ => ⟨S1408x2048, .f32⟩
  | .local _ .vmem, ⟨0, _⟩ => ⟨S176x2048, .f32⟩
  | .local _ .vmem, ⟨1, _⟩ => ⟨S176x2048, .f32⟩
  | .local _ .vmem, ⟨2, _⟩ => ⟨S176x2048, .f32⟩
  | .local _ .vmem, ⟨3, _⟩ => ⟨S176x2048, .f32⟩
  | .local _ .vmem, ⟨4, _⟩ => ⟨S176x2048, .f32⟩
  | .local _ .vmem, ⟨5, _⟩ => ⟨S176x2048, .f32⟩
  | .local _ .vmem, ⟨6, _⟩ => ⟨S176x2048, .f32⟩
  | .local _ .vmem, ⟨7, _⟩ => ⟨S176x2048, .f32⟩
  | .local _ .vmem, ⟨8, _⟩ => ⟨S176x2048, .f32⟩
  | .local _ .vmem, ⟨9, _⟩ => ⟨S176x2048, .f32⟩
  | .local _ .vmem, ⟨10, _⟩ => ⟨S176x2048, .f32⟩
  | .local _ .vmem, ⟨11, _⟩ => ⟨S176x2048, .f32⟩
  | .local _ .vmem, ⟨12, _⟩ => ⟨S176x2048, .f32⟩
  | .local _ .vmem, ⟨13, _⟩ => ⟨S176x2048, .f32⟩
  | .local _ .vmem, ⟨14, _⟩ => ⟨S176x2048, .f32⟩
  | .local _ .vmem, ⟨15, _⟩ => ⟨S176x2048, .f32⟩
  | .local _ .vmem, ⟨16, _⟩ => ⟨S176x2048, .f32⟩
  | .local _ .vmem, ⟨17, _⟩ => ⟨S176x2048, .f32⟩
  | _, _ => ⟨S1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S176x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceOptdownIdeal.lean ====
abbrev S1408x2048 : Shape := ⟨2, ![1408, 2048]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1408x2048, .f32⟩
  | .hbm, ⟨1, _⟩ => ⟨S1408x2048, .f32⟩
  | .hbm, ⟨2, _⟩ => ⟨S1408x2048, .f32⟩
  | .hbm, ⟨3, _⟩ => ⟨S1408x2048, .f32⟩
  | .hbm, ⟨4, _⟩ => ⟨S1408x2048, .f32⟩
  | .hbm, ⟨5, _⟩ => ⟨S1408x2048, .f32⟩
  | .hbm, ⟨6, _⟩ => ⟨S_, .f32⟩
  | .hbm, ⟨7, _⟩ => ⟨S1408x2048, .f32⟩
  | .hbm, ⟨8, _⟩ => ⟨S1408x2048, .f32⟩
  | .hbm, ⟨9, _⟩ => ⟨S_, .f32⟩
  | .hbm, ⟨10, _⟩ => ⟨S1408x2048, .f32⟩
  | .hbm, ⟨11, _⟩ => ⟨S1408x2048, .f32⟩
  | .hbm, ⟨12, _⟩ => ⟨S1408x2048, .f32⟩
  | .hbm, ⟨13, _⟩ => ⟨S_, .f32⟩
  | .hbm, ⟨14, _⟩ => ⟨S1408x2048, .f32⟩
  | .hbm, ⟨15, _⟩ => ⟨S1408x2048, .f32⟩
  | .hbm, ⟨16, _⟩ => ⟨S1408x2048, .f32⟩
  | .hbm, ⟨17, _⟩ => ⟨S_, .f32⟩
  | .hbm, ⟨18, _⟩ => ⟨S1408x2048, .f32⟩
  | .hbm, ⟨19, _⟩ => ⟨S1408x2048, .f32⟩
  | .hbm, ⟨20, _⟩ => ⟨S1408x2048, .f32⟩
  | .hbm, ⟨21, _⟩ => ⟨S_, .f32⟩
  | .hbm, ⟨22, _⟩ => ⟨S1408x2048, .f32⟩
  | .hbm, ⟨23, _⟩ => ⟨S1408x2048, .f32⟩
  | .hbm, ⟨24, _⟩ => ⟨S_, .f32⟩
  | .hbm, ⟨25, _⟩ => ⟨S1408x2048, .f32⟩
  | .hbm, ⟨26, _⟩ => ⟨S1408x2048, .f32⟩
  | .hbm, ⟨27, _⟩ => ⟨S1408x2048, .f32⟩
  | .hbm, ⟨28, _⟩ => ⟨S_, .f32⟩
  | .hbm, ⟨29, _⟩ => ⟨S1408x2048, .f32⟩
  | .hbm, ⟨30, _⟩ => ⟨S1408x2048, .f32⟩
  | .hbm, ⟨31, _⟩ => ⟨S1408x2048, .f32⟩
  | .hbm, ⟨32, _⟩ => ⟨S_, .f32⟩
  | .hbm, ⟨33, _⟩ => ⟨S1408x2048, .f32⟩
  | .hbm, ⟨34, _⟩ => ⟨S1408x2048, .f32⟩
  | .hbm, ⟨35, _⟩ => ⟨S1408x2048, .f32⟩
  | .hbm, ⟨36, _⟩ => ⟨S_, .f32⟩
  | .hbm, ⟨37, _⟩ => ⟨S1408x2048, .f32⟩
  | .hbm, ⟨38, _⟩ => ⟨S1408x2048, .f32⟩
  | _, _ => ⟨S1408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== KernelOptin.lean ====
abbrev S2048x2576 : Shape := ⟨2, ![2048, 2576]⟩
abbrev S128x2576 : Shape := ⟨2, ![128, 2576]⟩

abbrev nBuf : Space → Nat
  | .hbm => 9
  | .vmem => 18
  | .smem => 0
  | _ => 0

abbrev bufTy : (tb : Table) → Fin (tcTables nBuf tb) → BufTy
  | .hbm, ⟨0, _⟩ => ⟨S2048x2576, .f32⟩
  | .hbm, ⟨1, _⟩ => ⟨S2048x2576, .f32⟩
  | .hbm, ⟨2, _⟩ => ⟨S2048x2576, .f32⟩
  | .hbm, ⟨3, _⟩ => ⟨S2048x2576, .f32⟩
  | .hbm, ⟨4, _⟩ => ⟨S2048x2576, .f32⟩
  | .hbm, ⟨5, _⟩ => ⟨S2048x2576, .f32⟩
  | .hbm, ⟨6, _⟩ => ⟨S2048x2576, .f32⟩
  | .hbm, ⟨7, _⟩ => ⟨S2048x2576, .f32⟩
  | .hbm, ⟨8, _⟩ => ⟨S2048x2576, .f32⟩
  | .local _ .vmem, ⟨0, _⟩ => ⟨S128x2576, .f32⟩
  | .local _ .vmem, ⟨1, _⟩ => ⟨S128x2576, .f32⟩
  | .local _ .vmem, ⟨2, _⟩ => ⟨S128x2576, .f32⟩
  | .local _ .vmem, ⟨3, _⟩ => ⟨S128x2576, .f32⟩
  | .local _ .vmem, ⟨4, _⟩ => ⟨S128x2576, .f32⟩
  | .local _ .vmem, ⟨5, _⟩ => ⟨S128x2576, .f32⟩
  | .local _ .vmem, ⟨6, _⟩ => ⟨S128x2576, .f32⟩
  | .local _ .vmem, ⟨7, _⟩ => ⟨S128x2576, .f32⟩
  | .local _ .vmem, ⟨8, _⟩ => ⟨S128x2576, .f32⟩
  | .local _ .vmem, ⟨9, _⟩ => ⟨S128x2576, .f32⟩
  | .local _ .vmem, ⟨10, _⟩ => ⟨S128x2576, .f32⟩
  | .local _ .vmem, ⟨11, _⟩ => ⟨S128x2576, .f32⟩
  | .local _ .vmem, ⟨12, _⟩ => ⟨S128x2576, .f32⟩
  | .local _ .vmem, ⟨13, _⟩ => ⟨S128x2576, .f32⟩
  | .local _ .vmem, ⟨14, _⟩ => ⟨S128x2576, .f32⟩
  | .local _ .vmem, ⟨15, _⟩ => ⟨S128x2576, .f32⟩
  | .local _ .vmem, ⟨16, _⟩ => ⟨S128x2576, .f32⟩
  | .local _ .vmem, ⟨17, _⟩ => ⟨S128x2576, .f32⟩
  | _, _ => ⟨S2048x2576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2576 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2576 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2576 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2576 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2576 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2576 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2576 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2576 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2576 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelOptinIdeal.lean ====
abbrev S2048x2576 : Shape := ⟨2, ![2048, 2576]⟩
abbrev S128x2576 : Shape := ⟨2, ![128, 2576]⟩

abbrev nBuf : Space → Nat
  | .hbm => 9
  | .vmem => 18
  | .smem => 0
  | _ => 0

abbrev bufTy : (tb : Table) → Fin (tcTables nBuf tb) → BufTy
  | .hbm, ⟨0, _⟩ => ⟨S2048x2576, .f32⟩
  | .hbm, ⟨1, _⟩ => ⟨S2048x2576, .f32⟩
  | .hbm, ⟨2, _⟩ => ⟨S2048x2576, .f32⟩
  | .hbm, ⟨3, _⟩ => ⟨S2048x2576, .f32⟩
  | .hbm, ⟨4, _⟩ => ⟨S2048x2576, .f32⟩
  | .hbm, ⟨5, _⟩ => ⟨S2048x2576, .f32⟩
  | .hbm, ⟨6, _⟩ => ⟨S2048x2576, .f32⟩
  | .hbm, ⟨7, _⟩ => ⟨S2048x2576, .f32⟩
  | .hbm, ⟨8, _⟩ => ⟨S2048x2576, .f32⟩
  | .local _ .vmem, ⟨0, _⟩ => ⟨S128x2576, .f32⟩
  | .local _ .vmem, ⟨1, _⟩ => ⟨S128x2576, .f32⟩
  | .local _ .vmem, ⟨2, _⟩ => ⟨S128x2576, .f32⟩
  | .local _ .vmem, ⟨3, _⟩ => ⟨S128x2576, .f32⟩
  | .local _ .vmem, ⟨4, _⟩ => ⟨S128x2576, .f32⟩
  | .local _ .vmem, ⟨5, _⟩ => ⟨S128x2576, .f32⟩
  | .local _ .vmem, ⟨6, _⟩ => ⟨S128x2576, .f32⟩
  | .local _ .vmem, ⟨7, _⟩ => ⟨S128x2576, .f32⟩
  | .local _ .vmem, ⟨8, _⟩ => ⟨S128x2576, .f32⟩
  | .local _ .vmem, ⟨9, _⟩ => ⟨S128x2576, .f32⟩
  | .local _ .vmem, ⟨10, _⟩ => ⟨S128x2576, .f32⟩
  | .local _ .vmem, ⟨11, _⟩ => ⟨S128x2576, .f32⟩
  | .local _ .vmem, ⟨12, _⟩ => ⟨S128x2576, .f32⟩
  | .local _ .vmem, ⟨13, _⟩ => ⟨S128x2576, .f32⟩
  | .local _ .vmem, ⟨14, _⟩ => ⟨S128x2576, .f32⟩
  | .local _ .vmem, ⟨15, _⟩ => ⟨S128x2576, .f32⟩
  | .local _ .vmem, ⟨16, _⟩ => ⟨S128x2576, .f32⟩
  | .local _ .vmem, ⟨17, _⟩ => ⟨S128x2576, .f32⟩
  | _, _ => ⟨S2048x2576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2576 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2576 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2576 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2576 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2576 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2576 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2576 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2576 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2576 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceOptinIdeal.lean ====
abbrev S2048x2576 : Shape := ⟨2, ![2048, 2576]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S2048x2576, .f32⟩
  | .hbm, ⟨1, _⟩ => ⟨S2048x2576, .f32⟩
  | .hbm, ⟨2, _⟩ => ⟨S2048x2576, .f32⟩
  | .hbm, ⟨3, _⟩ => ⟨S2048x2576, .f32⟩
  | .hbm, ⟨4, _⟩ => ⟨S2048x2576, .f32⟩
  | .hbm, ⟨5, _⟩ => ⟨S2048x2576, .f32⟩
  | .hbm, ⟨6, _⟩ => ⟨S_, .f32⟩
  | .hbm, ⟨7, _⟩ => ⟨S2048x2576, .f32⟩
  | .hbm, ⟨8, _⟩ => ⟨S2048x2576, .f32⟩
  | .hbm, ⟨9, _⟩ => ⟨S_, .f32⟩
  | .hbm, ⟨10, _⟩ => ⟨S2048x2576, .f32⟩
  | .hbm, ⟨11, _⟩ => ⟨S2048x2576, .f32⟩
  | .hbm, ⟨12, _⟩ => ⟨S2048x2576, .f32⟩
  | .hbm, ⟨13, _⟩ => ⟨S_, .f32⟩
  | .hbm, ⟨14, _⟩ => ⟨S2048x2576, .f32⟩
  | .hbm, ⟨15, _⟩ => ⟨S2048x2576, .f32⟩
  | .hbm, ⟨16, _⟩ => ⟨S2048x2576, .f32⟩
  | .hbm, ⟨17, _⟩ => ⟨S_, .f32⟩
  | .hbm, ⟨18, _⟩ => ⟨S2048x2576, .f32⟩
  | .hbm, ⟨19, _⟩ => ⟨S2048x2576, .f32⟩
  | .hbm, ⟨20, _⟩ => ⟨S2048x2576, .f32⟩
  | .hbm, ⟨21, _⟩ => ⟨S_, .f32⟩
  | .hbm, ⟨22, _⟩ => ⟨S2048x2576, .f32⟩
  | .hbm, ⟨23, _⟩ => ⟨S2048x2576, .f32⟩
  | .hbm, ⟨24, _⟩ => ⟨S_, .f32⟩
  | .hbm, ⟨25, _⟩ => ⟨S2048x2576, .f32⟩
  | .hbm, ⟨26, _⟩ => ⟨S2048x2576, .f32⟩
  | .hbm, ⟨27, _⟩ => ⟨S2048x2576, .f32⟩
  | .hbm, ⟨28, _⟩ => ⟨S_, .f32⟩
  | .hbm, ⟨29, _⟩ => ⟨S2048x2576, .f32⟩
  | .hbm, ⟨30, _⟩ => ⟨S2048x2576, .f32⟩
  | .hbm, ⟨31, _⟩ => ⟨S2048x2576, .f32⟩
  | .hbm, ⟨32, _⟩ => ⟨S_, .f32⟩
  | .hbm, ⟨33, _⟩ => ⟨S2048x2576, .f32⟩
  | .hbm, ⟨34, _⟩ => ⟨S2048x2576, .f32⟩
  | .hbm, ⟨35, _⟩ => ⟨S2048x2576, .f32⟩
  | .hbm, ⟨36, _⟩ => ⟨S_, .f32⟩
  | .hbm, ⟨37, _⟩ => ⟨S2048x2576, .f32⟩
  | .hbm, ⟨38, _⟩ => ⟨S2048x2576, .f32⟩
  | _, _ => ⟨S2048x2576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== KernelOptout.lean ====
abbrev S1024x2048 : Shape := ⟨2, ![1024, 2048]⟩
abbrev S256x2048 : Shape := ⟨2, ![256, 2048]⟩

abbrev nBuf : Space → Nat
  | .hbm => 9
  | .vmem => 18
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S1024x2048, .f32⟩
  | .hbm, ⟨5, _⟩ => ⟨S1024x2048, .f32⟩
  | .hbm, ⟨6, _⟩ => ⟨S1024x2048, .f32⟩
  | .hbm, ⟨7, _⟩ => ⟨S1024x2048, .f32⟩
  | .hbm, ⟨8, _⟩ => ⟨S1024x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | .local _ .vmem, ⟨16, _⟩ => ⟨S256x2048, .f32⟩
  | .local _ .vmem, ⟨17, _⟩ => ⟨S256x2048, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelOptoutIdeal.lean ====
abbrev S1024x2048 : Shape := ⟨2, ![1024, 2048]⟩
abbrev S256x2048 : Shape := ⟨2, ![256, 2048]⟩

abbrev nBuf : Space → Nat
  | .hbm => 9
  | .vmem => 18
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S1024x2048, .f32⟩
  | .hbm, ⟨5, _⟩ => ⟨S1024x2048, .f32⟩
  | .hbm, ⟨6, _⟩ => ⟨S1024x2048, .f32⟩
  | .hbm, ⟨7, _⟩ => ⟨S1024x2048, .f32⟩
  | .hbm, ⟨8, _⟩ => ⟨S1024x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | .local _ .vmem, ⟨16, _⟩ => ⟨S256x2048, .f32⟩
  | .local _ .vmem, ⟨17, _⟩ => ⟨S256x2048, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceOptoutIdeal.lean ====
abbrev S1024x2048 : Shape := ⟨2, ![1024, 2048]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S1024x2048, .f32⟩
  | .hbm, ⟨5, _⟩ => ⟨S1024x2048, .f32⟩
  | .hbm, ⟨6, _⟩ => ⟨S_, .f32⟩
  | .hbm, ⟨7, _⟩ => ⟨S1024x2048, .f32⟩
  | .hbm, ⟨8, _⟩ => ⟨S1024x2048, .f32⟩
  | .hbm, ⟨9, _⟩ => ⟨S_, .f32⟩
  | .hbm, ⟨10, _⟩ => ⟨S1024x2048, .f32⟩
  | .hbm, ⟨11, _⟩ => ⟨S1024x2048, .f32⟩
  | .hbm, ⟨12, _⟩ => ⟨S1024x2048, .f32⟩
  | .hbm, ⟨13, _⟩ => ⟨S_, .f32⟩
  | .hbm, ⟨14, _⟩ => ⟨S1024x2048, .f32⟩
  | .hbm, ⟨15, _⟩ => ⟨S1024x2048, .f32⟩
  | .hbm, ⟨16, _⟩ => ⟨S1024x2048, .f32⟩
  | .hbm, ⟨17, _⟩ => ⟨S_, .f32⟩
  | .hbm, ⟨18, _⟩ => ⟨S1024x2048, .f32⟩
  | .hbm, ⟨19, _⟩ => ⟨S1024x2048, .f32⟩
  | .hbm, ⟨20, _⟩ => ⟨S1024x2048, .f32⟩
  | .hbm, ⟨21, _⟩ => ⟨S_, .f32⟩
  | .hbm, ⟨22, _⟩ => ⟨S1024x2048, .f32⟩
  | .hbm, ⟨23, _⟩ => ⟨S1024x2048, .f32⟩
  | .hbm, ⟨24, _⟩ => ⟨S_, .f32⟩
  | .hbm, ⟨25, _⟩ => ⟨S1024x2048, .f32⟩
  | .hbm, ⟨26, _⟩ => ⟨S1024x2048, .f32⟩
  | .hbm, ⟨27, _⟩ => ⟨S1024x2048, .f32⟩
  | .hbm, ⟨28, _⟩ => ⟨S_, .f32⟩
  | .hbm, ⟨29, _⟩ => ⟨S1024x2048, .f32⟩
  | .hbm, ⟨30, _⟩ => ⟨S1024x2048, .f32⟩
  | .hbm, ⟨31, _⟩ => ⟨S1024x2048, .f32⟩
  | .hbm, ⟨32, _⟩ => ⟨S_, .f32⟩
  | .hbm, ⟨33, _⟩ => ⟨S1024x2048, .f32⟩
  | .hbm, ⟨34, _⟩ => ⟨S1024x2048, .f32⟩
  | .hbm, ⟨35, _⟩ => ⟨S1024x2048, .f32⟩
  | .hbm, ⟨36, _⟩ => ⟨S_, .f32⟩
  | .hbm, ⟨37, _⟩ => ⟨S1024x2048, .f32⟩
  | .hbm, ⟨38, _⟩ => ⟨S1024x2048, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== KernelOptlin.lean ====
abbrev S512x1856 : Shape := ⟨2, ![512, 1856]⟩
abbrev S256x1856 : Shape := ⟨2, ![256, 1856]⟩

abbrev nBuf : Space → Nat
  | .hbm => 9
  | .vmem => 18
  | .smem => 0
  | _ => 0

abbrev bufTy : (tb : Table) → Fin (tcTables nBuf tb) → BufTy
  | .hbm, ⟨0, _⟩ => ⟨S512x1856, .f32⟩
  | .hbm, ⟨1, _⟩ => ⟨S512x1856, .f32⟩
  | .hbm, ⟨2, _⟩ => ⟨S512x1856, .f32⟩
  | .hbm, ⟨3, _⟩ => ⟨S512x1856, .f32⟩
  | .hbm, ⟨4, _⟩ => ⟨S512x1856, .f32⟩
  | .hbm, ⟨5, _⟩ => ⟨S512x1856, .f32⟩
  | .hbm, ⟨6, _⟩ => ⟨S512x1856, .f32⟩
  | .hbm, ⟨7, _⟩ => ⟨S512x1856, .f32⟩
  | .hbm, ⟨8, _⟩ => ⟨S512x1856, .f32⟩
  | .local _ .vmem, ⟨0, _⟩ => ⟨S256x1856, .f32⟩
  | .local _ .vmem, ⟨1, _⟩ => ⟨S256x1856, .f32⟩
  | .local _ .vmem, ⟨2, _⟩ => ⟨S256x1856, .f32⟩
  | .local _ .vmem, ⟨3, _⟩ => ⟨S256x1856, .f32⟩
  | .local _ .vmem, ⟨4, _⟩ => ⟨S256x1856, .f32⟩
  | .local _ .vmem, ⟨5, _⟩ => ⟨S256x1856, .f32⟩
  | .local _ .vmem, ⟨6, _⟩ => ⟨S256x1856, .f32⟩
  | .local _ .vmem, ⟨7, _⟩ => ⟨S256x1856, .f32⟩
  | .local _ .vmem, ⟨8, _⟩ => ⟨S256x1856, .f32⟩
  | .local _ .vmem, ⟨9, _⟩ => ⟨S256x1856, .f32⟩
  | .local _ .vmem, ⟨10, _⟩ => ⟨S256x1856, .f32⟩
  | .local _ .vmem, ⟨11, _⟩ => ⟨S256x1856, .f32⟩
  | .local _ .vmem, ⟨12, _⟩ => ⟨S256x1856, .f32⟩
  | .local _ .vmem, ⟨13, _⟩ => ⟨S256x1856, .f32⟩
  | .local _ .vmem, ⟨14, _⟩ => ⟨S256x1856, .f32⟩
  | .local _ .vmem, ⟨15, _⟩ => ⟨S256x1856, .f32⟩
  | .local _ .vmem, ⟨16, _⟩ => ⟨S256x1856, .f32⟩
  | .local _ .vmem, ⟨17, _⟩ => ⟨S256x1856, .f32⟩
  | _, _ => ⟨S512x1856, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1856 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1856 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1856 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1856 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1856 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1856 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1856 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1856 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1856 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelOptlinIdeal.lean ====
abbrev S512x1856 : Shape := ⟨2, ![512, 1856]⟩
abbrev S256x1856 : Shape := ⟨2, ![256, 1856]⟩

abbrev nBuf : Space → Nat
  | .hbm => 9
  | .vmem => 18
  | .smem => 0
  | _ => 0

abbrev bufTy : (tb : Table) → Fin (tcTables nBuf tb) → BufTy
  | .hbm, ⟨0, _⟩ => ⟨S512x1856, .f32⟩
  | .hbm, ⟨1, _⟩ => ⟨S512x1856, .f32⟩
  | .hbm, ⟨2, _⟩ => ⟨S512x1856, .f32⟩
  | .hbm, ⟨3, _⟩ => ⟨S512x1856, .f32⟩
  | .hbm, ⟨4, _⟩ => ⟨S512x1856, .f32⟩
  | .hbm, ⟨5, _⟩ => ⟨S512x1856, .f32⟩
  | .hbm, ⟨6, _⟩ => ⟨S512x1856, .f32⟩
  | .hbm, ⟨7, _⟩ => ⟨S512x1856, .f32⟩
  | .hbm, ⟨8, _⟩ => ⟨S512x1856, .f32⟩
  | .local _ .vmem, ⟨0, _⟩ => ⟨S256x1856, .f32⟩
  | .local _ .vmem, ⟨1, _⟩ => ⟨S256x1856, .f32⟩
  | .local _ .vmem, ⟨2, _⟩ => ⟨S256x1856, .f32⟩
  | .local _ .vmem, ⟨3, _⟩ => ⟨S256x1856, .f32⟩
  | .local _ .vmem, ⟨4, _⟩ => ⟨S256x1856, .f32⟩
  | .local _ .vmem, ⟨5, _⟩ => ⟨S256x1856, .f32⟩
  | .local _ .vmem, ⟨6, _⟩ => ⟨S256x1856, .f32⟩
  | .local _ .vmem, ⟨7, _⟩ => ⟨S256x1856, .f32⟩
  | .local _ .vmem, ⟨8, _⟩ => ⟨S256x1856, .f32⟩
  | .local _ .vmem, ⟨9, _⟩ => ⟨S256x1856, .f32⟩
  | .local _ .vmem, ⟨10, _⟩ => ⟨S256x1856, .f32⟩
  | .local _ .vmem, ⟨11, _⟩ => ⟨S256x1856, .f32⟩
  | .local _ .vmem, ⟨12, _⟩ => ⟨S256x1856, .f32⟩
  | .local _ .vmem, ⟨13, _⟩ => ⟨S256x1856, .f32⟩
  | .local _ .vmem, ⟨14, _⟩ => ⟨S256x1856, .f32⟩
  | .local _ .vmem, ⟨15, _⟩ => ⟨S256x1856, .f32⟩
  | .local _ .vmem, ⟨16, _⟩ => ⟨S256x1856, .f32⟩
  | .local _ .vmem, ⟨17, _⟩ => ⟨S256x1856, .f32⟩
  | _, _ => ⟨S512x1856, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1856 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1856 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1856 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1856 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1856 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1856 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1856 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1856 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1856 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceOptlinIdeal.lean ====
abbrev S512x1856 : Shape := ⟨2, ![512, 1856]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S512x1856, .f32⟩
  | .hbm, ⟨1, _⟩ => ⟨S512x1856, .f32⟩
  | .hbm, ⟨2, _⟩ => ⟨S512x1856, .f32⟩
  | .hbm, ⟨3, _⟩ => ⟨S512x1856, .f32⟩
  | .hbm, ⟨4, _⟩ => ⟨S512x1856, .f32⟩
  | .hbm, ⟨5, _⟩ => ⟨S512x1856, .f32⟩
  | .hbm, ⟨6, _⟩ => ⟨S_, .f32⟩
  | .hbm, ⟨7, _⟩ => ⟨S512x1856, .f32⟩
  | .hbm, ⟨8, _⟩ => ⟨S512x1856, .f32⟩
  | .hbm, ⟨9, _⟩ => ⟨S_, .f32⟩
  | .hbm, ⟨10, _⟩ => ⟨S512x1856, .f32⟩
  | .hbm, ⟨11, _⟩ => ⟨S512x1856, .f32⟩
  | .hbm, ⟨12, _⟩ => ⟨S512x1856, .f32⟩
  | .hbm, ⟨13, _⟩ => ⟨S_, .f32⟩
  | .hbm, ⟨14, _⟩ => ⟨S512x1856, .f32⟩
  | .hbm, ⟨15, _⟩ => ⟨S512x1856, .f32⟩
  | .hbm, ⟨16, _⟩ => ⟨S512x1856, .f32⟩
  | .hbm, ⟨17, _⟩ => ⟨S_, .f32⟩
  | .hbm, ⟨18, _⟩ => ⟨S512x1856, .f32⟩
  | .hbm, ⟨19, _⟩ => ⟨S512x1856, .f32⟩
  | .hbm, ⟨20, _⟩ => ⟨S512x1856, .f32⟩
  | .hbm, ⟨21, _⟩ => ⟨S_, .f32⟩
  | .hbm, ⟨22, _⟩ => ⟨S512x1856, .f32⟩
  | .hbm, ⟨23, _⟩ => ⟨S512x1856, .f32⟩
  | .hbm, ⟨24, _⟩ => ⟨S_, .f32⟩
  | .hbm, ⟨25, _⟩ => ⟨S512x1856, .f32⟩
  | .hbm, ⟨26, _⟩ => ⟨S512x1856, .f32⟩
  | .hbm, ⟨27, _⟩ => ⟨S512x1856, .f32⟩
  | .hbm, ⟨28, _⟩ => ⟨S_, .f32⟩
  | .hbm, ⟨29, _⟩ => ⟨S512x1856, .f32⟩
  | .hbm, ⟨30, _⟩ => ⟨S512x1856, .f32⟩
  | .hbm, ⟨31, _⟩ => ⟨S512x1856, .f32⟩
  | .hbm, ⟨32, _⟩ => ⟨S_, .f32⟩
  | .hbm, ⟨33, _⟩ => ⟨S512x1856, .f32⟩
  | .hbm, ⟨34, _⟩ => ⟨S512x1856, .f32⟩
  | .hbm, ⟨35, _⟩ => ⟨S512x1856, .f32⟩
  | .hbm, ⟨36, _⟩ => ⟨S_, .f32⟩
  | .hbm, ⟨37, _⟩ => ⟨S512x1856, .f32⟩
  | .hbm, ⟨38, _⟩ => ⟨S512x1856, .f32⟩
  | _, _ => ⟨S512x1856, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== KernelOptlout.lean ====
abbrev S512x2048 : Shape := ⟨2, ![512, 2048]⟩
abbrev S256x2048 : Shape := ⟨2, ![256, 2048]⟩

abbrev nBuf : Space → Nat
  | .hbm => 9
  | .vmem => 18
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .hbm, ⟨8, _⟩ => ⟨S512x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | .local _ .vmem, ⟨16, _⟩ => ⟨S256x2048, .f32⟩
  | .local _ .vmem, ⟨17, _⟩ => ⟨S256x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelOptloutIdeal.lean ====
abbrev S512x2048 : Shape := ⟨2, ![512, 2048]⟩
abbrev S256x2048 : Shape := ⟨2, ![256, 2048]⟩

abbrev nBuf : Space → Nat
  | .hbm => 9
  | .vmem => 18
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .hbm, ⟨8, _⟩ => ⟨S512x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | .local _ .vmem, ⟨16, _⟩ => ⟨S256x2048, .f32⟩
  | .local _ .vmem, ⟨17, _⟩ => ⟨S256x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceOptloutIdeal.lean ====
abbrev S512x2048 : Shape := ⟨2, ![512, 2048]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S_, .f32⟩
  | .hbm, ⟨7, _⟩ => ⟨S512x2048, .f32⟩
  | .hbm, ⟨8, _⟩ => ⟨S512x2048, .f32⟩
  | .hbm, ⟨9, _⟩ => ⟨S_, .f32⟩
  | .hbm, ⟨10, _⟩ => ⟨S512x2048, .f32⟩
  | .hbm, ⟨11, _⟩ => ⟨S512x2048, .f32⟩
  | .hbm, ⟨12, _⟩ => ⟨S512x2048, .f32⟩
  | .hbm, ⟨13, _⟩ => ⟨S_, .f32⟩
  | .hbm, ⟨14, _⟩ => ⟨S512x2048, .f32⟩
  | .hbm, ⟨15, _⟩ => ⟨S512x2048, .f32⟩
  | .hbm, ⟨16, _⟩ => ⟨S512x2048, .f32⟩
  | .hbm, ⟨17, _⟩ => ⟨S_, .f32⟩
  | .hbm, ⟨18, _⟩ => ⟨S512x2048, .f32⟩
  | .hbm, ⟨19, _⟩ => ⟨S512x2048, .f32⟩
  | .hbm, ⟨20, _⟩ => ⟨S512x2048, .f32⟩
  | .hbm, ⟨21, _⟩ => ⟨S_, .f32⟩
  | .hbm, ⟨22, _⟩ => ⟨S512x2048, .f32⟩
  | .hbm, ⟨23, _⟩ => ⟨S512x2048, .f32⟩
  | .hbm, ⟨24, _⟩ => ⟨S_, .f32⟩
  | .hbm, ⟨25, _⟩ => ⟨S512x2048, .f32⟩
  | .hbm, ⟨26, _⟩ => ⟨S512x2048, .f32⟩
  | .hbm, ⟨27, _⟩ => ⟨S512x2048, .f32⟩
  | .hbm, ⟨28, _⟩ => ⟨S_, .f32⟩
  | .hbm, ⟨29, _⟩ => ⟨S512x2048, .f32⟩
  | .hbm, ⟨30, _⟩ => ⟨S512x2048, .f32⟩
  | .hbm, ⟨31, _⟩ => ⟨S512x2048, .f32⟩
  | .hbm, ⟨32, _⟩ => ⟨S_, .f32⟩
  | .hbm, ⟨33, _⟩ => ⟨S512x2048, .f32⟩
  | .hbm, ⟨34, _⟩ => ⟨S512x2048, .f32⟩
  | .hbm, ⟨35, _⟩ => ⟨S512x2048, .f32⟩
  | .hbm, ⟨36, _⟩ => ⟨S_, .f32⟩
  | .hbm, ⟨37, _⟩ => ⟨S512x2048, .f32⟩
  | .hbm, ⟨38, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== KernelOptglu.lean ====
abbrev S256x1024 : Shape := ⟨2, ![256, 1024]⟩

abbrev nBuf : Space → Nat
  | .hbm => 9
  | .vmem => 9
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== KernelOptgluIdeal.lean ====
abbrev S256x1024 : Shape := ⟨2, ![256, 1024]⟩

abbrev nBuf : Space → Nat
  | .hbm => 9
  | .vmem => 9
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== ReferenceOptgluIdeal.lean ====
abbrev S256x1024 : Shape := ⟨2, ![256, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S_, .f32⟩
  | .hbm, ⟨7, _⟩ => ⟨S256x1024, .f32⟩
  | .hbm, ⟨8, _⟩ => ⟨S256x1024, .f32⟩
  | .hbm, ⟨9, _⟩ => ⟨S_, .f32⟩
  | .hbm, ⟨10, _⟩ => ⟨S256x1024, .f32⟩
  | .hbm, ⟨11, _⟩ => ⟨S256x1024, .f32⟩
  | .hbm, ⟨12, _⟩ => ⟨S256x1024, .f32⟩
  | .hbm, ⟨13, _⟩ => ⟨S_, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S_, .f32⟩
  | .hbm, ⟨18, _⟩ => ⟨S256x1024, .f32⟩
  | .hbm, ⟨19, _⟩ => ⟨S256x1024, .f32⟩
  | .hbm, ⟨20, _⟩ => ⟨S256x1024, .f32⟩
  | .hbm, ⟨21, _⟩ => ⟨S_, .f32⟩
  | .hbm, ⟨22, _⟩ => ⟨S256x1024, .f32⟩
  | .hbm, ⟨23, _⟩ => ⟨S256x1024, .f32⟩
  | .hbm, ⟨24, _⟩ => ⟨S_, .f32⟩
  | .hbm, ⟨25, _⟩ => ⟨S256x1024, .f32⟩
  | .hbm, ⟨26, _⟩ => ⟨S256x1024, .f32⟩
  | .hbm, ⟨27, _⟩ => ⟨S256x1024, .f32⟩
  | .hbm, ⟨28, _⟩ => ⟨S_, .f32⟩
  | .hbm, ⟨29, _⟩ => ⟨S256x1024, .f32⟩
  | .hbm, ⟨30, _⟩ => ⟨S256x1024, .f32⟩
  | .hbm, ⟨31, _⟩ => ⟨S256x1024, .f32⟩
  | .hbm, ⟨32, _⟩ => ⟨S_, .f32⟩
  | .hbm, ⟨33, _⟩ => ⟨S256x1024, .f32⟩
  | .hbm, ⟨34, _⟩ => ⟨S256x1024, .f32⟩
  | .hbm, ⟨35, _⟩ => ⟨S256x1024, .f32⟩
  | .hbm, ⟨36, _⟩ => ⟨S_, .f32⟩
  | .hbm, ⟨37, _⟩ => ⟨S256x1024, .f32⟩
  | .hbm, ⟨38, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== KernelOptuq.lean ====
abbrev S512x384 : Shape := ⟨2, ![512, 384]⟩

abbrev nBuf : Space → Nat
  | .hbm => 9
  | .vmem => 9
  | .smem => 0
  | _ => 0

abbrev bufTy : (tb : Table) → Fin (tcTables nBuf tb) → BufTy
  | .hbm, ⟨0, _⟩ => ⟨S512x384, .f32⟩
  | .hbm, ⟨1, _⟩ => ⟨S512x384, .f32⟩
  | .hbm, ⟨2, _⟩ => ⟨S512x384, .f32⟩
  | .hbm, ⟨3, _⟩ => ⟨S512x384, .f32⟩
  | .hbm, ⟨4, _⟩ => ⟨S512x384, .f32⟩
  | .hbm, ⟨5, _⟩ => ⟨S512x384, .f32⟩
  | .hbm, ⟨6, _⟩ => ⟨S512x384, .f32⟩
  | .hbm, ⟨7, _⟩ => ⟨S512x384, .f32⟩
  | .hbm, ⟨8, _⟩ => ⟨S512x384, .f32⟩
  | .local _ .vmem, ⟨0, _⟩ => ⟨S512x384, .f32⟩
  | .local _ .vmem, ⟨1, _⟩ => ⟨S512x384, .f32⟩
  | .local _ .vmem, ⟨2, _⟩ => ⟨S512x384, .f32⟩
  | .local _ .vmem, ⟨3, _⟩ => ⟨S512x384, .f32⟩
  | .local _ .vmem, ⟨4, _⟩ => ⟨S512x384, .f32⟩
  | .local _ .vmem, ⟨5, _⟩ => ⟨S512x384, .f32⟩
  | .local _ .vmem, ⟨6, _⟩ => ⟨S512x384, .f32⟩
  | .local _ .vmem, ⟨7, _⟩ => ⟨S512x384, .f32⟩
  | .local _ .vmem, ⟨8, _⟩ => ⟨S512x384, .f32⟩
  | _, _ => ⟨S512x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S512x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== KernelOptuqIdeal.lean ====
abbrev S512x384 : Shape := ⟨2, ![512, 384]⟩

abbrev nBuf : Space → Nat
  | .hbm => 9
  | .vmem => 9
  | .smem => 0
  | _ => 0

abbrev bufTy : (tb : Table) → Fin (tcTables nBuf tb) → BufTy
  | .hbm, ⟨0, _⟩ => ⟨S512x384, .f32⟩
  | .hbm, ⟨1, _⟩ => ⟨S512x384, .f32⟩
  | .hbm, ⟨2, _⟩ => ⟨S512x384, .f32⟩
  | .hbm, ⟨3, _⟩ => ⟨S512x384, .f32⟩
  | .hbm, ⟨4, _⟩ => ⟨S512x384, .f32⟩
  | .hbm, ⟨5, _⟩ => ⟨S512x384, .f32⟩
  | .hbm, ⟨6, _⟩ => ⟨S512x384, .f32⟩
  | .hbm, ⟨7, _⟩ => ⟨S512x384, .f32⟩
  | .hbm, ⟨8, _⟩ => ⟨S512x384, .f32⟩
  | .local _ .vmem, ⟨0, _⟩ => ⟨S512x384, .f32⟩
  | .local _ .vmem, ⟨1, _⟩ => ⟨S512x384, .f32⟩
  | .local _ .vmem, ⟨2, _⟩ => ⟨S512x384, .f32⟩
  | .local _ .vmem, ⟨3, _⟩ => ⟨S512x384, .f32⟩
  | .local _ .vmem, ⟨4, _⟩ => ⟨S512x384, .f32⟩
  | .local _ .vmem, ⟨5, _⟩ => ⟨S512x384, .f32⟩
  | .local _ .vmem, ⟨6, _⟩ => ⟨S512x384, .f32⟩
  | .local _ .vmem, ⟨7, _⟩ => ⟨S512x384, .f32⟩
  | .local _ .vmem, ⟨8, _⟩ => ⟨S512x384, .f32⟩
  | _, _ => ⟨S512x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S512x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== ReferenceOptuqIdeal.lean ====
abbrev S512x384 : Shape := ⟨2, ![512, 384]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S512x384, .f32⟩
  | .hbm, ⟨1, _⟩ => ⟨S512x384, .f32⟩
  | .hbm, ⟨2, _⟩ => ⟨S512x384, .f32⟩
  | .hbm, ⟨3, _⟩ => ⟨S512x384, .f32⟩
  | .hbm, ⟨4, _⟩ => ⟨S512x384, .f32⟩
  | .hbm, ⟨5, _⟩ => ⟨S512x384, .f32⟩
  | .hbm, ⟨6, _⟩ => ⟨S_, .f32⟩
  | .hbm, ⟨7, _⟩ => ⟨S512x384, .f32⟩
  | .hbm, ⟨8, _⟩ => ⟨S512x384, .f32⟩
  | .hbm, ⟨9, _⟩ => ⟨S_, .f32⟩
  | .hbm, ⟨10, _⟩ => ⟨S512x384, .f32⟩
  | .hbm, ⟨11, _⟩ => ⟨S512x384, .f32⟩
  | .hbm, ⟨12, _⟩ => ⟨S512x384, .f32⟩
  | .hbm, ⟨13, _⟩ => ⟨S_, .f32⟩
  | .hbm, ⟨14, _⟩ => ⟨S512x384, .f32⟩
  | .hbm, ⟨15, _⟩ => ⟨S512x384, .f32⟩
  | .hbm, ⟨16, _⟩ => ⟨S512x384, .f32⟩
  | .hbm, ⟨17, _⟩ => ⟨S_, .f32⟩
  | .hbm, ⟨18, _⟩ => ⟨S512x384, .f32⟩
  | .hbm, ⟨19, _⟩ => ⟨S512x384, .f32⟩
  | .hbm, ⟨20, _⟩ => ⟨S512x384, .f32⟩
  | .hbm, ⟨21, _⟩ => ⟨S_, .f32⟩
  | .hbm, ⟨22, _⟩ => ⟨S512x384, .f32⟩
  | .hbm, ⟨23, _⟩ => ⟨S512x384, .f32⟩
  | .hbm, ⟨24, _⟩ => ⟨S_, .f32⟩
  | .hbm, ⟨25, _⟩ => ⟨S512x384, .f32⟩
  | .hbm, ⟨26, _⟩ => ⟨S512x384, .f32⟩
  | .hbm, ⟨27, _⟩ => ⟨S512x384, .f32⟩
  | .hbm, ⟨28, _⟩ => ⟨S_, .f32⟩
  | .hbm, ⟨29, _⟩ => ⟨S512x384, .f32⟩
  | .hbm, ⟨30, _⟩ => ⟨S512x384, .f32⟩
  | .hbm, ⟨31, _⟩ => ⟨S512x384, .f32⟩
  | .hbm, ⟨32, _⟩ => ⟨S_, .f32⟩
  | .hbm, ⟨33, _⟩ => ⟨S512x384, .f32⟩
  | .hbm, ⟨34, _⟩ => ⟨S512x384, .f32⟩
  | .hbm, ⟨35, _⟩ => ⟨S512x384, .f32⟩
  | .hbm, ⟨36, _⟩ => ⟨S_, .f32⟩
  | .hbm, ⟨37, _⟩ => ⟨S512x384, .f32⟩
  | .hbm, ⟨38, _⟩ => ⟨S512x384, .f32⟩
  | _, _ => ⟨S512x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== KernelOptukv.lean ====
abbrev S256x512 : Shape := ⟨2, ![256, 512]⟩

abbrev nBuf : Space → Nat
  | .hbm => 9
  | .vmem => 9
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S256x512, .f32⟩
  | .hbm, ⟨5, _⟩ => ⟨S256x512, .f32⟩
  | .hbm, ⟨6, _⟩ => ⟨S256x512, .f32⟩
  | .hbm, ⟨7, _⟩ => ⟨S256x512, .f32⟩
  | .hbm, ⟨8, _⟩ => ⟨S256x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== ReferenceOptukvIdeal.lean ====
abbrev S256x512 : Shape := ⟨2, ![256, 512]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S256x512, .f32⟩
  | .hbm, ⟨5, _⟩ => ⟨S256x512, .f32⟩
  | .hbm, ⟨6, _⟩ => ⟨S_, .f32⟩
  | .hbm, ⟨7, _⟩ => ⟨S256x512, .f32⟩
  | .hbm, ⟨8, _⟩ => ⟨S256x512, .f32⟩
  | .hbm, ⟨9, _⟩ => ⟨S_, .f32⟩
  | .hbm, ⟨10, _⟩ => ⟨S256x512, .f32⟩
  | .hbm, ⟨11, _⟩ => ⟨S256x512, .f32⟩
  | .hbm, ⟨12, _⟩ => ⟨S256x512, .f32⟩
  | .hbm, ⟨13, _⟩ => ⟨S_, .f32⟩
  | .hbm, ⟨14, _⟩ => ⟨S256x512, .f32⟩
  | .hbm, ⟨15, _⟩ => ⟨S256x512, .f32⟩
  | .hbm, ⟨16, _⟩ => ⟨S256x512, .f32⟩
  | .hbm, ⟨17, _⟩ => ⟨S_, .f32⟩
  | .hbm, ⟨18, _⟩ => ⟨S256x512, .f32⟩
  | .hbm, ⟨19, _⟩ => ⟨S256x512, .f32⟩
  | .hbm, ⟨20, _⟩ => ⟨S256x512, .f32⟩
  | .hbm, ⟨21, _⟩ => ⟨S_, .f32⟩
  | .hbm, ⟨22, _⟩ => ⟨S256x512, .f32⟩
  | .hbm, ⟨23, _⟩ => ⟨S256x512, .f32⟩
  | .hbm, ⟨24, _⟩ => ⟨S_, .f32⟩
  | .hbm, ⟨25, _⟩ => ⟨S256x512, .f32⟩
  | .hbm, ⟨26, _⟩ => ⟨S256x512, .f32⟩
  | .hbm, ⟨27, _⟩ => ⟨S256x512, .f32⟩
  | .hbm, ⟨28, _⟩ => ⟨S_, .f32⟩
  | .hbm, ⟨29, _⟩ => ⟨S256x512, .f32⟩
  | .hbm, ⟨30, _⟩ => ⟨S256x512, .f32⟩
  | .hbm, ⟨31, _⟩ => ⟨S256x512, .f32⟩
  | .hbm, ⟨32, _⟩ => ⟨S_, .f32⟩
  | .hbm, ⟨33, _⟩ => ⟨S256x512, .f32⟩
  | .hbm, ⟨34, _⟩ => ⟨S256x512, .f32⟩
  | .hbm, ⟨35, _⟩ => ⟨S256x512, .f32⟩
  | .hbm, ⟨36, _⟩ => ⟨S_, .f32⟩
  | .hbm, ⟨37, _⟩ => ⟨S256x512, .f32⟩
  | .hbm, ⟨38, _⟩ => ⟨S256x512, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== KernelOptmeta.lean ====
abbrev S16x512 : Shape := ⟨2, ![16, 512]⟩

abbrev nBuf : Space → Nat
  | .hbm => 8
  | .vmem => 8
  | .smem => 0
  | _ => 0

abbrev bufTy : (tb : Table) → Fin (tcTables nBuf tb) → BufTy
  | .hbm, ⟨0, _⟩ => ⟨S16x512, .f32⟩
  | .hbm, ⟨1, _⟩ => ⟨S16x512, .f32⟩
  | .hbm, ⟨2, _⟩ => ⟨S16x512, .f32⟩
  | .hbm, ⟨3, _⟩ => ⟨S16x512, .f32⟩
  | .hbm, ⟨4, _⟩ => ⟨S16x512, .f32⟩
  | .hbm, ⟨5, _⟩ => ⟨S16x512, .f32⟩
  | .hbm, ⟨6, _⟩ => ⟨S16x512, .f32⟩
  | .hbm, ⟨7, _⟩ => ⟨S16x512, .f32⟩
  | .local _ .vmem, ⟨0, _⟩ => ⟨S16x512, .f32⟩
  | .local _ .vmem, ⟨1, _⟩ => ⟨S16x512, .f32⟩
  | .local _ .vmem, ⟨2, _⟩ => ⟨S16x512, .f32⟩
  | .local _ .vmem, ⟨3, _⟩ => ⟨S16x512, .f32⟩
  | .local _ .vmem, ⟨4, _⟩ => ⟨S16x512, .f32⟩
  | .local _ .vmem, ⟨5, _⟩ => ⟨S16x512, .f32⟩
  | .local _ .vmem, ⟨6, _⟩ => ⟨S16x512, .f32⟩
  | .local _ .vmem, ⟨7, _⟩ => ⟨S16x512, .f32⟩
  | _, _ => ⟨S16x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S16x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== KernelOptmetaIdeal.lean ====
abbrev S16x512 : Shape := ⟨2, ![16, 512]⟩

abbrev nBuf : Space → Nat
  | .hbm => 8
  | .vmem => 8
  | .smem => 0
  | _ => 0

abbrev bufTy : (tb : Table) → Fin (tcTables nBuf tb) → BufTy
  | .hbm, ⟨0, _⟩ => ⟨S16x512, .f32⟩
  | .hbm, ⟨1, _⟩ => ⟨S16x512, .f32⟩
  | .hbm, ⟨2, _⟩ => ⟨S16x512, .f32⟩
  | .hbm, ⟨3, _⟩ => ⟨S16x512, .f32⟩
  | .hbm, ⟨4, _⟩ => ⟨S16x512, .f32⟩
  | .hbm, ⟨5, _⟩ => ⟨S16x512, .f32⟩
  | .hbm, ⟨6, _⟩ => ⟨S16x512, .f32⟩
  | .hbm, ⟨7, _⟩ => ⟨S16x512, .f32⟩
  | .local _ .vmem, ⟨0, _⟩ => ⟨S16x512, .f32⟩
  | .local _ .vmem, ⟨1, _⟩ => ⟨S16x512, .f32⟩
  | .local _ .vmem, ⟨2, _⟩ => ⟨S16x512, .f32⟩
  | .local _ .vmem, ⟨3, _⟩ => ⟨S16x512, .f32⟩
  | .local _ .vmem, ⟨4, _⟩ => ⟨S16x512, .f32⟩
  | .local _ .vmem, ⟨5, _⟩ => ⟨S16x512, .f32⟩
  | .local _ .vmem, ⟨6, _⟩ => ⟨S16x512, .f32⟩
  | .local _ .vmem, ⟨7, _⟩ => ⟨S16x512, .f32⟩
  | _, _ => ⟨S16x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S16x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== ReferenceOptmetaIdeal.lean ====
abbrev S16x512 : Shape := ⟨2, ![16, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S16x512, .f32⟩
  | .hbm, ⟨1, _⟩ => ⟨S16x512, .f32⟩
  | .hbm, ⟨2, _⟩ => ⟨S16x512, .f32⟩
  | .hbm, ⟨3, _⟩ => ⟨S16x512, .f32⟩
  | .hbm, ⟨4, _⟩ => ⟨S_, .f32⟩
  | .hbm, ⟨5, _⟩ => ⟨S16x512, .f32⟩
  | .hbm, ⟨6, _⟩ => ⟨S16x512, .f32⟩
  | .hbm, ⟨7, _⟩ => ⟨S_, .f32⟩
  | .hbm, ⟨8, _⟩ => ⟨S16x512, .f32⟩
  | .hbm, ⟨9, _⟩ => ⟨S16x512, .f32⟩
  | .hbm, ⟨10, _⟩ => ⟨S16x512, .f32⟩
  | .hbm, ⟨11, _⟩ => ⟨S_, .f32⟩
  | .hbm, ⟨12, _⟩ => ⟨S16x512, .f32⟩
  | .hbm, ⟨13, _⟩ => ⟨S16x512, .f32⟩
  | .hbm, ⟨14, _⟩ => ⟨S16x512, .f32⟩
  | .hbm, ⟨15, _⟩ => ⟨S_, .f32⟩
  | .hbm, ⟨16, _⟩ => ⟨S16x512, .f32⟩
  | .hbm, ⟨17, _⟩ => ⟨S16x512, .f32⟩
  | .hbm, ⟨18, _⟩ => ⟨S16x512, .f32⟩
  | .hbm, ⟨19, _⟩ => ⟨S_, .f32⟩
  | .hbm, ⟨20, _⟩ => ⟨S16x512, .f32⟩
  | .hbm, ⟨21, _⟩ => ⟨S16x512, .f32⟩
  | .hbm, ⟨22, _⟩ => ⟨S_, .f32⟩
  | .hbm, ⟨23, _⟩ => ⟨S16x512, .f32⟩
  | .hbm, ⟨24, _⟩ => ⟨S16x512, .f32⟩
  | .hbm, ⟨25, _⟩ => ⟨S16x512, .f32⟩
  | .hbm, ⟨26, _⟩ => ⟨S_, .f32⟩
  | .hbm, ⟨27, _⟩ => ⟨S16x512, .f32⟩
  | .hbm, ⟨28, _⟩ => ⟨S16x512, .f32⟩
  | .hbm, ⟨29, _⟩ => ⟨S16x512, .f32⟩
  | .hbm, ⟨30, _⟩ => ⟨S_, .f32⟩
  | .hbm, ⟨31, _⟩ => ⟨S16x512, .f32⟩
  | .hbm, ⟨32, _⟩ => ⟨S16x512, .f32⟩
  | .hbm, ⟨33, _⟩ => ⟨S16x512, .f32⟩
  | .hbm, ⟨34, _⟩ => ⟨S_, .f32⟩
  | .hbm, ⟨35, _⟩ => ⟨S16x512, .f32⟩
  | .hbm, ⟨36, _⟩ => ⟨S16x512, .f32⟩
  | _, _ => ⟨S16x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelOptconv.lean ====
abbrev S4x1536 : Shape := ⟨2, ![4, 1536]⟩

abbrev nBuf : Space → Nat
  | .hbm => 8
  | .vmem => 8
  | .smem => 0
  | _ => 0

abbrev bufTy : (tb : Table) → Fin (tcTables nBuf tb) → BufTy
  | .hbm, ⟨0, _⟩ => ⟨S4x1536, .f32⟩
  | .hbm, ⟨1, _⟩ => ⟨S4x1536, .f32⟩
  | .hbm, ⟨2, _⟩ => ⟨S4x1536, .f32⟩
  | .hbm, ⟨3, _⟩ => ⟨S4x1536, .f32⟩
  | .hbm, ⟨4, _⟩ => ⟨S4x1536, .f32⟩
  | .hbm, ⟨5, _⟩ => ⟨S4x1536, .f32⟩
  | .hbm, ⟨6, _⟩ => ⟨S4x1536, .f32⟩
  | .hbm, ⟨7, _⟩ => ⟨S4x1536, .f32⟩
  | .local _ .vmem, ⟨0, _⟩ => ⟨S4x1536, .f32⟩
  | .local _ .vmem, ⟨1, _⟩ => ⟨S4x1536, .f32⟩
  | .local _ .vmem, ⟨2, _⟩ => ⟨S4x1536, .f32⟩
  | .local _ .vmem, ⟨3, _⟩ => ⟨S4x1536, .f32⟩
  | .local _ .vmem, ⟨4, _⟩ => ⟨S4x1536, .f32⟩
  | .local _ .vmem, ⟨5, _⟩ => ⟨S4x1536, .f32⟩
  | .local _ .vmem, ⟨6, _⟩ => ⟨S4x1536, .f32⟩
  | .local _ .vmem, ⟨7, _⟩ => ⟨S4x1536, .f32⟩
  | _, _ => ⟨S4x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1536 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== ReferenceOptconvIdeal.lean ====
abbrev S4x1536 : Shape := ⟨2, ![4, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1536, .f32⟩
  | .hbm, ⟨1, _⟩ => ⟨S4x1536, .f32⟩
  | .hbm, ⟨2, _⟩ => ⟨S4x1536, .f32⟩
  | .hbm, ⟨3, _⟩ => ⟨S4x1536, .f32⟩
  | .hbm, ⟨4, _⟩ => ⟨S_, .f32⟩
  | .hbm, ⟨5, _⟩ => ⟨S4x1536, .f32⟩
  | .hbm, ⟨6, _⟩ => ⟨S4x1536, .f32⟩
  | .hbm, ⟨7, _⟩ => ⟨S_, .f32⟩
  | .hbm, ⟨8, _⟩ => ⟨S4x1536, .f32⟩
  | .hbm, ⟨9, _⟩ => ⟨S4x1536, .f32⟩
  | .hbm, ⟨10, _⟩ => ⟨S4x1536, .f32⟩
  | .hbm, ⟨11, _⟩ => ⟨S_, .f32⟩
  | .hbm, ⟨12, _⟩ => ⟨S4x1536, .f32⟩
  | .hbm, ⟨13, _⟩ => ⟨S4x1536, .f32⟩
  | .hbm, ⟨14, _⟩ => ⟨S4x1536, .f32⟩
  | .hbm, ⟨15, _⟩ => ⟨S_, .f32⟩
  | .hbm, ⟨16, _⟩ => ⟨S4x1536, .f32⟩
  | .hbm, ⟨17, _⟩ => ⟨S4x1536, .f32⟩
  | .hbm, ⟨18, _⟩ => ⟨S4x1536, .f32⟩
  | .hbm, ⟨19, _⟩ => ⟨S_, .f32⟩
  | .hbm, ⟨20, _⟩ => ⟨S4x1536, .f32⟩
  | .hbm, ⟨21, _⟩ => ⟨S4x1536, .f32⟩
  | .hbm, ⟨22, _⟩ => ⟨S_, .f32⟩
  | .hbm, ⟨23, _⟩ => ⟨S4x1536, .f32⟩
  | .hbm, ⟨24, _⟩ => ⟨S4x1536, .f32⟩
  | .hbm, ⟨25, _⟩ => ⟨S4x1536, .f32⟩
  | .hbm, ⟨26, _⟩ => ⟨S_, .f32⟩
  | .hbm, ⟨27, _⟩ => ⟨S4x1536, .f32⟩
  | .hbm, ⟨28, _⟩ => ⟨S4x1536, .f32⟩
  | .hbm, ⟨29, _⟩ => ⟨S4x1536, .f32⟩
  | .hbm, ⟨30, _⟩ => ⟨S_, .f32⟩
  | .hbm, ⟨31, _⟩ => ⟨S4x1536, .f32⟩
  | .hbm, ⟨32, _⟩ => ⟨S4x1536, .f32⟩
  | .hbm, ⟨33, _⟩ => ⟨S4x1536, .f32⟩
  | .hbm, ⟨34, _⟩ => ⟨S_, .f32⟩
  | .hbm, ⟨35, _⟩ => ⟨S4x1536, .f32⟩
  | .hbm, ⟨36, _⟩ => ⟨S4x1536, .f32⟩
  | _, _ => ⟨S4x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelOptflat.lean ====
abbrev S352x1024 : Shape := ⟨2, ![352, 1024]⟩

abbrev nBuf : Space → Nat
  | .hbm => 8
  | .vmem => 8
  | .smem => 0
  | _ => 0

abbrev bufTy : (tb : Table) → Fin (tcTables nBuf tb) → BufTy
  | .hbm, ⟨0, _⟩ => ⟨S352x1024, .f32⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | _, _ => ⟨S352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S352x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S352x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S352x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S352x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S352x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S352x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S352x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S352x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== ReferenceOptflatIdeal.lean ====
abbrev S352x1024 : Shape := ⟨2, ![352, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S352x1024, .f32⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S_, .f32⟩
  | .hbm, ⟨5, _⟩ => ⟨S352x1024, .f32⟩
  | .hbm, ⟨6, _⟩ => ⟨S352x1024, .f32⟩
  | .hbm, ⟨7, _⟩ => ⟨S_, .f32⟩
  | .hbm, ⟨8, _⟩ => ⟨S352x1024, .f32⟩
  | .hbm, ⟨9, _⟩ => ⟨S352x1024, .f32⟩
  | .hbm, ⟨10, _⟩ => ⟨S352x1024, .f32⟩
  | .hbm, ⟨11, _⟩ => ⟨S_, .f32⟩
  | .hbm, ⟨12, _⟩ => ⟨S352x1024, .f32⟩
  | .hbm, ⟨13, _⟩ => ⟨S352x1024, .f32⟩
  | .hbm, ⟨14, _⟩ => ⟨S352x1024, .f32⟩
  | .hbm, ⟨15, _⟩ => ⟨S_, .f32⟩
  | .hbm, ⟨16, _⟩ => ⟨S352x1024, .f32⟩
  | .hbm, ⟨17, _⟩ => ⟨S352x1024, .f32⟩
  | .hbm, ⟨18, _⟩ => ⟨S352x1024, .f32⟩
  | .hbm, ⟨19, _⟩ => ⟨S_, .f32⟩
  | .hbm, ⟨20, _⟩ => ⟨S352x1024, .f32⟩
  | .hbm, ⟨21, _⟩ => ⟨S352x1024, .f32⟩
  | .hbm, ⟨22, _⟩ => ⟨S_, .f32⟩
  | .hbm, ⟨23, _⟩ => ⟨S352x1024, .f32⟩
  | .hbm, ⟨24, _⟩ => ⟨S352x1024, .f32⟩
  | .hbm, ⟨25, _⟩ => ⟨S352x1024, .f32⟩
  | .hbm, ⟨26, _⟩ => ⟨S_, .f32⟩
  | .hbm, ⟨27, _⟩ => ⟨S352x1024, .f32⟩
  | .hbm, ⟨28, _⟩ => ⟨S352x1024, .f32⟩
  | .hbm, ⟨29, _⟩ => ⟨S352x1024, .f32⟩
  | .hbm, ⟨30, _⟩ => ⟨S_, .f32⟩
  | .hbm, ⟨31, _⟩ => ⟨S352x1024, .f32⟩
  | .hbm, ⟨32, _⟩ => ⟨S352x1024, .f32⟩
  | .hbm, ⟨33, _⟩ => ⟨S352x1024, .f32⟩
  | .hbm, ⟨34, _⟩ => ⟨S_, .f32⟩
  | .hbm, ⟨35, _⟩ => ⟨S352x1024, .f32⟩
  | .hbm, ⟨36, _⟩ => ⟨S352x1024, .f32⟩
  | _, _ => ⟨S352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelDx.lean ====
abbrev S8320x2048 : Shape := ⟨2, ![8320, 2048]⟩
abbrev S640x2048 : Shape := ⟨2, ![640, 2048]⟩

abbrev nBuf : Space → Nat
  | .hbm => 3
  | .vmem => 6
  | .smem => 0
  | _ => 0

abbrev bufTy : (tb : Table) → Fin (tcTables nBuf tb) → BufTy
  | .hbm, ⟨0, _⟩ => ⟨S8320x2048, .f32⟩
  | .hbm, ⟨1, _⟩ => ⟨S8320x2048, .f32⟩
  | .hbm, ⟨2, _⟩ => ⟨S8320x2048, .f32⟩
  | .local _ .vmem, ⟨0, _⟩ => ⟨S640x2048, .f32⟩
  | .local _ .vmem, ⟨1, _⟩ => ⟨S640x2048, .f32⟩
  | .local _ .vmem, ⟨2, _⟩ => ⟨S640x2048, .f32⟩
  | .local _ .vmem, ⟨3, _⟩ => ⟨S640x2048, .f32⟩
  | .local _ .vmem, ⟨4, _⟩ => ⟨S640x2048, .f32⟩
  | .local _ .vmem, ⟨5, _⟩ => ⟨S640x2048, .f32⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S640x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S640x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceDxIdeal.lean ====
abbrev S8320x2048 : Shape := ⟨2, ![8320, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S8320x2048, .f32⟩
  | .hbm, ⟨2, _⟩ => ⟨S_, .f32⟩
  | .hbm, ⟨3, _⟩ => ⟨S8320x2048, .f32⟩
  | .hbm, ⟨4, _⟩ => ⟨S8320x2048, .f32⟩
  | .hbm, ⟨5, _⟩ => ⟨S8320x2048, .f32⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Blocks.lean ====
/- Sums taken block by block, and arrays read at an index given by natural numbers: what the products of this
   certificate share. -/
module

public import Idealize.ShloMosaic.Lib.Pipeline.Value
public import Idealize.ShloMosaic.Lib.ValueIdx
public import Idealize.ShloMosaic.PureOps.Ideal.Laws

@[expose] public section

noncomputable section

namespace Cert.Blocks

open Idealize.ShloMosaic

/-- The element of an array at the index with the coordinates `x`, and 0 where they leave the array. -/
def at' {S : Shape} (A : S.Idx → EReal) (x : Fin S.rank → ℕ) : EReal :=
  if h : ∀ a, x a < S.size a then A (fun a => ⟨x a, h a⟩) else 0

/-- An element of an array is the element at its coordinates. -/
theorem eq_at' {S : Shape} (A : S.Idx → EReal) (i : S.Idx) (x : Fin S.rank → ℕ) (h : ∀ a, (i a).val = x a) :
    A i = at' A x := by
  obtain rfl : (fun a => (i a).val) = x := funext h
  unfold at'
  rw [dif_pos fun a => (i a).isLt]

/-- A sum over `n` blocks of `t` terms is the sum over all of them. -/
theorem sum_blocks {M : Type*} [AddCommMonoid M] (f : ℕ → M) (t : ℕ) : ∀ n : ℕ,
    ∑ s ∈ Finset.range n, ∑ r : Fin t, f (s * t + r.val) = ∑ k : Fin (n * t), f k.val := fun n => by
  induction n with
  | zero => rw [Finset.sum_range_zero, Finset.sum_fin_eq_sum_range]; simp
  | succ n ih =>
    rw [Finset.sum_range_succ, ih, Fin.sum_univ_eq_sum_range (fun k => f k), Fin.sum_univ_eq_sum_range (fun k => f k),
      Fin.sum_univ_eq_sum_range (fun r => f (n * t + r)), ← Finset.sum_range_add, Nat.succ_mul]

/-- The fold of a run of points that resets at its first point to that point's part and adds each later point's part
    is the sum of the parts. -/
theorem acc_sum {N : ℕ} {ι : Type*} (a : (n : ℕ) → n < N → ι → EReal) (g : (n : ℕ) → n < N → (ι → EReal) → ι → EReal)
    (M : ℕ → ι → EReal) (b e : ℕ) (ha : ∀ (h : b < N) i, a b h i = M b i)
    (hg : ∀ (n : ℕ) (h : n < N) (acc : ι → EReal) i, b < n → n ≤ b + e → g n h acc i = acc i + M n i)
    (h : b + e < N) (i : ι) : Pipeline.accAt a g b e h i = ∑ s ∈ Finset.range (e + 1), M (b + s) i := by
  rw [Pipeline.accAt_add_apply a g (fun _ => 0) M b e (fun h i => by rw [ha h i, zero_add]) hg e le_rfl h i, zero_add]

/-- What a run of points adds up that starts anew at every multiple of `k`: each point holds the sum of the parts since. -/
theorem run_sum {N : ℕ} (k : ℕ) (A : (n : ℕ) → n < N → EReal) (M : ℕ → EReal) (h0 : ∀ n h, n % k = 0 → A n h = M n)
    (h1 : ∀ n h, ¬n % k = 0 → A n h = A (n - 1) (lt_of_le_of_lt (Nat.sub_le _ _) h) + M n) :
    ∀ (n : ℕ) (h : n < N), A n h = ∑ s ∈ Finset.range (n % k + 1), M (n - n % k + s) := fun n => by
  induction n with
  | zero => intro h; rw [h0 0 h (Nat.zero_mod k)]; simp
  | succ n ih =>
    intro h
    by_cases e : (n + 1) % k = 0
    · rw [h0 _ h e, e]; simp
    · have h2 : (n + 1) % k = n % k + 1 := by
        have h3 := Nat.add_mod_eq_ite (m := n) (n := 1) (k := k)
        have h5 : k ≠ 1 := fun h => e (by rw [h, Nat.mod_one])
        rcases Nat.eq_zero_or_pos k with rfl | hk
        · simp
        have h4 : 1 % k = 1 := Nat.mod_eq_of_lt (by omega)
        rw [h4] at h3
        split at h3
        · have := Nat.mod_lt n hk; omega
        · exact h3
      have h6 := Nat.mod_le n k
      rw [h1 _ h e, h2, Finset.sum_range_succ]
      show A n _ + _ = _
      rw [ih, show n + 1 - (n % k + 1) = n - n % k by omega, show n - n % k + (n % k + 1) = n + 1 by omega]

/-- The last part of a run, added to the sum of the parts before it, gives the whole sum, when the parts are the blocks
    of one sum. -/
theorem run_total (f : ℕ → EReal) (t n : ℕ) (M : ℕ → EReal) (b p : ℕ) (acc : EReal) (hb : b + n = p)
    (hacc : acc = ∑ s ∈ Finset.range n, M (b + s)) (hM : ∀ s, s < n + 1 → M (b + s) = ∑ r : Fin t, f (s * t + r.val)) :
    acc + M p = ∑ k : Fin ((n + 1) * t), f k.val := by
  rw [hacc, ← hb, ← Finset.sum_range_succ (fun s => M (b + s)), ← sum_blocks f t (n + 1)]
  exact Finset.sum_congr rfl fun s hs => hM s (Finset.mem_range.mp hs)

end Cert.Blocks

end
-- ==== Proof.Gate.lean ====
/- The gradient of the SwiGLU gate: the halves of `dgu` from the halves of `gu` and from `dact`. -/
module

public import proofs.«01_k».proof.Proof.Blocks
public import proofs.«01_k».proof.Defs
public import proofs.«01_k».proof.Proof.Gen.KernelGateIdeal.Value
public import proofs.«01_k».proof.Proof.Gen.ReferenceGateIdeal.Read
public import Idealize.ShloMosaic.Lib.Pointwise
public import Idealize.ShloMosaic.Lib.ReduceAll
public import Idealize.ShloMosaic.Lib.Tactic
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem Cert.Blocks

namespace Cert.Blocks

/-- The logistic function. -/
def logis (g : EReal) : EReal := Ideal.div 1 (1 + Ideal.exp (-g))

/-- The gradient of the gate half, from the gate `g`, the up half `u` and the gradient `a` of the activation. -/
def dgate (g u a : EReal) : EReal := a * u * logis g * (1 + g * (1 - logis g))

/-- The gradient of the up half. -/
def dup (g a : EReal) : EReal := a * g * logis g

/-- An extended real whose absolute value is less than infinity is a real number. -/
theorem real_of_abs_lt {x : EReal} (h : BitVec.ofBool (decide (FloatOps.absf (F := Ideal) (φ := .f32) x < Ideal.ofBits .f32 0x7F800000#32)) = 1#1) :
    ∃ r : ℝ, x = r := by
  have e : Ideal.ofBits .f32 0x7F800000#32 = ⊤ := by simp [Ideal.ofBits, Ideal.ieee]
  rw [e] at h
  have h' : FloatOps.absf (F := Ideal) (φ := .f32) x < ⊤ := by
    by_contra hn
    rw [decide_eq_false hn] at h
    exact absurd h (by decide)
  induction x with
  | coe r => exact ⟨r, rfl⟩
  | bot => exact absurd h' (lt_irrefl _)
  | top => exact absurd h' (lt_irrefl _)

/-- The logistic function is real, everywhere. -/
theorem logis_real (g : EReal) : ∃ s : ℝ, logis g = s := by
  unfold logis
  induction g with
  | coe x =>
    have p : (1 + Real.exp (-x)) ≠ 0 := (add_pos one_pos (Real.exp_pos _)).ne'
    refine ⟨1 * (1 / (1 + Real.exp (-x))), ?_⟩
    rw [← EReal.coe_neg, Ideal.exp_coe, ← EReal.coe_one, ← EReal.coe_add, Ideal.div_coe p, ← EReal.coe_mul]
  | bot => exact ⟨0, by rw [EReal.neg_bot, Ideal.exp_top, ← EReal.coe_one, EReal.coe_add_top]; unfold Ideal.div; simp⟩
  | top => exact ⟨1, by
      rw [EReal.neg_top, Ideal.exp_bot, add_zero, ← EReal.coe_one, Ideal.div_coe one_ne_zero, ← EReal.coe_mul]
      norm_num⟩

theorem logis_top : logis ⊤ = 1 := by
  unfold logis
  rw [EReal.neg_top, Ideal.exp_bot, add_zero, ← EReal.coe_one, Ideal.div_coe one_ne_zero, ← EReal.coe_mul]
  norm_num

theorem logis_bot : logis ⊥ = 0 := by
  unfold logis
  rw [EReal.neg_bot, Ideal.exp_top, ← EReal.coe_one, EReal.coe_add_top]
  unfold Ideal.div
  simp

/-- The product rule's sum is the factored form, where the gradient that comes in is real. -/
theorem dgate_eq (g : EReal) {u a : EReal} (hu : ∃ r : ℝ, u = r) (ha : ∃ r : ℝ, a = r) :
    a * u * logis g + g * (a * u) * (logis g * (1 - logis g)) = dgate g u a := by
  obtain ⟨u, rfl⟩ := hu
  obtain ⟨a, rfl⟩ := ha
  unfold dgate
  induction g with
  | coe x =>
    obtain ⟨s, hs⟩ := logis_real x
    rw [hs]
    norm_cast
    ring
  | bot => rw [logis_bot]; simp
  | top =>
    have e : (1 : EReal) - 1 = 0 := by rw [← EReal.coe_one, ← EReal.coe_sub, sub_self, EReal.coe_zero]
    rw [logis_top, e]
    simp

end Cert.Blocks

namespace Cert.KernelGateIdeal.Prod

open Cert.KernelGateIdeal Cert.KernelGateIdeal.Gen Cert.KernelGateIdeal.Value

variable (m : (ℓ : Loc nD τ sig) → Buf (Elt Ideal) ℓ) (ρ : Dev nD → PrngReg)

/-- What a point of the first half computes, at an index. -/
theorem pay4 (g da up : Vec Ideal S640x1408 .bf16) (j : S640x1408.Idx) : k0_pay4 g da up j = dgate (g j) (up j) (da j) := by
  unfold k0_pay4 k0_pay3 k0_pay2 k0_pay1 dgate logis
  idx_vars j
  pointwise
  rw [zero_sub]

/-- What a point of the second half computes, at an index. -/
theorem pay5 (g da : Vec Ideal S640x1408 .bf16) (j : S640x1408.Idx) : k0_pay5 g da j = dup (g j) (da j) := by
  unfold k0_pay5 k0_pay3 k0_pay2 k0_pay1 dup logis
  idx_vars j
  pointwise
  rw [zero_sub]

/-- Which blocks point `t` reads and writes. -/
theorem idx : ∀ t : Fin cfg0.N, win0_0.index t (0 : Fin 2) = t.val / 8 ∧ win0_0.index t (1 : Fin 2) = t.val % 8 % 4
    ∧ win0_1.index t (0 : Fin 2) = t.val / 8 ∧ win0_1.index t (1 : Fin 2) = t.val % 8 % 4 + 4
    ∧ win0_2.index t (0 : Fin 2) = t.val / 8 ∧ win0_2.index t (1 : Fin 2) = t.val % 8 % 4
    ∧ win0_3.index t (0 : Fin 2) = t.val / 8 ∧ win0_3.index t (1 : Fin 2) = t.val % 8 :=
  (by decide +kernel : ∀ t : Fin grid0.N, _)

/-- The block of the gate half at point `t`, element by element. -/
theorem iblk0 (c : Dev nD) (t : Fin cfg0.N) (j : S640x1408.Idx) : (iblk m c 0 t : Vec Ideal S640x1408 .bf16) j
    = at' (S := S8320x11264) (m ((c : Thread nD τ).loc main_arg0)) ![t.val / 8 * 640 + (j 0).val, t.val % 8 % 4 * 1408 + (j 1).val] := by
  obtain ⟨e0, e1, -⟩ := idx t
  unfold iblk
  rw [View.read_apply]
  refine eq_at' (S := S8320x11264) _ _ _ fun a => ?_
  match a with
  | ⟨0, _⟩ => show win0_0.index t 0 * 640 + 1 * (j 0).val = t.val / 8 * 640 + (j 0).val; rw [e0]; omega
  | ⟨1, _⟩ => show win0_0.index t 1 * 1408 + 1 * (j 1).val = t.val % 8 % 4 * 1408 + (j 1).val; rw [e1]; omega

/-- The block of the up half at point `t`, element by element. -/
theorem iblk1 (c : Dev nD) (t : Fin cfg0.N) (j : S640x1408.Idx) : (iblk m c 1 t : Vec Ideal S640x1408 .bf16) j
    = at' (S := S8320x11264) (m ((c : Thread nD τ).loc main_arg0)) ![t.val / 8 * 640 + (j 0).val, 5632 + (t.val % 8 % 4 * 1408 + (j 1).val)] := by
  obtain ⟨-, -, e0, e1, -⟩ := idx t
  unfold iblk
  rw [View.read_apply]
  refine eq_at' (S := S8320x11264) _ _ _ fun a => ?_
  match a with
  | ⟨0, _⟩ => show win0_1.index t 0 * 640 + 1 * (j 0).val = t.val / 8 * 640 + (j 0).val; rw [e0]; omega
  | ⟨1, _⟩ => show win0_1.index t 1 * 1408 + 1 * (j 1).val = 5632 + (t.val % 8 % 4 * 1408 + (j 1).val); rw [e1]; omega

/-- The block of the activation's gradient at point `t`, element by element. -/
theorem iblk2 (c : Dev nD) (t : Fin cfg0.N) (j : S640x1408.Idx) : (iblk m c 2 t : Vec Ideal S640x1408 .bf16) j
    = at' (S := S8320x5632) (m ((c : Thread nD τ).loc main_arg1)) ![t.val / 8 * 640 + (j 0).val, t.val % 8 % 4 * 1408 + (j 1).val] := by
  obtain ⟨-, -, -, -, e0, e1, -⟩ := idx t
  unfold iblk
  rw [View.read_apply]
  refine eq_at' (S := S8320x5632) _ _ _ fun a => ?_
  match a with
  | ⟨0, _⟩ => show win0_2.index t 0 * 640 + 1 * (j 0).val = t.val / 8 * 640 + (j 0).val; rw [e0]; omega
  | ⟨1, _⟩ => show win0_2.index t 1 * 1408 + 1 * (j 1).val = t.val % 8 % 4 * 1408 + (j 1).val; rw [e1]; omega

/-- The element `(r, k)` of the gradient: of the gate half before column 5632, of the up half after it. -/
def grad (gu : S8320x11264.Idx → EReal) (da : S8320x5632.Idx → EReal) (r k : ℕ) : EReal :=
  if k < 5632 then dgate (at' gu ![r, k]) (at' gu ![r, 5632 + k]) (at' da ![r, k])
  else dup (at' gu ![r, k - 5632]) (at' da ![r, k - 5632])

/-- The result of the kernel. -/
def G (c : Dev nD) : S8320x11264.Idx → EReal := fun i =>
  grad (m ((c : Thread nD τ).loc main_arg0)) (m ((c : Thread nD τ).loc main_arg1)) (i 0).val (i 1).val

/-- The array ends holding the gradient. -/
theorem final (c : Dev nD) : (dats m 0 c).arrAt 3 cfg0.N = (G m c : Buf (Elt Ideal) ((c : Thread nD τ).loc main_v0)) := by
  refine (dats m 0 c).arrAt_eq_of_covers 3 _ (by decide +kernel) fun t hf y => ?_
  obtain ⟨-, -, -, -, -, -, e0, e1⟩ := idx t
  have hg : (G m c : S8320x11264.Idx → EReal) (((cfg0.win 3).blk t).view.emb y)
      = grad (m ((c : Thread nD τ).loc main_arg0)) (m ((c : Thread nD τ).loc main_arg1))
        (t.val / 8 * 640 + (y 0).val) (t.val % 8 * 1408 + (y 1).val) := by
    show grad _ _ (win0_3.index t 0 * 640 + 1 * (y 0).val) (win0_3.index t 1 * 1408 + 1 * (y 1).val) = _
    rw [e0, e1, one_mul, one_mul]
  refine Eq.trans ?_ hg.symm
  have hy : (y 1).val < 1408 := (y 1).isLt
  blk_simp
  rw [after0_3]
  unfold grad
  by_cases h : t.val % 8 ≤ 3
  · have h1 : ¬4 ≤ t.val % 8 := by omega
    have e4 : t.val % 8 % 4 = t.val % 8 := by omega
    rw [if_pos (by omega), outsAt0_A m c t h h1]
    frame_out
    refine (pay4 _ _ _ _).trans ?_
    rw [iblk0, iblk1, iblk2, e4]
  · have h1 : 4 ≤ t.val % 8 := by omega
    have e4 : t.val % 8 * 1408 + (y 1).val - 5632 = t.val % 8 % 4 * 1408 + (y 1).val := by omega
    rw [if_neg (by omega), outsAt0_B m c t h h1]
    frame_out
    refine (pay5 _ _ _).trans ?_
    rw [iblk0, iblk2, e4]

/-- What the kernel leaves. -/
theorem run : θ_run defs (onTc (τ := τ) (main (F := Ideal))) ⟨m, fun _ => 0, ρ⟩ fun r => ∀ c : Dev nD,
    r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1) :=
  (θ_run _ _ _).mono (fun _ h c => ⟨(h c).1.trans (final m c), (h c).2⟩) (run_blocks m ρ)

end Cert.KernelGateIdeal.Prod

namespace Cert.ReferenceGateIdeal.Prod

open Cert.ReferenceGateIdeal Cert.ReferenceGateIdeal.Gen Cert.ReferenceGateIdeal.Read

/-- The precondition, read at an index: the up half and the activation's gradient are real. -/
theorem pre [Cert.Pre_finite.Facts] (gu : Vec Ideal S8320x11264 .bf16) (da : Vec Ideal S8320x5632 .bf16)
    (h : Cert.Pre_finite.fn (F := Ideal) gu da = fun _ => 1#1) (i : S8320x5632.Idx) :
    (∃ r : ℝ, at' (S := S8320x11264) gu ![(i 0).val, 5632 + (i 1).val] = r) ∧ ∃ r : ℝ, da i = r := by
  have e := congrFun h fun a => a.elim0
  simp only [Cert.Pre_finite.fn] at e
  obtain ⟨e0, e1⟩ := IntOp.andi_eq_one.1 e
  haveI : Subsingleton (Shape.Idx ⟨0, ![]⟩) := ⟨fun x y => funext fun a => a.elim0⟩
  have e2 := Host.reduce_andi_all _ _ _ _ _ e1 i
  have e3 := Host.reduce_andi_all _ _ _ _ _ e0 i
  idx_vars i
  pointwise at e2 e3
  refine ⟨?_, real_of_abs_lt e2⟩
  obtain ⟨r, hr⟩ := real_of_abs_lt e3
  exact ⟨r, (eq_at' (S := S8320x11264) gu _ _ fun a => by fin_cases a <;> rfl).symm.trans hr⟩

/-- The reference's result at an index. -/
theorem ref_apply [Cert.Pre_finite.Facts] (x0 : Vec Ideal S8320x11264 .bf16) (x1 : Vec Ideal S8320x5632 .bf16)
    (h : Cert.Pre_finite.fn (F := Ideal) x0 x1 = fun _ => 1#1) (i : S8320x11264.Idx) :
    val_main_v11 (F := Ideal) x0 x1 i = Cert.KernelGateIdeal.Prod.grad x0 x1 (i 0).val (i 1).val := by
  have hp := pre x0 x1 h
  unfold val_main_v11 val_main_v10 Cert.KernelGateIdeal.Prod.grad
  idx_vars i
  pointwise
  by_cases hc : i1.val < 5632
  · obtain ⟨hu, ha⟩ := hp (ix2 i0 ⟨i1.val, hc⟩)
    have eg : at' (S := S8320x11264) x0 ![i0.val, i1.val] = x0 (ix2 i0 i1) :=
      (eq_at' (S := S8320x11264) x0 _ _ fun a => by fin_cases a <;> rfl).symm
    have eu : at' (S := S8320x11264) x0 ![i0.val, 5632 + i1.val] = x0 (ix2 i0 ⟨5632 + i1.val, by show _ < 11264; omega⟩) :=
      (eq_at' (S := S8320x11264) x0 _ _ fun a => by fin_cases a <;> rfl).symm
    have ea : at' (S := S8320x5632) x1 ![i0.val, i1.val] = x1 (ix2 i0 ⟨i1.val, hc⟩) :=
      (eq_at' (S := S8320x5632) x1 _ _ fun a => by fin_cases a <;> rfl).symm
    rw [dif_pos hc, if_pos hc]
    refine Eq.trans ?_ (dgate_eq _ hu (ea.symm ▸ ha))
    rw [eg, eu, ea]
    unfold logis
    unfold val_main_v9 val_main_call1_v2 val_main_call1_v1 val_main_call1_v0 val_main_v8 val_main_v6 val_main_v4_1
      val_main_call0_v7 val_main_v4_2 val_main_call0_v6 val_main_call0_v4 val_main_call0_v3 val_main_call0_v2
      val_main_call0_v1 val_main_call0_v0 val_main_v3 val_main_v2 val_main_v1 val_main_v0 val_main_call0_cst
      val_main_call0_cst_0 val_main_call0_cst_1
    pointwise
  · rw [dif_neg hc, if_neg hc]
    have hlt : i1.val - 5632 < 5632 := by omega
    have eg : at' (S := S8320x11264) x0 ![i0.val, i1.val - 5632] = x0 (ix2 i0 ⟨i1.val - 5632, by show _ < 11264; omega⟩) :=
      (eq_at' (S := S8320x11264) x0 _ _ fun a => by fin_cases a <;> rfl).symm
    have ea : at' (S := S8320x5632) x1 ![i0.val, i1.val - 5632] = x1 (ix2 i0 ⟨i1.val - 5632, hlt⟩) :=
      (eq_at' (S := S8320x5632) x1 _ _ fun a => by fin_cases a <;> rfl).symm
    refine Eq.trans ?_ (congrArg₂ dup eg.symm ea.symm)
    unfold dup logis
    unfold val_main_v7 val_main_v6 val_main_v4_0 val_main_v4_2 val_main_call0_v4 val_main_call0_v3 val_main_call0_v2
      val_main_call0_v1 val_main_call0_v0 val_main_v1 val_main_v0 val_main_call0_cst val_main_call0_cst_0
    pointwise
    rw [mul_comm, ← mul_assoc]

end Cert.ReferenceGateIdeal.Prod

namespace Cert.Proof

/-- The kernel and the reference compute the same gradient, where the up half and the gradient that comes in are finite. -/
theorem algebraic_gate [Cert.Pre_finite.Facts] : Cert.algebraic_KernelGateIdeal_ReferenceGateIdeal_pre_finite := by
  intro m ρ m' ρ' hpre hag
  refine ⟨fun c => Cert.KernelGateIdeal.Prod.G m c, Cert.KernelGateIdeal.Prod.run m ρ,
    (θ_run _ _ _).mono (fun r h c => ⟨(h c).1.trans ?_, (h c).2⟩) (Cert.ReferenceGateIdeal.Value.run (F := Ideal) m' ρ')⟩
  rw [(hag c).1, (hag c).2]
  funext i
  rw [Cert.ReferenceGateIdeal.Read.val_main_v11_eq]
  exact Cert.ReferenceGateIdeal.Prod.ref_apply _ _ (hpre c) i

end Cert.Proof

end
-- ==== Proof.Dact.lean ====
/- The gradient of the FFN's activation: `dfo · w_downᵀ`, a block of the result at each point. -/
module

public import proofs.«01_k».proof.Proof.Blocks
public import proofs.«01_k».proof.Defs
public import proofs.«01_k».proof.Proof.Gen.KernelDactIdeal.Value
public import proofs.«01_k».proof.Proof.Gen.ReferenceDactIdeal.Read
public import Idealize.ShloMosaic.Lib.Pointwise
public import Idealize.ShloMosaic.Lib.Tactic
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem Cert.Blocks

namespace Cert.KernelDactIdeal.Prod

open Cert.KernelDactIdeal Cert.KernelDactIdeal.Gen Cert.KernelDactIdeal.Value

variable (m : (ℓ : Loc nD τ sig) → Buf (Elt Ideal) ℓ) (ρ : Dev nD → PrngReg)

/-- Which blocks point `t` reads and writes. -/
theorem idx : ∀ t : Fin cfg0.N, win0_0.index t (0 : Fin 2) = t.val / 4 ∧ win0_0.index t (1 : Fin 2) = 0
    ∧ win0_1.index t (0 : Fin 2) = t.val % 4 ∧ win0_1.index t (1 : Fin 2) = 0
    ∧ win0_2.index t (0 : Fin 2) = t.val / 4 ∧ win0_2.index t (1 : Fin 2) = t.val % 4 :=
  (by decide +kernel : ∀ t : Fin grid0.N, _)

/-- The block of `dfo` at point `t`, element by element. -/
theorem iblk0 (c : Dev nD) (t : Fin cfg0.N) (j : S640x2048.Idx) : (iblk m c 0 t : Vec Ideal S640x2048 .bf16) j
    = at' (S := S8320x2048) (m ((c : Thread nD τ).loc main_arg0)) ![t.val / 4 * 640 + (j 0).val, (j 1).val] := by
  obtain ⟨e0, e1, -⟩ := idx t
  unfold iblk
  rw [View.read_apply]
  refine eq_at' (S := S8320x2048) _ _ _ fun a => ?_
  match a with
  | ⟨0, _⟩ => show win0_0.index t 0 * 640 + 1 * (j 0).val = t.val / 4 * 640 + (j 0).val; rw [e0]; omega
  | ⟨1, _⟩ => show win0_0.index t 1 * 2048 + 1 * (j 1).val = (j 1).val; rw [e1]; omega

/-- The block of `w_down` at point `t`, element by element. -/
theorem iblk1 (c : Dev nD) (t : Fin cfg0.N) (j : S1408x2048.Idx) : (iblk m c 1 t : Vec Ideal S1408x2048 .bf16) j
    = at' (S := S5632x2048) (m ((c : Thread nD τ).loc main_arg1)) ![t.val % 4 * 1408 + (j 0).val, (j 1).val] := by
  obtain ⟨-, -, e0, e1, -⟩ := idx t
  unfold iblk
  rw [View.read_apply]
  refine eq_at' (S := S5632x2048) _ _ _ fun a => ?_
  match a with
  | ⟨0, _⟩ => show win0_1.index t 0 * 1408 + 1 * (j 0).val = t.val % 4 * 1408 + (j 0).val; rw [e0]; omega
  | ⟨1, _⟩ => show win0_1.index t 1 * 2048 + 1 * (j 1).val = (j 1).val; rw [e1]; omega

/-- The product of two blocks at an index. -/
theorem pay_apply (x0 : Vec Ideal S640x2048 .bf16) (x1 : Vec Ideal S1408x2048 .bf16) (j : S640x1408.Idx) :
    k0_pay1 x0 x1 j = ∑ r : Fin 2048, x0 (ValueIdx.ix2 (j 0) r) * x1 (ValueIdx.ix2 (j 1) r) := by
  unfold k0_pay1
  idx_vars j
  pointwise
  rfl

/-- The result of the kernel: the whole product. -/
def G (c : Dev nD) : S8320x5632.Idx → EReal := fun i => ∑ k : Fin 2048,
  at' (S := S8320x2048) (m ((c : Thread nD τ).loc main_arg0)) ![(i 0).val, k.val]
    * at' (S := S5632x2048) (m ((c : Thread nD τ).loc main_arg1)) ![(i 1).val, k.val]

/-- The array ends holding the product. -/
theorem final (c : Dev nD) : (dats m 0 c).arrAt 2 cfg0.N = (G m c : Buf (Elt Ideal) ((c : Thread nD τ).loc main_v0)) := by
  refine (dats m 0 c).arrAt_eq_of_covers 2 _ (by decide +kernel) fun t hf y => ?_
  obtain ⟨-, -, -, -, e0, e1⟩ := idx t
  blk_simp
  rw [after0_2]
  unfold outsAt0
  frame_out
  refine (pay_apply _ _ _).trans (Finset.sum_congr rfl fun k _ => ?_)
  rw [iblk0, iblk1]
  show _ = at' (S := S8320x2048) _ ![win0_2.index t 0 * 640 + 1 * (y 0).val, k.val]
    * at' (S := S5632x2048) _ ![win0_2.index t 1 * 1408 + 1 * (y 1).val, k.val]
  rw [e0, e1, one_mul, one_mul]

/-- What the kernel leaves. -/
theorem run : θ_run defs (onTc (τ := τ) (main (F := Ideal))) ⟨m, fun _ => 0, ρ⟩ fun r => ∀ c : Dev nD,
    r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1) :=
  (θ_run _ _ _).mono (fun _ h c => ⟨(h c).1.trans (final m c), (h c).2⟩) (run_blocks m ρ)

end Cert.KernelDactIdeal.Prod

namespace Cert.ReferenceDactIdeal.Prod

open Cert.ReferenceDactIdeal Cert.ReferenceDactIdeal.Gen Cert.ReferenceDactIdeal.Read

/-- The reference's result at an index. -/
theorem ref_apply (x0 : Vec Ideal S8320x2048 .bf16) (x1 : Vec Ideal S5632x2048 .bf16) (i : S8320x5632.Idx) :
    val_main_v5 (F := Ideal) x0 x1 i = ∑ k : Fin 2048,
      at' (S := S8320x2048) x0 ![(i 0).val, k.val] * at' (S := S5632x2048) x1 ![(i 1).val, k.val] := by
  rw [val_main_v5_apply, val_main_v4_apply]
  refine Finset.sum_congr rfl fun k _ => ?_
  refine congrArg₂ (· * ·) (eq_at' (S := S8320x2048) x0 _ _ fun a => ?_) (eq_at' (S := S5632x2048) x1 _ _ fun a => ?_) <;>
    fin_cases a <;> rfl

end Cert.ReferenceDactIdeal.Prod

namespace Cert.Proof

/-- The kernel and the reference compute the same gradient. -/
theorem algebraic_dact : Cert.algebraic_KernelDactIdeal_ReferenceDactIdeal := by
  intro m ρ m' ρ' _ hag
  refine ⟨fun c => Cert.KernelDactIdeal.Prod.G m c, Cert.KernelDactIdeal.Prod.run m ρ,
    (θ_run _ _ _).mono (fun r h c => ⟨(h c).1.trans ?_, (h c).2⟩) (Cert.ReferenceDactIdeal.Value.run (F := Ideal) m' ρ')⟩
  rw [(hag c).1, (hag c).2]
  funext i
  rw [Cert.ReferenceDactIdeal.Read.val_main_v5_eq]
  exact Cert.ReferenceDactIdeal.Prod.ref_apply _ _ i

end Cert.Proof

end
-- ==== Proof.Dwdown.lean ====
/- The gradient of the FFN's down weight: `actᵀ · dfo`, accumulated over five blocks of rows. -/
module

public import proofs.«01_k».proof.Proof.Blocks
public import proofs.«01_k».proof.Defs
public import proofs.«01_k».proof.Proof.Gen.KernelDwdownIdeal.Value
public import proofs.«01_k».proof.Proof.Gen.ReferenceDwdownIdeal.Read
public import Idealize.ShloMosaic.Lib.Pointwise
public import Idealize.ShloMosaic.Lib.Tactic

@[expose] public section

set_option maxRecDepth 16384

noncomputable section

open Idealize.ShloMosaic Idealize.ShloMosaic.TcCoe Idealize.SL.Sem Cert.Blocks

namespace Cert.KernelDwdownIdeal.Prod

open Cert.KernelDwdownIdeal Cert.KernelDwdownIdeal.Gen Cert.KernelDwdownIdeal.Value

/-- The whole block starts at the origin. -/
theorem hz : (![0, 0] : Fin 2 → Nat) = fun _ => 0 := funext fun a => by fin_cases a <;> rfl

section Cases

variable {F : FTy → Type} [FloatOps F]

/-- The first point of a run leaves the product of its blocks in the accumulator. -/
theorem sout_A (c : Dev nD) (i : grid0.Coords) (a3 : Memref sig .tc .vmem S1664x512 .bf16) (h3 : a3.IsWhole)
    (a4 : Memref sig .tc .vmem S1664x1024 .bf16) (h4 : a4.IsWhole) (a5 : Memref sig .tc .vmem S512x1024 .bf16) (h5 : a5.IsWhole)
    (a6 : Memref sig .tc .vmem S512x1024 .f32) (h6 : a6.IsWhole) (hc0 hc1 hc2) (x0 : Vec F S1664x512 .bf16) (x1 : Vec F S1664x1024 .bf16) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero hz]
  unfold k0_pay2
  simp only [View.readAt_eq_ld, h3.read_unread, h4.read_unread, View.ld_unit_zero (S := S1664x512) hz, View.ld_unit_zero (S := S1664x1024) hz, shapeCast_self]

/-- A later point adds the product of its blocks. -/
theorem sout_B (c : Dev nD) (i : grid0.Coords) (a3 : Memref sig .tc .vmem S1664x512 .bf16) (h3 : a3.IsWhole)
    (a4 : Memref sig .tc .vmem S1664x1024 .bf16) (h4 : a4.IsWhole) (a5 : Memref sig .tc .vmem S512x1024 .bf16) (h5 : a5.IsWhole)
    (a6 : Memref sig .tc .vmem S512x1024 .f32) (h6 : a6.IsWhole) (hc0 hc1 hc2) (x0 : Vec F S1664x512 .bf16) (x1 : Vec F S1664x1024 .bf16) (acc : Vec F S512x1024 .f32) :
    sout0_B_0 c i a3 h3 a4 h4 a5 h5 a6 h6 hc0 hc1 hc2 x0 x1 acc = addf acc (k0_pay1 x0 x1) := by
  unfold sout0_B_0
  rw [View.read_writes_eq_canon _ _ _ (scover0_B_0 c i a3 h3 a4 h4 a5 h5 a6 h6 hc0 hc1 hc2 x0 x1 acc)]
  unfold kernelRun0_B
  dsimp only
  sl_unfold_words
  rw [View.canon_unit_zero hz]
  unfold k0_pay3
  simp only [View.readAt_eq_ld, h3.read_unread, h4.read_unread, h6.read_unread, View.ld_unit_zero (S := S1664x512) hz, View.ld_unit_zero (S := S1664x1024) hz, View.ld_unit_zero (S := S512x1024) hz, shapeCast_self]

/-- So does the last point add the product of its blocks. -/
theorem sout_C (c : Dev nD) (i : grid0.Coords) (a3 : Memref sig .tc .vmem S1664x512 .bf16) (h3 : a3.IsWhole)
    (a4 : Memref sig .tc .vmem S1664x1024 .bf16) (h4 : a4.IsWhole) (a5 : Memref sig .tc .vmem S512x1024 .bf16) (h5 : a5.IsWhole)
    (a6 : Memref sig .tc .vmem S512x1024 .f32) (h6 : a6.IsWhole) (hc0 hc1 hc2) (x0 : Vec F S1664x512 .bf16) (x1 : Vec F S1664x1024 .bf16) (acc : Vec F S512x1024 .f32) :
    sout0_C_0 c i a3 h3 a4 h4 a5 h5 a6 h6 hc0 hc1 hc2 x0 x1 acc = addf acc (k0_pay1 x0 x1) := by
  unfold sout0_C_0
  rw [View.read_writes_eq_canon _ _ _ (scover0_C_0 c i a3 h3 a4 h4 a5 h5 a6 h6 hc0 hc1 hc2 x0 x1 acc)]
  unfold kernelRun0_C
  dsimp only
  sl_unfold_words
  rw [View.canon_unit_zero hz]
  unfold k0_pay3
  simp only [View.readAt_eq_ld, h3.read_unread, h4.read_unread, h6.read_unread, View.ld_unit_zero (S := S1664x512) hz, View.ld_unit_zero (S := S1664x1024) hz, View.ld_unit_zero (S := S512x1024) hz, shapeCast_self]

/-- The last point writes the accumulator out, with the product of its blocks added. -/
theorem out_C (c : Dev nD) (i : grid0.Coords) (a3 : Memref sig .tc .vmem S1664x512 .bf16) (h3 : a3.IsWhole)
    (a4 : Memref sig .tc .vmem S1664x1024 .bf16) (h4 : a4.IsWhole) (a5 : Memref sig .tc .vmem S512x1024 .bf16) (h5 : a5.IsWhole)
    (a6 : Memref sig .tc .vmem S512x1024 .f32) (h6 : a6.IsWhole) (hc0 hc1 hc2) (x0 : Vec F S1664x512 .bf16) (x1 : Vec F S1664x1024 .bf16) (acc : Vec F S512x1024 .f32) :
    out0_C_2 c i a3 h3 a4 h4 a5 h5 a6 h6 hc0 hc1 hc2 x0 x1 acc = k0_pay4 (addf acc (k0_pay1 x0 x1)) := by
  unfold out0_C_2
  rw [View.read_writes_eq_canon _ _ _ (cover0_C_2 c i a3 h3 a4 h4 a5 h5 a6 h6 hc0 hc1 hc2 x0 x1 acc)]
  unfold kernelRun0_C
  dsimp only
  sl_unfold_words
  rw [View.canon_unit_zero hz]
  unfold k0_pay3
  simp only [View.readAt_eq_ld, h3.read_unread, h4.read_unread, h6.read_unread, View.ld_unit_zero (S := S1664x512) hz, View.ld_unit_zero (S := S1664x1024) hz, View.ld_unit_zero (S := S512x1024) hz, View.readCov_unit_zero (S := S512x1024) _ hz, shapeCast_self]

end Cases

section Ideal

variable (m : (ℓ : Loc nD τ sig) → Buf (Elt Ideal) ℓ) (ρ : Dev nD → PrngReg)

/-- Which block of `act` point `t` reads. -/
theorem idx0 : ∀ t : Fin cfg0.N, win0_0.index t (0 : Fin 2) = t.val % 5 ∧ win0_0.index t (1 : Fin 2) = t.val / 10 :=
  (by decide +kernel : ∀ t : Fin grid0.N, _)

/-- Which block of `dfo` point `t` reads. -/
theorem idx1 : ∀ t : Fin cfg0.N, win0_1.index t (0 : Fin 2) = t.val % 5 ∧ win0_1.index t (1 : Fin 2) = t.val / 5 % 2 :=
  (by decide +kernel : ∀ t : Fin grid0.N, _)

/-- The block of `act` at point `t`, element by element. -/
theorem iblk0 (c : Dev nD) (t : Fin cfg0.N) (j : S1664x512.Idx) : (iblk m c 0 t : Vec Ideal S1664x512 .bf16) j
    = at' (S := S8320x5632) (m ((c : Thread nD τ).loc main_arg0)) ![t.val % 5 * 1664 + (j 0).val, t.val / 10 * 512 + (j 1).val] := by
  obtain ⟨e0, e1⟩ := idx0 t
  unfold iblk
  rw [View.read_apply]
  refine eq_at' (S := S8320x5632) _ _ _ fun a => ?_
  match a with
  | ⟨0, _⟩ => show win0_0.index t 0 * 1664 + 1 * (j 0).val = t.val % 5 * 1664 + (j 0).val; rw [e0]; omega
  | ⟨1, _⟩ => show win0_0.index t 1 * 512 + 1 * (j 1).val = t.val / 10 * 512 + (j 1).val; rw [e1]; omega

/-- The block of `dfo` at point `t`, element by element. -/
theorem iblk1 (c : Dev nD) (t : Fin cfg0.N) (j : S1664x1024.Idx) : (iblk m c 1 t : Vec Ideal S1664x1024 .bf16) j
    = at' (S := S8320x2048) (m ((c : Thread nD τ).loc main_arg1)) ![t.val % 5 * 1664 + (j 0).val, t.val / 5 % 2 * 1024 + (j 1).val] := by
  obtain ⟨e0, e1⟩ := idx1 t
  unfold iblk
  rw [View.read_apply]
  refine eq_at' (S := S8320x2048) _ _ _ fun a => ?_
  match a with
  | ⟨0, _⟩ => show win0_1.index t 0 * 1664 + 1 * (j 0).val = t.val % 5 * 1664 + (j 0).val; rw [e0]; omega
  | ⟨1, _⟩ => show win0_1.index t 1 * 1024 + 1 * (j 1).val = t.val / 5 % 2 * 1024 + (j 1).val; rw [e1]; omega

/-- The product of two blocks at an index. -/
theorem pay_apply (x0 : Vec Ideal S1664x512 .bf16) (x1 : Vec Ideal S1664x1024 .bf16) (j : S512x1024.Idx) :
    k0_pay1 x0 x1 j = ∑ r : Fin 1664, x0 (ValueIdx.ix2 r (j 0)) * x1 (ValueIdx.ix2 r (j 1)) := by
  unfold k0_pay1
  idx_vars j
  pointwise
  rfl

/-- The addend of point `n`: the product of its blocks. -/
def part (c : Dev nD) (n : ℕ) (j : S512x1024.Idx) : EReal :=
  if h : n < cfg0.N then k0_pay1 (iblk m c 0 ⟨n, h⟩) (iblk m c 1 ⟨n, h⟩) j else 0

/-- What the accumulator holds after point `t`: the parts of its run so far. -/
theorem acc_eq (c : Dev nD) (t : Fin cfg0.N) (j : S512x1024.Idx) :
    (outsAt0 m c t.val t.isLt).2 j = ∑ s ∈ Finset.range (t.val % 5 + 1), part m c (5 * (t.val / 5) + s) j := by
  have hN : t.val < 110 := lt_of_lt_of_eq t.isLt N_0
  rw [soutsAt0_0_eq m c t]
  refine acc_sum _ _ (part m c) _ _ (fun h i => ?_) (fun n h acc i h1 h2 => ?_) _ j
  · have e : (5 * (t.val / 5)) % 5 = 0 := by omega
    unfold scAt0_0 part
    rw [dif_pos e, dif_neg (by omega), dif_neg (by omega), sout_A, dif_pos h]
  · have e : ¬n % 5 = 0 := by omega
    unfold scAt0_0 part
    rw [dif_neg e, dif_pos (by omega), dif_pos h]
    by_cases h4 : n % 5 = 4
    · rw [dif_pos h4, sout_C]; rfl
    · rw [dif_neg h4, sout_B]; rfl

/-- The result of the kernel at an index: the whole sum over the rows. -/
theorem G_apply (c : Dev nD) (i : S5632x2048.Idx) : G2 m c i = ∑ k : Fin 8320,
    at' (S := S8320x5632) (m ((c : Thread nD τ).loc main_arg0)) ![k.val, (i 0).val]
      * at' (S := S8320x2048) (m ((c : Thread nD τ).loc main_arg1)) ![k.val, (i 1).val] := by
  have hi0 : (i 0).val < 5632 := (i 0).isLt
  have hi1 : (i 1).val < 2048 := (i 1).isLt
  have hN : cfg0.N = 110 := N_0
  have hv : pt2Of i = 5 * (2 * ((i 0).val / 512 - 0) + 1 * ((i 1).val / 1024 - 0)) + 4 := rfl
  have hp : pt2Of i < cfg0.N := by omega
  have hr : ∀ s : ℕ, s < 5 → part m c (5 * (pt2Of i / 5) + s) (loc2Of i) = ∑ r : Fin 1664,
      at' (S := S8320x5632) (m ((c : Thread nD τ).loc main_arg0)) ![s * 1664 + r.val, (i 0).val]
        * at' (S := S8320x2048) (m ((c : Thread nD τ).loc main_arg1)) ![s * 1664 + r.val, (i 1).val] := fun s hs => by
    have hb : 5 * (pt2Of i / 5) + s < cfg0.N := by omega
    unfold part
    rw [dif_pos hb, pay_apply]
    refine Finset.sum_congr rfl fun r _ => ?_
    rw [iblk0, iblk1]
    have e0 : (5 * (pt2Of i / 5) + s) % 5 = s := by omega
    have e1 : (5 * (pt2Of i / 5) + s) / 10 * 512 + (i 0).val % 512 = (i 0).val := by omega
    have e2 : (5 * (pt2Of i / 5) + s) / 5 % 2 * 1024 + (i 1).val % 1024 = (i 1).val := by omega
    show at' (S := S8320x5632) _ ![(5 * (pt2Of i / 5) + s) % 5 * 1664 + r.val, (5 * (pt2Of i / 5) + s) / 10 * 512 + (i 0).val % 512]
      * at' (S := S8320x2048) _ ![(5 * (pt2Of i / 5) + s) % 5 * 1664 + r.val, (5 * (pt2Of i / 5) + s) / 5 % 2 * 1024 + (i 1).val % 1024] = _
    rw [e0, e1, e2]
  have hq : pt2Of i - 1 < cfg0.N := by omega
  have h0 : ¬pt2Of i % 5 = 0 := by omega
  have h1 : 1 ≤ pt2Of i % 5 := by omega
  have h2 : pt2Of i % 5 = 4 := by omega
  have hd : (pt2Of i - 1) / 5 = pt2Of i / 5 := by omega
  have hm : (pt2Of i - 1) % 5 + 1 = 4 := by omega
  have ha := acc_eq m c ⟨pt2Of i - 1, hq⟩ (loc2Of i)
  dsimp only at ha hd hm
  rw [hd, hm] at ha
  unfold G2
  rw [dif_pos hp, ← outsAt0_sweep m c _ hp, outsAt0_C m c ⟨pt2Of i, hp⟩ h0 h1 h2, out_C]
  refine Eq.trans ?_ (run_total (fun k => at' (S := S8320x5632) (m ((c : Thread nD τ).loc main_arg0)) ![k, (i 0).val]
      * at' (S := S8320x2048) (m ((c : Thread nD τ).loc main_arg1)) ![k, (i 1).val]) 1664 4 (fun n => part m c n (loc2Of i)) _
      (pt2Of i) _ (by omega) ha hr)
  unfold part
  rw [dif_pos hp]
  rfl

end Ideal

end Cert.KernelDwdownIdeal.Prod

namespace Cert.ReferenceDwdownIdeal.Prod

open Cert.ReferenceDwdownIdeal Cert.ReferenceDwdownIdeal.Gen Cert.ReferenceDwdownIdeal.Read

/-- The reference's result at an index. -/
theorem ref_apply (x0 : Vec Ideal S8320x5632 .bf16) (x1 : Vec Ideal S8320x2048 .bf16) (i : S5632x2048.Idx) :
    val_main_v6 (F := Ideal) x0 x1 i = ∑ k : Fin 8320,
      at' (S := S8320x5632) x0 ![k.val, (i 0).val] * at' (S := S8320x2048) x1 ![k.val, (i 1).val] := by
  rw [val_main_v6_apply, val_main_v5_apply, val_main_v4_apply]
  refine Finset.sum_congr rfl fun k _ => ?_
  rw [mul_comm]
  refine congrArg₂ (· * ·) (eq_at' (S := S8320x5632) x0 _ _ fun a => ?_) (eq_at' (S := S8320x2048) x1 _ _ fun a => ?_) <;>
    fin_cases a <;> rfl

end Cert.ReferenceDwdownIdeal.Prod

namespace Cert.Proof

/-- The kernel and the reference compute the same gradient. -/
theorem algebraic_dwdown : Cert.algebraic_KernelDwdownIdeal_ReferenceDwdownIdeal := by
  intro m ρ m' ρ' _ hag
  refine ⟨fun c => Cert.KernelDwdownIdeal.Value.G2 m c, Cert.KernelDwdownIdeal.Value.run m ρ,
    (θ_run _ _ _).mono (fun r h c => ⟨(h c).1.trans ?_, (h c).2.1, (h c).2.2⟩) (Cert.ReferenceDwdownIdeal.Value.run (F := Ideal) m' ρ')⟩
  rw [(hag c).1, (hag c).2]
  funext i
  rw [Cert.ReferenceDwdownIdeal.Read.val_main_v6_eq]
  exact (Cert.ReferenceDwdownIdeal.Prod.ref_apply _ _ i).trans (Cert.KernelDwdownIdeal.Prod.G_apply m c i).symm

end Cert.Proof

end
-- ==== Proof.Pair.lean ====
/- The gate and the up weights of the FFN side by side, as one matrix. -/
module

public import proofs.«01_k».proof.Proof.Blocks

@[expose] public section

noncomputable section

namespace Cert.Blocks

open Idealize.ShloMosaic

/-- The element `(j, k)` of the 2048 × 11264 matrix that holds `A` in its first 5632 columns and `B` in the others. -/
def pair (A B : Shape.Idx ⟨2, ![2048, 5632]⟩ → EReal) (j k : ℕ) : EReal :=
  if k < 5632 then at' A ![j, k] else at' B ![j, k - 5632]

/-- A sum over all the columns, cut in two. -/
theorem sum_pair (f : ℕ → EReal) : ∑ k : Fin 11264, f k.val = ∑ k : Fin 5632, f k.val + ∑ k : Fin 5632, f (5632 + k.val) := by
  rw [Fin.sum_univ_eq_sum_range (fun k => f k), Fin.sum_univ_eq_sum_range (fun k => f k),
    Fin.sum_univ_eq_sum_range (fun k => f (5632 + k)), ← Finset.sum_range_add]

/-- The columns before the cut come from the first matrix. -/
theorem pair_left (A B : Shape.Idx ⟨2, ![2048, 5632]⟩ → EReal) (j k : ℕ) (h : k < 5632) : pair A B j k = at' A ![j, k] :=
  if_pos h

/-- The columns after the cut come from the second matrix. -/
theorem pair_right (A B : Shape.Idx ⟨2, ![2048, 5632]⟩ → EReal) (j k : ℕ) : pair A B j (5632 + k) = at' B ![j, k] := by
  unfold pair
  rw [if_neg (by omega), Nat.add_sub_cancel_left]

/-- An element of the slabs that two weights are laid out in, four slabs of 1408 columns each. -/
theorem pair_slab (A B : Shape.Idx ⟨2, ![2048, 5632]⟩ → EReal) (n j k : ℕ) (x : n < 4 → Shape.Idx ⟨2, ![2048, 5632]⟩)
    (y : ¬n < 4 → Shape.Idx ⟨2, ![2048, 5632]⟩) (hk : k < 1408) (hx : ∀ h, (x h 0).val = j ∧ (x h 1).val = n * 1408 + k)
    (hy : ∀ h, (y h 0).val = j ∧ (y h 1).val = (n - 4) * 1408 + k) :
    (if h : n < 4 then A (x h) else B (y h)) = pair A B j (n * 1408 + k) := by
  unfold pair
  by_cases h : n < 4
  · rw [dif_pos h, if_pos (by omega)]
    refine eq_at' A (x h) _ fun a => ?_
    match a with
    | ⟨0, _⟩ => exact (hx h).1
    | ⟨1, _⟩ => exact (hx h).2
  · rw [dif_neg h, if_neg (by omega)]
    refine eq_at' B (y h) _ fun a => ?_
    match a with
    | ⟨0, _⟩ => exact (hy h).1
    | ⟨1, _⟩ => exact (hy h).2.trans (by show (n - 4) * 1408 + k = n * 1408 + k - 5632; omega)

end Cert.Blocks

end
-- ==== Proof.Dh.lean ====
/- The gradient of the FFN's input: `dgu · [w_gate w_up]ᵀ`, accumulated over the eight slabs of the weights. -/
module

public import proofs.«01_k».proof.Proof.Pair
public import proofs.«01_k».proof.Defs
public import proofs.«01_k».proof.Proof.Gen.KernelDhIdeal.Value
public import proofs.«01_k».proof.Proof.Gen.ReferenceDhIdeal.Read
public import Idealize.ShloMosaic.Lib.Pointwise
public import Idealize.ShloMosaic.Lib.Tactic
public import Idealize.ShloMosaic.Lib.Claim

@[expose] public section

set_option maxRecDepth 16384

noncomputable section

open Idealize.ShloMosaic Idealize.ShloMosaic.TcCoe Idealize.SL.Sem Cert.Blocks

namespace Cert.KernelDhIdeal.Prod

open Cert.KernelDhIdeal Cert.KernelDhIdeal.Gen Cert.KernelDhIdeal.Value

/-- The whole block starts at the origin. -/
theorem hz : (![0, 0] : Fin 2 → Nat) = fun _ => 0 := funext fun a => by fin_cases a <;> rfl

theorem hz3 : (![0, 0, 0] : Fin 3 → Nat) = fun _ => 0 := funext fun a => by fin_cases a <;> rfl

section Cases

variable {F : FTy → Type} [FloatOps F]

/-- The first point of a run leaves the product of its blocks in the accumulator. -/
theorem sout_A (c : Dev nD) (i : grid0.Coords) (a3 : Memref sig .tc .vmem S640x1408 .bf16) (h3 : a3.IsWhole)
    (a4 : Memref sig .tc .vmem S1x2048x1408 .bf16) (h4 : a4.IsWhole) (a5 : Memref sig .tc .vmem S640x2048 .f32) (h5 : a5.IsWhole)
    (a6 : Memref sig .tc .vmem S640x2048 .f32) (h6 : a6.IsWhole) (hc0 hc1 hc2) (x0 : Vec F S640x1408 .bf16) (x1 : Vec F S1x2048x1408 .bf16) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero hz]
  unfold k0_pay2
  simp only [View.readAt_eq_ld, h3.read_unread, h4.read_unread, View.ld_unit_zero (S := S640x1408) hz, View.ld_unit_zero (S := S1x2048x1408) hz3, shapeCast_self]

/-- A later point adds the product of its blocks. -/
theorem sout_B (c : Dev nD) (i : grid0.Coords) (a3 : Memref sig .tc .vmem S640x1408 .bf16) (h3 : a3.IsWhole)
    (a4 : Memref sig .tc .vmem S1x2048x1408 .bf16) (h4 : a4.IsWhole) (a5 : Memref sig .tc .vmem S640x2048 .f32) (h5 : a5.IsWhole)
    (a6 : Memref sig .tc .vmem S640x2048 .f32) (h6 : a6.IsWhole) (hc0 hc1 hc2) (x0 : Vec F S640x1408 .bf16) (x1 : Vec F S1x2048x1408 .bf16) (acc : Vec F S640x2048 .f32) :
    sout0_B_0 c i a3 h3 a4 h4 a5 h5 a6 h6 hc0 hc1 hc2 x0 x1 acc = addf acc (k0_pay1 x0 x1) := by
  unfold sout0_B_0
  rw [View.read_writes_eq_canon _ _ _ (scover0_B_0 c i a3 h3 a4 h4 a5 h5 a6 h6 hc0 hc1 hc2 x0 x1 acc)]
  unfold kernelRun0_B
  dsimp only
  sl_unfold_words
  rw [View.canon_unit_zero hz]
  unfold k0_pay3
  simp only [View.readAt_eq_ld, h3.read_unread, h4.read_unread, h6.read_unread, View.ld_unit_zero (S := S640x1408) hz, View.ld_unit_zero (S := S1x2048x1408) hz3, View.ld_unit_zero (S := S640x2048) hz, shapeCast_self]

/-- So does the last point add the product of its blocks. -/
theorem sout_C (c : Dev nD) (i : grid0.Coords) (a3 : Memref sig .tc .vmem S640x1408 .bf16) (h3 : a3.IsWhole)
    (a4 : Memref sig .tc .vmem S1x2048x1408 .bf16) (h4 : a4.IsWhole) (a5 : Memref sig .tc .vmem S640x2048 .f32) (h5 : a5.IsWhole)
    (a6 : Memref sig .tc .vmem S640x2048 .f32) (h6 : a6.IsWhole) (hc0 hc1 hc2) (x0 : Vec F S640x1408 .bf16) (x1 : Vec F S1x2048x1408 .bf16) (acc : Vec F S640x2048 .f32) :
    sout0_C_0 c i a3 h3 a4 h4 a5 h5 a6 h6 hc0 hc1 hc2 x0 x1 acc = addf acc (k0_pay1 x0 x1) := by
  unfold sout0_C_0
  rw [View.read_writes_eq_canon _ _ _ (scover0_C_0 c i a3 h3 a4 h4 a5 h5 a6 h6 hc0 hc1 hc2 x0 x1 acc)]
  unfold kernelRun0_C
  dsimp only
  sl_unfold_words
  rw [View.canon_unit_zero hz]
  unfold k0_pay3
  simp only [View.readAt_eq_ld, h3.read_unread, h4.read_unread, h6.read_unread, View.ld_unit_zero (S := S640x1408) hz, View.ld_unit_zero (S := S1x2048x1408) hz3, View.ld_unit_zero (S := S640x2048) hz, shapeCast_self]

/-- The last point writes the accumulator out, with the product of its blocks added. -/
theorem out_C (c : Dev nD) (i : grid0.Coords) (a3 : Memref sig .tc .vmem S640x1408 .bf16) (h3 : a3.IsWhole)
    (a4 : Memref sig .tc .vmem S1x2048x1408 .bf16) (h4 : a4.IsWhole) (a5 : Memref sig .tc .vmem S640x2048 .f32) (h5 : a5.IsWhole)
    (a6 : Memref sig .tc .vmem S640x2048 .f32) (h6 : a6.IsWhole) (hc0 hc1 hc2) (x0 : Vec F S640x1408 .bf16) (x1 : Vec F S1x2048x1408 .bf16) (acc : Vec F S640x2048 .f32) :
    out0_C_2 c i a3 h3 a4 h4 a5 h5 a6 h6 hc0 hc1 hc2 x0 x1 acc = addf acc (k0_pay1 x0 x1) := by
  unfold out0_C_2
  rw [View.read_writes_eq_canon _ _ _ (cover0_C_2 c i a3 h3 a4 h4 a5 h5 a6 h6 hc0 hc1 hc2 x0 x1 acc)]
  unfold kernelRun0_C
  dsimp only
  sl_unfold_words
  rw [View.canon_unit_zero hz]
  unfold k0_pay3
  simp only [View.readAt_eq_ld, h3.read_unread, h4.read_unread, h6.read_unread, View.ld_unit_zero (S := S640x1408) hz, View.ld_unit_zero (S := S1x2048x1408) hz3, View.ld_unit_zero (S := S640x2048) hz, View.readCov_unit_zero (S := S640x2048) _ hz, shapeCast_self]

end Cases

section Ideal

variable (m : (ℓ : Loc nD τ sig) → Buf (Elt Ideal) ℓ) (ρ : Dev nD → PrngReg)

/-- Which block of `dgu` point `t` reads. -/
theorem idx0 : ∀ t : Fin cfg0.N, win0_0.index t (0 : Fin 2) = t.val / 8 ∧ win0_0.index t (1 : Fin 2) = t.val % 8 :=
  (by decide +kernel : ∀ t : Fin grid0.N, _)

/-- Which slab of the weights point `t` reads. -/
theorem idx1 : ∀ t : Fin cfg0.N, win0_1.index t (0 : Fin 3) = t.val % 8 ∧ win0_1.index t (1 : Fin 3) = 0
    ∧ win0_1.index t (2 : Fin 3) = 0 :=
  (by decide +kernel : ∀ t : Fin grid0.N, _)

/-- The slabs that the host lines lay out hold the two weights side by side. -/
theorem slab (c : Dev nD) (i : S8x2048x1408.Idx) : (V m c main_v8 : Vec Ideal S8x2048x1408 .bf16) i
    = pair (m ((c : Thread nD τ).loc main_arg1)) (m ((c : Thread nD τ).loc main_arg2)) (i 1).val ((i 0).val * 1408 + (i 2).val) := by
  unfold_abbrev_sides
  after_results
  idx_vars i
  pointwise
  exact pair_slab _ _ i0.val i1.val i2.val _ _ i2.isLt (fun _ => ⟨rfl, rfl⟩) (fun _ => ⟨rfl, rfl⟩)

/-- The block of `dgu` at point `t`, element by element. -/
theorem iblk0 (c : Dev nD) (t : Fin cfg0.N) (j : S640x1408.Idx) : (iblk m c 0 t : Vec Ideal S640x1408 .bf16) j
    = at' (S := S8320x11264) (m ((c : Thread nD τ).loc main_arg0)) ![t.val / 8 * 640 + (j 0).val, t.val % 8 * 1408 + (j 1).val] := by
  obtain ⟨e0, e1⟩ := idx0 t
  unfold iblk
  rw [View.read_apply]
  refine (congrFun (V_main_arg0 m c) _).trans (eq_at' (S := S8320x11264) _ _ _ fun a => ?_)
  match a with
  | ⟨0, _⟩ => show win0_0.index t 0 * 640 + 1 * (j 0).val = t.val / 8 * 640 + (j 0).val; rw [e0]; omega
  | ⟨1, _⟩ => show win0_0.index t 1 * 1408 + 1 * (j 1).val = t.val % 8 * 1408 + (j 1).val; rw [e1]; omega

/-- The slab at point `t`, element by element. -/
theorem iblk1 (c : Dev nD) (t : Fin cfg0.N) (j : S1x2048x1408.Idx) : (iblk m c 1 t : Vec Ideal S1x2048x1408 .bf16) j
    = pair (m ((c : Thread nD τ).loc main_arg1)) (m ((c : Thread nD τ).loc main_arg2)) (j 1).val (t.val % 8 * 1408 + (j 2).val) := by
  obtain ⟨e0, e1, e2⟩ := idx1 t
  have hj : (j 0).val < 1 := (j 0).isLt
  unfold iblk
  rw [View.read_apply]
  refine (slab m c _).trans ?_
  show pair _ _ (win0_1.index t 1 * 2048 + 1 * (j 1).val)
    ((win0_1.index t 0 * 1 + 1 * (j 0).val) * 1408 + (win0_1.index t 2 * 1408 + 1 * (j 2).val)) = _
  rw [e0, e1, e2]
  congr 1
  · omega
  · omega

/-- The product of two blocks at an index. -/
theorem pay_apply (x0 : Vec Ideal S640x1408 .bf16) (x1 : Vec Ideal S1x2048x1408 .bf16) (j : S640x2048.Idx) :
    k0_pay1 x0 x1 j = ∑ r : Fin 1408, x0 (ValueIdx.ix2 (j 0) r) * x1 (ValueIdx.ix3 0 (j 1) r) := by
  unfold k0_pay1
  idx_vars j
  pointwise
  rfl

/-- The addend of point `n`: the product of its blocks. -/
def part (c : Dev nD) (n : ℕ) (j : S640x2048.Idx) : EReal :=
  if h : n < cfg0.N then k0_pay1 (iblk m c 0 ⟨n, h⟩) (iblk m c 1 ⟨n, h⟩) j else 0

/-- What the accumulator holds after point `t`: the parts of its run so far. -/
theorem acc_eq (c : Dev nD) (t : Fin cfg0.N) (j : S640x2048.Idx) :
    (outsAt0 m c t.val t.isLt).2 j = ∑ s ∈ Finset.range (t.val % 8 + 1), part m c (8 * (t.val / 8) + s) j := by
  have hN : t.val < 104 := lt_of_lt_of_eq t.isLt N_0
  rw [soutsAt0_0_eq m c t]
  refine acc_sum _ _ (part m c) _ _ (fun h i => ?_) (fun n h acc i h1 h2 => ?_) _ j
  · have e : (8 * (t.val / 8)) % 8 = 0 := by omega
    unfold scAt0_0 part
    rw [dif_pos e, dif_neg (by omega), dif_neg (by omega), sout_A, dif_pos h]
  · have e : ¬n % 8 = 0 := by omega
    unfold scAt0_0 part
    rw [dif_neg e, dif_pos (by omega), dif_pos h]
    by_cases h4 : n % 8 = 7
    · rw [dif_pos h4, sout_C]; rfl
    · rw [dif_neg h4, sout_B]; rfl

/-- The result of the kernel at an index: the whole sum over the columns of both weights. -/
theorem G_apply (c : Dev nD) (i : S8320x2048.Idx) : G2 m c i = ∑ k : Fin 11264,
    at' (S := S8320x11264) (m ((c : Thread nD τ).loc main_arg0)) ![(i 0).val, k.val]
      * pair (m ((c : Thread nD τ).loc main_arg1)) (m ((c : Thread nD τ).loc main_arg2)) (i 1).val k.val := by
  have hi0 : (i 0).val < 8320 := (i 0).isLt
  have hi1 : (i 1).val < 2048 := (i 1).isLt
  have hN : cfg0.N = 104 := N_0
  have hv : pt2Of i = 8 * (1 * ((i 0).val / 640 - 0) + 1 * ((i 1).val / 2048 - 0)) + 7 := rfl
  have hp : pt2Of i < cfg0.N := by omega
  have hr : ∀ s : ℕ, s < 8 → part m c (8 * (pt2Of i / 8) + s) (loc2Of i) = ∑ r : Fin 1408,
      at' (S := S8320x11264) (m ((c : Thread nD τ).loc main_arg0)) ![(i 0).val, s * 1408 + r.val]
        * pair (m ((c : Thread nD τ).loc main_arg1)) (m ((c : Thread nD τ).loc main_arg2)) (i 1).val (s * 1408 + r.val) := fun s hs => by
    have hb : 8 * (pt2Of i / 8) + s < cfg0.N := by omega
    unfold part
    rw [dif_pos hb, pay_apply]
    refine Finset.sum_congr rfl fun r _ => ?_
    rw [iblk0, iblk1]
    have e0 : (8 * (pt2Of i / 8) + s) % 8 = s := by omega
    have e1 : (8 * (pt2Of i / 8) + s) / 8 * 640 + (i 0).val % 640 = (i 0).val := by omega
    have e2 : (i 1).val % 2048 = (i 1).val := by omega
    show at' (S := S8320x11264) _ ![(8 * (pt2Of i / 8) + s) / 8 * 640 + (i 0).val % 640, (8 * (pt2Of i / 8) + s) % 8 * 1408 + r.val]
      * pair _ _ ((i 1).val % 2048) ((8 * (pt2Of i / 8) + s) % 8 * 1408 + r.val) = _
    rw [e0, e1, e2]
  have hq : pt2Of i - 1 < cfg0.N := by omega
  have h0 : ¬pt2Of i % 8 = 0 := by omega
  have h1 : 1 ≤ pt2Of i % 8 := by omega
  have h2 : pt2Of i % 8 = 7 := by omega
  have hd : (pt2Of i - 1) / 8 = pt2Of i / 8 := by omega
  have hm : (pt2Of i - 1) % 8 + 1 = 7 := by omega
  have ha := acc_eq m c ⟨pt2Of i - 1, hq⟩ (loc2Of i)
  dsimp only at ha hd hm
  rw [hd, hm] at ha
  unfold G2
  rw [dif_pos hp, ← outsAt0_sweep m c _ hp, outsAt0_C m c ⟨pt2Of i, hp⟩ h0 h1 h2, out_C]
  refine Eq.trans ?_ (run_total (fun k => at' (S := S8320x11264) (m ((c : Thread nD τ).loc main_arg0)) ![(i 0).val, k]
      * pair (m ((c : Thread nD τ).loc main_arg1)) (m ((c : Thread nD τ).loc main_arg2)) (i 1).val k) 1408 7
      (fun n => part m c n (loc2Of i)) _ (pt2Of i) _ (by omega) ha hr)
  unfold part
  rw [dif_pos hp]
  rfl

end Ideal

end Cert.KernelDhIdeal.Prod

namespace Cert.ReferenceDhIdeal.Prod

open Cert.ReferenceDhIdeal Cert.ReferenceDhIdeal.Gen Cert.ReferenceDhIdeal.Read

/-- The reference's result at an index. -/
theorem ref_apply (x0 : Vec Ideal S8320x11264 .bf16) (x1 x2 : Vec Ideal S2048x5632 .bf16) (i : S8320x2048.Idx) :
    val_main_v11 (F := Ideal) x0 x1 x2 i = ∑ k : Fin 11264,
      at' (S := S8320x11264) x0 ![(i 0).val, k.val] * pair x1 x2 (i 1).val k.val := by
  rw [val_main_v11_apply, val_main_v9_apply, val_main_v10_apply,
    sum_pair fun k => at' (S := S8320x11264) x0 ![(i 0).val, k] * pair x1 x2 (i 1).val k]
  refine (add_comm _ _).trans (congrArg₂ (· + ·) (Finset.sum_congr rfl fun k _ => ?_) (Finset.sum_congr rfl fun k _ => ?_))
  · rw [pair_left _ _ _ _ k.isLt, val_main_v3_apply, val_main_v2_apply]
    refine congrArg₂ (· * ·) (eq_at' (S := S8320x11264) x0 _ _ fun a => ?_) (eq_at' (S := S2048x5632) x1 _ _ fun a => ?_) <;>
      fin_cases a <;> rfl
  · rw [pair_right, val_main_v5_apply, val_main_v4_apply]
    refine congrArg₂ (· * ·) (eq_at' (S := S8320x11264) x0 _ _ fun a => ?_) (eq_at' (S := S2048x5632) x2 _ _ fun a => ?_) <;>
      fin_cases a <;> rfl

end Cert.ReferenceDhIdeal.Prod

namespace Cert.Proof

/-- The kernel and the reference compute the same gradient. -/
theorem algebraic_dh : Cert.algebraic_KernelDhIdeal_ReferenceDhIdeal := by
  intro m ρ m' ρ' _ hag
  refine ⟨fun c => Cert.KernelDhIdeal.Value.G2 m c, Cert.KernelDhIdeal.Value.run m ρ,
    (θ_run _ _ _).mono (fun r h c => ⟨(h c).1.trans ?_, (h c).2⟩) (Cert.ReferenceDhIdeal.Value.run (F := Ideal) m' ρ')⟩
  rw [(hag c).1, (hag c).2.1, (hag c).2.2]
  funext i
  rw [Cert.ReferenceDhIdeal.Read.val_main_v11_eq]
  exact (Cert.ReferenceDhIdeal.Prod.ref_apply _ _ _ i).trans (Cert.KernelDhIdeal.Prod.G_apply m c i).symm

end Cert.Proof

end
-- ==== Proof.Dwgu.lean ====
/- The gradient of the FFN's gate and up weights: `hᵀ · dgu` in eight slabs, each accumulated over five blocks of rows. -/
module

public import proofs.«01_k».proof.Proof.Blocks
public import proofs.«01_k».proof.Defs
public import proofs.«01_k».proof.Proof.Gen.KernelDwguIdeal.Value
public import proofs.«01_k».proof.Proof.Gen.ReferenceDwguIdeal.Read
public import Idealize.ShloMosaic.Lib.Pointwise
public import Idealize.ShloMosaic.Lib.Tactic

@[expose] public section

set_option maxRecDepth 16384

noncomputable section

open Idealize.ShloMosaic Idealize.ShloMosaic.TcCoe Idealize.SL.Sem Cert.Blocks

namespace Cert.KernelDwguIdeal.Prod

open Cert.KernelDwguIdeal Cert.KernelDwguIdeal.Gen Cert.KernelDwguIdeal.Value

/-- The whole block starts at the origin. -/
theorem hz : (![0, 0] : Fin 2 → Nat) = fun _ => 0 := funext fun a => by fin_cases a <;> rfl

theorem hz3 : (![0, 0, 0] : Fin 3 → Nat) = fun _ => 0 := funext fun a => by fin_cases a <;> rfl

section Cases

variable {F : FTy → Type} [FloatOps F]

/-- The first point of a run leaves the product of its blocks in the accumulator. -/
theorem sout_A (c : Dev nD) (i : grid0.Coords) (a3 : Memref sig .tc .vmem S1664x1024 .bf16) (h3 : a3.IsWhole)
    (a4 : Memref sig .tc .vmem S1664x1408 .bf16) (h4 : a4.IsWhole) (a5 : Memref sig .tc .vmem S1x1024x1408 .bf16) (h5 : a5.IsWhole)
    (a6 : Memref sig .tc .vmem S1024x1408 .f32) (h6 : a6.IsWhole) (hc0 hc1 hc2) (x0 : Vec F S1664x1024 .bf16) (x1 : Vec F S1664x1408 .bf16) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero hz]
  unfold k0_pay2
  simp only [View.readAt_eq_ld, h3.read_unread, h4.read_unread, View.ld_unit_zero (S := S1664x1024) hz, View.ld_unit_zero (S := S1664x1408) hz, shapeCast_self]

/-- A later point adds the product of its blocks. -/
theorem sout_B (c : Dev nD) (i : grid0.Coords) (a3 : Memref sig .tc .vmem S1664x1024 .bf16) (h3 : a3.IsWhole)
    (a4 : Memref sig .tc .vmem S1664x1408 .bf16) (h4 : a4.IsWhole) (a5 : Memref sig .tc .vmem S1x1024x1408 .bf16) (h5 : a5.IsWhole)
    (a6 : Memref sig .tc .vmem S1024x1408 .f32) (h6 : a6.IsWhole) (hc0 hc1 hc2) (x0 : Vec F S1664x1024 .bf16) (x1 : Vec F S1664x1408 .bf16) (acc : Vec F S1024x1408 .f32) :
    sout0_B_0 c i a3 h3 a4 h4 a5 h5 a6 h6 hc0 hc1 hc2 x0 x1 acc = addf acc (k0_pay1 x0 x1) := by
  unfold sout0_B_0
  rw [View.read_writes_eq_canon _ _ _ (scover0_B_0 c i a3 h3 a4 h4 a5 h5 a6 h6 hc0 hc1 hc2 x0 x1 acc)]
  unfold kernelRun0_B
  dsimp only
  sl_unfold_words
  rw [View.canon_unit_zero hz]
  unfold k0_pay3
  simp only [View.readAt_eq_ld, h3.read_unread, h4.read_unread, h6.read_unread, View.ld_unit_zero (S := S1664x1024) hz, View.ld_unit_zero (S := S1664x1408) hz, View.ld_unit_zero (S := S1024x1408) hz, shapeCast_self]

/-- So does the last point add the product of its blocks. -/
theorem sout_C (c : Dev nD) (i : grid0.Coords) (a3 : Memref sig .tc .vmem S1664x1024 .bf16) (h3 : a3.IsWhole)
    (a4 : Memref sig .tc .vmem S1664x1408 .bf16) (h4 : a4.IsWhole) (a5 : Memref sig .tc .vmem S1x1024x1408 .bf16) (h5 : a5.IsWhole)
    (a6 : Memref sig .tc .vmem S1024x1408 .f32) (h6 : a6.IsWhole) (hc0 hc1 hc2) (x0 : Vec F S1664x1024 .bf16) (x1 : Vec F S1664x1408 .bf16) (acc : Vec F S1024x1408 .f32) :
    sout0_C_0 c i a3 h3 a4 h4 a5 h5 a6 h6 hc0 hc1 hc2 x0 x1 acc = addf acc (k0_pay1 x0 x1) := by
  unfold sout0_C_0
  rw [View.read_writes_eq_canon _ _ _ (scover0_C_0 c i a3 h3 a4 h4 a5 h5 a6 h6 hc0 hc1 hc2 x0 x1 acc)]
  unfold kernelRun0_C
  dsimp only
  sl_unfold_words
  rw [View.canon_unit_zero hz]
  unfold k0_pay3
  simp only [View.readAt_eq_ld, h3.read_unread, h4.read_unread, h6.read_unread, View.ld_unit_zero (S := S1664x1024) hz, View.ld_unit_zero (S := S1664x1408) hz, View.ld_unit_zero (S := S1024x1408) hz, shapeCast_self]

/-- The last point writes the accumulator out, with the product of its blocks added. -/
theorem out_C (c : Dev nD) (i : grid0.Coords) (a3 : Memref sig .tc .vmem S1664x1024 .bf16) (h3 : a3.IsWhole)
    (a4 : Memref sig .tc .vmem S1664x1408 .bf16) (h4 : a4.IsWhole) (a5 : Memref sig .tc .vmem S1x1024x1408 .bf16) (h5 : a5.IsWhole)
    (a6 : Memref sig .tc .vmem S1024x1408 .f32) (h6 : a6.IsWhole) (hc0 hc1 hc2) (x0 : Vec F S1664x1024 .bf16) (x1 : Vec F S1664x1408 .bf16) (acc : Vec F S1024x1408 .f32) :
    out0_C_2 c i a3 h3 a4 h4 a5 h5 a6 h6 hc0 hc1 hc2 x0 x1 acc = k0_pay4 (addf acc (k0_pay1 x0 x1)) := by
  unfold out0_C_2
  rw [View.read_writes_eq_canon _ _ _ (cover0_C_2 c i a3 h3 a4 h4 a5 h5 a6 h6 hc0 hc1 hc2 x0 x1 acc)]
  unfold kernelRun0_C
  dsimp only
  sl_unfold_words
  rw [View.canon_unit_zero hz3]
  unfold k0_pay3
  simp only [View.readAt_eq_ld, h3.read_unread, h4.read_unread, h6.read_unread, View.ld_unit_zero (S := S1664x1024) hz, View.ld_unit_zero (S := S1664x1408) hz, View.ld_unit_zero (S := S1024x1408) hz, View.readCov_unit_zero (S := S1024x1408) _ hz, shapeCast_self]

end Cases

section Ideal

variable (m : (ℓ : Loc nD τ sig) → Buf (Elt Ideal) ℓ) (ρ : Dev nD → PrngReg)

/-- Which block of `h` point `t` reads. -/
theorem idx0 : ∀ t : Fin cfg0.N, win0_0.index t (0 : Fin 2) = t.val % 5 ∧ win0_0.index t (1 : Fin 2) = t.val / 40 :=
  (by decide +kernel : ∀ t : Fin grid0.N, _)

/-- Which block of `dgu` point `t` reads. -/
theorem idx1 : ∀ t : Fin cfg0.N, win0_1.index t (0 : Fin 2) = t.val % 5 ∧ win0_1.index t (1 : Fin 2) = t.val / 5 % 8 :=
  (by decide +kernel : ∀ t : Fin grid0.N, _)

/-- The block of `h` at point `t`, element by element. -/
theorem iblk0 (c : Dev nD) (t : Fin cfg0.N) (j : S1664x1024.Idx) : (iblk m c 0 t : Vec Ideal S1664x1024 .bf16) j
    = at' (S := S8320x2048) (m ((c : Thread nD τ).loc main_arg0)) ![t.val % 5 * 1664 + (j 0).val, t.val / 40 * 1024 + (j 1).val] := by
  obtain ⟨e0, e1⟩ := idx0 t
  unfold iblk
  rw [View.read_apply]
  refine eq_at' (S := S8320x2048) _ _ _ fun a => ?_
  match a with
  | ⟨0, _⟩ => show win0_0.index t 0 * 1664 + 1 * (j 0).val = t.val % 5 * 1664 + (j 0).val; rw [e0]; omega
  | ⟨1, _⟩ => show win0_0.index t 1 * 1024 + 1 * (j 1).val = t.val / 40 * 1024 + (j 1).val; rw [e1]; omega

/-- The block of `dgu` at point `t`, element by element. -/
theorem iblk1 (c : Dev nD) (t : Fin cfg0.N) (j : S1664x1408.Idx) : (iblk m c 1 t : Vec Ideal S1664x1408 .bf16) j
    = at' (S := S8320x11264) (m ((c : Thread nD τ).loc main_arg1)) ![t.val % 5 * 1664 + (j 0).val, t.val / 5 % 8 * 1408 + (j 1).val] := by
  obtain ⟨e0, e1⟩ := idx1 t
  unfold iblk
  rw [View.read_apply]
  refine eq_at' (S := S8320x11264) _ _ _ fun a => ?_
  match a with
  | ⟨0, _⟩ => show win0_1.index t 0 * 1664 + 1 * (j 0).val = t.val % 5 * 1664 + (j 0).val; rw [e0]; omega
  | ⟨1, _⟩ => show win0_1.index t 1 * 1408 + 1 * (j 1).val = t.val / 5 % 8 * 1408 + (j 1).val; rw [e1]; omega

/-- The product of two blocks at an index. -/
theorem pay_apply (x0 : Vec Ideal S1664x1024 .bf16) (x1 : Vec Ideal S1664x1408 .bf16) (j : S1024x1408.Idx) :
    k0_pay1 x0 x1 j = ∑ r : Fin 1664, x0 (ValueIdx.ix2 r (j 0)) * x1 (ValueIdx.ix2 r (j 1)) := by
  unfold k0_pay1
  idx_vars j
  pointwise
  rfl

/-- The addend of point `n`: the product of its blocks. -/
def part (c : Dev nD) (n : ℕ) (j : S1024x1408.Idx) : EReal :=
  if h : n < cfg0.N then k0_pay1 (iblk m c 0 ⟨n, h⟩) (iblk m c 1 ⟨n, h⟩) j else 0

/-- What the accumulator holds after point `t`: the parts of its run so far. -/
theorem acc_eq (c : Dev nD) (t : Fin cfg0.N) (j : S1024x1408.Idx) :
    (outsAt0 m c t.val t.isLt).2 j = ∑ s ∈ Finset.range (t.val % 5 + 1), part m c (5 * (t.val / 5) + s) j := by
  have hN : t.val < 80 := lt_of_lt_of_eq t.isLt N_0
  rw [soutsAt0_0_eq m c t]
  refine acc_sum _ _ (part m c) _ _ (fun h i => ?_) (fun n h acc i h1 h2 => ?_) _ j
  · have e : (5 * (t.val / 5)) % 5 = 0 := by omega
    unfold scAt0_0 part
    rw [dif_pos e, dif_neg (by omega), dif_neg (by omega), sout_A, dif_pos h]
  · have e : ¬n % 5 = 0 := by omega
    unfold scAt0_0 part
    rw [dif_neg e, dif_pos (by omega), dif_pos h]
    by_cases h4 : n % 5 = 4
    · rw [dif_pos h4, sout_C]; rfl
    · rw [dif_neg h4, sout_B]; rfl

/-- What is written out, read off the accumulator. -/
theorem pay4_apply (x : Vec Ideal S1024x1408 .f32) (j : S1x1024x1408.Idx) : k0_pay4 x j = x (ValueIdx.ix2 (j 1) (j 2)) := by
  unfold k0_pay4
  idx_vars j
  pointwise
  rfl

/-- The place of `i` in the accumulator. -/
abbrev locOf (i : S8x2048x1408.Idx) : S1024x1408.Idx := ValueIdx.ix2 (loc2Of i 1) (loc2Of i 2)

/-- The result of the kernel at an index: the whole sum over the rows. -/
theorem G_apply (c : Dev nD) (i : S8x2048x1408.Idx) : G2 m c i = ∑ k : Fin 8320,
    at' (S := S8320x2048) (m ((c : Thread nD τ).loc main_arg0)) ![k.val, (i 1).val]
      * at' (S := S8320x11264) (m ((c : Thread nD τ).loc main_arg1)) ![k.val, (i 0).val * 1408 + (i 2).val] := by
  have hi0 : (i 0).val < 8 := (i 0).isLt
  have hi1 : (i 1).val < 2048 := (i 1).isLt
  have hi2 : (i 2).val < 1408 := (i 2).isLt
  have hN : cfg0.N = 80 := N_0
  have hv : pt2Of i = 5 * (1 * ((i 0).val / 1 - 0) + 8 * ((i 1).val / 1024 - 0) + 16 * ((i 2).val / 1408 - 0)) + 4 := rfl
  have hp : pt2Of i < cfg0.N := by omega
  have hr : ∀ s : ℕ, s < 5 → part m c (5 * (pt2Of i / 5) + s) (locOf i) = ∑ r : Fin 1664,
      at' (S := S8320x2048) (m ((c : Thread nD τ).loc main_arg0)) ![s * 1664 + r.val, (i 1).val]
        * at' (S := S8320x11264) (m ((c : Thread nD τ).loc main_arg1)) ![s * 1664 + r.val, (i 0).val * 1408 + (i 2).val] := fun s hs => by
    have hb : 5 * (pt2Of i / 5) + s < cfg0.N := by omega
    unfold part
    rw [dif_pos hb, pay_apply]
    refine Finset.sum_congr rfl fun r _ => ?_
    rw [iblk0, iblk1]
    have e0 : (5 * (pt2Of i / 5) + s) % 5 = s := by omega
    have e1 : (5 * (pt2Of i / 5) + s) / 40 * 1024 + (i 1).val % 1024 = (i 1).val := by omega
    have e2 : (5 * (pt2Of i / 5) + s) / 5 % 8 * 1408 + (i 2).val % 1408 = (i 0).val * 1408 + (i 2).val := by omega
    show at' (S := S8320x2048) _ ![(5 * (pt2Of i / 5) + s) % 5 * 1664 + r.val, (5 * (pt2Of i / 5) + s) / 40 * 1024 + (i 1).val % 1024]
      * at' (S := S8320x11264) _ ![(5 * (pt2Of i / 5) + s) % 5 * 1664 + r.val, (5 * (pt2Of i / 5) + s) / 5 % 8 * 1408 + (i 2).val % 1408] = _
    rw [e0, e1, e2]
  have hq : pt2Of i - 1 < cfg0.N := by omega
  have h0 : ¬pt2Of i % 5 = 0 := by omega
  have h1 : 1 ≤ pt2Of i % 5 := by omega
  have h2 : pt2Of i % 5 = 4 := by omega
  have hd : (pt2Of i - 1) / 5 = pt2Of i / 5 := by omega
  have hm : (pt2Of i - 1) % 5 + 1 = 4 := by omega
  have ha := acc_eq m c ⟨pt2Of i - 1, hq⟩ (locOf i)
  dsimp only at ha hd hm
  rw [hd, hm] at ha
  unfold G2
  rw [dif_pos hp, ← outsAt0_sweep m c _ hp, outsAt0_C m c ⟨pt2Of i, hp⟩ h0 h1 h2, out_C]
  refine (pay4_apply _ _).trans (Eq.trans ?_ (run_total (fun k => at' (S := S8320x2048) (m ((c : Thread nD τ).loc main_arg0)) ![k, (i 1).val]
      * at' (S := S8320x11264) (m ((c : Thread nD τ).loc main_arg1)) ![k, (i 0).val * 1408 + (i 2).val]) 1664 4 (fun n => part m c n (locOf i)) _
      (pt2Of i) _ (by omega) ha hr))
  unfold part
  rw [dif_pos hp]
  rfl

end Ideal

end Cert.KernelDwguIdeal.Prod

namespace Cert.ReferenceDwguIdeal.Prod

open Cert.ReferenceDwguIdeal Cert.ReferenceDwguIdeal.Gen Cert.ReferenceDwguIdeal.Read

/-- The reference's result at an index. -/
theorem ref_apply (x0 : Vec Ideal S8320x2048 .bf16) (x1 : Vec Ideal S8320x11264 .bf16) (i : S8x2048x1408.Idx) :
    val_main_v17 (F := Ideal) x0 x1 i = ∑ k : Fin 8320,
      at' (S := S8320x2048) x0 ![k.val, (i 1).val] * at' (S := S8320x11264) x1 ![k.val, (i 0).val * 1408 + (i 2).val] := by
  rw [val_main_v17_apply]
  unfold val_main_v16 val_main_v13 val_main_v12 val_main_v11 val_main_v15 val_main_v14 val_main_v9
  idx_vars i
  pointwise
  by_cases h : i0.val < 4
  · rw [dif_pos h, val_main_v10_apply]
    refine Finset.sum_congr rfl fun k _ => (mul_comm _ _).trans ?_
    rw [val_main_v3_apply, val_main_v2_apply]
    refine congrArg₂ (· * ·) (eq_at' (S := S8320x2048) x0 _ _ fun a => ?_) (eq_at' (S := S8320x11264) x1 _ _ fun a => ?_) <;>
      fin_cases a <;> rfl
  · rw [dif_neg h, val_main_v8_apply]
    refine Finset.sum_congr rfl fun k _ => (mul_comm _ _).trans ?_
    rw [val_main_v5_apply, val_main_v4_apply]
    refine congrArg₂ (· * ·) (eq_at' (S := S8320x2048) x0 _ _ fun a => ?_) (eq_at' (S := S8320x11264) x1 _ _ fun a => ?_)
    · fin_cases a <;> rfl
    · match a with
      | ⟨0, _⟩ => rfl
      | ⟨1, _⟩ => show 5632 + ((i0.val - 4) * 1408 + i2.val) = i0.val * 1408 + i2.val; omega

end Cert.ReferenceDwguIdeal.Prod

namespace Cert.Proof

/-- The kernel and the reference compute the same gradient. -/
theorem algebraic_dwgu : Cert.algebraic_KernelDwguIdeal_ReferenceDwguIdeal := by
  intro m ρ m' ρ' _ hag
  refine ⟨fun c => Cert.KernelDwguIdeal.Value.G2 m c, Cert.KernelDwguIdeal.Value.run m ρ,
    (θ_run _ _ _).mono (fun r h c => ⟨(h c).1.trans ?_, (h c).2.1, (h c).2.2⟩) (Cert.ReferenceDwguIdeal.Value.run (F := Ideal) m' ρ')⟩
  rw [(hag c).1, (hag c).2]
  funext i
  rw [Cert.ReferenceDwguIdeal.Read.val_main_v17_eq]
  exact (Cert.ReferenceDwguIdeal.Prod.ref_apply _ _ i).trans (Cert.KernelDwguIdeal.Prod.G_apply m c i).symm

end Cert.Proof

end
-- ==== Proof.Gu.lean ====
/- The FFN's gate and up projections: `h · [w_gate w_up]`, a block of the result at each point. -/
module

public import proofs.«01_k».proof.Proof.Pair
public import proofs.«01_k».proof.Defs
public import proofs.«01_k».proof.Proof.Gen.KernelGuIdeal.Value
public import proofs.«01_k».proof.Proof.Gen.ReferenceGuIdeal.Read
public import Idealize.ShloMosaic.Lib.Pointwise
public import Idealize.ShloMosaic.Lib.Tactic
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem Cert.Blocks

namespace Cert.KernelGuIdeal.Prod

open Cert.KernelGuIdeal Cert.KernelGuIdeal.Gen Cert.KernelGuIdeal.Value

variable (m : (ℓ : Loc nD τ sig) → Buf (Elt Ideal) ℓ) (ρ : Dev nD → PrngReg)

/-- Which blocks point `t` reads and writes. -/
theorem idx : ∀ t : Fin cfg0.N, win0_0.index t (0 : Fin 2) = t.val / 8 ∧ win0_0.index t (1 : Fin 2) = 0
    ∧ win0_1.index t (0 : Fin 3) = t.val % 8 ∧ win0_1.index t (1 : Fin 3) = 0 ∧ win0_1.index t (2 : Fin 3) = 0
    ∧ win0_2.index t (0 : Fin 2) = t.val / 8 ∧ win0_2.index t (1 : Fin 2) = t.val % 8 :=
  (by decide +kernel : ∀ t : Fin grid0.N, _)

/-- The block of `h` at point `t`, element by element. -/
theorem iblk0 (c : Dev nD) (t : Fin cfg0.N) (j : S640x2048.Idx) : (iblk m c 0 t : Vec Ideal S640x2048 .bf16) j
    = at' (S := S8320x2048) (m ((c : Thread nD τ).loc main_arg0)) ![t.val / 8 * 640 + (j 0).val, (j 1).val] := by
  obtain ⟨e0, e1, -⟩ := idx t
  unfold iblk
  rw [View.read_apply]
  refine (congrFun (V_main_arg0 m c) _).trans (eq_at' (S := S8320x2048) _ _ _ fun a => ?_)
  match a with
  | ⟨0, _⟩ => show win0_0.index t 0 * 640 + 1 * (j 0).val = t.val / 8 * 640 + (j 0).val; rw [e0]; omega
  | ⟨1, _⟩ => show win0_0.index t 1 * 2048 + 1 * (j 1).val = (j 1).val; rw [e1]; omega

/-- The slabs that the host lines lay out hold the two weights side by side. -/
theorem slab (c : Dev nD) (i : S8x2048x1408.Idx) : (V m c main_v8 : Vec Ideal S8x2048x1408 .bf16) i
    = pair (m ((c : Thread nD τ).loc main_arg1)) (m ((c : Thread nD τ).loc main_arg2)) (i 1).val ((i 0).val * 1408 + (i 2).val) := by
  unfold_abbrev_sides
  after_results
  idx_vars i
  pointwise
  exact pair_slab _ _ i0.val i1.val i2.val _ _ i2.isLt (fun _ => ⟨rfl, rfl⟩) (fun _ => ⟨rfl, rfl⟩)

/-- The slab at point `t`, element by element. -/
theorem iblk1 (c : Dev nD) (t : Fin cfg0.N) (j : S1x2048x1408.Idx) : (iblk m c 1 t : Vec Ideal S1x2048x1408 .bf16) j
    = pair (m ((c : Thread nD τ).loc main_arg1)) (m ((c : Thread nD τ).loc main_arg2)) (j 1).val (t.val % 8 * 1408 + (j 2).val) := by
  obtain ⟨-, -, e0, e1, e2, -⟩ := idx t
  have hj : (j 0).val < 1 := (j 0).isLt
  unfold iblk
  rw [View.read_apply]
  refine (slab m c _).trans ?_
  show pair _ _ (win0_1.index t 1 * 2048 + 1 * (j 1).val)
    ((win0_1.index t 0 * 1 + 1 * (j 0).val) * 1408 + (win0_1.index t 2 * 1408 + 1 * (j 2).val)) = _
  rw [e0, e1, e2]
  congr 1
  · omega
  · omega

/-- The product of two blocks at an index. -/
theorem pay_apply (x0 : Vec Ideal S640x2048 .bf16) (x1 : Vec Ideal S1x2048x1408 .bf16) (j : S640x1408.Idx) :
    k0_pay1 x0 x1 j = ∑ r : Fin 2048, x0 (ValueIdx.ix2 (j 0) r) * x1 (ValueIdx.ix3 0 r (j 1)) := by
  unfold k0_pay1
  idx_vars j
  pointwise
  rfl

/-- The result of the kernel: the whole product. -/
def G (c : Dev nD) : S8320x11264.Idx → EReal := fun i => ∑ k : Fin 2048,
  at' (S := S8320x2048) (m ((c : Thread nD τ).loc main_arg0)) ![(i 0).val, k.val]
    * pair (m ((c : Thread nD τ).loc main_arg1)) (m ((c : Thread nD τ).loc main_arg2)) k.val (i 1).val

/-- The array ends holding the product. -/
theorem final (c : Dev nD) : (dats m 0 c).arrAt 2 cfg0.N = (G m c : Buf (Elt Ideal) ((c : Thread nD τ).loc main_v9)) := by
  refine (dats m 0 c).arrAt_eq_of_covers 2 _ (by decide +kernel) fun t hf y => ?_
  obtain ⟨-, -, -, -, -, e0, e1⟩ := idx t
  blk_simp
  rw [after0_2]
  unfold outsAt0
  frame_out
  refine (pay_apply _ _ _).trans (Finset.sum_congr rfl fun k _ => ?_)
  rw [iblk0, iblk1]
  show _ = at' (S := S8320x2048) _ ![win0_2.index t 0 * 640 + 1 * (y 0).val, k.val]
    * pair _ _ k.val (win0_2.index t 1 * 1408 + 1 * (y 1).val)
  rw [e0, e1, one_mul, one_mul]

/-- What the kernel leaves. -/
theorem run : θ_run defs (onTc (τ := τ) (main (F := Ideal))) ⟨m, fun _ => 0, ρ⟩ fun r => ∀ c : Dev nD,
    r.2.mem ((c : Thread nD τ).loc main_v9) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run _ _ _).mono (fun _ h c => ⟨(h c).1.trans (final m c), (h c).2⟩) (run_blocks m ρ)

end Cert.KernelGuIdeal.Prod

namespace Cert.ReferenceGuIdeal.Prod

open Cert.ReferenceGuIdeal Cert.ReferenceGuIdeal.Gen Cert.ReferenceGuIdeal.Read

/-- The reference's result at an index. -/
theorem ref_apply (x0 : Vec Ideal S8320x2048 .bf16) (x1 x2 : Vec Ideal S2048x5632 .bf16) (i : S8320x11264.Idx) :
    val_main_v6 (F := Ideal) x0 x1 x2 i = ∑ k : Fin 2048,
      at' (S := S8320x2048) x0 ![(i 0).val, k.val] * pair x1 x2 k.val (i 1).val := by
  rw [val_main_v6_apply]
  unfold val_main_v5
  idx_vars i
  pointwise
  by_cases h : i1.val < 5632
  · rw [dif_pos h, val_main_v2_apply]
    refine Finset.sum_congr rfl fun k _ => ?_
    rw [pair_left _ _ _ _ h]
    refine congrArg₂ (· * ·) (eq_at' (S := S8320x2048) x0 _ _ fun a => ?_) (eq_at' (S := S2048x5632) x1 _ _ fun a => ?_) <;>
      fin_cases a <;> rfl
  · rw [dif_neg h, val_main_v4_apply]
    refine Finset.sum_congr rfl fun k _ => ?_
    have e := pair_right x1 x2 k.val (i1.val - 5632)
    rw [Nat.add_sub_of_le (by omega)] at e
    rw [e]
    refine congrArg₂ (· * ·) (eq_at' (S := S8320x2048) x0 _ _ fun a => ?_) (eq_at' (S := S2048x5632) x2 _ _ fun a => ?_) <;>
      fin_cases a <;> rfl

end Cert.ReferenceGuIdeal.Prod

namespace Cert.Proof

/-- The kernel and the reference compute the same product. -/
theorem algebraic_gu : Cert.algebraic_KernelGuIdeal_ReferenceGuIdeal := by
  intro m ρ m' ρ' _ hag
  refine ⟨fun c => Cert.KernelGuIdeal.Prod.G m c, Cert.KernelGuIdeal.Prod.run m ρ,
    (θ_run _ _ _).mono (fun r h c => ⟨(h c).1.trans ?_, (h c).2⟩) (Cert.ReferenceGuIdeal.Value.run (F := Ideal) m' ρ')⟩
  rw [(hag c).1, (hag c).2.1, (hag c).2.2]
  funext i
  rw [Cert.ReferenceGuIdeal.Read.val_main_v6_eq]
  exact Cert.ReferenceGuIdeal.Prod.ref_apply _ _ _ i

end Cert.Proof

end
-- ==== Proof.Down.lean ====
/- The FFN's down projection: `act · w_down`, accumulated over four blocks of columns. -/
module

public import proofs.«01_k».proof.Proof.Blocks
public import proofs.«01_k».proof.Defs
public import proofs.«01_k».proof.Proof.Gen.KernelDownIdeal.Value
public import proofs.«01_k».proof.Proof.Gen.ReferenceDownIdeal.Read
public import Idealize.ShloMosaic.Lib.Pointwise
public import Idealize.ShloMosaic.Lib.Tactic

@[expose] public section

set_option maxRecDepth 16384

noncomputable section

open Idealize.ShloMosaic Idealize.ShloMosaic.TcCoe Idealize.SL.Sem Cert.Blocks

namespace Cert.KernelDownIdeal.Prod

open Cert.KernelDownIdeal Cert.KernelDownIdeal.Gen Cert.KernelDownIdeal.Value

/-- The whole block starts at the origin. -/
theorem hz : (![0, 0] : Fin 2 → Nat) = fun _ => 0 := funext fun a => by fin_cases a <;> rfl

section Cases

variable {F : FTy → Type} [FloatOps F]

/-- The first point of a run leaves the product of its blocks in the accumulator. -/
theorem sout_A (c : Dev nD) (i : grid0.Coords) (a3 : Memref sig .tc .vmem S640x1408 .bf16) (h3 : a3.IsWhole)
    (a4 : Memref sig .tc .vmem S1408x1024 .bf16) (h4 : a4.IsWhole) (a5 : Memref sig .tc .vmem S640x1024 .f32) (h5 : a5.IsWhole)
    (a6 : Memref sig .tc .vmem S640x1024 .f32) (h6 : a6.IsWhole) (hc0 hc1 hc2) (x0 : Vec F S640x1408 .bf16) (x1 : Vec F S1408x1024 .bf16) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero hz]
  unfold k0_pay2
  simp only [View.readAt_eq_ld, h3.read_unread, h4.read_unread, View.ld_unit_zero (S := S640x1408) hz, View.ld_unit_zero (S := S1408x1024) hz, shapeCast_self]

/-- A later point adds the product of its blocks. -/
theorem sout_B (c : Dev nD) (i : grid0.Coords) (a3 : Memref sig .tc .vmem S640x1408 .bf16) (h3 : a3.IsWhole)
    (a4 : Memref sig .tc .vmem S1408x1024 .bf16) (h4 : a4.IsWhole) (a5 : Memref sig .tc .vmem S640x1024 .f32) (h5 : a5.IsWhole)
    (a6 : Memref sig .tc .vmem S640x1024 .f32) (h6 : a6.IsWhole) (hc0 hc1 hc2) (x0 : Vec F S640x1408 .bf16) (x1 : Vec F S1408x1024 .bf16) (acc : Vec F S640x1024 .f32) :
    sout0_B_0 c i a3 h3 a4 h4 a5 h5 a6 h6 hc0 hc1 hc2 x0 x1 acc = addf acc (k0_pay1 x0 x1) := by
  unfold sout0_B_0
  rw [View.read_writes_eq_canon _ _ _ (scover0_B_0 c i a3 h3 a4 h4 a5 h5 a6 h6 hc0 hc1 hc2 x0 x1 acc)]
  unfold kernelRun0_B
  dsimp only
  sl_unfold_words
  rw [View.canon_unit_zero hz]
  unfold k0_pay3
  simp only [View.readAt_eq_ld, h3.read_unread, h4.read_unread, h6.read_unread, View.ld_unit_zero (S := S640x1408) hz, View.ld_unit_zero (S := S1408x1024) hz, View.ld_unit_zero (S := S640x1024) hz, shapeCast_self]

/-- So does the last point add the product of its blocks. -/
theorem sout_C (c : Dev nD) (i : grid0.Coords) (a3 : Memref sig .tc .vmem S640x1408 .bf16) (h3 : a3.IsWhole)
    (a4 : Memref sig .tc .vmem S1408x1024 .bf16) (h4 : a4.IsWhole) (a5 : Memref sig .tc .vmem S640x1024 .f32) (h5 : a5.IsWhole)
    (a6 : Memref sig .tc .vmem S640x1024 .f32) (h6 : a6.IsWhole) (hc0 hc1 hc2) (x0 : Vec F S640x1408 .bf16) (x1 : Vec F S1408x1024 .bf16) (acc : Vec F S640x1024 .f32) :
    sout0_C_0 c i a3 h3 a4 h4 a5 h5 a6 h6 hc0 hc1 hc2 x0 x1 acc = addf acc (k0_pay1 x0 x1) := by
  unfold sout0_C_0
  rw [View.read_writes_eq_canon _ _ _ (scover0_C_0 c i a3 h3 a4 h4 a5 h5 a6 h6 hc0 hc1 hc2 x0 x1 acc)]
  unfold kernelRun0_C
  dsimp only
  sl_unfold_words
  rw [View.canon_unit_zero hz]
  unfold k0_pay3
  simp only [View.readAt_eq_ld, h3.read_unread, h4.read_unread, h6.read_unread, View.ld_unit_zero (S := S640x1408) hz, View.ld_unit_zero (S := S1408x1024) hz, View.ld_unit_zero (S := S640x1024) hz, shapeCast_self]

/-- The last point writes the accumulator out, with the product of its blocks added. -/
theorem out_C (c : Dev nD) (i : grid0.Coords) (a3 : Memref sig .tc .vmem S640x1408 .bf16) (h3 : a3.IsWhole)
    (a4 : Memref sig .tc .vmem S1408x1024 .bf16) (h4 : a4.IsWhole) (a5 : Memref sig .tc .vmem S640x1024 .f32) (h5 : a5.IsWhole)
    (a6 : Memref sig .tc .vmem S640x1024 .f32) (h6 : a6.IsWhole) (hc0 hc1 hc2) (x0 : Vec F S640x1408 .bf16) (x1 : Vec F S1408x1024 .bf16) (acc : Vec F S640x1024 .f32) :
    out0_C_2 c i a3 h3 a4 h4 a5 h5 a6 h6 hc0 hc1 hc2 x0 x1 acc = addf acc (k0_pay1 x0 x1) := by
  unfold out0_C_2
  rw [View.read_writes_eq_canon _ _ _ (cover0_C_2 c i a3 h3 a4 h4 a5 h5 a6 h6 hc0 hc1 hc2 x0 x1 acc)]
  unfold kernelRun0_C
  dsimp only
  sl_unfold_words
  rw [View.canon_unit_zero hz]
  unfold k0_pay3
  simp only [View.readAt_eq_ld, h3.read_unread, h4.read_unread, h6.read_unread, View.ld_unit_zero (S := S640x1408) hz, View.ld_unit_zero (S := S1408x1024) hz, View.ld_unit_zero (S := S640x1024) hz, View.readCov_unit_zero (S := S640x1024) _ hz, shapeCast_self]

end Cases

section Ideal

variable (m : (ℓ : Loc nD τ sig) → Buf (Elt Ideal) ℓ) (ρ : Dev nD → PrngReg)

/-- Which block of `act` point `t` reads. -/
theorem idx0 : ∀ t : Fin cfg0.N, win0_0.index t (0 : Fin 2) = t.val / 8 ∧ win0_0.index t (1 : Fin 2) = t.val % 4 :=
  (by decide +kernel : ∀ t : Fin grid0.N, _)

/-- Which block of `w_down` point `t` reads. -/
theorem idx1 : ∀ t : Fin cfg0.N, win0_1.index t (0 : Fin 2) = t.val % 4 ∧ win0_1.index t (1 : Fin 2) = t.val / 4 % 2 :=
  (by decide +kernel : ∀ t : Fin grid0.N, _)

/-- The block of `act` at point `t`, element by element. -/
theorem iblk0 (c : Dev nD) (t : Fin cfg0.N) (j : S640x1408.Idx) : (iblk m c 0 t : Vec Ideal S640x1408 .bf16) j
    = at' (S := S8320x5632) (m ((c : Thread nD τ).loc main_arg0)) ![t.val / 8 * 640 + (j 0).val, t.val % 4 * 1408 + (j 1).val] := by
  obtain ⟨e0, e1⟩ := idx0 t
  unfold iblk
  rw [View.read_apply]
  refine eq_at' (S := S8320x5632) _ _ _ fun a => ?_
  match a with
  | ⟨0, _⟩ => show win0_0.index t 0 * 640 + 1 * (j 0).val = t.val / 8 * 640 + (j 0).val; rw [e0]; omega
  | ⟨1, _⟩ => show win0_0.index t 1 * 1408 + 1 * (j 1).val = t.val % 4 * 1408 + (j 1).val; rw [e1]; omega

/-- The block of `w_down` at point `t`, element by element. -/
theorem iblk1 (c : Dev nD) (t : Fin cfg0.N) (j : S1408x1024.Idx) : (iblk m c 1 t : Vec Ideal S1408x1024 .bf16) j
    = at' (S := S5632x2048) (m ((c : Thread nD τ).loc main_arg1)) ![t.val % 4 * 1408 + (j 0).val, t.val / 4 % 2 * 1024 + (j 1).val] := by
  obtain ⟨e0, e1⟩ := idx1 t
  unfold iblk
  rw [View.read_apply]
  refine eq_at' (S := S5632x2048) _ _ _ fun a => ?_
  match a with
  | ⟨0, _⟩ => show win0_1.index t 0 * 1408 + 1 * (j 0).val = t.val % 4 * 1408 + (j 0).val; rw [e0]; omega
  | ⟨1, _⟩ => show win0_1.index t 1 * 1024 + 1 * (j 1).val = t.val / 4 % 2 * 1024 + (j 1).val; rw [e1]; omega

/-- The product of two blocks at an index. -/
theorem pay_apply (x0 : Vec Ideal S640x1408 .bf16) (x1 : Vec Ideal S1408x1024 .bf16) (j : S640x1024.Idx) :
    k0_pay1 x0 x1 j = ∑ r : Fin 1408, x0 (ValueIdx.ix2 (j 0) r) * x1 (ValueIdx.ix2 r (j 1)) := by
  unfold k0_pay1
  idx_vars j
  pointwise
  rfl

/-- The addend of point `n`: the product of its blocks. -/
def part (c : Dev nD) (n : ℕ) (j : S640x1024.Idx) : EReal :=
  if h : n < cfg0.N then k0_pay1 (iblk m c 0 ⟨n, h⟩) (iblk m c 1 ⟨n, h⟩) j else 0

/-- What the accumulator holds after point `t`: the parts of its run so far. -/
theorem acc_eq (c : Dev nD) (t : Fin cfg0.N) (j : S640x1024.Idx) :
    (outsAt0 m c t.val t.isLt).2 j = ∑ s ∈ Finset.range (t.val % 4 + 1), part m c (4 * (t.val / 4) + s) j := by
  have hN : t.val < 104 := lt_of_lt_of_eq t.isLt N_0
  rw [soutsAt0_0_eq m c t]
  refine acc_sum _ _ (part m c) _ _ (fun h i => ?_) (fun n h acc i h1 h2 => ?_) _ j
  · have e : (4 * (t.val / 4)) % 4 = 0 := by omega
    unfold scAt0_0 part
    rw [dif_pos e, dif_neg (by omega), dif_neg (by omega), sout_A, dif_pos h]
  · have e : ¬n % 4 = 0 := by omega
    unfold scAt0_0 part
    rw [dif_neg e, dif_pos (by omega), dif_pos h]
    by_cases h4 : n % 4 = 3
    · rw [dif_pos h4, sout_C]; rfl
    · rw [dif_neg h4, sout_B]; rfl

/-- The result of the kernel at an index: the whole sum over the columns of `act`. -/
theorem G_apply (c : Dev nD) (i : S8320x2048.Idx) : G2 m c i = ∑ k : Fin 5632,
    at' (S := S8320x5632) (m ((c : Thread nD τ).loc main_arg0)) ![(i 0).val, k.val]
      * at' (S := S5632x2048) (m ((c : Thread nD τ).loc main_arg1)) ![k.val, (i 1).val] := by
  have hi0 : (i 0).val < 8320 := (i 0).isLt
  have hi1 : (i 1).val < 2048 := (i 1).isLt
  have hN : cfg0.N = 104 := N_0
  have hv : pt2Of i = 4 * (2 * ((i 0).val / 640 - 0) + 1 * ((i 1).val / 1024 - 0)) + 3 := rfl
  have hp : pt2Of i < cfg0.N := by omega
  have hr : ∀ s : ℕ, s < 4 → part m c (4 * (pt2Of i / 4) + s) (loc2Of i) = ∑ r : Fin 1408,
      at' (S := S8320x5632) (m ((c : Thread nD τ).loc main_arg0)) ![(i 0).val, s * 1408 + r.val]
        * at' (S := S5632x2048) (m ((c : Thread nD τ).loc main_arg1)) ![s * 1408 + r.val, (i 1).val] := fun s hs => by
    have hb : 4 * (pt2Of i / 4) + s < cfg0.N := by omega
    unfold part
    rw [dif_pos hb, pay_apply]
    refine Finset.sum_congr rfl fun r _ => ?_
    rw [iblk0, iblk1]
    have e0 : (4 * (pt2Of i / 4) + s) % 4 = s := by omega
    have e1 : (4 * (pt2Of i / 4) + s) / 8 * 640 + (i 0).val % 640 = (i 0).val := by omega
    have e2 : (4 * (pt2Of i / 4) + s) / 4 % 2 * 1024 + (i 1).val % 1024 = (i 1).val := by omega
    show at' (S := S8320x5632) _ ![(4 * (pt2Of i / 4) + s) / 8 * 640 + (i 0).val % 640, (4 * (pt2Of i / 4) + s) % 4 * 1408 + r.val]
      * at' (S := S5632x2048) _ ![(4 * (pt2Of i / 4) + s) % 4 * 1408 + r.val, (4 * (pt2Of i / 4) + s) / 4 % 2 * 1024 + (i 1).val % 1024] = _
    rw [e0, e1, e2]
  have hq : pt2Of i - 1 < cfg0.N := by omega
  have h0 : ¬pt2Of i % 4 = 0 := by omega
  have h1 : 1 ≤ pt2Of i % 4 := by omega
  have h2 : pt2Of i % 4 = 3 := by omega
  have hd : (pt2Of i - 1) / 4 = pt2Of i / 4 := by omega
  have hm : (pt2Of i - 1) % 4 + 1 = 3 := by omega
  have ha := acc_eq m c ⟨pt2Of i - 1, hq⟩ (loc2Of i)
  dsimp only at ha hd hm
  rw [hd, hm] at ha
  unfold G2
  rw [dif_pos hp, ← outsAt0_sweep m c _ hp, outsAt0_C m c ⟨pt2Of i, hp⟩ h0 h1 h2, out_C]
  refine Eq.trans ?_ (run_total (fun k => at' (S := S8320x5632) (m ((c : Thread nD τ).loc main_arg0)) ![(i 0).val, k]
      * at' (S := S5632x2048) (m ((c : Thread nD τ).loc main_arg1)) ![k, (i 1).val]) 1408 3 (fun n => part m c n (loc2Of i)) _
      (pt2Of i) _ (by omega) ha hr)
  unfold part
  rw [dif_pos hp]
  rfl

end Ideal

end Cert.KernelDownIdeal.Prod

namespace Cert.ReferenceDownIdeal.Prod

open Cert.ReferenceDownIdeal Cert.ReferenceDownIdeal.Gen Cert.ReferenceDownIdeal.Read

/-- The reference's result at an index. -/
theorem ref_apply (x0 : Vec Ideal S8320x5632 .bf16) (x1 : Vec Ideal S5632x2048 .bf16) (i : S8320x2048.Idx) :
    val_main_v2 (F := Ideal) x0 x1 i = ∑ k : Fin 5632,
      at' (S := S8320x5632) x0 ![(i 0).val, k.val] * at' (S := S5632x2048) x1 ![k.val, (i 1).val] := by
  rw [val_main_v2_apply]
  refine Finset.sum_congr rfl fun k _ => ?_
  refine congrArg₂ (· * ·) (eq_at' (S := S8320x5632) x0 _ _ fun a => ?_) (eq_at' (S := S5632x2048) x1 _ _ fun a => ?_) <;>
    fin_cases a <;> rfl

end Cert.ReferenceDownIdeal.Prod

namespace Cert.Proof

/-- The kernel and the reference compute the same product. -/
theorem algebraic_down : Cert.algebraic_KernelDownIdeal_ReferenceDownIdeal := by
  intro m ρ m' ρ' _ hag
  refine ⟨fun c => Cert.KernelDownIdeal.Value.G2 m c, Cert.KernelDownIdeal.Value.run m ρ,
    (θ_run _ _ _).mono (fun r h c => ⟨(h c).1.trans ?_, (h c).2.1, (h c).2.2⟩) (Cert.ReferenceDownIdeal.Value.run (F := Ideal) m' ρ')⟩
  rw [(hag c).1, (hag c).2]
  funext i
  rw [Cert.ReferenceDownIdeal.Read.val_main_v2_eq]
  exact (Cert.ReferenceDownIdeal.Prod.ref_apply _ _ i).trans (Cert.KernelDownIdeal.Prod.G_apply m c i).symm

end Cert.Proof

end
-- ==== Proof.Out.lean ====
/- The mamba mixer's output projection: `yn · w_out`, accumulated over two blocks of columns. -/
module

public import proofs.«01_k».proof.Proof.Blocks
public import proofs.«01_k».proof.Defs
public import proofs.«01_k».proof.Proof.Gen.KernelOutIdeal.Value
public import proofs.«01_k».proof.Proof.Gen.ReferenceOutIdeal.Read
public import Idealize.ShloMosaic.Lib.Pointwise
public import Idealize.ShloMosaic.Lib.Tactic
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem Cert.Blocks

namespace Cert.KernelOutIdeal.Prod

open Cert.KernelOutIdeal Cert.KernelOutIdeal.Gen Cert.KernelOutIdeal.Value

variable (m : (ℓ : Loc nD τ sig) → Buf (Elt Ideal) ℓ) (ρ : Dev nD → PrngReg)

/-- Which blocks point `t` reads and writes. -/
theorem idx : ∀ t : Fin cfg0.N, win0_0.index t (0 : Fin 2) = t.val / 4 ∧ win0_0.index t (1 : Fin 2) = t.val % 2
    ∧ win0_1.index t (0 : Fin 2) = t.val % 2 ∧ win0_1.index t (1 : Fin 2) = t.val / 2 % 2
    ∧ win0_2.index t (0 : Fin 2) = t.val / 4 ∧ win0_2.index t (1 : Fin 2) = t.val / 2 % 2 :=
  (by decide +kernel : ∀ t : Fin grid0.N, _)

/-- The result is written at the last point of a run. -/
theorem last : ∀ t : Fin cfg0.N, (cfg0.win 2).flush t = true → t.val % 2 = 1 := (by decide +kernel : ∀ t : Fin grid0.N, _)

/-- The terms of the sum at row `a` of `yn` and column `b` of `w_out`. -/
def term (c : Dev nD) (a b k : ℕ) : EReal :=
  at' (S := S8320x4096) (m ((c : Thread nD τ).loc main_arg0)) ![a, k] * at' (S := S4096x2048) (m ((c : Thread nD τ).loc main_arg1)) ![k, b]

/-- The part of point `n` of the grid. -/
def part (c : Dev nD) (j : S640x1024.Idx) (n : ℕ) : EReal :=
  ∑ r : Fin 2048, term m c (n / 4 * 640 + (j 0).val) (n / 2 % 2 * 1024 + (j 1).val) (n % 2 * 2048 + r.val)

/-- The product of the blocks of point `t` is its part. -/
theorem pay (c : Dev nD) (t : Fin cfg0.N) (j : S640x1024.Idx) : k0_pay1 (iblk m c 0 t) (iblk m c 1 t) j = part m c j t.val := by
  obtain ⟨e0, e1, e2, e3, -⟩ := idx t
  unfold k0_pay1
  idx_vars j
  pointwise
  refine Finset.sum_congr rfl fun r _ => congrArg₂ (· * ·) ?_ ?_ <;> unfold iblk <;> rw [View.read_apply]
  · refine eq_at' (S := S8320x4096) _ _ _ fun a => ?_
    match a with
    | ⟨0, _⟩ => show win0_0.index t 0 * 640 + 1 * _ = _; rw [e0, one_mul]; rfl
    | ⟨1, _⟩ => show win0_0.index t 1 * 2048 + 1 * r.val = _; rw [e1, one_mul]; rfl
  · refine eq_at' (S := S4096x2048) _ _ _ fun a => ?_
    match a with
    | ⟨0, _⟩ => show win0_1.index t 0 * 2048 + 1 * r.val = _; rw [e2, one_mul]; rfl
    | ⟨1, _⟩ => show win0_1.index t 1 * 1024 + 1 * _ = _; rw [e3, one_mul]; rfl

/-- What the first point of a run puts in the accumulator. -/
theorem pay2_apply (x0 : Vec Ideal S640x2048 .f32) (x1 : Vec Ideal S2048x1024 .bf16) (j : S640x1024.Idx) :
    k0_pay2 x0 x1 j = k0_pay1 x0 x1 j := by
  unfold k0_pay2
  rw [shapeCast_self]

/-- What a later point puts in the accumulator. -/
theorem pay3_apply (x0 : Vec Ideal S640x2048 .f32) (x1 : Vec Ideal S2048x1024 .bf16) (x : Vec Ideal S640x1024 .f32) (j : S640x1024.Idx) :
    k0_pay3 x0 x1 x j = x j + k0_pay1 x0 x1 j := by
  unfold k0_pay3
  rw [shapeCast_self]
  rfl

/-- The accumulator after point `n`. -/
theorem acc (c : Dev nD) (j : S640x1024.Idx) (n : ℕ) (h : n < cfg0.N) :
    (outsAt0 m c n h).2 j = ∑ s ∈ Finset.range (n % 2 + 1), part m c j (n - n % 2 + s) := by
  refine run_sum 2 (fun n h => (outsAt0 m c n h).2 j) (part m c j) (fun n h e => ?_) (fun n h e => ?_) n h
  · rw [outsAt0_A m c ⟨n, h⟩ e (by dsimp only; omega) (by dsimp only; omega)]
    dsimp only
    frame_out
    exact (pay2_apply _ _ _).trans (pay m c ⟨n, h⟩ j)
  · rw [outsAt0_B m c ⟨n, h⟩ e (by dsimp only; omega) (by dsimp only; omega)]
    dsimp only
    frame_out
    exact (pay3_apply _ _ _ _).trans (congrArg₂ (· + ·) (congrFun ((Memref.isWhole_whole cc0_scratch0).read_unread _) j) (pay m c ⟨n, h⟩ j))

/-- The last point of a run writes the accumulator out. -/
theorem out (c : Dev nD) (j : S640x1024.Idx) (t : Fin cfg0.N) (e : t.val % 2 = 1) :
    (outsAt0 m c t.val t.isLt).1 j = (outsAt0 m c t.val t.isLt).2 j := by
  rw [outsAt0_B m c t (by omega) (by omega) e]
  dsimp only
  frame_out

/-- The result of the kernel: the whole product. -/
def G (c : Dev nD) : S8320x2048.Idx → EReal := fun i => ∑ k : Fin 4096, term m c (i 0).val (i 1).val k.val

/-- The array ends holding the product. -/
theorem final (c : Dev nD) : (dats m 0 c).arrAt 2 cfg0.N = (G m c : Buf (Elt Ideal) ((c : Thread nD τ).loc main_v0)) := by
  refine (dats m 0 c).arrAt_eq_of_covers 2 _ (by decide +kernel) fun t hf y => ?_
  obtain ⟨-, -, -, -, e0, e1⟩ := idx t
  have hl := last t hf
  blk_simp
  rw [after0_2]
  refine (out m c _ t hl).trans ((acc m c _ t.val t.isLt).trans ?_)
  show _ = ∑ k : Fin 4096, term m c (win0_2.index t 0 * 640 + 1 * (y 0).val) (win0_2.index t 1 * 1024 + 1 * (y 1).val) k.val
  rw [e0, e1, one_mul, one_mul, hl]
  refine Eq.trans (Finset.sum_congr rfl fun s hs => ?_)
    (sum_blocks (fun k => term m c (t.val / 4 * 640 + (y 0).val) (t.val / 2 % 2 * 1024 + (y 1).val) k) 2048 2)
  have hs := Finset.mem_range.mp hs
  unfold part
  rw [show (t.val - 1 + s) / 4 = t.val / 4 by omega, show (t.val - 1 + s) / 2 % 2 = t.val / 2 % 2 by omega,
    show (t.val - 1 + s) % 2 = s by omega]

/-- What the kernel leaves. -/
theorem run : θ_run defs (onTc (τ := τ) (main (F := Ideal))) ⟨m, fun _ => 0, ρ⟩ fun r => ∀ c : Dev nD,
    r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1) :=
  (θ_run _ _ _).mono (fun _ h c => ⟨(h c).1.trans (final m c), (h c).2⟩) (run_blocks m ρ)

end Cert.KernelOutIdeal.Prod

namespace Cert.ReferenceOutIdeal.Prod

open Cert.ReferenceOutIdeal Cert.ReferenceOutIdeal.Gen Cert.ReferenceOutIdeal.Read

/-- The reference's result at an index. -/
theorem ref_apply (x0 : Vec Ideal S8320x4096 .f32) (x1 : Vec Ideal S4096x2048 .bf16) (i : S8320x2048.Idx) :
    val_main_v1 (F := Ideal) x0 x1 i = ∑ k : Fin 4096,
      at' (S := S8320x4096) x0 ![(i 0).val, k.val] * at' (S := S4096x2048) x1 ![k.val, (i 1).val] := by
  rw [val_main_v1_apply]
  refine Finset.sum_congr rfl fun k _ => ?_
  refine congrArg₂ (· * ·) (eq_at' (S := S8320x4096) x0 _ _ fun a => ?_)
    (eq_at' (S := S4096x2048) x1 _ _ fun a => ?_) <;> fin_cases a <;> rfl

end Cert.ReferenceOutIdeal.Prod

namespace Cert.Proof

/-- The kernel and the reference compute the same product. -/
theorem algebraic_out : Cert.algebraic_KernelOutIdeal_ReferenceOutIdeal := by
  intro m ρ m' ρ' _ hag
  refine ⟨fun c => Cert.KernelOutIdeal.Prod.G m c, Cert.KernelOutIdeal.Prod.run m ρ,
    (θ_run _ _ _).mono (fun r h c => ⟨(h c).1.trans ?_, (h c).2⟩) (Cert.ReferenceOutIdeal.Value.run (F := Ideal) m' ρ')⟩
  rw [(hag c).1, (hag c).2]
  funext i
  rw [Cert.ReferenceOutIdeal.Read.val_main_v1_eq]
  exact Cert.ReferenceOutIdeal.Prod.ref_apply _ _ i

end Cert.Proof

end
-- ==== Proof.Dwout.lean ====
/- The gradient of the mamba mixer's output weights: `ynᵀ · dmo`, accumulated over thirteen blocks of rows. -/
module

public import proofs.«01_k».proof.Proof.Blocks
public import proofs.«01_k».proof.Defs
public import proofs.«01_k».proof.Proof.Gen.KernelDwoutIdeal.Value
public import proofs.«01_k».proof.Proof.Gen.ReferenceDwoutIdeal.Read
public import Idealize.ShloMosaic.Lib.Pointwise
public import Idealize.ShloMosaic.Lib.Tactic
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem Cert.Blocks

namespace Cert.KernelDwoutIdeal.Prod

open Cert.KernelDwoutIdeal Cert.KernelDwoutIdeal.Gen Cert.KernelDwoutIdeal.Value

variable (m : (ℓ : Loc nD τ sig) → Buf (Elt Ideal) ℓ) (ρ : Dev nD → PrngReg)

/-- Which blocks point `t` reads and writes. -/
theorem idx : ∀ t : Fin cfg0.N, win0_0.index t (0 : Fin 2) = t.val % 13 ∧ win0_0.index t (1 : Fin 2) = t.val / 26
    ∧ win0_1.index t (0 : Fin 2) = t.val % 13 ∧ win0_1.index t (1 : Fin 2) = t.val / 13 % 2
    ∧ win0_2.index t (0 : Fin 2) = t.val / 26 ∧ win0_2.index t (1 : Fin 2) = t.val / 13 % 2 :=
  (by decide +kernel : ∀ t : Fin grid0.N, _)

/-- The result is written at the last point of a run. -/
theorem last : ∀ t : Fin cfg0.N, (cfg0.win 2).flush t = true → t.val % 13 = 12 := (by decide +kernel : ∀ t : Fin grid0.N, _)

/-- The terms of the sum at row `a` of `ynᵀ` and column `b` of `dmo`. -/
def term (c : Dev nD) (a b k : ℕ) : EReal :=
  at' (S := S8320x4096) (m ((c : Thread nD τ).loc main_arg0)) ![k, a] * at' (S := S8320x2048) (m ((c : Thread nD τ).loc main_arg1)) ![k, b]

/-- The part of point `n` of the grid. -/
def part (c : Dev nD) (j : S1024x1024.Idx) (n : ℕ) : EReal :=
  ∑ r : Fin 640, term m c (n / 26 * 1024 + (j 0).val) (n / 13 % 2 * 1024 + (j 1).val) (n % 13 * 640 + r.val)

/-- The product of the blocks of point `t` is its part. -/
theorem pay (c : Dev nD) (t : Fin cfg0.N) (j : S1024x1024.Idx) : k0_pay1 (iblk m c 0 t) (iblk m c 1 t) j = part m c j t.val := by
  obtain ⟨e0, e1, e2, e3, -⟩ := idx t
  unfold k0_pay1
  idx_vars j
  pointwise
  refine Finset.sum_congr rfl fun r _ => congrArg₂ (· * ·) ?_ ?_ <;> unfold iblk <;> rw [View.read_apply]
  · refine eq_at' (S := S8320x4096) _ _ _ fun a => ?_
    match a with
    | ⟨0, _⟩ => show win0_0.index t 0 * 640 + 1 * r.val = _; rw [e0, one_mul]; rfl
    | ⟨1, _⟩ => show win0_0.index t 1 * 1024 + 1 * _ = _; rw [e1, one_mul]; rfl
  · refine eq_at' (S := S8320x2048) _ _ _ fun a => ?_
    match a with
    | ⟨0, _⟩ => show win0_1.index t 0 * 640 + 1 * r.val = _; rw [e2, one_mul]; rfl
    | ⟨1, _⟩ => show win0_1.index t 1 * 1024 + 1 * _ = _; rw [e3, one_mul]; rfl

/-- What the first point of a run puts in the accumulator. -/
theorem pay2_apply (x0 : Vec Ideal S640x1024 .f32) (x1 : Vec Ideal S640x1024 .bf16) (j : S1024x1024.Idx) :
    k0_pay2 x0 x1 j = k0_pay1 x0 x1 j := by
  unfold k0_pay2
  rw [shapeCast_self]

/-- What a later point puts in the accumulator. -/
theorem pay3_apply (x0 : Vec Ideal S640x1024 .f32) (x1 : Vec Ideal S640x1024 .bf16) (x : Vec Ideal S1024x1024 .f32) (j : S1024x1024.Idx) :
    k0_pay3 x0 x1 x j = x j + k0_pay1 x0 x1 j := by
  unfold k0_pay3
  rw [shapeCast_self]
  rfl

/-- The accumulator after point `n`. -/
theorem acc (c : Dev nD) (j : S1024x1024.Idx) (n : ℕ) (h : n < cfg0.N) :
    (outsAt0 m c n h).2 j = ∑ s ∈ Finset.range (n % 13 + 1), part m c j (n - n % 13 + s) := by
  refine run_sum 13 (fun n h => (outsAt0 m c n h).2 j) (part m c j) (fun n h e => ?_) (fun n h e => ?_) n h
  · rw [outsAt0_A m c ⟨n, h⟩ e (by dsimp only; omega) (by dsimp only; omega)]
    dsimp only
    frame_out
    exact (pay2_apply _ _ _).trans (pay m c ⟨n, h⟩ j)
  · by_cases e' : n % 13 = 12
    · rw [outsAt0_C m c ⟨n, h⟩ e (by dsimp only; omega) e']
      dsimp only
      frame_out
      exact (pay3_apply _ _ _ _).trans (congrArg₂ (· + ·) (congrFun ((Memref.isWhole_whole cc0_scratch0).read_unread _) j) (pay m c ⟨n, h⟩ j))
    · rw [outsAt0_B m c ⟨n, h⟩ e (by dsimp only; omega) e']
      dsimp only
      frame_out
      exact (pay3_apply _ _ _ _).trans (congrArg₂ (· + ·) (congrFun ((Memref.isWhole_whole cc0_scratch0).read_unread _) j) (pay m c ⟨n, h⟩ j))

/-- Rounding is the identity. -/
theorem pay4_apply (x : Vec Ideal S1024x1024 .f32) (j : S1024x1024.Idx) : k0_pay4 x j = x j := rfl

/-- The last point of a run writes the accumulator out. -/
theorem out (c : Dev nD) (j : S1024x1024.Idx) (t : Fin cfg0.N) (e : t.val % 13 = 12) :
    (outsAt0 m c t.val t.isLt).1 j = (outsAt0 m c t.val t.isLt).2 j := by
  rw [outsAt0_C m c t (by omega) (by omega) e]
  dsimp only
  frame_out
  exact pay4_apply _ _

/-- The result of the kernel: the whole product. -/
def G (c : Dev nD) : S4096x2048.Idx → EReal := fun i => ∑ k : Fin 8320, term m c (i 0).val (i 1).val k.val

/-- The array ends holding the product. -/
theorem final (c : Dev nD) : (dats m 0 c).arrAt 2 cfg0.N = (G m c : Buf (Elt Ideal) ((c : Thread nD τ).loc main_v0)) := by
  refine (dats m 0 c).arrAt_eq_of_covers 2 _ (by decide +kernel) fun t hf y => ?_
  obtain ⟨-, -, -, -, e0, e1⟩ := idx t
  have hl := last t hf
  blk_simp
  rw [after0_2]
  refine (out m c _ t hl).trans ((acc m c _ t.val t.isLt).trans ?_)
  show _ = ∑ k : Fin 8320, term m c (win0_2.index t 0 * 1024 + 1 * (y 0).val) (win0_2.index t 1 * 1024 + 1 * (y 1).val) k.val
  rw [e0, e1, one_mul, one_mul, hl]
  refine Eq.trans (Finset.sum_congr rfl fun s hs => ?_)
    (sum_blocks (fun k => term m c (t.val / 26 * 1024 + (y 0).val) (t.val / 13 % 2 * 1024 + (y 1).val) k) 640 13)
  have hs := Finset.mem_range.mp hs
  unfold part
  rw [show (t.val - 12 + s) / 26 = t.val / 26 by omega, show (t.val - 12 + s) / 13 % 2 = t.val / 13 % 2 by omega,
    show (t.val - 12 + s) % 13 = s by omega]

/-- What the kernel leaves. -/
theorem run : θ_run defs (onTc (τ := τ) (main (F := Ideal))) ⟨m, fun _ => 0, ρ⟩ fun r => ∀ c : Dev nD,
    r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1) :=
  (θ_run _ _ _).mono (fun _ h c => ⟨(h c).1.trans (final m c), (h c).2⟩) (run_blocks m ρ)

end Cert.KernelDwoutIdeal.Prod

namespace Cert.ReferenceDwoutIdeal.Prod

open Cert.ReferenceDwoutIdeal Cert.ReferenceDwoutIdeal.Gen Cert.ReferenceDwoutIdeal.Read

/-- The reference's result at an index. -/
theorem ref_apply (x0 : Vec Ideal S8320x4096 .f32) (x1 : Vec Ideal S8320x2048 .bf16) (i : S4096x2048.Idx) :
    val_main_v5 (F := Ideal) x0 x1 i = ∑ k : Fin 8320,
      at' (S := S8320x4096) x0 ![k.val, (i 0).val] * at' (S := S8320x2048) x1 ![k.val, (i 1).val] := by
  rw [val_main_v5_apply, val_main_v4_apply, val_main_v3_apply]
  refine Finset.sum_congr rfl fun k _ => ?_
  refine (mul_comm _ _).trans (congrArg₂ (· * ·) (eq_at' (S := S8320x4096) x0 _ _ fun a => ?_)
    (eq_at' (S := S8320x2048) x1 _ _ fun a => ?_)) <;> fin_cases a <;> rfl

end Cert.ReferenceDwoutIdeal.Prod

namespace Cert.Proof

/-- The kernel and the reference compute the same gradient. -/
theorem algebraic_dwout : Cert.algebraic_KernelDwoutIdeal_ReferenceDwoutIdeal := by
  intro m ρ m' ρ' _ hag
  refine ⟨fun c => Cert.KernelDwoutIdeal.Prod.G m c, Cert.KernelDwoutIdeal.Prod.run m ρ,
    (θ_run _ _ _).mono (fun r h c => ⟨(h c).1.trans ?_, (h c).2⟩) (Cert.ReferenceDwoutIdeal.Value.run (F := Ideal) m' ρ')⟩
  rw [(hag c).1, (hag c).2]
  funext i
  rw [Cert.ReferenceDwoutIdeal.Read.val_main_v5_eq]
  exact Cert.ReferenceDwoutIdeal.Prod.ref_apply _ _ i

end Cert.Proof

end
-- ==== Proof.Dyn.lean ====
/- The gradient of the mamba mixer's normed activation: `dmo · w_outᵀ`, a block of the result at each point. -/
module

public import proofs.«01_k».proof.Proof.Blocks
public import proofs.«01_k».proof.Defs
public import proofs.«01_k».proof.Proof.Gen.KernelDynIdeal.Value
public import proofs.«01_k».proof.Proof.Gen.ReferenceDynIdeal.Read
public import Idealize.ShloMosaic.Lib.Pointwise
public import Idealize.ShloMosaic.Lib.Tactic
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem Cert.Blocks

namespace Cert.KernelDynIdeal.Prod

open Cert.KernelDynIdeal Cert.KernelDynIdeal.Gen Cert.KernelDynIdeal.Value

variable (m : (ℓ : Loc nD τ sig) → Buf (Elt Ideal) ℓ) (ρ : Dev nD → PrngReg)

/-- Which blocks point `t` reads and writes. -/
theorem idx : ∀ t : Fin cfg0.N, win0_0.index t (0 : Fin 2) = t.val / 4 ∧ win0_0.index t (1 : Fin 2) = 0
    ∧ win0_1.index t (0 : Fin 2) = t.val % 4 ∧ win0_1.index t (1 : Fin 2) = 0
    ∧ win0_2.index t (0 : Fin 2) = t.val / 4 ∧ win0_2.index t (1 : Fin 2) = t.val % 4 :=
  (by decide +kernel : ∀ t : Fin grid0.N, _)

/-- The block of `dmo` at point `t`, element by element. -/
theorem iblk0 (c : Dev nD) (t : Fin cfg0.N) (j : S640x2048.Idx) : (iblk m c 0 t : Vec Ideal S640x2048 .bf16) j
    = at' (S := S8320x2048) (m ((c : Thread nD τ).loc main_arg0)) ![t.val / 4 * 640 + (j 0).val, (j 1).val] := by
  obtain ⟨e0, e1, -⟩ := idx t
  unfold iblk
  rw [View.read_apply]
  refine eq_at' (S := S8320x2048) _ _ _ fun a => ?_
  match a with
  | ⟨0, _⟩ => show win0_0.index t 0 * 640 + 1 * (j 0).val = t.val / 4 * 640 + (j 0).val; rw [e0]; omega
  | ⟨1, _⟩ => show win0_0.index t 1 * 2048 + 1 * (j 1).val = (j 1).val; rw [e1]; omega

/-- The block of `w_out` at point `t`, element by element. -/
theorem iblk1 (c : Dev nD) (t : Fin cfg0.N) (j : S1024x2048.Idx) : (iblk m c 1 t : Vec Ideal S1024x2048 .bf16) j
    = at' (S := S4096x2048) (m ((c : Thread nD τ).loc main_arg1)) ![t.val % 4 * 1024 + (j 0).val, (j 1).val] := by
  obtain ⟨-, -, e0, e1, -⟩ := idx t
  unfold iblk
  rw [View.read_apply]
  refine eq_at' (S := S4096x2048) _ _ _ fun a => ?_
  match a with
  | ⟨0, _⟩ => show win0_1.index t 0 * 1024 + 1 * (j 0).val = t.val % 4 * 1024 + (j 0).val; rw [e0]; omega
  | ⟨1, _⟩ => show win0_1.index t 1 * 2048 + 1 * (j 1).val = (j 1).val; rw [e1]; omega

/-- The product of two blocks at an index. -/
theorem pay_apply (x0 : Vec Ideal S640x2048 .bf16) (x1 : Vec Ideal S1024x2048 .bf16) (j : S640x1024.Idx) :
    k0_pay1 x0 x1 j = ∑ r : Fin 2048, x0 (ValueIdx.ix2 (j 0) r) * x1 (ValueIdx.ix2 (j 1) r) := by
  unfold k0_pay1
  idx_vars j
  pointwise
  rfl

/-- The result of the kernel: the whole product. -/
def G (c : Dev nD) : S8320x4096.Idx → EReal := fun i => ∑ k : Fin 2048,
  at' (S := S8320x2048) (m ((c : Thread nD τ).loc main_arg0)) ![(i 0).val, k.val]
    * at' (S := S4096x2048) (m ((c : Thread nD τ).loc main_arg1)) ![(i 1).val, k.val]

/-- The array ends holding the product. -/
theorem final (c : Dev nD) : (dats m 0 c).arrAt 2 cfg0.N = (G m c : Buf (Elt Ideal) ((c : Thread nD τ).loc main_v0)) := by
  refine (dats m 0 c).arrAt_eq_of_covers 2 _ (by decide +kernel) fun t hf y => ?_
  obtain ⟨-, -, -, -, e0, e1⟩ := idx t
  blk_simp
  rw [after0_2]
  unfold outsAt0
  frame_out
  refine (pay_apply _ _ _).trans (Finset.sum_congr rfl fun k _ => ?_)
  rw [iblk0, iblk1]
  show _ = at' (S := S8320x2048) _ ![win0_2.index t 0 * 640 + 1 * (y 0).val, k.val]
    * at' (S := S4096x2048) _ ![win0_2.index t 1 * 1024 + 1 * (y 1).val, k.val]
  rw [e0, e1, one_mul, one_mul]

/-- What the kernel leaves. -/
theorem run : θ_run defs (onTc (τ := τ) (main (F := Ideal))) ⟨m, fun _ => 0, ρ⟩ fun r => ∀ c : Dev nD,
    r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1) :=
  (θ_run _ _ _).mono (fun _ h c => ⟨(h c).1.trans (final m c), (h c).2⟩) (run_blocks m ρ)

end Cert.KernelDynIdeal.Prod

namespace Cert.ReferenceDynIdeal.Prod

open Cert.ReferenceDynIdeal Cert.ReferenceDynIdeal.Gen Cert.ReferenceDynIdeal.Read

/-- The reference's result at an index. -/
theorem ref_apply (x0 : Vec Ideal S8320x2048 .bf16) (x1 : Vec Ideal S4096x2048 .bf16) (i : S8320x4096.Idx) :
    val_main_v4 (F := Ideal) x0 x1 i = ∑ k : Fin 2048,
      at' (S := S8320x2048) x0 ![(i 0).val, k.val] * at' (S := S4096x2048) x1 ![(i 1).val, k.val] := by
  rw [val_main_v4_apply]
  refine Finset.sum_congr rfl fun k _ => ?_
  refine congrArg₂ (· * ·) (eq_at' (S := S8320x2048) x0 _ _ fun a => ?_) (eq_at' (S := S4096x2048) x1 _ _ fun a => ?_) <;>
    fin_cases a <;> rfl

end Cert.ReferenceDynIdeal.Prod

namespace Cert.Proof

/-- The kernel and the reference compute the same gradient. -/
theorem algebraic_dyn : Cert.algebraic_KernelDynIdeal_ReferenceDynIdeal := by
  intro m ρ m' ρ' _ hag
  refine ⟨fun c => Cert.KernelDynIdeal.Prod.G m c, Cert.KernelDynIdeal.Prod.run m ρ,
    (θ_run _ _ _).mono (fun r h c => ⟨(h c).1.trans ?_, (h c).2⟩) (Cert.ReferenceDynIdeal.Value.run (F := Ideal) m' ρ')⟩
  rw [(hag c).1, (hag c).2]
  funext i
  rw [Cert.ReferenceDynIdeal.Read.val_main_v4_eq]
  exact Cert.ReferenceDynIdeal.Prod.ref_apply _ _ i

end Cert.Proof

end
-- ==== Proof.Turned.lean ====
/- The mamba mixer's input weights, transposed and padded with zero rows. -/
module

public import proofs.«01_k».proof.Proof.Blocks

@[expose] public section

noncomputable section

namespace Cert.Blocks

open Idealize.ShloMosaic

/-- An element of the transposed and padded weights is the element at its coordinates, 0 where they leave the weights. -/
theorem turned_row (W : Shape.Idx ⟨2, ![2048, 10304]⟩ → EReal) (n k : ℕ) (x : n < 10304 → Shape.Idx ⟨2, ![2048, 10304]⟩) (z : EReal)
    (hx : ∀ h, (x h 0).val = k ∧ (x h 1).val = n) (hz : z = 0) : (if h : n < 10304 then W (x h) else z) = at' W ![k, n] := by
  by_cases h : n < 10304
  · rw [dif_pos h]
    refine eq_at' W (x h) _ fun a => ?_
    match a with
    | ⟨0, _⟩ => exact (hx h).1
    | ⟨1, _⟩ => exact (hx h).2
  · rw [dif_neg h, hz]
    unfold at'
    rw [dif_neg fun e => h (e 1)]

/-- The zero rows contribute nothing to a product. -/
theorem turned_zero (W : Shape.Idx ⟨2, ![2048, 10304]⟩ → EReal) (n k : ℕ) (h : ¬n < 10304) : at' W ![k, n] = 0 := by
  unfold at'
  rw [dif_neg fun e => h (e 1)]

/-- A sum over the padded width whose terms vanish on the padding. -/
theorem sum_turned (f : ℕ → EReal) (h : ∀ n, ¬n < 10304 → f n = 0) : ∑ k : Fin 10368, f k.val = ∑ k : Fin 10304, f k.val := by
  rw [Fin.sum_univ_eq_sum_range (fun k => f k), Fin.sum_univ_eq_sum_range (fun k => f k)]
  refine (Finset.sum_subset (Finset.range_mono (by norm_num)) fun n _ e => h n fun e' => e (Finset.mem_range.mpr e')).symm

end Cert.Blocks

end
-- ==== Proof.In.lean ====
/- The mamba mixer's input projection: `h · w_in` against the transposed and padded weights, a block of the result at each
   point. -/
module

public import proofs.«01_k».proof.Proof.Turned
public import proofs.«01_k».proof.Defs
public import proofs.«01_k».proof.Proof.Gen.KernelInIdeal.Value
public import proofs.«01_k».proof.Proof.Gen.ReferenceInIdeal.Read
public import Idealize.ShloMosaic.Lib.Pointwise
public import Idealize.ShloMosaic.Lib.Tactic
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem Cert.Blocks

namespace Cert.KernelInIdeal.Prod

open Cert.KernelInIdeal Cert.KernelInIdeal.Gen Cert.KernelInIdeal.Value

variable (m : (ℓ : Loc nD τ sig) → Buf (Elt Ideal) ℓ) (ρ : Dev nD → PrngReg)

/-- Which blocks point `t` reads and writes. -/
theorem idx : ∀ t : Fin cfg0.N, win0_0.index t (0 : Fin 2) = t.val / 9 ∧ win0_0.index t (1 : Fin 2) = 0
    ∧ win0_1.index t (0 : Fin 2) = t.val % 9 ∧ win0_1.index t (1 : Fin 2) = 0
    ∧ win0_2.index t (0 : Fin 2) = t.val / 9 ∧ win0_2.index t (1 : Fin 2) = t.val % 9 :=
  (by decide +kernel : ∀ t : Fin grid0.N, _)

/-- The host lays the weights out transposed, with zero rows after them. -/
theorem turned (c : Dev nD) (i : S10368x2048.Idx) : (V m c main_v6 : Vec Ideal S10368x2048 .bf16) i
    = at' (S := S2048x10304) (m ((c : Thread nD τ).loc main_arg1)) ![(i 1).val, (i 0).val] := by
  unfold_abbrev_sides
  simp only [List.flatten_cons, List.flatten_nil, List.append_nil, List.cons_append, List.nil_append]
  after_results
  idx_vars i
  pointwise
  simp only [StableHlo.TRef.toBuf, StableHlo.TRef.ofBuf, StableHlo.TRef.of, cast_eq]
  pointwise
  exact turned_row _ i0.val i1.val _ _ (fun _ => ⟨rfl, Nat.div_add_mod' _ _⟩) (by simp [FloatOps.sitofp])

/-- The block of `h` at point `t`, element by element. -/
theorem iblk0 (c : Dev nD) (t : Fin cfg0.N) (j : S640x2048.Idx) : (iblk m c 0 t : Vec Ideal S640x2048 .bf16) j
    = at' (S := S8320x2048) (m ((c : Thread nD τ).loc main_arg0)) ![t.val / 9 * 640 + (j 0).val, (j 1).val] := by
  obtain ⟨e0, e1, -⟩ := idx t
  unfold iblk
  rw [View.read_apply]
  refine (congrFun (V_main_arg0 m c) _).trans (eq_at' (S := S8320x2048) _ _ _ fun a => ?_)
  match a with
  | ⟨0, _⟩ => show win0_0.index t 0 * 640 + 1 * (j 0).val = t.val / 9 * 640 + (j 0).val; rw [e0]; omega
  | ⟨1, _⟩ => show win0_0.index t 1 * 2048 + 1 * (j 1).val = (j 1).val; rw [e1]; omega

/-- The block of `w_in` at point `t`, element by element. -/
theorem iblk1 (c : Dev nD) (t : Fin cfg0.N) (j : S1152x2048.Idx) : (iblk m c 1 t : Vec Ideal S1152x2048 .bf16) j
    = at' (S := S2048x10304) (m ((c : Thread nD τ).loc main_arg1)) ![(j 1).val, t.val % 9 * 1152 + (j 0).val] := by
  obtain ⟨-, -, e0, e1, -⟩ := idx t
  unfold iblk
  rw [View.read_apply]
  refine (turned m c _).trans ?_
  show at' (S := S2048x10304) _ ![win0_1.index t 1 * 2048 + 1 * (j 1).val, win0_1.index t 0 * 1152 + 1 * (j 0).val] = _
  rw [e0, e1, zero_mul, zero_add, one_mul, one_mul]

/-- The product of two blocks at an index. -/
theorem pay_apply (x0 : Vec Ideal S640x2048 .bf16) (x1 : Vec Ideal S1152x2048 .bf16) (j : S640x1152.Idx) :
    k0_pay1 x0 x1 j = ∑ r : Fin 2048, x0 (ValueIdx.ix2 (j 0) r) * x1 (ValueIdx.ix2 (j 1) r) := by
  unfold k0_pay1
  idx_vars j
  pointwise
  rfl

/-- The result of the kernel: the whole product. -/
def G (c : Dev nD) : S8320x10368.Idx → EReal := fun i => ∑ k : Fin 2048,
  at' (S := S8320x2048) (m ((c : Thread nD τ).loc main_arg0)) ![(i 0).val, k.val]
    * at' (S := S2048x10304) (m ((c : Thread nD τ).loc main_arg1)) ![k.val, (i 1).val]

/-- The array ends holding the product. -/
theorem final (c : Dev nD) : (dats m 0 c).arrAt 2 cfg0.N = (G m c : Buf (Elt Ideal) ((c : Thread nD τ).loc main_v7)) := by
  refine (dats m 0 c).arrAt_eq_of_covers 2 _ (by decide +kernel) fun t hf y => ?_
  obtain ⟨-, -, -, -, e0, e1⟩ := idx t
  blk_simp
  rw [after0_2]
  unfold outsAt0
  frame_out
  refine (pay_apply _ _ _).trans (Finset.sum_congr rfl fun k _ => ?_)
  rw [iblk0, iblk1]
  show _ = at' (S := S8320x2048) _ ![win0_2.index t 0 * 640 + 1 * (y 0).val, k.val]
    * at' (S := S2048x10304) _ ![k.val, win0_2.index t 1 * 1152 + 1 * (y 1).val]
  rw [e0, e1, one_mul, one_mul]

/-- What the kernel leaves. -/
theorem run : θ_run defs (onTc (τ := τ) (main (F := Ideal))) ⟨m, fun _ => 0, ρ⟩ fun r => ∀ c : Dev nD,
    r.2.mem ((c : Thread nD τ).loc main_v7) = G m c
      ∧ r.2.mem ((c : Thread nD τ).loc main_arg0) = m ((c : Thread nD τ).loc main_arg0)
      ∧ r.2.mem ((c : Thread nD τ).loc main_arg1) = m ((c : Thread nD τ).loc main_arg1) :=
  (θ_run _ _ _).mono (fun _ h c => ⟨(h c).1.trans (final m c), (h c).2⟩) (run_blocks m ρ)

end Cert.KernelInIdeal.Prod

namespace Cert.ReferenceInIdeal.Prod

open Cert.ReferenceInIdeal Cert.ReferenceInIdeal.Gen Cert.ReferenceInIdeal.Read

/-- The reference's result at an index. -/
theorem ref_apply (x0 : Vec Ideal S8320x2048 .bf16) (x1 : Vec Ideal S2048x10304 .bf16) (i : S8320x10368.Idx) :
    val_main_v4 (F := Ideal) x0 x1 i = ∑ k : Fin 2048,
      at' (S := S8320x2048) x0 ![(i 0).val, k.val] * at' (S := S2048x10304) x1 ![k.val, (i 1).val] := by
  unfold val_main_v4
  idx_vars i
  pointwise
  by_cases h : i1.val < 10304
  · rw [dif_pos h, val_main_v2_apply]
    refine Finset.sum_congr rfl fun k _ => ?_
    refine congrArg₂ (· * ·) (eq_at' (S := S8320x2048) x0 _ _ fun a => ?_) (eq_at' (S := S2048x10304) x1 _ _ fun a => ?_) <;>
      fin_cases a <;> rfl
  · rw [dif_neg h]
    refine Eq.trans ?_ (Finset.sum_eq_zero fun k _ => ?_).symm
    · simp [val_main_v3_apply, val_main_cst_apply, Ideal.ofBits, Ideal.ieee]
    · exact (congrArg (at' (S := S8320x2048) x0 _ * ·) (turned_zero x1 _ _ h)).trans (mul_zero _)

end Cert.ReferenceInIdeal.Prod

namespace Cert.Proof

/-- The kernel and the reference compute the same product. -/
theorem algebraic_in : Cert.algebraic_KernelInIdeal_ReferenceInIdeal := by
  intro m ρ m' ρ' _ hag
  refine ⟨fun c => Cert.KernelInIdeal.Prod.G m c, Cert.KernelInIdeal.Prod.run m ρ,
    (θ_run _ _ _).mono (fun r h c => ⟨(h c).1.trans ?_, (h c).2⟩) (Cert.ReferenceInIdeal.Value.run (F := Ideal) m' ρ')⟩
  rw [(hag c).1, (hag c).2]
  funext i
  rw [Cert.ReferenceInIdeal.Read.val_main_v4_eq]
  exact Cert.ReferenceInIdeal.Prod.ref_apply _ _ i

end Cert.Proof

end
-- ==== Proof.Dwin.lean ====
/- The gradient of the mamba mixer's transposed input weights: `dzxᵀ · h`, accumulated over five blocks of rows. -/
module

public import proofs.«01_k».proof.Proof.Blocks
public import proofs.«01_k».proof.Defs
public import proofs.«01_k».proof.Proof.Gen.KernelDwinIdeal.Value
public import proofs.«01_k».proof.Proof.Gen.ReferenceDwinIdeal.Read
public import Idealize.ShloMosaic.Lib.Pointwise
public import Idealize.ShloMosaic.Lib.Tactic
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem Cert.Blocks

namespace Cert.KernelDwinIdeal.Prod

open Cert.KernelDwinIdeal Cert.KernelDwinIdeal.Gen Cert.KernelDwinIdeal.Value

variable (m : (ℓ : Loc nD τ sig) → Buf (Elt Ideal) ℓ) (ρ : Dev nD → PrngReg)

/-- Which blocks point `t` reads and writes. -/
theorem idx : ∀ t : Fin cfg0.N, win0_0.index t (0 : Fin 2) = t.val % 5 ∧ win0_0.index t (1 : Fin 2) = t.val / 10
    ∧ win0_1.index t (0 : Fin 2) = t.val % 5 ∧ win0_1.index t (1 : Fin 2) = t.val / 5 % 2
    ∧ win0_2.index t (0 : Fin 2) = t.val / 10 ∧ win0_2.index t (1 : Fin 2) = t.val / 5 % 2 :=
  (by decide +kernel : ∀ t : Fin grid0.N, _)

/-- The result is written at the last point of a run. -/
theorem last : ∀ t : Fin cfg0.N, (cfg0.win 2).flush t = true → t.val % 5 = 4 := (by decide +kernel : ∀ t : Fin grid0.N, _)

/-- The terms of the sum at row `a` of `dzxᵀ` and column `b` of `h`. -/
def term (c : Dev nD) (a b k : ℕ) : EReal :=
  at' (S := S8320x10368) (m ((c : Thread nD τ).loc main_arg0)) ![k, a] * at' (S := S8320x2048) (m ((c : Thread nD τ).loc main_arg1)) ![k, b]

/-- The part of point `n` of the grid. -/
def part (c : Dev nD) (j : S1152x1024.Idx) (n : ℕ) : EReal :=
  ∑ r : Fin 1664, term m c (n / 10 * 1152 + (j 0).val) (n / 5 % 2 * 1024 + (j 1).val) (n % 5 * 1664 + r.val)

/-- The product of the blocks of point `t` is its part. -/
theorem pay (c : Dev nD) (t : Fin cfg0.N) (j : S1152x1024.Idx) : k0_pay1 (iblk m c 0 t) (iblk m c 1 t) j = part m c j t.val := by
  obtain ⟨e0, e1, e2, e3, -⟩ := idx t
  unfold k0_pay1
  idx_vars j
  pointwise
  refine Finset.sum_congr rfl fun r _ => congrArg₂ (· * ·) ?_ ?_ <;> unfold iblk <;> rw [View.read_apply]
  · refine eq_at' (S := S8320x10368) _ _ _ fun a => ?_
    match a with
    | ⟨0, _⟩ => show win0_0.index t 0 * 1664 + 1 * r.val = _; rw [e0, one_mul]; rfl
    | ⟨1, _⟩ => show win0_0.index t 1 * 1152 + 1 * _ = _; rw [e1, one_mul]; rfl
  · refine eq_at' (S := S8320x2048) _ _ _ fun a => ?_
    match a with
    | ⟨0, _⟩ => show win0_1.index t 0 * 1664 + 1 * r.val = _; rw [e2, one_mul]; rfl
    | ⟨1, _⟩ => show win0_1.index t 1 * 1024 + 1 * _ = _; rw [e3, one_mul]; rfl

/-- What the first point of a run puts in the accumulator. -/
theorem pay2_apply (x0 : Vec Ideal S1664x1152 .bf16) (x1 : Vec Ideal S1664x1024 .bf16) (j : S1152x1024.Idx) :
    k0_pay2 x0 x1 j = k0_pay1 x0 x1 j := by
  unfold k0_pay2
  rw [shapeCast_self]

/-- What a later point puts in the accumulator. -/
theorem pay3_apply (x0 : Vec Ideal S1664x1152 .bf16) (x1 : Vec Ideal S1664x1024 .bf16) (x : Vec Ideal S1152x1024 .f32) (j : S1152x1024.Idx) :
    k0_pay3 x0 x1 x j = x j + k0_pay1 x0 x1 j := by
  unfold k0_pay3
  rw [shapeCast_self]
  rfl

/-- The accumulator after point `n`. -/
theorem acc (c : Dev nD) (j : S1152x1024.Idx) (n : ℕ) (h : n < cfg0.N) :
    (outsAt0 m c n h).2 j = ∑ s ∈ Finset.range (n % 5 + 1), part m c j (n - n % 5 + s) := by
  refine run_sum 5 (fun n h => (outsAt0 m c n h).2 j) (part m c j) (fun n h e => ?_) (fun n h e => ?_) n h
  · rw [outsAt0_A m c ⟨n, h⟩ e (by dsimp only; omega) (by dsimp only; omega)]
    dsimp only
    frame_out
    exact (pay2_apply _ _ _).trans (pay m c ⟨n, h⟩ j)
  · by_cases e' : n % 5 = 4
    · rw [outsAt0_C m c ⟨n, h⟩ e (by dsimp only; omega) e']
      dsimp only
      frame_out
      exact (pay3_apply _ _ _ _).trans (congrArg₂ (· + ·) (congrFun ((Memref.isWhole_whole cc0_scratch0).read_unread _) j) (pay m c ⟨n, h⟩ j))
    · rw [outsAt0_B m c ⟨n, h⟩ e (by dsimp only; omega) e']
      dsimp only
      frame_out
      exact (pay3_apply _ _ _ _).trans (congrArg₂ (· + ·) (congrFun ((Memref.isWhole_whole cc0_scratch0).read_unread _) j) (pay m c ⟨n, h⟩ j))

/-- Rounding is the identity. -/
theorem pay4_apply (x : Vec Ideal S1152x1024 .f32) (j : S1152x1024.Idx) : k0_pay4 x j = x j := rfl

/-- The last point of a run writes the accumulator out. -/
theorem out (c : Dev nD) (j : S1152x1024.Idx) (t : Fin cfg0.N) (e : t.val % 5 = 4) :
    (outsAt0 m c t.val t.isLt).1 j = (outsAt0 m c t.val t.isLt).2 j := by
  rw [outsAt0_C m c t (by omega) (by omega) e]
  dsimp only
  frame_out
  exact pay4_apply _ _

/-- The result of the kernel: the whole product. -/
def G (c : Dev nD) : S10368x2048.Idx → EReal := fun i => ∑ k : Fin 8320, term m c (i 0).val (i 1).val k.val

/-- The array ends holding the product. -/
theorem final (c : Dev nD) : (dats m 0 c).arrAt 2 cfg0.N = (G m c : Buf (Elt Ideal) ((c : Thread nD τ).loc main_v0)) := by
  refine (dats m 0 c).arrAt_eq_of_covers 2 _ (by decide +kernel) fun t hf y => ?_
  obtain ⟨-, -, -, -, e0, e1⟩ := idx t
  have hl := last t hf
  blk_simp
  rw [after0_2]
  refine (out m c _ t hl).trans ((acc m c _ t.val t.isLt).trans ?_)
  show _ = ∑ k : Fin 8320, term m c (win0_2.index t 0 * 1152 + 1 * (y 0).val) (win0_2.index t 1 * 1024 + 1 * (y 1).val) k.val
  rw [e0, e1, one_mul, one_mul, hl]
  refine Eq.trans (Finset.sum_congr rfl fun s hs => ?_)
    (sum_blocks (fun k => term m c (t.val / 10 * 1152 + (y 0).val) (t.val / 5 % 2 * 1024 + (y 1).val) k) 1664 5)
  have hs := Finset.mem_range.mp hs
  unfold part
  rw [show (t.val - 4 + s) / 10 = t.val / 10 by omega, show (t.val - 4 + s) / 5 % 2 = t.val / 5 % 2 by omega,
    show (t.val - 4 + s) % 5 = s by omega]

/-- What the kernel leaves. -/
theorem run : θ_run defs (onTc (τ := τ) (main (F := Ideal))) ⟨m, fun _ => 0, ρ⟩ fun r => ∀ c : Dev nD,
    r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1) :=
  (θ_run _ _ _).mono (fun _ h c => ⟨(h c).1.trans (final m c), (h c).2⟩) (run_blocks m ρ)

end Cert.KernelDwinIdeal.Prod

namespace Cert.ReferenceDwinIdeal.Prod

open Cert.ReferenceDwinIdeal Cert.ReferenceDwinIdeal.Gen Cert.ReferenceDwinIdeal.Read

/-- The reference's result at an index. -/
theorem ref_apply (x0 : Vec Ideal S8320x10368 .bf16) (x1 : Vec Ideal S8320x2048 .bf16) (i : S10368x2048.Idx) :
    val_main_v7 (F := Ideal) x0 x1 i = ∑ k : Fin 8320,
      at' (S := S8320x10368) x0 ![k.val, (i 0).val] * at' (S := S8320x2048) x1 ![k.val, (i 1).val] := by
  rw [val_main_v7_apply, val_main_v6_apply, val_main_v5_apply, val_main_v4_apply]
  refine Finset.sum_congr rfl fun k _ => ?_
  refine congrArg₂ (· * ·) (eq_at' (S := S8320x10368) x0 _ _ fun a => ?_)
    (eq_at' (S := S8320x2048) x1 _ _ fun a => ?_) <;> fin_cases a <;> rfl

end Cert.ReferenceDwinIdeal.Prod

namespace Cert.Proof

/-- The kernel and the reference compute the same gradient. -/
theorem algebraic_dwin : Cert.algebraic_KernelDwinIdeal_ReferenceDwinIdeal := by
  intro m ρ m' ρ' _ hag
  refine ⟨fun c => Cert.KernelDwinIdeal.Prod.G m c, Cert.KernelDwinIdeal.Prod.run m ρ,
    (θ_run _ _ _).mono (fun r h c => ⟨(h c).1.trans ?_, (h c).2⟩) (Cert.ReferenceDwinIdeal.Value.run (F := Ideal) m' ρ')⟩
  rw [(hag c).1, (hag c).2]
  funext i
  rw [Cert.ReferenceDwinIdeal.Read.val_main_v7_eq]
  exact Cert.ReferenceDwinIdeal.Prod.ref_apply _ _ i

end Cert.Proof

end
-- ==== Proof.Dhin.lean ====
/- The gradient of the mamba mixer's input: `dzx · w_inᵀ` against the transposed and padded weights, accumulated over nine
   blocks of columns. -/
module

public import proofs.«01_k».proof.Proof.Turned
public import proofs.«01_k».proof.Defs
public import proofs.«01_k».proof.Proof.Gen.KernelDhinIdeal.Value
public import proofs.«01_k».proof.Proof.Gen.ReferenceDhinIdeal.Read
public import Idealize.ShloMosaic.Lib.Pointwise
public import Idealize.ShloMosaic.Lib.Tactic
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem Cert.Blocks

namespace Cert.KernelDhinIdeal.Prod

open Cert.KernelDhinIdeal Cert.KernelDhinIdeal.Gen Cert.KernelDhinIdeal.Value

variable (m : (ℓ : Loc nD τ sig) → Buf (Elt Ideal) ℓ) (ρ : Dev nD → PrngReg)

/-- Which blocks point `t` reads and writes. -/
theorem idx : ∀ t : Fin cfg0.N, win0_0.index t (0 : Fin 2) = t.val / 9 ∧ win0_0.index t (1 : Fin 2) = t.val % 9
    ∧ win0_1.index t (0 : Fin 2) = t.val % 9 ∧ win0_1.index t (1 : Fin 2) = 0
    ∧ win0_2.index t (0 : Fin 2) = t.val / 9 ∧ win0_2.index t (1 : Fin 2) = 0 :=
  (by decide +kernel : ∀ t : Fin grid0.N, _)

/-- The result is written at the last point of a run. -/
theorem last : ∀ t : Fin cfg0.N, (cfg0.win 2).flush t = true → t.val % 9 = 8 := (by decide +kernel : ∀ t : Fin grid0.N, _)

/-- The terms of the sum at row `a` of `dzx` and column `b` of `w_inᵀ`. -/
def term (c : Dev nD) (a b k : ℕ) : EReal :=
  at' (S := S8320x10368) (m ((c : Thread nD τ).loc main_arg0)) ![a, k] * at' (S := S2048x10304) (m ((c : Thread nD τ).loc main_arg1)) ![b, k]

/-- The part of point `n` of the grid. -/
def part (c : Dev nD) (j : S640x2048.Idx) (n : ℕ) : EReal :=
  ∑ r : Fin 1152, term m c (n / 9 * 640 + (j 0).val) ((j 1).val) (n % 9 * 1152 + r.val)

/-- The host lays the weights out transposed, with zero rows after them. -/
theorem turned (c : Dev nD) (i : S10368x2048.Idx) : (V m c main_v6 : Vec Ideal S10368x2048 .bf16) i
    = at' (S := S2048x10304) (m ((c : Thread nD τ).loc main_arg1)) ![(i 1).val, (i 0).val] := by
  unfold_abbrev_sides
  simp only [List.flatten_cons, List.flatten_nil, List.append_nil, List.cons_append, List.nil_append]
  after_results
  idx_vars i
  pointwise
  simp only [StableHlo.TRef.toBuf, StableHlo.TRef.ofBuf, StableHlo.TRef.of, cast_eq]
  pointwise
  exact turned_row _ i0.val i1.val _ _ (fun _ => ⟨rfl, Nat.div_add_mod' _ _⟩) (by simp [FloatOps.sitofp])

/-- The product of the blocks of point `t` is its part. -/
theorem pay (c : Dev nD) (t : Fin cfg0.N) (j : S640x2048.Idx) : k0_pay1 (iblk m c 0 t) (iblk m c 1 t) j = part m c j t.val := by
  obtain ⟨e0, e1, e2, e3, -⟩ := idx t
  unfold k0_pay1
  idx_vars j
  pointwise
  refine Finset.sum_congr rfl fun r _ => congrArg₂ (· * ·) ?_ ?_ <;> unfold iblk <;> rw [View.read_apply]
  · refine (congrFun (V_main_arg0 m c) _).trans (eq_at' (S := S8320x10368) _ _ _ fun a => ?_)
    match a with
    | ⟨0, _⟩ => show win0_0.index t 0 * 640 + 1 * _ = _; rw [e0, one_mul]; rfl
    | ⟨1, _⟩ => show win0_0.index t 1 * 1152 + 1 * r.val = _; rw [e1, one_mul]; rfl
  · refine (turned m c _).trans ?_
    show at' (S := S2048x10304) _ ![win0_1.index t 1 * 2048 + 1 * j1.val, win0_1.index t 0 * 1152 + 1 * r.val] = _
    rw [e2, e3, zero_mul, zero_add, one_mul, one_mul]
    rfl

/-- What the first point of a run puts in the accumulator. -/
theorem pay2_apply (x0 : Vec Ideal S640x1152 .bf16) (x1 : Vec Ideal S1152x2048 .bf16) (j : S640x2048.Idx) :
    k0_pay2 x0 x1 j = k0_pay1 x0 x1 j := by
  unfold k0_pay2
  rw [shapeCast_self]

/-- What a later point puts in the accumulator. -/
theorem pay3_apply (x0 : Vec Ideal S640x1152 .bf16) (x1 : Vec Ideal S1152x2048 .bf16) (x : Vec Ideal S640x2048 .f32) (j : S640x2048.Idx) :
    k0_pay3 x0 x1 x j = x j + k0_pay1 x0 x1 j := by
  unfold k0_pay3
  rw [shapeCast_self]
  rfl

/-- The accumulator after point `n`. -/
theorem acc (c : Dev nD) (j : S640x2048.Idx) (n : ℕ) (h : n < cfg0.N) :
    (outsAt0 m c n h).2 j = ∑ s ∈ Finset.range (n % 9 + 1), part m c j (n - n % 9 + s) := by
  refine run_sum 9 (fun n h => (outsAt0 m c n h).2 j) (part m c j) (fun n h e => ?_) (fun n h e => ?_) n h
  · rw [outsAt0_A m c ⟨n, h⟩ e (by dsimp only; omega) (by dsimp only; omega)]
    dsimp only
    frame_out
    exact (pay2_apply _ _ _).trans (pay m c ⟨n, h⟩ j)
  · by_cases e' : n % 9 = 8
    · rw [outsAt0_C m c ⟨n, h⟩ e (by dsimp only; omega) e']
      dsimp only
      frame_out
      exact (pay3_apply _ _ _ _).trans (congrArg₂ (· + ·) (congrFun ((Memref.isWhole_whole cc0_scratch0).read_unread _) j) (pay m c ⟨n, h⟩ j))
    · rw [outsAt0_B m c ⟨n, h⟩ e (by dsimp only; omega) e']
      dsimp only
      frame_out
      exact (pay3_apply _ _ _ _).trans (congrArg₂ (· + ·) (congrFun ((Memref.isWhole_whole cc0_scratch0).read_unread _) j) (pay m c ⟨n, h⟩ j))

/-- The last point of a run writes the accumulator out. -/
theorem out (c : Dev nD) (j : S640x2048.Idx) (t : Fin cfg0.N) (e : t.val % 9 = 8) :
    (outsAt0 m c t.val t.isLt).1 j = (outsAt0 m c t.val t.isLt).2 j := by
  rw [outsAt0_C m c t (by omega) (by omega) e]
  dsimp only
  frame_out

/-- The result of the kernel: the whole product. -/
def G (c : Dev nD) : S8320x2048.Idx → EReal := fun i => ∑ k : Fin 10304, term m c (i 0).val (i 1).val k.val

/-- The array ends holding the product. -/
theorem final (c : Dev nD) : (dats m 0 c).arrAt 2 cfg0.N = (G m c : Buf (Elt Ideal) ((c : Thread nD τ).loc main_v7)) := by
  refine (dats m 0 c).arrAt_eq_of_covers 2 _ (by decide +kernel) fun t hf y => ?_
  obtain ⟨-, -, -, -, e0, e1⟩ := idx t
  have hl := last t hf
  blk_simp
  rw [after0_2]
  refine (out m c _ t hl).trans ((acc m c _ t.val t.isLt).trans ?_)
  show _ = ∑ k : Fin 10304, term m c (win0_2.index t 0 * 640 + 1 * (y 0).val) (win0_2.index t 1 * 2048 + 1 * (y 1).val) k.val
  rw [e0, e1, one_mul, one_mul, zero_mul, zero_add, hl]
  refine Eq.trans (Finset.sum_congr rfl fun s hs => ?_)
    ((sum_blocks (fun k => term m c (t.val / 9 * 640 + (y 0).val) (y 1).val k) 1152 9).trans ?_)
  have hs := Finset.mem_range.mp hs
  unfold part
  rw [show (t.val - 8 + s) / 9 = t.val / 9 by omega,
    show (t.val - 8 + s) % 9 = s by omega]
  exact sum_turned (term m c _ _) fun n h => (congrArg (at' (S := S8320x10368) _ _ * ·) (turned_zero _ _ _ h)).trans (mul_zero _)

/-- What the kernel leaves. -/
theorem run : θ_run defs (onTc (τ := τ) (main (F := Ideal))) ⟨m, fun _ => 0, ρ⟩ fun r => ∀ c : Dev nD,
    r.2.mem ((c : Thread nD τ).loc main_v7) = G m c
      ∧ r.2.mem ((c : Thread nD τ).loc main_arg0) = m ((c : Thread nD τ).loc main_arg0)
      ∧ r.2.mem ((c : Thread nD τ).loc main_arg1) = m ((c : Thread nD τ).loc main_arg1) :=
  (θ_run _ _ _).mono (fun _ h c => ⟨(h c).1.trans (final m c), (h c).2⟩) (run_blocks m ρ)

end Cert.KernelDhinIdeal.Prod

namespace Cert.ReferenceDhinIdeal.Prod

open Cert.ReferenceDhinIdeal Cert.ReferenceDhinIdeal.Gen Cert.ReferenceDhinIdeal.Read

/-- The reference's result at an index. -/
theorem ref_apply (x0 : Vec Ideal S8320x10368 .bf16) (x1 : Vec Ideal S2048x10304 .bf16) (i : S8320x2048.Idx) :
    val_main_v5 (F := Ideal) x0 x1 i = ∑ k : Fin 10304,
      at' (S := S8320x10368) x0 ![(i 0).val, k.val] * at' (S := S2048x10304) x1 ![(i 1).val, k.val] := by
  rw [val_main_v5_apply]
  refine Finset.sum_congr rfl fun k _ => ?_
  exact congrArg₂ (· * ·) (eq_at' (S := S8320x10368) x0 _ _ fun a => by fin_cases a <;> exact Nat.zero_add _)
    (eq_at' (S := S2048x10304) x1 _ _ fun a => by fin_cases a <;> rfl)

end Cert.ReferenceDhinIdeal.Prod

namespace Cert.Proof

/-- The kernel and the reference compute the same gradient. -/
theorem algebraic_dhin : Cert.algebraic_KernelDhinIdeal_ReferenceDhinIdeal := by
  intro m ρ m' ρ' _ hag
  refine ⟨fun c => Cert.KernelDhinIdeal.Prod.G m c, Cert.KernelDhinIdeal.Prod.run m ρ,
    (θ_run _ _ _).mono (fun r h c => ⟨(h c).1.trans ?_, (h c).2⟩) (Cert.ReferenceDhinIdeal.Value.run (F := Ideal) m' ρ')⟩
  rw [(hag c).1, (hag c).2]
  funext i
  rw [Cert.ReferenceDhinIdeal.Read.val_main_v5_eq]
  exact Cert.ReferenceDhinIdeal.Prod.ref_apply _ _ i

end Cert.Proof

end
-- ==== Proof.Lin.lean ====
/- Layer 0's input projection: `h0 · w_in`, a block of the result at each point. -/
module

public import proofs.«01_k».proof.Proof.Blocks
public import proofs.«01_k».proof.Defs
public import proofs.«01_k».proof.Proof.Gen.KernelLinIdeal.Value
public import proofs.«01_k».proof.Proof.Gen.ReferenceLinIdeal.Read
public import Idealize.ShloMosaic.Lib.Pointwise
public import Idealize.ShloMosaic.Lib.Tactic
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem Cert.Blocks

namespace Cert.KernelLinIdeal.Prod

open Cert.KernelLinIdeal Cert.KernelLinIdeal.Gen Cert.KernelLinIdeal.Value

variable (m : (ℓ : Loc nD τ sig) → Buf (Elt Ideal) ℓ) (ρ : Dev nD → PrngReg)

/-- Which blocks point `t` reads and writes. -/
theorem idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The block of `h0` at point `t`, element by element. -/
theorem iblk0 (c : Dev nD) (t : Fin cfg0.N) (j : S640x2048.Idx) : (iblk m c 0 t : Vec Ideal S640x2048 .f32) j
    = at' (S := S8320x2048) (m ((c : Thread nD τ).loc main_arg0)) ![t.val * 640 + (j 0).val, (j 1).val] := by
  obtain ⟨e0, e1, -⟩ := idx t
  unfold iblk
  rw [View.read_apply]
  refine eq_at' (S := S8320x2048) _ _ _ fun a => ?_
  match a with
  | ⟨0, _⟩ => show win0_0.index t 0 * 640 + 1 * (j 0).val = t.val * 640 + (j 0).val; rw [e0]; omega
  | ⟨1, _⟩ => show win0_0.index t 1 * 2048 + 1 * (j 1).val = (j 1).val; rw [e1]; omega

/-- The block of `w_in` at point `t`, element by element. -/
theorem iblk1 (c : Dev nD) (t : Fin cfg0.N) (j : S2048x1856.Idx) : (iblk m c 1 t : Vec Ideal S2048x1856 .bf16) j
    = at' (S := S2048x1856) (m ((c : Thread nD τ).loc main_arg1)) ![(j 0).val, (j 1).val] := by
  obtain ⟨-, -, e0, e1, -⟩ := idx t
  unfold iblk
  rw [View.read_apply]
  refine eq_at' (S := S2048x1856) _ _ _ fun a => ?_
  match a with
  | ⟨0, _⟩ => show win0_1.index t 0 * 2048 + 1 * (j 0).val = (j 0).val; rw [e0]; omega
  | ⟨1, _⟩ => show win0_1.index t 1 * 1856 + 1 * (j 1).val = (j 1).val; rw [e1]; omega

/-- The product of two blocks at an index. -/
theorem pay_apply (x0 : Vec Ideal S640x2048 .f32) (x1 : Vec Ideal S2048x1856 .bf16) (j : S640x1856.Idx) :
    k0_pay1 x0 x1 j = ∑ r : Fin 2048, x0 (ValueIdx.ix2 (j 0) r) * x1 (ValueIdx.ix2 r (j 1)) := by
  unfold k0_pay1
  idx_vars j
  pointwise
  rfl

/-- The result of the kernel: the whole product. -/
def G (c : Dev nD) : S8320x1856.Idx → EReal := fun i => ∑ k : Fin 2048,
  at' (S := S8320x2048) (m ((c : Thread nD τ).loc main_arg0)) ![(i 0).val, k.val]
    * at' (S := S2048x1856) (m ((c : Thread nD τ).loc main_arg1)) ![k.val, (i 1).val]

/-- The array ends holding the product. -/
theorem final (c : Dev nD) : (dats m 0 c).arrAt 2 cfg0.N = (G m c : Buf (Elt Ideal) ((c : Thread nD τ).loc main_v0)) := by
  refine (dats m 0 c).arrAt_eq_of_covers 2 _ (by decide +kernel) fun t hf y => ?_
  obtain ⟨-, -, -, -, e0, e1⟩ := idx t
  blk_simp
  rw [after0_2]
  unfold outsAt0
  frame_out
  refine (pay_apply _ _ _).trans (Finset.sum_congr rfl fun k _ => ?_)
  rw [iblk0, iblk1]
  show _ = at' (S := S8320x2048) _ ![win0_2.index t 0 * 640 + 1 * (y 0).val, k.val]
    * at' (S := S2048x1856) _ ![k.val, win0_2.index t 1 * 1856 + 1 * (y 1).val]
  rw [e0, e1, one_mul, one_mul, zero_mul, zero_add]

/-- What the kernel leaves. -/
theorem run : θ_run defs (onTc (τ := τ) (main (F := Ideal))) ⟨m, fun _ => 0, ρ⟩ fun r => ∀ c : Dev nD,
    r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1) :=
  (θ_run _ _ _).mono (fun _ h c => ⟨(h c).1.trans (final m c), (h c).2⟩) (run_blocks m ρ)

end Cert.KernelLinIdeal.Prod

namespace Cert.ReferenceLinIdeal.Prod

open Cert.ReferenceLinIdeal Cert.ReferenceLinIdeal.Gen Cert.ReferenceLinIdeal.Read

/-- The reference's result at an index. -/
theorem ref_apply (x0 : Vec Ideal S8320x2048 .f32) (x1 : Vec Ideal S2048x1856 .bf16) (i : S8320x1856.Idx) :
    val_main_v1 (F := Ideal) x0 x1 i = ∑ k : Fin 2048,
      at' (S := S8320x2048) x0 ![(i 0).val, k.val] * at' (S := S2048x1856) x1 ![k.val, (i 1).val] := by
  rw [val_main_v1_apply]
  refine Finset.sum_congr rfl fun k _ => ?_
  refine congrArg₂ (· * ·) (eq_at' (S := S8320x2048) x0 _ _ fun a => ?_) (eq_at' (S := S2048x1856) x1 _ _ fun a => ?_) <;>
    fin_cases a <;> rfl

end Cert.ReferenceLinIdeal.Prod

namespace Cert.Proof

/-- The kernel and the reference compute the same product. -/
theorem algebraic_lin : Cert.algebraic_KernelLinIdeal_ReferenceLinIdeal := by
  intro m ρ m' ρ' _ hag
  refine ⟨fun c => Cert.KernelLinIdeal.Prod.G m c, Cert.KernelLinIdeal.Prod.run m ρ,
    (θ_run _ _ _).mono (fun r h c => ⟨(h c).1.trans ?_, (h c).2⟩) (Cert.ReferenceLinIdeal.Value.run (F := Ideal) m' ρ')⟩
  rw [(hag c).1, (hag c).2]
  funext i
  rw [Cert.ReferenceLinIdeal.Read.val_main_v1_eq]
  exact Cert.ReferenceLinIdeal.Prod.ref_apply _ _ i

end Cert.Proof

end
-- ==== Proof.Dlwin.lean ====
/- The gradient of layer 0's input weights: `h0ᵀ · dproj`, accumulated over thirteen blocks of rows. -/
module

public import proofs.«01_k».proof.Proof.Blocks
public import proofs.«01_k».proof.Defs
public import proofs.«01_k».proof.Proof.Gen.KernelDlwinIdeal.Value
public import proofs.«01_k».proof.Proof.Gen.ReferenceDlwinIdeal.Read
public import Idealize.ShloMosaic.Lib.Pointwise
public import Idealize.ShloMosaic.Lib.Tactic
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem Cert.Blocks

namespace Cert.KernelDlwinIdeal.Prod

open Cert.KernelDlwinIdeal Cert.KernelDlwinIdeal.Gen Cert.KernelDlwinIdeal.Value

variable (m : (ℓ : Loc nD τ sig) → Buf (Elt Ideal) ℓ) (ρ : Dev nD → PrngReg)

/-- Which blocks point `t` reads and writes. -/
theorem idx : ∀ t : Fin cfg0.N, win0_0.index t (0 : Fin 2) = t.val % 13 ∧ win0_0.index t (1 : Fin 2) = t.val / 13
    ∧ win0_1.index t (0 : Fin 2) = t.val % 13 ∧ win0_1.index t (1 : Fin 2) = 0
    ∧ win0_2.index t (0 : Fin 2) = t.val / 13 ∧ win0_2.index t (1 : Fin 2) = 0 :=
  (by decide +kernel : ∀ t : Fin grid0.N, _)

/-- The result is written at the last point of a run. -/
theorem last : ∀ t : Fin cfg0.N, (cfg0.win 2).flush t = true → t.val % 13 = 12 := (by decide +kernel : ∀ t : Fin grid0.N, _)

/-- The terms of the sum at row `a` of `h0ᵀ` and column `b` of `dproj`. -/
def term (c : Dev nD) (a b k : ℕ) : EReal :=
  at' (S := S8320x2048) (m ((c : Thread nD τ).loc main_arg0)) ![k, a] * at' (S := S8320x1856) (m ((c : Thread nD τ).loc main_arg1)) ![k, b]

/-- The part of point `n` of the grid. -/
def part (c : Dev nD) (j : S1024x1856.Idx) (n : ℕ) : EReal :=
  ∑ r : Fin 640, term m c (n / 13 * 1024 + (j 0).val) ((j 1).val) (n % 13 * 640 + r.val)

/-- The product of the blocks of point `t` is its part. -/
theorem pay (c : Dev nD) (t : Fin cfg0.N) (j : S1024x1856.Idx) : k0_pay1 (iblk m c 0 t) (iblk m c 1 t) j = part m c j t.val := by
  obtain ⟨e0, e1, e2, e3, -⟩ := idx t
  unfold k0_pay1
  idx_vars j
  pointwise
  refine Finset.sum_congr rfl fun r _ => congrArg₂ (· * ·) ?_ ?_ <;> unfold iblk <;> rw [View.read_apply]
  · refine eq_at' (S := S8320x2048) _ _ _ fun a => ?_
    match a with
    | ⟨0, _⟩ => show win0_0.index t 0 * 640 + 1 * r.val = _; rw [e0, one_mul]; rfl
    | ⟨1, _⟩ => show win0_0.index t 1 * 1024 + 1 * _ = _; rw [e1, one_mul]; rfl
  · refine eq_at' (S := S8320x1856) _ _ _ fun a => ?_
    match a with
    | ⟨0, _⟩ => show win0_1.index t 0 * 640 + 1 * r.val = _; rw [e2, one_mul]; rfl
    | ⟨1, _⟩ => show win0_1.index t 1 * 1856 + 1 * _ = _; rw [e3, one_mul, zero_mul, zero_add]; rfl

/-- What the first point of a run puts in the accumulator. -/
theorem pay2_apply (x0 : Vec Ideal S640x1024 .f32) (x1 : Vec Ideal S640x1856 .f32) (j : S1024x1856.Idx) :
    k0_pay2 x0 x1 j = k0_pay1 x0 x1 j := by
  unfold k0_pay2
  rw [shapeCast_self]

/-- What a later point puts in the accumulator. -/
theorem pay3_apply (x0 : Vec Ideal S640x1024 .f32) (x1 : Vec Ideal S640x1856 .f32) (x : Vec Ideal S1024x1856 .f32) (j : S1024x1856.Idx) :
    k0_pay3 x0 x1 x j = x j + k0_pay1 x0 x1 j := by
  unfold k0_pay3
  rw [shapeCast_self]
  rfl

/-- The accumulator after point `n`. -/
theorem acc (c : Dev nD) (j : S1024x1856.Idx) (n : ℕ) (h : n < cfg0.N) :
    (outsAt0 m c n h).2 j = ∑ s ∈ Finset.range (n % 13 + 1), part m c j (n - n % 13 + s) := by
  refine run_sum 13 (fun n h => (outsAt0 m c n h).2 j) (part m c j) (fun n h e => ?_) (fun n h e => ?_) n h
  · rw [outsAt0_A m c ⟨n, h⟩ e (by dsimp only; omega) (by dsimp only; omega)]
    dsimp only
    frame_out
    exact (pay2_apply _ _ _).trans (pay m c ⟨n, h⟩ j)
  · by_cases e' : n % 13 = 12
    · rw [outsAt0_C m c ⟨n, h⟩ e (by dsimp only; omega) e']
      dsimp only
      frame_out
      exact (pay3_apply _ _ _ _).trans (congrArg₂ (· + ·) (congrFun ((Memref.isWhole_whole cc0_scratch0).read_unread _) j) (pay m c ⟨n, h⟩ j))
    · rw [outsAt0_B m c ⟨n, h⟩ e (by dsimp only; omega) e']
      dsimp only
      frame_out
      exact (pay3_apply _ _ _ _).trans (congrArg₂ (· + ·) (congrFun ((Memref.isWhole_whole cc0_scratch0).read_unread _) j) (pay m c ⟨n, h⟩ j))

/-- Rounding is the identity. -/
theorem pay4_apply (x : Vec Ideal S1024x1856 .f32) (j : S1024x1856.Idx) : k0_pay4 x j = x j := rfl

/-- The last point of a run writes the accumulator out. -/
theorem out (c : Dev nD) (j : S1024x1856.Idx) (t : Fin cfg0.N) (e : t.val % 13 = 12) :
    (outsAt0 m c t.val t.isLt).1 j = (outsAt0 m c t.val t.isLt).2 j := by
  rw [outsAt0_C m c t (by omega) (by omega) e]
  dsimp only
  frame_out
  exact pay4_apply _ _

/-- The result of the kernel: the whole product. -/
def G (c : Dev nD) : S2048x1856.Idx → EReal := fun i => ∑ k : Fin 8320, term m c (i 0).val (i 1).val k.val

/-- The array ends holding the product. -/
theorem final (c : Dev nD) : (dats m 0 c).arrAt 2 cfg0.N = (G m c : Buf (Elt Ideal) ((c : Thread nD τ).loc main_v0)) := by
  refine (dats m 0 c).arrAt_eq_of_covers 2 _ (by decide +kernel) fun t hf y => ?_
  obtain ⟨-, -, -, -, e0, e1⟩ := idx t
  have hl := last t hf
  blk_simp
  rw [after0_2]
  refine (out m c _ t hl).trans ((acc m c _ t.val t.isLt).trans ?_)
  show _ = ∑ k : Fin 8320, term m c (win0_2.index t 0 * 1024 + 1 * (y 0).val) (win0_2.index t 1 * 1856 + 1 * (y 1).val) k.val
  rw [e0, e1, one_mul, one_mul, zero_mul, zero_add, hl]
  refine Eq.trans (Finset.sum_congr rfl fun s hs => ?_)
    (sum_blocks (fun k => term m c (t.val / 13 * 1024 + (y 0).val) ((y 1).val) k) 640 13)
  have hs := Finset.mem_range.mp hs
  unfold part
  rw [show (t.val - 12 + s) / 13 = t.val / 13 by omega,
    show (t.val - 12 + s) % 13 = s by omega]

/-- What the kernel leaves. -/
theorem run : θ_run defs (onTc (τ := τ) (main (F := Ideal))) ⟨m, fun _ => 0, ρ⟩ fun r => ∀ c : Dev nD,
    r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1) :=
  (θ_run _ _ _).mono (fun _ h c => ⟨(h c).1.trans (final m c), (h c).2⟩) (run_blocks m ρ)

end Cert.KernelDlwinIdeal.Prod

namespace Cert.ReferenceDlwinIdeal.Prod

open Cert.ReferenceDlwinIdeal Cert.ReferenceDlwinIdeal.Gen Cert.ReferenceDlwinIdeal.Read

/-- The reference's result at an index. -/
theorem ref_apply (x0 : Vec Ideal S8320x2048 .f32) (x1 : Vec Ideal S8320x1856 .f32) (i : S2048x1856.Idx) :
    val_main_v4 (F := Ideal) x0 x1 i = ∑ k : Fin 8320,
      at' (S := S8320x2048) x0 ![k.val, (i 0).val] * at' (S := S8320x1856) x1 ![k.val, (i 1).val] := by
  rw [val_main_v4_apply, val_main_v3_apply, val_main_v2_apply]
  refine Finset.sum_congr rfl fun k _ => ?_
  refine (mul_comm _ _).trans (congrArg₂ (· * ·) (eq_at' (S := S8320x2048) x0 _ _ fun a => ?_)
    (eq_at' (S := S8320x1856) x1 _ _ fun a => ?_)) <;> fin_cases a <;> rfl

end Cert.ReferenceDlwinIdeal.Prod

namespace Cert.Proof

/-- The kernel and the reference compute the same gradient. -/
theorem algebraic_dlwin : Cert.algebraic_KernelDlwinIdeal_ReferenceDlwinIdeal := by
  intro m ρ m' ρ' _ hag
  refine ⟨fun c => Cert.KernelDlwinIdeal.Prod.G m c, Cert.KernelDlwinIdeal.Prod.run m ρ,
    (θ_run _ _ _).mono (fun r h c => ⟨(h c).1.trans ?_, (h c).2⟩) (Cert.ReferenceDlwinIdeal.Value.run (F := Ideal) m' ρ')⟩
  rw [(hag c).1, (hag c).2]
  funext i
  rw [Cert.ReferenceDlwinIdeal.Read.val_main_v4_eq]
  exact Cert.ReferenceDlwinIdeal.Prod.ref_apply _ _ i

end Cert.Proof

end
-- ==== Proof.Dlh.lean ====
/- The gradient of layer 0's input: `dproj · w_inᵀ`, a block of the result at each point. -/
module

public import proofs.«01_k».proof.Proof.Blocks
public import proofs.«01_k».proof.Defs
public import proofs.«01_k».proof.Proof.Gen.KernelDlhIdeal.Value
public import proofs.«01_k».proof.Proof.Gen.ReferenceDlhIdeal.Read
public import Idealize.ShloMosaic.Lib.Pointwise
public import Idealize.ShloMosaic.Lib.Tactic
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem Cert.Blocks

namespace Cert.KernelDlhIdeal.Prod

open Cert.KernelDlhIdeal Cert.KernelDlhIdeal.Gen Cert.KernelDlhIdeal.Value

variable (m : (ℓ : Loc nD τ sig) → Buf (Elt Ideal) ℓ) (ρ : Dev nD → PrngReg)

/-- Which blocks point `t` reads and writes. -/
theorem idx : ∀ t : Fin cfg0.N, win0_0.index t (0 : Fin 2) = t.val / 2 ∧ win0_0.index t (1 : Fin 2) = 0
    ∧ win0_1.index t (0 : Fin 2) = t.val % 2 ∧ win0_1.index t (1 : Fin 2) = 0
    ∧ win0_2.index t (0 : Fin 2) = t.val / 2 ∧ win0_2.index t (1 : Fin 2) = t.val % 2 :=
  (by decide +kernel : ∀ t : Fin grid0.N, _)

/-- The block of `dproj` at point `t`, element by element. -/
theorem iblk0 (c : Dev nD) (t : Fin cfg0.N) (j : S640x1856.Idx) : (iblk m c 0 t : Vec Ideal S640x1856 .f32) j
    = at' (S := S8320x1856) (m ((c : Thread nD τ).loc main_arg0)) ![t.val / 2 * 640 + (j 0).val, (j 1).val] := by
  obtain ⟨e0, e1, -⟩ := idx t
  unfold iblk
  rw [View.read_apply]
  refine eq_at' (S := S8320x1856) _ _ _ fun a => ?_
  match a with
  | ⟨0, _⟩ => show win0_0.index t 0 * 640 + 1 * (j 0).val = t.val / 2 * 640 + (j 0).val; rw [e0]; omega
  | ⟨1, _⟩ => show win0_0.index t 1 * 1856 + 1 * (j 1).val = (j 1).val; rw [e1]; omega

/-- The block of `w_in` at point `t`, element by element. -/
theorem iblk1 (c : Dev nD) (t : Fin cfg0.N) (j : S1024x1856.Idx) : (iblk m c 1 t : Vec Ideal S1024x1856 .bf16) j
    = at' (S := S2048x1856) (m ((c : Thread nD τ).loc main_arg1)) ![t.val % 2 * 1024 + (j 0).val, (j 1).val] := by
  obtain ⟨-, -, e0, e1, -⟩ := idx t
  unfold iblk
  rw [View.read_apply]
  refine eq_at' (S := S2048x1856) _ _ _ fun a => ?_
  match a with
  | ⟨0, _⟩ => show win0_1.index t 0 * 1024 + 1 * (j 0).val = t.val % 2 * 1024 + (j 0).val; rw [e0]; omega
  | ⟨1, _⟩ => show win0_1.index t 1 * 1856 + 1 * (j 1).val = (j 1).val; rw [e1]; omega

/-- The product of two blocks at an index. -/
theorem pay_apply (x0 : Vec Ideal S640x1856 .f32) (x1 : Vec Ideal S1024x1856 .bf16) (j : S640x1024.Idx) :
    k0_pay1 x0 x1 j = ∑ r : Fin 1856, x0 (ValueIdx.ix2 (j 0) r) * x1 (ValueIdx.ix2 (j 1) r) := by
  unfold k0_pay1
  idx_vars j
  pointwise
  rfl

/-- The result of the kernel: the whole product. -/
def G (c : Dev nD) : S8320x2048.Idx → EReal := fun i => ∑ k : Fin 1856,
  at' (S := S8320x1856) (m ((c : Thread nD τ).loc main_arg0)) ![(i 0).val, k.val]
    * at' (S := S2048x1856) (m ((c : Thread nD τ).loc main_arg1)) ![(i 1).val, k.val]

/-- The array ends holding the product. -/
theorem final (c : Dev nD) : (dats m 0 c).arrAt 2 cfg0.N = (G m c : Buf (Elt Ideal) ((c : Thread nD τ).loc main_v0)) := by
  refine (dats m 0 c).arrAt_eq_of_covers 2 _ (by decide +kernel) fun t hf y => ?_
  obtain ⟨-, -, -, -, e0, e1⟩ := idx t
  blk_simp
  rw [after0_2]
  unfold outsAt0
  frame_out
  refine (pay_apply _ _ _).trans (Finset.sum_congr rfl fun k _ => ?_)
  rw [iblk0, iblk1]
  show _ = at' (S := S8320x1856) _ ![win0_2.index t 0 * 640 + 1 * (y 0).val, k.val]
    * at' (S := S2048x1856) _ ![win0_2.index t 1 * 1024 + 1 * (y 1).val, k.val]
  rw [e0, e1, one_mul, one_mul]

/-- What the kernel leaves. -/
theorem run : θ_run defs (onTc (τ := τ) (main (F := Ideal))) ⟨m, fun _ => 0, ρ⟩ fun r => ∀ c : Dev nD,
    r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1) :=
  (θ_run _ _ _).mono (fun _ h c => ⟨(h c).1.trans (final m c), (h c).2⟩) (run_blocks m ρ)

end Cert.KernelDlhIdeal.Prod

namespace Cert.ReferenceDlhIdeal.Prod

open Cert.ReferenceDlhIdeal Cert.ReferenceDlhIdeal.Gen Cert.ReferenceDlhIdeal.Read

/-- The reference's result at an index. -/
theorem ref_apply (x0 : Vec Ideal S8320x1856 .f32) (x1 : Vec Ideal S2048x1856 .bf16) (i : S8320x2048.Idx) :
    val_main_v3 (F := Ideal) x0 x1 i = ∑ k : Fin 1856,
      at' (S := S8320x1856) x0 ![(i 0).val, k.val] * at' (S := S2048x1856) x1 ![(i 1).val, k.val] := by
  rw [val_main_v3_apply]
  refine Finset.sum_congr rfl fun k _ => ?_
  refine congrArg₂ (· * ·) (eq_at' (S := S8320x1856) x0 _ _ fun a => ?_) (eq_at' (S := S2048x1856) x1 _ _ fun a => ?_) <;>
    fin_cases a <;> rfl

end Cert.ReferenceDlhIdeal.Prod

namespace Cert.Proof

/-- The kernel and the reference compute the same gradient. -/
theorem algebraic_dlh : Cert.algebraic_KernelDlhIdeal_ReferenceDlhIdeal := by
  intro m ρ m' ρ' _ hag
  refine ⟨fun c => Cert.KernelDlhIdeal.Prod.G m c, Cert.KernelDlhIdeal.Prod.run m ρ,
    (θ_run _ _ _).mono (fun r h c => ⟨(h c).1.trans ?_, (h c).2⟩) (Cert.ReferenceDlhIdeal.Value.run (F := Ideal) m' ρ')⟩
  rw [(hag c).1, (hag c).2]
  funext i
  rw [Cert.ReferenceDlhIdeal.Read.val_main_v3_eq]
  exact Cert.ReferenceDlhIdeal.Prod.ref_apply _ _ i

end Cert.Proof

end
-- ==== Proof.Lout.lean ====
/- Layer 0's output projection: `mix · w_out`, a block of the result at each point. -/
module

public import proofs.«01_k».proof.Proof.Blocks
public import proofs.«01_k».proof.Defs
public import proofs.«01_k».proof.Proof.Gen.KernelLoutIdeal.Value
public import proofs.«01_k».proof.Proof.Gen.ReferenceLoutIdeal.Read
public import Idealize.ShloMosaic.Lib.Pointwise
public import Idealize.ShloMosaic.Lib.Tactic
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem Cert.Blocks

namespace Cert.KernelLoutIdeal.Prod

open Cert.KernelLoutIdeal Cert.KernelLoutIdeal.Gen Cert.KernelLoutIdeal.Value

variable (m : (ℓ : Loc nD τ sig) → Buf (Elt Ideal) ℓ) (ρ : Dev nD → PrngReg)

/-- Which blocks point `t` reads and writes. -/
theorem idx : ∀ t : Fin cfg0.N, win0_0.index t (0 : Fin 2) = t.val / 2 ∧ win0_0.index t (1 : Fin 2) = 0
    ∧ win0_1.index t (0 : Fin 2) = 0 ∧ win0_1.index t (1 : Fin 2) = t.val % 2
    ∧ win0_2.index t (0 : Fin 2) = t.val / 2 ∧ win0_2.index t (1 : Fin 2) = t.val % 2 :=
  (by decide +kernel : ∀ t : Fin grid0.N, _)

/-- The block of `mix` at point `t`, element by element. -/
theorem iblk0 (c : Dev nD) (t : Fin cfg0.N) (j : S640x2048.Idx) : (iblk m c 0 t : Vec Ideal S640x2048 .bf16) j
    = at' (S := S8320x2048) (m ((c : Thread nD τ).loc main_arg0)) ![t.val / 2 * 640 + (j 0).val, (j 1).val] := by
  obtain ⟨e0, e1, -⟩ := idx t
  unfold iblk
  rw [View.read_apply]
  refine eq_at' (S := S8320x2048) _ _ _ fun a => ?_
  match a with
  | ⟨0, _⟩ => show win0_0.index t 0 * 640 + 1 * (j 0).val = t.val / 2 * 640 + (j 0).val; rw [e0]; omega
  | ⟨1, _⟩ => show win0_0.index t 1 * 2048 + 1 * (j 1).val = (j 1).val; rw [e1]; omega

/-- The block of `w_out` at point `t`, element by element. -/
theorem iblk1 (c : Dev nD) (t : Fin cfg0.N) (j : S2048x1024.Idx) : (iblk m c 1 t : Vec Ideal S2048x1024 .bf16) j
    = at' (S := S2048x2048) (m ((c : Thread nD τ).loc main_arg1)) ![(j 0).val, t.val % 2 * 1024 + (j 1).val] := by
  obtain ⟨-, -, e0, e1, -⟩ := idx t
  unfold iblk
  rw [View.read_apply]
  refine eq_at' (S := S2048x2048) _ _ _ fun a => ?_
  match a with
  | ⟨0, _⟩ => show win0_1.index t 0 * 2048 + 1 * (j 0).val = (j 0).val; rw [e0]; omega
  | ⟨1, _⟩ => show win0_1.index t 1 * 1024 + 1 * (j 1).val = t.val % 2 * 1024 + (j 1).val; rw [e1]; omega

/-- The product of two blocks at an index. -/
theorem pay_apply (x0 : Vec Ideal S640x2048 .bf16) (x1 : Vec Ideal S2048x1024 .bf16) (j : S640x1024.Idx) :
    k0_pay1 x0 x1 j = ∑ r : Fin 2048, x0 (ValueIdx.ix2 (j 0) r) * x1 (ValueIdx.ix2 r (j 1)) := by
  unfold k0_pay1
  idx_vars j
  pointwise
  rfl

/-- The result of the kernel: the whole product. -/
def G (c : Dev nD) : S8320x2048.Idx → EReal := fun i => ∑ k : Fin 2048,
  at' (S := S8320x2048) (m ((c : Thread nD τ).loc main_arg0)) ![(i 0).val, k.val]
    * at' (S := S2048x2048) (m ((c : Thread nD τ).loc main_arg1)) ![k.val, (i 1).val]

/-- The array ends holding the product. -/
theorem final (c : Dev nD) : (dats m 0 c).arrAt 2 cfg0.N = (G m c : Buf (Elt Ideal) ((c : Thread nD τ).loc main_v0)) := by
  refine (dats m 0 c).arrAt_eq_of_covers 2 _ (by decide +kernel) fun t hf y => ?_
  obtain ⟨-, -, -, -, e0, e1⟩ := idx t
  blk_simp
  rw [after0_2]
  unfold outsAt0
  frame_out
  refine (pay_apply _ _ _).trans (Finset.sum_congr rfl fun k _ => ?_)
  rw [iblk0, iblk1]
  show _ = at' (S := S8320x2048) _ ![win0_2.index t 0 * 640 + 1 * (y 0).val, k.val]
    * at' (S := S2048x2048) _ ![k.val, win0_2.index t 1 * 1024 + 1 * (y 1).val]
  rw [e0, e1, one_mul, one_mul]

/-- What the kernel leaves. -/
theorem run : θ_run defs (onTc (τ := τ) (main (F := Ideal))) ⟨m, fun _ => 0, ρ⟩ fun r => ∀ c : Dev nD,
    r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1) :=
  (θ_run _ _ _).mono (fun _ h c => ⟨(h c).1.trans (final m c), (h c).2⟩) (run_blocks m ρ)

end Cert.KernelLoutIdeal.Prod

namespace Cert.ReferenceLoutIdeal.Prod

open Cert.ReferenceLoutIdeal Cert.ReferenceLoutIdeal.Gen Cert.ReferenceLoutIdeal.Read

/-- The reference's result at an index. -/
theorem ref_apply (x0 : Vec Ideal S8320x2048 .bf16) (x1 : Vec Ideal S2048x2048 .bf16) (i : S8320x2048.Idx) :
    val_main_v2 (F := Ideal) x0 x1 i = ∑ k : Fin 2048,
      at' (S := S8320x2048) x0 ![(i 0).val, k.val] * at' (S := S2048x2048) x1 ![k.val, (i 1).val] := by
  rw [val_main_v2_apply]
  refine Finset.sum_congr rfl fun k _ => ?_
  refine congrArg₂ (· * ·) (eq_at' (S := S8320x2048) x0 _ _ fun a => ?_) (eq_at' (S := S2048x2048) x1 _ _ fun a => ?_) <;>
    fin_cases a <;> rfl

end Cert.ReferenceLoutIdeal.Prod

namespace Cert.Proof

/-- The kernel and the reference compute the same product. -/
theorem algebraic_lout : Cert.algebraic_KernelLoutIdeal_ReferenceLoutIdeal := by
  intro m ρ m' ρ' _ hag
  refine ⟨fun c => Cert.KernelLoutIdeal.Prod.G m c, Cert.KernelLoutIdeal.Prod.run m ρ,
    (θ_run _ _ _).mono (fun r h c => ⟨(h c).1.trans ?_, (h c).2⟩) (Cert.ReferenceLoutIdeal.Value.run (F := Ideal) m' ρ')⟩
  rw [(hag c).1, (hag c).2]
  funext i
  rw [Cert.ReferenceLoutIdeal.Read.val_main_v2_eq]
  exact Cert.ReferenceLoutIdeal.Prod.ref_apply _ _ i

end Cert.Proof

end
-- ==== Proof.Dlwout.lean ====
/- The gradient of layer 0's output weights: `mixᵀ · dmo`, accumulated over five blocks of rows. -/
module

public import proofs.«01_k».proof.Proof.Blocks
public import proofs.«01_k».proof.Defs
public import proofs.«01_k».proof.Proof.Gen.KernelDlwoutIdeal.Value
public import proofs.«01_k».proof.Proof.Gen.ReferenceDlwoutIdeal.Read
public import Idealize.ShloMosaic.Lib.Pointwise
public import Idealize.ShloMosaic.Lib.Tactic
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem Cert.Blocks

namespace Cert.KernelDlwoutIdeal.Prod

open Cert.KernelDlwoutIdeal Cert.KernelDlwoutIdeal.Gen Cert.KernelDlwoutIdeal.Value

variable (m : (ℓ : Loc nD τ sig) → Buf (Elt Ideal) ℓ) (ρ : Dev nD → PrngReg)

/-- Which blocks point `t` reads and writes. -/
theorem idx : ∀ t : Fin cfg0.N, win0_0.index t (0 : Fin 2) = t.val % 5 ∧ win0_0.index t (1 : Fin 2) = t.val / 10
    ∧ win0_1.index t (0 : Fin 2) = t.val % 5 ∧ win0_1.index t (1 : Fin 2) = t.val / 5 % 2
    ∧ win0_2.index t (0 : Fin 2) = t.val / 10 ∧ win0_2.index t (1 : Fin 2) = t.val / 5 % 2 :=
  (by decide +kernel : ∀ t : Fin grid0.N, _)

/-- The result is written at the last point of a run. -/
theorem last : ∀ t : Fin cfg0.N, (cfg0.win 2).flush t = true → t.val % 5 = 4 := (by decide +kernel : ∀ t : Fin grid0.N, _)

/-- The terms of the sum at row `a` of `mixᵀ` and column `b` of `dmo`. -/
def term (c : Dev nD) (a b k : ℕ) : EReal :=
  at' (S := S8320x2048) (m ((c : Thread nD τ).loc main_arg0)) ![k, a] * at' (S := S8320x2048) (m ((c : Thread nD τ).loc main_arg1)) ![k, b]

/-- The part of point `n` of the grid. -/
def part (c : Dev nD) (j : S1024x1024.Idx) (n : ℕ) : EReal :=
  ∑ r : Fin 1664, term m c (n / 10 * 1024 + (j 0).val) (n / 5 % 2 * 1024 + (j 1).val) (n % 5 * 1664 + r.val)

/-- The product of the blocks of point `t` is its part. -/
theorem pay (c : Dev nD) (t : Fin cfg0.N) (j : S1024x1024.Idx) : k0_pay1 (iblk m c 0 t) (iblk m c 1 t) j = part m c j t.val := by
  obtain ⟨e0, e1, e2, e3, -⟩ := idx t
  unfold k0_pay1
  idx_vars j
  pointwise
  refine Finset.sum_congr rfl fun r _ => congrArg₂ (· * ·) ?_ ?_ <;> unfold iblk <;> rw [View.read_apply]
  · refine eq_at' (S := S8320x2048) _ _ _ fun a => ?_
    match a with
    | ⟨0, _⟩ => show win0_0.index t 0 * 1664 + 1 * r.val = _; rw [e0, one_mul]; rfl
    | ⟨1, _⟩ => show win0_0.index t 1 * 1024 + 1 * _ = _; rw [e1, one_mul]; rfl
  · refine eq_at' (S := S8320x2048) _ _ _ fun a => ?_
    match a with
    | ⟨0, _⟩ => show win0_1.index t 0 * 1664 + 1 * r.val = _; rw [e2, one_mul]; rfl
    | ⟨1, _⟩ => show win0_1.index t 1 * 1024 + 1 * _ = _; rw [e3, one_mul]; rfl

/-- What the first point of a run puts in the accumulator. -/
theorem pay2_apply (x0 : Vec Ideal S1664x1024 .bf16) (x1 : Vec Ideal S1664x1024 .bf16) (j : S1024x1024.Idx) :
    k0_pay2 x0 x1 j = k0_pay1 x0 x1 j := by
  unfold k0_pay2
  rw [shapeCast_self]

/-- What a later point puts in the accumulator. -/
theorem pay3_apply (x0 : Vec Ideal S1664x1024 .bf16) (x1 : Vec Ideal S1664x1024 .bf16) (x : Vec Ideal S1024x1024 .f32) (j : S1024x1024.Idx) :
    k0_pay3 x0 x1 x j = x j + k0_pay1 x0 x1 j := by
  unfold k0_pay3
  rw [shapeCast_self]
  rfl

/-- The accumulator after point `n`. -/
theorem acc (c : Dev nD) (j : S1024x1024.Idx) (n : ℕ) (h : n < cfg0.N) :
    (outsAt0 m c n h).2 j = ∑ s ∈ Finset.range (n % 5 + 1), part m c j (n - n % 5 + s) := by
  refine run_sum 5 (fun n h => (outsAt0 m c n h).2 j) (part m c j) (fun n h e => ?_) (fun n h e => ?_) n h
  · rw [outsAt0_A m c ⟨n, h⟩ e (by dsimp only; omega) (by dsimp only; omega)]
    dsimp only
    frame_out
    exact (pay2_apply _ _ _).trans (pay m c ⟨n, h⟩ j)
  · by_cases e' : n % 5 = 4
    · rw [outsAt0_C m c ⟨n, h⟩ e (by dsimp only; omega) e']
      dsimp only
      frame_out
      exact (pay3_apply _ _ _ _).trans (congrArg₂ (· + ·) (congrFun ((Memref.isWhole_whole cc0_scratch0).read_unread _) j) (pay m c ⟨n, h⟩ j))
    · rw [outsAt0_B m c ⟨n, h⟩ e (by dsimp only; omega) e']
      dsimp only
      frame_out
      exact (pay3_apply _ _ _ _).trans (congrArg₂ (· + ·) (congrFun ((Memref.isWhole_whole cc0_scratch0).read_unread _) j) (pay m c ⟨n, h⟩ j))

/-- Rounding is the identity. -/
theorem pay4_apply (x : Vec Ideal S1024x1024 .f32) (j : S1024x1024.Idx) : k0_pay4 x j = x j := rfl

/-- The last point of a run writes the accumulator out. -/
theorem out (c : Dev nD) (j : S1024x1024.Idx) (t : Fin cfg0.N) (e : t.val % 5 = 4) :
    (outsAt0 m c t.val t.isLt).1 j = (outsAt0 m c t.val t.isLt).2 j := by
  rw [outsAt0_C m c t (by omega) (by omega) e]
  dsimp only
  frame_out
  exact pay4_apply _ _

/-- The result of the kernel: the whole product. -/
def G (c : Dev nD) : S2048x2048.Idx → EReal := fun i => ∑ k : Fin 8320, term m c (i 0).val (i 1).val k.val

/-- The array ends holding the product. -/
theorem final (c : Dev nD) : (dats m 0 c).arrAt 2 cfg0.N = (G m c : Buf (Elt Ideal) ((c : Thread nD τ).loc main_v0)) := by
  refine (dats m 0 c).arrAt_eq_of_covers 2 _ (by decide +kernel) fun t hf y => ?_
  obtain ⟨-, -, -, -, e0, e1⟩ := idx t
  have hl := last t hf
  blk_simp
  rw [after0_2]
  refine (out m c _ t hl).trans ((acc m c _ t.val t.isLt).trans ?_)
  show _ = ∑ k : Fin 8320, term m c (win0_2.index t 0 * 1024 + 1 * (y 0).val) (win0_2.index t 1 * 1024 + 1 * (y 1).val) k.val
  rw [e0, e1, one_mul, one_mul, hl]
  refine Eq.trans (Finset.sum_congr rfl fun s hs => ?_)
    (sum_blocks (fun k => term m c (t.val / 10 * 1024 + (y 0).val) (t.val / 5 % 2 * 1024 + (y 1).val) k) 1664 5)
  have hs := Finset.mem_range.mp hs
  unfold part
  rw [show (t.val - 4 + s) / 10 = t.val / 10 by omega, show (t.val - 4 + s) / 5 % 2 = t.val / 5 % 2 by omega,
    show (t.val - 4 + s) % 5 = s by omega]

/-- What the kernel leaves. -/
theorem run : θ_run defs (onTc (τ := τ) (main (F := Ideal))) ⟨m, fun _ => 0, ρ⟩ fun r => ∀ c : Dev nD,
    r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1) :=
  (θ_run _ _ _).mono (fun _ h c => ⟨(h c).1.trans (final m c), (h c).2⟩) (run_blocks m ρ)

end Cert.KernelDlwoutIdeal.Prod

namespace Cert.ReferenceDlwoutIdeal.Prod

open Cert.ReferenceDlwoutIdeal Cert.ReferenceDlwoutIdeal.Gen Cert.ReferenceDlwoutIdeal.Read

/-- The reference's result at an index. -/
theorem ref_apply (x0 : Vec Ideal S8320x2048 .bf16) (x1 : Vec Ideal S8320x2048 .bf16) (i : S2048x2048.Idx) :
    val_main_v6 (F := Ideal) x0 x1 i = ∑ k : Fin 8320,
      at' (S := S8320x2048) x0 ![k.val, (i 0).val] * at' (S := S8320x2048) x1 ![k.val, (i 1).val] := by
  rw [val_main_v6_apply, val_main_v5_apply, val_main_v4_apply]
  refine Finset.sum_congr rfl fun k _ => ?_
  refine (mul_comm _ _).trans (congrArg₂ (· * ·) (eq_at' (S := S8320x2048) x0 _ _ fun a => ?_)
    (eq_at' (S := S8320x2048) x1 _ _ fun a => ?_)) <;> fin_cases a <;> rfl

end Cert.ReferenceDlwoutIdeal.Prod

namespace Cert.Proof

/-- The kernel and the reference compute the same gradient. -/
theorem algebraic_dlwout : Cert.algebraic_KernelDlwoutIdeal_ReferenceDlwoutIdeal := by
  intro m ρ m' ρ' _ hag
  refine ⟨fun c => Cert.KernelDlwoutIdeal.Prod.G m c, Cert.KernelDlwoutIdeal.Prod.run m ρ,
    (θ_run _ _ _).mono (fun r h c => ⟨(h c).1.trans ?_, (h c).2⟩) (Cert.ReferenceDlwoutIdeal.Value.run (F := Ideal) m' ρ')⟩
  rw [(hag c).1, (hag c).2]
  funext i
  rw [Cert.ReferenceDlwoutIdeal.Read.val_main_v6_eq]
  exact Cert.ReferenceDlwoutIdeal.Prod.ref_apply _ _ i

end Cert.Proof

end
-- ==== Proof.Dmix.lean ====
/- The gradient of layer 0's mixed activation: `dmo · w_outᵀ`, a block of the result at each point. -/
module

public import proofs.«01_k».proof.Proof.Blocks
public import proofs.«01_k».proof.Defs
public import proofs.«01_k».proof.Proof.Gen.KernelDmixIdeal.Value
public import proofs.«01_k».proof.Proof.Gen.ReferenceDmixIdeal.Read
public import Idealize.ShloMosaic.Lib.Pointwise
public import Idealize.ShloMosaic.Lib.Tactic
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem Cert.Blocks

namespace Cert.KernelDmixIdeal.Prod

open Cert.KernelDmixIdeal Cert.KernelDmixIdeal.Gen Cert.KernelDmixIdeal.Value

variable (m : (ℓ : Loc nD τ sig) → Buf (Elt Ideal) ℓ) (ρ : Dev nD → PrngReg)

/-- Which blocks point `t` reads and writes. -/
theorem idx : ∀ t : Fin cfg0.N, win0_0.index t (0 : Fin 2) = t.val / 2 ∧ win0_0.index t (1 : Fin 2) = 0
    ∧ win0_1.index t (0 : Fin 2) = t.val % 2 ∧ win0_1.index t (1 : Fin 2) = 0
    ∧ win0_2.index t (0 : Fin 2) = t.val / 2 ∧ win0_2.index t (1 : Fin 2) = t.val % 2 :=
  (by decide +kernel : ∀ t : Fin grid0.N, _)

/-- The block of `dmo` at point `t`, element by element. -/
theorem iblk0 (c : Dev nD) (t : Fin cfg0.N) (j : S640x2048.Idx) : (iblk m c 0 t : Vec Ideal S640x2048 .bf16) j
    = at' (S := S8320x2048) (m ((c : Thread nD τ).loc main_arg0)) ![t.val / 2 * 640 + (j 0).val, (j 1).val] := by
  obtain ⟨e0, e1, -⟩ := idx t
  unfold iblk
  rw [View.read_apply]
  refine eq_at' (S := S8320x2048) _ _ _ fun a => ?_
  match a with
  | ⟨0, _⟩ => show win0_0.index t 0 * 640 + 1 * (j 0).val = t.val / 2 * 640 + (j 0).val; rw [e0]; omega
  | ⟨1, _⟩ => show win0_0.index t 1 * 2048 + 1 * (j 1).val = (j 1).val; rw [e1]; omega

/-- The block of `w_out` at point `t`, element by element. -/
theorem iblk1 (c : Dev nD) (t : Fin cfg0.N) (j : S1024x2048.Idx) : (iblk m c 1 t : Vec Ideal S1024x2048 .bf16) j
    = at' (S := S2048x2048) (m ((c : Thread nD τ).loc main_arg1)) ![t.val % 2 * 1024 + (j 0).val, (j 1).val] := by
  obtain ⟨-, -, e0, e1, -⟩ := idx t
  unfold iblk
  rw [View.read_apply]
  refine eq_at' (S := S2048x2048) _ _ _ fun a => ?_
  match a with
  | ⟨0, _⟩ => show win0_1.index t 0 * 1024 + 1 * (j 0).val = t.val % 2 * 1024 + (j 0).val; rw [e0]; omega
  | ⟨1, _⟩ => show win0_1.index t 1 * 2048 + 1 * (j 1).val = (j 1).val; rw [e1]; omega

/-- The product of two blocks at an index. -/
theorem pay_apply (x0 : Vec Ideal S640x2048 .bf16) (x1 : Vec Ideal S1024x2048 .bf16) (j : S640x1024.Idx) :
    k0_pay1 x0 x1 j = ∑ r : Fin 2048, x0 (ValueIdx.ix2 (j 0) r) * x1 (ValueIdx.ix2 (j 1) r) := by
  unfold k0_pay1
  idx_vars j
  pointwise
  rfl

/-- The result of the kernel: the whole product. -/
def G (c : Dev nD) : S8320x2048.Idx → EReal := fun i => ∑ k : Fin 2048,
  at' (S := S8320x2048) (m ((c : Thread nD τ).loc main_arg0)) ![(i 0).val, k.val]
    * at' (S := S2048x2048) (m ((c : Thread nD τ).loc main_arg1)) ![(i 1).val, k.val]

/-- The array ends holding the product. -/
theorem final (c : Dev nD) : (dats m 0 c).arrAt 2 cfg0.N = (G m c : Buf (Elt Ideal) ((c : Thread nD τ).loc main_v0)) := by
  refine (dats m 0 c).arrAt_eq_of_covers 2 _ (by decide +kernel) fun t hf y => ?_
  obtain ⟨-, -, -, -, e0, e1⟩ := idx t
  blk_simp
  rw [after0_2]
  unfold outsAt0
  frame_out
  refine (pay_apply _ _ _).trans (Finset.sum_congr rfl fun k _ => ?_)
  rw [iblk0, iblk1]
  show _ = at' (S := S8320x2048) _ ![win0_2.index t 0 * 640 + 1 * (y 0).val, k.val]
    * at' (S := S2048x2048) _ ![win0_2.index t 1 * 1024 + 1 * (y 1).val, k.val]
  rw [e0, e1, one_mul, one_mul]

/-- What the kernel leaves. -/
theorem run : θ_run defs (onTc (τ := τ) (main (F := Ideal))) ⟨m, fun _ => 0, ρ⟩ fun r => ∀ c : Dev nD,
    r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1) :=
  (θ_run _ _ _).mono (fun _ h c => ⟨(h c).1.trans (final m c), (h c).2⟩) (run_blocks m ρ)

end Cert.KernelDmixIdeal.Prod

namespace Cert.ReferenceDmixIdeal.Prod

open Cert.ReferenceDmixIdeal Cert.ReferenceDmixIdeal.Gen Cert.ReferenceDmixIdeal.Read

/-- The reference's result at an index. -/
theorem ref_apply (x0 : Vec Ideal S8320x2048 .bf16) (x1 : Vec Ideal S2048x2048 .bf16) (i : S8320x2048.Idx) :
    val_main_v4 (F := Ideal) x0 x1 i = ∑ k : Fin 2048,
      at' (S := S8320x2048) x0 ![(i 0).val, k.val] * at' (S := S2048x2048) x1 ![(i 1).val, k.val] := by
  rw [val_main_v4_apply]
  refine Finset.sum_congr rfl fun k _ => ?_
  refine congrArg₂ (· * ·) (eq_at' (S := S8320x2048) x0 _ _ fun a => ?_) (eq_at' (S := S2048x2048) x1 _ _ fun a => ?_) <;>
    fin_cases a <;> rfl

end Cert.ReferenceDmixIdeal.Prod

namespace Cert.Proof

/-- The kernel and the reference compute the same gradient. -/
theorem algebraic_dmix : Cert.algebraic_KernelDmixIdeal_ReferenceDmixIdeal := by
  intro m ρ m' ρ' _ hag
  refine ⟨fun c => Cert.KernelDmixIdeal.Prod.G m c, Cert.KernelDmixIdeal.Prod.run m ρ,
    (θ_run _ _ _).mono (fun r h c => ⟨(h c).1.trans ?_, (h c).2⟩) (Cert.ReferenceDmixIdeal.Value.run (F := Ideal) m' ρ')⟩
  rw [(hag c).1, (hag c).2]
  funext i
  rw [Cert.ReferenceDmixIdeal.Read.val_main_v4_eq]
  exact Cert.ReferenceDmixIdeal.Prod.ref_apply _ _ i

end Cert.Proof

end
-- ==== Proof.Norm.lean ====
/- The layer norm of a row on extended reals, and its gradient in the kernel's form and in the derivative's. -/
module

public import proofs.«01_k».proof.Proof.Blocks
public import Idealize.ShloMosaic.Lib.Pointwise

@[expose] public section

noncomputable section

open Idealize.ShloMosaic

namespace Cert.Blocks

/-- The residual: the block's input, scaled by the square root of two, and its output. -/
def resid (h mo : Fin 2048 → EReal) (k : Fin 2048) : EReal := Ideal.ofBits .f32 0x3FB504F3#32 * h k + mo k

/-- The sum of a row over its 2048 entries, divided by their number. -/
def rowMean (x : Fin 2048 → EReal) : EReal := Ideal.div (∑ k, x k) (Ideal.ofBits .f32 0x45000000#32)

/-- A row without its mean. -/
def centred (x : Fin 2048 → EReal) (k : Fin 2048) : EReal := x k - rowMean x

/-- The variance of a row, with the norm's small constant added. -/
def spread (x : Fin 2048 → EReal) : EReal := rowMean (fun k => centred x k * centred x k) + Ideal.ofBits .f32 0x3727C5AC#32

/-- The layer norm of a row. -/
def normed (x g b : Fin 2048 → EReal) (k : Fin 2048) : EReal := centred x k * Ideal.rsqrt (spread x) * g k + b k

/-- The gradient that reaches the variance, of a row `x` and the gradient `d` of its normed entries. -/
def dspread (x d : Fin 2048 → EReal) : EReal :=
  Ideal.div ((∑ k, centred x k * d k) * (Ideal.ofBits .f32 0xBF000000#32 * Ideal.div (Ideal.rsqrt (spread x)) (spread x)))
    (Ideal.ofBits .f32 0x45000000#32)

/-- The gradient of the centred row, in the kernel's form: the square's derivative is the sum of two equal products. -/
def dcentred (x d : Fin 2048 → EReal) (k : Fin 2048) : EReal :=
  d k * Ideal.rsqrt (spread x) + centred x k * dspread x d + dspread x d * centred x k

/-- The gradient of the row, in the kernel's form. -/
def dnormed (x d : Fin 2048 → EReal) (k : Fin 2048) : EReal := dcentred x d k + rowMean fun j => 0 - dcentred x d j

theorem two_f32 : Ideal.ofBits .f32 0x40000000#32 = 1 + 1 := by
  have e : Ideal.ofBits .f32 0x40000000#32 = ((2 : ℝ) : EReal) := by
    simp [Ideal.ofBits, Ideal.ieee]
    rw [← EReal.coe_mul]
    norm_num
  rw [e, ← EReal.coe_one, ← EReal.coe_add]
  norm_num

/-- The residual's factor is a real number. -/
theorem alpha_real : ∃ a : ℝ, Ideal.ofBits .f32 0x3FB504F3#32 = a := by
  refine ⟨_, by simp only [Ideal.ofBits, Ideal.ieee]; norm_num; rfl⟩

/-- A square is not negative. -/
theorem sq_nonneg' (x : EReal) : 0 ≤ x * x := by
  induction x with
  | coe r => rw [← EReal.coe_mul]; exact_mod_cast mul_self_nonneg r
  | bot => simp
  | top => simp

/-- The variance with its constant is positive. -/
theorem spread_pos (x : Fin 2048 → EReal) : 0 < spread x := by
  have eN : Ideal.ofBits .f32 0x45000000#32 = ((2048 : ℝ) : EReal) := by
    simp [Ideal.ofBits, Ideal.ieee]
    rw [← EReal.coe_mul]
    norm_num
  obtain ⟨e, he, hp⟩ : ∃ e : ℝ, Ideal.ofBits .f32 0x3727C5AC#32 = e ∧ 0 < e := by
    refine ⟨10995116 * (2 : ℝ) ^ (-40 : ℤ), ?_, by norm_num⟩
    simp [Ideal.ofBits, Ideal.ieee]
  have hm : 0 ≤ rowMean fun k => centred x k * centred x k := by
    unfold rowMean
    rw [eN, Ideal.div_coe (by norm_num)]
    exact mul_nonneg (Finset.sum_nonneg fun k _ => sq_nonneg' _) (by exact_mod_cast (by norm_num : (0 : ℝ) ≤ 1 / 2048))
  unfold spread
  rw [he]
  exact lt_of_lt_of_le (by exact_mod_cast hp) (le_add_of_nonneg_left hm)

/-- So its reciprocal root is a real number. -/
theorem root_real (x : Fin 2048 → EReal) : ∃ r : ℝ, Ideal.rsqrt (spread x) = r := by
  have h := spread_pos x
  generalize spread x = v at h
  induction v with
  | coe r =>
    have hr : (0 : ℝ) < r := by exact_mod_cast h
    exact ⟨_, by rw [Ideal.rsqrt_coe, if_neg (not_lt.mpr hr.le), if_neg hr.ne']⟩
  | bot => exact absurd h (by simp)
  | top => exact ⟨0, by rw [Ideal.rsqrt_top, EReal.coe_zero]⟩

/-- Twice an extended real is its sum with itself. -/
theorem twice (D a : EReal) : D * ((1 + 1) * a) = a * D + D * a := by
  rw [mul_left_comm, EReal.right_distrib_of_nonneg zero_le_one zero_le_one, one_mul, mul_comm a D]

/-- The gradient of the row as the chain of derivatives gives it, where the gradient of the normed entries is real. -/
theorem dnormed_eq (x d : Fin 2048 → EReal) (hd : ∀ k, ∃ r : ℝ, d k = r) (k : Fin 2048) :
    d k * Ideal.rsqrt (spread x) + dspread x d * (Ideal.ofBits .f32 0x40000000#32 * centred x k)
      + Ideal.div ((∑ j, -(d j * Ideal.rsqrt (spread x))) + ∑ j, -(dspread x d * (Ideal.ofBits .f32 0x40000000#32 * centred x j)))
        (Ideal.ofBits .f32 0x45000000#32) = dnormed x d k := by
  obtain ⟨r, hr⟩ := root_real x
  rw [two_f32, ← Finset.sum_add_distrib]
  unfold dnormed rowMean dcentred
  rw [twice, ← add_assoc]
  refine congrArg (_ + Ideal.div · _) (Finset.sum_congr rfl fun j _ => ?_)
  obtain ⟨e, he⟩ := hd j
  beta_reduce
  rw [twice, zero_sub, add_assoc, he, hr, ← EReal.coe_mul]
  exact (EReal.neg_add (.inl (EReal.coe_ne_bot _)) (.inl (EReal.coe_ne_top _))).symm

end Cert.Blocks

end
-- ==== Proof.Dln.lean ====
/- The gradient of the post-norm of a residual block: of its input, row by row, and of its scale and shift, added up over the rows. -/
module

public import proofs.«01_k».proof.Proof.Norm
public import proofs.«01_k».proof.Proof.Gate
public import proofs.«01_k».proof.Defs
public import proofs.«01_k».proof.Proof.Gen.KernelDlnIdeal.Value
public import proofs.«01_k».proof.Proof.Gen.ReferenceDlnIdeal.Read
public import Idealize.ShloMosaic.Lib.Pointwise
public import Idealize.ShloMosaic.Lib.ReduceAll
public import Idealize.ShloMosaic.Lib.Tactic
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem Cert.Blocks

namespace Cert.Blocks

/-- The row `r` of an array. -/
abbrev rowOf (A : Shape.Idx ⟨2, ![8320, 2048]⟩ → EReal) (r : ℕ) : Fin 2048 → EReal := fun k => at' (S := ⟨2, ![8320, 2048]⟩) A ![r, k.val]

/-- The gradient of the input at row `r` and column `k`. -/
def dinput (h mo dr dh : Shape.Idx ⟨2, ![8320, 2048]⟩ → EReal) (g : Shape.Idx ⟨1, ![2048]⟩ → EReal) (r : ℕ) (k : Fin 2048) : EReal :=
  dnormed (resid (rowOf h r) (rowOf mo r)) (fun k => resid (rowOf dr r) (rowOf dh r) k * at' (S := ⟨1, ![2048]⟩) g ![k.val]) k

/-- What row `r` adds to the gradient of the scale. -/
def dscale (h mo dr dh : Shape.Idx ⟨2, ![8320, 2048]⟩ → EReal) (k : Fin 2048) (r : ℕ) : EReal :=
  centred (resid (rowOf h r) (rowOf mo r)) k * Ideal.rsqrt (spread (resid (rowOf h r) (rowOf mo r)))
    * resid (rowOf dr r) (rowOf dh r) k

/-- What row `r` adds to the gradient of the shift. -/
def dshift (dr dh : Shape.Idx ⟨2, ![8320, 2048]⟩ → EReal) (k : Fin 2048) (r : ℕ) : EReal := resid (rowOf dr r) (rowOf dh r) k

end Cert.Blocks

namespace Cert.KernelDlnIdeal.Prod

open Cert.KernelDlnIdeal Cert.KernelDlnIdeal.Gen Cert.KernelDlnIdeal.Value

variable (m : (ℓ : Loc nD τ sig) → Buf (Elt Ideal) ℓ) (ρ : Dev nD → PrngReg)

/-- Which blocks point `t` reads and writes. -/
theorem idx : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ win0_4.index t (1 : Fin 2) = 0 ∧ win0_8.index t (1 : Fin 2) = 0 ∧ win0_9.index t (1 : Fin 2) = 0 :=
  (by decide +kernel : ∀ t : Fin grid0.N, _)

/-- The gradients of scale and shift are written at the last point. -/
theorem last8 : ∀ t : Fin cfg0.N, (cfg0.win 8).flush t = true → t.val = 25 := (by decide +kernel : ∀ t : Fin grid0.N, _)

theorem last9 : ∀ t : Fin cfg0.N, (cfg0.win 9).flush t = true → t.val = 25 := (by decide +kernel : ∀ t : Fin grid0.N, _)

/-- A row of the residual of two blocks. -/
abbrev mixed (x0 x1 : Vec Ideal S320x2048 .f32) (r : Fin 320) : Fin 2048 → EReal :=
  resid (fun k => x0 (ValueIdx.ix2 r k)) fun k => x1 (ValueIdx.ix2 r k)

/-- What a point computes on the way, at an index: the gradient that comes in, -/
theorem pay3_apply (x2 x3 : Vec Ideal S320x2048 .f32) (j : S320x2048.Idx) : k0_pay3 x2 x3 j = mixed x2 x3 (j 0) (j 1) := by
  unfold k0_pay3 mixed resid
  idx_vars j
  pointwise
  rw [mul_comm]
  rfl

/-- the centred row, -/
theorem pay4_apply (x0 x1 : Vec Ideal S320x2048 .f32) (j : S320x2048.Idx) : k0_pay4 x0 x1 j = centred (mixed x0 x1 (j 0)) (j 1) := by
  unfold k0_pay4 centred rowMean mixed resid
  idx_vars j
  pointwise
  rfl

/-- its variance with the constant, -/
theorem pay5_apply (x0 x1 : Vec Ideal S320x2048 .f32) (j : S320x1.Idx) : k0_pay5 x0 x1 j = spread (mixed x0 x1 (j 0)) := by
  unfold k0_pay5 spread rowMean
  idx_vars j
  pointwise
  simp only [pay4_apply]
  rfl

/-- the root's reciprocal, -/
theorem pay6_apply (x0 x1 : Vec Ideal S320x2048 .f32) (j : S320x1.Idx) : k0_pay6 x0 x1 j = Ideal.rsqrt (spread (mixed x0 x1 (j 0))) := by
  unfold k0_pay6
  pointwise
  rw [pay5_apply]

/-- and the root's derivative. -/
theorem pay7_apply (x0 x1 : Vec Ideal S320x2048 .f32) (j : S320x1.Idx) : k0_pay7 x0 x1 j
    = Ideal.ofBits .f32 0xBF000000#32 * Ideal.div (Ideal.rsqrt (spread (mixed x0 x1 (j 0)))) (spread (mixed x0 x1 (j 0))) := by
  unfold k0_pay7
  pointwise
  rw [pay5_apply, pay6_apply]

theorem pay2_apply (x4 : Vec Ideal S1x2048 .f32) : k0_pay2 x4 = x4 := by
  unfold k0_pay2
  rw [shapeCast_self]

/-- The gradient of the input, at an index. -/
theorem pay10_apply (x0 x1 x2 x3 : Vec Ideal S320x2048 .f32) (x4 : Vec Ideal S1x2048 .f32) (j : S320x2048.Idx) :
    k0_pay10 (k0_pay2 x4) (k0_pay3 x2 x3) (k0_pay4 x0 x1) (k0_pay6 x0 x1) (k0_pay7 x0 x1) j
      = dnormed (mixed x0 x1 (j 0)) (fun k => mixed x2 x3 (j 0) k * x4 (ValueIdx.ix2 0 k)) (j 1) := by
  unfold k0_pay10 dnormed dcentred dspread rowMean
  idx_vars j
  pointwise
  simp only [pay2_apply, pay3_apply, pay4_apply, pay6_apply, pay7_apply, Fin.sum_univ_one]
  rfl

/-- What a point adds to the gradient of the shift, -/
theorem pay8_apply (x2 x3 : Vec Ideal S320x2048 .f32) (j : S1x2048.Idx) : k0_pay8 x2 x3 j = ∑ r : Fin 320, mixed x2 x3 r (j 1) := by
  unfold k0_pay8
  idx_vars j
  pointwise
  simp only [pay3_apply]
  rfl

/-- and to that of the scale. -/
theorem pay9_apply (x0 x1 x2 x3 : Vec Ideal S320x2048 .f32) (j : S1x2048.Idx) : k0_pay9 x0 x1 x2 x3 j
    = ∑ r : Fin 320, centred (mixed x0 x1 r) (j 1) * Ideal.rsqrt (spread (mixed x0 x1 r)) * mixed x2 x3 r (j 1) := by
  unfold k0_pay9
  idx_vars j
  pointwise
  simp only [pay3_apply, pay4_apply, pay6_apply]
  rfl

theorem pay1_apply (v x : Vec Ideal S1x2048 .f32) (j : S1x2048.Idx) : k0_pay1 v x j = x j + v j := by
  unfold k0_pay1
  rw [shapeCast_self]
  rfl

theorem pay12_apply (v x : Vec Ideal S1x2048 .f32) (j : S1x2048.Idx) : k0_pay12 v x j = x j + v j := by
  unfold k0_pay12
  rw [shapeCast_self]
  rfl

/-- The blocks at point `t`, element by element. -/
theorem iblk0 (c : Dev nD) (t : Fin cfg0.N) (j : S320x2048.Idx) : (iblk m c 0 t : Vec Ideal S320x2048 .f32) j
    = at' (S := S8320x2048) (m ((c : Thread nD τ).loc main_arg0)) ![t.val * 320 + (j 0).val, (j 1).val] := by
  obtain ⟨⟨e0, e1⟩, _, _, _, _, _, _, _, _⟩ := idx t
  unfold iblk
  rw [View.read_apply]
  refine (congrFun (V_main_arg0 m c) _).trans (eq_at' (S := S8320x2048) _ _ _ fun a => ?_)
  match a with
  | ⟨0, _⟩ => show win0_0.index t 0 * 320 + 1 * (j 0).val = _; rw [e0, one_mul]; rfl
  | ⟨1, _⟩ => show win0_0.index t 1 * 2048 + 1 * (j 1).val = _; rw [e1, zero_mul, zero_add, one_mul]; rfl

theorem iblk1 (c : Dev nD) (t : Fin cfg0.N) (j : S320x2048.Idx) : (iblk m c 1 t : Vec Ideal S320x2048 .f32) j
    = at' (S := S8320x2048) (m ((c : Thread nD τ).loc main_arg1)) ![t.val * 320 + (j 0).val, (j 1).val] := by
  obtain ⟨_, ⟨e0, e1⟩, _, _, _, _, _, _, _⟩ := idx t
  unfold iblk
  rw [View.read_apply]
  refine (congrFun (V_main_arg1 m c) _).trans (eq_at' (S := S8320x2048) _ _ _ fun a => ?_)
  match a with
  | ⟨0, _⟩ => show win0_1.index t 0 * 320 + 1 * (j 0).val = _; rw [e0, one_mul]; rfl
  | ⟨1, _⟩ => show win0_1.index t 1 * 2048 + 1 * (j 1).val = _; rw [e1, zero_mul, zero_add, one_mul]; rfl

theorem iblk2 (c : Dev nD) (t : Fin cfg0.N) (j : S320x2048.Idx) : (iblk m c 2 t : Vec Ideal S320x2048 .f32) j
    = at' (S := S8320x2048) (m ((c : Thread nD τ).loc main_arg4)) ![t.val * 320 + (j 0).val, (j 1).val] := by
  obtain ⟨_, _, ⟨e0, e1⟩, _, _, _, _, _, _⟩ := idx t
  unfold iblk
  rw [View.read_apply]
  refine (congrFun (V_main_arg4 m c) _).trans (eq_at' (S := S8320x2048) _ _ _ fun a => ?_)
  match a with
  | ⟨0, _⟩ => show win0_2.index t 0 * 320 + 1 * (j 0).val = _; rw [e0, one_mul]; rfl
  | ⟨1, _⟩ => show win0_2.index t 1 * 2048 + 1 * (j 1).val = _; rw [e1, zero_mul, zero_add, one_mul]; rfl

theorem iblk3 (c : Dev nD) (t : Fin cfg0.N) (j : S320x2048.Idx) : (iblk m c 3 t : Vec Ideal S320x2048 .f32) j
    = at' (S := S8320x2048) (m ((c : Thread nD τ).loc main_arg5)) ![t.val * 320 + (j 0).val, (j 1).val] := by
  obtain ⟨_, _, _, ⟨e0, e1⟩, _, _, _, _, _⟩ := idx t
  unfold iblk
  rw [View.read_apply]
  refine (congrFun (V_main_arg5 m c) _).trans (eq_at' (S := S8320x2048) _ _ _ fun a => ?_)
  match a with
  | ⟨0, _⟩ => show win0_3.index t 0 * 320 + 1 * (j 0).val = _; rw [e0, one_mul]; rfl
  | ⟨1, _⟩ => show win0_3.index t 1 * 2048 + 1 * (j 1).val = _; rw [e1, zero_mul, zero_add, one_mul]; rfl

/-- The host lays the scale out as a row. -/
theorem laid (c : Dev nD) (i : S1x2048.Idx) : (V m c main_v0 : Vec Ideal S1x2048 .f32) i
    = at' (S := S2048) (m ((c : Thread nD τ).loc main_arg2)) ![(i 1).val] := by
  unfold_abbrev_sides
  after_results
  idx_vars i
  pointwise
  exact eq_at' (S := S2048) _ _ _ fun a => by fin_cases a; rfl

theorem iblk4 (c : Dev nD) (t : Fin cfg0.N) (j : S1x2048.Idx) : (iblk m c 4 t : Vec Ideal S1x2048 .f32) j
    = at' (S := S2048) (m ((c : Thread nD τ).loc main_arg2)) ![(j 1).val] := by
  obtain ⟨_, _, _, _, _, _, e1, _, _⟩ := idx t
  unfold iblk
  rw [View.read_apply]
  refine (laid m c _).trans ?_
  show at' (S := S2048) _ ![win0_4.index t 1 * 2048 + 1 * (j 1).val] = _
  rw [e1, zero_mul, zero_add, one_mul]

/-- The arguments. -/
abbrev arg0 (c : Dev nD) : S8320x2048.Idx → EReal := m ((c : Thread nD τ).loc main_arg0)
abbrev arg1 (c : Dev nD) : S8320x2048.Idx → EReal := m ((c : Thread nD τ).loc main_arg1)
abbrev arg2 (c : Dev nD) : S2048.Idx → EReal := m ((c : Thread nD τ).loc main_arg2)
abbrev arg4 (c : Dev nD) : S8320x2048.Idx → EReal := m ((c : Thread nD τ).loc main_arg4)
abbrev arg5 (c : Dev nD) : S8320x2048.Idx → EReal := m ((c : Thread nD τ).loc main_arg5)

/-- Rows of the blocks at point `t` are rows of the arrays. -/
theorem mixed01 (c : Dev nD) (t : Fin cfg0.N) (r : Fin 320) : mixed (iblk m c 0 t) (iblk m c 1 t) r
    = resid (rowOf (arg0 m c) (t.val * 320 + r.val)) (rowOf (arg1 m c) (t.val * 320 + r.val)) := by
  unfold mixed
  simp only [iblk0, iblk1]

theorem mixed23 (c : Dev nD) (t : Fin cfg0.N) (r : Fin 320) : mixed (iblk m c 2 t) (iblk m c 3 t) r
    = resid (rowOf (arg4 m c) (t.val * 320 + r.val)) (rowOf (arg5 m c) (t.val * 320 + r.val)) := by
  unfold mixed
  simp only [iblk2, iblk3]

/-- The gradient of the input from the blocks of point `t`. -/
theorem point (c : Dev nD) (t : Fin cfg0.N) (j : S320x2048.Idx) :
    k0_pay10 (k0_pay2 (iblk m c 4 t)) (k0_pay3 (iblk m c 2 t) (iblk m c 3 t)) (k0_pay4 (iblk m c 0 t) (iblk m c 1 t))
        (k0_pay6 (iblk m c 0 t) (iblk m c 1 t)) (k0_pay7 (iblk m c 0 t) (iblk m c 1 t)) j
      = dinput (arg0 m c) (arg1 m c) (arg4 m c) (arg5 m c) (arg2 m c) (t.val * 320 + (j 0).val) (j 1) := by
  refine (pay10_apply _ _ _ _ _ j).trans ?_
  refine congrArg₂ (dnormed · · (j 1)) (mixed01 m c t (j 0)) (funext fun k => ?_)
  exact congrArg₂ (· * ·) (congrFun (mixed23 m c t (j 0)) k) (iblk4 m c t _)

/-- What point `n` adds to the gradients of scale and shift. -/
def part8 (c : Dev nD) (k : Fin 2048) (n : ℕ) : EReal :=
  ∑ r : Fin 320, dscale (arg0 m c) (arg1 m c) (arg4 m c) (arg5 m c) k (n * 320 + r.val)

def part9 (c : Dev nD) (k : Fin 2048) (n : ℕ) : EReal := ∑ r : Fin 320, dshift (arg4 m c) (arg5 m c) k (n * 320 + r.val)

theorem pay8 (c : Dev nD) (t : Fin cfg0.N) (j : S1x2048.Idx) : k0_pay8 (iblk m c 2 t) (iblk m c 3 t) j = part9 m c (j 1) t.val := by
  refine (pay8_apply _ _ j).trans (Finset.sum_congr rfl fun r _ => ?_)
  rw [mixed23]
  rfl

theorem pay9 (c : Dev nD) (t : Fin cfg0.N) (j : S1x2048.Idx) :
    k0_pay9 (iblk m c 0 t) (iblk m c 1 t) (iblk m c 2 t) (iblk m c 3 t) j = part8 m c (j 1) t.val := by
  refine (pay9_apply _ _ _ _ j).trans (Finset.sum_congr rfl fun r _ => ?_)
  rw [mixed01, mixed23]
  rfl

/-- The accumulators after point `n`. -/
theorem acc8 (c : Dev nD) (j : S1x2048.Idx) (n : ℕ) (h : n < cfg0.N) :
    (outsAt0 m c n h).2.2.1 j = ∑ s ∈ Finset.range (n % 26 + 1), part8 m c (j 1) (n - n % 26 + s) := by
  have hN : n < 26 := h
  refine run_sum 26 (fun n h => (outsAt0 m c n h).2.2.1 j) (part8 m c (j 1)) (fun n h e => ?_) (fun n h e => ?_) n h
  · have hn : n < 26 := h
    rw [outsAt0_A m c ⟨n, h⟩ e (by dsimp only; omega) e (by dsimp only; omega)]
    dsimp only
    frame_out
    exact pay9 m c ⟨n, h⟩ j
  · rw [outsAt0_B m c ⟨n, h⟩ e (by dsimp only; omega) e (by dsimp only; omega)]
    dsimp only
    frame_out
    exact (pay12_apply _ _ _).trans (congrArg (_ + ·) (pay9 m c ⟨n, h⟩ j))

theorem acc9 (c : Dev nD) (j : S1x2048.Idx) (n : ℕ) (h : n < cfg0.N) :
    (outsAt0 m c n h).2.2.2 j = ∑ s ∈ Finset.range (n % 26 + 1), part9 m c (j 1) (n - n % 26 + s) := by
  have hN : n < 26 := h
  refine run_sum 26 (fun n h => (outsAt0 m c n h).2.2.2 j) (part9 m c (j 1)) (fun n h e => ?_) (fun n h e => ?_) n h
  · have hn : n < 26 := h
    rw [outsAt0_A m c ⟨n, h⟩ e (by dsimp only; omega) e (by dsimp only; omega)]
    dsimp only
    frame_out
    exact pay8 m c ⟨n, h⟩ j
  · rw [outsAt0_B m c ⟨n, h⟩ e (by dsimp only; omega) e (by dsimp only; omega)]
    dsimp only
    frame_out
    exact (pay1_apply _ _ _).trans (congrArg (_ + ·) (pay8 m c ⟨n, h⟩ j))

/-- The results of the kernel. -/
def G (c : Dev nD) : S8320x2048.Idx → EReal := fun i =>
  dinput (arg0 m c) (arg1 m c) (arg4 m c) (arg5 m c) (arg2 m c) (i 0).val (i 1)

def G8 (c : Dev nD) : S1x2048.Idx → EReal := fun i =>
  ∑ r : Fin 8320, dscale (arg0 m c) (arg1 m c) (arg4 m c) (arg5 m c) (i 1) r.val

def G9 (c : Dev nD) : S1x2048.Idx → EReal := fun i => ∑ r : Fin 8320, dshift (arg4 m c) (arg5 m c) (i 1) r.val

/-- Rounding is the identity. -/
theorem pay11_apply (v5 : FVec Ideal S1x2048 .f32) (v10 v19 : FVec Ideal S320x2048 .f32) (v27 v30 : FVec Ideal S320x1 .f32) (j : S320x2048.Idx) :
    k0_pay11 v5 v10 v19 v27 v30 j = k0_pay10 v5 v10 v19 v27 v30 j := rfl

/-- What every point writes of the gradient of the input. -/
theorem out6 (c : Dev nD) (t : Fin cfg0.N) (j : S320x2048.Idx) : (outsAt0 m c t.val t.isLt).1 j
    = dinput (arg0 m c) (arg1 m c) (arg4 m c) (arg5 m c) (arg2 m c) (t.val * 320 + (j 0).val) (j 1) := by
  have hN : t.val < 26 := t.isLt
  by_cases e : t.val % 26 = 0
  · rw [outsAt0_A m c t e (by omega) e (by omega)]
    dsimp only
    frame_out
    exact point m c t j
  · rw [outsAt0_B m c t e (by omega) e (by omega)]
    dsimp only
    frame_out
    exact point m c t j

theorem out7 (c : Dev nD) (t : Fin cfg0.N) (j : S320x2048.Idx) : (outsAt0 m c t.val t.isLt).2.1 j
    = dinput (arg0 m c) (arg1 m c) (arg4 m c) (arg5 m c) (arg2 m c) (t.val * 320 + (j 0).val) (j 1) := by
  have hN : t.val < 26 := t.isLt
  by_cases e : t.val % 26 = 0
  · rw [outsAt0_A m c t e (by omega) e (by omega)]
    dsimp only
    frame_out
    exact (pay11_apply _ _ _ _ _ _).trans (point m c t j)
  · rw [outsAt0_B m c t e (by omega) e (by omega)]
    dsimp only
    frame_out
    exact (pay11_apply _ _ _ _ _ _).trans (point m c t j)

/-- The arrays end holding the gradients. -/
theorem final6 (c : Dev nD) : (dats m 0 c).arrAt 6 cfg0.N = (G m c : Buf (Elt Ideal) ((c : Thread nD τ).loc main_v2_0)) := by
  refine (dats m 0 c).arrAt_eq_of_covers 6 _ (by decide +kernel) fun t hf y => ?_
  obtain ⟨_, _, _, _, ⟨e0, e1⟩, _, _, _, _⟩ := idx t
  blk_simp
  rw [after0_6]
  refine (out6 m c t _).trans (congrArg₂ (dinput _ _ _ _ _) ?_ (Fin.ext ?_))
  · show _ = win0_6.index t 0 * 320 + 1 * (y 0).val; rw [e0, one_mul]
  · show _ = win0_6.index t 1 * 2048 + 1 * (y 1).val; rw [e1, zero_mul, zero_add, one_mul]

theorem final7 (c : Dev nD) : (dats m 0 c).arrAt 7 cfg0.N = (G m c : Buf (Elt Ideal) ((c : Thread nD τ).loc main_v2_1)) := by
  refine (dats m 0 c).arrAt_eq_of_covers 7 _ (by decide +kernel) fun t hf y => ?_
  obtain ⟨_, _, _, _, _, ⟨e0, e1⟩, _, _, _⟩ := idx t
  blk_simp
  rw [after0_7]
  refine (out7 m c t _).trans (congrArg₂ (dinput _ _ _ _ _) ?_ (Fin.ext ?_))
  · show _ = win0_7.index t 0 * 320 + 1 * (y 0).val; rw [e0, one_mul]
  · show _ = win0_7.index t 1 * 2048 + 1 * (y 1).val; rw [e1, zero_mul, zero_add, one_mul]

theorem final8 (c : Dev nD) : (dats m 0 c).arrAt 8 cfg0.N = (G8 m c : Buf (Elt Ideal) ((c : Thread nD τ).loc main_v2_2)) := by
  refine (dats m 0 c).arrAt_eq_of_covers 8 _ (by decide +kernel) fun t hf y => ?_
  obtain ⟨_, _, _, _, _, _, _, e1, _⟩ := idx t
  have hl := last8 t hf
  blk_simp
  rw [after0_8]
  refine (acc8 m c _ t.val t.isLt).trans ?_
  rw [hl]
  refine Eq.trans (Finset.sum_congr rfl fun s _ => congrArg (part8 m c _) (show 25 - 25 % 26 + s = s by omega)) ?_
  refine (sum_blocks (fun r => dscale (arg0 m c) (arg1 m c) (arg4 m c) (arg5 m c) _ r) 320 26).trans (Finset.sum_congr rfl fun r _ => congrArg (dscale (arg0 m c) (arg1 m c) (arg4 m c) (arg5 m c) · r.val) (Fin.ext ?_))
  show _ = win0_8.index t 1 * 2048 + 1 * (y 1).val
  rw [e1, zero_mul, zero_add, one_mul]

theorem final9 (c : Dev nD) : (dats m 0 c).arrAt 9 cfg0.N = (G9 m c : Buf (Elt Ideal) ((c : Thread nD τ).loc main_v2_3)) := by
  refine (dats m 0 c).arrAt_eq_of_covers 9 _ (by decide +kernel) fun t hf y => ?_
  obtain ⟨_, _, _, _, _, _, _, _, e1⟩ := idx t
  have hl := last9 t hf
  blk_simp
  rw [after0_9]
  refine (acc9 m c _ t.val t.isLt).trans ?_
  rw [hl]
  refine Eq.trans (Finset.sum_congr rfl fun s _ => congrArg (part9 m c _) (show 25 - 25 % 26 + s = s by omega)) ?_
  refine (sum_blocks (fun r => dshift (arg4 m c) (arg5 m c) _ r) 320 26).trans (Finset.sum_congr rfl fun r _ => congrArg (dshift (arg4 m c) (arg5 m c) · r.val) (Fin.ext ?_))
  show _ = win0_9.index t 1 * 2048 + 1 * (y 1).val
  rw [e1, zero_mul, zero_add, one_mul]

/-- What the kernel leaves. -/
theorem run : θ_run defs (onTc (τ := τ) (main (F := Ideal))) ⟨m, fun _ => 0, ρ⟩ fun r => ∀ c : Dev nD,
    r.2.mem ((c : Thread nD τ).loc main_v2_0) = G m c
      ∧ r.2.mem ((c : Thread nD τ).loc main_v2_1) = G m c
      ∧ r.2.mem ((c : Thread nD τ).loc main_v2_2) = G8 m c
      ∧ r.2.mem ((c : Thread nD τ).loc main_v2_3) = G9 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run _ _ _).mono (fun _ h c => ⟨(h c).1.trans (final6 m c), (h c).2.1.trans (final7 m c), (h c).2.2.1.trans (final8 m c),
    (h c).2.2.2.1.trans (final9 m c), (h c).2.2.2.2⟩) (run_blocks m ρ)

end Cert.KernelDlnIdeal.Prod

namespace Cert.ReferenceDlnIdeal.Prod

open Cert.ReferenceDlnIdeal Cert.ReferenceDlnIdeal.Gen Cert.ReferenceDlnIdeal.Read

variable (x0 x1 : Vec Ideal S8320x2048 .f32) (x2 : Vec Ideal S2048 .f32) (x4 x5 : Vec Ideal S8320x2048 .f32)

/-- The row `r` of `α·h + mo`, and of the gradient that comes in. -/
abbrev row (x0 x1 : Vec Ideal S8320x2048 .f32) (r : ℕ) : Fin 2048 → EReal := resid (rowOf x0 r) (rowOf x1 r)

/-- The gradient of the normed entries of row `r`. -/
abbrev rowd (r : ℕ) : Fin 2048 → EReal := fun k => row x4 x5 r k * at' (S := S2048) x2 ![k.val]

/-- A sum that starts at zero. -/
theorem from_zero {a b : EReal} (h : a = b) : Ideal.ofBits .f32 0x00000000#32 + a = b := by
  rw [show Ideal.ofBits .f32 0x00000000#32 = 0 by simp [Ideal.ofBits, Ideal.ieee], zero_add, h]

/-- A column has one entry in a row. -/
theorem only_one (i : S8320x1.Idx) : (i 1).val = 0 := by
  have h : (i 1).val < 1 := (i 1).isLt
  omega

theorem v2_apply (i : S8320x2048.Idx) : val_main_v2 (F := Ideal) x0 x1 i = row x0 x1 (i 0).val (i 1) := by
  rw [val_main_v2_apply, val_main_v1_apply, val_main_v0_apply, val_main_cst_apply,
    eq_at' (S := S8320x2048) x0 i ![(i 0).val, (i 1).val] fun a => by fin_cases a <;> rfl,
    eq_at' (S := S8320x2048) x1 i ![(i 0).val, (i 1).val] fun a => by fin_cases a <;> rfl]
  rfl

theorem v34_apply (i : S8320x2048.Idx) : val_main_v34 (F := Ideal) x4 x5 i = row x4 x5 (i 0).val (i 1) := by
  rw [val_main_v34_apply, val_main_v33_apply, val_main_v32_apply, val_main_cst_7_apply,
    eq_at' (S := S8320x2048) x4 i ![(i 0).val, (i 1).val] fun a => by fin_cases a <;> rfl,
    eq_at' (S := S8320x2048) x5 i ![(i 0).val, (i 1).val] fun a => by fin_cases a <;> rfl]
  rfl

theorem v6_apply (i : S8320x1.Idx) : val_main_v6 (F := Ideal) x0 x1 i = rowMean (row x0 x1 (i 0).val) := by
  rw [val_main_v6_apply, val_main_v5_apply, val_main_v4_apply, val_main_v3_apply, val_main_cst_0_apply, val_main_cst_1_apply]
  simp only [v2_apply]
  exact congrArg (Ideal.div · _) (from_zero rfl)

theorem v8_apply (i : S8320x2048.Idx) : val_main_v8 (F := Ideal) x0 x1 i = centred (row x0 x1 (i 0).val) (i 1) := by
  rw [val_main_v8_apply, val_main_v7_apply, v2_apply, v6_apply]
  rfl

theorem v17_apply (i : S8320x2048.Idx) : val_main_v17 (F := Ideal) x0 x1 i = centred (row x0 x1 (i 0).val) (i 1) := by
  rw [val_main_v17_apply, val_main_v16_apply, v2_apply, v6_apply]
  rfl

theorem v19_apply (i : S8320x1.Idx) : val_main_v19 (F := Ideal) x0 x1 i = spread (row x0 x1 (i 0).val) := by
  rw [val_main_v19_apply, val_main_v18_apply, val_main_v15_apply, val_main_v14_apply, val_main_v13_apply, val_main_v12_apply,
    val_main_cst_3_apply, val_main_cst_4_apply, val_main_cst_5_apply]
  simp only [val_main_v9_apply, v8_apply]
  exact congrArg (Ideal.div · _ + _) (from_zero rfl)

theorem v20_apply (i : S8320x1.Idx) : val_main_v20 (F := Ideal) x0 x1 i = Ideal.rsqrt (spread (row x0 x1 (i 0).val)) := by
  rw [val_main_v20_apply, v19_apply]
  rfl

theorem v42_apply (i : S8320x2048.Idx) : val_main_v42 (F := Ideal) x2 x4 x5 i = rowd x2 x4 x5 (i 0).val (i 1) := by
  rw [val_main_v42_apply, val_main_v41_apply, val_main_v26_apply, v34_apply,
    eq_at' (S := S2048) x2 _ ![(i 1).val] fun a => by fin_cases a; rfl]
  rfl

theorem v48_apply (i : S8320x2048.Idx) : val_main_v48 (F := Ideal) x0 x1 x2 x4 x5 i
    = rowd x2 x4 x5 (i 0).val (i 1) * Ideal.rsqrt (spread (row x0 x1 (i 0).val)) := by
  rw [val_main_v48_apply, val_main_v47_apply, v42_apply, v20_apply]
  rfl

theorem v54_apply (i : S8320x1.Idx) : val_main_v54 (F := Ideal) x0 x1 x2 x4 x5 i
    = dspread (row x0 x1 (i 0).val) (rowd x2 x4 x5 (i 0).val) := by
  rw [val_main_v54_apply, val_main_v53_apply, val_main_v49_apply, val_main_v46_apply, val_main_v45_apply, val_main_v23_apply,
    val_main_v22_apply, val_main_v21_apply, v19_apply, v20_apply, val_main_cst_12_apply, val_main_cst_14_apply, val_main_cst_6_apply]
  have h1 := only_one i
  simp only [val_main_v44_apply, v17_apply, v42_apply, h1, mul_one, add_zero]
  exact congrArg (Ideal.div · _) (congrArg (· * _) (from_zero rfl))

theorem v57_apply (i : S8320x2048.Idx) : val_main_v57 (F := Ideal) x0 x1 x2 x4 x5 i
    = dspread (row x0 x1 (i 0).val) (rowd x2 x4 x5 (i 0).val) * (Ideal.ofBits .f32 0x40000000#32 * centred (row x0 x1 (i 0).val) (i 1)) := by
  rw [val_main_v57_apply, val_main_v56_apply, val_main_v55_apply, val_main_v11_apply, val_main_v10_apply, v8_apply, val_main_cst_2_apply,
    val_main_cst_15_apply, Fin.sum_univ_one, v54_apply]
  exact congrArg (· * _) (from_zero rfl)

theorem v64_apply (i : S8320x1.Idx) : val_main_v64 (F := Ideal) x0 x1 x2 x4 x5 i
    = Ideal.div ((∑ j, -(rowd x2 x4 x5 (i 0).val j * Ideal.rsqrt (spread (row x0 x1 (i 0).val))))
      + ∑ j, -(dspread (row x0 x1 (i 0).val) (rowd x2 x4 x5 (i 0).val)
        * (Ideal.ofBits .f32 0x40000000#32 * centred (row x0 x1 (i 0).val) j))) (Ideal.ofBits .f32 0x45000000#32) := by
  rw [val_main_v64_apply, val_main_v63_apply, val_main_v62_apply, val_main_v60_apply, val_main_v59_apply, val_main_v52_apply,
    val_main_v51_apply, val_main_cst_13_apply, val_main_cst_16_apply, val_main_cst_17_apply]
  have h1 := only_one i
  simp only [val_main_v50_apply, val_main_v58_apply, v48_apply, v57_apply, h1, mul_one, add_zero]
  exact congrArg (Ideal.div · _) (congrArg₂ (· + ·) (from_zero rfl) (from_zero rfl))

/-- The reference's gradient of the input at an index, where the gradient that comes in and the scale are real. -/
theorem v67_apply (hd : ∀ r k, ∃ y : ℝ, rowd x2 x4 x5 r k = y) (i : S8320x2048.Idx) :
    val_main_v67 (F := Ideal) x0 x1 x2 x4 x5 i = dinput x0 x1 x4 x5 x2 (i 0).val (i 1) := by
  rw [val_main_v67_apply, val_main_v66_apply, val_main_v65_apply, val_main_v61_apply, v48_apply, v57_apply, val_main_cst_18_apply,
    Fin.sum_univ_one, v64_apply]
  exact (congrArg (_ + ·) (from_zero rfl)).trans (dnormed_eq (row x0 x1 (i 0).val) (rowd x2 x4 x5 (i 0).val) (hd _) (i 1))

/-- The reference's gradients of scale and shift at an index. -/
theorem v69_apply (i : S1x2048.Idx) : val_main_v69 (F := Ideal) x0 x1 x4 x5 i = ∑ r : Fin 8320, dscale x0 x1 x4 x5 (i 1) r.val := by
  rw [val_main_v69_apply, val_main_v43_apply, Fin.sum_univ_one, val_main_v40_apply, val_main_v39_apply, val_main_cst_10_apply,
    val_main_cst_11_apply]
  simp only [val_main_v38_apply, val_main_v25_apply, val_main_v24_apply, v17_apply, v20_apply, v34_apply]
  refine from_zero (from_zero (Finset.sum_congr rfl fun r _ => congrArg (dscale x0 x1 x4 x5 · r.val) (Fin.ext ?_)))
  simp [idx_main_v69, idx_main_v43, idx_main_v40, idx_main_v39]

theorem v70_apply (i : S1x2048.Idx) : val_main_v70 (F := Ideal) x4 x5 i = ∑ r : Fin 8320, dshift x4 x5 (i 1) r.val := by
  rw [val_main_v70_apply, val_main_v37_apply, Fin.sum_univ_one, val_main_v36_apply, val_main_v35_apply, val_main_cst_8_apply,
    val_main_cst_9_apply]
  simp only [v34_apply]
  refine from_zero (from_zero (Finset.sum_congr rfl fun r _ => congrArg (dshift x4 x5 · r.val) (Fin.ext ?_)))
  simp [idx_main_v70, idx_main_v37, idx_main_v36, idx_main_v35]

/-- The precondition, read: the gradient of the normed entries is real. -/
theorem pre [Cert.Pre_finite_grad.Facts] (x3 : Vec Ideal S2048 .f32)
    (h : Cert.Pre_finite_grad.fn (F := Ideal) x0 x1 x2 x3 x4 x5 = fun _ => 1#1) (r : ℕ) (k : Fin 2048) :
    ∃ y : ℝ, rowd x2 x4 x5 r k = y := by
  have e := congrFun h fun a => a.elim0
  simp only [Cert.Pre_finite_grad.fn] at e
  obtain ⟨e01, e5⟩ := IntOp.andi_eq_one.1 e
  obtain ⟨e2, e4⟩ := IntOp.andi_eq_one.1 e01
  haveI : Subsingleton (Shape.Idx ⟨0, ![]⟩) := ⟨fun x y => funext fun a => a.elim0⟩
  have zero : ∃ y : ℝ, (0 : EReal) = y := ⟨0, EReal.coe_zero.symm⟩
  have h2 : ∃ y : ℝ, at' (S := S2048) x2 ![k.val] = y := by
    unfold at'
    split
    · exact real_of_abs_lt (Host.reduce_andi_all _ _ _ _ _ e2 _)
    · exact zero
  have h4 : ∃ y : ℝ, rowOf x4 r k = y := by
    unfold rowOf at'
    split
    · exact real_of_abs_lt (Host.reduce_andi_all _ _ _ _ _ e4 _)
    · exact zero
  have h5 : ∃ y : ℝ, rowOf x5 r k = y := by
    unfold rowOf at'
    split
    · exact real_of_abs_lt (Host.reduce_andi_all _ _ _ _ _ e5 _)
    · exact zero
  obtain ⟨a, ha⟩ := alpha_real
  obtain ⟨y2, h2⟩ := h2
  obtain ⟨y4, h4⟩ := h4
  obtain ⟨y5, h5⟩ := h5
  exact ⟨(a * y4 + y5) * y2, by unfold rowd row resid; rw [ha, h2, h4, h5, EReal.coe_mul, EReal.coe_add, EReal.coe_mul]⟩

end Cert.ReferenceDlnIdeal.Prod

namespace Cert.Proof

/-- The kernel and the reference compute the same gradients, where the gradient that comes in and the scale are finite. -/
theorem algebraic_dln [Cert.Pre_finite_grad.Facts] : Cert.algebraic_KernelDlnIdeal_ReferenceDlnIdeal_pre_finite_grad := by
  intro m ρ m' ρ' hpre hag
  refine ⟨fun c => Cert.KernelDlnIdeal.Prod.G m c, fun c => Cert.KernelDlnIdeal.Prod.G m c, fun c => Cert.KernelDlnIdeal.Prod.G8 m c,
    fun c => Cert.KernelDlnIdeal.Prod.G9 m c, Cert.KernelDlnIdeal.Prod.run m ρ,
    (θ_run _ _ _).mono (fun r h c => ⟨(h c).1.trans ?_, (h c).2.1.trans ?_, (h c).2.2.1.trans ?_, (h c).2.2.2.1.trans ?_, (h c).2.2.2.2⟩)
      (Cert.ReferenceDlnIdeal.Value.run (F := Ideal) m' ρ')⟩
  · rw [Cert.ReferenceDlnIdeal.Read.val_main_v67_eq, (hag c).1, (hag c).2.1, (hag c).2.2.1, (hag c).2.2.2.2.1, (hag c).2.2.2.2.2]
    funext i
    exact Cert.ReferenceDlnIdeal.Prod.v67_apply _ _ _ _ _ (Cert.ReferenceDlnIdeal.Prod.pre _ _ _ _ _ _ (hpre c)) i
  · rw [Cert.ReferenceDlnIdeal.Read.val_main_v68_eq, (hag c).1, (hag c).2.1, (hag c).2.2.1, (hag c).2.2.2.2.1, (hag c).2.2.2.2.2]
    funext i
    exact Cert.ReferenceDlnIdeal.Prod.v67_apply _ _ _ _ _ (Cert.ReferenceDlnIdeal.Prod.pre _ _ _ _ _ _ (hpre c)) i
  · rw [(hag c).1, (hag c).2.1, (hag c).2.2.2.2.1, (hag c).2.2.2.2.2]
    funext i
    rw [Cert.ReferenceDlnIdeal.Read.val_main_v69_eq]
    exact Cert.ReferenceDlnIdeal.Prod.v69_apply _ _ _ _ i
  · rw [(hag c).2.2.2.2.1, (hag c).2.2.2.2.2]
    funext i
    rw [Cert.ReferenceDlnIdeal.Read.val_main_v70_eq]
    exact Cert.ReferenceDlnIdeal.Prod.v70_apply _ _ i

end Cert.Proof

end
-- ==== Proof.Ln.lean ====
/- The post-norm of a residual block: the layer norm of `α·h + mo`, row by row. -/
module

public import proofs.«01_k».proof.Proof.Norm
public import proofs.«01_k».proof.Defs
public import proofs.«01_k».proof.Proof.Gen.KernelLnIdeal.Value
public import proofs.«01_k».proof.Proof.Gen.ReferenceLnIdeal.Read
public import Idealize.ShloMosaic.Lib.Pointwise
public import Idealize.ShloMosaic.Lib.Tactic
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem Cert.Blocks

namespace Cert.KernelLnIdeal.Prod

open Cert.KernelLnIdeal Cert.KernelLnIdeal.Gen Cert.KernelLnIdeal.Value

variable (m : (ℓ : Loc nD τ sig) → Buf (Elt Ideal) ℓ) (ρ : Dev nD → PrngReg)

/-- Which blocks point `t` reads and writes. -/
theorem idx : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- What a point computes, at an index. -/
theorem pay1_apply (x0 x1 : Vec Ideal S320x2048 .f32) (x2 x3 : Vec Ideal S1x2048 .f32) (j : S320x2048.Idx) :
    k0_pay1 x0 x1 x2 x3 j = normed (resid (fun k => x0 (ValueIdx.ix2 (j 0) k)) fun k => x1 (ValueIdx.ix2 (j 0) k))
      (fun k => x2 (ValueIdx.ix2 0 k)) (fun k => x3 (ValueIdx.ix2 0 k)) (j 1) := by
  unfold k0_pay1 normed spread centred rowMean resid
  idx_vars j
  pointwise
  rfl

/-- Rounding is the identity. -/
theorem pay2_apply (x0 x1 : Vec Ideal S320x2048 .f32) (x2 x3 : Vec Ideal S1x2048 .f32) (j : S320x2048.Idx) :
    k0_pay2 x0 x1 x2 x3 j = k0_pay1 x0 x1 x2 x3 j := rfl

/-- A block of `h` or of `mo` at point `t`, element by element. -/
theorem iblk0 (c : Dev nD) (t : Fin cfg0.N) (j : S320x2048.Idx) : (iblk m c 0 t : Vec Ideal S320x2048 .f32) j
    = at' (S := S8320x2048) (m ((c : Thread nD τ).loc main_arg0)) ![t.val * 320 + (j 0).val, (j 1).val] := by
  obtain ⟨e0, e1, -⟩ := idx t
  unfold iblk
  rw [View.read_apply]
  refine (congrFun (V_main_arg0 m c) _).trans (eq_at' (S := S8320x2048) _ _ _ fun a => ?_)
  match a with
  | ⟨0, _⟩ => show win0_0.index t 0 * 320 + 1 * (j 0).val = _; rw [e0, one_mul]; rfl
  | ⟨1, _⟩ => show win0_0.index t 1 * 2048 + 1 * (j 1).val = _; rw [e1, zero_mul, zero_add, one_mul]; rfl

theorem iblk1 (c : Dev nD) (t : Fin cfg0.N) (j : S320x2048.Idx) : (iblk m c 1 t : Vec Ideal S320x2048 .f32) j
    = at' (S := S8320x2048) (m ((c : Thread nD τ).loc main_arg1)) ![t.val * 320 + (j 0).val, (j 1).val] := by
  obtain ⟨-, -, e0, e1, -⟩ := idx t
  unfold iblk
  rw [View.read_apply]
  refine (congrFun (V_main_arg1 m c) _).trans (eq_at' (S := S8320x2048) _ _ _ fun a => ?_)
  match a with
  | ⟨0, _⟩ => show win0_1.index t 0 * 320 + 1 * (j 0).val = _; rw [e0, one_mul]; rfl
  | ⟨1, _⟩ => show win0_1.index t 1 * 2048 + 1 * (j 1).val = _; rw [e1, zero_mul, zero_add, one_mul]; rfl

/-- The host lays scale and shift out as rows. -/
theorem laid0 (c : Dev nD) (i : S1x2048.Idx) : (V m c main_v0 : Vec Ideal S1x2048 .f32) i
    = at' (S := S2048) (m ((c : Thread nD τ).loc main_arg2)) ![(i 1).val] := by
  unfold_abbrev_sides
  after_results
  idx_vars i
  pointwise
  exact eq_at' (S := S2048) _ _ _ fun a => by fin_cases a; rfl

theorem laid1 (c : Dev nD) (i : S1x2048.Idx) : (V m c main_v1 : Vec Ideal S1x2048 .f32) i
    = at' (S := S2048) (m ((c : Thread nD τ).loc main_arg3)) ![(i 1).val] := by
  unfold_abbrev_sides
  after_results
  idx_vars i
  pointwise
  exact eq_at' (S := S2048) _ _ _ fun a => by fin_cases a; rfl

theorem iblk2 (c : Dev nD) (t : Fin cfg0.N) (j : S1x2048.Idx) : (iblk m c 2 t : Vec Ideal S1x2048 .f32) j
    = at' (S := S2048) (m ((c : Thread nD τ).loc main_arg2)) ![(j 1).val] := by
  obtain ⟨-, -, -, -, -, e1, -⟩ := idx t
  unfold iblk
  rw [View.read_apply]
  refine (laid0 m c _).trans ?_
  show at' (S := S2048) _ ![win0_2.index t 1 * 2048 + 1 * (j 1).val] = _
  rw [e1, zero_mul, zero_add, one_mul]

theorem iblk3 (c : Dev nD) (t : Fin cfg0.N) (j : S1x2048.Idx) : (iblk m c 3 t : Vec Ideal S1x2048 .f32) j
    = at' (S := S2048) (m ((c : Thread nD τ).loc main_arg3)) ![(j 1).val] := by
  obtain ⟨-, -, -, -, -, -, -, e1, -⟩ := idx t
  unfold iblk
  rw [View.read_apply]
  refine (laid1 m c _).trans ?_
  show at' (S := S2048) _ ![win0_3.index t 1 * 2048 + 1 * (j 1).val] = _
  rw [e1, zero_mul, zero_add, one_mul]

/-- The element `(r, k)` of the norm of `α·h + mo`, with scale `g` and shift `b`. -/
def entry (h mo : S8320x2048.Idx → EReal) (g b : S2048.Idx → EReal) (r : ℕ) (k : Fin 2048) : EReal :=
  normed (resid (fun k => at' h ![r, k.val]) fun k => at' mo ![r, k.val]) (fun k => at' g ![k.val]) (fun k => at' b ![k.val]) k

/-- The result of the kernel. -/
def G (c : Dev nD) : S8320x2048.Idx → EReal := fun i =>
  entry (m ((c : Thread nD τ).loc main_arg0)) (m ((c : Thread nD τ).loc main_arg1)) (m ((c : Thread nD τ).loc main_arg2))
    (m ((c : Thread nD τ).loc main_arg3)) (i 0).val (i 1)

/-- What point `t` computes from its blocks. -/
theorem point (c : Dev nD) (t : Fin cfg0.N) (j : S320x2048.Idx) :
    k0_pay1 (iblk m c 0 t) (iblk m c 1 t) (iblk m c 2 t) (iblk m c 3 t) j
      = entry (m ((c : Thread nD τ).loc main_arg0)) (m ((c : Thread nD τ).loc main_arg1)) (m ((c : Thread nD τ).loc main_arg2))
        (m ((c : Thread nD τ).loc main_arg3)) (t.val * 320 + (j 0).val) (j 1) := by
  refine (pay1_apply _ _ _ _ j).trans ?_
  unfold entry
  simp only [iblk0, iblk1, iblk2, iblk3]

/-- Both arrays end holding the norm. -/
theorem final4 (c : Dev nD) : (dats m 0 c).arrAt 4 cfg0.N = (G m c : Buf (Elt Ideal) ((c : Thread nD τ).loc main_v2_0)) := by
  refine (dats m 0 c).arrAt_eq_of_covers 4 _ (by decide +kernel) fun t hf y => ?_
  obtain ⟨-, -, -, -, -, -, -, -, e0, e1, -⟩ := idx t
  blk_simp
  rw [after0_4]
  unfold out0_4
  frame_out
  refine (point m c t _).trans ?_
  refine congrArg₂ (entry _ _ _ _) ?_ (Fin.ext ?_)
  · show _ = win0_4.index t 0 * 320 + 1 * (y 0).val; rw [e0, one_mul]
  · show _ = win0_4.index t 1 * 2048 + 1 * (y 1).val; rw [e1, zero_mul, zero_add, one_mul]

theorem final5 (c : Dev nD) : (dats m 0 c).arrAt 5 cfg0.N = (G m c : Buf (Elt Ideal) ((c : Thread nD τ).loc main_v2_1)) := by
  refine (dats m 0 c).arrAt_eq_of_covers 5 _ (by decide +kernel) fun t hf y => ?_
  obtain ⟨-, -, -, -, -, -, -, -, -, -, e0, e1⟩ := idx t
  blk_simp
  rw [after0_5]
  unfold out0_5
  frame_out
  refine (pay2_apply _ _ _ _ _).trans ((point m c t _).trans ?_)
  refine congrArg₂ (entry _ _ _ _) ?_ (Fin.ext ?_)
  · show _ = win0_5.index t 0 * 320 + 1 * (y 0).val; rw [e0, one_mul]
  · show _ = win0_5.index t 1 * 2048 + 1 * (y 1).val; rw [e1, zero_mul, zero_add, one_mul]

/-- What the kernel leaves. -/
theorem run : θ_run defs (onTc (τ := τ) (main (F := Ideal))) ⟨m, fun _ => 0, ρ⟩ fun r => ∀ c : Dev nD,
    r.2.mem ((c : Thread nD τ).loc main_v2_0) = G m c
      ∧ r.2.mem ((c : Thread nD τ).loc main_v2_1) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run _ _ _).mono (fun _ h c => ⟨(h c).1.trans (final4 m c), (h c).2.1.trans (final5 m c), (h c).2.2⟩) (run_blocks m ρ)

end Cert.KernelLnIdeal.Prod

namespace Cert.ReferenceLnIdeal.Prod

open Cert.ReferenceLnIdeal Cert.ReferenceLnIdeal.Gen Cert.ReferenceLnIdeal.Read

/-- The row of `α·h + mo` that an element of the reference lies in. -/
abbrev row (x0 x1 : Vec Ideal S8320x2048 .f32) (r : ℕ) : Fin 2048 → EReal :=
  resid (fun k => at' (S := S8320x2048) x0 ![r, k.val]) fun k => at' (S := S8320x2048) x1 ![r, k.val]

theorem v2_apply (x0 x1 : Vec Ideal S8320x2048 .f32) (i : S8320x2048.Idx) :
    val_main_v2 (F := Ideal) x0 x1 i = row x0 x1 (i 0).val (i 1) := by
  rw [val_main_v2_apply, val_main_v1_apply, val_main_v0_apply, val_main_cst_apply]
  unfold row resid
  rw [eq_at' (S := S8320x2048) x0 i ![(i 0).val, (i 1).val] fun a => by fin_cases a <;> rfl,
    eq_at' (S := S8320x2048) x1 i ![(i 0).val, (i 1).val] fun a => by fin_cases a <;> rfl]
  rfl

theorem v6_apply (x0 x1 : Vec Ideal S8320x2048 .f32) (i : S8320x1.Idx) :
    val_main_v6 (F := Ideal) x0 x1 i = rowMean (row x0 x1 (i 0).val) := by
  rw [val_main_v6_apply, val_main_v5_apply, val_main_v4_apply, val_main_v3_apply, val_main_cst_0_apply, val_main_cst_1_apply]
  simp only [v2_apply]
  exact congrArg (Ideal.div · _) ((congrArg (· + _) (by simp [Ideal.ofBits, Ideal.ieee])).trans (zero_add _))

theorem v15_apply (x0 x1 : Vec Ideal S8320x2048 .f32) (i : S8320x2048.Idx) :
    val_main_v15 (F := Ideal) x0 x1 i = centred (row x0 x1 (i 0).val) (i 1) := by
  rw [val_main_v15_apply, val_main_v14_apply, v2_apply, v6_apply]
  rfl

theorem v17_apply (x0 x1 : Vec Ideal S8320x2048 .f32) (i : S8320x1.Idx) :
    val_main_v17 (F := Ideal) x0 x1 i = spread (row x0 x1 (i 0).val) := by
  rw [val_main_v17_apply, val_main_v16_apply, val_main_v13_apply, val_main_v12_apply, val_main_v11_apply, val_main_v10_apply,
    val_main_cst_2_apply, val_main_cst_3_apply, val_main_cst_4_apply]
  simp only [val_main_v9_apply, val_main_v8_apply, val_main_v7_apply, v2_apply, v6_apply]
  exact congrArg (Ideal.div · _ + _) ((congrArg (· + _) (by simp [Ideal.ofBits, Ideal.ieee])).trans (zero_add _))

/-- The reference's result at an index. -/
theorem ref_apply (x0 x1 : Vec Ideal S8320x2048 .f32) (x2 x3 : Vec Ideal S2048 .f32) (i : S8320x2048.Idx) :
    val_main_v26 (F := Ideal) x0 x1 x2 x3 i = Cert.KernelLnIdeal.Prod.entry x0 x1 x2 x3 (i 0).val (i 1) := by
  rw [val_main_v26_apply, val_main_v25_apply, val_main_v24_apply, val_main_v23_apply, val_main_v22_apply, val_main_v21_apply,
    val_main_v20_apply, val_main_v19_apply, val_main_v18_apply, v17_apply, v15_apply,
    eq_at' (S := S2048) x2 _ ![(i 1).val] fun a => by fin_cases a; rfl,
    eq_at' (S := S2048) x3 _ ![(i 1).val] fun a => by fin_cases a; rfl]
  rfl

end Cert.ReferenceLnIdeal.Prod

namespace Cert.Proof

/-- The kernel and the reference compute the same norm. -/
theorem algebraic_ln : Cert.algebraic_KernelLnIdeal_ReferenceLnIdeal := by
  intro m ρ m' ρ' _ hag
  refine ⟨fun c => Cert.KernelLnIdeal.Prod.G m c, fun c => Cert.KernelLnIdeal.Prod.G m c, Cert.KernelLnIdeal.Prod.run m ρ,
    (θ_run _ _ _).mono (fun r h c => ⟨(h c).1.trans ?_, (h c).2.1.trans ?_, (h c).2.2⟩)
      (Cert.ReferenceLnIdeal.Value.run (F := Ideal) m' ρ')⟩ <;>
    rw [(hag c).1, (hag c).2.1, (hag c).2.2.1, (hag c).2.2.2] <;> funext i
  · rw [Cert.ReferenceLnIdeal.Read.val_main_v26_eq]
    exact Cert.ReferenceLnIdeal.Prod.ref_apply _ _ _ _ i
  · rw [Cert.ReferenceLnIdeal.Read.val_main_v27_eq]
    exact (Cert.ReferenceLnIdeal.Prod.ref_apply _ _ _ _ i)

end Cert.Proof

end
-- ==== Proof.Act.lean ====
/- The SwiGLU gate: the up half of `gu`, times the gate half and its logistic. -/
module

public import proofs.«01_k».proof.Proof.Gate
public import proofs.«01_k».proof.Defs
public import proofs.«01_k».proof.Proof.Gen.KernelActIdeal.Value
public import proofs.«01_k».proof.Proof.Gen.ReferenceActIdeal.Read
public import Idealize.ShloMosaic.Lib.Pointwise
public import Idealize.ShloMosaic.Lib.Tactic
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem Cert.Blocks

namespace Cert.Blocks

/-- The gated value, from the gate `g` and the up half `u`. -/
def gated (g u : EReal) : EReal := g * logis g * u

end Cert.Blocks

namespace Cert.KernelActIdeal.Prod

open Cert.KernelActIdeal Cert.KernelActIdeal.Gen Cert.KernelActIdeal.Value

variable (m : (ℓ : Loc nD τ sig) → Buf (Elt Ideal) ℓ) (ρ : Dev nD → PrngReg)

/-- Which blocks point `t` reads and writes. -/
theorem idx : ∀ t : Fin cfg0.N, win0_0.index t (0 : Fin 2) = t.val / 4 ∧ win0_0.index t (1 : Fin 2) = t.val % 4
    ∧ win0_1.index t (0 : Fin 2) = t.val / 4 ∧ win0_1.index t (1 : Fin 2) = t.val % 4 + 4
    ∧ win0_2.index t (0 : Fin 2) = t.val / 4 ∧ win0_2.index t (1 : Fin 2) = t.val % 4 :=
  (by decide +kernel : ∀ t : Fin grid0.N, _)

/-- What a point computes, at an index. -/
theorem pay1_apply (g u : Vec Ideal S640x1408 .bf16) (j : S640x1408.Idx) : k0_pay1 g u j = gated (g j) (u j) := by
  unfold k0_pay1 gated logis
  idx_vars j
  pointwise
  rw [zero_sub]

/-- The block of the gate half at point `t`, element by element. -/
theorem iblk0 (c : Dev nD) (t : Fin cfg0.N) (j : S640x1408.Idx) : (iblk m c 0 t : Vec Ideal S640x1408 .bf16) j
    = at' (S := S8320x11264) (m ((c : Thread nD τ).loc main_arg0)) ![t.val / 4 * 640 + (j 0).val, t.val % 4 * 1408 + (j 1).val] := by
  obtain ⟨e0, e1, -⟩ := idx t
  unfold iblk
  rw [View.read_apply]
  refine eq_at' (S := S8320x11264) _ _ _ fun a => ?_
  match a with
  | ⟨0, _⟩ => show win0_0.index t 0 * 640 + 1 * (j 0).val = _; rw [e0, one_mul]; rfl
  | ⟨1, _⟩ => show win0_0.index t 1 * 1408 + 1 * (j 1).val = _; rw [e1, one_mul]; rfl

/-- The block of the up half at point `t`, element by element. -/
theorem iblk1 (c : Dev nD) (t : Fin cfg0.N) (j : S640x1408.Idx) : (iblk m c 1 t : Vec Ideal S640x1408 .bf16) j
    = at' (S := S8320x11264) (m ((c : Thread nD τ).loc main_arg0)) ![t.val / 4 * 640 + (j 0).val, 5632 + (t.val % 4 * 1408 + (j 1).val)] := by
  obtain ⟨-, -, e0, e1, -⟩ := idx t
  unfold iblk
  rw [View.read_apply]
  refine eq_at' (S := S8320x11264) _ _ _ fun a => ?_
  match a with
  | ⟨0, _⟩ => show win0_1.index t 0 * 640 + 1 * (j 0).val = t.val / 4 * 640 + (j 0).val; rw [e0]; omega
  | ⟨1, _⟩ => show win0_1.index t 1 * 1408 + 1 * (j 1).val = 5632 + (t.val % 4 * 1408 + (j 1).val); rw [e1]; omega

/-- The result of the kernel. -/
def G (c : Dev nD) : S8320x5632.Idx → EReal := fun i =>
  gated (at' (S := S8320x11264) (m ((c : Thread nD τ).loc main_arg0)) ![(i 0).val, (i 1).val])
    (at' (S := S8320x11264) (m ((c : Thread nD τ).loc main_arg0)) ![(i 0).val, 5632 + (i 1).val])

/-- The array ends holding the gated values. -/
theorem final (c : Dev nD) : (dats m 0 c).arrAt 2 cfg0.N = (G m c : Buf (Elt Ideal) ((c : Thread nD τ).loc main_v0)) := by
  refine (dats m 0 c).arrAt_eq_of_covers 2 _ (by decide +kernel) fun t hf y => ?_
  obtain ⟨-, -, -, -, e0, e1⟩ := idx t
  blk_simp
  rw [after0_2]
  unfold out0_2
  frame_out
  refine (pay1_apply _ _ _).trans ?_
  rw [iblk0, iblk1]
  show _ = gated (at' (S := S8320x11264) _ ![win0_2.index t 0 * 640 + 1 * (y 0).val, win0_2.index t 1 * 1408 + 1 * (y 1).val])
    (at' (S := S8320x11264) _ ![win0_2.index t 0 * 640 + 1 * (y 0).val, 5632 + (win0_2.index t 1 * 1408 + 1 * (y 1).val)])
  rw [e0, e1, one_mul, one_mul]

/-- What the kernel leaves. -/
theorem run : θ_run defs (onTc (τ := τ) (main (F := Ideal))) ⟨m, fun _ => 0, ρ⟩ fun r => ∀ c : Dev nD,
    r.2.mem ((c : Thread nD τ).loc main_v0) = G m c
      ∧ r.2.mem ((c : Thread nD τ).loc main_arg0) = m ((c : Thread nD τ).loc main_arg0) :=
  (θ_run _ _ _).mono (fun _ h c => ⟨(h c).1.trans (final m c), (h c).2⟩) (run_blocks m ρ)

end Cert.KernelActIdeal.Prod

namespace Cert.ReferenceActIdeal.Prod

open Cert.ReferenceActIdeal Cert.ReferenceActIdeal.Gen Cert.ReferenceActIdeal.Read

/-- The reference's result at an index. -/
theorem ref_apply (x0 : Vec Ideal S8320x11264 .bf16) (i : S8320x5632.Idx) :
    val_main_v6 (F := Ideal) x0 i = gated (at' (S := S8320x11264) x0 ![(i 0).val, (i 1).val])
      (at' (S := S8320x11264) x0 ![(i 0).val, 5632 + (i 1).val]) := by
  idx_vars i
  rw [← eq_at' (S := S8320x11264) x0 (ix2 i0 ⟨i1.val, by omega⟩) ![i0.val, i1.val] fun a => by fin_cases a <;> rfl,
    ← eq_at' (S := S8320x11264) x0 (ix2 i0 ⟨5632 + i1.val, by omega⟩) ![i0.val, 5632 + i1.val] fun a => by fin_cases a <;> rfl]
  unfold gated logis
  unfold val_main_v6 val_main_v5 val_main_v4 val_main_call0_v5 val_main_call0_v4 val_main_call0_cst_0 val_main_call0_v3 val_main_call0_v2 val_main_call0_cst val_main_call0_v1 val_main_call0_v0 val_main_v3 val_main_v2 val_main_v1 val_main_v0
  pointwise

end Cert.ReferenceActIdeal.Prod

namespace Cert.Proof

/-- The kernel and the reference compute the same gated values. -/
theorem algebraic_act : Cert.algebraic_KernelActIdeal_ReferenceActIdeal := by
  intro m ρ m' ρ' _ hag
  refine ⟨fun c => Cert.KernelActIdeal.Prod.G m c, Cert.KernelActIdeal.Prod.run m ρ,
    (θ_run _ _ _).mono (fun r h c => ⟨(h c).1.trans ?_, (h c).2⟩) (Cert.ReferenceActIdeal.Value.run (F := Ideal) m' ρ')⟩
  rw [(hag c)]
  funext i
  rw [Cert.ReferenceActIdeal.Read.val_main_v6_eq]
  exact Cert.ReferenceActIdeal.Prod.ref_apply _ i

end Cert.Proof

end
-- ==== Proof.Dx.lean ====
/- The gradient of the step's input. -/
module

public import proofs.«01_k».proof.Defs
public import proofs.«01_k».proof.Proof.Gen.KernelDxIdeal.Value
public import proofs.«01_k».proof.Proof.Gen.ReferenceDxIdeal.Run
public import Idealize.ShloMosaic.Lib.Claim

@[expose] public section

noncomputable section

open Idealize.ShloMosaic Idealize.ShloMosaic.TcCoe Idealize.SL.Sem

namespace Cert.Proof

/-- The kernel and the reference add the residual's gradient and the mixer's in the same way. -/
theorem algebraic_dx : Cert.algebraic_KernelDxIdeal_ReferenceDxIdeal := by
  intro m ρ m' ρ' _ hag
  refine ⟨_, Cert.KernelDxIdeal.Value.run (F := Ideal) m ρ,
    (θ_run _ _ _).mono (fun r h c => ⟨(h c).1.trans ?_, (h c).2⟩) (Cert.ReferenceDxIdeal.Value.run (F := Ideal) m' ρ')⟩
  obtain ⟨h0, h1⟩ := hag c
  simp only [h0, h1] <;> rfl

end Cert.Proof

end
-- ==== Proof.OptShard.lean ====
/- AdamW of the sharded weights: at every index the kernel's blocks and the reference's arrays hold the same function of the two
   halves of the gradient, of the weight and of the moments. -/
module

public import proofs.«01_k».proof.Defs
public import proofs.«01_k».proof.Proof.Gen.KernelOptguIdeal.Value
public import proofs.«01_k».proof.Proof.Gen.ReferenceOptguIdeal.Run
public import proofs.«01_k».proof.Proof.Gen.KernelOptdownIdeal.Value
public import proofs.«01_k».proof.Proof.Gen.ReferenceOptdownIdeal.Run
public import proofs.«01_k».proof.Proof.Gen.KernelOptinIdeal.Value
public import proofs.«01_k».proof.Proof.Gen.ReferenceOptinIdeal.Run
public import proofs.«01_k».proof.Proof.Gen.KernelOptoutIdeal.Value
public import proofs.«01_k».proof.Proof.Gen.ReferenceOptoutIdeal.Run
public import proofs.«01_k».proof.Proof.Gen.KernelOptlinIdeal.Value
public import proofs.«01_k».proof.Proof.Gen.ReferenceOptlinIdeal.Run
public import proofs.«01_k».proof.Proof.Gen.KernelOptloutIdeal.Value
public import proofs.«01_k».proof.Proof.Gen.ReferenceOptloutIdeal.Run
public import proofs.«01_k».proof.Proof.Gen.KernelOptgluIdeal.Value
public import proofs.«01_k».proof.Proof.Gen.ReferenceOptgluIdeal.Run
public import proofs.«01_k».proof.Proof.Gen.KernelOptuqIdeal.Value
public import proofs.«01_k».proof.Proof.Gen.ReferenceOptuqIdeal.Run
public import proofs.«01_k».proof.Proof.Gen.KernelOptukvIdeal.Value
public import proofs.«01_k».proof.Proof.Gen.ReferenceOptukvIdeal.Run
public import Idealize.ShloMosaic.Lib.Claim

@[expose] public section

noncomputable section

open Idealize.ShloMosaic Idealize.ShloMosaic.TcCoe Idealize.SL.Sem

namespace Cert.Proof

/-- The update of w_gate and of w_up, in either layer. -/
theorem algebraic_optgu : Cert.algebraic_KernelOptguIdeal_ReferenceOptguIdeal := by
  intro m ρ m' ρ' _ hag
  refine ⟨_, _, _, _, Cert.KernelOptguIdeal.Value.run (F := Ideal) m ρ, (θ_run _ _ _).mono (fun r h c => ⟨(h c).1.trans ?_, (h c).2.1.trans ?_,
    (h c).2.2.1.trans ?_, (h c).2.2.2.1.trans ?_, (h c).2.2.2.2⟩) (Cert.ReferenceOptguIdeal.Value.run (F := Ideal) m' ρ')⟩
  all_goals
    obtain ⟨h0, h1, h2, h3, h4⟩ := hag c
    simp only [h0, h1, h2, h3, h4] <;> rfl

/-- The update of w_down, in either layer. -/
theorem algebraic_optdown : Cert.algebraic_KernelOptdownIdeal_ReferenceOptdownIdeal := by
  intro m ρ m' ρ' _ hag
  refine ⟨_, _, _, _, Cert.KernelOptdownIdeal.Value.run (F := Ideal) m ρ, (θ_run _ _ _).mono (fun r h c => ⟨(h c).1.trans ?_, (h c).2.1.trans ?_,
    (h c).2.2.1.trans ?_, (h c).2.2.2.1.trans ?_, (h c).2.2.2.2⟩) (Cert.ReferenceOptdownIdeal.Value.run (F := Ideal) m' ρ')⟩
  all_goals
    obtain ⟨h0, h1, h2, h3, h4⟩ := hag c
    simp only [h0, h1, h2, h3, h4] <;> rfl

/-- The update of the mamba mixer's w_in. -/
theorem algebraic_optin : Cert.algebraic_KernelOptinIdeal_ReferenceOptinIdeal := by
  intro m ρ m' ρ' _ hag
  refine ⟨_, _, _, _, Cert.KernelOptinIdeal.Value.run (F := Ideal) m ρ, (θ_run _ _ _).mono (fun r h c => ⟨(h c).1.trans ?_, (h c).2.1.trans ?_,
    (h c).2.2.1.trans ?_, (h c).2.2.2.1.trans ?_, (h c).2.2.2.2⟩) (Cert.ReferenceOptinIdeal.Value.run (F := Ideal) m' ρ')⟩
  all_goals
    obtain ⟨h0, h1, h2, h3, h4⟩ := hag c
    simp only [h0, h1, h2, h3, h4] <;> rfl

/-- The update of the mamba mixer's w_out. -/
theorem algebraic_optout : Cert.algebraic_KernelOptoutIdeal_ReferenceOptoutIdeal := by
  intro m ρ m' ρ' _ hag
  refine ⟨_, _, _, _, Cert.KernelOptoutIdeal.Value.run (F := Ideal) m ρ, (θ_run _ _ _).mono (fun r h c => ⟨(h c).1.trans ?_, (h c).2.1.trans ?_,
    (h c).2.2.1.trans ?_, (h c).2.2.2.1.trans ?_, (h c).2.2.2.2⟩) (Cert.ReferenceOptoutIdeal.Value.run (F := Ideal) m' ρ')⟩
  all_goals
    obtain ⟨h0, h1, h2, h3, h4⟩ := hag c
    simp only [h0, h1, h2, h3, h4] <;> rfl

/-- The update of layer 0's w_in. -/
theorem algebraic_optlin : Cert.algebraic_KernelOptlinIdeal_ReferenceOptlinIdeal := by
  intro m ρ m' ρ' _ hag
  refine ⟨_, _, _, _, Cert.KernelOptlinIdeal.Value.run (F := Ideal) m ρ, (θ_run _ _ _).mono (fun r h c => ⟨(h c).1.trans ?_, (h c).2.1.trans ?_,
    (h c).2.2.1.trans ?_, (h c).2.2.2.1.trans ?_, (h c).2.2.2.2⟩) (Cert.ReferenceOptlinIdeal.Value.run (F := Ideal) m' ρ')⟩
  all_goals
    obtain ⟨h0, h1, h2, h3, h4⟩ := hag c
    simp only [h0, h1, h2, h3, h4] <;> rfl

/-- The update of layer 0's w_out. -/
theorem algebraic_optlout : Cert.algebraic_KernelOptloutIdeal_ReferenceOptloutIdeal := by
  intro m ρ m' ρ' _ hag
  refine ⟨_, _, _, _, Cert.KernelOptloutIdeal.Value.run (F := Ideal) m ρ, (θ_run _ _ _).mono (fun r h c => ⟨(h c).1.trans ?_, (h c).2.1.trans ?_,
    (h c).2.2.1.trans ?_, (h c).2.2.2.1.trans ?_, (h c).2.2.2.2⟩) (Cert.ReferenceOptloutIdeal.Value.run (F := Ideal) m' ρ')⟩
  all_goals
    obtain ⟨h0, h1, h2, h3, h4⟩ := hag c
    simp only [h0, h1, h2, h3, h4] <;> rfl

/-- The update of the S5 mixer's w_glu. -/
theorem algebraic_optglu : Cert.algebraic_KernelOptgluIdeal_ReferenceOptgluIdeal := by
  intro m ρ m' ρ' _ hag
  refine ⟨_, _, _, _, Cert.KernelOptgluIdeal.Value.run (F := Ideal) m ρ, (θ_run _ _ _).mono (fun r h c => ⟨(h c).1.trans ?_, (h c).2.1.trans ?_,
    (h c).2.2.1.trans ?_, (h c).2.2.2.1.trans ?_, (h c).2.2.2.2⟩) (Cert.ReferenceOptgluIdeal.Value.run (F := Ideal) m' ρ')⟩
  all_goals
    obtain ⟨h0, h1, h2, h3, h4⟩ := hag c
    simp only [h0, h1, h2, h3, h4] <;> rfl

/-- The update of the attention's w_uq. -/
theorem algebraic_optuq : Cert.algebraic_KernelOptuqIdeal_ReferenceOptuqIdeal := by
  intro m ρ m' ρ' _ hag
  refine ⟨_, _, _, _, Cert.KernelOptuqIdeal.Value.run (F := Ideal) m ρ, (θ_run _ _ _).mono (fun r h c => ⟨(h c).1.trans ?_, (h c).2.1.trans ?_,
    (h c).2.2.1.trans ?_, (h c).2.2.2.1.trans ?_, (h c).2.2.2.2⟩) (Cert.ReferenceOptuqIdeal.Value.run (F := Ideal) m' ρ')⟩
  all_goals
    obtain ⟨h0, h1, h2, h3, h4⟩ := hag c
    simp only [h0, h1, h2, h3, h4] <;> rfl

/-- The update of the attention's w_ukv. -/
theorem algebraic_optukv : Cert.algebraic_KernelOptukvIdeal_ReferenceOptukvIdeal := by
  intro m ρ m' ρ' _ hag
  refine ⟨_, _, _, _, Cert.KernelOptukvIdeal.Value.run (F := Ideal) m ρ, (θ_run _ _ _).mono (fun r h c => ⟨(h c).1.trans ?_, (h c).2.1.trans ?_,
    (h c).2.2.1.trans ?_, (h c).2.2.2.1.trans ?_, (h c).2.2.2.2⟩) (Cert.ReferenceOptukvIdeal.Value.run (F := Ideal) m' ρ')⟩
  all_goals
    obtain ⟨h0, h1, h2, h3, h4⟩ := hag c
    simp only [h0, h1, h2, h3, h4] <;> rfl

end Cert.Proof

end
-- ==== Proof.OptWhole.lean ====
/- AdamW of the other weights, whose gradient arrives whole. -/
module

public import proofs.«01_k».proof.Defs
public import proofs.«01_k».proof.Proof.Gen.KernelOptmetaIdeal.Value
public import proofs.«01_k».proof.Proof.Gen.ReferenceOptmetaIdeal.Run
public import proofs.«01_k».proof.Proof.Gen.KernelOptconvIdeal.Value
public import proofs.«01_k».proof.Proof.Gen.ReferenceOptconvIdeal.Run
public import proofs.«01_k».proof.Proof.Gen.KernelOptflatIdeal.Value
public import proofs.«01_k».proof.Proof.Gen.ReferenceOptflatIdeal.Run
public import Idealize.ShloMosaic.Lib.Claim

@[expose] public section

noncomputable section

open Idealize.ShloMosaic Idealize.ShloMosaic.TcCoe Idealize.SL.Sem

namespace Cert.Proof

/-- The update of the meta tokens. -/
theorem algebraic_optmeta : Cert.algebraic_KernelOptmetaIdeal_ReferenceOptmetaIdeal := by
  intro m ρ m' ρ' _ hag
  refine ⟨_, _, _, _, Cert.KernelOptmetaIdeal.Value.run (F := Ideal) m ρ, (θ_run _ _ _).mono (fun r h c => ⟨(h c).1.trans ?_, (h c).2.1.trans ?_,
    (h c).2.2.1.trans ?_, (h c).2.2.2.1.trans ?_, (h c).2.2.2.2⟩) (Cert.ReferenceOptmetaIdeal.Value.run (F := Ideal) m' ρ')⟩
  all_goals
    obtain ⟨h0, h1, h2, h3⟩ := hag c
    simp only [h0, h1, h2, h3] <;> rfl

/-- The update of the convolution's weights. -/
theorem algebraic_optconv : Cert.algebraic_KernelOptconvIdeal_ReferenceOptconvIdeal := by
  intro m ρ m' ρ' _ hag
  refine ⟨_, _, _, _, Cert.KernelOptconvIdeal.Value.run (F := Ideal) m ρ, (θ_run _ _ _).mono (fun r h c => ⟨(h c).1.trans ?_, (h c).2.1.trans ?_,
    (h c).2.2.1.trans ?_, (h c).2.2.2.1.trans ?_, (h c).2.2.2.2⟩) (Cert.ReferenceOptconvIdeal.Value.run (F := Ideal) m' ρ')⟩
  all_goals
    obtain ⟨h0, h1, h2, h3⟩ := hag c
    simp only [h0, h1, h2, h3] <;> rfl

/-- The update of the weights that every device holds, in one flat array. -/
theorem algebraic_optflat : Cert.algebraic_KernelOptflatIdeal_ReferenceOptflatIdeal := by
  intro m ρ m' ρ' _ hag
  refine ⟨_, _, _, _, Cert.KernelOptflatIdeal.Value.run (F := Ideal) m ρ, (θ_run _ _ _).mono (fun r h c => ⟨(h c).1.trans ?_, (h c).2.1.trans ?_,
    (h c).2.2.1.trans ?_, (h c).2.2.2.1.trans ?_, (h c).2.2.2.2⟩) (Cert.ReferenceOptflatIdeal.Value.run (F := Ideal) m' ρ')⟩
  all_goals
    obtain ⟨h0, h1, h2, h3⟩ := hag c
    simp only [h0, h1, h2, h3] <;> rfl

end Cert.Proof

end
-- ==== Proof.lean ====
module

public import proofs.«01_k».proof.Defs
public import proofs.«01_k».proof.Proof.Gen.Pre_finite
public import proofs.«01_k».proof.Proof.Gen.Pre_finite_grad
public import proofs.«01_k».proof.Proof.Gen.KernelGateIdeal.Value
public import proofs.«01_k».proof.Proof.Gen.ReferenceGateIdeal.Run
public import proofs.«01_k».proof.Proof.Gen.ReferenceGateIdeal.Read
public import proofs.«01_k».proof.Proof.Gen.KernelDactIdeal.Value
public import proofs.«01_k».proof.Proof.Gen.ReferenceDactIdeal.Run
public import proofs.«01_k».proof.Proof.Gen.ReferenceDactIdeal.Read
public import proofs.«01_k».proof.Proof.Gen.KernelDwdownIdeal.Value
public import proofs.«01_k».proof.Proof.Gen.ReferenceDwdownIdeal.Run
public import proofs.«01_k».proof.Proof.Gen.ReferenceDwdownIdeal.Read
public import proofs.«01_k».proof.Proof.Gen.KernelDhIdeal.Value
public import proofs.«01_k».proof.Proof.Gen.ReferenceDhIdeal.Run
public import proofs.«01_k».proof.Proof.Gen.ReferenceDhIdeal.Read
public import proofs.«01_k».proof.Proof.Gen.KernelDwguIdeal.Value
public import proofs.«01_k».proof.Proof.Gen.ReferenceDwguIdeal.Run
public import proofs.«01_k».proof.Proof.Gen.ReferenceDwguIdeal.Read
public import proofs.«01_k».proof.Proof.Gen.KernelGuIdeal.Value
public import proofs.«01_k».proof.Proof.Gen.ReferenceGuIdeal.Run
public import proofs.«01_k».proof.Proof.Gen.ReferenceGuIdeal.Read
public import proofs.«01_k».proof.Proof.Gen.KernelDownIdeal.Value
public import proofs.«01_k».proof.Proof.Gen.ReferenceDownIdeal.Run
public import proofs.«01_k».proof.Proof.Gen.ReferenceDownIdeal.Read
public import proofs.«01_k».proof.Proof.Gen.KernelOutIdeal.Value
public import proofs.«01_k».proof.Proof.Gen.ReferenceOutIdeal.Run
public import proofs.«01_k».proof.Proof.Gen.ReferenceOutIdeal.Read
public import proofs.«01_k».proof.Proof.Gen.KernelDwoutIdeal.Value
public import proofs.«01_k».proof.Proof.Gen.ReferenceDwoutIdeal.Run
public import proofs.«01_k».proof.Proof.Gen.ReferenceDwoutIdeal.Read
public import proofs.«01_k».proof.Proof.Gen.KernelDynIdeal.Value
public import proofs.«01_k».proof.Proof.Gen.ReferenceDynIdeal.Run
public import proofs.«01_k».proof.Proof.Gen.ReferenceDynIdeal.Read
public import proofs.«01_k».proof.Proof.Gen.KernelInIdeal.Value
public import proofs.«01_k».proof.Proof.Gen.ReferenceInIdeal.Run
public import proofs.«01_k».proof.Proof.Gen.ReferenceInIdeal.Read
public import proofs.«01_k».proof.Proof.Gen.KernelDwinIdeal.Value
public import proofs.«01_k».proof.Proof.Gen.ReferenceDwinIdeal.Run
public import proofs.«01_k».proof.Proof.Gen.ReferenceDwinIdeal.Read
public import proofs.«01_k».proof.Proof.Gen.KernelDhinIdeal.Value
public import proofs.«01_k».proof.Proof.Gen.ReferenceDhinIdeal.Run
public import proofs.«01_k».proof.Proof.Gen.ReferenceDhinIdeal.Read
public import proofs.«01_k».proof.Proof.Gen.KernelLinIdeal.Value
public import proofs.«01_k».proof.Proof.Gen.ReferenceLinIdeal.Run
public import proofs.«01_k».proof.Proof.Gen.ReferenceLinIdeal.Read
public import proofs.«01_k».proof.Proof.Gen.KernelDlwinIdeal.Value
public import proofs.«01_k».proof.Proof.Gen.ReferenceDlwinIdeal.Run
public import proofs.«01_k».proof.Proof.Gen.ReferenceDlwinIdeal.Read
public import proofs.«01_k».proof.Proof.Gen.KernelDlhIdeal.Value
public import proofs.«01_k».proof.Proof.Gen.ReferenceDlhIdeal.Run
public import proofs.«01_k».proof.Proof.Gen.ReferenceDlhIdeal.Read
public import proofs.«01_k».proof.Proof.Gen.KernelLoutIdeal.Value
public import proofs.«01_k».proof.Proof.Gen.ReferenceLoutIdeal.Run
public import proofs.«01_k».proof.Proof.Gen.ReferenceLoutIdeal.Read
public import proofs.«01_k».proof.Proof.Gen.KernelDlwoutIdeal.Value
public import proofs.«01_k».proof.Proof.Gen.ReferenceDlwoutIdeal.Run
public import proofs.«01_k».proof.Proof.Gen.ReferenceDlwoutIdeal.Read
public import proofs.«01_k».proof.Proof.Gen.KernelDmixIdeal.Value
public import proofs.«01_k».proof.Proof.Gen.ReferenceDmixIdeal.Run
public import proofs.«01_k».proof.Proof.Gen.ReferenceDmixIdeal.Read
public import proofs.«01_k».proof.Proof.Gen.KernelDlnIdeal.Value
public import proofs.«01_k».proof.Proof.Gen.ReferenceDlnIdeal.Run
public import proofs.«01_k».proof.Proof.Gen.ReferenceDlnIdeal.Read
public import proofs.«01_k».proof.Proof.Gen.KernelLnIdeal.Value
public import proofs.«01_k».proof.Proof.Gen.ReferenceLnIdeal.Run
public import proofs.«01_k».proof.Proof.Gen.ReferenceLnIdeal.Read
public import proofs.«01_k».proof.Proof.Gen.KernelActIdeal.Value
public import proofs.«01_k».proof.Proof.Gen.ReferenceActIdeal.Run
public import proofs.«01_k».proof.Proof.Gen.ReferenceActIdeal.Read
public import proofs.«01_k».proof.Proof.Gen.KernelOptguIdeal.Value
public import proofs.«01_k».proof.Proof.Gen.ReferenceOptguIdeal.Run
public import proofs.«01_k».proof.Proof.Gen.ReferenceOptguIdeal.Read
public import proofs.«01_k».proof.Proof.Gen.KernelOptdownIdeal.Value
public import proofs.«01_k».proof.Proof.Gen.ReferenceOptdownIdeal.Run
public import proofs.«01_k».proof.Proof.Gen.ReferenceOptdownIdeal.Read
public import proofs.«01_k».proof.Proof.Gen.KernelOptinIdeal.Value
public import proofs.«01_k».proof.Proof.Gen.ReferenceOptinIdeal.Run
public import proofs.«01_k».proof.Proof.Gen.ReferenceOptinIdeal.Read
public import proofs.«01_k».proof.Proof.Gen.KernelOptoutIdeal.Value
public import proofs.«01_k».proof.Proof.Gen.ReferenceOptoutIdeal.Run
public import proofs.«01_k».proof.Proof.Gen.ReferenceOptoutIdeal.Read
public import proofs.«01_k».proof.Proof.Gen.KernelOptlinIdeal.Value
public import proofs.«01_k».proof.Proof.Gen.ReferenceOptlinIdeal.Run
public import proofs.«01_k».proof.Proof.Gen.ReferenceOptlinIdeal.Read
public import proofs.«01_k».proof.Proof.Gen.KernelOptloutIdeal.Value
public import proofs.«01_k».proof.Proof.Gen.ReferenceOptloutIdeal.Run
public import proofs.«01_k».proof.Proof.Gen.ReferenceOptloutIdeal.Read
public import proofs.«01_k».proof.Proof.Gen.KernelOptgluIdeal.Value
public import proofs.«01_k».proof.Proof.Gen.ReferenceOptgluIdeal.Run
public import proofs.«01_k».proof.Proof.Gen.ReferenceOptgluIdeal.Read
public import proofs.«01_k».proof.Proof.Gen.KernelOptuqIdeal.Value
public import proofs.«01_k».proof.Proof.Gen.ReferenceOptuqIdeal.Run
public import proofs.«01_k».proof.Proof.Gen.ReferenceOptuqIdeal.Read
public import proofs.«01_k».proof.Proof.Gen.KernelOptukvIdeal.Value
public import proofs.«01_k».proof.Proof.Gen.ReferenceOptukvIdeal.Run
public import proofs.«01_k».proof.Proof.Gen.ReferenceOptukvIdeal.Read
public import proofs.«01_k».proof.Proof.Gen.KernelOptmetaIdeal.Value
public import proofs.«01_k».proof.Proof.Gen.ReferenceOptmetaIdeal.Run
public import proofs.«01_k».proof.Proof.Gen.ReferenceOptmetaIdeal.Read
public import proofs.«01_k».proof.Proof.Gen.KernelOptconvIdeal.Value
public import proofs.«01_k».proof.Proof.Gen.ReferenceOptconvIdeal.Run
public import proofs.«01_k».proof.Proof.Gen.ReferenceOptconvIdeal.Read
public import proofs.«01_k».proof.Proof.Gen.KernelOptflatIdeal.Value
public import proofs.«01_k».proof.Proof.Gen.ReferenceOptflatIdeal.Run
public import proofs.«01_k».proof.Proof.Gen.ReferenceOptflatIdeal.Read
public import proofs.«01_k».proof.Proof.Gen.KernelDxIdeal.Value
public import proofs.«01_k».proof.Proof.Gen.ReferenceDxIdeal.Run
public import proofs.«01_k».proof.Proof.Gen.ReferenceDxIdeal.Read
public import proofs.«01_k».proof.Proof.Gen.KernelGate
public import proofs.«01_k».proof.Proof.Gen.KernelGate.Skeleton
public import proofs.«01_k».proof.Proof.Gen.KernelGate.Launch
public import proofs.«01_k».proof.Proof.Gen.KernelGate.Points
public import proofs.«01_k».proof.Proof.Gen.KernelGate.Frame
public import proofs.«01_k».proof.Proof.Gen.KernelGateIdeal
public import proofs.«01_k».proof.Proof.Gen.KernelGateIdeal.Skeleton
public import proofs.«01_k».proof.Proof.Gen.KernelGateIdeal.Launch
public import proofs.«01_k».proof.Proof.Gen.KernelGateIdeal.Points
public import proofs.«01_k».proof.Proof.Gen.KernelGateIdeal.Frame
public import proofs.«01_k».proof.Proof.Gen.ReferenceGateIdeal
public import proofs.«01_k».proof.Proof.Gen.KernelDact
public import proofs.«01_k».proof.Proof.Gen.KernelDact.Skeleton
public import proofs.«01_k».proof.Proof.Gen.KernelDact.Launch
public import proofs.«01_k».proof.Proof.Gen.KernelDact.Points
public import proofs.«01_k».proof.Proof.Gen.KernelDact.Frame
public import proofs.«01_k».proof.Proof.Gen.KernelDactIdeal
public import proofs.«01_k».proof.Proof.Gen.KernelDactIdeal.Skeleton
public import proofs.«01_k».proof.Proof.Gen.KernelDactIdeal.Launch
public import proofs.«01_k».proof.Proof.Gen.KernelDactIdeal.Points
public import proofs.«01_k».proof.Proof.Gen.KernelDactIdeal.Frame
public import proofs.«01_k».proof.Proof.Gen.ReferenceDactIdeal
public import proofs.«01_k».proof.Proof.Gen.KernelDwdown
public import proofs.«01_k».proof.Proof.Gen.KernelDwdown.Skeleton
public import proofs.«01_k».proof.Proof.Gen.KernelDwdown.Launch
public import proofs.«01_k».proof.Proof.Gen.KernelDwdown.Points
public import proofs.«01_k».proof.Proof.Gen.KernelDwdown.Frame
public import proofs.«01_k».proof.Proof.Gen.KernelDwdownIdeal
public import proofs.«01_k».proof.Proof.Gen.KernelDwdownIdeal.Skeleton
public import proofs.«01_k».proof.Proof.Gen.KernelDwdownIdeal.Launch
public import proofs.«01_k».proof.Proof.Gen.KernelDwdownIdeal.Points
public import proofs.«01_k».proof.Proof.Gen.KernelDwdownIdeal.Frame
public import proofs.«01_k».proof.Proof.Gen.ReferenceDwdownIdeal
public import proofs.«01_k».proof.Proof.Gen.KernelDh
public import proofs.«01_k».proof.Proof.Gen.KernelDh.Skeleton
public import proofs.«01_k».proof.Proof.Gen.KernelDh.Launch
public import proofs.«01_k».proof.Proof.Gen.KernelDh.Points
public import proofs.«01_k».proof.Proof.Gen.KernelDh.Frame
public import proofs.«01_k».proof.Proof.Gen.KernelDhIdeal
public import proofs.«01_k».proof.Proof.Gen.KernelDhIdeal.Skeleton
public import proofs.«01_k».proof.Proof.Gen.KernelDhIdeal.Launch
public import proofs.«01_k».proof.Proof.Gen.KernelDhIdeal.Points
public import proofs.«01_k».proof.Proof.Gen.KernelDhIdeal.Frame
public import proofs.«01_k».proof.Proof.Gen.ReferenceDhIdeal
public import proofs.«01_k».proof.Proof.Gen.KernelDwgu
public import proofs.«01_k».proof.Proof.Gen.KernelDwgu.Skeleton
public import proofs.«01_k».proof.Proof.Gen.KernelDwgu.Launch
public import proofs.«01_k».proof.Proof.Gen.KernelDwgu.Points
public import proofs.«01_k».proof.Proof.Gen.KernelDwgu.Frame
public import proofs.«01_k».proof.Proof.Gen.KernelDwguIdeal
public import proofs.«01_k».proof.Proof.Gen.KernelDwguIdeal.Skeleton
public import proofs.«01_k».proof.Proof.Gen.KernelDwguIdeal.Launch
public import proofs.«01_k».proof.Proof.Gen.KernelDwguIdeal.Points
public import proofs.«01_k».proof.Proof.Gen.KernelDwguIdeal.Frame
public import proofs.«01_k».proof.Proof.Gen.ReferenceDwguIdeal
public import proofs.«01_k».proof.Proof.Gen.KernelGu
public import proofs.«01_k».proof.Proof.Gen.KernelGu.Skeleton
public import proofs.«01_k».proof.Proof.Gen.KernelGu.Launch
public import proofs.«01_k».proof.Proof.Gen.KernelGu.Points
public import proofs.«01_k».proof.Proof.Gen.KernelGu.Frame
public import proofs.«01_k».proof.Proof.Gen.KernelGuIdeal
public import proofs.«01_k».proof.Proof.Gen.KernelGuIdeal.Skeleton
public import proofs.«01_k».proof.Proof.Gen.KernelGuIdeal.Launch
public import proofs.«01_k».proof.Proof.Gen.KernelGuIdeal.Points
public import proofs.«01_k».proof.Proof.Gen.KernelGuIdeal.Frame
public import proofs.«01_k».proof.Proof.Gen.ReferenceGuIdeal
public import proofs.«01_k».proof.Proof.Gen.KernelDown
public import proofs.«01_k».proof.Proof.Gen.KernelDown.Skeleton
public import proofs.«01_k».proof.Proof.Gen.KernelDown.Launch
public import proofs.«01_k».proof.Proof.Gen.KernelDown.Points
public import proofs.«01_k».proof.Proof.Gen.KernelDown.Frame
public import proofs.«01_k».proof.Proof.Gen.KernelDownIdeal
public import proofs.«01_k».proof.Proof.Gen.KernelDownIdeal.Skeleton
public import proofs.«01_k».proof.Proof.Gen.KernelDownIdeal.Launch
public import proofs.«01_k».proof.Proof.Gen.KernelDownIdeal.Points
public import proofs.«01_k».proof.Proof.Gen.KernelDownIdeal.Frame
public import proofs.«01_k».proof.Proof.Gen.ReferenceDownIdeal
public import proofs.«01_k».proof.Proof.Gen.KernelOut
public import proofs.«01_k».proof.Proof.Gen.KernelOut.Skeleton
public import proofs.«01_k».proof.Proof.Gen.KernelOut.Launch
public import proofs.«01_k».proof.Proof.Gen.KernelOut.Points
public import proofs.«01_k».proof.Proof.Gen.KernelOut.Frame
public import proofs.«01_k».proof.Proof.Gen.KernelOutIdeal
public import proofs.«01_k».proof.Proof.Gen.KernelOutIdeal.Skeleton
public import proofs.«01_k».proof.Proof.Gen.KernelOutIdeal.Launch
public import proofs.«01_k».proof.Proof.Gen.KernelOutIdeal.Points
public import proofs.«01_k».proof.Proof.Gen.KernelOutIdeal.Frame
public import proofs.«01_k».proof.Proof.Gen.ReferenceOutIdeal
public import proofs.«01_k».proof.Proof.Gen.KernelDwout
public import proofs.«01_k».proof.Proof.Gen.KernelDwout.Skeleton
public import proofs.«01_k».proof.Proof.Gen.KernelDwout.Launch
public import proofs.«01_k».proof.Proof.Gen.KernelDwout.Points
public import proofs.«01_k».proof.Proof.Gen.KernelDwout.Frame
public import proofs.«01_k».proof.Proof.Gen.KernelDwoutIdeal
public import proofs.«01_k».proof.Proof.Gen.KernelDwoutIdeal.Skeleton
public import proofs.«01_k».proof.Proof.Gen.KernelDwoutIdeal.Launch
public import proofs.«01_k».proof.Proof.Gen.KernelDwoutIdeal.Points
public import proofs.«01_k».proof.Proof.Gen.KernelDwoutIdeal.Frame
public import proofs.«01_k».proof.Proof.Gen.ReferenceDwoutIdeal
public import proofs.«01_k».proof.Proof.Gen.KernelDyn
public import proofs.«01_k».proof.Proof.Gen.KernelDyn.Skeleton
public import proofs.«01_k».proof.Proof.Gen.KernelDyn.Launch
public import proofs.«01_k».proof.Proof.Gen.KernelDyn.Points
public import proofs.«01_k».proof.Proof.Gen.KernelDyn.Frame
public import proofs.«01_k».proof.Proof.Gen.KernelDynIdeal
public import proofs.«01_k».proof.Proof.Gen.KernelDynIdeal.Skeleton
public import proofs.«01_k».proof.Proof.Gen.KernelDynIdeal.Launch
public import proofs.«01_k».proof.Proof.Gen.KernelDynIdeal.Points
public import proofs.«01_k».proof.Proof.Gen.KernelDynIdeal.Frame
public import proofs.«01_k».proof.Proof.Gen.ReferenceDynIdeal
public import proofs.«01_k».proof.Proof.Gen.KernelIn
public import proofs.«01_k».proof.Proof.Gen.KernelIn.Skeleton
public import proofs.«01_k».proof.Proof.Gen.KernelIn.Launch
public import proofs.«01_k».proof.Proof.Gen.KernelIn.Points
public import proofs.«01_k».proof.Proof.Gen.KernelIn.Frame
public import proofs.«01_k».proof.Proof.Gen.KernelInIdeal
public import proofs.«01_k».proof.Proof.Gen.KernelInIdeal.Skeleton
public import proofs.«01_k».proof.Proof.Gen.KernelInIdeal.Launch
public import proofs.«01_k».proof.Proof.Gen.KernelInIdeal.Points
public import proofs.«01_k».proof.Proof.Gen.KernelInIdeal.Frame
public import proofs.«01_k».proof.Proof.Gen.ReferenceInIdeal
public import proofs.«01_k».proof.Proof.Gen.KernelDwin
public import proofs.«01_k».proof.Proof.Gen.KernelDwin.Skeleton
public import proofs.«01_k».proof.Proof.Gen.KernelDwin.Launch
public import proofs.«01_k».proof.Proof.Gen.KernelDwin.Points
public import proofs.«01_k».proof.Proof.Gen.KernelDwin.Frame
public import proofs.«01_k».proof.Proof.Gen.KernelDwinIdeal
public import proofs.«01_k».proof.Proof.Gen.KernelDwinIdeal.Skeleton
public import proofs.«01_k».proof.Proof.Gen.KernelDwinIdeal.Launch
public import proofs.«01_k».proof.Proof.Gen.KernelDwinIdeal.Points
public import proofs.«01_k».proof.Proof.Gen.KernelDwinIdeal.Frame
public import proofs.«01_k».proof.Proof.Gen.ReferenceDwinIdeal
public import proofs.«01_k».proof.Proof.Gen.KernelDhin
public import proofs.«01_k».proof.Proof.Gen.KernelDhin.Skeleton
public import proofs.«01_k».proof.Proof.Gen.KernelDhin.Launch
public import proofs.«01_k».proof.Proof.Gen.KernelDhin.Points
public import proofs.«01_k».proof.Proof.Gen.KernelDhin.Frame
public import proofs.«01_k».proof.Proof.Gen.KernelDhinIdeal
public import proofs.«01_k».proof.Proof.Gen.KernelDhinIdeal.Skeleton
public import proofs.«01_k».proof.Proof.Gen.KernelDhinIdeal.Launch
public import proofs.«01_k».proof.Proof.Gen.KernelDhinIdeal.Points
public import proofs.«01_k».proof.Proof.Gen.KernelDhinIdeal.Frame
public import proofs.«01_k».proof.Proof.Gen.ReferenceDhinIdeal
public import proofs.«01_k».proof.Proof.Gen.KernelLin
public import proofs.«01_k».proof.Proof.Gen.KernelLin.Skeleton
public import proofs.«01_k».proof.Proof.Gen.KernelLin.Launch
public import proofs.«01_k».proof.Proof.Gen.KernelLin.Points
public import proofs.«01_k».proof.Proof.Gen.KernelLin.Frame
public import proofs.«01_k».proof.Proof.Gen.KernelLinIdeal
public import proofs.«01_k».proof.Proof.Gen.KernelLinIdeal.Skeleton
public import proofs.«01_k».proof.Proof.Gen.KernelLinIdeal.Launch
public import proofs.«01_k».proof.Proof.Gen.KernelLinIdeal.Points
public import proofs.«01_k».proof.Proof.Gen.KernelLinIdeal.Frame
public import proofs.«01_k».proof.Proof.Gen.ReferenceLinIdeal
public import proofs.«01_k».proof.Proof.Gen.KernelDlwin
public import proofs.«01_k».proof.Proof.Gen.KernelDlwin.Skeleton
public import proofs.«01_k».proof.Proof.Gen.KernelDlwin.Launch
public import proofs.«01_k».proof.Proof.Gen.KernelDlwin.Points
public import proofs.«01_k».proof.Proof.Gen.KernelDlwin.Frame
public import proofs.«01_k».proof.Proof.Gen.KernelDlwinIdeal
public import proofs.«01_k».proof.Proof.Gen.KernelDlwinIdeal.Skeleton
public import proofs.«01_k».proof.Proof.Gen.KernelDlwinIdeal.Launch
public import proofs.«01_k».proof.Proof.Gen.KernelDlwinIdeal.Points
public import proofs.«01_k».proof.Proof.Gen.KernelDlwinIdeal.Frame
public import proofs.«01_k».proof.Proof.Gen.ReferenceDlwinIdeal
public import proofs.«01_k».proof.Proof.Gen.KernelDlh
public import proofs.«01_k».proof.Proof.Gen.KernelDlh.Skeleton
public import proofs.«01_k».proof.Proof.Gen.KernelDlh.Launch
public import proofs.«01_k».proof.Proof.Gen.KernelDlh.Points
public import proofs.«01_k».proof.Proof.Gen.KernelDlh.Frame
public import proofs.«01_k».proof.Proof.Gen.KernelDlhIdeal
public import proofs.«01_k».proof.Proof.Gen.KernelDlhIdeal.Skeleton
public import proofs.«01_k».proof.Proof.Gen.KernelDlhIdeal.Launch
public import proofs.«01_k».proof.Proof.Gen.KernelDlhIdeal.Points
public import proofs.«01_k».proof.Proof.Gen.KernelDlhIdeal.Frame
public import proofs.«01_k».proof.Proof.Gen.ReferenceDlhIdeal
public import proofs.«01_k».proof.Proof.Gen.KernelLout
public import proofs.«01_k».proof.Proof.Gen.KernelLout.Skeleton
public import proofs.«01_k».proof.Proof.Gen.KernelLout.Launch
public import proofs.«01_k».proof.Proof.Gen.KernelLout.Points
public import proofs.«01_k».proof.Proof.Gen.KernelLout.Frame
public import proofs.«01_k».proof.Proof.Gen.KernelLoutIdeal
public import proofs.«01_k».proof.Proof.Gen.KernelLoutIdeal.Skeleton
public import proofs.«01_k».proof.Proof.Gen.KernelLoutIdeal.Launch
public import proofs.«01_k».proof.Proof.Gen.KernelLoutIdeal.Points
public import proofs.«01_k».proof.Proof.Gen.KernelLoutIdeal.Frame
public import proofs.«01_k».proof.Proof.Gen.ReferenceLoutIdeal
public import proofs.«01_k».proof.Proof.Gen.KernelDlwout
public import proofs.«01_k».proof.Proof.Gen.KernelDlwout.Skeleton
public import proofs.«01_k».proof.Proof.Gen.KernelDlwout.Launch
public import proofs.«01_k».proof.Proof.Gen.KernelDlwout.Points
public import proofs.«01_k».proof.Proof.Gen.KernelDlwout.Frame
public import proofs.«01_k».proof.Proof.Gen.KernelDlwoutIdeal
public import proofs.«01_k».proof.Proof.Gen.KernelDlwoutIdeal.Skeleton
public import proofs.«01_k».proof.Proof.Gen.KernelDlwoutIdeal.Launch
public import proofs.«01_k».proof.Proof.Gen.KernelDlwoutIdeal.Points
public import proofs.«01_k».proof.Proof.Gen.KernelDlwoutIdeal.Frame
public import proofs.«01_k».proof.Proof.Gen.ReferenceDlwoutIdeal
public import proofs.«01_k».proof.Proof.Gen.KernelDmix
public import proofs.«01_k».proof.Proof.Gen.KernelDmix.Skeleton
public import proofs.«01_k».proof.Proof.Gen.KernelDmix.Launch
public import proofs.«01_k».proof.Proof.Gen.KernelDmix.Points
public import proofs.«01_k».proof.Proof.Gen.KernelDmix.Frame
public import proofs.«01_k».proof.Proof.Gen.KernelDmixIdeal
public import proofs.«01_k».proof.Proof.Gen.KernelDmixIdeal.Skeleton
public import proofs.«01_k».proof.Proof.Gen.KernelDmixIdeal.Launch
public import proofs.«01_k».proof.Proof.Gen.KernelDmixIdeal.Points
public import proofs.«01_k».proof.Proof.Gen.KernelDmixIdeal.Frame
public import proofs.«01_k».proof.Proof.Gen.ReferenceDmixIdeal
public import proofs.«01_k».proof.Proof.Gen.KernelDln
public import proofs.«01_k».proof.Proof.Gen.KernelDln.Skeleton
public import proofs.«01_k».proof.Proof.Gen.KernelDln.Launch
public import proofs.«01_k».proof.Proof.Gen.KernelDln.Points
public import proofs.«01_k».proof.Proof.Gen.KernelDln.Frame
public import proofs.«01_k».proof.Proof.Gen.KernelDlnIdeal
public import proofs.«01_k».proof.Proof.Gen.KernelDlnIdeal.Skeleton
public import proofs.«01_k».proof.Proof.Gen.KernelDlnIdeal.Launch
public import proofs.«01_k».proof.Proof.Gen.KernelDlnIdeal.Points
public import proofs.«01_k».proof.Proof.Gen.KernelDlnIdeal.Frame
public import proofs.«01_k».proof.Proof.Gen.ReferenceDlnIdeal
public import proofs.«01_k».proof.Proof.Gen.KernelLn
public import proofs.«01_k».proof.Proof.Gen.KernelLn.Skeleton
public import proofs.«01_k».proof.Proof.Gen.KernelLn.Launch
public import proofs.«01_k».proof.Proof.Gen.KernelLn.Points
public import proofs.«01_k».proof.Proof.Gen.KernelLn.Frame
public import proofs.«01_k».proof.Proof.Gen.KernelLnIdeal
public import proofs.«01_k».proof.Proof.Gen.KernelLnIdeal.Skeleton
public import proofs.«01_k».proof.Proof.Gen.KernelLnIdeal.Launch
public import proofs.«01_k».proof.Proof.Gen.KernelLnIdeal.Points
public import proofs.«01_k».proof.Proof.Gen.KernelLnIdeal.Frame
public import proofs.«01_k».proof.Proof.Gen.ReferenceLnIdeal
public import proofs.«01_k».proof.Proof.Gen.KernelAct
public import proofs.«01_k».proof.Proof.Gen.KernelAct.Skeleton
public import proofs.«01_k».proof.Proof.Gen.KernelAct.Launch
public import proofs.«01_k».proof.Proof.Gen.KernelAct.Points
public import proofs.«01_k».proof.Proof.Gen.KernelAct.Frame
public import proofs.«01_k».proof.Proof.Gen.KernelActIdeal
public import proofs.«01_k».proof.Proof.Gen.KernelActIdeal.Skeleton
public import proofs.«01_k».proof.Proof.Gen.KernelActIdeal.Launch
public import proofs.«01_k».proof.Proof.Gen.KernelActIdeal.Points
public import proofs.«01_k».proof.Proof.Gen.KernelActIdeal.Frame
public import proofs.«01_k».proof.Proof.Gen.ReferenceActIdeal
public import proofs.«01_k».proof.Proof.Gen.KernelOptgu
public import proofs.«01_k».proof.Proof.Gen.KernelOptgu.Skeleton
public import proofs.«01_k».proof.Proof.Gen.KernelOptgu.Launch
public import proofs.«01_k».proof.Proof.Gen.KernelOptgu.Points
public import proofs.«01_k».proof.Proof.Gen.KernelOptgu.Frame
public import proofs.«01_k».proof.Proof.Gen.KernelOptguIdeal
public import proofs.«01_k».proof.Proof.Gen.KernelOptguIdeal.Skeleton
public import proofs.«01_k».proof.Proof.Gen.KernelOptguIdeal.Launch
public import proofs.«01_k».proof.Proof.Gen.KernelOptguIdeal.Points
public import proofs.«01_k».proof.Proof.Gen.KernelOptguIdeal.Frame
public import proofs.«01_k».proof.Proof.Gen.ReferenceOptguIdeal
public import proofs.«01_k».proof.Proof.Gen.KernelOptdown
public import proofs.«01_k».proof.Proof.Gen.KernelOptdown.Skeleton
public import proofs.«01_k».proof.Proof.Gen.KernelOptdown.Launch
public import proofs.«01_k».proof.Proof.Gen.KernelOptdown.Points
public import proofs.«01_k».proof.Proof.Gen.KernelOptdown.Frame
public import proofs.«01_k».proof.Proof.Gen.KernelOptdownIdeal
public import proofs.«01_k».proof.Proof.Gen.KernelOptdownIdeal.Skeleton
public import proofs.«01_k».proof.Proof.Gen.KernelOptdownIdeal.Launch
public import proofs.«01_k».proof.Proof.Gen.KernelOptdownIdeal.Points
public import proofs.«01_k».proof.Proof.Gen.KernelOptdownIdeal.Frame
public import proofs.«01_k».proof.Proof.Gen.ReferenceOptdownIdeal
public import proofs.«01_k».proof.Proof.Gen.KernelOptin
public import proofs.«01_k».proof.Proof.Gen.KernelOptin.Skeleton
public import proofs.«01_k».proof.Proof.Gen.KernelOptin.Launch
public import proofs.«01_k».proof.Proof.Gen.KernelOptin.Points
public import proofs.«01_k».proof.Proof.Gen.KernelOptin.Frame
public import proofs.«01_k».proof.Proof.Gen.KernelOptinIdeal
public import proofs.«01_k».proof.Proof.Gen.KernelOptinIdeal.Skeleton
public import proofs.«01_k».proof.Proof.Gen.KernelOptinIdeal.Launch
public import proofs.«01_k».proof.Proof.Gen.KernelOptinIdeal.Points
public import proofs.«01_k».proof.Proof.Gen.KernelOptinIdeal.Frame
public import proofs.«01_k».proof.Proof.Gen.ReferenceOptinIdeal
public import proofs.«01_k».proof.Proof.Gen.KernelOptout
public import proofs.«01_k».proof.Proof.Gen.KernelOptout.Skeleton
public import proofs.«01_k».proof.Proof.Gen.KernelOptout.Launch
public import proofs.«01_k».proof.Proof.Gen.KernelOptout.Points
public import proofs.«01_k».proof.Proof.Gen.KernelOptout.Frame
public import proofs.«01_k».proof.Proof.Gen.KernelOptoutIdeal
public import proofs.«01_k».proof.Proof.Gen.KernelOptoutIdeal.Skeleton
public import proofs.«01_k».proof.Proof.Gen.KernelOptoutIdeal.Launch
public import proofs.«01_k».proof.Proof.Gen.KernelOptoutIdeal.Points
public import proofs.«01_k».proof.Proof.Gen.KernelOptoutIdeal.Frame
public import proofs.«01_k».proof.Proof.Gen.ReferenceOptoutIdeal
public import proofs.«01_k».proof.Proof.Gen.KernelOptlin
public import proofs.«01_k».proof.Proof.Gen.KernelOptlin.Skeleton
public import proofs.«01_k».proof.Proof.Gen.KernelOptlin.Launch
public import proofs.«01_k».proof.Proof.Gen.KernelOptlin.Points
public import proofs.«01_k».proof.Proof.Gen.KernelOptlin.Frame
public import proofs.«01_k».proof.Proof.Gen.KernelOptlinIdeal
public import proofs.«01_k».proof.Proof.Gen.KernelOptlinIdeal.Skeleton
public import proofs.«01_k».proof.Proof.Gen.KernelOptlinIdeal.Launch
public import proofs.«01_k».proof.Proof.Gen.KernelOptlinIdeal.Points
public import proofs.«01_k».proof.Proof.Gen.KernelOptlinIdeal.Frame
public import proofs.«01_k».proof.Proof.Gen.ReferenceOptlinIdeal
public import proofs.«01_k».proof.Proof.Gen.KernelOptlout
public import proofs.«01_k».proof.Proof.Gen.KernelOptlout.Skeleton
public import proofs.«01_k».proof.Proof.Gen.KernelOptlout.Launch
public import proofs.«01_k».proof.Proof.Gen.KernelOptlout.Points
public import proofs.«01_k».proof.Proof.Gen.KernelOptlout.Frame
public import proofs.«01_k».proof.Proof.Gen.KernelOptloutIdeal
public import proofs.«01_k».proof.Proof.Gen.KernelOptloutIdeal.Skeleton
public import proofs.«01_k».proof.Proof.Gen.KernelOptloutIdeal.Launch
public import proofs.«01_k».proof.Proof.Gen.KernelOptloutIdeal.Points
public import proofs.«01_k».proof.Proof.Gen.KernelOptloutIdeal.Frame
public import proofs.«01_k».proof.Proof.Gen.ReferenceOptloutIdeal
public import proofs.«01_k».proof.Proof.Gen.KernelOptglu
public import proofs.«01_k».proof.Proof.Gen.KernelOptglu.Skeleton
public import proofs.«01_k».proof.Proof.Gen.KernelOptglu.Launch
public import proofs.«01_k».proof.Proof.Gen.KernelOptglu.Points
public import proofs.«01_k».proof.Proof.Gen.KernelOptglu.Frame
public import proofs.«01_k».proof.Proof.Gen.KernelOptgluIdeal
public import proofs.«01_k».proof.Proof.Gen.KernelOptgluIdeal.Skeleton
public import proofs.«01_k».proof.Proof.Gen.KernelOptgluIdeal.Launch
public import proofs.«01_k».proof.Proof.Gen.KernelOptgluIdeal.Points
public import proofs.«01_k».proof.Proof.Gen.KernelOptgluIdeal.Frame
public import proofs.«01_k».proof.Proof.Gen.ReferenceOptgluIdeal
public import proofs.«01_k».proof.Proof.Gen.KernelOptuq
public import proofs.«01_k».proof.Proof.Gen.KernelOptuq.Skeleton
public import proofs.«01_k».proof.Proof.Gen.KernelOptuq.Launch
public import proofs.«01_k».proof.Proof.Gen.KernelOptuq.Points
public import proofs.«01_k».proof.Proof.Gen.KernelOptuq.Frame
public import proofs.«01_k».proof.Proof.Gen.KernelOptuqIdeal
public import proofs.«01_k».proof.Proof.Gen.KernelOptuqIdeal.Skeleton
public import proofs.«01_k».proof.Proof.Gen.KernelOptuqIdeal.Launch
public import proofs.«01_k».proof.Proof.Gen.KernelOptuqIdeal.Points
public import proofs.«01_k».proof.Proof.Gen.KernelOptuqIdeal.Frame
public import proofs.«01_k».proof.Proof.Gen.ReferenceOptuqIdeal
public import proofs.«01_k».proof.Proof.Gen.KernelOptukv
public import proofs.«01_k».proof.Proof.Gen.KernelOptukv.Skeleton
public import proofs.«01_k».proof.Proof.Gen.KernelOptukv.Launch
public import proofs.«01_k».proof.Proof.Gen.KernelOptukv.Points
public import proofs.«01_k».proof.Proof.Gen.KernelOptukv.Frame
public import proofs.«01_k».proof.Proof.Gen.KernelOptukvIdeal
public import proofs.«01_k».proof.Proof.Gen.KernelOptukvIdeal.Skeleton
public import proofs.«01_k».proof.Proof.Gen.KernelOptukvIdeal.Launch
public import proofs.«01_k».proof.Proof.Gen.KernelOptukvIdeal.Points
public import proofs.«01_k».proof.Proof.Gen.KernelOptukvIdeal.Frame
public import proofs.«01_k».proof.Proof.Gen.ReferenceOptukvIdeal
public import proofs.«01_k».proof.Proof.Gen.KernelOptmeta
public import proofs.«01_k».proof.Proof.Gen.KernelOptmeta.Skeleton
public import proofs.«01_k».proof.Proof.Gen.KernelOptmeta.Launch
public import proofs.«01_k».proof.Proof.Gen.KernelOptmeta.Points
public import proofs.«01_k».proof.Proof.Gen.KernelOptmeta.Frame
public import proofs.«01_k».proof.Proof.Gen.KernelOptmetaIdeal
public import proofs.«01_k».proof.Proof.Gen.KernelOptmetaIdeal.Skeleton
public import proofs.«01_k».proof.Proof.Gen.KernelOptmetaIdeal.Launch
public import proofs.«01_k».proof.Proof.Gen.KernelOptmetaIdeal.Points
public import proofs.«01_k».proof.Proof.Gen.KernelOptmetaIdeal.Frame
public import proofs.«01_k».proof.Proof.Gen.ReferenceOptmetaIdeal
public import proofs.«01_k».proof.Proof.Gen.KernelOptconv
public import proofs.«01_k».proof.Proof.Gen.KernelOptconv.Skeleton
public import proofs.«01_k».proof.Proof.Gen.KernelOptconv.Launch
public import proofs.«01_k».proof.Proof.Gen.KernelOptconv.Points
public import proofs.«01_k».proof.Proof.Gen.KernelOptconv.Frame
public import proofs.«01_k».proof.Proof.Gen.KernelOptconvIdeal
public import proofs.«01_k».proof.Proof.Gen.KernelOptconvIdeal.Skeleton
public import proofs.«01_k».proof.Proof.Gen.KernelOptconvIdeal.Launch
public import proofs.«01_k».proof.Proof.Gen.KernelOptconvIdeal.Points
public import proofs.«01_k».proof.Proof.Gen.KernelOptconvIdeal.Frame
public import proofs.«01_k».proof.Proof.Gen.ReferenceOptconvIdeal
public import proofs.«01_k».proof.Proof.Gen.KernelOptflat
public import proofs.«01_k».proof.Proof.Gen.KernelOptflat.Skeleton
public import proofs.«01_k».proof.Proof.Gen.KernelOptflat.Launch
public import proofs.«01_k».proof.Proof.Gen.KernelOptflat.Points
public import proofs.«01_k».proof.Proof.Gen.KernelOptflat.Frame
public import proofs.«01_k».proof.Proof.Gen.KernelOptflatIdeal
public import proofs.«01_k».proof.Proof.Gen.KernelOptflatIdeal.Skeleton
public import proofs.«01_k».proof.Proof.Gen.KernelOptflatIdeal.Launch
public import proofs.«01_k».proof.Proof.Gen.KernelOptflatIdeal.Points
public import proofs.«01_k».proof.Proof.Gen.KernelOptflatIdeal.Frame
public import proofs.«01_k».proof.Proof.Gen.ReferenceOptflatIdeal
public import proofs.«01_k».proof.Proof.Gen.KernelDx
public import proofs.«01_k».proof.Proof.Gen.KernelDx.Skeleton
public import proofs.«01_k».proof.Proof.Gen.KernelDx.Launch
public import proofs.«01_k».proof.Proof.Gen.KernelDx.Points
public import proofs.«01_k».proof.Proof.Gen.KernelDx.Frame
public import proofs.«01_k».proof.Proof.Gen.KernelDxIdeal
public import proofs.«01_k».proof.Proof.Gen.KernelDxIdeal.Skeleton
public import proofs.«01_k».proof.Proof.Gen.KernelDxIdeal.Launch
public import proofs.«01_k».proof.Proof.Gen.KernelDxIdeal.Points
public import proofs.«01_k».proof.Proof.Gen.KernelDxIdeal.Frame
public import proofs.«01_k».proof.Proof.Gen.ReferenceDxIdeal
public import Idealize.ShloMosaic.Adequacy
public import Idealize.ShloMosaic.Init
public import proofs.«01_k».proof.Proof.Gate
public import proofs.«01_k».proof.Proof.Dact
public import proofs.«01_k».proof.Proof.Dwdown
public import proofs.«01_k».proof.Proof.Dh
public import proofs.«01_k».proof.Proof.Dwgu
public import proofs.«01_k».proof.Proof.Gu
public import proofs.«01_k».proof.Proof.Down
public import proofs.«01_k».proof.Proof.Out
public import proofs.«01_k».proof.Proof.Dwout
public import proofs.«01_k».proof.Proof.Dyn
public import proofs.«01_k».proof.Proof.In
public import proofs.«01_k».proof.Proof.Dwin
public import proofs.«01_k».proof.Proof.Dhin
public import proofs.«01_k».proof.Proof.Lin
public import proofs.«01_k».proof.Proof.Dlwin
public import proofs.«01_k».proof.Proof.Dlh
public import proofs.«01_k».proof.Proof.Lout
public import proofs.«01_k».proof.Proof.Dlwout
public import proofs.«01_k».proof.Proof.Dmix
public import proofs.«01_k».proof.Proof.Dln
public import proofs.«01_k».proof.Proof.Ln
public import proofs.«01_k».proof.Proof.Act
public import proofs.«01_k».proof.Proof.Dx
public import proofs.«01_k».proof.Proof.OptShard
public import proofs.«01_k».proof.Proof.OptWhole

@[expose] public section

noncomputable section

namespace Cert.Proof

open Idealize.ShloMosaic Idealize.SL.Sem

/-- Where a program declares no semaphore, a run that names its result and keeps its arguments is the program's frame. -/
theorem frame_of_run {nD : ℕ} {τ : Topo} {sig : RefSig} {Val : EltTy → Type} {Λ : Labels} {defs : Defs nD τ sig Val Λ} {p s}
    {A B : PUnit × MemSt nD τ sig Val → Dev nD → Prop} (hs : sig.nSem + sig.nDmaSem = 0) (h : θ_run defs p s fun r => ∀ c, A r c ∧ B r c) :
    θ_run defs p s fun r => (∀ c, B r c) ∧ r.2.sem = fun _ => 0 :=
  (θ_run defs _ _).mono (fun r h => ⟨fun c => (h c).2, sem_eq_zero_of_no_sems hs r.2⟩) h

theorem claim : Cert.Claim :=
  ⟨Cert.KernelGate.Gen.facts, Cert.KernelGateIdeal.Gen.facts, Cert.ReferenceGateIdeal.Gen.facts,
    Cert.KernelDact.Gen.facts, Cert.KernelDactIdeal.Gen.facts, Cert.ReferenceDactIdeal.Gen.facts,
    Cert.KernelDwdown.Gen.facts, Cert.KernelDwdownIdeal.Gen.facts, Cert.ReferenceDwdownIdeal.Gen.facts,
    Cert.KernelDh.Gen.facts, Cert.KernelDhIdeal.Gen.facts, Cert.ReferenceDhIdeal.Gen.facts,
    Cert.KernelDwgu.Gen.facts, Cert.KernelDwguIdeal.Gen.facts, Cert.ReferenceDwguIdeal.Gen.facts,
    Cert.KernelGu.Gen.facts, Cert.KernelGuIdeal.Gen.facts, Cert.ReferenceGuIdeal.Gen.facts,
    Cert.KernelDown.Gen.facts, Cert.KernelDownIdeal.Gen.facts, Cert.ReferenceDownIdeal.Gen.facts,
    Cert.KernelOut.Gen.facts, Cert.KernelOutIdeal.Gen.facts, Cert.ReferenceOutIdeal.Gen.facts,
    Cert.KernelDwout.Gen.facts, Cert.KernelDwoutIdeal.Gen.facts, Cert.ReferenceDwoutIdeal.Gen.facts,
    Cert.KernelDyn.Gen.facts, Cert.KernelDynIdeal.Gen.facts, Cert.ReferenceDynIdeal.Gen.facts,
    Cert.KernelIn.Gen.facts, Cert.KernelInIdeal.Gen.facts, Cert.ReferenceInIdeal.Gen.facts,
    Cert.KernelDwin.Gen.facts, Cert.KernelDwinIdeal.Gen.facts, Cert.ReferenceDwinIdeal.Gen.facts,
    Cert.KernelDhin.Gen.facts, Cert.KernelDhinIdeal.Gen.facts, Cert.ReferenceDhinIdeal.Gen.facts,
    Cert.KernelLin.Gen.facts, Cert.KernelLinIdeal.Gen.facts, Cert.ReferenceLinIdeal.Gen.facts,
    Cert.KernelDlwin.Gen.facts, Cert.KernelDlwinIdeal.Gen.facts, Cert.ReferenceDlwinIdeal.Gen.facts,
    Cert.KernelDlh.Gen.facts, Cert.KernelDlhIdeal.Gen.facts, Cert.ReferenceDlhIdeal.Gen.facts,
    Cert.KernelLout.Gen.facts, Cert.KernelLoutIdeal.Gen.facts, Cert.ReferenceLoutIdeal.Gen.facts,
    Cert.KernelDlwout.Gen.facts, Cert.KernelDlwoutIdeal.Gen.facts, Cert.ReferenceDlwoutIdeal.Gen.facts,
    Cert.KernelDmix.Gen.facts, Cert.KernelDmixIdeal.Gen.facts, Cert.ReferenceDmixIdeal.Gen.facts,
    Cert.KernelDln.Gen.facts, Cert.KernelDlnIdeal.Gen.facts, Cert.ReferenceDlnIdeal.Gen.facts,
    Cert.KernelLn.Gen.facts, Cert.KernelLnIdeal.Gen.facts, Cert.ReferenceLnIdeal.Gen.facts,
    Cert.KernelAct.Gen.facts, Cert.KernelActIdeal.Gen.facts, Cert.ReferenceActIdeal.Gen.facts,
    Cert.KernelOptgu.Gen.facts, Cert.KernelOptguIdeal.Gen.facts, Cert.ReferenceOptguIdeal.Gen.facts,
    Cert.KernelOptdown.Gen.facts, Cert.KernelOptdownIdeal.Gen.facts, Cert.ReferenceOptdownIdeal.Gen.facts,
    Cert.KernelOptin.Gen.facts, Cert.KernelOptinIdeal.Gen.facts, Cert.ReferenceOptinIdeal.Gen.facts,
    Cert.KernelOptout.Gen.facts, Cert.KernelOptoutIdeal.Gen.facts, Cert.ReferenceOptoutIdeal.Gen.facts,
    Cert.KernelOptlin.Gen.facts, Cert.KernelOptlinIdeal.Gen.facts, Cert.ReferenceOptlinIdeal.Gen.facts,
    Cert.KernelOptlout.Gen.facts, Cert.KernelOptloutIdeal.Gen.facts, Cert.ReferenceOptloutIdeal.Gen.facts,
    Cert.KernelOptglu.Gen.facts, Cert.KernelOptgluIdeal.Gen.facts, Cert.ReferenceOptgluIdeal.Gen.facts,
    Cert.KernelOptuq.Gen.facts, Cert.KernelOptuqIdeal.Gen.facts, Cert.ReferenceOptuqIdeal.Gen.facts,
    Cert.KernelOptukv.Gen.facts, Cert.KernelOptukvIdeal.Gen.facts, Cert.ReferenceOptukvIdeal.Gen.facts,
    Cert.KernelOptmeta.Gen.facts, Cert.KernelOptmetaIdeal.Gen.facts, Cert.ReferenceOptmetaIdeal.Gen.facts,
    Cert.KernelOptconv.Gen.facts, Cert.KernelOptconvIdeal.Gen.facts, Cert.ReferenceOptconvIdeal.Gen.facts,
    Cert.KernelOptflat.Gen.facts, Cert.KernelOptflatIdeal.Gen.facts, Cert.ReferenceOptflatIdeal.Gen.facts,
    Cert.KernelDx.Gen.facts, Cert.KernelDxIdeal.Gen.facts, Cert.ReferenceDxIdeal.Gen.facts,
    Cert.Pre_finite.Gen.facts, Cert.Pre_finite_grad.Gen.facts,
    fun m ρ _ => Cert.KernelGate.Gen.frame m ρ,
    fun m ρ _ => Cert.KernelGateIdeal.Gen.frame m ρ,
    fun m ρ _ => Cert.KernelGateIdeal.Gen.frame m ρ,
    fun m ρ _ => frame_of_run (by decide) (Cert.ReferenceGateIdeal.Value.run (F := Ideal) m ρ),
    fun m ρ _ => frame_of_run (by decide) (Cert.ReferenceGateIdeal.Value.run (F := Ideal) m ρ),
    fun m ρ _ => Cert.KernelDact.Gen.frame m ρ,
    fun m ρ _ => Cert.KernelDactIdeal.Gen.frame m ρ,
    fun m ρ _ => frame_of_run (by decide) (Cert.ReferenceDactIdeal.Value.run (F := Ideal) m ρ),
    fun m ρ _ => Cert.KernelDwdown.Gen.frame m ρ,
    fun m ρ _ => Cert.KernelDwdownIdeal.Gen.frame m ρ,
    fun m ρ _ => frame_of_run (by decide) (Cert.ReferenceDwdownIdeal.Value.run (F := Ideal) m ρ),
    fun m ρ _ => Cert.KernelDh.Gen.frame m ρ,
    fun m ρ _ => Cert.KernelDhIdeal.Gen.frame m ρ,
    fun m ρ _ => frame_of_run (by decide) (Cert.ReferenceDhIdeal.Value.run (F := Ideal) m ρ),
    fun m ρ _ => Cert.KernelDwgu.Gen.frame m ρ,
    fun m ρ _ => Cert.KernelDwguIdeal.Gen.frame m ρ,
    fun m ρ _ => frame_of_run (by decide) (Cert.ReferenceDwguIdeal.Value.run (F := Ideal) m ρ),
    fun m ρ _ => Cert.KernelGu.Gen.frame m ρ,
    fun m ρ _ => Cert.KernelGuIdeal.Gen.frame m ρ,
    fun m ρ _ => frame_of_run (by decide) (Cert.ReferenceGuIdeal.Value.run (F := Ideal) m ρ),
    fun m ρ _ => Cert.KernelDown.Gen.frame m ρ,
    fun m ρ _ => Cert.KernelDownIdeal.Gen.frame m ρ,
    fun m ρ _ => frame_of_run (by decide) (Cert.ReferenceDownIdeal.Value.run (F := Ideal) m ρ),
    fun m ρ _ => Cert.KernelOut.Gen.frame m ρ,
    fun m ρ _ => Cert.KernelOutIdeal.Gen.frame m ρ,
    fun m ρ _ => frame_of_run (by decide) (Cert.ReferenceOutIdeal.Value.run (F := Ideal) m ρ),
    fun m ρ _ => Cert.KernelDwout.Gen.frame m ρ,
    fun m ρ _ => Cert.KernelDwoutIdeal.Gen.frame m ρ,
    fun m ρ _ => frame_of_run (by decide) (Cert.ReferenceDwoutIdeal.Value.run (F := Ideal) m ρ),
    fun m ρ _ => Cert.KernelDyn.Gen.frame m ρ,
    fun m ρ _ => Cert.KernelDynIdeal.Gen.frame m ρ,
    fun m ρ _ => frame_of_run (by decide) (Cert.ReferenceDynIdeal.Value.run (F := Ideal) m ρ),
    fun m ρ _ => Cert.KernelIn.Gen.frame m ρ,
    fun m ρ _ => Cert.KernelInIdeal.Gen.frame m ρ,
    fun m ρ _ => frame_of_run (by decide) (Cert.ReferenceInIdeal.Value.run (F := Ideal) m ρ),
    fun m ρ _ => Cert.KernelDwin.Gen.frame m ρ,
    fun m ρ _ => Cert.KernelDwinIdeal.Gen.frame m ρ,
    fun m ρ _ => frame_of_run (by decide) (Cert.ReferenceDwinIdeal.Value.run (F := Ideal) m ρ),
    fun m ρ _ => Cert.KernelDhin.Gen.frame m ρ,
    fun m ρ _ => Cert.KernelDhinIdeal.Gen.frame m ρ,
    fun m ρ _ => frame_of_run (by decide) (Cert.ReferenceDhinIdeal.Value.run (F := Ideal) m ρ),
    fun m ρ _ => Cert.KernelLin.Gen.frame m ρ,
    fun m ρ _ => Cert.KernelLinIdeal.Gen.frame m ρ,
    fun m ρ _ => frame_of_run (by decide) (Cert.ReferenceLinIdeal.Value.run (F := Ideal) m ρ),
    fun m ρ _ => Cert.KernelDlwin.Gen.frame m ρ,
    fun m ρ _ => Cert.KernelDlwinIdeal.Gen.frame m ρ,
    fun m ρ _ => frame_of_run (by decide) (Cert.ReferenceDlwinIdeal.Value.run (F := Ideal) m ρ),
    fun m ρ _ => Cert.KernelDlh.Gen.frame m ρ,
    fun m ρ _ => Cert.KernelDlhIdeal.Gen.frame m ρ,
    fun m ρ _ => frame_of_run (by decide) (Cert.ReferenceDlhIdeal.Value.run (F := Ideal) m ρ),
    fun m ρ _ => Cert.KernelLout.Gen.frame m ρ,
    fun m ρ _ => Cert.KernelLoutIdeal.Gen.frame m ρ,
    fun m ρ _ => frame_of_run (by decide) (Cert.ReferenceLoutIdeal.Value.run (F := Ideal) m ρ),
    fun m ρ _ => Cert.KernelDlwout.Gen.frame m ρ,
    fun m ρ _ => Cert.KernelDlwoutIdeal.Gen.frame m ρ,
    fun m ρ _ => frame_of_run (by decide) (Cert.ReferenceDlwoutIdeal.Value.run (F := Ideal) m ρ),
    fun m ρ _ => Cert.KernelDmix.Gen.frame m ρ,
    fun m ρ _ => Cert.KernelDmixIdeal.Gen.frame m ρ,
    fun m ρ _ => frame_of_run (by decide) (Cert.ReferenceDmixIdeal.Value.run (F := Ideal) m ρ),
    fun m ρ _ => Cert.KernelDln.Gen.frame m ρ,
    fun m ρ _ => Cert.KernelDlnIdeal.Gen.frame m ρ,
    fun m ρ _ => Cert.KernelDlnIdeal.Gen.frame m ρ,
    fun m ρ _ => frame_of_run (by decide) ((θ_run _ _ _).mono (fun _ h c => ⟨(h c).1, (h c).2.2.2.2⟩) (Cert.ReferenceDlnIdeal.Value.run (F := Ideal) m ρ)),
    fun m ρ _ => frame_of_run (by decide) ((θ_run _ _ _).mono (fun _ h c => ⟨(h c).1, (h c).2.2.2.2⟩) (Cert.ReferenceDlnIdeal.Value.run (F := Ideal) m ρ)),
    fun m ρ _ => Cert.KernelLn.Gen.frame m ρ,
    fun m ρ _ => Cert.KernelLnIdeal.Gen.frame m ρ,
    fun m ρ _ => frame_of_run (by decide) ((θ_run _ _ _).mono (fun _ h c => ⟨(h c).1, (h c).2.2⟩) (Cert.ReferenceLnIdeal.Value.run (F := Ideal) m ρ)),
    fun m ρ _ => Cert.KernelAct.Gen.frame m ρ,
    fun m ρ _ => Cert.KernelActIdeal.Gen.frame m ρ,
    fun m ρ _ => frame_of_run (by decide) (Cert.ReferenceActIdeal.Value.run (F := Ideal) m ρ),
    fun m ρ _ => Cert.KernelOptgu.Gen.frame m ρ,
    fun m ρ _ => Cert.KernelOptguIdeal.Gen.frame m ρ,
    fun m ρ _ => frame_of_run (by decide) ((θ_run _ _ _).mono (fun _ h c => ⟨(h c).1, (h c).2.2.2.2⟩) (Cert.ReferenceOptguIdeal.Value.run (F := Ideal) m ρ)),
    fun m ρ _ => Cert.KernelOptdown.Gen.frame m ρ,
    fun m ρ _ => Cert.KernelOptdownIdeal.Gen.frame m ρ,
    fun m ρ _ => frame_of_run (by decide) ((θ_run _ _ _).mono (fun _ h c => ⟨(h c).1, (h c).2.2.2.2⟩) (Cert.ReferenceOptdownIdeal.Value.run (F := Ideal) m ρ)),
    fun m ρ _ => Cert.KernelOptin.Gen.frame m ρ,
    fun m ρ _ => Cert.KernelOptinIdeal.Gen.frame m ρ,
    fun m ρ _ => frame_of_run (by decide) ((θ_run _ _ _).mono (fun _ h c => ⟨(h c).1, (h c).2.2.2.2⟩) (Cert.ReferenceOptinIdeal.Value.run (F := Ideal) m ρ)),
    fun m ρ _ => Cert.KernelOptout.Gen.frame m ρ,
    fun m ρ _ => Cert.KernelOptoutIdeal.Gen.frame m ρ,
    fun m ρ _ => frame_of_run (by decide) ((θ_run _ _ _).mono (fun _ h c => ⟨(h c).1, (h c).2.2.2.2⟩) (Cert.ReferenceOptoutIdeal.Value.run (F := Ideal) m ρ)),
    fun m ρ _ => Cert.KernelOptlin.Gen.frame m ρ,
    fun m ρ _ => Cert.KernelOptlinIdeal.Gen.frame m ρ,
    fun m ρ _ => frame_of_run (by decide) ((θ_run _ _ _).mono (fun _ h c => ⟨(h c).1, (h c).2.2.2.2⟩) (Cert.ReferenceOptlinIdeal.Value.run (F := Ideal) m ρ)),
    fun m ρ _ => Cert.KernelOptlout.Gen.frame m ρ,
    fun m ρ _ => Cert.KernelOptloutIdeal.Gen.frame m ρ,
    fun m ρ _ => frame_of_run (by decide) ((θ_run _ _ _).mono (fun _ h c => ⟨(h c).1, (h c).2.2.2.2⟩) (Cert.ReferenceOptloutIdeal.Value.run (F := Ideal) m ρ)),
    fun m ρ _ => Cert.KernelOptglu.Gen.frame m ρ,
    fun m ρ _ => Cert.KernelOptgluIdeal.Gen.frame m ρ,
    fun m ρ _ => frame_of_run (by decide) ((θ_run _ _ _).mono (fun _ h c => ⟨(h c).1, (h c).2.2.2.2⟩) (Cert.ReferenceOptgluIdeal.Value.run (F := Ideal) m ρ)),
    fun m ρ _ => Cert.KernelOptuq.Gen.frame m ρ,
    fun m ρ _ => Cert.KernelOptuqIdeal.Gen.frame m ρ,
    fun m ρ _ => frame_of_run (by decide) ((θ_run _ _ _).mono (fun _ h c => ⟨(h c).1, (h c).2.2.2.2⟩) (Cert.ReferenceOptuqIdeal.Value.run (F := Ideal) m ρ)),
    fun m ρ _ => Cert.KernelOptukv.Gen.frame m ρ,
    fun m ρ _ => Cert.KernelOptukvIdeal.Gen.frame m ρ,
    fun m ρ _ => frame_of_run (by decide) ((θ_run _ _ _).mono (fun _ h c => ⟨(h c).1, (h c).2.2.2.2⟩) (Cert.ReferenceOptukvIdeal.Value.run (F := Ideal) m ρ)),
    fun m ρ _ => Cert.KernelOptmeta.Gen.frame m ρ,
    fun m ρ _ => Cert.KernelOptmetaIdeal.Gen.frame m ρ,
    fun m ρ _ => frame_of_run (by decide) ((θ_run _ _ _).mono (fun _ h c => ⟨(h c).1, (h c).2.2.2.2⟩) (Cert.ReferenceOptmetaIdeal.Value.run (F := Ideal) m ρ)),
    fun m ρ _ => Cert.KernelOptconv.Gen.frame m ρ,
    fun m ρ _ => Cert.KernelOptconvIdeal.Gen.frame m ρ,
    fun m ρ _ => frame_of_run (by decide) ((θ_run _ _ _).mono (fun _ h c => ⟨(h c).1, (h c).2.2.2.2⟩) (Cert.ReferenceOptconvIdeal.Value.run (F := Ideal) m ρ)),
    fun m ρ _ => Cert.KernelOptflat.Gen.frame m ρ,
    fun m ρ _ => Cert.KernelOptflatIdeal.Gen.frame m ρ,
    fun m ρ _ => frame_of_run (by decide) ((θ_run _ _ _).mono (fun _ h c => ⟨(h c).1, (h c).2.2.2.2⟩) (Cert.ReferenceOptflatIdeal.Value.run (F := Ideal) m ρ)),
    fun m ρ _ => Cert.KernelDx.Gen.frame m ρ,
    fun m ρ _ => Cert.KernelDxIdeal.Gen.frame m ρ,
    fun m ρ _ => frame_of_run (by decide) (Cert.ReferenceDxIdeal.Value.run (F := Ideal) m ρ),
    trivial, algebraic_gate,
    trivial, algebraic_dact,
    trivial, algebraic_dwdown,
    trivial, algebraic_dh,
    trivial, algebraic_dwgu,
    trivial, algebraic_gu,
    trivial, algebraic_down,
    trivial, algebraic_out,
    trivial, algebraic_dwout,
    trivial, algebraic_dyn,
    trivial, algebraic_in,
    trivial, algebraic_dwin,
    trivial, algebraic_dhin,
    trivial, algebraic_lin,
    trivial, algebraic_dlwin,
    trivial, algebraic_dlh,
    trivial, algebraic_lout,
    trivial, algebraic_dlwout,
    trivial, algebraic_dmix,
    trivial, algebraic_dln,
    trivial, algebraic_ln,
    trivial, algebraic_act,
    trivial, algebraic_optgu,
    trivial, algebraic_optdown,
    trivial, algebraic_optin,
    trivial, algebraic_optout,
    trivial, algebraic_optlin,
    trivial, algebraic_optlout,
    trivial, algebraic_optglu,
    trivial, algebraic_optuq,
    trivial, algebraic_optukv,
    trivial, algebraic_optmeta,
    trivial, algebraic_optconv,
    trivial, algebraic_optflat,
    trivial, algebraic_dx⟩

end Cert.Proof

end
